-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S1024 : Shape := ⟨1, ![1024]⟩
abbrev S8192x1024 : Shape := ⟨2, ![8192, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S8192x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Pre_ids_in_range_ReferenceIdeal.lean ====
abbrev S1024 : Shape := ⟨1, ![1024]⟩
abbrev S32768x1024 : Shape := ⟨2, ![32768, 1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S1024 32) (main_arg1 : FVec F S32768x1024 .f32) : IVec S1024 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 32768#32
  let main_v2 : IVec S1024 32 := broadcastInDim S1024 ![] bcast_S_S1024 main_c_0
  let main_v3 : IVec S1024 1 := cmpi .slt main_arg0 main_v2
  let main_v4 : IVec S1024 1 := andi main_v1 main_v3
  main_v4
-- ==== Kernel.lean ====
abbrev S1024 : Shape := ⟨1, ![1024]⟩
abbrev S8192x1024 : Shape := ⟨2, ![8192, 1024]⟩
abbrev S_ : Shape := ⟨0, ![]⟩
abbrev S8x128 : Shape := ⟨2, ![8, 128]⟩
abbrev S8x128x1 : Shape := ⟨3, ![8, 128, 1]⟩
abbrev S128 : Shape := ⟨1, ![128]⟩
abbrev S1x1x128 : Shape := ⟨3, ![1, 1, 128]⟩
abbrev S8x128x128 : Shape := ⟨3, ![8, 128, 128]⟩
abbrev S8x1 : Shape := ⟨2, ![8, 1]⟩
abbrev S8 : Shape := ⟨1, ![8]⟩
abbrev S1024x1024 : Shape := ⟨2, ![1024, 1024]⟩
abbrev S256x1024 : Shape := ⟨2, ![256, 1024]⟩
abbrev S128x1024 : Shape := ⟨2, ![128, 1024]⟩
abbrev S8x16 : Shape := ⟨2, ![8, 16]⟩
abbrev S11 : Shape := ⟨1, ![11]⟩
abbrev S1 : Shape := ⟨1, ![1]⟩
abbrev S1x1 : Shape := ⟨2, ![1, 1]⟩
abbrev S1x1024 : Shape := ⟨2, ![1, 1024]⟩
abbrev S64x1024 : Shape := ⟨2, ![64, 1024]⟩

abbrev nBuf : Space → Nat
  | .hbm => 68
  | .vmem => 5
  | .smem => 3
  | _ => 0

abbrev bufTy : (tb : Table) → Fin (tcTables nBuf tb) → BufTy
  | .hbm, ⟨0, _⟩ => ⟨S1024, .i32⟩
  | .hbm, ⟨1, _⟩ => ⟨S8192x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S8x128, .i1⟩
  | .hbm, ⟨20, _⟩ => ⟨S8x128, .i32⟩
  | .hbm, ⟨21, _⟩ => ⟨S1024, .i32⟩
  | .hbm, ⟨22, _⟩ => ⟨S8x128, .i32⟩
  | .hbm, ⟨23, _⟩ => ⟨S8x128, .i32⟩
  | .hbm, ⟨24, _⟩ => ⟨S_, .i32⟩
  | .hbm, ⟨25, _⟩ => ⟨S_, .i32⟩
  | .hbm, ⟨26, _⟩ => ⟨S8x128, .i32⟩
  | .hbm, ⟨27, _⟩ => ⟨S8x128x1, .i32⟩
  | .hbm, ⟨28, _⟩ => ⟨S_, .i32⟩
  | .hbm, ⟨29, _⟩ => ⟨S8x128x1, .i32⟩
  | .hbm, ⟨30, _⟩ => ⟨S8x128x1, .i32⟩
  | .hbm, ⟨31, _⟩ => ⟨S128, .i32⟩
  | .hbm, ⟨32, _⟩ => ⟨S1x1x128, .i32⟩
  | .hbm, ⟨33, _⟩ => ⟨S8x128x128, .i32⟩
  | .hbm, ⟨34, _⟩ => ⟨S8x128x128, .i32⟩
  | .hbm, ⟨35, _⟩ => ⟨S8x128x128, .i1⟩
  | .hbm, ⟨36, _⟩ => ⟨S8x128x1, .i1⟩
  | .hbm, ⟨37, _⟩ => ⟨S8x128x128, .i1⟩
  | .hbm, ⟨38, _⟩ => ⟨S8x128x128, .i1⟩
  | .hbm, ⟨39, _⟩ => ⟨S8x128x1, .i32⟩
  | .hbm, ⟨40, _⟩ => ⟨S_, .i32⟩
  | .hbm, ⟨41, _⟩ => ⟨S_, .i32⟩
  | .hbm, ⟨42, _⟩ => ⟨S8x128x128, .i32⟩
  | .hbm, ⟨43, _⟩ => ⟨S8x128x128, .i32⟩
  | .hbm, ⟨44, _⟩ => ⟨S8x128x128, .i32⟩
  | .hbm, ⟨45, _⟩ => ⟨S_, .i32⟩
  | .hbm, ⟨46, _⟩ => ⟨S8x128, .i32⟩
  | .hbm, ⟨47, _⟩ => ⟨S1024, .i32⟩
  | .hbm, ⟨48, _⟩ => ⟨S8x128x1, .i32⟩
  | .hbm, ⟨49, _⟩ => ⟨S_, .i32⟩
  | .hbm, ⟨50, _⟩ => ⟨S_, .i32⟩
  | .hbm, ⟨51, _⟩ => ⟨S8x128x128, .i32⟩
  | .hbm, ⟨52, _⟩ => ⟨S8x128x128, .i32⟩
  | .hbm, ⟨53, _⟩ => ⟨S8x128x128, .i32⟩
  | .hbm, ⟨54, _⟩ => ⟨S_, .i32⟩
  | .hbm, ⟨55, _⟩ => ⟨S8x128, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S8x128, .i32⟩
  | .hbm, ⟨60, _⟩ => ⟨S8x128, .i32⟩
  | .hbm, ⟨61, _⟩ => ⟨S_, .i32⟩
  | .hbm, ⟨62, _⟩ => ⟨S8x128, .i32⟩
  | .hbm, ⟨63, _⟩ => ⟨S8x128, .i32⟩
  | .hbm, ⟨64, _⟩ => ⟨S1024, .i32⟩
  | .hbm, ⟨65, _⟩ => ⟨S8x1, .i32⟩
  | .hbm, ⟨66, _⟩ => ⟨S8, .i32⟩
  | .hbm, ⟨67, _⟩ => ⟨S1024x1024, .f32⟩
  | .local _ .vmem, ⟨0, _⟩ => ⟨S1024x1024, .f32⟩
  | .local _ .vmem, ⟨1, _⟩ => ⟨S256x1024, .f32⟩
  | .local _ .vmem, ⟨2, _⟩ => ⟨S128x1024, .f32⟩
  | .local _ .vmem, ⟨3, _⟩ => ⟨S256x1024, .f32⟩
  | .local _ .vmem, ⟨4, _⟩ => ⟨S128x1024, .f32⟩
  | .local _ .smem, ⟨0, _⟩ => ⟨S1024, .i32⟩
  | .local _ .smem, ⟨1, _⟩ => ⟨S1024, .i32⟩
  | .local _ .smem, ⟨2, _⟩ => ⟨S8, .i32⟩
  | _, _ => ⟨S1024, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 176 → Bool
  | ⟨i, _⟩ => dmaSemScopedAt i

abbrev sig : RefSig :=
  (ofTc nBuf bufTy 1 176 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_call0_c : Ref sig .tc := ⟨.hbm, 24, rfl⟩
abbrev main_call0_call0_v0 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_c_9 : Ref sig .tc := ⟨.hbm, 56, rfl⟩
abbrev main_c_10 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg3_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_20 : BitVec 32 := 1#32
  let v46 : BitVec 32 := Scalar.muli v43 c1_i32_20
  let v47 : BitVec 32 := Scalar.addi c0_i32_21 v46
  v47.toNat
def k0_dev2 (d0 : Dev nD) : Nat :=
  let c0_i32_24 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_23 : BitVec 32 := 1#32
  let v48 : BitVec 32 := Scalar.muli v44 c1_i32_23
  let v49 : BitVec 32 := Scalar.addi c0_i32_24 v48
  v49.toNat
def k0_off1 (d0 : Dev nD) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_57 : BitVec 32 := 128#32
  let v97 : BitVec 32 := Scalar.muli v71 c128_i32_57
  let v98 : Index := Scalar.indexCast v97
  let c0 : Index := 0#32
  ![v98.toNat, 0]
def k0_off2 (d0 : Dev nD) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let v101 : Index := Scalar.indexCast v71
  ![v101.toNat]
@[reducible] def k0_t1_loop (d0 : Dev nD) (v102 : BitVec 32) : Scf.Loop 32 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_61 : BitVec 32 := 1#32
  ⟨v100, v108, c1_i32_61⟩

def k0_cond1 (d0 : Dev nD) (v102 : BitVec 32) (k0_t1 : Fin (k0_t1_loop d0 v102).trips) : BitVec 1 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let c1_i32_61 : BitVec 32 := 1#32
  let arg14 : BitVec 32 := Scf.iv v100 c1_i32_61 k0_t1
  let v817 : BitVec 32 := Scalar.subi arg14 v100
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off3 (d0 : Dev nD) (v102 : BitVec 32) (k0_t1 : Fin (k0_t1_loop d0 v102).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let c1_i32_61 : BitVec 32 := 1#32
  let arg14 : BitVec 32 := Scf.iv v100 c1_i32_61 k0_t1
  let c16_i32_640 : BitVec 32 := 16#32
  let v841 : BitVec 32 := Scalar.subi arg14 c16_i32_640
  let v842 : Index := Scalar.indexCast v841
  ![v842.toNat]
def k0_off4 (d0 : Dev nD) (v102 : BitVec 32) (k0_t1 : Fin (k0_t1_loop d0 v102).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let c1_i32_61 : BitVec 32 := 1#32
  let arg14 : BitVec 32 := Scf.iv v100 c1_i32_61 k0_t1
  let c16_i32_640 : BitVec 32 := 16#32
  let v841 : BitVec 32 := Scalar.subi arg14 c16_i32_640
  let c128_i32_641 : BitVec 32 := 128#32
  let v846 : BitVec 32 := Scalar.muli v71 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v71.toNat, v857.toNat]
def k0_off5 (v845 : BitVec 32) : Fin 2 → Nat :=
  let c0_i32_648 : BitVec 32 := 0#32
  ![v845.toNat, 0]

def k0_chk2 (d0 : Dev nD) (v102 : BitVec 32) (k0_t1 : Fin (k0_t1_loop d0 v102).trips) (v845 : BitVec 32) : Prop :=
  (∀ (k0_h1 : k0_cond1 d0 v102 k0_t1 = 1#1), ∀ a, (k0_off5 v845) a + S1x1024.size a ≤ S1024x1024.size a)
theorem k0_off5_inb : ∀ (d0 : Dev nD) (v102 : BitVec 32) (k0_t1 : Fin (k0_t1_loop d0 v102).trips) (v845 : BitVec 32) (k0_hw2 : k0_chk2 d0 v102 k0_t1 v845), ∀ (k0_h1 : k0_cond1 d0 v102 k0_t1 = 1#1), ∀ a, (k0_off5 v845) a + S1x1024.size a ≤ S1024x1024.size a := fun d0 v102 k0_t1 v845 k0_hw2 k0_h1 => k0_hw2 k0_h1

def k0_off6 (v843 : BitVec 32) : Fin 2 → Nat :=
  let c0_i32_649 : BitVec 32 := 0#32
  ![v843.toNat, 0]

def k0_chk3 (d0 : Dev nD) (v102 : BitVec 32) (k0_t1 : Fin (k0_t1_loop d0 v102).trips) (v843 : BitVec 32) : Prop :=
  (∀ (k0_h1 : k0_cond1 d0 v102 k0_t1 = 1#1), ∀ a, (k0_off6 v843) a + S1x1024.size a ≤ S8192x1024.size a)
theorem k0_off6_inb : ∀ (d0 : Dev nD) (v102 : BitVec 32) (k0_t1 : Fin (k0_t1_loop d0 v102).trips) (v843 : BitVec 32) (k0_hw3 : k0_chk3 d0 v102 k0_t1 v843), ∀ (k0_h1 : k0_cond1 d0 v102 k0_t1 = 1#1), ∀ a, (k0_off6 v843) a + S1x1024.size a ≤ S8192x1024.size a := fun d0 v102 k0_t1 v843 k0_hw3 k0_h1 => k0_hw3 k0_h1

def k0_off7 (d0 : Dev nD) (v102 : BitVec 32) (k0_t1 : Fin (k0_t1_loop d0 v102).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let c1_i32_61 : BitVec 32 := 1#32
  let arg14 : BitVec 32 := Scf.iv v100 c1_i32_61 k0_t1
  let v821 : Index := Scalar.indexCast arg14
  ![v821.toNat]
def k0_off8 (d0 : Dev nD) (v102 : BitVec 32) (k0_t1 : Fin (k0_t1_loop d0 v102).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let c1_i32_61 : BitVec 32 := 1#32
  let arg14 : BitVec 32 := Scf.iv v100 c1_i32_61 k0_t1
  let c128_i32_631 : BitVec 32 := 128#32
  let v825 : BitVec 32 := Scalar.muli v71 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v71.toNat, v836.toNat]
def k0_off9 (v824 : BitVec 32) : Fin 2 → Nat :=
  let c0_i32_638 : BitVec 32 := 0#32
  ![v824.toNat, 0]

def k0_chk4 (v824 : BitVec 32) : Prop :=
  (∀ a, (k0_off9 v824) a + S1x1024.size a ≤ S1024x1024.size a)
theorem k0_off9_inb : ∀ (v824 : BitVec 32) (k0_hw4 : k0_chk4 v824), ∀ a, (k0_off9 v824) a + S1x1024.size a ≤ S1024x1024.size a := fun v824 k0_hw4 => k0_hw4

def k0_off10 (v822 : BitVec 32) : Fin 2 → Nat :=
  let c0_i32_639 : BitVec 32 := 0#32
  ![v822.toNat, 0]

def k0_chk5 (v822 : BitVec 32) : Prop :=
  (∀ a, (k0_off10 v822) a + S1x1024.size a ≤ S8192x1024.size a)
theorem k0_off10_inb : ∀ (v822 : BitVec 32) (k0_hw5 : k0_chk5 v822), ∀ a, (k0_off10 v822) a + S1x1024.size a ≤ S8192x1024.size a := fun v822 k0_hw5 => k0_hw5

@[reducible] def k0_t2_loop (d0 : Dev nD) (v102 : BitVec 32) : Scf.Loop 32 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let v105 : BitVec 32 := Scalar.addi v100 v104
  let c1_i32_62 : BitVec 32 := 1#32
  ⟨v108, v105, c1_i32_62⟩
def k0_off11 (d0 : Dev nD) (v102 : BitVec 32) (k0_t2 : Fin (k0_t2_loop d0 v102).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_62 : BitVec 32 := 1#32
  let arg14 : BitVec 32 := Scf.iv v108 c1_i32_62 k0_t2
  let c16_i32_640 : BitVec 32 := 16#32
  let v841 : BitVec 32 := Scalar.subi arg14 c16_i32_640
  let v842 : Index := Scalar.indexCast v841
  ![v842.toNat]
def k0_cond2 (d0 : Dev nD) (v102 : BitVec 32) (k0_t2 : Fin (k0_t2_loop d0 v102).trips) : BitVec 1 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_62 : BitVec 32 := 1#32
  let arg14 : BitVec 32 := Scf.iv v108 c1_i32_62 k0_t2
  let v817 : BitVec 32 := Scalar.subi arg14 v100
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off12 (d0 : Dev nD) (v102 : BitVec 32) (k0_t2 : Fin (k0_t2_loop d0 v102).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_62 : BitVec 32 := 1#32
  let arg14 : BitVec 32 := Scf.iv v108 c1_i32_62 k0_t2
  let c16_i32_640 : BitVec 32 := 16#32
  let v841 : BitVec 32 := Scalar.subi arg14 c16_i32_640
  let c128_i32_641 : BitVec 32 := 128#32
  let v846 : BitVec 32 := Scalar.muli v71 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v71.toNat, v857.toNat]
def k0_off13 (v845 : BitVec 32) : Fin 2 → Nat :=
  let c0_i32_648 : BitVec 32 := 0#32
  ![v845.toNat, 0]

def k0_chk6 (d0 : Dev nD) (v102 : BitVec 32) (k0_t2 : Fin (k0_t2_loop d0 v102).trips) (v845 : BitVec 32) : Prop :=
  (∀ (k0_h2 : k0_cond2 d0 v102 k0_t2 = 1#1), ∀ a, (k0_off13 v845) a + S1x1024.size a ≤ S1024x1024.size a)
theorem k0_off13_inb : ∀ (d0 : Dev nD) (v102 : BitVec 32) (k0_t2 : Fin (k0_t2_loop d0 v102).trips) (v845 : BitVec 32) (k0_hw6 : k0_chk6 d0 v102 k0_t2 v845), ∀ (k0_h2 : k0_cond2 d0 v102 k0_t2 = 1#1), ∀ a, (k0_off13 v845) a + S1x1024.size a ≤ S1024x1024.size a := fun d0 v102 k0_t2 v845 k0_hw6 k0_h2 => k0_hw6 k0_h2

def k0_off14 (v843 : BitVec 32) : Fin 2 → Nat :=
  let c0_i32_649 : BitVec 32 := 0#32
  ![v843.toNat, 0]

def k0_chk7 (d0 : Dev nD) (v102 : BitVec 32) (k0_t2 : Fin (k0_t2_loop d0 v102).trips) (v843 : BitVec 32) : Prop :=
  (∀ (k0_h2 : k0_cond2 d0 v102 k0_t2 = 1#1), ∀ a, (k0_off14 v843) a + S1x1024.size a ≤ S8192x1024.size a)
theorem k0_off14_inb : ∀ (d0 : Dev nD) (v102 : BitVec 32) (k0_t2 : Fin (k0_t2_loop d0 v102).trips) (v843 : BitVec 32) (k0_hw7 : k0_chk7 d0 v102 k0_t2 v843), ∀ (k0_h2 : k0_cond2 d0 v102 k0_t2 = 1#1), ∀ a, (k0_off14 v843) a + S1x1024.size a ≤ S8192x1024.size a := fun d0 v102 k0_t2 v843 k0_hw7 k0_h2 => k0_hw7 k0_h2

def k0_off15 (d0 : Dev nD) (v102 : BitVec 32) (k0_t2 : Fin (k0_t2_loop d0 v102).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_62 : BitVec 32 := 1#32
  let arg14 : BitVec 32 := Scf.iv v108 c1_i32_62 k0_t2
  let v821 : Index := Scalar.indexCast arg14
  ![v821.toNat]
def k0_off16 (d0 : Dev nD) (v102 : BitVec 32) (k0_t2 : Fin (k0_t2_loop d0 v102).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_58 : BitVec 32 := 128#32
  let v100 : BitVec 32 := Scalar.muli v71 c128_i32_58
  let v103 : BitVec 32 := Scalar.addi v100 v102
  let v104 : BitVec 32 := Scalar.subi v103 v100
  let c1_i32_60 : BitVec 32 := 1#32
  let v106 : BitVec 32 := Scalar.divsi v104 c1_i32_60
  let v107 : BitVec 32 := Scalar.muli v106 c1_i32_60
  let v108 : BitVec 32 := Scalar.addi v100 v107
  let c1_i32_62 : BitVec 32 := 1#32
  let arg14 : BitVec 32 := Scf.iv v108 c1_i32_62 k0_t2
  let c128_i32_631 : BitVec 32 := 128#32
  let v825 : BitVec 32 := Scalar.muli v71 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v71.toNat, v836.toNat]

def k0_chk1 (d0 : Dev nD) (v102 : BitVec 32) : Prop :=
  ((k0_t1_loop d0 v102).OK) ∧
  (∀ k0_t1 : Fin (k0_t1_loop d0 v102).trips, ∀ (k0_h1 : k0_cond1 d0 v102 k0_t1 = 1#1), ∀ a, (k0_off3 d0 v102 k0_t1) a + S1.size a ≤ S1024.size a) ∧
  (∀ k0_t1 : Fin (k0_t1_loop d0 v102).trips, ∀ (k0_h1 : k0_cond1 d0 v102 k0_t1 = 1#1), ∀ a, (k0_off4 d0 v102 k0_t1) a + S1x1.size a ≤ S8x16.size a) ∧
  (∀ k0_t1 : Fin (k0_t1_loop d0 v102).trips, ∀ a, (k0_off7 d0 v102 k0_t1) a + S1.size a ≤ S1024.size a) ∧
  (∀ k0_t1 : Fin (k0_t1_loop d0 v102).trips, ∀ a, (k0_off8 d0 v102 k0_t1) a + S1x1.size a ≤ S8x16.size a) ∧
  ((k0_t2_loop d0 v102).OK) ∧
  (∀ k0_t2 : Fin (k0_t2_loop d0 v102).trips, ∀ (k0_h2 : k0_cond2 d0 v102 k0_t2 = 1#1), ∀ a, (k0_off11 d0 v102 k0_t2) a + S1.size a ≤ S1024.size a) ∧
  (∀ k0_t2 : Fin (k0_t2_loop d0 v102).trips, ∀ (k0_h2 : k0_cond2 d0 v102 k0_t2 = 1#1), ∀ a, (k0_off12 d0 v102 k0_t2) a + S1x1.size a ≤ S8x16.size a) ∧
  (∀ k0_t2 : Fin (k0_t2_loop d0 v102).trips, ∀ a, (k0_off15 d0 v102 k0_t2) a + S1.size a ≤ S1024.size a) ∧
  (∀ k0_t2 : Fin (k0_t2_loop d0 v102).trips, ∀ a, (k0_off16 d0 v102 k0_t2) a + S1x1.size a ≤ S8x16.size a)
theorem k0_t1_ok : ∀ (d0 : Dev nD) (v102 : BitVec 32) (k0_hw1 : k0_chk1 d0 v102), (k0_t1_loop d0 v102).OK := fun d0 v102 k0_hw1 => k0_hw1.1
theorem k0_off3_inb : ∀ (d0 : Dev nD) (v102 : BitVec 32) (k0_hw1 : k0_chk1 d0 v102) (k0_t1 : Fin (k0_t1_loop d0 v102).trips), ∀ (k0_h1 : k0_cond1 d0 v102 k0_t1 = 1#1), ∀ a, (k0_off3 d0 v102 k0_t1) a + S1.size a ≤ S1024.size a := fun d0 v102 k0_hw1 k0_t1 k0_h1 => k0_hw1.2.1 k0_t1 k0_h1
theorem k0_off4_inb : ∀ (d0 : Dev nD) (v102 : BitVec 32) (k0_hw1 : k0_chk1 d0 v102) (k0_t1 : Fin (k0_t1_loop d0 v102).trips), ∀ (k0_h1 : k0_cond1 d0 v102 k0_t1 = 1#1), ∀ a, (k0_off4 d0 v102 k0_t1) a + S1x1.size a ≤ S8x16.size a := fun d0 v102 k0_hw1 k0_t1 k0_h1 => k0_hw1.2.2.1 k0_t1 k0_h1
theorem k0_off7_inb : ∀ (d0 : Dev nD) (v102 : BitVec 32) (k0_hw1 : k0_chk1 d0 v102) (k0_t1 : Fin (k0_t1_loop d0 v102).trips), ∀ a, (k0_off7 d0 v102 k0_t1) a + S1.size a ≤ S1024.size a := fun d0 v102 k0_hw1 k0_t1 => k0_hw1.2.2.2.1 k0_t1
theorem k0_off8_inb : ∀ (d0 : Dev nD) (v102 : BitVec 32) (k0_hw1 : k0_chk1 d0 v102) (k0_t1 : Fin (k0_t1_loop d0 v102).trips), ∀ a, (k0_off8 d0 v102 k0_t1) a + S1x1.size a ≤ S8x16.size a := fun d0 v102 k0_hw1 k0_t1 => k0_hw1.2.2.2.2.1 k0_t1
theorem k0_t2_ok : ∀ (d0 : Dev nD) (v102 : BitVec 32) (k0_hw1 : k0_chk1 d0 v102), (k0_t2_loop d0 v102).OK := fun d0 v102 k0_hw1 => k0_hw1.2.2.2.2.2.1
theorem k0_off11_inb : ∀ (d0 : Dev nD) (v102 : BitVec 32) (k0_hw1 : k0_chk1 d0 v102) (k0_t2 : Fin (k0_t2_loop d0 v102).trips), ∀ (k0_h2 : k0_cond2 d0 v102 k0_t2 = 1#1), ∀ a, (k0_off11 d0 v102 k0_t2) a + S1.size a ≤ S1024.size a := fun d0 v102 k0_hw1 k0_t2 k0_h2 => k0_hw1.2.2.2.2.2.2.1 k0_t2 k0_h2
theorem k0_off12_inb : ∀ (d0 : Dev nD) (v102 : BitVec 32) (k0_hw1 : k0_chk1 d0 v102) (k0_t2 : Fin (k0_t2_loop d0 v102).trips), ∀ (k0_h2 : k0_cond2 d0 v102 k0_t2 = 1#1), ∀ a, (k0_off12 d0 v102 k0_t2) a + S1x1.size a ≤ S8x16.size a := fun d0 v102 k0_hw1 k0_t2 k0_h2 => k0_hw1.2.2.2.2.2.2.2.1 k0_t2 k0_h2
theorem k0_off15_inb : ∀ (d0 : Dev nD) (v102 : BitVec 32) (k0_hw1 : k0_chk1 d0 v102) (k0_t2 : Fin (k0_t2_loop d0 v102).trips), ∀ a, (k0_off15 d0 v102 k0_t2) a + S1.size a ≤ S1024.size a := fun d0 v102 k0_hw1 k0_t2 => k0_hw1.2.2.2.2.2.2.2.2.1 k0_t2
theorem k0_off16_inb : ∀ (d0 : Dev nD) (v102 : BitVec 32) (k0_hw1 : k0_chk1 d0 v102) (k0_t2 : Fin (k0_t2_loop d0 v102).trips), ∀ a, (k0_off16 d0 v102 k0_t2) a + S1x1.size a ≤ S8x16.size a := fun d0 v102 k0_hw1 k0_t2 => k0_hw1.2.2.2.2.2.2.2.2.2 k0_t2

def k0_off17 (v824 : BitVec 32) : Fin 2 → Nat :=
  let c0_i32_638 : BitVec 32 := 0#32
  ![v824.toNat, 0]

def k0_chk8 (v824 : BitVec 32) : Prop :=
  (∀ a, (k0_off17 v824) a + S1x1024.size a ≤ S1024x1024.size a)
theorem k0_off17_inb : ∀ (v824 : BitVec 32) (k0_hw8 : k0_chk8 v824), ∀ a, (k0_off17 v824) a + S1x1024.size a ≤ S1024x1024.size a := fun v824 k0_hw8 => k0_hw8

def k0_off18 (v822 : BitVec 32) : Fin 2 → Nat :=
  let c0_i32_639 : BitVec 32 := 0#32
  ![v822.toNat, 0]

def k0_chk9 (v822 : BitVec 32) : Prop :=
  (∀ a, (k0_off18 v822) a + S1x1024.size a ≤ S8192x1024.size a)
theorem k0_off18_inb : ∀ (v822 : BitVec 32) (k0_hw9 : k0_chk9 v822), ∀ a, (k0_off18 v822) a + S1x1024.size a ≤ S8192x1024.size a := fun v822 k0_hw9 => k0_hw9

def k0_off19 (d0 : Dev nD) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_64 : BitVec 32 := 128#32
  let v110 : BitVec 32 := Scalar.muli v78 c128_i32_64
  let v111 : Index := Scalar.indexCast v110
  let c0_65 : Index := 0#32
  ![v111.toNat, 0]
def k0_off20 (d0 : Dev nD) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let v114 : Index := Scalar.indexCast v71
  ![v114.toNat]
@[reducible] def k0_t3_loop (d0 : Dev nD) (v115 : BitVec 32) : Scf.Loop 32 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let v119 : BitVec 32 := Scalar.subi v116 v118
  let c1_i32_68 : BitVec 32 := 1#32
  let v121 : BitVec 32 := Scalar.divsi v119 c1_i32_68
  let v122 : BitVec 32 := Scalar.muli v121 c1_i32_68
  let v123 : BitVec 32 := Scalar.addi v118 v122
  let c1_i32_69 : BitVec 32 := 1#32
  ⟨v118, v123, c1_i32_69⟩

def k0_off21 (d0 : Dev nD) (v115 : BitVec 32) (k0_t3 : Fin (k0_t3_loop d0 v115).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let c1_i32_69 : BitVec 32 := 1#32
  let arg14 : BitVec 32 := Scf.iv v118 c1_i32_69 k0_t3
  let v817 : Index := Scalar.indexCast arg14
  ![v817.toNat]
def k0_off22 (d0 : Dev nD) (v115 : BitVec 32) (k0_t3 : Fin (k0_t3_loop d0 v115).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let c1_i32_69 : BitVec 32 := 1#32
  let arg14 : BitVec 32 := Scf.iv v118 c1_i32_69 k0_t3
  let c128_i32_629 : BitVec 32 := 128#32
  let v821 : BitVec 32 := Scalar.muli v71 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v71.toNat, v832.toNat]
def k0_off23 (v820 : BitVec 32) : Fin 2 → Nat :=
  let c0_i32_636 : BitVec 32 := 0#32
  ![v820.toNat, 0]

def k0_chk11 (v820 : BitVec 32) : Prop :=
  (∀ a, (k0_off23 v820) a + S1x1024.size a ≤ S1024x1024.size a)
theorem k0_off23_inb : ∀ (v820 : BitVec 32) (k0_hw11 : k0_chk11 v820), ∀ a, (k0_off23 v820) a + S1x1024.size a ≤ S1024x1024.size a := fun v820 k0_hw11 => k0_hw11

def k0_off24 (v818 : BitVec 32) : Fin 2 → Nat :=
  let c0_i32_637 : BitVec 32 := 0#32
  ![v818.toNat, 0]

def k0_chk12 (v818 : BitVec 32) : Prop :=
  (∀ a, (k0_off24 v818) a + S1x1024.size a ≤ S8192x1024.size a)
theorem k0_off24_inb : ∀ (v818 : BitVec 32) (k0_hw12 : k0_chk12 v818), ∀ a, (k0_off24 v818) a + S1x1024.size a ≤ S8192x1024.size a := fun v818 k0_hw12 => k0_hw12

@[reducible] def k0_t4_loop (d0 : Dev nD) (v115 : BitVec 32) : Scf.Loop 32 :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let v119 : BitVec 32 := Scalar.subi v116 v118
  let c1_i32_68 : BitVec 32 := 1#32
  let v121 : BitVec 32 := Scalar.divsi v119 c1_i32_68
  let v122 : BitVec 32 := Scalar.muli v121 c1_i32_68
  let v123 : BitVec 32 := Scalar.addi v118 v122
  let v120 : BitVec 32 := Scalar.addi v118 v119
  let c1_i32_70 : BitVec 32 := 1#32
  ⟨v123, v120, c1_i32_70⟩
def k0_off25 (d0 : Dev nD) (v115 : BitVec 32) (k0_t4 : Fin (k0_t4_loop d0 v115).trips) : Fin 1 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let v119 : BitVec 32 := Scalar.subi v116 v118
  let c1_i32_68 : BitVec 32 := 1#32
  let v121 : BitVec 32 := Scalar.divsi v119 c1_i32_68
  let v122 : BitVec 32 := Scalar.muli v121 c1_i32_68
  let v123 : BitVec 32 := Scalar.addi v118 v122
  let c1_i32_70 : BitVec 32 := 1#32
  let arg14 : BitVec 32 := Scf.iv v123 c1_i32_70 k0_t4
  let v817 : Index := Scalar.indexCast arg14
  ![v817.toNat]
def k0_off26 (d0 : Dev nD) (v115 : BitVec 32) (k0_t4 : Fin (k0_t4_loop d0 v115).trips) : Fin 2 → Nat :=
  let c2_i32_38 : BitVec 32 := 2#32
  let c1_i32_37 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v68 : BitVec 32 := Scalar.subi c1_i32_37 v40
  let v69 : BitVec 32 := Scalar.muli c2_i32_38 v68
  let c1_i32_39 : BitVec 32 := 1#32
  let v70 : BitVec 32 := Scalar.subi c1_i32_39 v29
  let v71 : BitVec 32 := Scalar.addi v69 v70
  let c128_i32_66 : BitVec 32 := 128#32
  let v113 : BitVec 32 := Scalar.muli v71 c128_i32_66
  let v116 : BitVec 32 := Scalar.addi v113 v115
  let c16_i32 : BitVec 32 := 16#32
  let v117 : BitVec 32 := Scalar.subi v116 c16_i32
  let v118 : BitVec 32 := Scalar.maxsi v117 v113
  let v119 : BitVec 32 := Scalar.subi v116 v118
  let c1_i32_68 : BitVec 32 := 1#32
  let v121 : BitVec 32 := Scalar.divsi v119 c1_i32_68
  let v122 : BitVec 32 := Scalar.muli v121 c1_i32_68
  let v123 : BitVec 32 := Scalar.addi v118 v122
  let c1_i32_70 : BitVec 32 := 1#32
  let arg14 : BitVec 32 := Scf.iv v123 c1_i32_70 k0_t4
  let c128_i32_629 : BitVec 32 := 128#32
  let v821 : BitVec 32 := Scalar.muli v71 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v71.toNat, v832.toNat]

def k0_chk10 (d0 : Dev nD) (v115 : BitVec 32) : Prop :=
  ((k0_t3_loop d0 v115).OK) ∧
  (∀ k0_t3 : Fin (k0_t3_loop d0 v115).trips, ∀ a, (k0_off21 d0 v115 k0_t3) a + S1.size a ≤ S1024.size a) ∧
  (∀ k0_t3 : Fin (k0_t3_loop d0 v115).trips, ∀ a, (k0_off22 d0 v115 k0_t3) a + S1x1.size a ≤ S8x16.size a) ∧
  ((k0_t4_loop d0 v115).OK) ∧
  (∀ k0_t4 : Fin (k0_t4_loop d0 v115).trips, ∀ a, (k0_off25 d0 v115 k0_t4) a + S1.size a ≤ S1024.size a) ∧
  (∀ k0_t4 : Fin (k0_t4_loop d0 v115).trips, ∀ a, (k0_off26 d0 v115 k0_t4) a + S1x1.size a ≤ S8x16.size a)
theorem k0_t3_ok : ∀ (d0 : Dev nD) (v115 : BitVec 32) (k0_hw10 : k0_chk10 d0 v115), (k0_t3_loop d0 v115).OK := fun d0 v115 k0_hw10 => k0_hw10.1
theorem k0_off21_inb : ∀ (d0 : Dev nD) (v115 : BitVec 32) (k0_hw10 : k0_chk10 d0 v115) (k0_t3 : Fin (k0_t3_loop d0 v115).trips), ∀ a, (k0_off21 d0 v115 k0_t3) a + S1.size a ≤ S1024.size a := fun d0 v115 k0_hw10 k0_t3 => k0_hw10.2.1 k0_t3
theorem k0_off22_inb : ∀ (d0 : Dev nD) (v115 : BitVec 32) (k0_hw10 : k0_chk10 d0 v115) (k0_t3 : Fin (k0_t3_loop d0 v115).trips), ∀ a, (k0_off22 d0 v115 k0_t3) a + S1x1.size a ≤ S8x16.size a := fun d0 v115 k0_hw10 k0_t3 => k0_hw10.2.2.1 k0_t3
theorem k0_t4_ok : ∀ (d0 : Dev nD) (v115 : BitVec 32) (k0_hw10 : k0_chk10 d0 v115), (k0_t4_loop d0 v115).OK := fun d0 v115 k0_hw10 => k0_hw10.2.2.2.1
theorem k0_off25_inb : ∀ (d0 : Dev nD) (v115 : BitVec 32) (k0_hw10 : k0_chk10 d0 v115) (k0_t4 : Fin (k0_t4_loop d0 v115).trips), ∀ a, (k0_off25 d0 v115 k0_t4) a + S1.size a ≤ S1024.size a := fun d0 v115 k0_hw10 k0_t4 => k0_hw10.2.2.2.2.1 k0_t4
theorem k0_off26_inb : ∀ (d0 : Dev nD) (v115 : BitVec 32) (k0_hw10 : k0_chk10 d0 v115) (k0_t4 : Fin (k0_t4_loop d0 v115).trips), ∀ a, (k0_off26 d0 v115 k0_t4) a + S1x1.size a ≤ S8x16.size a := fun d0 v115 k0_hw10 k0_t4 => k0_hw10.2.2.2.2.2 k0_t4

def k0_off27 (v820 : BitVec 32) : Fin 2 → Nat :=
  let c0_i32_636 : BitVec 32 := 0#32
  ![v820.toNat, 0]

def k0_chk13 (v820 : BitVec 32) : Prop :=
  (∀ a, (k0_off27 v820) a + S1x1024.size a ≤ S1024x1024.size a)
theorem k0_off27_inb : ∀ (v820 : BitVec 32) (k0_hw13 : k0_chk13 v820), ∀ a, (k0_off27 v820) a + S1x1024.size a ≤ S1024x1024.size a := fun v820 k0_hw13 => k0_hw13

def k0_off28 (v818 : BitVec 32) : Fin 2 → Nat :=
  let c0_i32_637 : BitVec 32 := 0#32
  ![v818.toNat, 0]

def k0_chk14 (v818 : BitVec 32) : Prop :=
  (∀ a, (k0_off28 v818) a + S1x1024.size a ≤ S8192x1024.size a)
theorem k0_off28_inb : ∀ (v818 : BitVec 32) (k0_hw14 : k0_chk14 v818), ∀ a, (k0_off28 v818) a + S1x1024.size a ≤ S8192x1024.size a := fun v818 k0_hw14 => k0_hw14

def k0_off29 (d0 : Dev nD) : Fin 2 → Nat :=
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v127 : BitVec 32 := Scalar.subi c1_i32_73 v29
  let c128_i32_74 : BitVec 32 := 128#32
  let v128 : BitVec 32 := Scalar.muli v127 c128_i32_74
  let c0_i32_82 : BitVec 32 := 0#32
  ![v128.toNat, 0]
def k0_off30 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c1_i32_71 : BitVec 32 := 1#32
  let v124 : BitVec 32 := Scalar.subi c1_i32_71 v29
  let c128_i32_72 : BitVec 32 := 128#32
  let v125 : BitVec 32 := Scalar.muli v124 c128_i32_72
  let v126 : BitVec 32 := Scalar.addi v51 v125
  let c0_i32_83 : BitVec 32 := 0#32
  ![v126.toNat, 0]
def k0_dev3 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_80 : BitVec 32 := 1#32
  let v133 : BitVec 32 := Scalar.muli v43 c1_i32_80
  let v134 : BitVec 32 := Scalar.addi c0_i32_81 v133
  v134.toNat
def k0_off31 (d0 : Dev nD) : Fin 2 → Nat :=
  let c1_i32_75 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v130 : BitVec 32 := Scalar.subi c1_i32_75 v29
  let c128_i32_76 : BitVec 32 := 128#32
  let v131 : BitVec 32 := Scalar.muli v130 c128_i32_76
  let c64_i32_77 : BitVec 32 := 64#32
  let v132 : BitVec 32 := Scalar.addi v131 c64_i32_77
  let c0_i32_88 : BitVec 32 := 0#32
  ![v132.toNat, 0]
def k0_off32 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c1_i32_71 : BitVec 32 := 1#32
  let v124 : BitVec 32 := Scalar.subi c1_i32_71 v29
  let c128_i32_72 : BitVec 32 := 128#32
  let v125 : BitVec 32 := Scalar.muli v124 c128_i32_72
  let v126 : BitVec 32 := Scalar.addi v51 v125
  let c64_i32 : BitVec 32 := 64#32
  let v129 : BitVec 32 := Scalar.addi v126 c64_i32
  let c0_i32_89 : BitVec 32 := 0#32
  ![v129.toNat, 0]
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_86 : BitVec 32 := 1#32
  let v141 : BitVec 32 := Scalar.muli v43 c1_i32_86
  let v142 : BitVec 32 := Scalar.addi c0_i32_87 v141
  v142.toNat
def k0_off33 (d0 : Dev nD) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let v150 : Index := Scalar.indexCast v78
  ![v150.toNat]
@[reducible] def k0_t5_loop (d0 : Dev nD) (v151 : BitVec 32) : Scf.Loop 32 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_93 : BitVec 32 := 1#32
  ⟨v149, v157, c1_i32_93⟩

def k0_cond3 (d0 : Dev nD) (v151 : BitVec 32) (k0_t5 : Fin (k0_t5_loop d0 v151).trips) : BitVec 1 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let c1_i32_93 : BitVec 32 := 1#32
  let arg14 : BitVec 32 := Scf.iv v149 c1_i32_93 k0_t5
  let v817 : BitVec 32 := Scalar.subi arg14 v149
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off34 (d0 : Dev nD) (v151 : BitVec 32) (k0_t5 : Fin (k0_t5_loop d0 v151).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let c1_i32_93 : BitVec 32 := 1#32
  let arg14 : BitVec 32 := Scf.iv v149 c1_i32_93 k0_t5
  let c16_i32_640 : BitVec 32 := 16#32
  let v841 : BitVec 32 := Scalar.subi arg14 c16_i32_640
  let v842 : Index := Scalar.indexCast v841
  ![v842.toNat]
def k0_off35 (d0 : Dev nD) (v151 : BitVec 32) (k0_t5 : Fin (k0_t5_loop d0 v151).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let c1_i32_93 : BitVec 32 := 1#32
  let arg14 : BitVec 32 := Scf.iv v149 c1_i32_93 k0_t5
  let c16_i32_640 : BitVec 32 := 16#32
  let v841 : BitVec 32 := Scalar.subi arg14 c16_i32_640
  let c128_i32_641 : BitVec 32 := 128#32
  let v846 : BitVec 32 := Scalar.muli v78 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v78.toNat, v857.toNat]
def k0_off36 (v845 : BitVec 32) : Fin 2 → Nat :=
  let c0_i32_648 : BitVec 32 := 0#32
  ![v845.toNat, 0]

def k0_chk16 (d0 : Dev nD) (v151 : BitVec 32) (k0_t5 : Fin (k0_t5_loop d0 v151).trips) (v845 : BitVec 32) : Prop :=
  (∀ (k0_h3 : k0_cond3 d0 v151 k0_t5 = 1#1), ∀ a, (k0_off36 v845) a + S1x1024.size a ≤ S1024x1024.size a)
theorem k0_off36_inb : ∀ (d0 : Dev nD) (v151 : BitVec 32) (k0_t5 : Fin (k0_t5_loop d0 v151).trips) (v845 : BitVec 32) (k0_hw16 : k0_chk16 d0 v151 k0_t5 v845), ∀ (k0_h3 : k0_cond3 d0 v151 k0_t5 = 1#1), ∀ a, (k0_off36 v845) a + S1x1024.size a ≤ S1024x1024.size a := fun d0 v151 k0_t5 v845 k0_hw16 k0_h3 => k0_hw16 k0_h3

def k0_off37 (v843 : BitVec 32) : Fin 2 → Nat :=
  let c0_i32_649 : BitVec 32 := 0#32
  ![v843.toNat, 0]

def k0_chk17 (d0 : Dev nD) (v151 : BitVec 32) (k0_t5 : Fin (k0_t5_loop d0 v151).trips) (v843 : BitVec 32) : Prop :=
  (∀ (k0_h3 : k0_cond3 d0 v151 k0_t5 = 1#1), ∀ a, (k0_off37 v843) a + S1x1024.size a ≤ S8192x1024.size a)
theorem k0_off37_inb : ∀ (d0 : Dev nD) (v151 : BitVec 32) (k0_t5 : Fin (k0_t5_loop d0 v151).trips) (v843 : BitVec 32) (k0_hw17 : k0_chk17 d0 v151 k0_t5 v843), ∀ (k0_h3 : k0_cond3 d0 v151 k0_t5 = 1#1), ∀ a, (k0_off37 v843) a + S1x1024.size a ≤ S8192x1024.size a := fun d0 v151 k0_t5 v843 k0_hw17 k0_h3 => k0_hw17 k0_h3

def k0_off38 (d0 : Dev nD) (v151 : BitVec 32) (k0_t5 : Fin (k0_t5_loop d0 v151).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let c1_i32_93 : BitVec 32 := 1#32
  let arg14 : BitVec 32 := Scf.iv v149 c1_i32_93 k0_t5
  let v821 : Index := Scalar.indexCast arg14
  ![v821.toNat]
def k0_off39 (d0 : Dev nD) (v151 : BitVec 32) (k0_t5 : Fin (k0_t5_loop d0 v151).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let c1_i32_93 : BitVec 32 := 1#32
  let arg14 : BitVec 32 := Scf.iv v149 c1_i32_93 k0_t5
  let c128_i32_631 : BitVec 32 := 128#32
  let v825 : BitVec 32 := Scalar.muli v78 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v78.toNat, v836.toNat]
def k0_off40 (v824 : BitVec 32) : Fin 2 → Nat :=
  let c0_i32_638 : BitVec 32 := 0#32
  ![v824.toNat, 0]

def k0_chk18 (v824 : BitVec 32) : Prop :=
  (∀ a, (k0_off40 v824) a + S1x1024.size a ≤ S1024x1024.size a)
theorem k0_off40_inb : ∀ (v824 : BitVec 32) (k0_hw18 : k0_chk18 v824), ∀ a, (k0_off40 v824) a + S1x1024.size a ≤ S1024x1024.size a := fun v824 k0_hw18 => k0_hw18

def k0_off41 (v822 : BitVec 32) : Fin 2 → Nat :=
  let c0_i32_639 : BitVec 32 := 0#32
  ![v822.toNat, 0]

def k0_chk19 (v822 : BitVec 32) : Prop :=
  (∀ a, (k0_off41 v822) a + S1x1024.size a ≤ S8192x1024.size a)
theorem k0_off41_inb : ∀ (v822 : BitVec 32) (k0_hw19 : k0_chk19 v822), ∀ a, (k0_off41 v822) a + S1x1024.size a ≤ S8192x1024.size a := fun v822 k0_hw19 => k0_hw19

@[reducible] def k0_t6_loop (d0 : Dev nD) (v151 : BitVec 32) : Scf.Loop 32 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let v154 : BitVec 32 := Scalar.addi v149 v153
  let c1_i32_94 : BitVec 32 := 1#32
  ⟨v157, v154, c1_i32_94⟩
def k0_off42 (d0 : Dev nD) (v151 : BitVec 32) (k0_t6 : Fin (k0_t6_loop d0 v151).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_94 : BitVec 32 := 1#32
  let arg14 : BitVec 32 := Scf.iv v157 c1_i32_94 k0_t6
  let c16_i32_640 : BitVec 32 := 16#32
  let v841 : BitVec 32 := Scalar.subi arg14 c16_i32_640
  let v842 : Index := Scalar.indexCast v841
  ![v842.toNat]
def k0_cond4 (d0 : Dev nD) (v151 : BitVec 32) (k0_t6 : Fin (k0_t6_loop d0 v151).trips) : BitVec 1 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_94 : BitVec 32 := 1#32
  let arg14 : BitVec 32 := Scf.iv v157 c1_i32_94 k0_t6
  let v817 : BitVec 32 := Scalar.subi arg14 v149
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off43 (d0 : Dev nD) (v151 : BitVec 32) (k0_t6 : Fin (k0_t6_loop d0 v151).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_94 : BitVec 32 := 1#32
  let arg14 : BitVec 32 := Scf.iv v157 c1_i32_94 k0_t6
  let c16_i32_640 : BitVec 32 := 16#32
  let v841 : BitVec 32 := Scalar.subi arg14 c16_i32_640
  let c128_i32_641 : BitVec 32 := 128#32
  let v846 : BitVec 32 := Scalar.muli v78 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v78.toNat, v857.toNat]
def k0_off44 (v845 : BitVec 32) : Fin 2 → Nat :=
  let c0_i32_648 : BitVec 32 := 0#32
  ![v845.toNat, 0]

def k0_chk20 (d0 : Dev nD) (v151 : BitVec 32) (k0_t6 : Fin (k0_t6_loop d0 v151).trips) (v845 : BitVec 32) : Prop :=
  (∀ (k0_h4 : k0_cond4 d0 v151 k0_t6 = 1#1), ∀ a, (k0_off44 v845) a + S1x1024.size a ≤ S1024x1024.size a)
theorem k0_off44_inb : ∀ (d0 : Dev nD) (v151 : BitVec 32) (k0_t6 : Fin (k0_t6_loop d0 v151).trips) (v845 : BitVec 32) (k0_hw20 : k0_chk20 d0 v151 k0_t6 v845), ∀ (k0_h4 : k0_cond4 d0 v151 k0_t6 = 1#1), ∀ a, (k0_off44 v845) a + S1x1024.size a ≤ S1024x1024.size a := fun d0 v151 k0_t6 v845 k0_hw20 k0_h4 => k0_hw20 k0_h4

def k0_off45 (v843 : BitVec 32) : Fin 2 → Nat :=
  let c0_i32_649 : BitVec 32 := 0#32
  ![v843.toNat, 0]

def k0_chk21 (d0 : Dev nD) (v151 : BitVec 32) (k0_t6 : Fin (k0_t6_loop d0 v151).trips) (v843 : BitVec 32) : Prop :=
  (∀ (k0_h4 : k0_cond4 d0 v151 k0_t6 = 1#1), ∀ a, (k0_off45 v843) a + S1x1024.size a ≤ S8192x1024.size a)
theorem k0_off45_inb : ∀ (d0 : Dev nD) (v151 : BitVec 32) (k0_t6 : Fin (k0_t6_loop d0 v151).trips) (v843 : BitVec 32) (k0_hw21 : k0_chk21 d0 v151 k0_t6 v843), ∀ (k0_h4 : k0_cond4 d0 v151 k0_t6 = 1#1), ∀ a, (k0_off45 v843) a + S1x1024.size a ≤ S8192x1024.size a := fun d0 v151 k0_t6 v843 k0_hw21 k0_h4 => k0_hw21 k0_h4

def k0_off46 (d0 : Dev nD) (v151 : BitVec 32) (k0_t6 : Fin (k0_t6_loop d0 v151).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_94 : BitVec 32 := 1#32
  let arg14 : BitVec 32 := Scf.iv v157 c1_i32_94 k0_t6
  let v821 : Index := Scalar.indexCast arg14
  ![v821.toNat]
def k0_off47 (d0 : Dev nD) (v151 : BitVec 32) (k0_t6 : Fin (k0_t6_loop d0 v151).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_90 : BitVec 32 := 128#32
  let v149 : BitVec 32 := Scalar.muli v78 c128_i32_90
  let v152 : BitVec 32 := Scalar.addi v149 v151
  let v153 : BitVec 32 := Scalar.subi v152 v149
  let c1_i32_92 : BitVec 32 := 1#32
  let v155 : BitVec 32 := Scalar.divsi v153 c1_i32_92
  let v156 : BitVec 32 := Scalar.muli v155 c1_i32_92
  let v157 : BitVec 32 := Scalar.addi v149 v156
  let c1_i32_94 : BitVec 32 := 1#32
  let arg14 : BitVec 32 := Scf.iv v157 c1_i32_94 k0_t6
  let c128_i32_631 : BitVec 32 := 128#32
  let v825 : BitVec 32 := Scalar.muli v78 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v78.toNat, v836.toNat]

def k0_chk15 (d0 : Dev nD) (v151 : BitVec 32) : Prop :=
  ((k0_t5_loop d0 v151).OK) ∧
  (∀ k0_t5 : Fin (k0_t5_loop d0 v151).trips, ∀ (k0_h3 : k0_cond3 d0 v151 k0_t5 = 1#1), ∀ a, (k0_off34 d0 v151 k0_t5) a + S1.size a ≤ S1024.size a) ∧
  (∀ k0_t5 : Fin (k0_t5_loop d0 v151).trips, ∀ (k0_h3 : k0_cond3 d0 v151 k0_t5 = 1#1), ∀ a, (k0_off35 d0 v151 k0_t5) a + S1x1.size a ≤ S8x16.size a) ∧
  (∀ k0_t5 : Fin (k0_t5_loop d0 v151).trips, ∀ a, (k0_off38 d0 v151 k0_t5) a + S1.size a ≤ S1024.size a) ∧
  (∀ k0_t5 : Fin (k0_t5_loop d0 v151).trips, ∀ a, (k0_off39 d0 v151 k0_t5) a + S1x1.size a ≤ S8x16.size a) ∧
  ((k0_t6_loop d0 v151).OK) ∧
  (∀ k0_t6 : Fin (k0_t6_loop d0 v151).trips, ∀ (k0_h4 : k0_cond4 d0 v151 k0_t6 = 1#1), ∀ a, (k0_off42 d0 v151 k0_t6) a + S1.size a ≤ S1024.size a) ∧
  (∀ k0_t6 : Fin (k0_t6_loop d0 v151).trips, ∀ (k0_h4 : k0_cond4 d0 v151 k0_t6 = 1#1), ∀ a, (k0_off43 d0 v151 k0_t6) a + S1x1.size a ≤ S8x16.size a) ∧
  (∀ k0_t6 : Fin (k0_t6_loop d0 v151).trips, ∀ a, (k0_off46 d0 v151 k0_t6) a + S1.size a ≤ S1024.size a) ∧
  (∀ k0_t6 : Fin (k0_t6_loop d0 v151).trips, ∀ a, (k0_off47 d0 v151 k0_t6) a + S1x1.size a ≤ S8x16.size a)
theorem k0_t5_ok : ∀ (d0 : Dev nD) (v151 : BitVec 32) (k0_hw15 : k0_chk15 d0 v151), (k0_t5_loop d0 v151).OK := fun d0 v151 k0_hw15 => k0_hw15.1
theorem k0_off34_inb : ∀ (d0 : Dev nD) (v151 : BitVec 32) (k0_hw15 : k0_chk15 d0 v151) (k0_t5 : Fin (k0_t5_loop d0 v151).trips), ∀ (k0_h3 : k0_cond3 d0 v151 k0_t5 = 1#1), ∀ a, (k0_off34 d0 v151 k0_t5) a + S1.size a ≤ S1024.size a := fun d0 v151 k0_hw15 k0_t5 k0_h3 => k0_hw15.2.1 k0_t5 k0_h3
theorem k0_off35_inb : ∀ (d0 : Dev nD) (v151 : BitVec 32) (k0_hw15 : k0_chk15 d0 v151) (k0_t5 : Fin (k0_t5_loop d0 v151).trips), ∀ (k0_h3 : k0_cond3 d0 v151 k0_t5 = 1#1), ∀ a, (k0_off35 d0 v151 k0_t5) a + S1x1.size a ≤ S8x16.size a := fun d0 v151 k0_hw15 k0_t5 k0_h3 => k0_hw15.2.2.1 k0_t5 k0_h3
theorem k0_off38_inb : ∀ (d0 : Dev nD) (v151 : BitVec 32) (k0_hw15 : k0_chk15 d0 v151) (k0_t5 : Fin (k0_t5_loop d0 v151).trips), ∀ a, (k0_off38 d0 v151 k0_t5) a + S1.size a ≤ S1024.size a := fun d0 v151 k0_hw15 k0_t5 => k0_hw15.2.2.2.1 k0_t5
theorem k0_off39_inb : ∀ (d0 : Dev nD) (v151 : BitVec 32) (k0_hw15 : k0_chk15 d0 v151) (k0_t5 : Fin (k0_t5_loop d0 v151).trips), ∀ a, (k0_off39 d0 v151 k0_t5) a + S1x1.size a ≤ S8x16.size a := fun d0 v151 k0_hw15 k0_t5 => k0_hw15.2.2.2.2.1 k0_t5
theorem k0_t6_ok : ∀ (d0 : Dev nD) (v151 : BitVec 32) (k0_hw15 : k0_chk15 d0 v151), (k0_t6_loop d0 v151).OK := fun d0 v151 k0_hw15 => k0_hw15.2.2.2.2.2.1
theorem k0_off42_inb : ∀ (d0 : Dev nD) (v151 : BitVec 32) (k0_hw15 : k0_chk15 d0 v151) (k0_t6 : Fin (k0_t6_loop d0 v151).trips), ∀ (k0_h4 : k0_cond4 d0 v151 k0_t6 = 1#1), ∀ a, (k0_off42 d0 v151 k0_t6) a + S1.size a ≤ S1024.size a := fun d0 v151 k0_hw15 k0_t6 k0_h4 => k0_hw15.2.2.2.2.2.2.1 k0_t6 k0_h4
theorem k0_off43_inb : ∀ (d0 : Dev nD) (v151 : BitVec 32) (k0_hw15 : k0_chk15 d0 v151) (k0_t6 : Fin (k0_t6_loop d0 v151).trips), ∀ (k0_h4 : k0_cond4 d0 v151 k0_t6 = 1#1), ∀ a, (k0_off43 d0 v151 k0_t6) a + S1x1.size a ≤ S8x16.size a := fun d0 v151 k0_hw15 k0_t6 k0_h4 => k0_hw15.2.2.2.2.2.2.2.1 k0_t6 k0_h4
theorem k0_off46_inb : ∀ (d0 : Dev nD) (v151 : BitVec 32) (k0_hw15 : k0_chk15 d0 v151) (k0_t6 : Fin (k0_t6_loop d0 v151).trips), ∀ a, (k0_off46 d0 v151 k0_t6) a + S1.size a ≤ S1024.size a := fun d0 v151 k0_hw15 k0_t6 => k0_hw15.2.2.2.2.2.2.2.2.1 k0_t6
theorem k0_off47_inb : ∀ (d0 : Dev nD) (v151 : BitVec 32) (k0_hw15 : k0_chk15 d0 v151) (k0_t6 : Fin (k0_t6_loop d0 v151).trips), ∀ a, (k0_off47 d0 v151 k0_t6) a + S1x1.size a ≤ S8x16.size a := fun d0 v151 k0_hw15 k0_t6 => k0_hw15.2.2.2.2.2.2.2.2.2 k0_t6

def k0_off48 (v824 : BitVec 32) : Fin 2 → Nat :=
  let c0_i32_638 : BitVec 32 := 0#32
  ![v824.toNat, 0]

def k0_chk22 (v824 : BitVec 32) : Prop :=
  (∀ a, (k0_off48 v824) a + S1x1024.size a ≤ S1024x1024.size a)
theorem k0_off48_inb : ∀ (v824 : BitVec 32) (k0_hw22 : k0_chk22 v824), ∀ a, (k0_off48 v824) a + S1x1024.size a ≤ S1024x1024.size a := fun v824 k0_hw22 => k0_hw22

def k0_off49 (v822 : BitVec 32) : Fin 2 → Nat :=
  let c0_i32_639 : BitVec 32 := 0#32
  ![v822.toNat, 0]

def k0_chk23 (v822 : BitVec 32) : Prop :=
  (∀ a, (k0_off49 v822) a + S1x1024.size a ≤ S8192x1024.size a)
theorem k0_off49_inb : ∀ (v822 : BitVec 32) (k0_hw23 : k0_chk23 v822), ∀ a, (k0_off49 v822) a + S1x1024.size a ≤ S8192x1024.size a := fun v822 k0_hw23 => k0_hw23

def k0_off50 (d0 : Dev nD) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_96 : BitVec 32 := 128#32
  let v159 : BitVec 32 := Scalar.muli v74 c128_i32_96
  let v160 : Index := Scalar.indexCast v159
  let c0_97 : Index := 0#32
  ![v160.toNat, 0]
def k0_off51 (d0 : Dev nD) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let v163 : Index := Scalar.indexCast v78
  ![v163.toNat]
@[reducible] def k0_t7_loop (d0 : Dev nD) (v164 : BitVec 32) : Scf.Loop 32 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let v168 : BitVec 32 := Scalar.subi v165 v167
  let c1_i32_101 : BitVec 32 := 1#32
  let v170 : BitVec 32 := Scalar.divsi v168 c1_i32_101
  let v171 : BitVec 32 := Scalar.muli v170 c1_i32_101
  let v172 : BitVec 32 := Scalar.addi v167 v171
  let c1_i32_102 : BitVec 32 := 1#32
  ⟨v167, v172, c1_i32_102⟩

def k0_off52 (d0 : Dev nD) (v164 : BitVec 32) (k0_t7 : Fin (k0_t7_loop d0 v164).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let c1_i32_102 : BitVec 32 := 1#32
  let arg14 : BitVec 32 := Scf.iv v167 c1_i32_102 k0_t7
  let v817 : Index := Scalar.indexCast arg14
  ![v817.toNat]
def k0_off53 (d0 : Dev nD) (v164 : BitVec 32) (k0_t7 : Fin (k0_t7_loop d0 v164).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let c1_i32_102 : BitVec 32 := 1#32
  let arg14 : BitVec 32 := Scf.iv v167 c1_i32_102 k0_t7
  let c128_i32_629 : BitVec 32 := 128#32
  let v821 : BitVec 32 := Scalar.muli v78 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v78.toNat, v832.toNat]
def k0_off54 (v820 : BitVec 32) : Fin 2 → Nat :=
  let c0_i32_636 : BitVec 32 := 0#32
  ![v820.toNat, 0]

def k0_chk25 (v820 : BitVec 32) : Prop :=
  (∀ a, (k0_off54 v820) a + S1x1024.size a ≤ S1024x1024.size a)
theorem k0_off54_inb : ∀ (v820 : BitVec 32) (k0_hw25 : k0_chk25 v820), ∀ a, (k0_off54 v820) a + S1x1024.size a ≤ S1024x1024.size a := fun v820 k0_hw25 => k0_hw25

def k0_off55 (v818 : BitVec 32) : Fin 2 → Nat :=
  let c0_i32_637 : BitVec 32 := 0#32
  ![v818.toNat, 0]

def k0_chk26 (v818 : BitVec 32) : Prop :=
  (∀ a, (k0_off55 v818) a + S1x1024.size a ≤ S8192x1024.size a)
theorem k0_off55_inb : ∀ (v818 : BitVec 32) (k0_hw26 : k0_chk26 v818), ∀ a, (k0_off55 v818) a + S1x1024.size a ≤ S8192x1024.size a := fun v818 k0_hw26 => k0_hw26

@[reducible] def k0_t8_loop (d0 : Dev nD) (v164 : BitVec 32) : Scf.Loop 32 :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let v168 : BitVec 32 := Scalar.subi v165 v167
  let c1_i32_101 : BitVec 32 := 1#32
  let v170 : BitVec 32 := Scalar.divsi v168 c1_i32_101
  let v171 : BitVec 32 := Scalar.muli v170 c1_i32_101
  let v172 : BitVec 32 := Scalar.addi v167 v171
  let v169 : BitVec 32 := Scalar.addi v167 v168
  let c1_i32_103 : BitVec 32 := 1#32
  ⟨v172, v169, c1_i32_103⟩
def k0_off56 (d0 : Dev nD) (v164 : BitVec 32) (k0_t8 : Fin (k0_t8_loop d0 v164).trips) : Fin 1 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let v168 : BitVec 32 := Scalar.subi v165 v167
  let c1_i32_101 : BitVec 32 := 1#32
  let v170 : BitVec 32 := Scalar.divsi v168 c1_i32_101
  let v171 : BitVec 32 := Scalar.muli v170 c1_i32_101
  let v172 : BitVec 32 := Scalar.addi v167 v171
  let c1_i32_103 : BitVec 32 := 1#32
  let arg14 : BitVec 32 := Scf.iv v172 c1_i32_103 k0_t8
  let v817 : Index := Scalar.indexCast arg14
  ![v817.toNat]
def k0_off57 (d0 : Dev nD) (v164 : BitVec 32) (k0_t8 : Fin (k0_t8_loop d0 v164).trips) : Fin 2 → Nat :=
  let c4_i32_44 : BitVec 32 := 4#32
  let c2_i32_43 : BitVec 32 := 2#32
  let c1_i32_42 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v75 : BitVec 32 := Scalar.subi c1_i32_42 v29
  let v76 : BitVec 32 := Scalar.muli c2_i32_43 v75
  let v77 : BitVec 32 := Scalar.addi c4_i32_44 v76
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v78 : BitVec 32 := Scalar.addi v77 v12
  let c128_i32_98 : BitVec 32 := 128#32
  let v162 : BitVec 32 := Scalar.muli v78 c128_i32_98
  let v165 : BitVec 32 := Scalar.addi v162 v164
  let c16_i32_99 : BitVec 32 := 16#32
  let v166 : BitVec 32 := Scalar.subi v165 c16_i32_99
  let v167 : BitVec 32 := Scalar.maxsi v166 v162
  let v168 : BitVec 32 := Scalar.subi v165 v167
  let c1_i32_101 : BitVec 32 := 1#32
  let v170 : BitVec 32 := Scalar.divsi v168 c1_i32_101
  let v171 : BitVec 32 := Scalar.muli v170 c1_i32_101
  let v172 : BitVec 32 := Scalar.addi v167 v171
  let c1_i32_103 : BitVec 32 := 1#32
  let arg14 : BitVec 32 := Scf.iv v172 c1_i32_103 k0_t8
  let c128_i32_629 : BitVec 32 := 128#32
  let v821 : BitVec 32 := Scalar.muli v78 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v78.toNat, v832.toNat]

def k0_chk24 (d0 : Dev nD) (v164 : BitVec 32) : Prop :=
  ((k0_t7_loop d0 v164).OK) ∧
  (∀ k0_t7 : Fin (k0_t7_loop d0 v164).trips, ∀ a, (k0_off52 d0 v164 k0_t7) a + S1.size a ≤ S1024.size a) ∧
  (∀ k0_t7 : Fin (k0_t7_loop d0 v164).trips, ∀ a, (k0_off53 d0 v164 k0_t7) a + S1x1.size a ≤ S8x16.size a) ∧
  ((k0_t8_loop d0 v164).OK) ∧
  (∀ k0_t8 : Fin (k0_t8_loop d0 v164).trips, ∀ a, (k0_off56 d0 v164 k0_t8) a + S1.size a ≤ S1024.size a) ∧
  (∀ k0_t8 : Fin (k0_t8_loop d0 v164).trips, ∀ a, (k0_off57 d0 v164 k0_t8) a + S1x1.size a ≤ S8x16.size a)
theorem k0_t7_ok : ∀ (d0 : Dev nD) (v164 : BitVec 32) (k0_hw24 : k0_chk24 d0 v164), (k0_t7_loop d0 v164).OK := fun d0 v164 k0_hw24 => k0_hw24.1
theorem k0_off52_inb : ∀ (d0 : Dev nD) (v164 : BitVec 32) (k0_hw24 : k0_chk24 d0 v164) (k0_t7 : Fin (k0_t7_loop d0 v164).trips), ∀ a, (k0_off52 d0 v164 k0_t7) a + S1.size a ≤ S1024.size a := fun d0 v164 k0_hw24 k0_t7 => k0_hw24.2.1 k0_t7
theorem k0_off53_inb : ∀ (d0 : Dev nD) (v164 : BitVec 32) (k0_hw24 : k0_chk24 d0 v164) (k0_t7 : Fin (k0_t7_loop d0 v164).trips), ∀ a, (k0_off53 d0 v164 k0_t7) a + S1x1.size a ≤ S8x16.size a := fun d0 v164 k0_hw24 k0_t7 => k0_hw24.2.2.1 k0_t7
theorem k0_t8_ok : ∀ (d0 : Dev nD) (v164 : BitVec 32) (k0_hw24 : k0_chk24 d0 v164), (k0_t8_loop d0 v164).OK := fun d0 v164 k0_hw24 => k0_hw24.2.2.2.1
theorem k0_off56_inb : ∀ (d0 : Dev nD) (v164 : BitVec 32) (k0_hw24 : k0_chk24 d0 v164) (k0_t8 : Fin (k0_t8_loop d0 v164).trips), ∀ a, (k0_off56 d0 v164 k0_t8) a + S1.size a ≤ S1024.size a := fun d0 v164 k0_hw24 k0_t8 => k0_hw24.2.2.2.2.1 k0_t8
theorem k0_off57_inb : ∀ (d0 : Dev nD) (v164 : BitVec 32) (k0_hw24 : k0_chk24 d0 v164) (k0_t8 : Fin (k0_t8_loop d0 v164).trips), ∀ a, (k0_off57 d0 v164 k0_t8) a + S1x1.size a ≤ S8x16.size a := fun d0 v164 k0_hw24 k0_t8 => k0_hw24.2.2.2.2.2 k0_t8

def k0_off58 (v820 : BitVec 32) : Fin 2 → Nat :=
  let c0_i32_636 : BitVec 32 := 0#32
  ![v820.toNat, 0]

def k0_chk27 (v820 : BitVec 32) : Prop :=
  (∀ a, (k0_off58 v820) a + S1x1024.size a ≤ S1024x1024.size a)
theorem k0_off58_inb : ∀ (v820 : BitVec 32) (k0_hw27 : k0_chk27 v820), ∀ a, (k0_off58 v820) a + S1x1024.size a ≤ S1024x1024.size a := fun v820 k0_hw27 => k0_hw27

def k0_off59 (v818 : BitVec 32) : Fin 2 → Nat :=
  let c0_i32_637 : BitVec 32 := 0#32
  ![v818.toNat, 0]

def k0_chk28 (v818 : BitVec 32) : Prop :=
  (∀ a, (k0_off59 v818) a + S1x1024.size a ≤ S8192x1024.size a)
theorem k0_off59_inb : ∀ (v818 : BitVec 32) (k0_hw28 : k0_chk28 v818), ∀ a, (k0_off59 v818) a + S1x1024.size a ≤ S8192x1024.size a := fun v818 k0_hw28 => k0_hw28

def k0_off60 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_105 : BitVec 32 := 128#32
  let v175 : BitVec 32 := Scalar.muli v12 c128_i32_105
  let c0_i32_113 : BitVec 32 := 0#32
  ![v175.toNat, 0]
def k0_off61 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_104 : BitVec 32 := 128#32
  let v173 : BitVec 32 := Scalar.muli v12 c128_i32_104
  let v174 : BitVec 32 := Scalar.addi v54 v173
  let c0_i32_114 : BitVec 32 := 0#32
  ![v174.toNat, 0]
def k0_dev5 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_111 : BitVec 32 := 1#32
  let v179 : BitVec 32 := Scalar.muli v44 c1_i32_111
  let v180 : BitVec 32 := Scalar.addi c0_i32_112 v179
  v180.toNat
def k0_off62 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_107 : BitVec 32 := 128#32
  let v177 : BitVec 32 := Scalar.muli v12 c128_i32_107
  let c64_i32_108 : BitVec 32 := 64#32
  let v178 : BitVec 32 := Scalar.addi v177 c64_i32_108
  let c0_i32_119 : BitVec 32 := 0#32
  ![v178.toNat, 0]
def k0_off63 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_104 : BitVec 32 := 128#32
  let v173 : BitVec 32 := Scalar.muli v12 c128_i32_104
  let v174 : BitVec 32 := Scalar.addi v54 v173
  let c64_i32_106 : BitVec 32 := 64#32
  let v176 : BitVec 32 := Scalar.addi v174 c64_i32_106
  let c0_i32_120 : BitVec 32 := 0#32
  ![v176.toNat, 0]
def k0_dev6 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_117 : BitVec 32 := 1#32
  let v187 : BitVec 32 := Scalar.muli v44 c1_i32_117
  let v188 : BitVec 32 := Scalar.addi c0_i32_118 v187
  v188.toNat
def k0_off64 (d0 : Dev nD) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let v196 : Index := Scalar.indexCast v74
  ![v196.toNat]
@[reducible] def k0_t9_loop (d0 : Dev nD) (v197 : BitVec 32) : Scf.Loop 32 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_124 : BitVec 32 := 1#32
  ⟨v195, v203, c1_i32_124⟩

def k0_cond5 (d0 : Dev nD) (v197 : BitVec 32) (k0_t9 : Fin (k0_t9_loop d0 v197).trips) : BitVec 1 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let c1_i32_124 : BitVec 32 := 1#32
  let arg14 : BitVec 32 := Scf.iv v195 c1_i32_124 k0_t9
  let v817 : BitVec 32 := Scalar.subi arg14 v195
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off65 (d0 : Dev nD) (v197 : BitVec 32) (k0_t9 : Fin (k0_t9_loop d0 v197).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let c1_i32_124 : BitVec 32 := 1#32
  let arg14 : BitVec 32 := Scf.iv v195 c1_i32_124 k0_t9
  let c16_i32_640 : BitVec 32 := 16#32
  let v841 : BitVec 32 := Scalar.subi arg14 c16_i32_640
  let v842 : Index := Scalar.indexCast v841
  ![v842.toNat]
def k0_off66 (d0 : Dev nD) (v197 : BitVec 32) (k0_t9 : Fin (k0_t9_loop d0 v197).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let c1_i32_124 : BitVec 32 := 1#32
  let arg14 : BitVec 32 := Scf.iv v195 c1_i32_124 k0_t9
  let c16_i32_640 : BitVec 32 := 16#32
  let v841 : BitVec 32 := Scalar.subi arg14 c16_i32_640
  let c128_i32_641 : BitVec 32 := 128#32
  let v846 : BitVec 32 := Scalar.muli v74 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v74.toNat, v857.toNat]
def k0_off67 (v845 : BitVec 32) : Fin 2 → Nat :=
  let c0_i32_648 : BitVec 32 := 0#32
  ![v845.toNat, 0]

def k0_chk30 (d0 : Dev nD) (v197 : BitVec 32) (k0_t9 : Fin (k0_t9_loop d0 v197).trips) (v845 : BitVec 32) : Prop :=
  (∀ (k0_h5 : k0_cond5 d0 v197 k0_t9 = 1#1), ∀ a, (k0_off67 v845) a + S1x1024.size a ≤ S1024x1024.size a)
theorem k0_off67_inb : ∀ (d0 : Dev nD) (v197 : BitVec 32) (k0_t9 : Fin (k0_t9_loop d0 v197).trips) (v845 : BitVec 32) (k0_hw30 : k0_chk30 d0 v197 k0_t9 v845), ∀ (k0_h5 : k0_cond5 d0 v197 k0_t9 = 1#1), ∀ a, (k0_off67 v845) a + S1x1024.size a ≤ S1024x1024.size a := fun d0 v197 k0_t9 v845 k0_hw30 k0_h5 => k0_hw30 k0_h5

def k0_off68 (v843 : BitVec 32) : Fin 2 → Nat :=
  let c0_i32_649 : BitVec 32 := 0#32
  ![v843.toNat, 0]

def k0_chk31 (d0 : Dev nD) (v197 : BitVec 32) (k0_t9 : Fin (k0_t9_loop d0 v197).trips) (v843 : BitVec 32) : Prop :=
  (∀ (k0_h5 : k0_cond5 d0 v197 k0_t9 = 1#1), ∀ a, (k0_off68 v843) a + S1x1024.size a ≤ S8192x1024.size a)
theorem k0_off68_inb : ∀ (d0 : Dev nD) (v197 : BitVec 32) (k0_t9 : Fin (k0_t9_loop d0 v197).trips) (v843 : BitVec 32) (k0_hw31 : k0_chk31 d0 v197 k0_t9 v843), ∀ (k0_h5 : k0_cond5 d0 v197 k0_t9 = 1#1), ∀ a, (k0_off68 v843) a + S1x1024.size a ≤ S8192x1024.size a := fun d0 v197 k0_t9 v843 k0_hw31 k0_h5 => k0_hw31 k0_h5

def k0_off69 (d0 : Dev nD) (v197 : BitVec 32) (k0_t9 : Fin (k0_t9_loop d0 v197).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let c1_i32_124 : BitVec 32 := 1#32
  let arg14 : BitVec 32 := Scf.iv v195 c1_i32_124 k0_t9
  let v821 : Index := Scalar.indexCast arg14
  ![v821.toNat]
def k0_off70 (d0 : Dev nD) (v197 : BitVec 32) (k0_t9 : Fin (k0_t9_loop d0 v197).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let c1_i32_124 : BitVec 32 := 1#32
  let arg14 : BitVec 32 := Scf.iv v195 c1_i32_124 k0_t9
  let c128_i32_631 : BitVec 32 := 128#32
  let v825 : BitVec 32 := Scalar.muli v74 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v74.toNat, v836.toNat]
def k0_off71 (v824 : BitVec 32) : Fin 2 → Nat :=
  let c0_i32_638 : BitVec 32 := 0#32
  ![v824.toNat, 0]

def k0_chk32 (v824 : BitVec 32) : Prop :=
  (∀ a, (k0_off71 v824) a + S1x1024.size a ≤ S1024x1024.size a)
theorem k0_off71_inb : ∀ (v824 : BitVec 32) (k0_hw32 : k0_chk32 v824), ∀ a, (k0_off71 v824) a + S1x1024.size a ≤ S1024x1024.size a := fun v824 k0_hw32 => k0_hw32

def k0_off72 (v822 : BitVec 32) : Fin 2 → Nat :=
  let c0_i32_639 : BitVec 32 := 0#32
  ![v822.toNat, 0]

def k0_chk33 (v822 : BitVec 32) : Prop :=
  (∀ a, (k0_off72 v822) a + S1x1024.size a ≤ S8192x1024.size a)
theorem k0_off72_inb : ∀ (v822 : BitVec 32) (k0_hw33 : k0_chk33 v822), ∀ a, (k0_off72 v822) a + S1x1024.size a ≤ S8192x1024.size a := fun v822 k0_hw33 => k0_hw33

@[reducible] def k0_t10_loop (d0 : Dev nD) (v197 : BitVec 32) : Scf.Loop 32 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let v200 : BitVec 32 := Scalar.addi v195 v199
  let c1_i32_125 : BitVec 32 := 1#32
  ⟨v203, v200, c1_i32_125⟩
def k0_off73 (d0 : Dev nD) (v197 : BitVec 32) (k0_t10 : Fin (k0_t10_loop d0 v197).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_125 : BitVec 32 := 1#32
  let arg14 : BitVec 32 := Scf.iv v203 c1_i32_125 k0_t10
  let c16_i32_640 : BitVec 32 := 16#32
  let v841 : BitVec 32 := Scalar.subi arg14 c16_i32_640
  let v842 : Index := Scalar.indexCast v841
  ![v842.toNat]
def k0_cond6 (d0 : Dev nD) (v197 : BitVec 32) (k0_t10 : Fin (k0_t10_loop d0 v197).trips) : BitVec 1 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_125 : BitVec 32 := 1#32
  let arg14 : BitVec 32 := Scf.iv v203 c1_i32_125 k0_t10
  let v817 : BitVec 32 := Scalar.subi arg14 v195
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off74 (d0 : Dev nD) (v197 : BitVec 32) (k0_t10 : Fin (k0_t10_loop d0 v197).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_125 : BitVec 32 := 1#32
  let arg14 : BitVec 32 := Scf.iv v203 c1_i32_125 k0_t10
  let c16_i32_640 : BitVec 32 := 16#32
  let v841 : BitVec 32 := Scalar.subi arg14 c16_i32_640
  let c128_i32_641 : BitVec 32 := 128#32
  let v846 : BitVec 32 := Scalar.muli v74 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v74.toNat, v857.toNat]
def k0_off75 (v845 : BitVec 32) : Fin 2 → Nat :=
  let c0_i32_648 : BitVec 32 := 0#32
  ![v845.toNat, 0]

def k0_chk34 (d0 : Dev nD) (v197 : BitVec 32) (k0_t10 : Fin (k0_t10_loop d0 v197).trips) (v845 : BitVec 32) : Prop :=
  (∀ (k0_h6 : k0_cond6 d0 v197 k0_t10 = 1#1), ∀ a, (k0_off75 v845) a + S1x1024.size a ≤ S1024x1024.size a)
theorem k0_off75_inb : ∀ (d0 : Dev nD) (v197 : BitVec 32) (k0_t10 : Fin (k0_t10_loop d0 v197).trips) (v845 : BitVec 32) (k0_hw34 : k0_chk34 d0 v197 k0_t10 v845), ∀ (k0_h6 : k0_cond6 d0 v197 k0_t10 = 1#1), ∀ a, (k0_off75 v845) a + S1x1024.size a ≤ S1024x1024.size a := fun d0 v197 k0_t10 v845 k0_hw34 k0_h6 => k0_hw34 k0_h6

def k0_off76 (v843 : BitVec 32) : Fin 2 → Nat :=
  let c0_i32_649 : BitVec 32 := 0#32
  ![v843.toNat, 0]

def k0_chk35 (d0 : Dev nD) (v197 : BitVec 32) (k0_t10 : Fin (k0_t10_loop d0 v197).trips) (v843 : BitVec 32) : Prop :=
  (∀ (k0_h6 : k0_cond6 d0 v197 k0_t10 = 1#1), ∀ a, (k0_off76 v843) a + S1x1024.size a ≤ S8192x1024.size a)
theorem k0_off76_inb : ∀ (d0 : Dev nD) (v197 : BitVec 32) (k0_t10 : Fin (k0_t10_loop d0 v197).trips) (v843 : BitVec 32) (k0_hw35 : k0_chk35 d0 v197 k0_t10 v843), ∀ (k0_h6 : k0_cond6 d0 v197 k0_t10 = 1#1), ∀ a, (k0_off76 v843) a + S1x1024.size a ≤ S8192x1024.size a := fun d0 v197 k0_t10 v843 k0_hw35 k0_h6 => k0_hw35 k0_h6

def k0_off77 (d0 : Dev nD) (v197 : BitVec 32) (k0_t10 : Fin (k0_t10_loop d0 v197).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_125 : BitVec 32 := 1#32
  let arg14 : BitVec 32 := Scf.iv v203 c1_i32_125 k0_t10
  let v821 : Index := Scalar.indexCast arg14
  ![v821.toNat]
def k0_off78 (d0 : Dev nD) (v197 : BitVec 32) (k0_t10 : Fin (k0_t10_loop d0 v197).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_121 : BitVec 32 := 128#32
  let v195 : BitVec 32 := Scalar.muli v74 c128_i32_121
  let v198 : BitVec 32 := Scalar.addi v195 v197
  let v199 : BitVec 32 := Scalar.subi v198 v195
  let c1_i32_123 : BitVec 32 := 1#32
  let v201 : BitVec 32 := Scalar.divsi v199 c1_i32_123
  let v202 : BitVec 32 := Scalar.muli v201 c1_i32_123
  let v203 : BitVec 32 := Scalar.addi v195 v202
  let c1_i32_125 : BitVec 32 := 1#32
  let arg14 : BitVec 32 := Scf.iv v203 c1_i32_125 k0_t10
  let c128_i32_631 : BitVec 32 := 128#32
  let v825 : BitVec 32 := Scalar.muli v74 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v74.toNat, v836.toNat]

def k0_chk29 (d0 : Dev nD) (v197 : BitVec 32) : Prop :=
  ((k0_t9_loop d0 v197).OK) ∧
  (∀ k0_t9 : Fin (k0_t9_loop d0 v197).trips, ∀ (k0_h5 : k0_cond5 d0 v197 k0_t9 = 1#1), ∀ a, (k0_off65 d0 v197 k0_t9) a + S1.size a ≤ S1024.size a) ∧
  (∀ k0_t9 : Fin (k0_t9_loop d0 v197).trips, ∀ (k0_h5 : k0_cond5 d0 v197 k0_t9 = 1#1), ∀ a, (k0_off66 d0 v197 k0_t9) a + S1x1.size a ≤ S8x16.size a) ∧
  (∀ k0_t9 : Fin (k0_t9_loop d0 v197).trips, ∀ a, (k0_off69 d0 v197 k0_t9) a + S1.size a ≤ S1024.size a) ∧
  (∀ k0_t9 : Fin (k0_t9_loop d0 v197).trips, ∀ a, (k0_off70 d0 v197 k0_t9) a + S1x1.size a ≤ S8x16.size a) ∧
  ((k0_t10_loop d0 v197).OK) ∧
  (∀ k0_t10 : Fin (k0_t10_loop d0 v197).trips, ∀ (k0_h6 : k0_cond6 d0 v197 k0_t10 = 1#1), ∀ a, (k0_off73 d0 v197 k0_t10) a + S1.size a ≤ S1024.size a) ∧
  (∀ k0_t10 : Fin (k0_t10_loop d0 v197).trips, ∀ (k0_h6 : k0_cond6 d0 v197 k0_t10 = 1#1), ∀ a, (k0_off74 d0 v197 k0_t10) a + S1x1.size a ≤ S8x16.size a) ∧
  (∀ k0_t10 : Fin (k0_t10_loop d0 v197).trips, ∀ a, (k0_off77 d0 v197 k0_t10) a + S1.size a ≤ S1024.size a) ∧
  (∀ k0_t10 : Fin (k0_t10_loop d0 v197).trips, ∀ a, (k0_off78 d0 v197 k0_t10) a + S1x1.size a ≤ S8x16.size a)
theorem k0_t9_ok : ∀ (d0 : Dev nD) (v197 : BitVec 32) (k0_hw29 : k0_chk29 d0 v197), (k0_t9_loop d0 v197).OK := fun d0 v197 k0_hw29 => k0_hw29.1
theorem k0_off65_inb : ∀ (d0 : Dev nD) (v197 : BitVec 32) (k0_hw29 : k0_chk29 d0 v197) (k0_t9 : Fin (k0_t9_loop d0 v197).trips), ∀ (k0_h5 : k0_cond5 d0 v197 k0_t9 = 1#1), ∀ a, (k0_off65 d0 v197 k0_t9) a + S1.size a ≤ S1024.size a := fun d0 v197 k0_hw29 k0_t9 k0_h5 => k0_hw29.2.1 k0_t9 k0_h5
theorem k0_off66_inb : ∀ (d0 : Dev nD) (v197 : BitVec 32) (k0_hw29 : k0_chk29 d0 v197) (k0_t9 : Fin (k0_t9_loop d0 v197).trips), ∀ (k0_h5 : k0_cond5 d0 v197 k0_t9 = 1#1), ∀ a, (k0_off66 d0 v197 k0_t9) a + S1x1.size a ≤ S8x16.size a := fun d0 v197 k0_hw29 k0_t9 k0_h5 => k0_hw29.2.2.1 k0_t9 k0_h5
theorem k0_off69_inb : ∀ (d0 : Dev nD) (v197 : BitVec 32) (k0_hw29 : k0_chk29 d0 v197) (k0_t9 : Fin (k0_t9_loop d0 v197).trips), ∀ a, (k0_off69 d0 v197 k0_t9) a + S1.size a ≤ S1024.size a := fun d0 v197 k0_hw29 k0_t9 => k0_hw29.2.2.2.1 k0_t9
theorem k0_off70_inb : ∀ (d0 : Dev nD) (v197 : BitVec 32) (k0_hw29 : k0_chk29 d0 v197) (k0_t9 : Fin (k0_t9_loop d0 v197).trips), ∀ a, (k0_off70 d0 v197 k0_t9) a + S1x1.size a ≤ S8x16.size a := fun d0 v197 k0_hw29 k0_t9 => k0_hw29.2.2.2.2.1 k0_t9
theorem k0_t10_ok : ∀ (d0 : Dev nD) (v197 : BitVec 32) (k0_hw29 : k0_chk29 d0 v197), (k0_t10_loop d0 v197).OK := fun d0 v197 k0_hw29 => k0_hw29.2.2.2.2.2.1
theorem k0_off73_inb : ∀ (d0 : Dev nD) (v197 : BitVec 32) (k0_hw29 : k0_chk29 d0 v197) (k0_t10 : Fin (k0_t10_loop d0 v197).trips), ∀ (k0_h6 : k0_cond6 d0 v197 k0_t10 = 1#1), ∀ a, (k0_off73 d0 v197 k0_t10) a + S1.size a ≤ S1024.size a := fun d0 v197 k0_hw29 k0_t10 k0_h6 => k0_hw29.2.2.2.2.2.2.1 k0_t10 k0_h6
theorem k0_off74_inb : ∀ (d0 : Dev nD) (v197 : BitVec 32) (k0_hw29 : k0_chk29 d0 v197) (k0_t10 : Fin (k0_t10_loop d0 v197).trips), ∀ (k0_h6 : k0_cond6 d0 v197 k0_t10 = 1#1), ∀ a, (k0_off74 d0 v197 k0_t10) a + S1x1.size a ≤ S8x16.size a := fun d0 v197 k0_hw29 k0_t10 k0_h6 => k0_hw29.2.2.2.2.2.2.2.1 k0_t10 k0_h6
theorem k0_off77_inb : ∀ (d0 : Dev nD) (v197 : BitVec 32) (k0_hw29 : k0_chk29 d0 v197) (k0_t10 : Fin (k0_t10_loop d0 v197).trips), ∀ a, (k0_off77 d0 v197 k0_t10) a + S1.size a ≤ S1024.size a := fun d0 v197 k0_hw29 k0_t10 => k0_hw29.2.2.2.2.2.2.2.2.1 k0_t10
theorem k0_off78_inb : ∀ (d0 : Dev nD) (v197 : BitVec 32) (k0_hw29 : k0_chk29 d0 v197) (k0_t10 : Fin (k0_t10_loop d0 v197).trips), ∀ a, (k0_off78 d0 v197 k0_t10) a + S1x1.size a ≤ S8x16.size a := fun d0 v197 k0_hw29 k0_t10 => k0_hw29.2.2.2.2.2.2.2.2.2 k0_t10

def k0_off79 (v824 : BitVec 32) : Fin 2 → Nat :=
  let c0_i32_638 : BitVec 32 := 0#32
  ![v824.toNat, 0]

def k0_chk36 (v824 : BitVec 32) : Prop :=
  (∀ a, (k0_off79 v824) a + S1x1024.size a ≤ S1024x1024.size a)
theorem k0_off79_inb : ∀ (v824 : BitVec 32) (k0_hw36 : k0_chk36 v824), ∀ a, (k0_off79 v824) a + S1x1024.size a ≤ S1024x1024.size a := fun v824 k0_hw36 => k0_hw36

def k0_off80 (v822 : BitVec 32) : Fin 2 → Nat :=
  let c0_i32_639 : BitVec 32 := 0#32
  ![v822.toNat, 0]

def k0_chk37 (v822 : BitVec 32) : Prop :=
  (∀ a, (k0_off80 v822) a + S1x1024.size a ≤ S8192x1024.size a)
theorem k0_off80_inb : ∀ (v822 : BitVec 32) (k0_hw37 : k0_chk37 v822), ∀ a, (k0_off80 v822) a + S1x1024.size a ≤ S8192x1024.size a := fun v822 k0_hw37 => k0_hw37

def k0_off81 (d0 : Dev nD) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_127 : BitVec 32 := 128#32
  let v205 : BitVec 32 := Scalar.muli v83 c128_i32_127
  let v206 : Index := Scalar.indexCast v205
  let c0_128 : Index := 0#32
  ![v206.toNat, 0]
def k0_off82 (d0 : Dev nD) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let v209 : Index := Scalar.indexCast v74
  ![v209.toNat]
@[reducible] def k0_t11_loop (d0 : Dev nD) (v210 : BitVec 32) : Scf.Loop 32 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let v214 : BitVec 32 := Scalar.subi v211 v213
  let c1_i32_132 : BitVec 32 := 1#32
  let v216 : BitVec 32 := Scalar.divsi v214 c1_i32_132
  let v217 : BitVec 32 := Scalar.muli v216 c1_i32_132
  let v218 : BitVec 32 := Scalar.addi v213 v217
  let c1_i32_133 : BitVec 32 := 1#32
  ⟨v213, v218, c1_i32_133⟩

def k0_off83 (d0 : Dev nD) (v210 : BitVec 32) (k0_t11 : Fin (k0_t11_loop d0 v210).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let c1_i32_133 : BitVec 32 := 1#32
  let arg14 : BitVec 32 := Scf.iv v213 c1_i32_133 k0_t11
  let v817 : Index := Scalar.indexCast arg14
  ![v817.toNat]
def k0_off84 (d0 : Dev nD) (v210 : BitVec 32) (k0_t11 : Fin (k0_t11_loop d0 v210).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let c1_i32_133 : BitVec 32 := 1#32
  let arg14 : BitVec 32 := Scf.iv v213 c1_i32_133 k0_t11
  let c128_i32_629 : BitVec 32 := 128#32
  let v821 : BitVec 32 := Scalar.muli v74 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v74.toNat, v832.toNat]
def k0_off85 (v820 : BitVec 32) : Fin 2 → Nat :=
  let c0_i32_636 : BitVec 32 := 0#32
  ![v820.toNat, 0]

def k0_chk39 (v820 : BitVec 32) : Prop :=
  (∀ a, (k0_off85 v820) a + S1x1024.size a ≤ S1024x1024.size a)
theorem k0_off85_inb : ∀ (v820 : BitVec 32) (k0_hw39 : k0_chk39 v820), ∀ a, (k0_off85 v820) a + S1x1024.size a ≤ S1024x1024.size a := fun v820 k0_hw39 => k0_hw39

def k0_off86 (v818 : BitVec 32) : Fin 2 → Nat :=
  let c0_i32_637 : BitVec 32 := 0#32
  ![v818.toNat, 0]

def k0_chk40 (v818 : BitVec 32) : Prop :=
  (∀ a, (k0_off86 v818) a + S1x1024.size a ≤ S8192x1024.size a)
theorem k0_off86_inb : ∀ (v818 : BitVec 32) (k0_hw40 : k0_chk40 v818), ∀ a, (k0_off86 v818) a + S1x1024.size a ≤ S8192x1024.size a := fun v818 k0_hw40 => k0_hw40

@[reducible] def k0_t12_loop (d0 : Dev nD) (v210 : BitVec 32) : Scf.Loop 32 :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let v214 : BitVec 32 := Scalar.subi v211 v213
  let c1_i32_132 : BitVec 32 := 1#32
  let v216 : BitVec 32 := Scalar.divsi v214 c1_i32_132
  let v217 : BitVec 32 := Scalar.muli v216 c1_i32_132
  let v218 : BitVec 32 := Scalar.addi v213 v217
  let v215 : BitVec 32 := Scalar.addi v213 v214
  let c1_i32_134 : BitVec 32 := 1#32
  ⟨v218, v215, c1_i32_134⟩
def k0_off87 (d0 : Dev nD) (v210 : BitVec 32) (k0_t12 : Fin (k0_t12_loop d0 v210).trips) : Fin 1 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let v214 : BitVec 32 := Scalar.subi v211 v213
  let c1_i32_132 : BitVec 32 := 1#32
  let v216 : BitVec 32 := Scalar.divsi v214 c1_i32_132
  let v217 : BitVec 32 := Scalar.muli v216 c1_i32_132
  let v218 : BitVec 32 := Scalar.addi v213 v217
  let c1_i32_134 : BitVec 32 := 1#32
  let arg14 : BitVec 32 := Scf.iv v218 c1_i32_134 k0_t12
  let v817 : Index := Scalar.indexCast arg14
  ![v817.toNat]
def k0_off88 (d0 : Dev nD) (v210 : BitVec 32) (k0_t12 : Fin (k0_t12_loop d0 v210).trips) : Fin 2 → Nat :=
  let c2_i32_41 : BitVec 32 := 2#32
  let c1_i32_40 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v72 : BitVec 32 := Scalar.subi c1_i32_40 v40
  let v73 : BitVec 32 := Scalar.muli c2_i32_41 v72
  let v74 : BitVec 32 := Scalar.addi v73 v29
  let c128_i32_129 : BitVec 32 := 128#32
  let v208 : BitVec 32 := Scalar.muli v74 c128_i32_129
  let v211 : BitVec 32 := Scalar.addi v208 v210
  let c16_i32_130 : BitVec 32 := 16#32
  let v212 : BitVec 32 := Scalar.subi v211 c16_i32_130
  let v213 : BitVec 32 := Scalar.maxsi v212 v208
  let v214 : BitVec 32 := Scalar.subi v211 v213
  let c1_i32_132 : BitVec 32 := 1#32
  let v216 : BitVec 32 := Scalar.divsi v214 c1_i32_132
  let v217 : BitVec 32 := Scalar.muli v216 c1_i32_132
  let v218 : BitVec 32 := Scalar.addi v213 v217
  let c1_i32_134 : BitVec 32 := 1#32
  let arg14 : BitVec 32 := Scf.iv v218 c1_i32_134 k0_t12
  let c128_i32_629 : BitVec 32 := 128#32
  let v821 : BitVec 32 := Scalar.muli v74 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v74.toNat, v832.toNat]

def k0_chk38 (d0 : Dev nD) (v210 : BitVec 32) : Prop :=
  ((k0_t11_loop d0 v210).OK) ∧
  (∀ k0_t11 : Fin (k0_t11_loop d0 v210).trips, ∀ a, (k0_off83 d0 v210 k0_t11) a + S1.size a ≤ S1024.size a) ∧
  (∀ k0_t11 : Fin (k0_t11_loop d0 v210).trips, ∀ a, (k0_off84 d0 v210 k0_t11) a + S1x1.size a ≤ S8x16.size a) ∧
  ((k0_t12_loop d0 v210).OK) ∧
  (∀ k0_t12 : Fin (k0_t12_loop d0 v210).trips, ∀ a, (k0_off87 d0 v210 k0_t12) a + S1.size a ≤ S1024.size a) ∧
  (∀ k0_t12 : Fin (k0_t12_loop d0 v210).trips, ∀ a, (k0_off88 d0 v210 k0_t12) a + S1x1.size a ≤ S8x16.size a)
theorem k0_t11_ok : ∀ (d0 : Dev nD) (v210 : BitVec 32) (k0_hw38 : k0_chk38 d0 v210), (k0_t11_loop d0 v210).OK := fun d0 v210 k0_hw38 => k0_hw38.1
theorem k0_off83_inb : ∀ (d0 : Dev nD) (v210 : BitVec 32) (k0_hw38 : k0_chk38 d0 v210) (k0_t11 : Fin (k0_t11_loop d0 v210).trips), ∀ a, (k0_off83 d0 v210 k0_t11) a + S1.size a ≤ S1024.size a := fun d0 v210 k0_hw38 k0_t11 => k0_hw38.2.1 k0_t11
theorem k0_off84_inb : ∀ (d0 : Dev nD) (v210 : BitVec 32) (k0_hw38 : k0_chk38 d0 v210) (k0_t11 : Fin (k0_t11_loop d0 v210).trips), ∀ a, (k0_off84 d0 v210 k0_t11) a + S1x1.size a ≤ S8x16.size a := fun d0 v210 k0_hw38 k0_t11 => k0_hw38.2.2.1 k0_t11
theorem k0_t12_ok : ∀ (d0 : Dev nD) (v210 : BitVec 32) (k0_hw38 : k0_chk38 d0 v210), (k0_t12_loop d0 v210).OK := fun d0 v210 k0_hw38 => k0_hw38.2.2.2.1
theorem k0_off87_inb : ∀ (d0 : Dev nD) (v210 : BitVec 32) (k0_hw38 : k0_chk38 d0 v210) (k0_t12 : Fin (k0_t12_loop d0 v210).trips), ∀ a, (k0_off87 d0 v210 k0_t12) a + S1.size a ≤ S1024.size a := fun d0 v210 k0_hw38 k0_t12 => k0_hw38.2.2.2.2.1 k0_t12
theorem k0_off88_inb : ∀ (d0 : Dev nD) (v210 : BitVec 32) (k0_hw38 : k0_chk38 d0 v210) (k0_t12 : Fin (k0_t12_loop d0 v210).trips), ∀ a, (k0_off88 d0 v210 k0_t12) a + S1x1.size a ≤ S8x16.size a := fun d0 v210 k0_hw38 k0_t12 => k0_hw38.2.2.2.2.2 k0_t12

def k0_off89 (v820 : BitVec 32) : Fin 2 → Nat :=
  let c0_i32_636 : BitVec 32 := 0#32
  ![v820.toNat, 0]

def k0_chk41 (v820 : BitVec 32) : Prop :=
  (∀ a, (k0_off89 v820) a + S1x1024.size a ≤ S1024x1024.size a)
theorem k0_off89_inb : ∀ (v820 : BitVec 32) (k0_hw41 : k0_chk41 v820), ∀ a, (k0_off89 v820) a + S1x1024.size a ≤ S1024x1024.size a := fun v820 k0_hw41 => k0_hw41

def k0_off90 (v818 : BitVec 32) : Fin 2 → Nat :=
  let c0_i32_637 : BitVec 32 := 0#32
  ![v818.toNat, 0]

def k0_chk42 (v818 : BitVec 32) : Prop :=
  (∀ a, (k0_off90 v818) a + S1x1024.size a ≤ S8192x1024.size a)
theorem k0_off90_inb : ∀ (v818 : BitVec 32) (k0_hw42 : k0_chk42 v818), ∀ a, (k0_off90 v818) a + S1x1024.size a ≤ S8192x1024.size a := fun v818 k0_hw42 => k0_hw42

def k0_off91 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c128_i32_136 : BitVec 32 := 128#32
  let v221 : BitVec 32 := Scalar.muli v29 c128_i32_136
  let c0_i32_141 : BitVec 32 := 0#32
  ![v221.toNat, 0]
def k0_off92 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c128_i32_135 : BitVec 32 := 128#32
  let v219 : BitVec 32 := Scalar.muli v29 c128_i32_135
  let v220 : BitVec 32 := Scalar.addi v51 v219
  let c0_i32_142 : BitVec 32 := 0#32
  ![v220.toNat, 0]
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_139 : BitVec 32 := 1#32
  let v222 : BitVec 32 := Scalar.muli v43 c1_i32_139
  let v223 : BitVec 32 := Scalar.addi c0_i32_140 v222
  v223.toNat
def k0_off93 (d0 : Dev nD) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let v231 : Index := Scalar.indexCast v83
  ![v231.toNat]
@[reducible] def k0_t13_loop (d0 : Dev nD) (v232 : BitVec 32) : Scf.Loop 32 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_146 : BitVec 32 := 1#32
  ⟨v230, v238, c1_i32_146⟩

def k0_cond7 (d0 : Dev nD) (v232 : BitVec 32) (k0_t13 : Fin (k0_t13_loop d0 v232).trips) : BitVec 1 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let c1_i32_146 : BitVec 32 := 1#32
  let arg14 : BitVec 32 := Scf.iv v230 c1_i32_146 k0_t13
  let v817 : BitVec 32 := Scalar.subi arg14 v230
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off94 (d0 : Dev nD) (v232 : BitVec 32) (k0_t13 : Fin (k0_t13_loop d0 v232).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let c1_i32_146 : BitVec 32 := 1#32
  let arg14 : BitVec 32 := Scf.iv v230 c1_i32_146 k0_t13
  let c16_i32_640 : BitVec 32 := 16#32
  let v841 : BitVec 32 := Scalar.subi arg14 c16_i32_640
  let v842 : Index := Scalar.indexCast v841
  ![v842.toNat]
def k0_off95 (d0 : Dev nD) (v232 : BitVec 32) (k0_t13 : Fin (k0_t13_loop d0 v232).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let c1_i32_146 : BitVec 32 := 1#32
  let arg14 : BitVec 32 := Scf.iv v230 c1_i32_146 k0_t13
  let c16_i32_640 : BitVec 32 := 16#32
  let v841 : BitVec 32 := Scalar.subi arg14 c16_i32_640
  let c128_i32_641 : BitVec 32 := 128#32
  let v846 : BitVec 32 := Scalar.muli v83 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v83.toNat, v857.toNat]
def k0_off96 (v845 : BitVec 32) : Fin 2 → Nat :=
  let c0_i32_648 : BitVec 32 := 0#32
  ![v845.toNat, 0]

def k0_chk44 (d0 : Dev nD) (v232 : BitVec 32) (k0_t13 : Fin (k0_t13_loop d0 v232).trips) (v845 : BitVec 32) : Prop :=
  (∀ (k0_h7 : k0_cond7 d0 v232 k0_t13 = 1#1), ∀ a, (k0_off96 v845) a + S1x1024.size a ≤ S1024x1024.size a)
theorem k0_off96_inb : ∀ (d0 : Dev nD) (v232 : BitVec 32) (k0_t13 : Fin (k0_t13_loop d0 v232).trips) (v845 : BitVec 32) (k0_hw44 : k0_chk44 d0 v232 k0_t13 v845), ∀ (k0_h7 : k0_cond7 d0 v232 k0_t13 = 1#1), ∀ a, (k0_off96 v845) a + S1x1024.size a ≤ S1024x1024.size a := fun d0 v232 k0_t13 v845 k0_hw44 k0_h7 => k0_hw44 k0_h7

def k0_off97 (v843 : BitVec 32) : Fin 2 → Nat :=
  let c0_i32_649 : BitVec 32 := 0#32
  ![v843.toNat, 0]

def k0_chk45 (d0 : Dev nD) (v232 : BitVec 32) (k0_t13 : Fin (k0_t13_loop d0 v232).trips) (v843 : BitVec 32) : Prop :=
  (∀ (k0_h7 : k0_cond7 d0 v232 k0_t13 = 1#1), ∀ a, (k0_off97 v843) a + S1x1024.size a ≤ S8192x1024.size a)
theorem k0_off97_inb : ∀ (d0 : Dev nD) (v232 : BitVec 32) (k0_t13 : Fin (k0_t13_loop d0 v232).trips) (v843 : BitVec 32) (k0_hw45 : k0_chk45 d0 v232 k0_t13 v843), ∀ (k0_h7 : k0_cond7 d0 v232 k0_t13 = 1#1), ∀ a, (k0_off97 v843) a + S1x1024.size a ≤ S8192x1024.size a := fun d0 v232 k0_t13 v843 k0_hw45 k0_h7 => k0_hw45 k0_h7

def k0_off98 (d0 : Dev nD) (v232 : BitVec 32) (k0_t13 : Fin (k0_t13_loop d0 v232).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let c1_i32_146 : BitVec 32 := 1#32
  let arg14 : BitVec 32 := Scf.iv v230 c1_i32_146 k0_t13
  let v821 : Index := Scalar.indexCast arg14
  ![v821.toNat]
def k0_off99 (d0 : Dev nD) (v232 : BitVec 32) (k0_t13 : Fin (k0_t13_loop d0 v232).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let c1_i32_146 : BitVec 32 := 1#32
  let arg14 : BitVec 32 := Scf.iv v230 c1_i32_146 k0_t13
  let c128_i32_631 : BitVec 32 := 128#32
  let v825 : BitVec 32 := Scalar.muli v83 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v83.toNat, v836.toNat]
def k0_off100 (v824 : BitVec 32) : Fin 2 → Nat :=
  let c0_i32_638 : BitVec 32 := 0#32
  ![v824.toNat, 0]

def k0_chk46 (v824 : BitVec 32) : Prop :=
  (∀ a, (k0_off100 v824) a + S1x1024.size a ≤ S1024x1024.size a)
theorem k0_off100_inb : ∀ (v824 : BitVec 32) (k0_hw46 : k0_chk46 v824), ∀ a, (k0_off100 v824) a + S1x1024.size a ≤ S1024x1024.size a := fun v824 k0_hw46 => k0_hw46

def k0_off101 (v822 : BitVec 32) : Fin 2 → Nat :=
  let c0_i32_639 : BitVec 32 := 0#32
  ![v822.toNat, 0]

def k0_chk47 (v822 : BitVec 32) : Prop :=
  (∀ a, (k0_off101 v822) a + S1x1024.size a ≤ S8192x1024.size a)
theorem k0_off101_inb : ∀ (v822 : BitVec 32) (k0_hw47 : k0_chk47 v822), ∀ a, (k0_off101 v822) a + S1x1024.size a ≤ S8192x1024.size a := fun v822 k0_hw47 => k0_hw47

@[reducible] def k0_t14_loop (d0 : Dev nD) (v232 : BitVec 32) : Scf.Loop 32 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let v235 : BitVec 32 := Scalar.addi v230 v234
  let c1_i32_147 : BitVec 32 := 1#32
  ⟨v238, v235, c1_i32_147⟩
def k0_off102 (d0 : Dev nD) (v232 : BitVec 32) (k0_t14 : Fin (k0_t14_loop d0 v232).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_147 : BitVec 32 := 1#32
  let arg14 : BitVec 32 := Scf.iv v238 c1_i32_147 k0_t14
  let c16_i32_640 : BitVec 32 := 16#32
  let v841 : BitVec 32 := Scalar.subi arg14 c16_i32_640
  let v842 : Index := Scalar.indexCast v841
  ![v842.toNat]
def k0_cond8 (d0 : Dev nD) (v232 : BitVec 32) (k0_t14 : Fin (k0_t14_loop d0 v232).trips) : BitVec 1 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_147 : BitVec 32 := 1#32
  let arg14 : BitVec 32 := Scf.iv v238 c1_i32_147 k0_t14
  let v817 : BitVec 32 := Scalar.subi arg14 v230
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off103 (d0 : Dev nD) (v232 : BitVec 32) (k0_t14 : Fin (k0_t14_loop d0 v232).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_147 : BitVec 32 := 1#32
  let arg14 : BitVec 32 := Scf.iv v238 c1_i32_147 k0_t14
  let c16_i32_640 : BitVec 32 := 16#32
  let v841 : BitVec 32 := Scalar.subi arg14 c16_i32_640
  let c128_i32_641 : BitVec 32 := 128#32
  let v846 : BitVec 32 := Scalar.muli v83 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v83.toNat, v857.toNat]
def k0_off104 (v845 : BitVec 32) : Fin 2 → Nat :=
  let c0_i32_648 : BitVec 32 := 0#32
  ![v845.toNat, 0]

def k0_chk48 (d0 : Dev nD) (v232 : BitVec 32) (k0_t14 : Fin (k0_t14_loop d0 v232).trips) (v845 : BitVec 32) : Prop :=
  (∀ (k0_h8 : k0_cond8 d0 v232 k0_t14 = 1#1), ∀ a, (k0_off104 v845) a + S1x1024.size a ≤ S1024x1024.size a)
theorem k0_off104_inb : ∀ (d0 : Dev nD) (v232 : BitVec 32) (k0_t14 : Fin (k0_t14_loop d0 v232).trips) (v845 : BitVec 32) (k0_hw48 : k0_chk48 d0 v232 k0_t14 v845), ∀ (k0_h8 : k0_cond8 d0 v232 k0_t14 = 1#1), ∀ a, (k0_off104 v845) a + S1x1024.size a ≤ S1024x1024.size a := fun d0 v232 k0_t14 v845 k0_hw48 k0_h8 => k0_hw48 k0_h8

def k0_off105 (v843 : BitVec 32) : Fin 2 → Nat :=
  let c0_i32_649 : BitVec 32 := 0#32
  ![v843.toNat, 0]

def k0_chk49 (d0 : Dev nD) (v232 : BitVec 32) (k0_t14 : Fin (k0_t14_loop d0 v232).trips) (v843 : BitVec 32) : Prop :=
  (∀ (k0_h8 : k0_cond8 d0 v232 k0_t14 = 1#1), ∀ a, (k0_off105 v843) a + S1x1024.size a ≤ S8192x1024.size a)
theorem k0_off105_inb : ∀ (d0 : Dev nD) (v232 : BitVec 32) (k0_t14 : Fin (k0_t14_loop d0 v232).trips) (v843 : BitVec 32) (k0_hw49 : k0_chk49 d0 v232 k0_t14 v843), ∀ (k0_h8 : k0_cond8 d0 v232 k0_t14 = 1#1), ∀ a, (k0_off105 v843) a + S1x1024.size a ≤ S8192x1024.size a := fun d0 v232 k0_t14 v843 k0_hw49 k0_h8 => k0_hw49 k0_h8

def k0_off106 (d0 : Dev nD) (v232 : BitVec 32) (k0_t14 : Fin (k0_t14_loop d0 v232).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_147 : BitVec 32 := 1#32
  let arg14 : BitVec 32 := Scf.iv v238 c1_i32_147 k0_t14
  let v821 : Index := Scalar.indexCast arg14
  ![v821.toNat]
def k0_off107 (d0 : Dev nD) (v232 : BitVec 32) (k0_t14 : Fin (k0_t14_loop d0 v232).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_143 : BitVec 32 := 128#32
  let v230 : BitVec 32 := Scalar.muli v83 c128_i32_143
  let v233 : BitVec 32 := Scalar.addi v230 v232
  let v234 : BitVec 32 := Scalar.subi v233 v230
  let c1_i32_145 : BitVec 32 := 1#32
  let v236 : BitVec 32 := Scalar.divsi v234 c1_i32_145
  let v237 : BitVec 32 := Scalar.muli v236 c1_i32_145
  let v238 : BitVec 32 := Scalar.addi v230 v237
  let c1_i32_147 : BitVec 32 := 1#32
  let arg14 : BitVec 32 := Scf.iv v238 c1_i32_147 k0_t14
  let c128_i32_631 : BitVec 32 := 128#32
  let v825 : BitVec 32 := Scalar.muli v83 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v83.toNat, v836.toNat]

def k0_chk43 (d0 : Dev nD) (v232 : BitVec 32) : Prop :=
  ((k0_t13_loop d0 v232).OK) ∧
  (∀ k0_t13 : Fin (k0_t13_loop d0 v232).trips, ∀ (k0_h7 : k0_cond7 d0 v232 k0_t13 = 1#1), ∀ a, (k0_off94 d0 v232 k0_t13) a + S1.size a ≤ S1024.size a) ∧
  (∀ k0_t13 : Fin (k0_t13_loop d0 v232).trips, ∀ (k0_h7 : k0_cond7 d0 v232 k0_t13 = 1#1), ∀ a, (k0_off95 d0 v232 k0_t13) a + S1x1.size a ≤ S8x16.size a) ∧
  (∀ k0_t13 : Fin (k0_t13_loop d0 v232).trips, ∀ a, (k0_off98 d0 v232 k0_t13) a + S1.size a ≤ S1024.size a) ∧
  (∀ k0_t13 : Fin (k0_t13_loop d0 v232).trips, ∀ a, (k0_off99 d0 v232 k0_t13) a + S1x1.size a ≤ S8x16.size a) ∧
  ((k0_t14_loop d0 v232).OK) ∧
  (∀ k0_t14 : Fin (k0_t14_loop d0 v232).trips, ∀ (k0_h8 : k0_cond8 d0 v232 k0_t14 = 1#1), ∀ a, (k0_off102 d0 v232 k0_t14) a + S1.size a ≤ S1024.size a) ∧
  (∀ k0_t14 : Fin (k0_t14_loop d0 v232).trips, ∀ (k0_h8 : k0_cond8 d0 v232 k0_t14 = 1#1), ∀ a, (k0_off103 d0 v232 k0_t14) a + S1x1.size a ≤ S8x16.size a) ∧
  (∀ k0_t14 : Fin (k0_t14_loop d0 v232).trips, ∀ a, (k0_off106 d0 v232 k0_t14) a + S1.size a ≤ S1024.size a) ∧
  (∀ k0_t14 : Fin (k0_t14_loop d0 v232).trips, ∀ a, (k0_off107 d0 v232 k0_t14) a + S1x1.size a ≤ S8x16.size a)
theorem k0_t13_ok : ∀ (d0 : Dev nD) (v232 : BitVec 32) (k0_hw43 : k0_chk43 d0 v232), (k0_t13_loop d0 v232).OK := fun d0 v232 k0_hw43 => k0_hw43.1
theorem k0_off94_inb : ∀ (d0 : Dev nD) (v232 : BitVec 32) (k0_hw43 : k0_chk43 d0 v232) (k0_t13 : Fin (k0_t13_loop d0 v232).trips), ∀ (k0_h7 : k0_cond7 d0 v232 k0_t13 = 1#1), ∀ a, (k0_off94 d0 v232 k0_t13) a + S1.size a ≤ S1024.size a := fun d0 v232 k0_hw43 k0_t13 k0_h7 => k0_hw43.2.1 k0_t13 k0_h7
theorem k0_off95_inb : ∀ (d0 : Dev nD) (v232 : BitVec 32) (k0_hw43 : k0_chk43 d0 v232) (k0_t13 : Fin (k0_t13_loop d0 v232).trips), ∀ (k0_h7 : k0_cond7 d0 v232 k0_t13 = 1#1), ∀ a, (k0_off95 d0 v232 k0_t13) a + S1x1.size a ≤ S8x16.size a := fun d0 v232 k0_hw43 k0_t13 k0_h7 => k0_hw43.2.2.1 k0_t13 k0_h7
theorem k0_off98_inb : ∀ (d0 : Dev nD) (v232 : BitVec 32) (k0_hw43 : k0_chk43 d0 v232) (k0_t13 : Fin (k0_t13_loop d0 v232).trips), ∀ a, (k0_off98 d0 v232 k0_t13) a + S1.size a ≤ S1024.size a := fun d0 v232 k0_hw43 k0_t13 => k0_hw43.2.2.2.1 k0_t13
theorem k0_off99_inb : ∀ (d0 : Dev nD) (v232 : BitVec 32) (k0_hw43 : k0_chk43 d0 v232) (k0_t13 : Fin (k0_t13_loop d0 v232).trips), ∀ a, (k0_off99 d0 v232 k0_t13) a + S1x1.size a ≤ S8x16.size a := fun d0 v232 k0_hw43 k0_t13 => k0_hw43.2.2.2.2.1 k0_t13
theorem k0_t14_ok : ∀ (d0 : Dev nD) (v232 : BitVec 32) (k0_hw43 : k0_chk43 d0 v232), (k0_t14_loop d0 v232).OK := fun d0 v232 k0_hw43 => k0_hw43.2.2.2.2.2.1
theorem k0_off102_inb : ∀ (d0 : Dev nD) (v232 : BitVec 32) (k0_hw43 : k0_chk43 d0 v232) (k0_t14 : Fin (k0_t14_loop d0 v232).trips), ∀ (k0_h8 : k0_cond8 d0 v232 k0_t14 = 1#1), ∀ a, (k0_off102 d0 v232 k0_t14) a + S1.size a ≤ S1024.size a := fun d0 v232 k0_hw43 k0_t14 k0_h8 => k0_hw43.2.2.2.2.2.2.1 k0_t14 k0_h8
theorem k0_off103_inb : ∀ (d0 : Dev nD) (v232 : BitVec 32) (k0_hw43 : k0_chk43 d0 v232) (k0_t14 : Fin (k0_t14_loop d0 v232).trips), ∀ (k0_h8 : k0_cond8 d0 v232 k0_t14 = 1#1), ∀ a, (k0_off103 d0 v232 k0_t14) a + S1x1.size a ≤ S8x16.size a := fun d0 v232 k0_hw43 k0_t14 k0_h8 => k0_hw43.2.2.2.2.2.2.2.1 k0_t14 k0_h8
theorem k0_off106_inb : ∀ (d0 : Dev nD) (v232 : BitVec 32) (k0_hw43 : k0_chk43 d0 v232) (k0_t14 : Fin (k0_t14_loop d0 v232).trips), ∀ a, (k0_off106 d0 v232 k0_t14) a + S1.size a ≤ S1024.size a := fun d0 v232 k0_hw43 k0_t14 => k0_hw43.2.2.2.2.2.2.2.2.1 k0_t14
theorem k0_off107_inb : ∀ (d0 : Dev nD) (v232 : BitVec 32) (k0_hw43 : k0_chk43 d0 v232) (k0_t14 : Fin (k0_t14_loop d0 v232).trips), ∀ a, (k0_off107 d0 v232 k0_t14) a + S1x1.size a ≤ S8x16.size a := fun d0 v232 k0_hw43 k0_t14 => k0_hw43.2.2.2.2.2.2.2.2.2 k0_t14

def k0_off108 (v824 : BitVec 32) : Fin 2 → Nat :=
  let c0_i32_638 : BitVec 32 := 0#32
  ![v824.toNat, 0]

def k0_chk50 (v824 : BitVec 32) : Prop :=
  (∀ a, (k0_off108 v824) a + S1x1024.size a ≤ S1024x1024.size a)
theorem k0_off108_inb : ∀ (v824 : BitVec 32) (k0_hw50 : k0_chk50 v824), ∀ a, (k0_off108 v824) a + S1x1024.size a ≤ S1024x1024.size a := fun v824 k0_hw50 => k0_hw50

def k0_off109 (v822 : BitVec 32) : Fin 2 → Nat :=
  let c0_i32_639 : BitVec 32 := 0#32
  ![v822.toNat, 0]

def k0_chk51 (v822 : BitVec 32) : Prop :=
  (∀ a, (k0_off109 v822) a + S1x1024.size a ≤ S8192x1024.size a)
theorem k0_off109_inb : ∀ (v822 : BitVec 32) (k0_hw51 : k0_chk51 v822), ∀ a, (k0_off109 v822) a + S1x1024.size a ≤ S8192x1024.size a := fun v822 k0_hw51 => k0_hw51

def k0_off110 (d0 : Dev nD) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_149 : BitVec 32 := 128#32
  let v240 : BitVec 32 := Scalar.muli v86 c128_i32_149
  let v241 : Index := Scalar.indexCast v240
  let c0_150 : Index := 0#32
  ![v241.toNat, 0]
def k0_off111 (d0 : Dev nD) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let v244 : Index := Scalar.indexCast v83
  ![v244.toNat]
@[reducible] def k0_t15_loop (d0 : Dev nD) (v245 : BitVec 32) : Scf.Loop 32 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let v249 : BitVec 32 := Scalar.subi v246 v248
  let c1_i32_154 : BitVec 32 := 1#32
  let v251 : BitVec 32 := Scalar.divsi v249 c1_i32_154
  let v252 : BitVec 32 := Scalar.muli v251 c1_i32_154
  let v253 : BitVec 32 := Scalar.addi v248 v252
  let c1_i32_155 : BitVec 32 := 1#32
  ⟨v248, v253, c1_i32_155⟩

def k0_off112 (d0 : Dev nD) (v245 : BitVec 32) (k0_t15 : Fin (k0_t15_loop d0 v245).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let c1_i32_155 : BitVec 32 := 1#32
  let arg14 : BitVec 32 := Scf.iv v248 c1_i32_155 k0_t15
  let v817 : Index := Scalar.indexCast arg14
  ![v817.toNat]
def k0_off113 (d0 : Dev nD) (v245 : BitVec 32) (k0_t15 : Fin (k0_t15_loop d0 v245).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let c1_i32_155 : BitVec 32 := 1#32
  let arg14 : BitVec 32 := Scf.iv v248 c1_i32_155 k0_t15
  let c128_i32_629 : BitVec 32 := 128#32
  let v821 : BitVec 32 := Scalar.muli v83 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v83.toNat, v832.toNat]
def k0_off114 (v820 : BitVec 32) : Fin 2 → Nat :=
  let c0_i32_636 : BitVec 32 := 0#32
  ![v820.toNat, 0]

def k0_chk53 (v820 : BitVec 32) : Prop :=
  (∀ a, (k0_off114 v820) a + S1x1024.size a ≤ S1024x1024.size a)
theorem k0_off114_inb : ∀ (v820 : BitVec 32) (k0_hw53 : k0_chk53 v820), ∀ a, (k0_off114 v820) a + S1x1024.size a ≤ S1024x1024.size a := fun v820 k0_hw53 => k0_hw53

def k0_off115 (v818 : BitVec 32) : Fin 2 → Nat :=
  let c0_i32_637 : BitVec 32 := 0#32
  ![v818.toNat, 0]

def k0_chk54 (v818 : BitVec 32) : Prop :=
  (∀ a, (k0_off115 v818) a + S1x1024.size a ≤ S8192x1024.size a)
theorem k0_off115_inb : ∀ (v818 : BitVec 32) (k0_hw54 : k0_chk54 v818), ∀ a, (k0_off115 v818) a + S1x1024.size a ≤ S8192x1024.size a := fun v818 k0_hw54 => k0_hw54

@[reducible] def k0_t16_loop (d0 : Dev nD) (v245 : BitVec 32) : Scf.Loop 32 :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let v249 : BitVec 32 := Scalar.subi v246 v248
  let c1_i32_154 : BitVec 32 := 1#32
  let v251 : BitVec 32 := Scalar.divsi v249 c1_i32_154
  let v252 : BitVec 32 := Scalar.muli v251 c1_i32_154
  let v253 : BitVec 32 := Scalar.addi v248 v252
  let v250 : BitVec 32 := Scalar.addi v248 v249
  let c1_i32_156 : BitVec 32 := 1#32
  ⟨v253, v250, c1_i32_156⟩
def k0_off116 (d0 : Dev nD) (v245 : BitVec 32) (k0_t16 : Fin (k0_t16_loop d0 v245).trips) : Fin 1 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let v249 : BitVec 32 := Scalar.subi v246 v248
  let c1_i32_154 : BitVec 32 := 1#32
  let v251 : BitVec 32 := Scalar.divsi v249 c1_i32_154
  let v252 : BitVec 32 := Scalar.muli v251 c1_i32_154
  let v253 : BitVec 32 := Scalar.addi v248 v252
  let c1_i32_156 : BitVec 32 := 1#32
  let arg14 : BitVec 32 := Scf.iv v253 c1_i32_156 k0_t16
  let v817 : Index := Scalar.indexCast arg14
  ![v817.toNat]
def k0_off117 (d0 : Dev nD) (v245 : BitVec 32) (k0_t16 : Fin (k0_t16_loop d0 v245).trips) : Fin 2 → Nat :=
  let c4_i32_47 : BitVec 32 := 4#32
  let c2_i32_46 : BitVec 32 := 2#32
  let c1_i32_45 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v79 : BitVec 32 := Scalar.subi c1_i32_45 v29
  let v80 : BitVec 32 := Scalar.muli c2_i32_46 v79
  let v81 : BitVec 32 := Scalar.addi c4_i32_47 v80
  let c1_i32_48 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v82 : BitVec 32 := Scalar.subi c1_i32_48 v12
  let v83 : BitVec 32 := Scalar.addi v81 v82
  let c128_i32_151 : BitVec 32 := 128#32
  let v243 : BitVec 32 := Scalar.muli v83 c128_i32_151
  let v246 : BitVec 32 := Scalar.addi v243 v245
  let c16_i32_152 : BitVec 32 := 16#32
  let v247 : BitVec 32 := Scalar.subi v246 c16_i32_152
  let v248 : BitVec 32 := Scalar.maxsi v247 v243
  let v249 : BitVec 32 := Scalar.subi v246 v248
  let c1_i32_154 : BitVec 32 := 1#32
  let v251 : BitVec 32 := Scalar.divsi v249 c1_i32_154
  let v252 : BitVec 32 := Scalar.muli v251 c1_i32_154
  let v253 : BitVec 32 := Scalar.addi v248 v252
  let c1_i32_156 : BitVec 32 := 1#32
  let arg14 : BitVec 32 := Scf.iv v253 c1_i32_156 k0_t16
  let c128_i32_629 : BitVec 32 := 128#32
  let v821 : BitVec 32 := Scalar.muli v83 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v83.toNat, v832.toNat]

def k0_chk52 (d0 : Dev nD) (v245 : BitVec 32) : Prop :=
  ((k0_t15_loop d0 v245).OK) ∧
  (∀ k0_t15 : Fin (k0_t15_loop d0 v245).trips, ∀ a, (k0_off112 d0 v245 k0_t15) a + S1.size a ≤ S1024.size a) ∧
  (∀ k0_t15 : Fin (k0_t15_loop d0 v245).trips, ∀ a, (k0_off113 d0 v245 k0_t15) a + S1x1.size a ≤ S8x16.size a) ∧
  ((k0_t16_loop d0 v245).OK) ∧
  (∀ k0_t16 : Fin (k0_t16_loop d0 v245).trips, ∀ a, (k0_off116 d0 v245 k0_t16) a + S1.size a ≤ S1024.size a) ∧
  (∀ k0_t16 : Fin (k0_t16_loop d0 v245).trips, ∀ a, (k0_off117 d0 v245 k0_t16) a + S1x1.size a ≤ S8x16.size a)
theorem k0_t15_ok : ∀ (d0 : Dev nD) (v245 : BitVec 32) (k0_hw52 : k0_chk52 d0 v245), (k0_t15_loop d0 v245).OK := fun d0 v245 k0_hw52 => k0_hw52.1
theorem k0_off112_inb : ∀ (d0 : Dev nD) (v245 : BitVec 32) (k0_hw52 : k0_chk52 d0 v245) (k0_t15 : Fin (k0_t15_loop d0 v245).trips), ∀ a, (k0_off112 d0 v245 k0_t15) a + S1.size a ≤ S1024.size a := fun d0 v245 k0_hw52 k0_t15 => k0_hw52.2.1 k0_t15
theorem k0_off113_inb : ∀ (d0 : Dev nD) (v245 : BitVec 32) (k0_hw52 : k0_chk52 d0 v245) (k0_t15 : Fin (k0_t15_loop d0 v245).trips), ∀ a, (k0_off113 d0 v245 k0_t15) a + S1x1.size a ≤ S8x16.size a := fun d0 v245 k0_hw52 k0_t15 => k0_hw52.2.2.1 k0_t15
theorem k0_t16_ok : ∀ (d0 : Dev nD) (v245 : BitVec 32) (k0_hw52 : k0_chk52 d0 v245), (k0_t16_loop d0 v245).OK := fun d0 v245 k0_hw52 => k0_hw52.2.2.2.1
theorem k0_off116_inb : ∀ (d0 : Dev nD) (v245 : BitVec 32) (k0_hw52 : k0_chk52 d0 v245) (k0_t16 : Fin (k0_t16_loop d0 v245).trips), ∀ a, (k0_off116 d0 v245 k0_t16) a + S1.size a ≤ S1024.size a := fun d0 v245 k0_hw52 k0_t16 => k0_hw52.2.2.2.2.1 k0_t16
theorem k0_off117_inb : ∀ (d0 : Dev nD) (v245 : BitVec 32) (k0_hw52 : k0_chk52 d0 v245) (k0_t16 : Fin (k0_t16_loop d0 v245).trips), ∀ a, (k0_off117 d0 v245 k0_t16) a + S1x1.size a ≤ S8x16.size a := fun d0 v245 k0_hw52 k0_t16 => k0_hw52.2.2.2.2.2 k0_t16

def k0_off118 (v820 : BitVec 32) : Fin 2 → Nat :=
  let c0_i32_636 : BitVec 32 := 0#32
  ![v820.toNat, 0]

def k0_chk55 (v820 : BitVec 32) : Prop :=
  (∀ a, (k0_off118 v820) a + S1x1024.size a ≤ S1024x1024.size a)
theorem k0_off118_inb : ∀ (v820 : BitVec 32) (k0_hw55 : k0_chk55 v820), ∀ a, (k0_off118 v820) a + S1x1024.size a ≤ S1024x1024.size a := fun v820 k0_hw55 => k0_hw55

def k0_off119 (v818 : BitVec 32) : Fin 2 → Nat :=
  let c0_i32_637 : BitVec 32 := 0#32
  ![v818.toNat, 0]

def k0_chk56 (v818 : BitVec 32) : Prop :=
  (∀ a, (k0_off119 v818) a + S1x1024.size a ≤ S8192x1024.size a)
theorem k0_off119_inb : ∀ (v818 : BitVec 32) (k0_hw56 : k0_chk56 v818), ∀ a, (k0_off119 v818) a + S1x1024.size a ≤ S8192x1024.size a := fun v818 k0_hw56 => k0_hw56

def k0_off120 (d0 : Dev nD) : Fin 2 → Nat :=
  let c1_i32_159 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v257 : BitVec 32 := Scalar.subi c1_i32_159 v12
  let c128_i32_160 : BitVec 32 := 128#32
  let v258 : BitVec 32 := Scalar.muli v257 c128_i32_160
  let c0_i32_165 : BitVec 32 := 0#32
  ![v258.toNat, 0]
def k0_off121 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c1_i32_157 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v254 : BitVec 32 := Scalar.subi c1_i32_157 v12
  let c128_i32_158 : BitVec 32 := 128#32
  let v255 : BitVec 32 := Scalar.muli v254 c128_i32_158
  let v256 : BitVec 32 := Scalar.addi v54 v255
  let c0_i32_166 : BitVec 32 := 0#32
  ![v256.toNat, 0]
def k0_dev8 (d0 : Dev nD) : Nat :=
  let c0_i32_164 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_163 : BitVec 32 := 1#32
  let v259 : BitVec 32 := Scalar.muli v44 c1_i32_163
  let v260 : BitVec 32 := Scalar.addi c0_i32_164 v259
  v260.toNat
def k0_off122 (d0 : Dev nD) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let v268 : Index := Scalar.indexCast v86
  ![v268.toNat]
@[reducible] def k0_t17_loop (d0 : Dev nD) (v269 : BitVec 32) : Scf.Loop 32 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_170 : BitVec 32 := 1#32
  ⟨v267, v275, c1_i32_170⟩

def k0_cond9 (d0 : Dev nD) (v269 : BitVec 32) (k0_t17 : Fin (k0_t17_loop d0 v269).trips) : BitVec 1 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let c1_i32_170 : BitVec 32 := 1#32
  let arg14 : BitVec 32 := Scf.iv v267 c1_i32_170 k0_t17
  let v817 : BitVec 32 := Scalar.subi arg14 v267
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off123 (d0 : Dev nD) (v269 : BitVec 32) (k0_t17 : Fin (k0_t17_loop d0 v269).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let c1_i32_170 : BitVec 32 := 1#32
  let arg14 : BitVec 32 := Scf.iv v267 c1_i32_170 k0_t17
  let c16_i32_640 : BitVec 32 := 16#32
  let v841 : BitVec 32 := Scalar.subi arg14 c16_i32_640
  let v842 : Index := Scalar.indexCast v841
  ![v842.toNat]
def k0_off124 (d0 : Dev nD) (v269 : BitVec 32) (k0_t17 : Fin (k0_t17_loop d0 v269).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let c1_i32_170 : BitVec 32 := 1#32
  let arg14 : BitVec 32 := Scf.iv v267 c1_i32_170 k0_t17
  let c16_i32_640 : BitVec 32 := 16#32
  let v841 : BitVec 32 := Scalar.subi arg14 c16_i32_640
  let c128_i32_641 : BitVec 32 := 128#32
  let v846 : BitVec 32 := Scalar.muli v86 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v86.toNat, v857.toNat]
def k0_off125 (v845 : BitVec 32) : Fin 2 → Nat :=
  let c0_i32_648 : BitVec 32 := 0#32
  ![v845.toNat, 0]

def k0_chk58 (d0 : Dev nD) (v269 : BitVec 32) (k0_t17 : Fin (k0_t17_loop d0 v269).trips) (v845 : BitVec 32) : Prop :=
  (∀ (k0_h9 : k0_cond9 d0 v269 k0_t17 = 1#1), ∀ a, (k0_off125 v845) a + S1x1024.size a ≤ S1024x1024.size a)
theorem k0_off125_inb : ∀ (d0 : Dev nD) (v269 : BitVec 32) (k0_t17 : Fin (k0_t17_loop d0 v269).trips) (v845 : BitVec 32) (k0_hw58 : k0_chk58 d0 v269 k0_t17 v845), ∀ (k0_h9 : k0_cond9 d0 v269 k0_t17 = 1#1), ∀ a, (k0_off125 v845) a + S1x1024.size a ≤ S1024x1024.size a := fun d0 v269 k0_t17 v845 k0_hw58 k0_h9 => k0_hw58 k0_h9

def k0_off126 (v843 : BitVec 32) : Fin 2 → Nat :=
  let c0_i32_649 : BitVec 32 := 0#32
  ![v843.toNat, 0]

def k0_chk59 (d0 : Dev nD) (v269 : BitVec 32) (k0_t17 : Fin (k0_t17_loop d0 v269).trips) (v843 : BitVec 32) : Prop :=
  (∀ (k0_h9 : k0_cond9 d0 v269 k0_t17 = 1#1), ∀ a, (k0_off126 v843) a + S1x1024.size a ≤ S8192x1024.size a)
theorem k0_off126_inb : ∀ (d0 : Dev nD) (v269 : BitVec 32) (k0_t17 : Fin (k0_t17_loop d0 v269).trips) (v843 : BitVec 32) (k0_hw59 : k0_chk59 d0 v269 k0_t17 v843), ∀ (k0_h9 : k0_cond9 d0 v269 k0_t17 = 1#1), ∀ a, (k0_off126 v843) a + S1x1024.size a ≤ S8192x1024.size a := fun d0 v269 k0_t17 v843 k0_hw59 k0_h9 => k0_hw59 k0_h9

def k0_off127 (d0 : Dev nD) (v269 : BitVec 32) (k0_t17 : Fin (k0_t17_loop d0 v269).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let c1_i32_170 : BitVec 32 := 1#32
  let arg14 : BitVec 32 := Scf.iv v267 c1_i32_170 k0_t17
  let v821 : Index := Scalar.indexCast arg14
  ![v821.toNat]
def k0_off128 (d0 : Dev nD) (v269 : BitVec 32) (k0_t17 : Fin (k0_t17_loop d0 v269).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let c1_i32_170 : BitVec 32 := 1#32
  let arg14 : BitVec 32 := Scf.iv v267 c1_i32_170 k0_t17
  let c128_i32_631 : BitVec 32 := 128#32
  let v825 : BitVec 32 := Scalar.muli v86 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v86.toNat, v836.toNat]
def k0_off129 (v824 : BitVec 32) : Fin 2 → Nat :=
  let c0_i32_638 : BitVec 32 := 0#32
  ![v824.toNat, 0]

def k0_chk60 (v824 : BitVec 32) : Prop :=
  (∀ a, (k0_off129 v824) a + S1x1024.size a ≤ S1024x1024.size a)
theorem k0_off129_inb : ∀ (v824 : BitVec 32) (k0_hw60 : k0_chk60 v824), ∀ a, (k0_off129 v824) a + S1x1024.size a ≤ S1024x1024.size a := fun v824 k0_hw60 => k0_hw60

def k0_off130 (v822 : BitVec 32) : Fin 2 → Nat :=
  let c0_i32_639 : BitVec 32 := 0#32
  ![v822.toNat, 0]

def k0_chk61 (v822 : BitVec 32) : Prop :=
  (∀ a, (k0_off130 v822) a + S1x1024.size a ≤ S8192x1024.size a)
theorem k0_off130_inb : ∀ (v822 : BitVec 32) (k0_hw61 : k0_chk61 v822), ∀ a, (k0_off130 v822) a + S1x1024.size a ≤ S8192x1024.size a := fun v822 k0_hw61 => k0_hw61

@[reducible] def k0_t18_loop (d0 : Dev nD) (v269 : BitVec 32) : Scf.Loop 32 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let v272 : BitVec 32 := Scalar.addi v267 v271
  let c1_i32_171 : BitVec 32 := 1#32
  ⟨v275, v272, c1_i32_171⟩
def k0_off131 (d0 : Dev nD) (v269 : BitVec 32) (k0_t18 : Fin (k0_t18_loop d0 v269).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_171 : BitVec 32 := 1#32
  let arg14 : BitVec 32 := Scf.iv v275 c1_i32_171 k0_t18
  let c16_i32_640 : BitVec 32 := 16#32
  let v841 : BitVec 32 := Scalar.subi arg14 c16_i32_640
  let v842 : Index := Scalar.indexCast v841
  ![v842.toNat]
def k0_cond10 (d0 : Dev nD) (v269 : BitVec 32) (k0_t18 : Fin (k0_t18_loop d0 v269).trips) : BitVec 1 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_171 : BitVec 32 := 1#32
  let arg14 : BitVec 32 := Scf.iv v275 c1_i32_171 k0_t18
  let v817 : BitVec 32 := Scalar.subi arg14 v267
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off132 (d0 : Dev nD) (v269 : BitVec 32) (k0_t18 : Fin (k0_t18_loop d0 v269).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_171 : BitVec 32 := 1#32
  let arg14 : BitVec 32 := Scf.iv v275 c1_i32_171 k0_t18
  let c16_i32_640 : BitVec 32 := 16#32
  let v841 : BitVec 32 := Scalar.subi arg14 c16_i32_640
  let c128_i32_641 : BitVec 32 := 128#32
  let v846 : BitVec 32 := Scalar.muli v86 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v86.toNat, v857.toNat]
def k0_off133 (v845 : BitVec 32) : Fin 2 → Nat :=
  let c0_i32_648 : BitVec 32 := 0#32
  ![v845.toNat, 0]

def k0_chk62 (d0 : Dev nD) (v269 : BitVec 32) (k0_t18 : Fin (k0_t18_loop d0 v269).trips) (v845 : BitVec 32) : Prop :=
  (∀ (k0_h10 : k0_cond10 d0 v269 k0_t18 = 1#1), ∀ a, (k0_off133 v845) a + S1x1024.size a ≤ S1024x1024.size a)
theorem k0_off133_inb : ∀ (d0 : Dev nD) (v269 : BitVec 32) (k0_t18 : Fin (k0_t18_loop d0 v269).trips) (v845 : BitVec 32) (k0_hw62 : k0_chk62 d0 v269 k0_t18 v845), ∀ (k0_h10 : k0_cond10 d0 v269 k0_t18 = 1#1), ∀ a, (k0_off133 v845) a + S1x1024.size a ≤ S1024x1024.size a := fun d0 v269 k0_t18 v845 k0_hw62 k0_h10 => k0_hw62 k0_h10

def k0_off134 (v843 : BitVec 32) : Fin 2 → Nat :=
  let c0_i32_649 : BitVec 32 := 0#32
  ![v843.toNat, 0]

def k0_chk63 (d0 : Dev nD) (v269 : BitVec 32) (k0_t18 : Fin (k0_t18_loop d0 v269).trips) (v843 : BitVec 32) : Prop :=
  (∀ (k0_h10 : k0_cond10 d0 v269 k0_t18 = 1#1), ∀ a, (k0_off134 v843) a + S1x1024.size a ≤ S8192x1024.size a)
theorem k0_off134_inb : ∀ (d0 : Dev nD) (v269 : BitVec 32) (k0_t18 : Fin (k0_t18_loop d0 v269).trips) (v843 : BitVec 32) (k0_hw63 : k0_chk63 d0 v269 k0_t18 v843), ∀ (k0_h10 : k0_cond10 d0 v269 k0_t18 = 1#1), ∀ a, (k0_off134 v843) a + S1x1024.size a ≤ S8192x1024.size a := fun d0 v269 k0_t18 v843 k0_hw63 k0_h10 => k0_hw63 k0_h10

def k0_off135 (d0 : Dev nD) (v269 : BitVec 32) (k0_t18 : Fin (k0_t18_loop d0 v269).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_171 : BitVec 32 := 1#32
  let arg14 : BitVec 32 := Scf.iv v275 c1_i32_171 k0_t18
  let v821 : Index := Scalar.indexCast arg14
  ![v821.toNat]
def k0_off136 (d0 : Dev nD) (v269 : BitVec 32) (k0_t18 : Fin (k0_t18_loop d0 v269).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_167 : BitVec 32 := 128#32
  let v267 : BitVec 32 := Scalar.muli v86 c128_i32_167
  let v270 : BitVec 32 := Scalar.addi v267 v269
  let v271 : BitVec 32 := Scalar.subi v270 v267
  let c1_i32_169 : BitVec 32 := 1#32
  let v273 : BitVec 32 := Scalar.divsi v271 c1_i32_169
  let v274 : BitVec 32 := Scalar.muli v273 c1_i32_169
  let v275 : BitVec 32 := Scalar.addi v267 v274
  let c1_i32_171 : BitVec 32 := 1#32
  let arg14 : BitVec 32 := Scf.iv v275 c1_i32_171 k0_t18
  let c128_i32_631 : BitVec 32 := 128#32
  let v825 : BitVec 32 := Scalar.muli v86 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v86.toNat, v836.toNat]

def k0_chk57 (d0 : Dev nD) (v269 : BitVec 32) : Prop :=
  ((k0_t17_loop d0 v269).OK) ∧
  (∀ k0_t17 : Fin (k0_t17_loop d0 v269).trips, ∀ (k0_h9 : k0_cond9 d0 v269 k0_t17 = 1#1), ∀ a, (k0_off123 d0 v269 k0_t17) a + S1.size a ≤ S1024.size a) ∧
  (∀ k0_t17 : Fin (k0_t17_loop d0 v269).trips, ∀ (k0_h9 : k0_cond9 d0 v269 k0_t17 = 1#1), ∀ a, (k0_off124 d0 v269 k0_t17) a + S1x1.size a ≤ S8x16.size a) ∧
  (∀ k0_t17 : Fin (k0_t17_loop d0 v269).trips, ∀ a, (k0_off127 d0 v269 k0_t17) a + S1.size a ≤ S1024.size a) ∧
  (∀ k0_t17 : Fin (k0_t17_loop d0 v269).trips, ∀ a, (k0_off128 d0 v269 k0_t17) a + S1x1.size a ≤ S8x16.size a) ∧
  ((k0_t18_loop d0 v269).OK) ∧
  (∀ k0_t18 : Fin (k0_t18_loop d0 v269).trips, ∀ (k0_h10 : k0_cond10 d0 v269 k0_t18 = 1#1), ∀ a, (k0_off131 d0 v269 k0_t18) a + S1.size a ≤ S1024.size a) ∧
  (∀ k0_t18 : Fin (k0_t18_loop d0 v269).trips, ∀ (k0_h10 : k0_cond10 d0 v269 k0_t18 = 1#1), ∀ a, (k0_off132 d0 v269 k0_t18) a + S1x1.size a ≤ S8x16.size a) ∧
  (∀ k0_t18 : Fin (k0_t18_loop d0 v269).trips, ∀ a, (k0_off135 d0 v269 k0_t18) a + S1.size a ≤ S1024.size a) ∧
  (∀ k0_t18 : Fin (k0_t18_loop d0 v269).trips, ∀ a, (k0_off136 d0 v269 k0_t18) a + S1x1.size a ≤ S8x16.size a)
theorem k0_t17_ok : ∀ (d0 : Dev nD) (v269 : BitVec 32) (k0_hw57 : k0_chk57 d0 v269), (k0_t17_loop d0 v269).OK := fun d0 v269 k0_hw57 => k0_hw57.1
theorem k0_off123_inb : ∀ (d0 : Dev nD) (v269 : BitVec 32) (k0_hw57 : k0_chk57 d0 v269) (k0_t17 : Fin (k0_t17_loop d0 v269).trips), ∀ (k0_h9 : k0_cond9 d0 v269 k0_t17 = 1#1), ∀ a, (k0_off123 d0 v269 k0_t17) a + S1.size a ≤ S1024.size a := fun d0 v269 k0_hw57 k0_t17 k0_h9 => k0_hw57.2.1 k0_t17 k0_h9
theorem k0_off124_inb : ∀ (d0 : Dev nD) (v269 : BitVec 32) (k0_hw57 : k0_chk57 d0 v269) (k0_t17 : Fin (k0_t17_loop d0 v269).trips), ∀ (k0_h9 : k0_cond9 d0 v269 k0_t17 = 1#1), ∀ a, (k0_off124 d0 v269 k0_t17) a + S1x1.size a ≤ S8x16.size a := fun d0 v269 k0_hw57 k0_t17 k0_h9 => k0_hw57.2.2.1 k0_t17 k0_h9
theorem k0_off127_inb : ∀ (d0 : Dev nD) (v269 : BitVec 32) (k0_hw57 : k0_chk57 d0 v269) (k0_t17 : Fin (k0_t17_loop d0 v269).trips), ∀ a, (k0_off127 d0 v269 k0_t17) a + S1.size a ≤ S1024.size a := fun d0 v269 k0_hw57 k0_t17 => k0_hw57.2.2.2.1 k0_t17
theorem k0_off128_inb : ∀ (d0 : Dev nD) (v269 : BitVec 32) (k0_hw57 : k0_chk57 d0 v269) (k0_t17 : Fin (k0_t17_loop d0 v269).trips), ∀ a, (k0_off128 d0 v269 k0_t17) a + S1x1.size a ≤ S8x16.size a := fun d0 v269 k0_hw57 k0_t17 => k0_hw57.2.2.2.2.1 k0_t17
theorem k0_t18_ok : ∀ (d0 : Dev nD) (v269 : BitVec 32) (k0_hw57 : k0_chk57 d0 v269), (k0_t18_loop d0 v269).OK := fun d0 v269 k0_hw57 => k0_hw57.2.2.2.2.2.1
theorem k0_off131_inb : ∀ (d0 : Dev nD) (v269 : BitVec 32) (k0_hw57 : k0_chk57 d0 v269) (k0_t18 : Fin (k0_t18_loop d0 v269).trips), ∀ (k0_h10 : k0_cond10 d0 v269 k0_t18 = 1#1), ∀ a, (k0_off131 d0 v269 k0_t18) a + S1.size a ≤ S1024.size a := fun d0 v269 k0_hw57 k0_t18 k0_h10 => k0_hw57.2.2.2.2.2.2.1 k0_t18 k0_h10
theorem k0_off132_inb : ∀ (d0 : Dev nD) (v269 : BitVec 32) (k0_hw57 : k0_chk57 d0 v269) (k0_t18 : Fin (k0_t18_loop d0 v269).trips), ∀ (k0_h10 : k0_cond10 d0 v269 k0_t18 = 1#1), ∀ a, (k0_off132 d0 v269 k0_t18) a + S1x1.size a ≤ S8x16.size a := fun d0 v269 k0_hw57 k0_t18 k0_h10 => k0_hw57.2.2.2.2.2.2.2.1 k0_t18 k0_h10
theorem k0_off135_inb : ∀ (d0 : Dev nD) (v269 : BitVec 32) (k0_hw57 : k0_chk57 d0 v269) (k0_t18 : Fin (k0_t18_loop d0 v269).trips), ∀ a, (k0_off135 d0 v269 k0_t18) a + S1.size a ≤ S1024.size a := fun d0 v269 k0_hw57 k0_t18 => k0_hw57.2.2.2.2.2.2.2.2.1 k0_t18
theorem k0_off136_inb : ∀ (d0 : Dev nD) (v269 : BitVec 32) (k0_hw57 : k0_chk57 d0 v269) (k0_t18 : Fin (k0_t18_loop d0 v269).trips), ∀ a, (k0_off136 d0 v269 k0_t18) a + S1x1.size a ≤ S8x16.size a := fun d0 v269 k0_hw57 k0_t18 => k0_hw57.2.2.2.2.2.2.2.2.2 k0_t18

def k0_off137 (v824 : BitVec 32) : Fin 2 → Nat :=
  let c0_i32_638 : BitVec 32 := 0#32
  ![v824.toNat, 0]

def k0_chk64 (v824 : BitVec 32) : Prop :=
  (∀ a, (k0_off137 v824) a + S1x1024.size a ≤ S1024x1024.size a)
theorem k0_off137_inb : ∀ (v824 : BitVec 32) (k0_hw64 : k0_chk64 v824), ∀ a, (k0_off137 v824) a + S1x1024.size a ≤ S1024x1024.size a := fun v824 k0_hw64 => k0_hw64

def k0_off138 (v822 : BitVec 32) : Fin 2 → Nat :=
  let c0_i32_639 : BitVec 32 := 0#32
  ![v822.toNat, 0]

def k0_chk65 (v822 : BitVec 32) : Prop :=
  (∀ a, (k0_off138 v822) a + S1x1024.size a ≤ S8192x1024.size a)
theorem k0_off138_inb : ∀ (v822 : BitVec 32) (k0_hw65 : k0_chk65 v822), ∀ a, (k0_off138 v822) a + S1x1024.size a ≤ S8192x1024.size a := fun v822 k0_hw65 => k0_hw65

def k0_off139 (d0 : Dev nD) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_173 : BitVec 32 := 128#32
  let v277 : BitVec 32 := Scalar.muli v92 c128_i32_173
  let v278 : Index := Scalar.indexCast v277
  let c0_174 : Index := 0#32
  ![v278.toNat, 0]
def k0_off140 (d0 : Dev nD) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let v281 : Index := Scalar.indexCast v92
  ![v281.toNat]
@[reducible] def k0_t19_loop (d0 : Dev nD) (v282 : BitVec 32) : Scf.Loop 32 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_178 : BitVec 32 := 1#32
  ⟨v280, v288, c1_i32_178⟩

def k0_cond11 (d0 : Dev nD) (v282 : BitVec 32) (k0_t19 : Fin (k0_t19_loop d0 v282).trips) : BitVec 1 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let c1_i32_178 : BitVec 32 := 1#32
  let arg14 : BitVec 32 := Scf.iv v280 c1_i32_178 k0_t19
  let v817 : BitVec 32 := Scalar.subi arg14 v280
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off141 (d0 : Dev nD) (v282 : BitVec 32) (k0_t19 : Fin (k0_t19_loop d0 v282).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let c1_i32_178 : BitVec 32 := 1#32
  let arg14 : BitVec 32 := Scf.iv v280 c1_i32_178 k0_t19
  let c16_i32_640 : BitVec 32 := 16#32
  let v841 : BitVec 32 := Scalar.subi arg14 c16_i32_640
  let v842 : Index := Scalar.indexCast v841
  ![v842.toNat]
def k0_off142 (d0 : Dev nD) (v282 : BitVec 32) (k0_t19 : Fin (k0_t19_loop d0 v282).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let c1_i32_178 : BitVec 32 := 1#32
  let arg14 : BitVec 32 := Scf.iv v280 c1_i32_178 k0_t19
  let c16_i32_640 : BitVec 32 := 16#32
  let v841 : BitVec 32 := Scalar.subi arg14 c16_i32_640
  let c128_i32_641 : BitVec 32 := 128#32
  let v846 : BitVec 32 := Scalar.muli v92 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v92.toNat, v857.toNat]
def k0_off143 (v845 : BitVec 32) : Fin 2 → Nat :=
  let c0_i32_648 : BitVec 32 := 0#32
  ![v845.toNat, 0]

def k0_chk67 (d0 : Dev nD) (v282 : BitVec 32) (k0_t19 : Fin (k0_t19_loop d0 v282).trips) (v845 : BitVec 32) : Prop :=
  (∀ (k0_h11 : k0_cond11 d0 v282 k0_t19 = 1#1), ∀ a, (k0_off143 v845) a + S1x1024.size a ≤ S1024x1024.size a)
theorem k0_off143_inb : ∀ (d0 : Dev nD) (v282 : BitVec 32) (k0_t19 : Fin (k0_t19_loop d0 v282).trips) (v845 : BitVec 32) (k0_hw67 : k0_chk67 d0 v282 k0_t19 v845), ∀ (k0_h11 : k0_cond11 d0 v282 k0_t19 = 1#1), ∀ a, (k0_off143 v845) a + S1x1024.size a ≤ S1024x1024.size a := fun d0 v282 k0_t19 v845 k0_hw67 k0_h11 => k0_hw67 k0_h11

def k0_off144 (v843 : BitVec 32) : Fin 2 → Nat :=
  let c0_i32_649 : BitVec 32 := 0#32
  ![v843.toNat, 0]

def k0_chk68 (d0 : Dev nD) (v282 : BitVec 32) (k0_t19 : Fin (k0_t19_loop d0 v282).trips) (v843 : BitVec 32) : Prop :=
  (∀ (k0_h11 : k0_cond11 d0 v282 k0_t19 = 1#1), ∀ a, (k0_off144 v843) a + S1x1024.size a ≤ S8192x1024.size a)
theorem k0_off144_inb : ∀ (d0 : Dev nD) (v282 : BitVec 32) (k0_t19 : Fin (k0_t19_loop d0 v282).trips) (v843 : BitVec 32) (k0_hw68 : k0_chk68 d0 v282 k0_t19 v843), ∀ (k0_h11 : k0_cond11 d0 v282 k0_t19 = 1#1), ∀ a, (k0_off144 v843) a + S1x1024.size a ≤ S8192x1024.size a := fun d0 v282 k0_t19 v843 k0_hw68 k0_h11 => k0_hw68 k0_h11

def k0_off145 (d0 : Dev nD) (v282 : BitVec 32) (k0_t19 : Fin (k0_t19_loop d0 v282).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let c1_i32_178 : BitVec 32 := 1#32
  let arg14 : BitVec 32 := Scf.iv v280 c1_i32_178 k0_t19
  let v821 : Index := Scalar.indexCast arg14
  ![v821.toNat]
def k0_off146 (d0 : Dev nD) (v282 : BitVec 32) (k0_t19 : Fin (k0_t19_loop d0 v282).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let c1_i32_178 : BitVec 32 := 1#32
  let arg14 : BitVec 32 := Scf.iv v280 c1_i32_178 k0_t19
  let c128_i32_631 : BitVec 32 := 128#32
  let v825 : BitVec 32 := Scalar.muli v92 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v92.toNat, v836.toNat]
def k0_off147 (v824 : BitVec 32) : Fin 2 → Nat :=
  let c0_i32_638 : BitVec 32 := 0#32
  ![v824.toNat, 0]

def k0_chk69 (v824 : BitVec 32) : Prop :=
  (∀ a, (k0_off147 v824) a + S1x1024.size a ≤ S1024x1024.size a)
theorem k0_off147_inb : ∀ (v824 : BitVec 32) (k0_hw69 : k0_chk69 v824), ∀ a, (k0_off147 v824) a + S1x1024.size a ≤ S1024x1024.size a := fun v824 k0_hw69 => k0_hw69

def k0_off148 (v822 : BitVec 32) : Fin 2 → Nat :=
  let c0_i32_639 : BitVec 32 := 0#32
  ![v822.toNat, 0]

def k0_chk70 (v822 : BitVec 32) : Prop :=
  (∀ a, (k0_off148 v822) a + S1x1024.size a ≤ S8192x1024.size a)
theorem k0_off148_inb : ∀ (v822 : BitVec 32) (k0_hw70 : k0_chk70 v822), ∀ a, (k0_off148 v822) a + S1x1024.size a ≤ S8192x1024.size a := fun v822 k0_hw70 => k0_hw70

@[reducible] def k0_t20_loop (d0 : Dev nD) (v282 : BitVec 32) : Scf.Loop 32 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let v285 : BitVec 32 := Scalar.addi v280 v284
  let c1_i32_179 : BitVec 32 := 1#32
  ⟨v288, v285, c1_i32_179⟩
def k0_off149 (d0 : Dev nD) (v282 : BitVec 32) (k0_t20 : Fin (k0_t20_loop d0 v282).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_179 : BitVec 32 := 1#32
  let arg14 : BitVec 32 := Scf.iv v288 c1_i32_179 k0_t20
  let c16_i32_640 : BitVec 32 := 16#32
  let v841 : BitVec 32 := Scalar.subi arg14 c16_i32_640
  let v842 : Index := Scalar.indexCast v841
  ![v842.toNat]
def k0_cond12 (d0 : Dev nD) (v282 : BitVec 32) (k0_t20 : Fin (k0_t20_loop d0 v282).trips) : BitVec 1 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_179 : BitVec 32 := 1#32
  let arg14 : BitVec 32 := Scf.iv v288 c1_i32_179 k0_t20
  let v817 : BitVec 32 := Scalar.subi arg14 v280
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off150 (d0 : Dev nD) (v282 : BitVec 32) (k0_t20 : Fin (k0_t20_loop d0 v282).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_179 : BitVec 32 := 1#32
  let arg14 : BitVec 32 := Scf.iv v288 c1_i32_179 k0_t20
  let c16_i32_640 : BitVec 32 := 16#32
  let v841 : BitVec 32 := Scalar.subi arg14 c16_i32_640
  let c128_i32_641 : BitVec 32 := 128#32
  let v846 : BitVec 32 := Scalar.muli v92 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v92.toNat, v857.toNat]
def k0_off151 (v845 : BitVec 32) : Fin 2 → Nat :=
  let c0_i32_648 : BitVec 32 := 0#32
  ![v845.toNat, 0]

def k0_chk71 (d0 : Dev nD) (v282 : BitVec 32) (k0_t20 : Fin (k0_t20_loop d0 v282).trips) (v845 : BitVec 32) : Prop :=
  (∀ (k0_h12 : k0_cond12 d0 v282 k0_t20 = 1#1), ∀ a, (k0_off151 v845) a + S1x1024.size a ≤ S1024x1024.size a)
theorem k0_off151_inb : ∀ (d0 : Dev nD) (v282 : BitVec 32) (k0_t20 : Fin (k0_t20_loop d0 v282).trips) (v845 : BitVec 32) (k0_hw71 : k0_chk71 d0 v282 k0_t20 v845), ∀ (k0_h12 : k0_cond12 d0 v282 k0_t20 = 1#1), ∀ a, (k0_off151 v845) a + S1x1024.size a ≤ S1024x1024.size a := fun d0 v282 k0_t20 v845 k0_hw71 k0_h12 => k0_hw71 k0_h12

def k0_off152 (v843 : BitVec 32) : Fin 2 → Nat :=
  let c0_i32_649 : BitVec 32 := 0#32
  ![v843.toNat, 0]

def k0_chk72 (d0 : Dev nD) (v282 : BitVec 32) (k0_t20 : Fin (k0_t20_loop d0 v282).trips) (v843 : BitVec 32) : Prop :=
  (∀ (k0_h12 : k0_cond12 d0 v282 k0_t20 = 1#1), ∀ a, (k0_off152 v843) a + S1x1024.size a ≤ S8192x1024.size a)
theorem k0_off152_inb : ∀ (d0 : Dev nD) (v282 : BitVec 32) (k0_t20 : Fin (k0_t20_loop d0 v282).trips) (v843 : BitVec 32) (k0_hw72 : k0_chk72 d0 v282 k0_t20 v843), ∀ (k0_h12 : k0_cond12 d0 v282 k0_t20 = 1#1), ∀ a, (k0_off152 v843) a + S1x1024.size a ≤ S8192x1024.size a := fun d0 v282 k0_t20 v843 k0_hw72 k0_h12 => k0_hw72 k0_h12

def k0_off153 (d0 : Dev nD) (v282 : BitVec 32) (k0_t20 : Fin (k0_t20_loop d0 v282).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_179 : BitVec 32 := 1#32
  let arg14 : BitVec 32 := Scf.iv v288 c1_i32_179 k0_t20
  let v821 : Index := Scalar.indexCast arg14
  ![v821.toNat]
def k0_off154 (d0 : Dev nD) (v282 : BitVec 32) (k0_t20 : Fin (k0_t20_loop d0 v282).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_175 : BitVec 32 := 128#32
  let v280 : BitVec 32 := Scalar.muli v92 c128_i32_175
  let v283 : BitVec 32 := Scalar.addi v280 v282
  let v284 : BitVec 32 := Scalar.subi v283 v280
  let c1_i32_177 : BitVec 32 := 1#32
  let v286 : BitVec 32 := Scalar.divsi v284 c1_i32_177
  let v287 : BitVec 32 := Scalar.muli v286 c1_i32_177
  let v288 : BitVec 32 := Scalar.addi v280 v287
  let c1_i32_179 : BitVec 32 := 1#32
  let arg14 : BitVec 32 := Scf.iv v288 c1_i32_179 k0_t20
  let c128_i32_631 : BitVec 32 := 128#32
  let v825 : BitVec 32 := Scalar.muli v92 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v92.toNat, v836.toNat]

def k0_chk66 (d0 : Dev nD) (v282 : BitVec 32) : Prop :=
  ((k0_t19_loop d0 v282).OK) ∧
  (∀ k0_t19 : Fin (k0_t19_loop d0 v282).trips, ∀ (k0_h11 : k0_cond11 d0 v282 k0_t19 = 1#1), ∀ a, (k0_off141 d0 v282 k0_t19) a + S1.size a ≤ S1024.size a) ∧
  (∀ k0_t19 : Fin (k0_t19_loop d0 v282).trips, ∀ (k0_h11 : k0_cond11 d0 v282 k0_t19 = 1#1), ∀ a, (k0_off142 d0 v282 k0_t19) a + S1x1.size a ≤ S8x16.size a) ∧
  (∀ k0_t19 : Fin (k0_t19_loop d0 v282).trips, ∀ a, (k0_off145 d0 v282 k0_t19) a + S1.size a ≤ S1024.size a) ∧
  (∀ k0_t19 : Fin (k0_t19_loop d0 v282).trips, ∀ a, (k0_off146 d0 v282 k0_t19) a + S1x1.size a ≤ S8x16.size a) ∧
  ((k0_t20_loop d0 v282).OK) ∧
  (∀ k0_t20 : Fin (k0_t20_loop d0 v282).trips, ∀ (k0_h12 : k0_cond12 d0 v282 k0_t20 = 1#1), ∀ a, (k0_off149 d0 v282 k0_t20) a + S1.size a ≤ S1024.size a) ∧
  (∀ k0_t20 : Fin (k0_t20_loop d0 v282).trips, ∀ (k0_h12 : k0_cond12 d0 v282 k0_t20 = 1#1), ∀ a, (k0_off150 d0 v282 k0_t20) a + S1x1.size a ≤ S8x16.size a) ∧
  (∀ k0_t20 : Fin (k0_t20_loop d0 v282).trips, ∀ a, (k0_off153 d0 v282 k0_t20) a + S1.size a ≤ S1024.size a) ∧
  (∀ k0_t20 : Fin (k0_t20_loop d0 v282).trips, ∀ a, (k0_off154 d0 v282 k0_t20) a + S1x1.size a ≤ S8x16.size a)
theorem k0_t19_ok : ∀ (d0 : Dev nD) (v282 : BitVec 32) (k0_hw66 : k0_chk66 d0 v282), (k0_t19_loop d0 v282).OK := fun d0 v282 k0_hw66 => k0_hw66.1
theorem k0_off141_inb : ∀ (d0 : Dev nD) (v282 : BitVec 32) (k0_hw66 : k0_chk66 d0 v282) (k0_t19 : Fin (k0_t19_loop d0 v282).trips), ∀ (k0_h11 : k0_cond11 d0 v282 k0_t19 = 1#1), ∀ a, (k0_off141 d0 v282 k0_t19) a + S1.size a ≤ S1024.size a := fun d0 v282 k0_hw66 k0_t19 k0_h11 => k0_hw66.2.1 k0_t19 k0_h11
theorem k0_off142_inb : ∀ (d0 : Dev nD) (v282 : BitVec 32) (k0_hw66 : k0_chk66 d0 v282) (k0_t19 : Fin (k0_t19_loop d0 v282).trips), ∀ (k0_h11 : k0_cond11 d0 v282 k0_t19 = 1#1), ∀ a, (k0_off142 d0 v282 k0_t19) a + S1x1.size a ≤ S8x16.size a := fun d0 v282 k0_hw66 k0_t19 k0_h11 => k0_hw66.2.2.1 k0_t19 k0_h11
theorem k0_off145_inb : ∀ (d0 : Dev nD) (v282 : BitVec 32) (k0_hw66 : k0_chk66 d0 v282) (k0_t19 : Fin (k0_t19_loop d0 v282).trips), ∀ a, (k0_off145 d0 v282 k0_t19) a + S1.size a ≤ S1024.size a := fun d0 v282 k0_hw66 k0_t19 => k0_hw66.2.2.2.1 k0_t19
theorem k0_off146_inb : ∀ (d0 : Dev nD) (v282 : BitVec 32) (k0_hw66 : k0_chk66 d0 v282) (k0_t19 : Fin (k0_t19_loop d0 v282).trips), ∀ a, (k0_off146 d0 v282 k0_t19) a + S1x1.size a ≤ S8x16.size a := fun d0 v282 k0_hw66 k0_t19 => k0_hw66.2.2.2.2.1 k0_t19
theorem k0_t20_ok : ∀ (d0 : Dev nD) (v282 : BitVec 32) (k0_hw66 : k0_chk66 d0 v282), (k0_t20_loop d0 v282).OK := fun d0 v282 k0_hw66 => k0_hw66.2.2.2.2.2.1
theorem k0_off149_inb : ∀ (d0 : Dev nD) (v282 : BitVec 32) (k0_hw66 : k0_chk66 d0 v282) (k0_t20 : Fin (k0_t20_loop d0 v282).trips), ∀ (k0_h12 : k0_cond12 d0 v282 k0_t20 = 1#1), ∀ a, (k0_off149 d0 v282 k0_t20) a + S1.size a ≤ S1024.size a := fun d0 v282 k0_hw66 k0_t20 k0_h12 => k0_hw66.2.2.2.2.2.2.1 k0_t20 k0_h12
theorem k0_off150_inb : ∀ (d0 : Dev nD) (v282 : BitVec 32) (k0_hw66 : k0_chk66 d0 v282) (k0_t20 : Fin (k0_t20_loop d0 v282).trips), ∀ (k0_h12 : k0_cond12 d0 v282 k0_t20 = 1#1), ∀ a, (k0_off150 d0 v282 k0_t20) a + S1x1.size a ≤ S8x16.size a := fun d0 v282 k0_hw66 k0_t20 k0_h12 => k0_hw66.2.2.2.2.2.2.2.1 k0_t20 k0_h12
theorem k0_off153_inb : ∀ (d0 : Dev nD) (v282 : BitVec 32) (k0_hw66 : k0_chk66 d0 v282) (k0_t20 : Fin (k0_t20_loop d0 v282).trips), ∀ a, (k0_off153 d0 v282 k0_t20) a + S1.size a ≤ S1024.size a := fun d0 v282 k0_hw66 k0_t20 => k0_hw66.2.2.2.2.2.2.2.2.1 k0_t20
theorem k0_off154_inb : ∀ (d0 : Dev nD) (v282 : BitVec 32) (k0_hw66 : k0_chk66 d0 v282) (k0_t20 : Fin (k0_t20_loop d0 v282).trips), ∀ a, (k0_off154 d0 v282 k0_t20) a + S1x1.size a ≤ S8x16.size a := fun d0 v282 k0_hw66 k0_t20 => k0_hw66.2.2.2.2.2.2.2.2.2 k0_t20

def k0_off155 (v824 : BitVec 32) : Fin 2 → Nat :=
  let c0_i32_638 : BitVec 32 := 0#32
  ![v824.toNat, 0]

def k0_chk73 (v824 : BitVec 32) : Prop :=
  (∀ a, (k0_off155 v824) a + S1x1024.size a ≤ S1024x1024.size a)
theorem k0_off155_inb : ∀ (v824 : BitVec 32) (k0_hw73 : k0_chk73 v824), ∀ a, (k0_off155 v824) a + S1x1024.size a ≤ S1024x1024.size a := fun v824 k0_hw73 => k0_hw73

def k0_off156 (v822 : BitVec 32) : Fin 2 → Nat :=
  let c0_i32_639 : BitVec 32 := 0#32
  ![v822.toNat, 0]

def k0_chk74 (v822 : BitVec 32) : Prop :=
  (∀ a, (k0_off156 v822) a + S1x1024.size a ≤ S8192x1024.size a)
theorem k0_off156_inb : ∀ (v822 : BitVec 32) (k0_hw74 : k0_chk74 v822), ∀ a, (k0_off156 v822) a + S1x1024.size a ≤ S8192x1024.size a := fun v822 k0_hw74 => k0_hw74

def k0_off157 (d0 : Dev nD) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_181 : BitVec 32 := 128#32
  let v290 : BitVec 32 := Scalar.muli v88 c128_i32_181
  let v291 : Index := Scalar.indexCast v290
  let c0_182 : Index := 0#32
  ![v291.toNat, 0]
def k0_off158 (d0 : Dev nD) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let v294 : Index := Scalar.indexCast v88
  ![v294.toNat]
@[reducible] def k0_t21_loop (d0 : Dev nD) (v295 : BitVec 32) : Scf.Loop 32 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_186 : BitVec 32 := 1#32
  ⟨v293, v301, c1_i32_186⟩

def k0_cond13 (d0 : Dev nD) (v295 : BitVec 32) (k0_t21 : Fin (k0_t21_loop d0 v295).trips) : BitVec 1 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let c1_i32_186 : BitVec 32 := 1#32
  let arg14 : BitVec 32 := Scf.iv v293 c1_i32_186 k0_t21
  let v817 : BitVec 32 := Scalar.subi arg14 v293
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off159 (d0 : Dev nD) (v295 : BitVec 32) (k0_t21 : Fin (k0_t21_loop d0 v295).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let c1_i32_186 : BitVec 32 := 1#32
  let arg14 : BitVec 32 := Scf.iv v293 c1_i32_186 k0_t21
  let c16_i32_640 : BitVec 32 := 16#32
  let v841 : BitVec 32 := Scalar.subi arg14 c16_i32_640
  let v842 : Index := Scalar.indexCast v841
  ![v842.toNat]
def k0_off160 (d0 : Dev nD) (v295 : BitVec 32) (k0_t21 : Fin (k0_t21_loop d0 v295).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let c1_i32_186 : BitVec 32 := 1#32
  let arg14 : BitVec 32 := Scf.iv v293 c1_i32_186 k0_t21
  let c16_i32_640 : BitVec 32 := 16#32
  let v841 : BitVec 32 := Scalar.subi arg14 c16_i32_640
  let c128_i32_641 : BitVec 32 := 128#32
  let v846 : BitVec 32 := Scalar.muli v88 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v88.toNat, v857.toNat]
def k0_off161 (v845 : BitVec 32) : Fin 2 → Nat :=
  let c0_i32_648 : BitVec 32 := 0#32
  ![v845.toNat, 0]

def k0_chk76 (d0 : Dev nD) (v295 : BitVec 32) (k0_t21 : Fin (k0_t21_loop d0 v295).trips) (v845 : BitVec 32) : Prop :=
  (∀ (k0_h13 : k0_cond13 d0 v295 k0_t21 = 1#1), ∀ a, (k0_off161 v845) a + S1x1024.size a ≤ S1024x1024.size a)
theorem k0_off161_inb : ∀ (d0 : Dev nD) (v295 : BitVec 32) (k0_t21 : Fin (k0_t21_loop d0 v295).trips) (v845 : BitVec 32) (k0_hw76 : k0_chk76 d0 v295 k0_t21 v845), ∀ (k0_h13 : k0_cond13 d0 v295 k0_t21 = 1#1), ∀ a, (k0_off161 v845) a + S1x1024.size a ≤ S1024x1024.size a := fun d0 v295 k0_t21 v845 k0_hw76 k0_h13 => k0_hw76 k0_h13

def k0_off162 (v843 : BitVec 32) : Fin 2 → Nat :=
  let c0_i32_649 : BitVec 32 := 0#32
  ![v843.toNat, 0]

def k0_chk77 (d0 : Dev nD) (v295 : BitVec 32) (k0_t21 : Fin (k0_t21_loop d0 v295).trips) (v843 : BitVec 32) : Prop :=
  (∀ (k0_h13 : k0_cond13 d0 v295 k0_t21 = 1#1), ∀ a, (k0_off162 v843) a + S1x1024.size a ≤ S8192x1024.size a)
theorem k0_off162_inb : ∀ (d0 : Dev nD) (v295 : BitVec 32) (k0_t21 : Fin (k0_t21_loop d0 v295).trips) (v843 : BitVec 32) (k0_hw77 : k0_chk77 d0 v295 k0_t21 v843), ∀ (k0_h13 : k0_cond13 d0 v295 k0_t21 = 1#1), ∀ a, (k0_off162 v843) a + S1x1024.size a ≤ S8192x1024.size a := fun d0 v295 k0_t21 v843 k0_hw77 k0_h13 => k0_hw77 k0_h13

def k0_off163 (d0 : Dev nD) (v295 : BitVec 32) (k0_t21 : Fin (k0_t21_loop d0 v295).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let c1_i32_186 : BitVec 32 := 1#32
  let arg14 : BitVec 32 := Scf.iv v293 c1_i32_186 k0_t21
  let v821 : Index := Scalar.indexCast arg14
  ![v821.toNat]
def k0_off164 (d0 : Dev nD) (v295 : BitVec 32) (k0_t21 : Fin (k0_t21_loop d0 v295).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let c1_i32_186 : BitVec 32 := 1#32
  let arg14 : BitVec 32 := Scf.iv v293 c1_i32_186 k0_t21
  let c128_i32_631 : BitVec 32 := 128#32
  let v825 : BitVec 32 := Scalar.muli v88 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v88.toNat, v836.toNat]
def k0_off165 (v824 : BitVec 32) : Fin 2 → Nat :=
  let c0_i32_638 : BitVec 32 := 0#32
  ![v824.toNat, 0]

def k0_chk78 (v824 : BitVec 32) : Prop :=
  (∀ a, (k0_off165 v824) a + S1x1024.size a ≤ S1024x1024.size a)
theorem k0_off165_inb : ∀ (v824 : BitVec 32) (k0_hw78 : k0_chk78 v824), ∀ a, (k0_off165 v824) a + S1x1024.size a ≤ S1024x1024.size a := fun v824 k0_hw78 => k0_hw78

def k0_off166 (v822 : BitVec 32) : Fin 2 → Nat :=
  let c0_i32_639 : BitVec 32 := 0#32
  ![v822.toNat, 0]

def k0_chk79 (v822 : BitVec 32) : Prop :=
  (∀ a, (k0_off166 v822) a + S1x1024.size a ≤ S8192x1024.size a)
theorem k0_off166_inb : ∀ (v822 : BitVec 32) (k0_hw79 : k0_chk79 v822), ∀ a, (k0_off166 v822) a + S1x1024.size a ≤ S8192x1024.size a := fun v822 k0_hw79 => k0_hw79

@[reducible] def k0_t22_loop (d0 : Dev nD) (v295 : BitVec 32) : Scf.Loop 32 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let v298 : BitVec 32 := Scalar.addi v293 v297
  let c1_i32_187 : BitVec 32 := 1#32
  ⟨v301, v298, c1_i32_187⟩
def k0_off167 (d0 : Dev nD) (v295 : BitVec 32) (k0_t22 : Fin (k0_t22_loop d0 v295).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_187 : BitVec 32 := 1#32
  let arg14 : BitVec 32 := Scf.iv v301 c1_i32_187 k0_t22
  let c16_i32_640 : BitVec 32 := 16#32
  let v841 : BitVec 32 := Scalar.subi arg14 c16_i32_640
  let v842 : Index := Scalar.indexCast v841
  ![v842.toNat]
def k0_cond14 (d0 : Dev nD) (v295 : BitVec 32) (k0_t22 : Fin (k0_t22_loop d0 v295).trips) : BitVec 1 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_187 : BitVec 32 := 1#32
  let arg14 : BitVec 32 := Scf.iv v301 c1_i32_187 k0_t22
  let v817 : BitVec 32 := Scalar.subi arg14 v293
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off168 (d0 : Dev nD) (v295 : BitVec 32) (k0_t22 : Fin (k0_t22_loop d0 v295).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_187 : BitVec 32 := 1#32
  let arg14 : BitVec 32 := Scf.iv v301 c1_i32_187 k0_t22
  let c16_i32_640 : BitVec 32 := 16#32
  let v841 : BitVec 32 := Scalar.subi arg14 c16_i32_640
  let c128_i32_641 : BitVec 32 := 128#32
  let v846 : BitVec 32 := Scalar.muli v88 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v88.toNat, v857.toNat]
def k0_off169 (v845 : BitVec 32) : Fin 2 → Nat :=
  let c0_i32_648 : BitVec 32 := 0#32
  ![v845.toNat, 0]

def k0_chk80 (d0 : Dev nD) (v295 : BitVec 32) (k0_t22 : Fin (k0_t22_loop d0 v295).trips) (v845 : BitVec 32) : Prop :=
  (∀ (k0_h14 : k0_cond14 d0 v295 k0_t22 = 1#1), ∀ a, (k0_off169 v845) a + S1x1024.size a ≤ S1024x1024.size a)
theorem k0_off169_inb : ∀ (d0 : Dev nD) (v295 : BitVec 32) (k0_t22 : Fin (k0_t22_loop d0 v295).trips) (v845 : BitVec 32) (k0_hw80 : k0_chk80 d0 v295 k0_t22 v845), ∀ (k0_h14 : k0_cond14 d0 v295 k0_t22 = 1#1), ∀ a, (k0_off169 v845) a + S1x1024.size a ≤ S1024x1024.size a := fun d0 v295 k0_t22 v845 k0_hw80 k0_h14 => k0_hw80 k0_h14

def k0_off170 (v843 : BitVec 32) : Fin 2 → Nat :=
  let c0_i32_649 : BitVec 32 := 0#32
  ![v843.toNat, 0]

def k0_chk81 (d0 : Dev nD) (v295 : BitVec 32) (k0_t22 : Fin (k0_t22_loop d0 v295).trips) (v843 : BitVec 32) : Prop :=
  (∀ (k0_h14 : k0_cond14 d0 v295 k0_t22 = 1#1), ∀ a, (k0_off170 v843) a + S1x1024.size a ≤ S8192x1024.size a)
theorem k0_off170_inb : ∀ (d0 : Dev nD) (v295 : BitVec 32) (k0_t22 : Fin (k0_t22_loop d0 v295).trips) (v843 : BitVec 32) (k0_hw81 : k0_chk81 d0 v295 k0_t22 v843), ∀ (k0_h14 : k0_cond14 d0 v295 k0_t22 = 1#1), ∀ a, (k0_off170 v843) a + S1x1024.size a ≤ S8192x1024.size a := fun d0 v295 k0_t22 v843 k0_hw81 k0_h14 => k0_hw81 k0_h14

def k0_off171 (d0 : Dev nD) (v295 : BitVec 32) (k0_t22 : Fin (k0_t22_loop d0 v295).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_187 : BitVec 32 := 1#32
  let arg14 : BitVec 32 := Scf.iv v301 c1_i32_187 k0_t22
  let v821 : Index := Scalar.indexCast arg14
  ![v821.toNat]
def k0_off172 (d0 : Dev nD) (v295 : BitVec 32) (k0_t22 : Fin (k0_t22_loop d0 v295).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_183 : BitVec 32 := 128#32
  let v293 : BitVec 32 := Scalar.muli v88 c128_i32_183
  let v296 : BitVec 32 := Scalar.addi v293 v295
  let v297 : BitVec 32 := Scalar.subi v296 v293
  let c1_i32_185 : BitVec 32 := 1#32
  let v299 : BitVec 32 := Scalar.divsi v297 c1_i32_185
  let v300 : BitVec 32 := Scalar.muli v299 c1_i32_185
  let v301 : BitVec 32 := Scalar.addi v293 v300
  let c1_i32_187 : BitVec 32 := 1#32
  let arg14 : BitVec 32 := Scf.iv v301 c1_i32_187 k0_t22
  let c128_i32_631 : BitVec 32 := 128#32
  let v825 : BitVec 32 := Scalar.muli v88 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v88.toNat, v836.toNat]

def k0_chk75 (d0 : Dev nD) (v295 : BitVec 32) : Prop :=
  ((k0_t21_loop d0 v295).OK) ∧
  (∀ k0_t21 : Fin (k0_t21_loop d0 v295).trips, ∀ (k0_h13 : k0_cond13 d0 v295 k0_t21 = 1#1), ∀ a, (k0_off159 d0 v295 k0_t21) a + S1.size a ≤ S1024.size a) ∧
  (∀ k0_t21 : Fin (k0_t21_loop d0 v295).trips, ∀ (k0_h13 : k0_cond13 d0 v295 k0_t21 = 1#1), ∀ a, (k0_off160 d0 v295 k0_t21) a + S1x1.size a ≤ S8x16.size a) ∧
  (∀ k0_t21 : Fin (k0_t21_loop d0 v295).trips, ∀ a, (k0_off163 d0 v295 k0_t21) a + S1.size a ≤ S1024.size a) ∧
  (∀ k0_t21 : Fin (k0_t21_loop d0 v295).trips, ∀ a, (k0_off164 d0 v295 k0_t21) a + S1x1.size a ≤ S8x16.size a) ∧
  ((k0_t22_loop d0 v295).OK) ∧
  (∀ k0_t22 : Fin (k0_t22_loop d0 v295).trips, ∀ (k0_h14 : k0_cond14 d0 v295 k0_t22 = 1#1), ∀ a, (k0_off167 d0 v295 k0_t22) a + S1.size a ≤ S1024.size a) ∧
  (∀ k0_t22 : Fin (k0_t22_loop d0 v295).trips, ∀ (k0_h14 : k0_cond14 d0 v295 k0_t22 = 1#1), ∀ a, (k0_off168 d0 v295 k0_t22) a + S1x1.size a ≤ S8x16.size a) ∧
  (∀ k0_t22 : Fin (k0_t22_loop d0 v295).trips, ∀ a, (k0_off171 d0 v295 k0_t22) a + S1.size a ≤ S1024.size a) ∧
  (∀ k0_t22 : Fin (k0_t22_loop d0 v295).trips, ∀ a, (k0_off172 d0 v295 k0_t22) a + S1x1.size a ≤ S8x16.size a)
theorem k0_t21_ok : ∀ (d0 : Dev nD) (v295 : BitVec 32) (k0_hw75 : k0_chk75 d0 v295), (k0_t21_loop d0 v295).OK := fun d0 v295 k0_hw75 => k0_hw75.1
theorem k0_off159_inb : ∀ (d0 : Dev nD) (v295 : BitVec 32) (k0_hw75 : k0_chk75 d0 v295) (k0_t21 : Fin (k0_t21_loop d0 v295).trips), ∀ (k0_h13 : k0_cond13 d0 v295 k0_t21 = 1#1), ∀ a, (k0_off159 d0 v295 k0_t21) a + S1.size a ≤ S1024.size a := fun d0 v295 k0_hw75 k0_t21 k0_h13 => k0_hw75.2.1 k0_t21 k0_h13
theorem k0_off160_inb : ∀ (d0 : Dev nD) (v295 : BitVec 32) (k0_hw75 : k0_chk75 d0 v295) (k0_t21 : Fin (k0_t21_loop d0 v295).trips), ∀ (k0_h13 : k0_cond13 d0 v295 k0_t21 = 1#1), ∀ a, (k0_off160 d0 v295 k0_t21) a + S1x1.size a ≤ S8x16.size a := fun d0 v295 k0_hw75 k0_t21 k0_h13 => k0_hw75.2.2.1 k0_t21 k0_h13
theorem k0_off163_inb : ∀ (d0 : Dev nD) (v295 : BitVec 32) (k0_hw75 : k0_chk75 d0 v295) (k0_t21 : Fin (k0_t21_loop d0 v295).trips), ∀ a, (k0_off163 d0 v295 k0_t21) a + S1.size a ≤ S1024.size a := fun d0 v295 k0_hw75 k0_t21 => k0_hw75.2.2.2.1 k0_t21
theorem k0_off164_inb : ∀ (d0 : Dev nD) (v295 : BitVec 32) (k0_hw75 : k0_chk75 d0 v295) (k0_t21 : Fin (k0_t21_loop d0 v295).trips), ∀ a, (k0_off164 d0 v295 k0_t21) a + S1x1.size a ≤ S8x16.size a := fun d0 v295 k0_hw75 k0_t21 => k0_hw75.2.2.2.2.1 k0_t21
theorem k0_t22_ok : ∀ (d0 : Dev nD) (v295 : BitVec 32) (k0_hw75 : k0_chk75 d0 v295), (k0_t22_loop d0 v295).OK := fun d0 v295 k0_hw75 => k0_hw75.2.2.2.2.2.1
theorem k0_off167_inb : ∀ (d0 : Dev nD) (v295 : BitVec 32) (k0_hw75 : k0_chk75 d0 v295) (k0_t22 : Fin (k0_t22_loop d0 v295).trips), ∀ (k0_h14 : k0_cond14 d0 v295 k0_t22 = 1#1), ∀ a, (k0_off167 d0 v295 k0_t22) a + S1.size a ≤ S1024.size a := fun d0 v295 k0_hw75 k0_t22 k0_h14 => k0_hw75.2.2.2.2.2.2.1 k0_t22 k0_h14
theorem k0_off168_inb : ∀ (d0 : Dev nD) (v295 : BitVec 32) (k0_hw75 : k0_chk75 d0 v295) (k0_t22 : Fin (k0_t22_loop d0 v295).trips), ∀ (k0_h14 : k0_cond14 d0 v295 k0_t22 = 1#1), ∀ a, (k0_off168 d0 v295 k0_t22) a + S1x1.size a ≤ S8x16.size a := fun d0 v295 k0_hw75 k0_t22 k0_h14 => k0_hw75.2.2.2.2.2.2.2.1 k0_t22 k0_h14
theorem k0_off171_inb : ∀ (d0 : Dev nD) (v295 : BitVec 32) (k0_hw75 : k0_chk75 d0 v295) (k0_t22 : Fin (k0_t22_loop d0 v295).trips), ∀ a, (k0_off171 d0 v295 k0_t22) a + S1.size a ≤ S1024.size a := fun d0 v295 k0_hw75 k0_t22 => k0_hw75.2.2.2.2.2.2.2.2.1 k0_t22
theorem k0_off172_inb : ∀ (d0 : Dev nD) (v295 : BitVec 32) (k0_hw75 : k0_chk75 d0 v295) (k0_t22 : Fin (k0_t22_loop d0 v295).trips), ∀ a, (k0_off172 d0 v295 k0_t22) a + S1x1.size a ≤ S8x16.size a := fun d0 v295 k0_hw75 k0_t22 => k0_hw75.2.2.2.2.2.2.2.2.2 k0_t22

def k0_off173 (v824 : BitVec 32) : Fin 2 → Nat :=
  let c0_i32_638 : BitVec 32 := 0#32
  ![v824.toNat, 0]

def k0_chk82 (v824 : BitVec 32) : Prop :=
  (∀ a, (k0_off173 v824) a + S1x1024.size a ≤ S1024x1024.size a)
theorem k0_off173_inb : ∀ (v824 : BitVec 32) (k0_hw82 : k0_chk82 v824), ∀ a, (k0_off173 v824) a + S1x1024.size a ≤ S1024x1024.size a := fun v824 k0_hw82 => k0_hw82

def k0_off174 (v822 : BitVec 32) : Fin 2 → Nat :=
  let c0_i32_639 : BitVec 32 := 0#32
  ![v822.toNat, 0]

def k0_chk83 (v822 : BitVec 32) : Prop :=
  (∀ a, (k0_off174 v822) a + S1x1024.size a ≤ S8192x1024.size a)
theorem k0_off174_inb : ∀ (v822 : BitVec 32) (k0_hw83 : k0_chk83 v822), ∀ a, (k0_off174 v822) a + S1x1024.size a ≤ S8192x1024.size a := fun v822 k0_hw83 => k0_hw83

def k0_off175 (d0 : Dev nD) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_189 : BitVec 32 := 128#32
  let v303 : BitVec 32 := Scalar.muli v95 c128_i32_189
  let v304 : Index := Scalar.indexCast v303
  let c0_190 : Index := 0#32
  ![v304.toNat, 0]
def k0_off176 (d0 : Dev nD) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let v307 : Index := Scalar.indexCast v95
  ![v307.toNat]
@[reducible] def k0_t23_loop (d0 : Dev nD) (v308 : BitVec 32) : Scf.Loop 32 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_194 : BitVec 32 := 1#32
  ⟨v306, v314, c1_i32_194⟩

def k0_cond15 (d0 : Dev nD) (v308 : BitVec 32) (k0_t23 : Fin (k0_t23_loop d0 v308).trips) : BitVec 1 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let c1_i32_194 : BitVec 32 := 1#32
  let arg14 : BitVec 32 := Scf.iv v306 c1_i32_194 k0_t23
  let v817 : BitVec 32 := Scalar.subi arg14 v306
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off177 (d0 : Dev nD) (v308 : BitVec 32) (k0_t23 : Fin (k0_t23_loop d0 v308).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let c1_i32_194 : BitVec 32 := 1#32
  let arg14 : BitVec 32 := Scf.iv v306 c1_i32_194 k0_t23
  let c16_i32_640 : BitVec 32 := 16#32
  let v841 : BitVec 32 := Scalar.subi arg14 c16_i32_640
  let v842 : Index := Scalar.indexCast v841
  ![v842.toNat]
def k0_off178 (d0 : Dev nD) (v308 : BitVec 32) (k0_t23 : Fin (k0_t23_loop d0 v308).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let c1_i32_194 : BitVec 32 := 1#32
  let arg14 : BitVec 32 := Scf.iv v306 c1_i32_194 k0_t23
  let c16_i32_640 : BitVec 32 := 16#32
  let v841 : BitVec 32 := Scalar.subi arg14 c16_i32_640
  let c128_i32_641 : BitVec 32 := 128#32
  let v846 : BitVec 32 := Scalar.muli v95 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v95.toNat, v857.toNat]
def k0_off179 (v845 : BitVec 32) : Fin 2 → Nat :=
  let c0_i32_648 : BitVec 32 := 0#32
  ![v845.toNat, 0]

def k0_chk85 (d0 : Dev nD) (v308 : BitVec 32) (k0_t23 : Fin (k0_t23_loop d0 v308).trips) (v845 : BitVec 32) : Prop :=
  (∀ (k0_h15 : k0_cond15 d0 v308 k0_t23 = 1#1), ∀ a, (k0_off179 v845) a + S1x1024.size a ≤ S1024x1024.size a)
theorem k0_off179_inb : ∀ (d0 : Dev nD) (v308 : BitVec 32) (k0_t23 : Fin (k0_t23_loop d0 v308).trips) (v845 : BitVec 32) (k0_hw85 : k0_chk85 d0 v308 k0_t23 v845), ∀ (k0_h15 : k0_cond15 d0 v308 k0_t23 = 1#1), ∀ a, (k0_off179 v845) a + S1x1024.size a ≤ S1024x1024.size a := fun d0 v308 k0_t23 v845 k0_hw85 k0_h15 => k0_hw85 k0_h15

def k0_off180 (v843 : BitVec 32) : Fin 2 → Nat :=
  let c0_i32_649 : BitVec 32 := 0#32
  ![v843.toNat, 0]

def k0_chk86 (d0 : Dev nD) (v308 : BitVec 32) (k0_t23 : Fin (k0_t23_loop d0 v308).trips) (v843 : BitVec 32) : Prop :=
  (∀ (k0_h15 : k0_cond15 d0 v308 k0_t23 = 1#1), ∀ a, (k0_off180 v843) a + S1x1024.size a ≤ S8192x1024.size a)
theorem k0_off180_inb : ∀ (d0 : Dev nD) (v308 : BitVec 32) (k0_t23 : Fin (k0_t23_loop d0 v308).trips) (v843 : BitVec 32) (k0_hw86 : k0_chk86 d0 v308 k0_t23 v843), ∀ (k0_h15 : k0_cond15 d0 v308 k0_t23 = 1#1), ∀ a, (k0_off180 v843) a + S1x1024.size a ≤ S8192x1024.size a := fun d0 v308 k0_t23 v843 k0_hw86 k0_h15 => k0_hw86 k0_h15

def k0_off181 (d0 : Dev nD) (v308 : BitVec 32) (k0_t23 : Fin (k0_t23_loop d0 v308).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let c1_i32_194 : BitVec 32 := 1#32
  let arg14 : BitVec 32 := Scf.iv v306 c1_i32_194 k0_t23
  let v821 : Index := Scalar.indexCast arg14
  ![v821.toNat]
def k0_off182 (d0 : Dev nD) (v308 : BitVec 32) (k0_t23 : Fin (k0_t23_loop d0 v308).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let c1_i32_194 : BitVec 32 := 1#32
  let arg14 : BitVec 32 := Scf.iv v306 c1_i32_194 k0_t23
  let c128_i32_631 : BitVec 32 := 128#32
  let v825 : BitVec 32 := Scalar.muli v95 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v95.toNat, v836.toNat]
def k0_off183 (v824 : BitVec 32) : Fin 2 → Nat :=
  let c0_i32_638 : BitVec 32 := 0#32
  ![v824.toNat, 0]

def k0_chk87 (v824 : BitVec 32) : Prop :=
  (∀ a, (k0_off183 v824) a + S1x1024.size a ≤ S1024x1024.size a)
theorem k0_off183_inb : ∀ (v824 : BitVec 32) (k0_hw87 : k0_chk87 v824), ∀ a, (k0_off183 v824) a + S1x1024.size a ≤ S1024x1024.size a := fun v824 k0_hw87 => k0_hw87

def k0_off184 (v822 : BitVec 32) : Fin 2 → Nat :=
  let c0_i32_639 : BitVec 32 := 0#32
  ![v822.toNat, 0]

def k0_chk88 (v822 : BitVec 32) : Prop :=
  (∀ a, (k0_off184 v822) a + S1x1024.size a ≤ S8192x1024.size a)
theorem k0_off184_inb : ∀ (v822 : BitVec 32) (k0_hw88 : k0_chk88 v822), ∀ a, (k0_off184 v822) a + S1x1024.size a ≤ S8192x1024.size a := fun v822 k0_hw88 => k0_hw88

@[reducible] def k0_t24_loop (d0 : Dev nD) (v308 : BitVec 32) : Scf.Loop 32 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let v311 : BitVec 32 := Scalar.addi v306 v310
  let c1_i32_195 : BitVec 32 := 1#32
  ⟨v314, v311, c1_i32_195⟩
def k0_off185 (d0 : Dev nD) (v308 : BitVec 32) (k0_t24 : Fin (k0_t24_loop d0 v308).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_195 : BitVec 32 := 1#32
  let arg14 : BitVec 32 := Scf.iv v314 c1_i32_195 k0_t24
  let c16_i32_640 : BitVec 32 := 16#32
  let v841 : BitVec 32 := Scalar.subi arg14 c16_i32_640
  let v842 : Index := Scalar.indexCast v841
  ![v842.toNat]
def k0_cond16 (d0 : Dev nD) (v308 : BitVec 32) (k0_t24 : Fin (k0_t24_loop d0 v308).trips) : BitVec 1 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_195 : BitVec 32 := 1#32
  let arg14 : BitVec 32 := Scf.iv v314 c1_i32_195 k0_t24
  let v817 : BitVec 32 := Scalar.subi arg14 v306
  let c16_i32_629 : BitVec 32 := 16#32
  let v818 : BitVec 1 := Scalar.cmpi .sge v817 c16_i32_629
  let v819 : BitVec 32 := Scalar.extui v818
  let c0_i32_630 : BitVec 32 := 0#32
  let v820 : BitVec 1 := Scalar.cmpi .ne v819 c0_i32_630
  v820

def k0_off186 (d0 : Dev nD) (v308 : BitVec 32) (k0_t24 : Fin (k0_t24_loop d0 v308).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_195 : BitVec 32 := 1#32
  let arg14 : BitVec 32 := Scf.iv v314 c1_i32_195 k0_t24
  let c16_i32_640 : BitVec 32 := 16#32
  let v841 : BitVec 32 := Scalar.subi arg14 c16_i32_640
  let c128_i32_641 : BitVec 32 := 128#32
  let v846 : BitVec 32 := Scalar.muli v95 c128_i32_641
  let v847 : BitVec 32 := Scalar.subi v841 v846
  let c16_i32_642 : BitVec 32 := 16#32
  let c0_i32_643 : BitVec 32 := 0#32
  let v848 : BitVec 1 := Scalar.cmpi .eq c16_i32_642 c0_i32_643
  let c1_i32_644 : BitVec 32 := 1#32
  let v849 : BitVec 32 := Scalar.select v848 c1_i32_644 c16_i32_642
  let v850 : BitVec 32 := Scalar.remsi v847 v849
  let c0_i32_646 : BitVec 32 := 0#32
  let v852 : BitVec 1 := Scalar.cmpi .slt v850 c0_i32_646
  let c0_i32_647 : BitVec 32 := 0#32
  let v853 : BitVec 1 := Scalar.cmpi .slt v849 c0_i32_647
  let v854 : BitVec 1 := Scalar.xori v852 v853
  let c0_i32_645 : BitVec 32 := 0#32
  let v851 : BitVec 1 := Scalar.cmpi .ne v850 c0_i32_645
  let v855 : BitVec 1 := Scalar.andi v854 v851
  let v856 : BitVec 32 := Scalar.addi v850 v849
  let v857 : BitVec 32 := Scalar.select v855 v856 v850
  ![v95.toNat, v857.toNat]
def k0_off187 (v845 : BitVec 32) : Fin 2 → Nat :=
  let c0_i32_648 : BitVec 32 := 0#32
  ![v845.toNat, 0]

def k0_chk89 (d0 : Dev nD) (v308 : BitVec 32) (k0_t24 : Fin (k0_t24_loop d0 v308).trips) (v845 : BitVec 32) : Prop :=
  (∀ (k0_h16 : k0_cond16 d0 v308 k0_t24 = 1#1), ∀ a, (k0_off187 v845) a + S1x1024.size a ≤ S1024x1024.size a)
theorem k0_off187_inb : ∀ (d0 : Dev nD) (v308 : BitVec 32) (k0_t24 : Fin (k0_t24_loop d0 v308).trips) (v845 : BitVec 32) (k0_hw89 : k0_chk89 d0 v308 k0_t24 v845), ∀ (k0_h16 : k0_cond16 d0 v308 k0_t24 = 1#1), ∀ a, (k0_off187 v845) a + S1x1024.size a ≤ S1024x1024.size a := fun d0 v308 k0_t24 v845 k0_hw89 k0_h16 => k0_hw89 k0_h16

def k0_off188 (v843 : BitVec 32) : Fin 2 → Nat :=
  let c0_i32_649 : BitVec 32 := 0#32
  ![v843.toNat, 0]

def k0_chk90 (d0 : Dev nD) (v308 : BitVec 32) (k0_t24 : Fin (k0_t24_loop d0 v308).trips) (v843 : BitVec 32) : Prop :=
  (∀ (k0_h16 : k0_cond16 d0 v308 k0_t24 = 1#1), ∀ a, (k0_off188 v843) a + S1x1024.size a ≤ S8192x1024.size a)
theorem k0_off188_inb : ∀ (d0 : Dev nD) (v308 : BitVec 32) (k0_t24 : Fin (k0_t24_loop d0 v308).trips) (v843 : BitVec 32) (k0_hw90 : k0_chk90 d0 v308 k0_t24 v843), ∀ (k0_h16 : k0_cond16 d0 v308 k0_t24 = 1#1), ∀ a, (k0_off188 v843) a + S1x1024.size a ≤ S8192x1024.size a := fun d0 v308 k0_t24 v843 k0_hw90 k0_h16 => k0_hw90 k0_h16

def k0_off189 (d0 : Dev nD) (v308 : BitVec 32) (k0_t24 : Fin (k0_t24_loop d0 v308).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_195 : BitVec 32 := 1#32
  let arg14 : BitVec 32 := Scf.iv v314 c1_i32_195 k0_t24
  let v821 : Index := Scalar.indexCast arg14
  ![v821.toNat]
def k0_off190 (d0 : Dev nD) (v308 : BitVec 32) (k0_t24 : Fin (k0_t24_loop d0 v308).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_191 : BitVec 32 := 128#32
  let v306 : BitVec 32 := Scalar.muli v95 c128_i32_191
  let v309 : BitVec 32 := Scalar.addi v306 v308
  let v310 : BitVec 32 := Scalar.subi v309 v306
  let c1_i32_193 : BitVec 32 := 1#32
  let v312 : BitVec 32 := Scalar.divsi v310 c1_i32_193
  let v313 : BitVec 32 := Scalar.muli v312 c1_i32_193
  let v314 : BitVec 32 := Scalar.addi v306 v313
  let c1_i32_195 : BitVec 32 := 1#32
  let arg14 : BitVec 32 := Scf.iv v314 c1_i32_195 k0_t24
  let c128_i32_631 : BitVec 32 := 128#32
  let v825 : BitVec 32 := Scalar.muli v95 c128_i32_631
  let v826 : BitVec 32 := Scalar.subi arg14 v825
  let c16_i32_632 : BitVec 32 := 16#32
  let c0_i32_633 : BitVec 32 := 0#32
  let v827 : BitVec 1 := Scalar.cmpi .eq c16_i32_632 c0_i32_633
  let c1_i32_634 : BitVec 32 := 1#32
  let v828 : BitVec 32 := Scalar.select v827 c1_i32_634 c16_i32_632
  let v829 : BitVec 32 := Scalar.remsi v826 v828
  let c0_i32_636 : BitVec 32 := 0#32
  let v831 : BitVec 1 := Scalar.cmpi .slt v829 c0_i32_636
  let c0_i32_637 : BitVec 32 := 0#32
  let v832 : BitVec 1 := Scalar.cmpi .slt v828 c0_i32_637
  let v833 : BitVec 1 := Scalar.xori v831 v832
  let c0_i32_635 : BitVec 32 := 0#32
  let v830 : BitVec 1 := Scalar.cmpi .ne v829 c0_i32_635
  let v834 : BitVec 1 := Scalar.andi v833 v830
  let v835 : BitVec 32 := Scalar.addi v829 v828
  let v836 : BitVec 32 := Scalar.select v834 v835 v829
  ![v95.toNat, v836.toNat]

def k0_chk84 (d0 : Dev nD) (v308 : BitVec 32) : Prop :=
  ((k0_t23_loop d0 v308).OK) ∧
  (∀ k0_t23 : Fin (k0_t23_loop d0 v308).trips, ∀ (k0_h15 : k0_cond15 d0 v308 k0_t23 = 1#1), ∀ a, (k0_off177 d0 v308 k0_t23) a + S1.size a ≤ S1024.size a) ∧
  (∀ k0_t23 : Fin (k0_t23_loop d0 v308).trips, ∀ (k0_h15 : k0_cond15 d0 v308 k0_t23 = 1#1), ∀ a, (k0_off178 d0 v308 k0_t23) a + S1x1.size a ≤ S8x16.size a) ∧
  (∀ k0_t23 : Fin (k0_t23_loop d0 v308).trips, ∀ a, (k0_off181 d0 v308 k0_t23) a + S1.size a ≤ S1024.size a) ∧
  (∀ k0_t23 : Fin (k0_t23_loop d0 v308).trips, ∀ a, (k0_off182 d0 v308 k0_t23) a + S1x1.size a ≤ S8x16.size a) ∧
  ((k0_t24_loop d0 v308).OK) ∧
  (∀ k0_t24 : Fin (k0_t24_loop d0 v308).trips, ∀ (k0_h16 : k0_cond16 d0 v308 k0_t24 = 1#1), ∀ a, (k0_off185 d0 v308 k0_t24) a + S1.size a ≤ S1024.size a) ∧
  (∀ k0_t24 : Fin (k0_t24_loop d0 v308).trips, ∀ (k0_h16 : k0_cond16 d0 v308 k0_t24 = 1#1), ∀ a, (k0_off186 d0 v308 k0_t24) a + S1x1.size a ≤ S8x16.size a) ∧
  (∀ k0_t24 : Fin (k0_t24_loop d0 v308).trips, ∀ a, (k0_off189 d0 v308 k0_t24) a + S1.size a ≤ S1024.size a) ∧
  (∀ k0_t24 : Fin (k0_t24_loop d0 v308).trips, ∀ a, (k0_off190 d0 v308 k0_t24) a + S1x1.size a ≤ S8x16.size a)
theorem k0_t23_ok : ∀ (d0 : Dev nD) (v308 : BitVec 32) (k0_hw84 : k0_chk84 d0 v308), (k0_t23_loop d0 v308).OK := fun d0 v308 k0_hw84 => k0_hw84.1
theorem k0_off177_inb : ∀ (d0 : Dev nD) (v308 : BitVec 32) (k0_hw84 : k0_chk84 d0 v308) (k0_t23 : Fin (k0_t23_loop d0 v308).trips), ∀ (k0_h15 : k0_cond15 d0 v308 k0_t23 = 1#1), ∀ a, (k0_off177 d0 v308 k0_t23) a + S1.size a ≤ S1024.size a := fun d0 v308 k0_hw84 k0_t23 k0_h15 => k0_hw84.2.1 k0_t23 k0_h15
theorem k0_off178_inb : ∀ (d0 : Dev nD) (v308 : BitVec 32) (k0_hw84 : k0_chk84 d0 v308) (k0_t23 : Fin (k0_t23_loop d0 v308).trips), ∀ (k0_h15 : k0_cond15 d0 v308 k0_t23 = 1#1), ∀ a, (k0_off178 d0 v308 k0_t23) a + S1x1.size a ≤ S8x16.size a := fun d0 v308 k0_hw84 k0_t23 k0_h15 => k0_hw84.2.2.1 k0_t23 k0_h15
theorem k0_off181_inb : ∀ (d0 : Dev nD) (v308 : BitVec 32) (k0_hw84 : k0_chk84 d0 v308) (k0_t23 : Fin (k0_t23_loop d0 v308).trips), ∀ a, (k0_off181 d0 v308 k0_t23) a + S1.size a ≤ S1024.size a := fun d0 v308 k0_hw84 k0_t23 => k0_hw84.2.2.2.1 k0_t23
theorem k0_off182_inb : ∀ (d0 : Dev nD) (v308 : BitVec 32) (k0_hw84 : k0_chk84 d0 v308) (k0_t23 : Fin (k0_t23_loop d0 v308).trips), ∀ a, (k0_off182 d0 v308 k0_t23) a + S1x1.size a ≤ S8x16.size a := fun d0 v308 k0_hw84 k0_t23 => k0_hw84.2.2.2.2.1 k0_t23
theorem k0_t24_ok : ∀ (d0 : Dev nD) (v308 : BitVec 32) (k0_hw84 : k0_chk84 d0 v308), (k0_t24_loop d0 v308).OK := fun d0 v308 k0_hw84 => k0_hw84.2.2.2.2.2.1
theorem k0_off185_inb : ∀ (d0 : Dev nD) (v308 : BitVec 32) (k0_hw84 : k0_chk84 d0 v308) (k0_t24 : Fin (k0_t24_loop d0 v308).trips), ∀ (k0_h16 : k0_cond16 d0 v308 k0_t24 = 1#1), ∀ a, (k0_off185 d0 v308 k0_t24) a + S1.size a ≤ S1024.size a := fun d0 v308 k0_hw84 k0_t24 k0_h16 => k0_hw84.2.2.2.2.2.2.1 k0_t24 k0_h16
theorem k0_off186_inb : ∀ (d0 : Dev nD) (v308 : BitVec 32) (k0_hw84 : k0_chk84 d0 v308) (k0_t24 : Fin (k0_t24_loop d0 v308).trips), ∀ (k0_h16 : k0_cond16 d0 v308 k0_t24 = 1#1), ∀ a, (k0_off186 d0 v308 k0_t24) a + S1x1.size a ≤ S8x16.size a := fun d0 v308 k0_hw84 k0_t24 k0_h16 => k0_hw84.2.2.2.2.2.2.2.1 k0_t24 k0_h16
theorem k0_off189_inb : ∀ (d0 : Dev nD) (v308 : BitVec 32) (k0_hw84 : k0_chk84 d0 v308) (k0_t24 : Fin (k0_t24_loop d0 v308).trips), ∀ a, (k0_off189 d0 v308 k0_t24) a + S1.size a ≤ S1024.size a := fun d0 v308 k0_hw84 k0_t24 => k0_hw84.2.2.2.2.2.2.2.2.1 k0_t24
theorem k0_off190_inb : ∀ (d0 : Dev nD) (v308 : BitVec 32) (k0_hw84 : k0_chk84 d0 v308) (k0_t24 : Fin (k0_t24_loop d0 v308).trips), ∀ a, (k0_off190 d0 v308 k0_t24) a + S1x1.size a ≤ S8x16.size a := fun d0 v308 k0_hw84 k0_t24 => k0_hw84.2.2.2.2.2.2.2.2.2 k0_t24

def k0_off191 (v824 : BitVec 32) : Fin 2 → Nat :=
  let c0_i32_638 : BitVec 32 := 0#32
  ![v824.toNat, 0]

def k0_chk91 (v824 : BitVec 32) : Prop :=
  (∀ a, (k0_off191 v824) a + S1x1024.size a ≤ S1024x1024.size a)
theorem k0_off191_inb : ∀ (v824 : BitVec 32) (k0_hw91 : k0_chk91 v824), ∀ a, (k0_off191 v824) a + S1x1024.size a ≤ S1024x1024.size a := fun v824 k0_hw91 => k0_hw91

def k0_off192 (v822 : BitVec 32) : Fin 2 → Nat :=
  let c0_i32_639 : BitVec 32 := 0#32
  ![v822.toNat, 0]

def k0_chk92 (v822 : BitVec 32) : Prop :=
  (∀ a, (k0_off192 v822) a + S1x1024.size a ≤ S8192x1024.size a)
theorem k0_off192_inb : ∀ (v822 : BitVec 32) (k0_hw92 : k0_chk92 v822), ∀ a, (k0_off192 v822) a + S1x1024.size a ≤ S8192x1024.size a := fun v822 k0_hw92 => k0_hw92

def k0_off193 (d0 : Dev nD) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let v316 : Index := Scalar.indexCast v86
  ![v316.toNat]
@[reducible] def k0_t25_loop (d0 : Dev nD) (v317 : BitVec 32) : Scf.Loop 32 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let v321 : BitVec 32 := Scalar.subi v318 v320
  let c1_i32_199 : BitVec 32 := 1#32
  let v323 : BitVec 32 := Scalar.divsi v321 c1_i32_199
  let v324 : BitVec 32 := Scalar.muli v323 c1_i32_199
  let v325 : BitVec 32 := Scalar.addi v320 v324
  let c1_i32_200 : BitVec 32 := 1#32
  ⟨v320, v325, c1_i32_200⟩

def k0_off194 (d0 : Dev nD) (v317 : BitVec 32) (k0_t25 : Fin (k0_t25_loop d0 v317).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let c1_i32_200 : BitVec 32 := 1#32
  let arg14 : BitVec 32 := Scf.iv v320 c1_i32_200 k0_t25
  let v817 : Index := Scalar.indexCast arg14
  ![v817.toNat]
def k0_off195 (d0 : Dev nD) (v317 : BitVec 32) (k0_t25 : Fin (k0_t25_loop d0 v317).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let c1_i32_200 : BitVec 32 := 1#32
  let arg14 : BitVec 32 := Scf.iv v320 c1_i32_200 k0_t25
  let c128_i32_629 : BitVec 32 := 128#32
  let v821 : BitVec 32 := Scalar.muli v86 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v86.toNat, v832.toNat]
def k0_off196 (v820 : BitVec 32) : Fin 2 → Nat :=
  let c0_i32_636 : BitVec 32 := 0#32
  ![v820.toNat, 0]

def k0_chk94 (v820 : BitVec 32) : Prop :=
  (∀ a, (k0_off196 v820) a + S1x1024.size a ≤ S1024x1024.size a)
theorem k0_off196_inb : ∀ (v820 : BitVec 32) (k0_hw94 : k0_chk94 v820), ∀ a, (k0_off196 v820) a + S1x1024.size a ≤ S1024x1024.size a := fun v820 k0_hw94 => k0_hw94

def k0_off197 (v818 : BitVec 32) : Fin 2 → Nat :=
  let c0_i32_637 : BitVec 32 := 0#32
  ![v818.toNat, 0]

def k0_chk95 (v818 : BitVec 32) : Prop :=
  (∀ a, (k0_off197 v818) a + S1x1024.size a ≤ S8192x1024.size a)
theorem k0_off197_inb : ∀ (v818 : BitVec 32) (k0_hw95 : k0_chk95 v818), ∀ a, (k0_off197 v818) a + S1x1024.size a ≤ S8192x1024.size a := fun v818 k0_hw95 => k0_hw95

@[reducible] def k0_t26_loop (d0 : Dev nD) (v317 : BitVec 32) : Scf.Loop 32 :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let v321 : BitVec 32 := Scalar.subi v318 v320
  let c1_i32_199 : BitVec 32 := 1#32
  let v323 : BitVec 32 := Scalar.divsi v321 c1_i32_199
  let v324 : BitVec 32 := Scalar.muli v323 c1_i32_199
  let v325 : BitVec 32 := Scalar.addi v320 v324
  let v322 : BitVec 32 := Scalar.addi v320 v321
  let c1_i32_201 : BitVec 32 := 1#32
  ⟨v325, v322, c1_i32_201⟩
def k0_off198 (d0 : Dev nD) (v317 : BitVec 32) (k0_t26 : Fin (k0_t26_loop d0 v317).trips) : Fin 1 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let v321 : BitVec 32 := Scalar.subi v318 v320
  let c1_i32_199 : BitVec 32 := 1#32
  let v323 : BitVec 32 := Scalar.divsi v321 c1_i32_199
  let v324 : BitVec 32 := Scalar.muli v323 c1_i32_199
  let v325 : BitVec 32 := Scalar.addi v320 v324
  let c1_i32_201 : BitVec 32 := 1#32
  let arg14 : BitVec 32 := Scf.iv v325 c1_i32_201 k0_t26
  let v817 : Index := Scalar.indexCast arg14
  ![v817.toNat]
def k0_off199 (d0 : Dev nD) (v317 : BitVec 32) (k0_t26 : Fin (k0_t26_loop d0 v317).trips) : Fin 2 → Nat :=
  let c2_i32_49 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v84 : BitVec 32 := Scalar.muli c2_i32_49 v40
  let c1_i32_50 : BitVec 32 := 1#32
  let v85 : BitVec 32 := Scalar.subi c1_i32_50 v29
  let v86 : BitVec 32 := Scalar.addi v84 v85
  let c128_i32_196 : BitVec 32 := 128#32
  let v315 : BitVec 32 := Scalar.muli v86 c128_i32_196
  let v318 : BitVec 32 := Scalar.addi v315 v317
  let c16_i32_197 : BitVec 32 := 16#32
  let v319 : BitVec 32 := Scalar.subi v318 c16_i32_197
  let v320 : BitVec 32 := Scalar.maxsi v319 v315
  let v321 : BitVec 32 := Scalar.subi v318 v320
  let c1_i32_199 : BitVec 32 := 1#32
  let v323 : BitVec 32 := Scalar.divsi v321 c1_i32_199
  let v324 : BitVec 32 := Scalar.muli v323 c1_i32_199
  let v325 : BitVec 32 := Scalar.addi v320 v324
  let c1_i32_201 : BitVec 32 := 1#32
  let arg14 : BitVec 32 := Scf.iv v325 c1_i32_201 k0_t26
  let c128_i32_629 : BitVec 32 := 128#32
  let v821 : BitVec 32 := Scalar.muli v86 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v86.toNat, v832.toNat]

def k0_chk93 (d0 : Dev nD) (v317 : BitVec 32) : Prop :=
  ((k0_t25_loop d0 v317).OK) ∧
  (∀ k0_t25 : Fin (k0_t25_loop d0 v317).trips, ∀ a, (k0_off194 d0 v317 k0_t25) a + S1.size a ≤ S1024.size a) ∧
  (∀ k0_t25 : Fin (k0_t25_loop d0 v317).trips, ∀ a, (k0_off195 d0 v317 k0_t25) a + S1x1.size a ≤ S8x16.size a) ∧
  ((k0_t26_loop d0 v317).OK) ∧
  (∀ k0_t26 : Fin (k0_t26_loop d0 v317).trips, ∀ a, (k0_off198 d0 v317 k0_t26) a + S1.size a ≤ S1024.size a) ∧
  (∀ k0_t26 : Fin (k0_t26_loop d0 v317).trips, ∀ a, (k0_off199 d0 v317 k0_t26) a + S1x1.size a ≤ S8x16.size a)
theorem k0_t25_ok : ∀ (d0 : Dev nD) (v317 : BitVec 32) (k0_hw93 : k0_chk93 d0 v317), (k0_t25_loop d0 v317).OK := fun d0 v317 k0_hw93 => k0_hw93.1
theorem k0_off194_inb : ∀ (d0 : Dev nD) (v317 : BitVec 32) (k0_hw93 : k0_chk93 d0 v317) (k0_t25 : Fin (k0_t25_loop d0 v317).trips), ∀ a, (k0_off194 d0 v317 k0_t25) a + S1.size a ≤ S1024.size a := fun d0 v317 k0_hw93 k0_t25 => k0_hw93.2.1 k0_t25
theorem k0_off195_inb : ∀ (d0 : Dev nD) (v317 : BitVec 32) (k0_hw93 : k0_chk93 d0 v317) (k0_t25 : Fin (k0_t25_loop d0 v317).trips), ∀ a, (k0_off195 d0 v317 k0_t25) a + S1x1.size a ≤ S8x16.size a := fun d0 v317 k0_hw93 k0_t25 => k0_hw93.2.2.1 k0_t25
theorem k0_t26_ok : ∀ (d0 : Dev nD) (v317 : BitVec 32) (k0_hw93 : k0_chk93 d0 v317), (k0_t26_loop d0 v317).OK := fun d0 v317 k0_hw93 => k0_hw93.2.2.2.1
theorem k0_off198_inb : ∀ (d0 : Dev nD) (v317 : BitVec 32) (k0_hw93 : k0_chk93 d0 v317) (k0_t26 : Fin (k0_t26_loop d0 v317).trips), ∀ a, (k0_off198 d0 v317 k0_t26) a + S1.size a ≤ S1024.size a := fun d0 v317 k0_hw93 k0_t26 => k0_hw93.2.2.2.2.1 k0_t26
theorem k0_off199_inb : ∀ (d0 : Dev nD) (v317 : BitVec 32) (k0_hw93 : k0_chk93 d0 v317) (k0_t26 : Fin (k0_t26_loop d0 v317).trips), ∀ a, (k0_off199 d0 v317 k0_t26) a + S1x1.size a ≤ S8x16.size a := fun d0 v317 k0_hw93 k0_t26 => k0_hw93.2.2.2.2.2 k0_t26

def k0_off200 (v820 : BitVec 32) : Fin 2 → Nat :=
  let c0_i32_636 : BitVec 32 := 0#32
  ![v820.toNat, 0]

def k0_chk96 (v820 : BitVec 32) : Prop :=
  (∀ a, (k0_off200 v820) a + S1x1024.size a ≤ S1024x1024.size a)
theorem k0_off200_inb : ∀ (v820 : BitVec 32) (k0_hw96 : k0_chk96 v820), ∀ a, (k0_off200 v820) a + S1x1024.size a ≤ S1024x1024.size a := fun v820 k0_hw96 => k0_hw96

def k0_off201 (v818 : BitVec 32) : Fin 2 → Nat :=
  let c0_i32_637 : BitVec 32 := 0#32
  ![v818.toNat, 0]

def k0_chk97 (v818 : BitVec 32) : Prop :=
  (∀ a, (k0_off201 v818) a + S1x1024.size a ≤ S8192x1024.size a)
theorem k0_off201_inb : ∀ (v818 : BitVec 32) (k0_hw97 : k0_chk97 v818), ∀ a, (k0_off201 v818) a + S1x1024.size a ≤ S8192x1024.size a := fun v818 k0_hw97 => k0_hw97

def k0_off202 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c1_i32_71 : BitVec 32 := 1#32
  let v124 : BitVec 32 := Scalar.subi c1_i32_71 v29
  let c128_i32_72 : BitVec 32 := 128#32
  let v125 : BitVec 32 := Scalar.muli v124 c128_i32_72
  let v126 : BitVec 32 := Scalar.addi v51 v125
  let c0_i32_205 : BitVec 32 := 0#32
  ![v126.toNat, 0]
def k0_off203 (d0 : Dev nD) : Fin 2 → Nat :=
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v127 : BitVec 32 := Scalar.subi c1_i32_73 v29
  let c128_i32_74 : BitVec 32 := 128#32
  let v128 : BitVec 32 := Scalar.muli v127 c128_i32_74
  let c0_i32_206 : BitVec 32 := 0#32
  ![v128.toNat, 0]
def k0_off204 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let v338 : Index := Scalar.indexCast v60
  let c0_215 : Index := 0#32
  ![v338.toNat, 0]
def k0_off205 (d0 : Dev nD) : Fin 2 → Nat :=
  let c1_i32_213 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v336 : BitVec 32 := Scalar.subi c1_i32_213 v29
  let c128_i32_214 : BitVec 32 := 128#32
  let v337 : BitVec 32 := Scalar.muli v336 c128_i32_214
  let v341 : Index := Scalar.indexCast v337
  let c0_216 : Index := 0#32
  ![v341.toNat, 0]
def k0_off206 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let c0_i32_224 : BitVec 32 := 0#32
  ![v60.toNat, 0]
def k0_dev9 (d0 : Dev nD) : Nat :=
  let c0_i32_221 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_220 : BitVec 32 := 1#32
  let v346 : BitVec 32 := Scalar.muli v44 c1_i32_220
  let v347 : BitVec 32 := Scalar.addi c0_i32_221 v346
  v347.toNat
def k0_off207 (d0 : Dev nD) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let v355 : Index := Scalar.indexCast v92
  ![v355.toNat]
@[reducible] def k0_t27_loop (d0 : Dev nD) (v356 : BitVec 32) : Scf.Loop 32 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let v360 : BitVec 32 := Scalar.subi v357 v359
  let c1_i32_228 : BitVec 32 := 1#32
  let v362 : BitVec 32 := Scalar.divsi v360 c1_i32_228
  let v363 : BitVec 32 := Scalar.muli v362 c1_i32_228
  let v364 : BitVec 32 := Scalar.addi v359 v363
  let c1_i32_229 : BitVec 32 := 1#32
  ⟨v359, v364, c1_i32_229⟩

def k0_off208 (d0 : Dev nD) (v356 : BitVec 32) (k0_t27 : Fin (k0_t27_loop d0 v356).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let c1_i32_229 : BitVec 32 := 1#32
  let arg14 : BitVec 32 := Scf.iv v359 c1_i32_229 k0_t27
  let v817 : Index := Scalar.indexCast arg14
  ![v817.toNat]
def k0_off209 (d0 : Dev nD) (v356 : BitVec 32) (k0_t27 : Fin (k0_t27_loop d0 v356).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let c1_i32_229 : BitVec 32 := 1#32
  let arg14 : BitVec 32 := Scf.iv v359 c1_i32_229 k0_t27
  let c128_i32_629 : BitVec 32 := 128#32
  let v821 : BitVec 32 := Scalar.muli v92 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v92.toNat, v832.toNat]
def k0_off210 (v820 : BitVec 32) : Fin 2 → Nat :=
  let c0_i32_636 : BitVec 32 := 0#32
  ![v820.toNat, 0]

def k0_chk99 (v820 : BitVec 32) : Prop :=
  (∀ a, (k0_off210 v820) a + S1x1024.size a ≤ S1024x1024.size a)
theorem k0_off210_inb : ∀ (v820 : BitVec 32) (k0_hw99 : k0_chk99 v820), ∀ a, (k0_off210 v820) a + S1x1024.size a ≤ S1024x1024.size a := fun v820 k0_hw99 => k0_hw99

def k0_off211 (v818 : BitVec 32) : Fin 2 → Nat :=
  let c0_i32_637 : BitVec 32 := 0#32
  ![v818.toNat, 0]

def k0_chk100 (v818 : BitVec 32) : Prop :=
  (∀ a, (k0_off211 v818) a + S1x1024.size a ≤ S8192x1024.size a)
theorem k0_off211_inb : ∀ (v818 : BitVec 32) (k0_hw100 : k0_chk100 v818), ∀ a, (k0_off211 v818) a + S1x1024.size a ≤ S8192x1024.size a := fun v818 k0_hw100 => k0_hw100

@[reducible] def k0_t28_loop (d0 : Dev nD) (v356 : BitVec 32) : Scf.Loop 32 :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let v360 : BitVec 32 := Scalar.subi v357 v359
  let c1_i32_228 : BitVec 32 := 1#32
  let v362 : BitVec 32 := Scalar.divsi v360 c1_i32_228
  let v363 : BitVec 32 := Scalar.muli v362 c1_i32_228
  let v364 : BitVec 32 := Scalar.addi v359 v363
  let v361 : BitVec 32 := Scalar.addi v359 v360
  let c1_i32_230 : BitVec 32 := 1#32
  ⟨v364, v361, c1_i32_230⟩
def k0_off212 (d0 : Dev nD) (v356 : BitVec 32) (k0_t28 : Fin (k0_t28_loop d0 v356).trips) : Fin 1 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let v360 : BitVec 32 := Scalar.subi v357 v359
  let c1_i32_228 : BitVec 32 := 1#32
  let v362 : BitVec 32 := Scalar.divsi v360 c1_i32_228
  let v363 : BitVec 32 := Scalar.muli v362 c1_i32_228
  let v364 : BitVec 32 := Scalar.addi v359 v363
  let c1_i32_230 : BitVec 32 := 1#32
  let arg14 : BitVec 32 := Scf.iv v364 c1_i32_230 k0_t28
  let v817 : Index := Scalar.indexCast arg14
  ![v817.toNat]
def k0_off213 (d0 : Dev nD) (v356 : BitVec 32) (k0_t28 : Fin (k0_t28_loop d0 v356).trips) : Fin 2 → Nat :=
  let c4_i32_53 : BitVec 32 := 4#32
  let c2_i32_52 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v89 : BitVec 32 := Scalar.muli c2_i32_52 v29
  let v90 : BitVec 32 := Scalar.addi c4_i32_53 v89
  let c1_i32_54 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v91 : BitVec 32 := Scalar.subi c1_i32_54 v12
  let v92 : BitVec 32 := Scalar.addi v90 v91
  let c128_i32_225 : BitVec 32 := 128#32
  let v354 : BitVec 32 := Scalar.muli v92 c128_i32_225
  let v357 : BitVec 32 := Scalar.addi v354 v356
  let c16_i32_226 : BitVec 32 := 16#32
  let v358 : BitVec 32 := Scalar.subi v357 c16_i32_226
  let v359 : BitVec 32 := Scalar.maxsi v358 v354
  let v360 : BitVec 32 := Scalar.subi v357 v359
  let c1_i32_228 : BitVec 32 := 1#32
  let v362 : BitVec 32 := Scalar.divsi v360 c1_i32_228
  let v363 : BitVec 32 := Scalar.muli v362 c1_i32_228
  let v364 : BitVec 32 := Scalar.addi v359 v363
  let c1_i32_230 : BitVec 32 := 1#32
  let arg14 : BitVec 32 := Scf.iv v364 c1_i32_230 k0_t28
  let c128_i32_629 : BitVec 32 := 128#32
  let v821 : BitVec 32 := Scalar.muli v92 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v92.toNat, v832.toNat]

def k0_chk98 (d0 : Dev nD) (v356 : BitVec 32) : Prop :=
  ((k0_t27_loop d0 v356).OK) ∧
  (∀ k0_t27 : Fin (k0_t27_loop d0 v356).trips, ∀ a, (k0_off208 d0 v356 k0_t27) a + S1.size a ≤ S1024.size a) ∧
  (∀ k0_t27 : Fin (k0_t27_loop d0 v356).trips, ∀ a, (k0_off209 d0 v356 k0_t27) a + S1x1.size a ≤ S8x16.size a) ∧
  ((k0_t28_loop d0 v356).OK) ∧
  (∀ k0_t28 : Fin (k0_t28_loop d0 v356).trips, ∀ a, (k0_off212 d0 v356 k0_t28) a + S1.size a ≤ S1024.size a) ∧
  (∀ k0_t28 : Fin (k0_t28_loop d0 v356).trips, ∀ a, (k0_off213 d0 v356 k0_t28) a + S1x1.size a ≤ S8x16.size a)
theorem k0_t27_ok : ∀ (d0 : Dev nD) (v356 : BitVec 32) (k0_hw98 : k0_chk98 d0 v356), (k0_t27_loop d0 v356).OK := fun d0 v356 k0_hw98 => k0_hw98.1
theorem k0_off208_inb : ∀ (d0 : Dev nD) (v356 : BitVec 32) (k0_hw98 : k0_chk98 d0 v356) (k0_t27 : Fin (k0_t27_loop d0 v356).trips), ∀ a, (k0_off208 d0 v356 k0_t27) a + S1.size a ≤ S1024.size a := fun d0 v356 k0_hw98 k0_t27 => k0_hw98.2.1 k0_t27
theorem k0_off209_inb : ∀ (d0 : Dev nD) (v356 : BitVec 32) (k0_hw98 : k0_chk98 d0 v356) (k0_t27 : Fin (k0_t27_loop d0 v356).trips), ∀ a, (k0_off209 d0 v356 k0_t27) a + S1x1.size a ≤ S8x16.size a := fun d0 v356 k0_hw98 k0_t27 => k0_hw98.2.2.1 k0_t27
theorem k0_t28_ok : ∀ (d0 : Dev nD) (v356 : BitVec 32) (k0_hw98 : k0_chk98 d0 v356), (k0_t28_loop d0 v356).OK := fun d0 v356 k0_hw98 => k0_hw98.2.2.2.1
theorem k0_off212_inb : ∀ (d0 : Dev nD) (v356 : BitVec 32) (k0_hw98 : k0_chk98 d0 v356) (k0_t28 : Fin (k0_t28_loop d0 v356).trips), ∀ a, (k0_off212 d0 v356 k0_t28) a + S1.size a ≤ S1024.size a := fun d0 v356 k0_hw98 k0_t28 => k0_hw98.2.2.2.2.1 k0_t28
theorem k0_off213_inb : ∀ (d0 : Dev nD) (v356 : BitVec 32) (k0_hw98 : k0_chk98 d0 v356) (k0_t28 : Fin (k0_t28_loop d0 v356).trips), ∀ a, (k0_off213 d0 v356 k0_t28) a + S1x1.size a ≤ S8x16.size a := fun d0 v356 k0_hw98 k0_t28 => k0_hw98.2.2.2.2.2 k0_t28

def k0_off214 (v820 : BitVec 32) : Fin 2 → Nat :=
  let c0_i32_636 : BitVec 32 := 0#32
  ![v820.toNat, 0]

def k0_chk101 (v820 : BitVec 32) : Prop :=
  (∀ a, (k0_off214 v820) a + S1x1024.size a ≤ S1024x1024.size a)
theorem k0_off214_inb : ∀ (v820 : BitVec 32) (k0_hw101 : k0_chk101 v820), ∀ a, (k0_off214 v820) a + S1x1024.size a ≤ S1024x1024.size a := fun v820 k0_hw101 => k0_hw101

def k0_off215 (v818 : BitVec 32) : Fin 2 → Nat :=
  let c0_i32_637 : BitVec 32 := 0#32
  ![v818.toNat, 0]

def k0_chk102 (v818 : BitVec 32) : Prop :=
  (∀ a, (k0_off215 v818) a + S1x1024.size a ≤ S8192x1024.size a)
theorem k0_off215_inb : ∀ (v818 : BitVec 32) (k0_hw102 : k0_chk102 v818), ∀ a, (k0_off215 v818) a + S1x1024.size a ≤ S8192x1024.size a := fun v818 k0_hw102 => k0_hw102

def k0_off216 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_104 : BitVec 32 := 128#32
  let v173 : BitVec 32 := Scalar.muli v12 c128_i32_104
  let v174 : BitVec 32 := Scalar.addi v54 v173
  let c0_i32_234 : BitVec 32 := 0#32
  ![v174.toNat, 0]
def k0_off217 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_105 : BitVec 32 := 128#32
  let v175 : BitVec 32 := Scalar.muli v12 c128_i32_105
  let c0_i32_235 : BitVec 32 := 0#32
  ![v175.toNat, 0]
def k0_off218 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let v377 : Index := Scalar.indexCast v63
  let c0_244 : Index := 0#32
  ![v377.toNat, 0]
def k0_off219 (d0 : Dev nD) : Fin 2 → Nat :=
  let c1_i32_242 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v375 : BitVec 32 := Scalar.subi c1_i32_242 v12
  let c128_i32_243 : BitVec 32 := 128#32
  let v376 : BitVec 32 := Scalar.muli v375 c128_i32_243
  let v380 : Index := Scalar.indexCast v376
  let c0_245 : Index := 0#32
  ![v380.toNat, 0]
def k0_off220 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let c0_i32_253 : BitVec 32 := 0#32
  ![v63.toNat, 0]
def k0_dev10 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_249 : BitVec 32 := 1#32
  let v385 : BitVec 32 := Scalar.muli v43 c1_i32_249
  let v386 : BitVec 32 := Scalar.addi c0_i32_250 v385
  v386.toNat
def k0_off221 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c1_i32_71 : BitVec 32 := 1#32
  let v124 : BitVec 32 := Scalar.subi c1_i32_71 v29
  let c128_i32_72 : BitVec 32 := 128#32
  let v125 : BitVec 32 := Scalar.muli v124 c128_i32_72
  let v126 : BitVec 32 := Scalar.addi v51 v125
  let c64_i32 : BitVec 32 := 64#32
  let v129 : BitVec 32 := Scalar.addi v126 c64_i32
  let c0_i32_257 : BitVec 32 := 0#32
  ![v129.toNat, 0]
def k0_off222 (d0 : Dev nD) : Fin 2 → Nat :=
  let c1_i32_75 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v130 : BitVec 32 := Scalar.subi c1_i32_75 v29
  let c128_i32_76 : BitVec 32 := 128#32
  let v131 : BitVec 32 := Scalar.muli v130 c128_i32_76
  let c64_i32_77 : BitVec 32 := 64#32
  let v132 : BitVec 32 := Scalar.addi v131 c64_i32_77
  let c0_i32_258 : BitVec 32 := 0#32
  ![v132.toNat, 0]
def k0_off223 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let c64_i32_265 : BitVec 32 := 64#32
  let v403 : BitVec 32 := Scalar.addi v60 c64_i32_265
  let v407 : Index := Scalar.indexCast v403
  let c0_269 : Index := 0#32
  ![v407.toNat, 0]
def k0_off224 (d0 : Dev nD) : Fin 2 → Nat :=
  let c1_i32_266 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v404 : BitVec 32 := Scalar.subi c1_i32_266 v29
  let c128_i32_267 : BitVec 32 := 128#32
  let v405 : BitVec 32 := Scalar.muli v404 c128_i32_267
  let c64_i32_268 : BitVec 32 := 64#32
  let v406 : BitVec 32 := Scalar.addi v405 c64_i32_268
  let v410 : Index := Scalar.indexCast v406
  let c0_270 : Index := 0#32
  ![v410.toNat, 0]
def k0_off225 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let c64_i32_272 : BitVec 32 := 64#32
  let v415 : BitVec 32 := Scalar.addi v60 c64_i32_272
  let c0_i32_279 : BitVec 32 := 0#32
  ![v415.toNat, 0]
def k0_dev11 (d0 : Dev nD) : Nat :=
  let c0_i32_276 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_275 : BitVec 32 := 1#32
  let v416 : BitVec 32 := Scalar.muli v44 c1_i32_275
  let v417 : BitVec 32 := Scalar.addi c0_i32_276 v416
  v417.toNat
def k0_off226 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_104 : BitVec 32 := 128#32
  let v173 : BitVec 32 := Scalar.muli v12 c128_i32_104
  let v174 : BitVec 32 := Scalar.addi v54 v173
  let c64_i32_106 : BitVec 32 := 64#32
  let v176 : BitVec 32 := Scalar.addi v174 c64_i32_106
  let c0_i32_283 : BitVec 32 := 0#32
  ![v176.toNat, 0]
def k0_off227 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_107 : BitVec 32 := 128#32
  let v177 : BitVec 32 := Scalar.muli v12 c128_i32_107
  let c64_i32_108 : BitVec 32 := 64#32
  let v178 : BitVec 32 := Scalar.addi v177 c64_i32_108
  let c0_i32_284 : BitVec 32 := 0#32
  ![v178.toNat, 0]
def k0_off228 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let c64_i32_291 : BitVec 32 := 64#32
  let v434 : BitVec 32 := Scalar.addi v63 c64_i32_291
  let v438 : Index := Scalar.indexCast v434
  let c0_295 : Index := 0#32
  ![v438.toNat, 0]
def k0_off229 (d0 : Dev nD) : Fin 2 → Nat :=
  let c1_i32_292 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v435 : BitVec 32 := Scalar.subi c1_i32_292 v12
  let c128_i32_293 : BitVec 32 := 128#32
  let v436 : BitVec 32 := Scalar.muli v435 c128_i32_293
  let c64_i32_294 : BitVec 32 := 64#32
  let v437 : BitVec 32 := Scalar.addi v436 c64_i32_294
  let v441 : Index := Scalar.indexCast v437
  let c0_296 : Index := 0#32
  ![v441.toNat, 0]
def k0_off230 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let c64_i32_298 : BitVec 32 := 64#32
  let v446 : BitVec 32 := Scalar.addi v63 c64_i32_298
  let c0_i32_305 : BitVec 32 := 0#32
  ![v446.toNat, 0]
def k0_dev12 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_301 : BitVec 32 := 1#32
  let v447 : BitVec 32 := Scalar.muli v43 c1_i32_301
  let v448 : BitVec 32 := Scalar.addi c0_i32_302 v447
  v448.toNat
def k0_off231 (d0 : Dev nD) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let v456 : Index := Scalar.indexCast v88
  ![v456.toNat]
@[reducible] def k0_t29_loop (d0 : Dev nD) (v457 : BitVec 32) : Scf.Loop 32 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let v461 : BitVec 32 := Scalar.subi v458 v460
  let c1_i32_309 : BitVec 32 := 1#32
  let v463 : BitVec 32 := Scalar.divsi v461 c1_i32_309
  let v464 : BitVec 32 := Scalar.muli v463 c1_i32_309
  let v465 : BitVec 32 := Scalar.addi v460 v464
  let c1_i32_310 : BitVec 32 := 1#32
  ⟨v460, v465, c1_i32_310⟩

def k0_off232 (d0 : Dev nD) (v457 : BitVec 32) (k0_t29 : Fin (k0_t29_loop d0 v457).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let c1_i32_310 : BitVec 32 := 1#32
  let arg14 : BitVec 32 := Scf.iv v460 c1_i32_310 k0_t29
  let v817 : Index := Scalar.indexCast arg14
  ![v817.toNat]
def k0_off233 (d0 : Dev nD) (v457 : BitVec 32) (k0_t29 : Fin (k0_t29_loop d0 v457).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let c1_i32_310 : BitVec 32 := 1#32
  let arg14 : BitVec 32 := Scf.iv v460 c1_i32_310 k0_t29
  let c128_i32_629 : BitVec 32 := 128#32
  let v821 : BitVec 32 := Scalar.muli v88 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v88.toNat, v832.toNat]
def k0_off234 (v820 : BitVec 32) : Fin 2 → Nat :=
  let c0_i32_636 : BitVec 32 := 0#32
  ![v820.toNat, 0]

def k0_chk104 (v820 : BitVec 32) : Prop :=
  (∀ a, (k0_off234 v820) a + S1x1024.size a ≤ S1024x1024.size a)
theorem k0_off234_inb : ∀ (v820 : BitVec 32) (k0_hw104 : k0_chk104 v820), ∀ a, (k0_off234 v820) a + S1x1024.size a ≤ S1024x1024.size a := fun v820 k0_hw104 => k0_hw104

def k0_off235 (v818 : BitVec 32) : Fin 2 → Nat :=
  let c0_i32_637 : BitVec 32 := 0#32
  ![v818.toNat, 0]

def k0_chk105 (v818 : BitVec 32) : Prop :=
  (∀ a, (k0_off235 v818) a + S1x1024.size a ≤ S8192x1024.size a)
theorem k0_off235_inb : ∀ (v818 : BitVec 32) (k0_hw105 : k0_chk105 v818), ∀ a, (k0_off235 v818) a + S1x1024.size a ≤ S8192x1024.size a := fun v818 k0_hw105 => k0_hw105

@[reducible] def k0_t30_loop (d0 : Dev nD) (v457 : BitVec 32) : Scf.Loop 32 :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let v461 : BitVec 32 := Scalar.subi v458 v460
  let c1_i32_309 : BitVec 32 := 1#32
  let v463 : BitVec 32 := Scalar.divsi v461 c1_i32_309
  let v464 : BitVec 32 := Scalar.muli v463 c1_i32_309
  let v465 : BitVec 32 := Scalar.addi v460 v464
  let v462 : BitVec 32 := Scalar.addi v460 v461
  let c1_i32_311 : BitVec 32 := 1#32
  ⟨v465, v462, c1_i32_311⟩
def k0_off236 (d0 : Dev nD) (v457 : BitVec 32) (k0_t30 : Fin (k0_t30_loop d0 v457).trips) : Fin 1 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let v461 : BitVec 32 := Scalar.subi v458 v460
  let c1_i32_309 : BitVec 32 := 1#32
  let v463 : BitVec 32 := Scalar.divsi v461 c1_i32_309
  let v464 : BitVec 32 := Scalar.muli v463 c1_i32_309
  let v465 : BitVec 32 := Scalar.addi v460 v464
  let c1_i32_311 : BitVec 32 := 1#32
  let arg14 : BitVec 32 := Scf.iv v465 c1_i32_311 k0_t30
  let v817 : Index := Scalar.indexCast arg14
  ![v817.toNat]
def k0_off237 (d0 : Dev nD) (v457 : BitVec 32) (k0_t30 : Fin (k0_t30_loop d0 v457).trips) : Fin 2 → Nat :=
  let c2_i32_51 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v87 : BitVec 32 := Scalar.muli c2_i32_51 v40
  let v88 : BitVec 32 := Scalar.addi v87 v29
  let c128_i32_306 : BitVec 32 := 128#32
  let v455 : BitVec 32 := Scalar.muli v88 c128_i32_306
  let v458 : BitVec 32 := Scalar.addi v455 v457
  let c16_i32_307 : BitVec 32 := 16#32
  let v459 : BitVec 32 := Scalar.subi v458 c16_i32_307
  let v460 : BitVec 32 := Scalar.maxsi v459 v455
  let v461 : BitVec 32 := Scalar.subi v458 v460
  let c1_i32_309 : BitVec 32 := 1#32
  let v463 : BitVec 32 := Scalar.divsi v461 c1_i32_309
  let v464 : BitVec 32 := Scalar.muli v463 c1_i32_309
  let v465 : BitVec 32 := Scalar.addi v460 v464
  let c1_i32_311 : BitVec 32 := 1#32
  let arg14 : BitVec 32 := Scf.iv v465 c1_i32_311 k0_t30
  let c128_i32_629 : BitVec 32 := 128#32
  let v821 : BitVec 32 := Scalar.muli v88 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v88.toNat, v832.toNat]

def k0_chk103 (d0 : Dev nD) (v457 : BitVec 32) : Prop :=
  ((k0_t29_loop d0 v457).OK) ∧
  (∀ k0_t29 : Fin (k0_t29_loop d0 v457).trips, ∀ a, (k0_off232 d0 v457 k0_t29) a + S1.size a ≤ S1024.size a) ∧
  (∀ k0_t29 : Fin (k0_t29_loop d0 v457).trips, ∀ a, (k0_off233 d0 v457 k0_t29) a + S1x1.size a ≤ S8x16.size a) ∧
  ((k0_t30_loop d0 v457).OK) ∧
  (∀ k0_t30 : Fin (k0_t30_loop d0 v457).trips, ∀ a, (k0_off236 d0 v457 k0_t30) a + S1.size a ≤ S1024.size a) ∧
  (∀ k0_t30 : Fin (k0_t30_loop d0 v457).trips, ∀ a, (k0_off237 d0 v457 k0_t30) a + S1x1.size a ≤ S8x16.size a)
theorem k0_t29_ok : ∀ (d0 : Dev nD) (v457 : BitVec 32) (k0_hw103 : k0_chk103 d0 v457), (k0_t29_loop d0 v457).OK := fun d0 v457 k0_hw103 => k0_hw103.1
theorem k0_off232_inb : ∀ (d0 : Dev nD) (v457 : BitVec 32) (k0_hw103 : k0_chk103 d0 v457) (k0_t29 : Fin (k0_t29_loop d0 v457).trips), ∀ a, (k0_off232 d0 v457 k0_t29) a + S1.size a ≤ S1024.size a := fun d0 v457 k0_hw103 k0_t29 => k0_hw103.2.1 k0_t29
theorem k0_off233_inb : ∀ (d0 : Dev nD) (v457 : BitVec 32) (k0_hw103 : k0_chk103 d0 v457) (k0_t29 : Fin (k0_t29_loop d0 v457).trips), ∀ a, (k0_off233 d0 v457 k0_t29) a + S1x1.size a ≤ S8x16.size a := fun d0 v457 k0_hw103 k0_t29 => k0_hw103.2.2.1 k0_t29
theorem k0_t30_ok : ∀ (d0 : Dev nD) (v457 : BitVec 32) (k0_hw103 : k0_chk103 d0 v457), (k0_t30_loop d0 v457).OK := fun d0 v457 k0_hw103 => k0_hw103.2.2.2.1
theorem k0_off236_inb : ∀ (d0 : Dev nD) (v457 : BitVec 32) (k0_hw103 : k0_chk103 d0 v457) (k0_t30 : Fin (k0_t30_loop d0 v457).trips), ∀ a, (k0_off236 d0 v457 k0_t30) a + S1.size a ≤ S1024.size a := fun d0 v457 k0_hw103 k0_t30 => k0_hw103.2.2.2.2.1 k0_t30
theorem k0_off237_inb : ∀ (d0 : Dev nD) (v457 : BitVec 32) (k0_hw103 : k0_chk103 d0 v457) (k0_t30 : Fin (k0_t30_loop d0 v457).trips), ∀ a, (k0_off237 d0 v457 k0_t30) a + S1x1.size a ≤ S8x16.size a := fun d0 v457 k0_hw103 k0_t30 => k0_hw103.2.2.2.2.2 k0_t30

def k0_off238 (v820 : BitVec 32) : Fin 2 → Nat :=
  let c0_i32_636 : BitVec 32 := 0#32
  ![v820.toNat, 0]

def k0_chk106 (v820 : BitVec 32) : Prop :=
  (∀ a, (k0_off238 v820) a + S1x1024.size a ≤ S1024x1024.size a)
theorem k0_off238_inb : ∀ (v820 : BitVec 32) (k0_hw106 : k0_chk106 v820), ∀ a, (k0_off238 v820) a + S1x1024.size a ≤ S1024x1024.size a := fun v820 k0_hw106 => k0_hw106

def k0_off239 (v818 : BitVec 32) : Fin 2 → Nat :=
  let c0_i32_637 : BitVec 32 := 0#32
  ![v818.toNat, 0]

def k0_chk107 (v818 : BitVec 32) : Prop :=
  (∀ a, (k0_off239 v818) a + S1x1024.size a ≤ S8192x1024.size a)
theorem k0_off239_inb : ∀ (v818 : BitVec 32) (k0_hw107 : k0_chk107 v818), ∀ a, (k0_off239 v818) a + S1x1024.size a ≤ S8192x1024.size a := fun v818 k0_hw107 => k0_hw107

def k0_off240 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : BitVec 32 := Scalar.subi c1_i32_26 v40
  let c256_i32 : BitVec 32 := 256#32
  let v51 : BitVec 32 := Scalar.muli v50 c256_i32
  let c128_i32_135 : BitVec 32 := 128#32
  let v219 : BitVec 32 := Scalar.muli v29 c128_i32_135
  let v220 : BitVec 32 := Scalar.addi v51 v219
  let c0_i32_315 : BitVec 32 := 0#32
  ![v220.toNat, 0]
def k0_off241 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c128_i32_136 : BitVec 32 := 128#32
  let v221 : BitVec 32 := Scalar.muli v29 c128_i32_136
  let c0_i32_316 : BitVec 32 := 0#32
  ![v221.toNat, 0]
def k0_off242 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c128_i32_323 : BitVec 32 := 128#32
  let v476 : BitVec 32 := Scalar.muli v29 c128_i32_323
  let v477 : BitVec 32 := Scalar.addi v55 v476
  let v479 : Index := Scalar.indexCast v477
  let c0_325 : Index := 0#32
  ![v479.toNat, 0]
def k0_off243 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c128_i32_324 : BitVec 32 := 128#32
  let v478 : BitVec 32 := Scalar.muli v29 c128_i32_324
  let v482 : Index := Scalar.indexCast v478
  let c0_326 : Index := 0#32
  ![v482.toNat, 0]
def k0_off244 (d0 : Dev nD) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let v488 : Index := Scalar.indexCast v95
  ![v488.toNat]
@[reducible] def k0_t31_loop (d0 : Dev nD) (v489 : BitVec 32) : Scf.Loop 32 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let v493 : BitVec 32 := Scalar.subi v490 v492
  let c1_i32_331 : BitVec 32 := 1#32
  let v495 : BitVec 32 := Scalar.divsi v493 c1_i32_331
  let v496 : BitVec 32 := Scalar.muli v495 c1_i32_331
  let v497 : BitVec 32 := Scalar.addi v492 v496
  let c1_i32_332 : BitVec 32 := 1#32
  ⟨v492, v497, c1_i32_332⟩

def k0_off245 (d0 : Dev nD) (v489 : BitVec 32) (k0_t31 : Fin (k0_t31_loop d0 v489).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let c1_i32_332 : BitVec 32 := 1#32
  let arg14 : BitVec 32 := Scf.iv v492 c1_i32_332 k0_t31
  let v817 : Index := Scalar.indexCast arg14
  ![v817.toNat]
def k0_off246 (d0 : Dev nD) (v489 : BitVec 32) (k0_t31 : Fin (k0_t31_loop d0 v489).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let c1_i32_332 : BitVec 32 := 1#32
  let arg14 : BitVec 32 := Scf.iv v492 c1_i32_332 k0_t31
  let c128_i32_629 : BitVec 32 := 128#32
  let v821 : BitVec 32 := Scalar.muli v95 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v95.toNat, v832.toNat]
def k0_off247 (v820 : BitVec 32) : Fin 2 → Nat :=
  let c0_i32_636 : BitVec 32 := 0#32
  ![v820.toNat, 0]

def k0_chk109 (v820 : BitVec 32) : Prop :=
  (∀ a, (k0_off247 v820) a + S1x1024.size a ≤ S1024x1024.size a)
theorem k0_off247_inb : ∀ (v820 : BitVec 32) (k0_hw109 : k0_chk109 v820), ∀ a, (k0_off247 v820) a + S1x1024.size a ≤ S1024x1024.size a := fun v820 k0_hw109 => k0_hw109

def k0_off248 (v818 : BitVec 32) : Fin 2 → Nat :=
  let c0_i32_637 : BitVec 32 := 0#32
  ![v818.toNat, 0]

def k0_chk110 (v818 : BitVec 32) : Prop :=
  (∀ a, (k0_off248 v818) a + S1x1024.size a ≤ S8192x1024.size a)
theorem k0_off248_inb : ∀ (v818 : BitVec 32) (k0_hw110 : k0_chk110 v818), ∀ a, (k0_off248 v818) a + S1x1024.size a ≤ S8192x1024.size a := fun v818 k0_hw110 => k0_hw110

@[reducible] def k0_t32_loop (d0 : Dev nD) (v489 : BitVec 32) : Scf.Loop 32 :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let v493 : BitVec 32 := Scalar.subi v490 v492
  let c1_i32_331 : BitVec 32 := 1#32
  let v495 : BitVec 32 := Scalar.divsi v493 c1_i32_331
  let v496 : BitVec 32 := Scalar.muli v495 c1_i32_331
  let v497 : BitVec 32 := Scalar.addi v492 v496
  let v494 : BitVec 32 := Scalar.addi v492 v493
  let c1_i32_333 : BitVec 32 := 1#32
  ⟨v497, v494, c1_i32_333⟩
def k0_off249 (d0 : Dev nD) (v489 : BitVec 32) (k0_t32 : Fin (k0_t32_loop d0 v489).trips) : Fin 1 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let v493 : BitVec 32 := Scalar.subi v490 v492
  let c1_i32_331 : BitVec 32 := 1#32
  let v495 : BitVec 32 := Scalar.divsi v493 c1_i32_331
  let v496 : BitVec 32 := Scalar.muli v495 c1_i32_331
  let v497 : BitVec 32 := Scalar.addi v492 v496
  let c1_i32_333 : BitVec 32 := 1#32
  let arg14 : BitVec 32 := Scf.iv v497 c1_i32_333 k0_t32
  let v817 : Index := Scalar.indexCast arg14
  ![v817.toNat]
def k0_off250 (d0 : Dev nD) (v489 : BitVec 32) (k0_t32 : Fin (k0_t32_loop d0 v489).trips) : Fin 2 → Nat :=
  let c4_i32_56 : BitVec 32 := 4#32
  let c2_i32_55 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v93 : BitVec 32 := Scalar.muli c2_i32_55 v29
  let v94 : BitVec 32 := Scalar.addi c4_i32_56 v93
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v95 : BitVec 32 := Scalar.addi v94 v12
  let c128_i32_328 : BitVec 32 := 128#32
  let v487 : BitVec 32 := Scalar.muli v95 c128_i32_328
  let v490 : BitVec 32 := Scalar.addi v487 v489
  let c16_i32_329 : BitVec 32 := 16#32
  let v491 : BitVec 32 := Scalar.subi v490 c16_i32_329
  let v492 : BitVec 32 := Scalar.maxsi v491 v487
  let v493 : BitVec 32 := Scalar.subi v490 v492
  let c1_i32_331 : BitVec 32 := 1#32
  let v495 : BitVec 32 := Scalar.divsi v493 c1_i32_331
  let v496 : BitVec 32 := Scalar.muli v495 c1_i32_331
  let v497 : BitVec 32 := Scalar.addi v492 v496
  let c1_i32_333 : BitVec 32 := 1#32
  let arg14 : BitVec 32 := Scf.iv v497 c1_i32_333 k0_t32
  let c128_i32_629 : BitVec 32 := 128#32
  let v821 : BitVec 32 := Scalar.muli v95 c128_i32_629
  let v822 : BitVec 32 := Scalar.subi arg14 v821
  let c16_i32_630 : BitVec 32 := 16#32
  let c0_i32_631 : BitVec 32 := 0#32
  let v823 : BitVec 1 := Scalar.cmpi .eq c16_i32_630 c0_i32_631
  let c1_i32_632 : BitVec 32 := 1#32
  let v824 : BitVec 32 := Scalar.select v823 c1_i32_632 c16_i32_630
  let v825 : BitVec 32 := Scalar.remsi v822 v824
  let c0_i32_634 : BitVec 32 := 0#32
  let v827 : BitVec 1 := Scalar.cmpi .slt v825 c0_i32_634
  let c0_i32_635 : BitVec 32 := 0#32
  let v828 : BitVec 1 := Scalar.cmpi .slt v824 c0_i32_635
  let v829 : BitVec 1 := Scalar.xori v827 v828
  let c0_i32_633 : BitVec 32 := 0#32
  let v826 : BitVec 1 := Scalar.cmpi .ne v825 c0_i32_633
  let v830 : BitVec 1 := Scalar.andi v829 v826
  let v831 : BitVec 32 := Scalar.addi v825 v824
  let v832 : BitVec 32 := Scalar.select v830 v831 v825
  ![v95.toNat, v832.toNat]

def k0_chk108 (d0 : Dev nD) (v489 : BitVec 32) : Prop :=
  ((k0_t31_loop d0 v489).OK) ∧
  (∀ k0_t31 : Fin (k0_t31_loop d0 v489).trips, ∀ a, (k0_off245 d0 v489 k0_t31) a + S1.size a ≤ S1024.size a) ∧
  (∀ k0_t31 : Fin (k0_t31_loop d0 v489).trips, ∀ a, (k0_off246 d0 v489 k0_t31) a + S1x1.size a ≤ S8x16.size a) ∧
  ((k0_t32_loop d0 v489).OK) ∧
  (∀ k0_t32 : Fin (k0_t32_loop d0 v489).trips, ∀ a, (k0_off249 d0 v489 k0_t32) a + S1.size a ≤ S1024.size a) ∧
  (∀ k0_t32 : Fin (k0_t32_loop d0 v489).trips, ∀ a, (k0_off250 d0 v489 k0_t32) a + S1x1.size a ≤ S8x16.size a)
theorem k0_t31_ok : ∀ (d0 : Dev nD) (v489 : BitVec 32) (k0_hw108 : k0_chk108 d0 v489), (k0_t31_loop d0 v489).OK := fun d0 v489 k0_hw108 => k0_hw108.1
theorem k0_off245_inb : ∀ (d0 : Dev nD) (v489 : BitVec 32) (k0_hw108 : k0_chk108 d0 v489) (k0_t31 : Fin (k0_t31_loop d0 v489).trips), ∀ a, (k0_off245 d0 v489 k0_t31) a + S1.size a ≤ S1024.size a := fun d0 v489 k0_hw108 k0_t31 => k0_hw108.2.1 k0_t31
theorem k0_off246_inb : ∀ (d0 : Dev nD) (v489 : BitVec 32) (k0_hw108 : k0_chk108 d0 v489) (k0_t31 : Fin (k0_t31_loop d0 v489).trips), ∀ a, (k0_off246 d0 v489 k0_t31) a + S1x1.size a ≤ S8x16.size a := fun d0 v489 k0_hw108 k0_t31 => k0_hw108.2.2.1 k0_t31
theorem k0_t32_ok : ∀ (d0 : Dev nD) (v489 : BitVec 32) (k0_hw108 : k0_chk108 d0 v489), (k0_t32_loop d0 v489).OK := fun d0 v489 k0_hw108 => k0_hw108.2.2.2.1
theorem k0_off249_inb : ∀ (d0 : Dev nD) (v489 : BitVec 32) (k0_hw108 : k0_chk108 d0 v489) (k0_t32 : Fin (k0_t32_loop d0 v489).trips), ∀ a, (k0_off249 d0 v489 k0_t32) a + S1.size a ≤ S1024.size a := fun d0 v489 k0_hw108 k0_t32 => k0_hw108.2.2.2.2.1 k0_t32
theorem k0_off250_inb : ∀ (d0 : Dev nD) (v489 : BitVec 32) (k0_hw108 : k0_chk108 d0 v489) (k0_t32 : Fin (k0_t32_loop d0 v489).trips), ∀ a, (k0_off250 d0 v489 k0_t32) a + S1x1.size a ≤ S8x16.size a := fun d0 v489 k0_hw108 k0_t32 => k0_hw108.2.2.2.2.2 k0_t32

def k0_off251 (v820 : BitVec 32) : Fin 2 → Nat :=
  let c0_i32_636 : BitVec 32 := 0#32
  ![v820.toNat, 0]

def k0_chk111 (v820 : BitVec 32) : Prop :=
  (∀ a, (k0_off251 v820) a + S1x1024.size a ≤ S1024x1024.size a)
theorem k0_off251_inb : ∀ (v820 : BitVec 32) (k0_hw111 : k0_chk111 v820), ∀ a, (k0_off251 v820) a + S1x1024.size a ≤ S1024x1024.size a := fun v820 k0_hw111 => k0_hw111

def k0_off252 (v818 : BitVec 32) : Fin 2 → Nat :=
  let c0_i32_637 : BitVec 32 := 0#32
  ![v818.toNat, 0]

def k0_chk112 (v818 : BitVec 32) : Prop :=
  (∀ a, (k0_off252 v818) a + S1x1024.size a ≤ S8192x1024.size a)
theorem k0_off252_inb : ∀ (v818 : BitVec 32) (k0_hw112 : k0_chk112 v818), ∀ a, (k0_off252 v818) a + S1x1024.size a ≤ S8192x1024.size a := fun v818 k0_hw112 => k0_hw112

def k0_off253 (d0 : Dev nD) : Fin 2 → Nat :=
  let c512_i32 : BitVec 32 := 512#32
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v52 : BitVec 32 := Scalar.subi c1_i32_27 v29
  let c256_i32_28 : BitVec 32 := 256#32
  let v53 : BitVec 32 := Scalar.muli v52 c256_i32_28
  let v54 : BitVec 32 := Scalar.addi c512_i32 v53
  let c1_i32_157 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v254 : BitVec 32 := Scalar.subi c1_i32_157 v12
  let c128_i32_158 : BitVec 32 := 128#32
  let v255 : BitVec 32 := Scalar.muli v254 c128_i32_158
  let v256 : BitVec 32 := Scalar.addi v54 v255
  let c0_i32_337 : BitVec 32 := 0#32
  ![v256.toNat, 0]
def k0_off254 (d0 : Dev nD) : Fin 2 → Nat :=
  let c1_i32_159 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v257 : BitVec 32 := Scalar.subi c1_i32_159 v12
  let c128_i32_160 : BitVec 32 := 128#32
  let v258 : BitVec 32 := Scalar.muli v257 c128_i32_160
  let c0_i32_338 : BitVec 32 := 0#32
  ![v258.toNat, 0]
def k0_off255 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_345 : BitVec 32 := 128#32
  let v508 : BitVec 32 := Scalar.muli v12 c128_i32_345
  let v509 : BitVec 32 := Scalar.addi v57 v508
  let v511 : Index := Scalar.indexCast v509
  let c0_347 : Index := 0#32
  ![v511.toNat, 0]
def k0_off256 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_346 : BitVec 32 := 128#32
  let v510 : BitVec 32 := Scalar.muli v12 c128_i32_346
  let v514 : Index := Scalar.indexCast v510
  let c0_348 : Index := 0#32
  ![v514.toNat, 0]
def k0_off257 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let c0_i32_353 : BitVec 32 := 0#32
  ![v60.toNat, 0]
def k0_off258 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c128_i32_35 : BitVec 32 := 128#32
  let v64 : BitVec 32 := Scalar.muli v29 c128_i32_35
  let v65 : BitVec 32 := Scalar.addi v55 v64
  let v529 : Index := Scalar.indexCast v65
  let c0_363 : Index := 0#32
  ![v529.toNat, 0]
def k0_off259 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c128_i32_35 : BitVec 32 := 128#32
  let v64 : BitVec 32 := Scalar.muli v29 c128_i32_35
  let v65 : BitVec 32 := Scalar.addi v55 v64
  let c0_i32_370 : BitVec 32 := 0#32
  ![v65.toNat, 0]
def k0_dev13 (d0 : Dev nD) : Nat :=
  let c0_i32_369 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_368 : BitVec 32 := 1#32
  let v536 : BitVec 32 := Scalar.muli v44 c1_i32_368
  let v537 : BitVec 32 := Scalar.addi c0_i32_369 v536
  v537.toNat
def k0_dev14 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_373 : BitVec 32 := 1#32
  let v544 : BitVec 32 := Scalar.muli v43 c1_i32_373
  let v545 : BitVec 32 := Scalar.addi c0_i32_374 v544
  v545.toNat
def k0_off260 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let c0_i32_380 : BitVec 32 := 0#32
  ![v63.toNat, 0]
def k0_off261 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_36 : BitVec 32 := 128#32
  let v66 : BitVec 32 := Scalar.muli v12 c128_i32_36
  let v67 : BitVec 32 := Scalar.addi v57 v66
  let v562 : Index := Scalar.indexCast v67
  let c0_390 : Index := 0#32
  ![v562.toNat, 0]
def k0_off262 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_36 : BitVec 32 := 128#32
  let v66 : BitVec 32 := Scalar.muli v12 c128_i32_36
  let v67 : BitVec 32 := Scalar.addi v57 v66
  let c0_i32_398 : BitVec 32 := 0#32
  ![v67.toNat, 0]
def k0_dev15 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_396 : BitVec 32 := 1#32
  let v569 : BitVec 32 := Scalar.muli v43 c1_i32_396
  let v570 : BitVec 32 := Scalar.addi c0_i32_397 v569
  v570.toNat
def k0_dev16 (d0 : Dev nD) : Nat :=
  let c0_i32_403 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_402 : BitVec 32 := 1#32
  let v577 : BitVec 32 := Scalar.muli v44 c1_i32_402
  let v578 : BitVec 32 := Scalar.addi c0_i32_403 v577
  v578.toNat
def k0_off263 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c1_i32_32 : BitVec 32 := 1#32
  let v58 : BitVec 32 := Scalar.subi c1_i32_32 v29
  let c128_i32 : BitVec 32 := 128#32
  let v59 : BitVec 32 := Scalar.muli v58 c128_i32
  let v60 : BitVec 32 := Scalar.addi v55 v59
  let c64_i32_272 : BitVec 32 := 64#32
  let v415 : BitVec 32 := Scalar.addi v60 c64_i32_272
  let c0_i32_409 : BitVec 32 := 0#32
  ![v415.toNat, 0]
def k0_off264 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c128_i32_35 : BitVec 32 := 128#32
  let v64 : BitVec 32 := Scalar.muli v29 c128_i32_35
  let v65 : BitVec 32 := Scalar.addi v55 v64
  let c64_i32_419 : BitVec 32 := 64#32
  let v595 : BitVec 32 := Scalar.addi v65 c64_i32_419
  let v596 : Index := Scalar.indexCast v595
  let c0_420 : Index := 0#32
  ![v596.toNat, 0]
def k0_off265 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v30 : BitVec 32 := Scalar.addi v12 v29
  let c2_i32_11 : BitVec 32 := 2#32
  let c0_i32_12 : BitVec 32 := 0#32
  let v31 : BitVec 1 := Scalar.cmpi .eq c2_i32_11 c0_i32_12
  let c1_i32_13 : BitVec 32 := 1#32
  let v32 : BitVec 32 := Scalar.select v31 c1_i32_13 c2_i32_11
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c256_i32_29 : BitVec 32 := 256#32
  let v55 : BitVec 32 := Scalar.muli v40 c256_i32_29
  let c128_i32_35 : BitVec 32 := 128#32
  let v64 : BitVec 32 := Scalar.muli v29 c128_i32_35
  let v65 : BitVec 32 := Scalar.addi v55 v64
  let c64_i32_424 : BitVec 32 := 64#32
  let v604 : BitVec 32 := Scalar.addi v65 c64_i32_424
  let c0_i32_428 : BitVec 32 := 0#32
  ![v604.toNat, 0]
def k0_dev17 (d0 : Dev nD) : Nat :=
  let c0_i32_427 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_426 : BitVec 32 := 1#32
  let v605 : BitVec 32 := Scalar.muli v44 c1_i32_426
  let v606 : BitVec 32 := Scalar.addi c0_i32_427 v605
  v606.toNat
def k0_dev18 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_433 : BitVec 32 := 1#32
  let v615 : BitVec 32 := Scalar.muli v43 c1_i32_433
  let v616 : BitVec 32 := Scalar.addi c0_i32_434 v615
  v616.toNat
def k0_off266 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c1_i32_33 : BitVec 32 := 1#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v61 : BitVec 32 := Scalar.subi c1_i32_33 v12
  let c128_i32_34 : BitVec 32 := 128#32
  let v62 : BitVec 32 := Scalar.muli v61 c128_i32_34
  let v63 : BitVec 32 := Scalar.addi v57 v62
  let c64_i32_298 : BitVec 32 := 64#32
  let v446 : BitVec 32 := Scalar.addi v63 c64_i32_298
  let c0_i32_440 : BitVec 32 := 0#32
  ![v446.toNat, 0]
def k0_off267 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_36 : BitVec 32 := 128#32
  let v66 : BitVec 32 := Scalar.muli v12 c128_i32_36
  let v67 : BitVec 32 := Scalar.addi v57 v66
  let c64_i32_450 : BitVec 32 := 64#32
  let v633 : BitVec 32 := Scalar.addi v67 c64_i32_450
  let v634 : Index := Scalar.indexCast v633
  let c0_451 : Index := 0#32
  ![v634.toNat, 0]
def k0_off268 (d0 : Dev nD) : Fin 2 → Nat :=
  let c512_i32_31 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let c256_i32_30 : BitVec 32 := 256#32
  let v56 : BitVec 32 := Scalar.muli v29 c256_i32_30
  let v57 : BitVec 32 := Scalar.addi c512_i32_31 v56
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c128_i32_36 : BitVec 32 := 128#32
  let v66 : BitVec 32 := Scalar.muli v12 c128_i32_36
  let v67 : BitVec 32 := Scalar.addi v57 v66
  let c64_i32_456 : BitVec 32 := 64#32
  let v642 : BitVec 32 := Scalar.addi v67 c64_i32_456
  let c0_i32_461 : BitVec 32 := 0#32
  ![v642.toNat, 0]
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_459 : BitVec 32 := 1#32
  let v643 : BitVec 32 := Scalar.muli v43 c1_i32_459
  let v644 : BitVec 32 := Scalar.addi c0_i32_460 v643
  v644.toNat
def k0_dev20 (d0 : Dev nD) : Nat :=
  let c0_i32_468 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_467 : BitVec 32 := 1#32
  let v653 : BitVec 32 := Scalar.muli v44 c1_i32_467
  let v654 : BitVec 32 := Scalar.addi c0_i32_468 v653
  v654.toNat
def k0_dev21 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_483 : BitVec 32 := 1#32
  let v671 : BitVec 32 := Scalar.muli v43 c1_i32_483
  let v672 : BitVec 32 := Scalar.addi c0_i32_484 v671
  v672.toNat
def k0_dev22 (d0 : Dev nD) : Nat :=
  let c0_i32_501 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_500 : BitVec 32 := 1#32
  let v689 : BitVec 32 := Scalar.muli v44 c1_i32_500
  let v690 : BitVec 32 := Scalar.addi c0_i32_501 v689
  v690.toNat
def k0_dev23 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v41 : BitVec 32 := Scalar.addi v2 c1_i32_17
  let c2_i32_18 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v42 : BitVec 32 := Scalar.muli c2_i32_18 v12
  let v43 : BitVec 32 := Scalar.subi v41 v42
  let c1_i32_518 : BitVec 32 := 1#32
  let v709 : BitVec 32 := Scalar.muli v43 c1_i32_518
  let v710 : BitVec 32 := Scalar.addi c0_i32_519 v709
  v710.toNat
def k0_dev24 (d0 : Dev nD) : Nat :=
  let c0_i32_538 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.subi c3_i32 v2
  let c1_i32_537 : BitVec 32 := 1#32
  let v729 : BitVec 32 := Scalar.muli v44 c1_i32_537
  let v730 : BitVec 32 := Scalar.addi c0_i32_538 v729
  v730.toNat
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024 : Shape := ⟨1, ![1024]⟩
abbrev S32768x1024 : Shape := ⟨2, ![32768, 1024]⟩
abbrev S_ : Shape := ⟨0, ![]⟩
abbrev S1024x1 : Shape := ⟨2, ![1024, 1]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024, .i32⟩
  | .hbm, ⟨1, _⟩ => ⟨S32768x1024, .f32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x1024, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Blocks.lean ====
/- Blocks of consecutive rows of a two-axis buffer of 1024 columns, read as matrices of natural-number rows and columns: holding
   such a block, cutting and joining it, and what a copy, a load and a store do to it. Nothing here mentions the kernel. -/
module

public import Idealize.ShloMosaic.Lib.Tactic
public import Idealize.ShloMosaic.Lib.Pipeline.Kit
public import Idealize.ShloMosaic.Lib.Rounds
public import Idealize.ShloMosaic.PureOps

@[expose] public section

noncomputable section

namespace Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {U : Type} [URA U]
variable {F : FTy → Type} [FloatOps F]

local notation "𝕄" => MT nD τ sig Unit (Elt F) ℕ U ℕ

/-- The shape of `D` rows of 1024 elements. -/
abbrev Sh (D : ℕ) : Shape := ⟨2, ![D, 1024]⟩

/-- The elements of rows `lo`, …, `lo + n - 1`. -/
def rows (D lo n : ℕ) : Finset (Sh D).Idx := Finset.univ.filter fun i => lo ≤ (i 0).val ∧ (i 0).val < lo + n

theorem mem_rows {D lo n : ℕ} {i : (Sh D).Idx} : i ∈ rows D lo n ↔ lo ≤ (i 0).val ∧ (i 0).val < lo + n := by
  simp [rows]

theorem rows_add (D lo n₁ n₂ : ℕ) : rows D lo (n₁ + n₂) = rows D lo n₁ ∪ rows D (lo + n₁) n₂ := by
  ext i; simp only [Finset.mem_union, mem_rows]; omega

theorem rows_disjoint {D lo n lo' n' : ℕ} (h : lo + n ≤ lo' ∨ lo' + n' ≤ lo) : Disjoint (rows D lo n) (rows D lo' n') := by
  rw [Finset.disjoint_left]; intro i; simp only [mem_rows]; omega

theorem rows_univ (D : ℕ) : rows D 0 D = Finset.univ := by
  ext i; simp only [mem_rows, Finset.mem_univ, iff_true]; have := (i 0).isLt; exact ⟨Nat.zero_le _, by simpa using this⟩

/-- The rectangle of `n` whole rows at the offsets `off` is the rows from `off 0`. -/
theorem unit_set {D n lo : ℕ} {off : Fin 2 → ℕ} {inb} (h0 : off 0 = lo) (h1 : off 1 = 0) :
    (Rect.unit (s := Sh D) off (Sh n).size inb).set = rows D lo n := by
  ext i
  rw [Rect.mem_set_unit, mem_rows]
  have hi := (i 1).isLt
  constructor
  · intro h; have := h 0; rw [h0] at this; exact this
  · intro h a
    match a with
    | 0 => rw [h0]; exact h
    | 1 => rw [h1]; exact ⟨Nat.zero_le _, by simpa using hi⟩

/-- A matrix, from the row `o` on, as contents of a buffer of `D` rows. -/
def mat {α : Type} (D o : ℕ) (M : ℕ → ℕ → α) : (Sh D).Idx → α := fun i => M (o + (i 0).val) (i 1).val

/-- The float32 zero. -/
def zero : F .f32 := Scalar.ofBits .f32 0x00000000#32

section View

variable {sp : Space} {D : ℕ} (v : View sig .tc sp (Sh D) .f32)

/-- Contents to write over: any at all. -/
def base : v.ty.Contents (Elt F) := fun _ => _root_.cast (congrArg (Elt F) v.elt_eq.symm) (zero : Elt F .f32)

/-- The whole buffer at given contents. -/
def fill (w : (Sh D).Idx → Elt F .f32) : v.ty.Contents (Elt F) := v.write (Elt F) (base v) w Finset.univ

theorem read_fill (w : (Sh D).Idx → Elt F .f32) : v.read (Elt F) (fill v w) = w := View.read_write_univ _ _

theorem contents_congr {S : Finset (Sh D).Idx} {f g : v.ty.Contents (Elt F)} (h : ∀ x ∈ S, v.read (Elt F) f x = v.read (Elt F) g x) :
    ∀ i ∈ v.setOn S, f i = g i := by
  intro i hi
  obtain ⟨x, hx, rfl⟩ := Finset.mem_map.mp hi
  have := h x hx
  rw [View.read_apply, View.read_apply] at this
  exact (cast_inj _).mp this

variable (c : Dev nD)

/-- Rows `lo`, …, `lo + n - 1` of the buffer, held at share `q` and at contents `f`. -/
def part (lo n : ℕ) (q : PosShare TreeShare) (f : v.ty.Contents (Elt F)) : sProp 𝕄 :=
  (v.loc (c : Thread nD τ)) ↦[v.setOn (rows D lo n)]{q} f

/-- Rows `lo`, …, `lo + n - 1` of the buffer hold rows `o + lo`, … of the matrix `M`. -/
def Blk (lo n : ℕ) (q : PosShare TreeShare) (o : ℕ) (M : ℕ → ℕ → Elt F .f32) : sProp 𝕄 := part v c lo n q (fill v (mat D o M))

/-- The rows at contents not chosen. -/
def Any (lo n : ℕ) : sProp 𝕄 := iprop(∃ f, part v c lo n fullShare f)

theorem part_congr {lo n : ℕ} {q : PosShare TreeShare} {f g : v.ty.Contents (Elt F)}
    (h : ∀ x ∈ rows D lo n, v.read (Elt F) f x = v.read (Elt F) g x) : (part v c lo n q f : sProp 𝕄) = part v c lo n q g :=
  pointsTo_congr (contents_congr v h)

theorem Blk_congr {lo n : ℕ} {q : PosShare TreeShare} {o o' : ℕ} {M M' : ℕ → ℕ → Elt F .f32}
    (h : ∀ t j, lo ≤ t → t < lo + n → j < 1024 → M (o + t) j = M' (o' + t) j) :
    (Blk v c lo n q o M : sProp 𝕄) = Blk v c lo n q o' M' := by
  refine part_congr v c fun x hx => ?_
  rw [read_fill, read_fill]
  rw [mem_rows] at hx
  exact h _ _ hx.1 hx.2 (by simpa using (x 1).isLt)

theorem part_add (lo n₁ n₂ : ℕ) (q : PosShare TreeShare) (f : v.ty.Contents (Elt F)) :
    (part v c lo (n₁ + n₂) q f : sProp 𝕄) = iprop(part v c lo n₁ q f ∗ part v c (lo + n₁) n₂ q f) := by
  unfold part
  rw [rows_add]
  have hd : Disjoint (v.setOn (rows D lo n₁)) (v.setOn (rows D (lo + n₁) n₂)) :=
    (Finset.disjoint_map _).mpr (rows_disjoint (Or.inl (Nat.le_refl _)))
  rw [show v.setOn (rows D lo n₁ ∪ rows D (lo + n₁) n₂) = v.setOn (rows D lo n₁) ∪ v.setOn (rows D (lo + n₁) n₂) from Finset.map_union _ _]
  have hu := pointsTo_union (Ix := Unit) (Name := ℕ) (U := U) (Lvl := ℕ) (ℓ := v.loc (c : Thread nD τ)) (q := q) (f := f) hd
  exact BI.Entails.antisymm hu.1 hu.2

/-- A block is its first `n₁` rows and the `n₂` after them. -/
theorem Blk_add (lo n₁ n₂ : ℕ) (q : PosShare TreeShare) (o : ℕ) (M : ℕ → ℕ → Elt F .f32) :
    (Blk v c lo (n₁ + n₂) q o M : sProp 𝕄) = iprop(Blk v c lo n₁ q o M ∗ Blk v c (lo + n₁) n₂ q o M) := part_add v c lo n₁ n₂ q _

theorem Any_cut (lo n₁ n₂ : ℕ) : (Any v c lo (n₁ + n₂) : sProp 𝕄) ⊢ iprop(Any v c lo n₁ ∗ Any v c (lo + n₁) n₂) := by
  unfold Any
  iintro ⟨%f, H⟩
  ihave H := (Entails.of_eq (part_add v c lo n₁ n₂ fullShare f)) $$ H
  icases H with ⟨H1, H2⟩
  isplitl [H1]
  · iexists f; iexact H1
  · iexists f; iexact H2

theorem Any_join (lo n₁ n₂ : ℕ) : iprop(Any v c lo n₁ ∗ Any v c (lo + n₁) n₂) ⊢ (Any v c lo (n₁ + n₂) : sProp 𝕄) := by
  unfold Any part
  iintro ⟨⟨%f, H1⟩, ⟨%g, H2⟩⟩
  have hd : Disjoint (v.setOn (rows D lo n₁)) (v.setOn (rows D (lo + n₁) n₂)) :=
    (Finset.disjoint_map _).mpr (rows_disjoint (Or.inl (Nat.le_refl _)))
  iexists _
  rw [show v.setOn (rows D lo (n₁ + n₂)) = v.setOn (rows D lo n₁) ∪ v.setOn (rows D (lo + n₁) n₂) from by
    rw [rows_add]; exact Finset.map_union _ _]
  iapply (pointsTo_join hd)
  isplitl [H1] <;> iassumption

theorem Any_of_Blk (lo n : ℕ) (o : ℕ) (M : ℕ → ℕ → Elt F .f32) : (Blk v c lo n fullShare o M : sProp 𝕄) ⊢ Any v c lo n := by
  unfold Any Blk; iintro H; iexists _; iexact H

/-- A block held whole is its two halves. -/
theorem Blk_halves (lo n : ℕ) (o : ℕ) (M : ℕ → ℕ → Elt F .f32) :
    (Blk v c lo n fullShare o M : sProp 𝕄) = iprop(Blk v c lo n fullShare.left o M ∗ Blk v c lo n fullShare.right o M) := by
  unfold Blk part
  exact BI.Entails.antisymm (pointsTo_share (PosShare.mem_left_op_right fullShare)).1 (pointsTo_share (PosShare.mem_left_op_right fullShare)).2

/-! ## Through a slice of whole rows -/

variable {lo n : ℕ} {off : Fin 2 → ℕ} {inb : ∀ a, off a + (Sh n).size a ≤ (Sh D).size a} (h0 : off 0 = lo) (h1 : off 1 = 0)

include h0 h1

theorem slice_set : (v.slice (Rect.unit (s := Sh D) off (Sh n).size inb)).set = v.setOn (rows D lo n) := by
  rw [View.set_slice, unit_set h0 h1]; rfl

theorem slice_part (q : PosShare TreeShare) (f : v.ty.Contents (Elt F)) :
    (((v.slice (Rect.unit (s := Sh D) off (Sh n).size inb)).loc (c : Thread nD τ))
      ↦[(v.slice (Rect.unit (s := Sh D) off (Sh n).size inb)).set]{q} f : sProp 𝕄) = part v c lo n q f := by
  rw [slice_set v h0 h1]; rfl

/-- What a load of the rows reads. -/
theorem slice_read (o : ℕ) (M : ℕ → ℕ → Elt F .f32) :
    (v.slice (Rect.unit (s := Sh D) off (Sh n).size inb)).read (Elt F) (fill v (mat D o M)) = mat n (o + lo) M := by
  funext x
  show v.read (Elt F) (fill v (mat D o M)) ((Rect.unit (s := Sh D) off (Sh n).size inb).emb x) = _
  rw [read_fill]
  unfold mat
  rw [Rect.emb_apply, Rect.emb_apply]
  simp only [Rect.off_unit, Rect.stride_unit, Nat.one_mul, h0, h1, Nat.zero_add, Nat.add_assoc]

/-- What the rows hold after a store of a matrix. -/
theorem slice_write (q : PosShare TreeShare) (f : v.ty.Contents (Elt F)) (o : ℕ) (M : ℕ → ℕ → Elt F .f32)
    (w : (Sh n).Idx → Elt F .f32) (hw : ∀ x, w x = M (o + lo + (x 0).val) (x 1).val) :
    (part v c lo n q ((v.slice (Rect.unit (s := Sh D) off (Sh n).size inb)).write (Elt F) f w Finset.univ) : sProp 𝕄)
      = Blk v c lo n q o M := by
  refine part_congr v c fun x hx => ?_
  rw [read_fill]
  have hx' : x ∈ (Rect.unit (s := Sh D) off (Sh n).size inb).set := by rw [unit_set h0 h1]; exact hx
  rw [← Rect.map_emb_univ] at hx'
  obtain ⟨y, -, rfl⟩ := Finset.mem_map.mp hx'
  show (v.slice (Rect.unit (s := Sh D) off (Sh n).size inb)).read (Elt F) _ y = _
  rw [View.read_write_univ, hw]
  unfold mat
  rw [Rect.emb_apply, Rect.emb_apply]
  simp only [Rect.off_unit, Rect.stride_unit, Nat.one_mul, h0, h1, Nat.zero_add, Nat.add_assoc]

end View

end Cert.Rows

end
-- ==== Proof.Net.lean ====
/- The exchange of the kernel: who sends which rows to whom, on which semaphore, and what each arrival hands over. The four devices
   pair up in two ways, `pa` (the first two, the last two) and `pb` (outer two, inner two); every device sends twenty-two messages,
   numbered in the order it sends them, and waits once for each as a sender and once as a receiver. -/
module

public import proofs.«01_k».proof.Proof.Blocks
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the exchange. -/
abbrev UB : Type := URounds (GSem nD τ sig) Bool
/-- The launch's, the exchange's, and the counters of the copies within a device. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

/-! ## The places -/

def pa (c : Dev nD) : Dev nD := (![1, 0, 3, 2] : Fin 4 → Fin 4) c
def pb (c : Dev nD) : Dev nD := (![3, 2, 1, 0] : Fin 4 → Fin 4) c
theorem pa_pa (c : Dev nD) : pa (pa c) = c := by revert c; decide
theorem pb_pb (c : Dev nD) : pb (pb c) = c := by revert c; decide

/-- The first and the second bit of a device's number, and the parity of their sum. -/
def ba (c : Dev nD) : ℕ := (![0, 1, 0, 1] : Fin 4 → ℕ) c
def bb (c : Dev nD) : ℕ := (![0, 0, 1, 1] : Fin 4 → ℕ) c
def bk (c : Dev nD) : ℕ := (![0, 1, 1, 0] : Fin 4 → ℕ) c
/-- The rows a device gives away first and keeps, in the upper half and in the lower half. -/
def xs (c : Dev nD) : ℕ := (1 - bk c) * 256
def xk (c : Dev nD) : ℕ := bk c * 256
def ys (c : Dev nD) : ℕ := 512 + (1 - bb c) * 256
def yk (c : Dev nD) : ℕ := 512 + bb c * 256
/-- A device's bit, and the other one, as an offset of 128 rows. -/
def a1 (c : Dev nD) : ℕ := ba c * 128
def a0 (c : Dev nD) : ℕ := (1 - ba c) * 128
def b1 (c : Dev nD) : ℕ := bb c * 128
def b0 (c : Dev nD) : ℕ := (1 - bb c) * 128

/-! ## The buffers -/

abbrev oM : Memref sig .tc .vmem S1024x1024 .f32 := Memref.whole cc0_stg3_0
abbrev x1M : Memref sig .tc .vmem S256x1024 .f32 := Memref.whole cc0_scratch0
abbrev x2M : Memref sig .tc .vmem S128x1024 .f32 := Memref.whole cc0_scratch1
abbrev y1M : Memref sig .tc .vmem S256x1024 .f32 := Memref.whole cc0_scratch2
abbrev y2M : Memref sig .tc .vmem S128x1024 .f32 := Memref.whole cc0_scratch3
abbrev oV : View sig .tc .vmem (Sh 1024) .f32 := oM.view
abbrev x1V : View sig .tc .vmem (Sh 256) .f32 := x1M.view
abbrev x2V : View sig .tc .vmem (Sh 128) .f32 := x2M.view
abbrev y1V : View sig .tc .vmem (Sh 256) .f32 := y1M.view
abbrev y2V : View sig .tc .vmem (Sh 128) .f32 := y2M.view

/-! ## Messages: peers, semaphores, amounts -/

/-- Whether the message goes along `pa`. -/
def alongA : Fin 22 → Bool :=
  ![true, true, false, false, true, false, false, true, false, true, false, true, true, false, false, true, true, false,
    true, false, true, false]
def peer (i : Fin 22) (c : Dev nD) : Dev nD := if alongA i then pa c else pb c
theorem peer_peer (i : Fin 22) (c : Dev nD) : peer i (peer i c) = c := by
  unfold peer; split
  · exact pa_pa c
  · exact pb_pb c

def sndNo : Fin 22 → Fin 176 :=
  ![132, 133, 154, 155, 134, 156, 135, 157, 136, 158, 137, 139, 159, 161, 138, 140, 160, 162, 141, 163, 142, 164]
def rcvNo : Fin 22 → Fin 176 :=
  ![143, 144, 165, 166, 145, 167, 146, 168, 147, 169, 148, 150, 170, 172, 149, 151, 171, 173, 152, 174, 153, 175]
abbrev sndS (i : Fin 22) : DmaSem sig := sndNo i
abbrev rcvS (i : Fin 22) : DmaSem sig := rcvNo i
abbrev barS : Sem sig := sig.barrier 0 rfl

/-- The semaphore of a message at its sender (`false`) and at its receiver (`true`). -/
def msem (p : Bool × Fin 22) : SemLoc sig := bif p.1 then .dma (rcvS p.2) else .dma (sndS p.2)
theorem msem_inj : Function.Injective msem := by decide +kernel
theorem msem_ne_bar : ∀ p, msem p ≠ .reg barS := by
  rintro ⟨b, i⟩ h; cases b <;> cases h

abbrev barCell (c : Dev nD) : GSem nD τ sig := ((c : Thread nD τ), .reg barS)
abbrev scell (c : Dev nD) (i : Fin 22) : GSem nD τ sig := ((c : Thread nD τ), .dma (sndS i))
abbrev rcell (c : Dev nD) (i : Fin 22) : GSem nD τ sig := ((c : Thread nD τ), .dma (rcvS i))
abbrev mcell (c : Dev nD) (p : Bool × Fin 22) : GSem nD τ sig := ((c : Thread nD τ), msem p)

/-- The message, and its end, that a semaphore belongs to. -/
def codeOf (sm : SemLoc sig) : Option (Bool × Fin 22) :=
  match sm with
  | .dma q => if 132 ≤ q.val then
      (if h : q.val - 132 < 44 then
        some ((![(false, 0), (false, 1), (false, 4), (false, 6), (false, 8), (false, 10), (false, 14), (false, 11), (false, 15), (false, 18), (false, 20),
           (true, 0), (true, 1), (true, 4), (true, 6), (true, 8), (true, 10), (true, 14), (true, 11), (true, 15), (true, 18), (true, 20),
           (false, 2), (false, 3), (false, 5), (false, 7), (false, 9), (false, 12), (false, 16), (false, 13), (false, 17), (false, 19), (false, 21),
           (true, 2), (true, 3), (true, 5), (true, 7), (true, 9), (true, 12), (true, 16), (true, 13), (true, 17), (true, 19), (true, 21)] :
          Fin 44 → Bool × Fin 22) ⟨q.val - 132, h⟩) else none) else none
  | _ => none
theorem codeOf_msem : ∀ p, codeOf (msem p) = some p := by decide +kernel

def n64 : ℕ := (oM.slice (Rect.unit (s := S1024x1024) ![0, 0] S64x1024.size (by decide)) (fun _ => rfl)).view.dmaCredit
def n128 : ℕ := (oM.slice (Rect.unit (s := S1024x1024) ![0, 0] S128x1024.size (by decide)) (fun _ => rfl)).view.dmaCredit
theorem n64_pos : 0 < n64 := View.dmaCredit_pos _ (by decide)
theorem n128_pos : 0 < n128 := View.dmaCredit_pos _ (by decide)
/-- What the message credits: that of 128 rows for the fifth and the sixth, of 64 rows for the others. -/
def amt (i : Fin 22) : ℕ := if i = 4 ∨ i = 5 then n128 else n64
theorem amt_pos (i : Fin 22) : 0 < amt i := by unfold amt; split; exacts [n128_pos, n64_pos]

/-! ## What the rows hold -/

section Contents

variable (G : Dev nD → ℕ → ℕ → Elt F .f32)

/-- The sum of two matrices, element by element. -/
def plus (M M' : ℕ → ℕ → Elt F .f32) : ℕ → ℕ → Elt F .f32 := fun t j => FloatOps.addf (M t j) (M' t j)

/-- After the first and the second exchange, in the upper half. -/
def H1x (c : Dev nD) : ℕ → ℕ → Elt F .f32 := plus (G c) (G (pa c))
def H2x (c : Dev nD) : ℕ → ℕ → Elt F .f32 := plus (H1x G c) (H1x G (pb c))
/-- In the lower half. -/
def H1y (c : Dev nD) : ℕ → ℕ → Elt F .f32 := plus (G c) (G (pb c))
def H2y (c : Dev nD) : ℕ → ℕ → Elt F .f32 := plus (H1y G c) (H1y G (pa c))
/-- The device whose second sum a group of 128 rows of the result is. -/
def dx (t : ℕ) : Dev nD := if t < 128 then 0 else if t < 256 then 3 else if t < 384 then 1 else 2
def dy (t : ℕ) : Dev nD := if t < 640 then 0 else if t < 768 then 1 else if t < 896 then 2 else 3
/-- The result. -/
def Fin1 : ℕ → ℕ → Elt F .f32 := fun t j => if t < 512 then H2x G (dx t) t j else H2y G (dy t) t j

variable (c : Dev nD)

/-- `n` rows of a landing buffer from `lo` on, at rows `o + lo`, … of `M`, and the sender's rows from `lo'` on given up with them. -/
def Land {D : ℕ} (v : View sig .tc .vmem (Sh D) .f32) (s : Dev nD) (lo n o : ℕ) (M : ℕ → ℕ → Elt F .f32) (lo' : ℕ) : sProp 𝕄 :=
  iprop(Blk v c lo n fullShare o M ∗ Any oV s lo' n)

/-- What an arrival hands its receiver. -/
def rcvPay (i : Fin 22) : sProp 𝕄 :=
  match i.val with
  | 0 => Land c x1V (pa c) (b0 c) 64 (xk c) (G (pa c)) (xk c + b0 c)
  | 1 => Land c x1V (pa c) (b0 c + 64) 64 (xk c) (G (pa c)) (xk c + b0 c + 64)
  | 2 => Land c y1V (pb c) (a0 c) 64 (yk c) (G (pb c)) (yk c + a0 c)
  | 3 => Land c y1V (pb c) (a0 c + 64) 64 (yk c) (G (pb c)) (yk c + a0 c + 64)
  | 4 => Land c x1V (pa c) (b1 c) 128 (xk c) (G (pa c)) (xk c + b1 c)
  | 5 => Land c y1V (pb c) (a1 c) 128 (yk c) (G (pb c)) (yk c + a1 c)
  | 6 => Land c x2V (pb c) 0 64 (xk c + b1 c) (H1x G (pb c)) (xk c + b1 c)
  | 7 => Land c y2V (pa c) 0 64 (yk c + a1 c) (H1y G (pa c)) (yk c + a1 c)
  | 8 => Land c x2V (pb c) 64 64 (xk c + b1 c) (H1x G (pb c)) (xk c + b1 c + 64)
  | 9 => Land c y2V (pa c) 64 64 (yk c + a1 c) (H1y G (pa c)) (yk c + a1 c + 64)
  | 10 => Blk oV c (xk c + b0 c) 64 fullShare 0 (Fin1 G)
  | 11 => Blk oV c (xs c + b1 c) 64 fullShare 0 (Fin1 G)
  | 12 => Blk oV c (yk c + a0 c) 64 fullShare 0 (Fin1 G)
  | 13 => Blk oV c (ys c + a0 c) 64 fullShare 0 (Fin1 G)
  | 14 => Blk oV c (xk c + b0 c + 64) 64 fullShare 0 (Fin1 G)
  | 15 => Blk oV c (xs c + b1 c + 64) 64 fullShare 0 (Fin1 G)
  | 16 => Blk oV c (yk c + a0 c + 64) 64 fullShare 0 (Fin1 G)
  | 17 => Blk oV c (ys c + a0 c + 64) 64 fullShare 0 (Fin1 G)
  | 18 => Blk oV c (xs c + b0 c) 64 fullShare 0 (Fin1 G)
  | 19 => Blk oV c (ys c + a1 c) 64 fullShare 0 (Fin1 G)
  | 20 => Blk oV c (xs c + b0 c + 64) 64 fullShare 0 (Fin1 G)
  | 21 => Blk oV c (ys c + a1 c + 64) 64 fullShare 0 (Fin1 G)
  | _ => iprop(emp)

/-- What its sender gets back: nothing where the receiver gets the rows sent, its share of them otherwise. -/
def sndPay (i : Fin 22) : sProp 𝕄 :=
  match i.val with
  | 10 => Blk oV c (xk c + b1 c) 64 fullShare.left 0 (Fin1 G)
  | 11 => Blk oV c (xk c + b1 c) 64 fullShare.right 0 (Fin1 G)
  | 12 => Blk oV c (yk c + a1 c) 64 fullShare.left 0 (Fin1 G)
  | 13 => Blk oV c (yk c + a1 c) 64 fullShare.right 0 (Fin1 G)
  | 14 => Blk oV c (xk c + b1 c + 64) 64 fullShare.left 0 (Fin1 G)
  | 15 => Blk oV c (xk c + b1 c + 64) 64 fullShare.right 0 (Fin1 G)
  | 16 => Blk oV c (yk c + a1 c + 64) 64 fullShare.left 0 (Fin1 G)
  | 17 => Blk oV c (yk c + a1 c + 64) 64 fullShare.right 0 (Fin1 G)
  | 18 => Blk oV c (xk c + b0 c) 64 fullShare 0 (Fin1 G)
  | 19 => Blk oV c (yk c + a0 c) 64 fullShare 0 (Fin1 G)
  | 20 => Blk oV c (xk c + b0 c + 64) 64 fullShare 0 (Fin1 G)
  | 21 => Blk oV c (yk c + a0 c + 64) 64 fullShare 0 (Fin1 G)
  | _ => iprop(emp)

omit [FloatOps F] in
/-- That a device's receive semaphores are ready to be paid. -/
def ready (s : Dev nD) : sProp 𝕄 := bigSep Finset.univ fun i : Fin 22 => reached ER (rcell s i) 0

/-- What the two neighbours' signals hand a device: the landing buffers it will write, and that the receive semaphores are ready. -/
def barPay (d : Bool) : sProp 𝕄 :=
  if d then iprop(Any y1V (pb c) 0 256 ∗ Any x2V (pb c) 0 128 ∗ ready (pb c))
  else iprop(Any x1V (pa c) 0 256 ∗ Any y2V (pa c) 0 128 ∗ ready (pa c))

end Contents

instance part_storable {sp : Space} {D : ℕ} (v : View sig .tc sp (Sh D) .f32) (c : Dev nD) (lo n : ℕ) (q : PosShare TreeShare) (f : v.ty.Contents (Elt F)) :
    BI.Storable (upEmb : UEmb _ 𝕄) (part v c lo n q f) := by unfold part; infer_instance
instance Blk_storable {sp : Space} {D : ℕ} (v : View sig .tc sp (Sh D) .f32) (c : Dev nD) (lo n : ℕ) (q : PosShare TreeShare) (o : ℕ) (M : ℕ → ℕ → Elt F .f32) :
    BI.Storable (upEmb : UEmb _ 𝕄) (Blk v c lo n q o M) := by unfold Blk; infer_instance
instance Any_storable {sp : Space} {D : ℕ} (v : View sig .tc sp (Sh D) .f32) (c : Dev nD) (lo n : ℕ) :
    BI.Storable (upEmb : UEmb _ 𝕄) (Any v c lo n) := by unfold Any; infer_instance
instance ready_storable (s : Dev nD) : BI.Storable (upEmb : UEmb _ 𝕄) (ready s) := by unfold ready; infer_instance
instance ready_persistent (s : Dev nD) : BI.Persistent (ready s : sProp 𝕄) := by unfold ready; infer_instance
instance Land_storable {D : ℕ} (v : View sig .tc .vmem (Sh D) .f32) (c s : Dev nD) (lo n o : ℕ) (M : ℕ → ℕ → Elt F .f32) (lo' : ℕ) :
    BI.Storable (upEmb : UEmb _ 𝕄) (Land c v s lo n o M lo') := by unfold Land; infer_instance

variable (G : Dev nD → ℕ → ℕ → Elt F .f32)

instance rcvPay_storable (c : Dev nD) (i : Fin 22) : BI.Storable (upEmb : UEmb _ 𝕄) (rcvPay G c i) := by
  fin_cases i <;> (simp only [rcvPay]; infer_instance)
instance sndPay_storable (c : Dev nD) (i : Fin 22) : BI.Storable (upEmb : UEmb _ 𝕄) (sndPay G c i) := by
  fin_cases i <;> (simp only [sndPay]; infer_instance)
instance barPay_storable (c : Dev nD) (d : Bool) : BI.Storable (upEmb : UEmb _ 𝕄) (barPay c d) := by
  unfold barPay; split <;> infer_instance

/-! ## The schedule -/

/-- What a message hands over at either end. -/
def msgPay (c : Dev nD) (p : Bool × Fin 22) : sProp 𝕄 := if p.1 then rcvPay G c p.2 else sndPay G c p.2
instance msgPay_storable (c : Dev nD) (p : Bool × Fin 22) : BI.Storable (upEmb : UEmb _ 𝕄) (msgPay G c p) := by
  unfold msgPay; split <;> infer_instance

/-- Every cell is paid in one round: a barrier by the two neighbours' units, the end of a message by the message. -/
def Rd : Rounds.Schedule (GSem nD τ sig) Bool 𝕄 where
  duties g r := if r = 0 ∧ g.1.2 = .tc then
    (if g.2 = .reg barS then Finset.univ else match codeOf g.2 with | some _ => {false} | none => ∅) else ∅
  unitless _ := False
  amount g _ _ := if g.2 = .reg barS then 1 else match codeOf g.2 with | some p => amt p.2 | none => 1
  payload g _ d := if g.2 = .reg barS then barPay g.1.1 d else match codeOf g.2 with | some p => msgPay G g.1.1 p | none => iprop(emp)
  amount_pos g _ _ _ := by
    split
    · exact Nat.one_pos
    · split
      · exact amt_pos _
      · exact Nat.one_pos

instance Rd_storable (g : GSem nD τ sig) (r : ℕ) (d : Bool) : BI.Storable (upEmb : UEmb _ 𝕄) ((Rd G).payload g r d) := by
  show BI.Storable upEmb (if g.2 = .reg barS then barPay g.1.1 d else match codeOf g.2 with | some p => msgPay G g.1.1 p | none => iprop(emp))
  split
  · infer_instance
  · split <;> infer_instance

section Sched
variable (c : Dev nD)

theorem duties_bar : (Rd G).duties (barCell c) 0 = Finset.univ := by dsimp only [Rd]; rw [if_pos ⟨rfl, rfl⟩, if_pos rfl]
theorem duties_msg (p : Bool × Fin 22) : (Rd G).duties (mcell c p) 0 = {false} := by
  dsimp only [Rd]; rw [if_pos ⟨rfl, rfl⟩, if_neg (msem_ne_bar p), codeOf_msem]
theorem duties_later (g : GSem nD τ sig) : ∀ r, 1 ≤ r → (Rd G).duties g r = ∅ :=
  fun r hr => by dsimp only [Rd]; rw [if_neg fun h => by omega]
theorem amount_bar (d : Bool) : (Rd G).amount (barCell c) 0 d = 1 := by dsimp only [Rd]; exact if_pos rfl
theorem amount_msg (p : Bool × Fin 22) (d : Bool) : (Rd G).amount (mcell c p) 0 d = amt p.2 := by
  dsimp only [Rd]; rw [if_neg (msem_ne_bar p), codeOf_msem]
theorem payload_bar (d : Bool) : (Rd G).payload (barCell c) 0 d = barPay c d := by dsimp only [Rd]; exact if_pos rfl
theorem payload_msg (p : Bool × Fin 22) (d : Bool) : (Rd G).payload (mcell c p) 0 d = msgPay G c p := by
  dsimp only [Rd]; rw [if_neg (msem_ne_bar p), codeOf_msem]
theorem expect_bar : (Rd G).expect (barCell c) 0 = 2 := by
  unfold Schedule.expect Schedule.amountOf
  rw [duties_bar, Finset.sum_congr rfl fun d _ => amount_bar G c d, Finset.sum_const, Finset.card_univ, Fintype.card_bool, smul_eq_mul]
theorem expect_msg (p : Bool × Fin 22) : (Rd G).expect (mcell c p) 0 = amt p.2 := by
  unfold Schedule.expect Schedule.amountOf; rw [duties_msg, Finset.sum_singleton, amount_msg]
theorem rest_bar : bigSep ((Rd G).duties (barCell c) 0 \ ∅) (fun d => (Rd G).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_msg (p : Bool × Fin 22) :
    bigSep ((Rd G).duties (mcell c p) 0 \ ∅) (fun d => (Rd G).payload (mcell c p) 0 d) = msgPay G c p := by
  rw [Finset.sdiff_empty, duties_msg, bigSep_singleton, payload_msg]

end Sched

/-! ## Levels and what is owed -/

def L (g : GSem nD τ sig) : Finset Unit := if g.1.2 = .tc then {()} else ∅
/-- A message may be waited for while those sent after it are still owed: arrivals rise with the message's number, above the barrier. -/
def lv (g : GSem nD τ sig) (_ : Unit) : ℕ :=
  if g.2 = .reg barS then 1 else match codeOf g.2 with | some p => if p.1 then 2 + p.2.val else 0 | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_msg (c : Dev nD) (p : Bool × Fin 22) : lv (mcell c p) () = if p.1 then 2 + p.2.val else 0 := by
  unfold lv; rw [if_neg (msem_ne_bar p), codeOf_msem]

/-- The messages from the `n`-th on are still owed. -/
def owed (n : ℕ) (c : Dev nD) : CellTallies nD τ sig Unit :=
  ∑ i ∈ Finset.univ.filter (fun i : Fin 22 => n ≤ i.val), tallyAt (rcell (peer i c) i) () (amt i)

theorem owed_step (i : Fin 22) (c : Dev nD) : owed i.val c = owed (i.val + 1) c + tallyAt (rcell (peer i c) i) () (amt i) := by
  unfold owed
  rw [show Finset.univ.filter (fun j : Fin 22 => i.val ≤ j.val) = insert i (Finset.univ.filter (fun j : Fin 22 => i.val + 1 ≤ j.val)) from by
    ext j; simp only [Finset.mem_filter, Finset.mem_univ, true_and, Finset.mem_insert, Fin.ext_iff]; omega]
  rw [Finset.sum_insert (by simp), add_comm]

theorem owed_end (c : Dev nD) : owed 22 c = 0 := by
  unfold owed
  rw [show Finset.univ.filter (fun j : Fin 22 => 22 ≤ j.val) = ∅ from by ext j; have := j.isLt; simp, Finset.sum_empty]

theorem owed_pos {n : ℕ} {c : Dev nD} {g : GSem nD τ sig} {u : Unit} (h : 0 < owed n c g u) : ∃ i : Fin 22, n ≤ i.val ∧ g = rcell (peer i c) i := by
  obtain ⟨i, hi, hp⟩ := Pipeline.sum_pos_exists h
  refine ⟨i, (Finset.mem_filter.mp hi).2, ?_⟩
  rw [tallyAt_apply] at hp
  by_contra hn
  rw [if_neg (fun hh => hn hh.1)] at hp
  exact Nat.lt_irrefl 0 hp

/-- What a device owes at the start: every message, and a unit to each neighbour's barrier. -/
def owedB (c : Dev nD) : CellTallies nD τ sig Unit := owed 0 c + tallyAt (barCell (pb c)) () 1
def O₀ (c : Dev nD) : CellTallies nD τ sig Unit := owedB c + tallyAt (barCell (pa c)) () 1

theorem O₀_pos {c : Dev nD} {g : GSem nD τ sig} {u : Unit} (h : 0 < O₀ c g u) :
    (∃ i : Fin 22, g = rcell (peer i c) i) ∨ ∃ d, g = barCell d := by
  unfold O₀ owedB at h
  rw [Pi.add_apply, Finsupp.add_apply, Pi.add_apply, Finsupp.add_apply, tallyAt_apply, tallyAt_apply] at h
  by_cases h1 : g = barCell (pb c)
  · exact .inr ⟨_, h1⟩
  by_cases h2 : g = barCell (pa c)
  · exact .inr ⟨_, h2⟩
  rw [if_neg (fun hh => h1 hh.1), if_neg (fun hh => h2 hh.1)] at h
  simp only [Nat.add_zero] at h
  obtain ⟨i, _, hi⟩ := owed_pos h
  exact .inl ⟨i, hi⟩

/-- A wait whose cell lies below every message still owed. -/
theorem mayWait_owed (c : Dev nD) (sm : SemLoc sig) (n : ℕ) (h : lv ((c : Thread nD τ), sm) () < 2 + n) :
    (levAts L lv : sProp 𝕄) ⊢ MayWait (c : Thread nD τ) sm () (owed n c) :=
  Pipeline.mayWait_of_levAts (by rw [L_tc]; exact Finset.mem_singleton_self _) fun g u hg => by
    obtain ⟨i, hi, rfl⟩ := owed_pos hg
    refine ⟨by rw [L_tc]; exact Finset.mem_singleton_self _, ?_⟩
    have : lv (rcell (peer i c) i) u = 2 + i.val := lv_msg (peer i c) (true, i)
    rw [this]; omega

end Cert.GatherProof

end
-- ==== Proof.Proto.lean ====
/- The exchange as a device runs it: what it holds after its first `n` sends and its first `j` waits, and the rules of a send and a
   wait over that state. -/
module

public import proofs.«01_k».proof.Proof.Net

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The cells and their invariants -/

def barEmb : Dev nD ↪ GSem nD τ sig := ⟨fun c => barCell c, fun _ _ h => congrArg (fun g : GSem nD τ sig => g.1.1) h⟩
def scEmb : Dev nD × (Bool × Fin 22) ↪ GSem nD τ sig :=
  ⟨fun ck => mcell ck.1 ck.2, fun _ _ h => Prod.ext (congrArg (fun g : GSem nD τ sig => g.1.1) h) (msem_inj (congrArg Prod.snd h))⟩
/-- The barriers; the two ends of every message. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact msem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem msg_mem (c : Dev nD) (p : Bool × Fin 22) : mcell c p ∈ (barCells ∪ scCells : Finset (GSem nD τ sig)) :=
  Finset.mem_union_right _ (Finset.mem_map_of_mem scEmb (Finset.mem_univ (c, p)))

variable (G : Dev nD → ℕ → ℕ → Elt F .f32) (κ : GSem nD τ sig → ℕ)

/-- All the invariants under one map of names; round 0 of every barrier cell reached. -/
def records : sProp 𝕄 :=
  iprop((bigSep (barCells ∪ scCells) fun g => cellInv ER (Rd G) (κ g) g) ∗ bigSep barCells fun g => reached ER g 0)
instance records_persistent : BI.Persistent (records G κ) := by unfold records; infer_instance

theorem inv_at {g : GSem nD τ sig} (hg : g ∈ (barCells ∪ scCells : Finset (GSem nD τ sig))) :
    records G κ ⊢ cellInv ER (Rd G) (κ g) g := by
  have h : (bigSep (barCells ∪ scCells) fun g => (cellInv ER (Rd G) (κ g) g : sProp 𝕄)) ⊢ cellInv ER (Rd G) (κ g) g := bigSep_elim hg
  unfold records; iintro ⟨H, -⟩; iapply h; iexact H
theorem bar_at (c : Dev nD) : records G κ ⊢ reached ER (barCell c) 0 := by
  have h : (bigSep barCells fun g => (reached ER g 0 : sProp 𝕄)) ⊢ reached ER (barCell c) 0 :=
    bigSep_elim (Finset.mem_map_of_mem barEmb (Finset.mem_univ c))
  unfold records; iintro ⟨-, H⟩; iapply h; iexact H

/-- What a device may consult throughout the exchange. -/
def Ctx (c : Dev nD) : sProp 𝕄 :=
  iprop(records G κ ∗ levAts L lv ∗ (bigSep Finset.univ fun i : Fin 22 => reached ER (scell c i) 0)
    ∗ bigSep Finset.univ fun i : Fin 22 => reached ER (rcell (peer i c) i) 0)
instance Ctx_persistent (c : Dev nD) : BI.Persistent (Ctx G κ c) := by unfold Ctx; infer_instance

theorem ctx_cells (c : Dev nD) (i : Fin 22) :
    Ctx G κ c ⊢ iprop(cellInv ER (Rd G) (κ (scell c i)) (scell c i) ∗ cellInv ER (Rd G) (κ (rcell (peer i c) i)) (rcell (peer i c) i)
      ∗ reached ER (scell c i) 0 ∗ reached ER (rcell (peer i c) i) 0) := by
  have h1 : (bigSep Finset.univ fun i : Fin 22 => (reached ER (scell c i) 0 : sProp 𝕄)) ⊢ reached ER (scell c i) 0 := bigSep_elim (Finset.mem_univ i)
  have h2 : (bigSep Finset.univ fun i : Fin 22 => (reached ER (rcell (peer i c) i) 0 : sProp 𝕄)) ⊢ reached ER (rcell (peer i c) i) 0 :=
    bigSep_elim (Finset.mem_univ i)
  unfold Ctx
  iintro ⟨#H1, -, #H3, #H4⟩
  isplitr; · iapply (inv_at G κ (msg_mem c (false, i))); iexact H1
  isplitr; · iapply (inv_at G κ (msg_mem (peer i c) (true, i))); iexact H1
  isplitr; · iapply h1; iexact H3
  iapply h2; iexact H4

theorem ctx_inv (c : Dev nD) (p : Bool × Fin 22) : Ctx G κ c ⊢ cellInv ER (Rd G) (κ (mcell c p)) (mcell c p) := by
  unfold Ctx; iintro ⟨H1, -, -, -⟩; iapply (inv_at G κ (msg_mem c p)); iexact H1
theorem ctx_lev (c : Dev nD) : Ctx G κ c ⊢ levAts L lv := by unfold Ctx; iintro ⟨-, H, -, -⟩; iexact H

/-! ## The order of the waits -/

/-- The messages in the order their two waits come. -/
def wOrd : Fin 22 → Fin 22 := ![0, 2, 1, 3, 4, 5, 6, 7, 8, 9, 10, 12, 14, 16, 11, 15, 18, 20, 13, 17, 19, 21]
/-- The `t`-th wait: of a message's sender, then of its receiver. -/
def wmsg (t : Fin 44) : Bool × Fin 22 := (decide (t.val % 2 = 1), wOrd ⟨t.val / 2, by omega⟩)
theorem wmsg_inj : Function.Injective wmsg := by decide +kernel
/-- When the sender's wait of a message comes. -/
def tOf (i : Fin 22) : Fin 44 :=
  (![0, 4, 2, 6, 8, 10, 12, 14, 16, 18, 20, 28, 22, 36, 24, 30, 26, 38, 32, 40, 34, 42] : Fin 22 → Fin 44) i
theorem wmsg_tOf (i : Fin 22) : wmsg (tOf i) = (false, i) := by revert i; decide +kernel

section State
variable (n j : ℕ) (c : Dev nD)

/-- The right to pay the messages from the `n`-th on. -/
def Toks : sProp 𝕄 :=
  bigSep Finset.univ fun i : Fin 22 => if i.val < n then iprop(emp) else iprop(dutyTok ER (scell c i) 0 false ∗ dutyTok ER (rcell (peer i c) i) 0 false)

/-- A cell to wait on later: its position, and the credit to wait with where it is there already. -/
def await (p : Bool × Fin 22) : sProp 𝕄 :=
  iprop(atPos ER (mcell c p) 0 ∅ 0 ∗ if p.1 = true ∨ p.2.val < n then cred (tallyAt (mcell c p) () (amt p.2)) else iprop(emp))
/-- The ends of the messages: those of the first `j` waits back at zero, the others to wait on. -/
def Waits : sProp 𝕄 :=
  bigSep Finset.univ fun t : Fin 44 => if t.val < j then iprop(semVal (mcell c (wmsg t)) 0) else await n c (wmsg t)

/-- The exchange after the first `n` sends and the first `j` waits. -/
def Proto : sProp 𝕄 := iprop(Toks n c ∗ Waits n j c ∗ ∃ W, owes (c : Thread nD τ) (owed n c) W)

end State

section Moves
variable (c : Dev nD)

omit [FloatOps F] in
theorem toks_take (i : Fin 22) : (Toks i.val c : sProp 𝕄) ⊢ iprop((dutyTok ER (scell c i) 0 false ∗ dutyTok ER (rcell (peer i c) i) 0 false) ∗ Toks (i.val + 1) c) := by
  unfold Toks
  rw [bigSep_univ_at _ i, bigSep_univ_at (fun j : Fin 22 => if j.val < i.val + 1 then _ else _) i, if_neg (Nat.lt_irrefl _), if_pos (Nat.lt_succ_self _),
    bigSep_congr (s := Finset.univ.erase i) (Ψ := fun j : Fin 22 => if j.val < i.val + 1 then (iprop(emp) : sProp 𝕄)
      else iprop(dutyTok ER (scell c j) 0 false ∗ dutyTok ER (rcell (peer j c) j) 0 false)) fun j hj => by
        have := Finset.ne_of_mem_erase hj
        have : j.val ≠ i.val := fun h => this (Fin.ext h)
        by_cases h : j.val < i.val
        · rw [if_pos h, if_pos (by omega)]
        · rw [if_neg h, if_neg (by omega)]]
  iintro ⟨H1, H2⟩
  isplitl [H1]; · iexact H1
  isplitr; · iempintro
  iexact H2

omit [FloatOps F] in
/-- A send puts its credit with the cell its sender will wait on. -/
theorem waits_credit (i : Fin 22) {j : ℕ} (hj : j ≤ (tOf i).val) :
    iprop(cred (tallyAt (scell c i) () (amt i)) ∗ Waits i.val j c) ⊢ (Waits (i.val + 1) j c : sProp 𝕄) := by
  unfold Waits
  rw [bigSep_univ_at _ (tOf i), bigSep_univ_at (fun t : Fin 44 => if t.val < j then _ else await (i.val + 1) c (wmsg t)) (tOf i),
    if_neg (Nat.not_lt.mpr hj), if_neg (Nat.not_lt.mpr hj), wmsg_tOf,
    bigSep_congr (s := Finset.univ.erase (tOf i)) (Ψ := fun t : Fin 44 => if t.val < j then (iprop(semVal (mcell c (wmsg t)) 0) : sProp 𝕄) else await (i.val + 1) c (wmsg t))
      fun t ht => by
        have hne := Finset.ne_of_mem_erase ht
        by_cases h : t.val < j
        · rw [if_pos h, if_pos h]
        rw [if_neg h, if_neg h]
        unfold await
        by_cases h1 : (wmsg t).1 = true
        · rw [if_pos (Or.inl h1), if_pos (Or.inl h1)]
        have h2 : (wmsg t).2 ≠ i := fun h2 => hne (wmsg_inj (by
          rw [wmsg_tOf]; exact Prod.ext (Bool.eq_false_of_not_eq_true h1) h2))
        have h3 : (wmsg t).2.val ≠ i.val := fun h => h2 (Fin.ext h)
        by_cases h4 : (wmsg t).2.val < i.val
        · rw [if_pos (Or.inr h4), if_pos (Or.inr (by omega))]
        · rw [if_neg (not_or.mpr ⟨h1, h4⟩), if_neg (not_or.mpr ⟨h1, by omega⟩)]]
  unfold await
  rw [if_neg (by simp), if_pos (Or.inr (Nat.lt_succ_self _))]
  iintro ⟨Hc, ⟨Ha, -⟩, H⟩
  isplitl [Hc Ha]
  · isplitl [Ha]
    · iexact Ha
    · iexact Hc
  iexact H

omit [FloatOps F] in
theorem waits_take (t : Fin 44) (n : ℕ) (hn : (wmsg t).2.val < n) :
    (Waits n t.val c : sProp 𝕄) ⊢ iprop((atPos ER (mcell c (wmsg t)) 0 ∅ 0 ∗ cred (tallyAt (mcell c (wmsg t)) () (amt (wmsg t).2)))
      ∗ (semVal (mcell c (wmsg t)) 0 -∗ Waits n (t.val + 1) c)) := by
  unfold Waits
  rw [bigSep_univ_at _ t, bigSep_univ_at (fun u : Fin 44 => if u.val < t.val + 1 then _ else await n c (wmsg u)) t,
    if_neg (Nat.lt_irrefl _), if_pos (Nat.lt_succ_self _),
    bigSep_congr (s := Finset.univ.erase t) (Ψ := fun u : Fin 44 => if u.val < t.val + 1 then (iprop(semVal (mcell c (wmsg u)) 0) : sProp 𝕄) else await n c (wmsg u))
      fun u hu => by
        have : u.val ≠ t.val := fun h => Finset.ne_of_mem_erase hu (Fin.ext h)
        by_cases h : u.val < t.val
        · rw [if_pos h, if_pos (by omega)]
        · rw [if_neg h, if_neg (by omega)]]
  unfold await
  rw [if_pos (Or.inr hn)]
  iintro ⟨⟨Ha, Hc⟩, H⟩
  isplitl [Ha Hc]
  · isplitl [Ha] <;> iassumption
  iintro Hv
  isplitl [Hv] <;> iassumption

end Moves

/-! ## The two sends -/

/-- The rows a copy has landed in hold the rows it read. -/
theorem landed_rows {D n lo lo' o : ℕ} {bM : Memref sig .tc .vmem (Sh D) .f32} {off off' : Fin 2 → ℕ}
    {inb : ∀ a, off a + (Sh n).size a ≤ (Sh 1024).size a} {inb' : ∀ a, off' a + (Sh n).size a ≤ (Sh D).size a} {hs hs'}
    (h0 : off 0 = lo') (h1 : off 1 = 0) (h0' : off' 0 = lo) (h1' : off' 1 = 0) (ho : o + lo = lo') (s : Dev nD) (f : bM.view.ty.Contents (Elt F))
    (M : ℕ → ℕ → Elt F .f32) :
    ((((bM.slice (Rect.unit (s := Sh D) off' (Sh n).size inb') hs').view.loc (s : Thread nD τ))
      ↦[(bM.slice (Rect.unit (s := Sh D) off' (Sh n).size inb') hs').view.set]{fullShare}
        ((bM.slice (Rect.unit (s := Sh D) off' (Sh n).size inb') hs').view.write (Elt F) f
          ((oM.slice (Rect.unit (s := Sh 1024) off (Sh n).size inb) hs).view.read (Elt F) (fill oV (mat 1024 0 M))) Finset.univ)) : sProp 𝕄)
      = Blk bM.view s lo n fullShare o M := by
  rw [show (oM.slice (Rect.unit (s := Sh 1024) off (Sh n).size inb) hs).view.read (Elt F) (fill oV (mat 1024 0 M)) = mat n (0 + lo') M from slice_read oV h0 h1 0 M]
  refine (slice_part bM.view s h0' h1' fullShare _).trans (slice_write bM.view s h0' h1' fullShare f o M _ fun x => ?_)
  rw [Nat.zero_add, ← ho]; rfl

variable (c : Dev nD)

set_option maxHeartbeats 2000000 in
/-- The landing buffer of `D` rows gets rows of the result; the rows sent go to the receiver with them. -/
theorem wp_land {D n j lo lo' o : ℕ} (i : Fin 22) {bM : Memref sig .tc .vmem (Sh D) .f32} {off off' : Fin 2 → ℕ}
    {inb : ∀ a, off a + (Sh n).size a ≤ (Sh 1024).size a} {inb' : ∀ a, off' a + (Sh n).size a ≤ (Sh D).size a} {hs hs'}
    {d : Dev nD} {sS sR : DmaSem sig} {hsc} {hsrc hdst hsem} {α : Type} {k : PUnit → Prog (TpuEff nD τ sig (Elt F) Λ₀ .tc) α} {Q : α → sProp 𝕄}
    {M : ℕ → ℕ → Elt F .f32} (hd : d = peer i c) (hS : sS = sndS i) (hR : sR = rcvS i)
    (h0 : off 0 = lo') (h1 : off 1 = 0) (h0' : off' 0 = lo) (h1' : off' 1 = 0) (ho : o + lo = lo')
    (hN : (bM.slice (Rect.unit (s := Sh D) off' (Sh n).size inb') hs').view.dmaCredit = amt i) (hj : j ≤ (tOf i).val)
    (hsnd : sndPay G c i = iprop(emp)) (hrcv : rcvPay G (peer i c) i = Land (peer i c) bM.view c lo n o M lo') :
    iprop(Ctx G κ c ∗ Proto i.val j c ∗ Blk oV c lo' n fullShare 0 M ∗ Any bM.view (peer i c) lo n)
      ⊢ iprop((Proto (i.val + 1) j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := Sh 1024) off (Sh n).size inb) hs)
              (.remote (Dev.tc d) (bM.slice (Rect.unit (s := Sh D) off' (Sh n).size inb') hs') (.dma sS) hsc) (.dma sR) hsrc hdst hsem) k) Q) := by
  subst hd hS hR
  unfold Proto Any
  iintro ⟨#HC, ⟨HT, HW, ⟨%W, HO⟩⟩, Hs, ⟨%f, Hd⟩⟩ Hk
  ihave HT := (toks_take c i) $$ HT
  icases HT with ⟨⟨Ht1, Ht2⟩, HT⟩
  ihave Hc := (ctx_cells G κ c i) $$ HC
  icases Hc with ⟨#HI1, #HI2, #HR1, #HR2⟩
  iapply (Rounds.wp_send_landing_pointsTo 𝒱₀ ER (Rd G) (c : Thread nD τ) none (c' := (peer i c : Thread nD τ))
      (src := oM.slice (Rect.unit (s := Sh 1024) off (Sh n).size inb) hs) (dst := bM.slice (Rect.unit (s := Sh D) off' (Sh n).size inb') hs')
      (sS := .dma (sndS i)) (sem := .dma (rcvS i)) (q := fullShare) (fs := fill oV (mat 1024 0 M)) (fd := f)
      (κ₁ := κ (scell c i)) (κ₂ := κ (rcell (peer i c) i)) (r₁ := 0) (r₂ := 0) (d₁ := false) (d₂ := false)
      (by rw [show ((↑c, SemLoc.dma (sndS i)) : GSem nD τ sig) = mcell c (false, i) from rfl, duties_msg]; exact Finset.mem_singleton_self _)
      (by rw [show ((↑(peer i c), SemLoc.dma (rcvS i)) : GSem nD τ sig) = mcell (peer i c) (true, i) from rfl, duties_msg]; exact Finset.mem_singleton_self _)
      () () (amt i) hN (amount_msg G c (false, i) false) (amount_msg G (peer i c) (true, i) false) (owed (i.val + 1) c) (owed_step i c) (W := W)
      (Entails.of_eq ((payload_msg G c (false, i) false).trans hsnd).symm)
      ((show _ ⊢ Land (peer i c) bM.view c lo n o M lo' from
        BIClass.sep_mono (Entails.of_eq (landed_rows h0 h1 h0' h1' ho (peer i c) f M))
          ((Entails.of_eq (slice_part oV c h0 h1 fullShare _)).trans (Any_of_Blk oV c lo' n 0 M))).trans
        (Entails.of_eq ((payload_msg G (peer i c) (true, i) false).trans hrcv).symm))) $$ [Hs Hd HO Ht1 Ht2]
  · isplitr; · iexact HI1
    isplitr; · iexact HI2
    isplitl [Hs]; · unfold Blk; iapply (Entails.of_eq (slice_part oV c h0 h1 fullShare _).symm) $$ Hs
    isplitl [Hd]; · iapply (Entails.of_eq (slice_part bM.view (peer i c) h0' h1' fullShare _).symm) $$ Hd
    isplitl [HO]; · iexact HO
    isplitl [Ht1]; · iexact Ht1
    isplitr; · iexact HR1
    isplitl [Ht2]; · iexact Ht2
    iexact HR2
  iintro ⟨Hcr, HO⟩
  iapply Hk
  isplitl [HT]; · iexact HT
  isplitl [Hcr HW]
  · iapply (waits_credit c i hj); isplitl [Hcr] <;> iassumption
  iexists W; iexact HO

set_option maxHeartbeats 2000000 in
/-- Rows of the result go to the same rows of the peer's result; the sender keeps its share of its own. -/
theorem wp_give {n j lo : ℕ} (i : Fin 22) {off off' : Fin 2 → ℕ}
    {inb : ∀ a, off a + (Sh n).size a ≤ (Sh 1024).size a} {inb' : ∀ a, off' a + (Sh n).size a ≤ (Sh 1024).size a} {hs hs'}
    {d : Dev nD} {sS sR : DmaSem sig} {hsc} {hsrc hdst hsem} {α : Type} {k : PUnit → Prog (TpuEff nD τ sig (Elt F) Λ₀ .tc) α} {Q : α → sProp 𝕄}
    {M : ℕ → ℕ → Elt F .f32} (q : PosShare TreeShare) (hd : d = peer i c) (hS : sS = sndS i) (hR : sR = rcvS i)
    (h0 : off 0 = lo) (h1 : off 1 = 0) (h0' : off' 0 = lo) (h1' : off' 1 = 0)
    (hN : (oM.slice (Rect.unit (s := Sh 1024) off' (Sh n).size inb') hs').view.dmaCredit = amt i) (hj : j ≤ (tOf i).val)
    (hsnd : sndPay G c i = Blk oV c lo n q 0 M) (hrcv : rcvPay G (peer i c) i = Blk oV (peer i c) lo n fullShare 0 M) :
    iprop(Ctx G κ c ∗ Proto i.val j c ∗ Blk oV c lo n q 0 M ∗ Any oV (peer i c) lo n)
      ⊢ iprop((Proto (i.val + 1) j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := Sh 1024) off (Sh n).size inb) hs)
              (.remote (Dev.tc d) (oM.slice (Rect.unit (s := Sh 1024) off' (Sh n).size inb') hs') (.dma sS) hsc) (.dma sR) hsrc hdst hsem) k) Q) := by
  subst hd hS hR
  unfold Proto Any
  iintro ⟨#HC, ⟨HT, HW, ⟨%W, HO⟩⟩, Hs, ⟨%f, Hd⟩⟩ Hk
  ihave HT := (toks_take c i) $$ HT
  icases HT with ⟨⟨Ht1, Ht2⟩, HT⟩
  ihave Hc := (ctx_cells G κ c i) $$ HC
  icases Hc with ⟨#HI1, #HI2, #HR1, #HR2⟩
  iapply (Rounds.wp_send_pointsTo 𝒱₀ ER (Rd G) (c : Thread nD τ) none (c' := (peer i c : Thread nD τ))
      (src := oM.slice (Rect.unit (s := Sh 1024) off (Sh n).size inb) hs) (dst := oM.slice (Rect.unit (s := Sh 1024) off' (Sh n).size inb') hs')
      (sS := .dma (sndS i)) (sem := .dma (rcvS i)) (q := q) (fs := fill oV (mat 1024 0 M)) (fd := f)
      (κ₁ := κ (scell c i)) (κ₂ := κ (rcell (peer i c) i)) (r₁ := 0) (r₂ := 0) (d₁ := false) (d₂ := false)
      (by rw [show ((↑c, SemLoc.dma (sndS i)) : GSem nD τ sig) = mcell c (false, i) from rfl, duties_msg]; exact Finset.mem_singleton_self _)
      (by rw [show ((↑(peer i c), SemLoc.dma (rcvS i)) : GSem nD τ sig) = mcell (peer i c) (true, i) from rfl, duties_msg]; exact Finset.mem_singleton_self _)
      () () (amt i) hN (amount_msg G c (false, i) false) (amount_msg G (peer i c) (true, i) false) (owed (i.val + 1) c) (owed_step i c) (W := W)
      ((Entails.of_eq (slice_part oV c h0 h1 q _)).trans (Entails.of_eq ((payload_msg G c (false, i) false).trans hsnd).symm))
      ((Entails.of_eq (landed_rows (bM := oM) h0 h1 h0' h1' (Nat.zero_add lo) (peer i c) f M)).trans
        (Entails.of_eq ((payload_msg G (peer i c) (true, i) false).trans hrcv).symm))) $$ [Hs Hd HO Ht1 Ht2]
  · isplitr; · iexact HI1
    isplitr; · iexact HI2
    isplitl [Hs]; · unfold Blk; iapply (Entails.of_eq (slice_part oV c h0 h1 q _).symm) $$ Hs
    isplitl [Hd]; · iapply (Entails.of_eq (slice_part oV (peer i c) h0' h1' fullShare _).symm) $$ Hd
    isplitl [HO]; · iexact HO
    isplitl [Ht1]; · iexact Ht1
    isplitr; · iexact HR1
    isplitl [Ht2]; · iexact Ht2
    iexact HR2
  iintro ⟨Hcr, HO⟩
  iapply Hk
  isplitl [HT]; · iexact HT
  isplitl [Hcr HW]
  · iapply (waits_credit c i hj); isplitl [Hcr] <;> iassumption
  iexists W; iexact HO

/-! ## The wait -/

/-- The next wait hands over what its message pays at this end. -/
theorem wp_await {sp sp' : Space} {s s' : Shape} {e e' : EltTy} (t : Fin 44) {n : ℕ} {q : DmaSem sig} {src : Memref sig .tc sp' s' e'} {dst : Memref sig .tc sp s e}
    {hsrc hdst} {α : Type} {k : PUnit → Prog (TpuEff nD τ sig (Elt F) Λ₀ .tc) α} {Q : α → sProp 𝕄}
    (hq : SemLoc.dma q = msem (wmsg t)) (hN : dst.view.dmaCredit = amt (wmsg t).2) (hn : (wmsg t).2.val < n) :
    iprop(Ctx G κ c ∗ Proto n t.val c)
      ⊢ iprop((Proto n (t.val + 1) c -∗ msgPay G c (wmsg t) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  unfold Proto
  iintro ⟨#HC, ⟨HT, HW, ⟨%W, HO⟩⟩⟩ Hk
  ihave HW := (waits_take c t n hn) $$ HW
  icases HW with ⟨⟨Ha, Hc⟩, HW⟩
  ihave HI := (ctx_inv G κ c (wmsg t)) $$ HC
  icases HI with #HI
  ihave Hlev := (ctx_lev G κ c) $$ HC
  icases Hlev with #Hlev
  iapply (Rounds.wp_wait_rest_token 𝒱₀ ER (Rd G) (c : Thread nD τ) none (κ := κ (mcell c (wmsg t))) (sm := msem (wmsg t)) (k' := amt (wmsg t).2)
      (fun K => by rw [wpE_waitDma2_eq 𝒱₀ (c : Thread nD τ) none Set.univ, hq, hN]) (Set.mem_univ _) () (O := owed n c) (W := W) (R := 0) (m := 0) (T := ∅)
      ((Nat.zero_add _).trans (expect_msg G c (wmsg t)).symm)) $$ [Hc HO Ha]
  · isplitr; · iexact HI
    isplitl [Hc]; · iexact Hc
    isplitl [HO]; · iexact HO
    isplitr
    · iapply (mayWait_owed (F := F) c (msem (wmsg t)) n (by
        rw [show lv ((c : Thread nD τ), msem (wmsg t)) () = _ from lv_msg c (wmsg t)]; split <;> omega)); iexact Hlev
    iexact Ha
  iintro ⟨HO, Ha, -, Hpay⟩
  ihave Hpay := (Entails.of_eq (rest_msg G c (wmsg t))) $$ Hpay
  imod (Rounds.cell_close ER (Rd G) (g := mcell c (wmsg t)) (Set.mem_univ (κ (mcell c (wmsg t)))) id (duties_later G _)) $$ [Ha] with Hv
  · isplitr; · iexact HI
    iexact Ha
  iapply Hk $$ [HT HW HO Hv]
  · isplitl [HT]; · iexact HT
    isplitl [HW Hv]
    · iapply HW; iexact Hv
    iexists _; iexact HO
  iexact Hpay

end Cert.GatherProof

end
-- ==== Proof.Gather.lean ====
/- The rows a device fetches into one region of 128 rows of the result, sixteen copies under way at a time: what it holds while the
   copies from the `a`-th to the `b`-th are under way, how a wait takes the oldest in, and how an issue sends the next out. -/
module

public import proofs.«01_k».proof.Proof.Proto
public import Idealize.SL.BI.BigOpNat
public import Mathlib.Algebra.Order.Interval.Finset.Basic

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The copies' own counters. -/
abbrev EC : UEmb Counters (MT nD τ sig Unit (Elt F) ℕ UU ℕ) := countersEmb

/-- The device's rows of the table. -/
abbrev eM : Memref sig .tc .hbm S8192x1024 .f32 := Memref.whole main_arg1
abbrev eV : View sig .tc .hbm (Sh 8192) .f32 := eM.view

/-- The semaphore of the copy in slot `s` of region `r`. -/
def gsem (r s : ℕ) : DmaSem sig := Fin.ofNat 176 (4 + 16 * r + s)

theorem gsem_eq {off : Fin 2 → ℕ} {inb : ∀ a, off a + S1x1.size a ≤ S8x16.size a} {r s : ℕ} (hr : r < 8) (hs : s < 16) (h : off = ![r, s]) :
    ((cc0_scratch4.slice (Rect.unit (s := S8x16) off S1x1.size inb)).squeeze S_ squeezes_S1x1_S_).sem = gsem r s := by
  subst h
  have h := (by decide +kernel : ∀ (r : Fin 8) (s : Fin 16), ∀ i : ∀ a, (![r.val, s.val] : Fin 2 → ℕ) a + S1x1.size a ≤ S8x16.size a,
    ((cc0_scratch4.slice (Rect.unit (s := S8x16) ![r.val, s.val] S1x1.size i)).squeeze S_ squeezes_S1x1_S_).sem = gsem r.val s.val)
  exact h ⟨r, hr⟩ ⟨s, hs⟩ inb

theorem lv_gsem (c : Dev nD) {r s : ℕ} (hr : r < 8) (hs : s < 16) : lv (((c : Thread nD τ), SemLoc.dma (gsem r s)) : GSem nD τ sig) () = 0 := by
  have h := (by decide +kernel : ∀ (r : Fin 8) (s : Fin 16), codeOf (SemLoc.dma (gsem r.val s.val)) = none) ⟨r, hr⟩ ⟨s, hs⟩
  unfold lv
  rw [if_neg (fun h => by cases h), show codeOf (SemLoc.dma (gsem r s)) = none from h]

/-- What one row's copy credits. -/
def n1 : ℕ := (oM.slice (Rect.unit (s := S1024x1024) ![0, 0] S1x1024.size (by decide)) (fun _ => rfl)).view.dmaCredit
theorem n1_pos : 0 < n1 := View.dmaCredit_pos _ (by decide)

/-- The words of a region: `p` the rows of the result, `x` the rows of the table, `n` of them; what the result holds of them in the end. -/
structure Region (p x : ℕ → ℕ) (r n : ℕ) (Em G : ℕ → ℕ → Elt F .f32) : Prop where
  row : ∀ j, j < n → 128 * r ≤ p j ∧ p j < 128 * r + 128
  inj : ∀ i j, i < n → j < n → p i = p j → i = j
  tab : ∀ j, j < n → x j < 8192
  hit : ∀ j, j < n → ∀ t, t < 1024 → G (p j) t = Em (x j) t
  miss : ∀ i, 128 * r ≤ i → i < 128 * r + 128 → (∀ j, j < n → p j ≠ i) → ∀ t, t < 1024 → G i t = zero

section State

variable (c : Dev nD) (p x : ℕ → ℕ) (r : ℕ) (Em G : ℕ → ℕ → Elt F .f32)

/-- The region's rows whose copies, from the `a`-th to the `b`-th, are not under way. -/
def free (a b : ℕ) : Finset (Sh 1024).Idx :=
  (rows 1024 (128 * r) 128).filter fun i => ∀ j, a ≤ j → j < b → p j ≠ (i 0).val

/-- The result's rows when the first `a` copies are in. -/
def cur (a : ℕ) : ℕ → ℕ → Elt F .f32 := fun t j => by classical exact if ∃ i, i < a ∧ p i = t then G t j else zero

/-- The share of the table a slot of the region reads with. -/
def tk (s : ℕ) : PosShare TreeShare := shareTokN fullShare (16 * r + s)

/-- The table less one row, at a slot's share. -/
def others (s i : ℕ) : sProp 𝕄 := (eV.loc (c : Thread nD τ)) ↦[eV.setOn (Finset.univ \ rows 8192 i 1)]{tk r s} fill eV (mat 8192 0 Em)

/-- A slot with no copy under way. -/
def idle (j : ℕ) : sProp 𝕄 :=
  iprop(semVal ((c : Thread nD τ), SemLoc.dma (gsem r (j % 16))) 0 ∗ Blk eV c 0 8192 (tk r (j % 16)) 0 Em)

/-- The `j`-th copy under way. -/
def away (j : ℕ) : sProp 𝕄 :=
  iprop(Flight EC (c : Thread nD τ) (SemLoc.dma (gsem r (j % 16))) () n1 iprop(Blk oV c (p j) 1 fullShare 0 G ∗ Blk eV c (x j) 1 (tk r (j % 16)) 0 Em)
    ∗ others c r Em (j % 16) (x j))

/-- The region while the copies from the `a`-th to the `b`-th are under way. -/
def Under (a b : ℕ) : sProp 𝕄 :=
  iprop(((oV.loc (c : Thread nD τ)) ↦[oV.setOn (free p r a b)]{fullShare} fill oV (mat 1024 0 (cur p G a)))
    ∗ bigSep (Finset.Ico a b) (away c p x r Em G) ∗ bigSep (Finset.Ico b (a + 16)) (idle c r Em))

end State

section Moves

variable {c : Dev nD} {p x : ℕ → ℕ} {r n : ℕ} {Em G : ℕ → ℕ → Elt F .f32}

theorem free_all (a : ℕ) : free p r a a = rows 1024 (128 * r) 128 := by
  unfold free; rw [Finset.filter_eq_self]; intro i _ j h1 h2; omega

theorem rows_one {D i : ℕ} {y : (Sh D).Idx} : y ∈ rows D i 1 ↔ (y 0).val = i := by rw [mem_rows]; omega

theorem free_take {a b : ℕ} (h : Region p x r n Em G) (hab : a < b) (hb : b ≤ n) : free p r (a + 1) b = free p r a b ∪ rows 1024 (p a) 1 := by
  ext y
  simp only [Finset.mem_union, rows_one]
  unfold free
  simp only [Finset.mem_filter, mem_rows]
  constructor
  · rintro ⟨h1, h2⟩
    by_cases he : (y 0).val = p a
    · exact .inr he
    · refine .inl ⟨h1, fun j hj hj' => ?_⟩
      rcases Nat.lt_or_ge a j with hl | hl
      · exact h2 j hl hj'
      · rw [Nat.le_antisymm hl hj]; exact fun e => he e.symm
  · rintro (⟨h1, h2⟩ | he)
    · exact ⟨h1, fun j hj hj' => h2 j (by omega) hj'⟩
    · have := h.row a (by omega)
      refine ⟨by omega, fun j hj hj' e => ?_⟩
      have := h.inj j a (by omega) (by omega) (e.trans he)
      omega

theorem free_send {a b : ℕ} (h : Region p x r n Em G) (hab : a ≤ b) (hb : b < n) : free p r a b = free p r a (b + 1) ∪ rows 1024 (p b) 1 := by
  ext y
  simp only [Finset.mem_union, rows_one]
  unfold free
  simp only [Finset.mem_filter, mem_rows]
  constructor
  · rintro ⟨h1, h2⟩
    by_cases he : (y 0).val = p b
    · exact .inr he
    · refine .inl ⟨h1, fun j hj hj' => ?_⟩
      rcases Nat.lt_or_ge j b with hl | hl
      · exact h2 j hj hl
      · rw [show j = b by omega]; exact fun e => he e.symm
  · rintro (⟨h1, h2⟩ | he)
    · exact ⟨h1, fun j hj hj' => h2 j hj (by omega)⟩
    · have := h.row b hb
      refine ⟨by omega, fun j hj hj' e => ?_⟩
      have := h.inj j b (by omega) hb (e.trans he)
      omega

theorem free_disj_take {a b : ℕ} (hab : a < b) : Disjoint (free p r a b) (rows 1024 (p a) 1) := by
  rw [Finset.disjoint_left]
  intro y hy hy'
  rw [rows_one] at hy'
  exact (Finset.mem_filter.mp hy).2 a (Nat.le_refl _) hab hy'.symm

theorem free_disj_send {a b : ℕ} (hab : a ≤ b) : Disjoint (free p r a (b + 1)) (rows 1024 (p b) 1) := by
  rw [Finset.disjoint_left]
  intro y hy hy'
  rw [rows_one] at hy'
  exact (Finset.mem_filter.mp hy).2 b hab (Nat.lt_succ_self _) hy'.symm

/-- Rows of a buffer held together are held apart. -/
theorem cut {sp : Space} {D : ℕ} (v : View sig .tc sp (Sh D) .f32) {S T : Finset (Sh D).Idx} {q : PosShare TreeShare} {f : v.ty.Contents (Elt F)}
    (h : Disjoint S T) : ((v.loc (c : Thread nD τ)) ↦[v.setOn (S ∪ T)]{q} f : sProp 𝕄)
      = iprop(((v.loc (c : Thread nD τ)) ↦[v.setOn S]{q} f) ∗ ((v.loc (c : Thread nD τ)) ↦[v.setOn T]{q} f)) := by
  rw [show v.setOn (S ∪ T) = v.setOn S ∪ v.setOn T from Finset.map_union _ _]
  have hu := pointsTo_union (Ix := Unit) (Name := ℕ) (U := UU) (Lvl := ℕ) (ℓ := v.loc (c : Thread nD τ)) (q := q) (f := f)
    (show Disjoint (v.setOn S) (v.setOn T) from (Finset.disjoint_map _).mpr h)
  exact BI.Entails.antisymm hu.1 hu.2

/-- The row of the copy that came in joins the others. -/
theorem take_row {a b : ℕ} (h : Region p x r n Em G) (hab : a < b) (hb : b ≤ n) :
    iprop(((oV.loc (c : Thread nD τ)) ↦[oV.setOn (free p r a b)]{fullShare} fill oV (mat 1024 0 (cur p G a))) ∗ Blk oV c (p a) 1 fullShare 0 G)
      ⊢ ((oV.loc (c : Thread nD τ)) ↦[oV.setOn (free p r (a + 1) b)]{fullShare} fill oV (mat 1024 0 (cur p G (a + 1))) : sProp 𝕄) := by
  rw [free_take h hab hb, cut oV (free_disj_take hab)]
  refine BIClass.sep_mono (Entails.of_eq (pointsTo_congr (contents_congr oV fun y hy => ?_)))
    (Entails.of_eq (pointsTo_congr (contents_congr oV fun y hy => ?_)))
  · rw [read_fill, read_fill]
    have hy := (Finset.mem_filter.mp hy).2
    unfold mat cur
    rw [Nat.zero_add]
    by_cases hx : ∃ i, i < a ∧ p i = (y 0).val
    · rw [if_pos hx, if_pos (by obtain ⟨i, hi, e⟩ := hx; exact ⟨i, by omega, e⟩)]
    · rw [if_neg hx, if_neg]
      rintro ⟨i, hi, e⟩
      rcases Nat.lt_or_ge i a with hl | hl
      · exact hx ⟨i, hl, e⟩
      · exact hy a (Nat.le_refl _) hab (by rw [show a = i by omega]; exact e)
  · rw [read_fill, read_fill]
    rw [rows_one] at hy
    unfold mat cur
    rw [Nat.zero_add, if_pos ⟨a, Nat.lt_succ_self _, hy.symm⟩]

/-- The next copy's row leaves the others. -/
theorem send_row {a b : ℕ} (h : Region p x r n Em G) (hab : a ≤ b) (hb : b < n) :
    ((oV.loc (c : Thread nD τ)) ↦[oV.setOn (free p r a b)]{fullShare} fill oV (mat 1024 0 (cur p G a)) : sProp 𝕄)
      ⊢ iprop(((oV.loc (c : Thread nD τ)) ↦[oV.setOn (free p r a (b + 1))]{fullShare} fill oV (mat 1024 0 (cur p G a)))
        ∗ part oV c (p b) 1 fullShare (fill oV (mat 1024 0 (cur p G a)))) := by
  rw [free_send h hab hb, cut oV (free_disj_send hab)]; exact .rfl

/-- One row of the table apart from the others, at a slot's share. -/
theorem table_row {s i : ℕ} (hi : i < 8192) :
    (Blk eV c 0 8192 (tk r s) 0 Em : sProp 𝕄) = iprop(others c r Em s i ∗ Blk eV c i 1 (tk r s) 0 Em) := by
  unfold Blk part others
  rw [rows_univ]
  rw [← cut eV Finset.sdiff_disjoint, Finset.sdiff_union_of_subset (Finset.subset_univ _)]

theorem Under_start :
    iprop(Blk oV c (128 * r) 128 fullShare 0 (fun _ _ => zero) ∗ bigSep (Finset.range 16) (idle c r Em)) ⊢ (Under c p x r Em G 0 0 : sProp 𝕄) := by
  unfold Under
  rw [free_all, Finset.Ico_self, bigSep_empty, Nat.zero_add, ← Finset.range_eq_Ico]
  iintro ⟨H1, H2⟩
  isplitl [H1]
  · have h : (Blk oV c (128 * r) 128 fullShare 0 (fun _ _ => zero) : sProp 𝕄) = Blk oV c (128 * r) 128 fullShare 0 (cur p G 0) :=
      Blk_congr oV c fun t j _ _ _ => by unfold cur; rw [if_neg (by rintro ⟨i, hi, _⟩; omega)]
    unfold Blk part at h ⊢
    iapply (Entails.of_eq h) $$ H1
  isplitr; · iempintro
  iexact H2

theorem idle_shift (a b : ℕ) : (bigSep (Finset.Ico (a + 16) (b + 16)) (idle c r Em) : sProp 𝕄) = bigSep (Finset.Ico a b) (idle c r Em) := by
  rw [show Finset.Ico (a + 16) (b + 16) = (Finset.Ico a b).map (addRightEmbedding 16) from (Finset.map_add_right_Ico a b 16).symm, bigSep_map]
  refine bigSep_congr fun j _ => ?_
  show idle c r Em (j + 16) = _
  unfold idle; rw [Nat.add_mod_right]

theorem idle_round : ∀ a, (bigSep (Finset.Ico a (a + 16)) (idle c r Em) : sProp 𝕄) = bigSep (Finset.range 16) (idle c r Em)
  | 0 => by rw [Nat.zero_add, ← Finset.range_eq_Ico]
  | a + 1 => by
    rw [← idle_round a]
    have h1 : Finset.Ico (a + 1) (a + 1 + 16) = Finset.Ico (a + 1) (a + 16) ∪ Finset.Ico (a + 16) (a + 1 + 16) :=
      (Finset.Ico_union_Ico_eq_Ico (by omega) (by omega)).symm
    have h2 : Finset.Ico a (a + 16) = Finset.Ico a (a + 1) ∪ Finset.Ico (a + 1) (a + 16) :=
      (Finset.Ico_union_Ico_eq_Ico (by omega) (by omega)).symm
    rw [h1, h2, bigSep_union (Finset.Ico_disjoint_Ico_consecutive _ _ _), bigSep_union (Finset.Ico_disjoint_Ico_consecutive _ _ _), idle_shift]
    have hc : ∀ P Q : sProp 𝕄, iprop(P ∗ Q) = iprop(Q ∗ P) := fun P Q => BI.Entails.antisymm (show iprop(P ∗ Q) ⊢ iprop(Q ∗ P) from by iintro ⟨HP, HQ⟩; isplitl [HQ] <;> iassumption) (show iprop(Q ∗ P) ⊢ iprop(P ∗ Q) from by iintro ⟨HP, HQ⟩; isplitl [HQ] <;> iassumption)
    exact hc _ _

/-- When every copy is in the region holds what it should, and every slot is free again. -/
theorem Under_end (h : Region p x r n Em G) :
    (Under c p x r Em G n n : sProp 𝕄) ⊢ iprop(Blk oV c (128 * r) 128 fullShare 0 G ∗ bigSep (Finset.range 16) (idle c r Em)) := by
  unfold Under
  rw [free_all, Finset.Ico_self, bigSep_empty, idle_round]
  iintro ⟨H1, -, H2⟩
  isplitl [H1]
  · have h : (Blk oV c (128 * r) 128 fullShare 0 (cur p G n) : sProp 𝕄) = Blk oV c (128 * r) 128 fullShare 0 G :=
      Blk_congr oV c fun t j h1 h2 hj => by
        unfold cur
        by_cases hx : ∃ i, i < n ∧ p i = 0 + t
        · rw [if_pos hx]
        · rw [if_neg hx]; exact (h.miss _ (by omega) (by omega) (fun i hi e => hx ⟨i, hi, e⟩) j hj).symm
    unfold Blk part at h ⊢
    iapply (Entails.of_eq h) $$ H1
  iexact H2

end Moves

section Steps

variable (G₀ : Dev nD → ℕ → ℕ → Elt F .f32) (κ : GSem nD τ sig → ℕ) (c : Dev nD) {p x : ℕ → ℕ} {r n : ℕ} {Em G : ℕ → ℕ → Elt F .f32}

set_option maxHeartbeats 1000000 in
/-- The wait for the oldest copy. -/
theorem wp_take {sp sp' : Space} {s s' : Shape} {e e' : EltTy} {a b N j : ℕ} (h : Region p x r n Em G) (hr : r < 8) (hab : a < b) (hb : b ≤ n) (hb' : b ≤ a + 16)
    {q : DmaSem sig} {src : Memref sig .tc sp' s' e'} {dst : Memref sig .tc sp s e} {hsrc hdst} {α : Type}
    {k : PUnit → Prog (TpuEff nD τ sig (Elt F) Λ₀ .tc) α} {Q : α → sProp 𝕄} (hq : q = gsem r (a % 16)) (hN : dst.view.dmaCredit = n1) :
    iprop(Ctx G₀ κ c ∗ Proto N j c ∗ Under c p x r Em G a b)
      ⊢ iprop((Proto N j c -∗ Under c p x r Em G (a + 1) b -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  subst hq
  unfold Proto Under
  rw [BI.bigSep_Ico_succ_bot hab, show a + 1 + 16 = (a + 16) + 1 from by omega, BI.bigSep_Ico_succ_top hb']
  iintro ⟨#HC, ⟨HT, HW, ⟨%W, HO⟩⟩, Hout, ⟨Haw, Haws⟩, Hid⟩ Hk
  ihave Hlev := (ctx_lev G₀ κ c) $$ HC
  icases Hlev with #Hlev
  unfold away
  icases Haw with ⟨Hf, Hoth⟩
  iapply (wp_waitLocalO EC 𝒱₀ (c : Thread nD τ) none () hN (O := owed N c) (W := W)) $$ [Hf HO]
  · isplitl [Hf]; · iexact Hf
    isplitl [HO]; · iexact HO
    iapply (mayWait_owed c _ N (by rw [lv_gsem c hr (Nat.mod_lt _ (by decide))]; omega)) $$ Hlev
  iintro ⟨⟨Hrow, Htab⟩, Hv, HO⟩
  iapply Hk $$ [HT HW HO]
  · isplitl [HT]; · iexact HT
    isplitl [HW]; · iexact HW
    iexists _; iexact HO
  isplitl [Hout Hrow]
  · iapply (take_row h hab hb); isplitl [Hout] <;> iassumption
  isplitl [Haws]; · iexact Haws
  isplitr [Hid]
  · unfold idle
    rw [Nat.add_mod_right]
    isplitl [Hv]; · iexact Hv
    rw [table_row (h.tab a (by omega))]
    isplitl [Hoth] <;> iassumption
  iexact Hid

set_option maxHeartbeats 1000000 in
/-- The issue of the next copy. -/
theorem wp_next {a b : ℕ} (h : Region p x r n Em G) (hab : a ≤ b) (hb : b < n) (hb' : b < a + 16)
    {off off' : Fin 2 → ℕ} {inb : ∀ a, off a + (Sh 1).size a ≤ (Sh 8192).size a} {inb' : ∀ a, off' a + (Sh 1).size a ≤ (Sh 1024).size a} {hs hs'}
    {q : DmaSem sig} {hsrc hdst hsem} {α : Type}
    {k : PUnit → Prog (TpuEff nD τ sig (Elt F) Λ₀ .tc) α} {Q : α → sProp 𝕄} (hq : q = gsem r (b % 16))
    (h0 : off 0 = x b) (h1 : off 1 = 0) (h0' : off' 0 = p b) (h1' : off' 1 = 0)
    (hN : (oM.slice (Rect.unit (s := Sh 1024) off' (Sh 1).size inb') hs').view.dmaCredit = n1) :
    (Under c p x r Em G a b : sProp 𝕄)
      ⊢ iprop((Under c p x r Em G a (b + 1) -∗ wp frame (wpE (defs₀ (F := F)) 𝒱₀ c none) Set.univ (k ⟨⟩) Q)
          -∗ wp frame (wpE (defs₀ (F := F)) 𝒱₀ c none) Set.univ
            (.op (.enqueueDma (eM.slice (Rect.unit (s := Sh 8192) off (Sh 1).size inb) hs)
              (.here (oM.slice (Rect.unit (s := Sh 1024) off' (Sh 1).size inb') hs')) (.dma q) hsrc hdst hsem) k) Q) := by
  subst hq
  unfold Under
  rw [BI.bigSep_Ico_succ_bot hb', BI.bigSep_Ico_succ_top hab]
  iintro ⟨Hout, Haws, ⟨Hid, Hids⟩⟩ Hk
  ihave Hout := (send_row h hab hb) $$ Hout
  icases Hout with ⟨Hout, Hrow⟩
  unfold idle
  icases Hid with ⟨Hv, Htab⟩
  ihave Htab := (Entails.of_eq (table_row (h.tab b hb))) $$ Htab
  icases Htab with ⟨Hoth, Hsrc⟩
  iapply (wp_dmaLocal EC 𝒱₀ (c : Thread nD τ) none (src := eM.slice (Rect.unit (s := Sh 8192) off (Sh 1).size inb) hs)
    (dst := oM.slice (Rect.unit (s := Sh 1024) off' (Sh 1).size inb') hs') (q := tk r (b % 16)) (fs := fill eV (mat 8192 0 Em))
    (fd := fill oV (mat 1024 0 (cur p G a))) (sm := SemLoc.dma (gsem r (b % 16))) () n1 hN n1_pos (Finset.Subset.refl _)) $$ [Hrow Hsrc Hv]
  · isplitl [Hsrc]; · unfold Blk; iapply (Entails.of_eq (slice_part eV c h0 h1 _ _).symm) $$ Hsrc
    isplitl [Hrow]; · iapply (Entails.of_eq (slice_part oV c h0' h1' _ _).symm) $$ Hrow
    iexact Hv
  iintro Hf
  iapply Hk
  isplitl [Hout]; · iexact Hout
  isplitr [Hids]
  · isplitr [Haws]
    rotate_left
    · iexact Haws
    unfold away
    isplitl [Hf]
    · iapply (Flight_mono EC (c : Thread nD τ) _) $$ Hf
      exact BIClass.sep_mono (Entails.of_eq ((slice_part oV c h0' h1' _ _).trans (slice_write oV c h0' h1' fullShare _ 0 G _ fun y => by
          refine (congrFun (slice_read (inb := inb) eV h0 h1 0 Em) y).trans ?_
          have hy : (y 0).val = 0 := by have := (y 0).isLt; simpa using this
          have hy1 : (y 1).val < 1024 := by have := (y 1).isLt; simpa using this
          unfold mat
          rw [hy, Nat.zero_add, Nat.zero_add, Nat.add_zero, Nat.add_zero]
          exact (h.hit b hb _ hy1).symm)))
        (Entails.of_eq (slice_part eV c h0 h1 _ _))
    iexact Hoth
  iexact Hids

end Steps

end Cert.GatherProof
end
-- ==== Proof.Words.lean ====
/- The words a device's fetches are steered by: the tables it reads them from, and the loops' bounds, rows and slots as numbers. -/
module

public import proofs.«01_k».proof.Proof.Gather

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The loops in numbers -/

/-- The loop that issues the `w` copies of the region whose first row is `a`. -/
def isLoop (a w : BitVec 32) : Scf.Loop 32 :=
  ⟨a, Scalar.addi a (Scalar.muli (Scalar.divsi (Scalar.subi (Scalar.addi a w) a) 1#32) 1#32), 1#32⟩
/-- What it leaves over: nothing. -/
def isRest (a w : BitVec 32) : Scf.Loop 32 :=
  ⟨Scalar.addi a (Scalar.muli (Scalar.divsi (Scalar.subi (Scalar.addi a w) a) 1#32) 1#32), Scalar.addi a (Scalar.subi (Scalar.addi a w) a), 1#32⟩
/-- The first copy still under way when the issuing is done. -/
def drFrom (a w : BitVec 32) : BitVec 32 := Scalar.maxsi (Scalar.subi (Scalar.addi a w) 16#32) a
def drLoop (a w : BitVec 32) : Scf.Loop 32 :=
  ⟨drFrom a w, Scalar.addi (drFrom a w) (Scalar.muli (Scalar.divsi (Scalar.subi (Scalar.addi a w) (drFrom a w)) 1#32) 1#32), 1#32⟩
def drRest (a w : BitVec 32) : Scf.Loop 32 :=
  ⟨Scalar.addi (drFrom a w) (Scalar.muli (Scalar.divsi (Scalar.subi (Scalar.addi a w) (drFrom a w)) 1#32) 1#32),
    Scalar.addi (drFrom a w) (Scalar.subi (Scalar.addi a w) (drFrom a w)), 1#32⟩
/-- The remainder by sixteen, as the kernel computes it. -/
def md (v : BitVec 32) : BitVec 32 :=
  let m : BitVec 32 := Scalar.select (Scalar.cmpi .eq 16#32 0#32) 1#32 16#32
  let q := Scalar.remsi v m
  Scalar.select (Scalar.andi (Scalar.xori (Scalar.cmpi .slt q 0#32) (Scalar.cmpi .slt m 0#32)) (Scalar.cmpi .ne q 0#32)) (Scalar.addi q m) q
/-- Whether sixteen copies are under way already. -/
def full (a v : BitVec 32) : BitVec 1 := Scalar.cmpi .ne (Scalar.extui (Scalar.cmpi .sge (Scalar.subi v a) 16#32) : BitVec 32) 0#32

abbrev rw32 (r : ℕ) : BitVec 32 := BitVec.ofNat 32 (128 * r)

theorem isLoop_facts : ∀ r : Fin 8, ∀ n : Fin 129, (isLoop (rw32 r) (BitVec.ofNat 32 n)).OK ∧ (isLoop (rw32 r) (BitVec.ofNat 32 n)).trips = n.val
    ∧ (isRest (rw32 r) (BitVec.ofNat 32 n)).OK ∧ (isRest (rw32 r) (BitVec.ofNat 32 n)).trips = 0 := by decide +kernel
theorem drLoop_facts : ∀ r : Fin 8, ∀ n : Fin 129, (drLoop (rw32 r) (BitVec.ofNat 32 n)).OK ∧ (drLoop (rw32 r) (BitVec.ofNat 32 n)).trips = n.val - (n.val - 16)
    ∧ (drRest (rw32 r) (BitVec.ofNat 32 n)).OK ∧ (drRest (rw32 r) (BitVec.ofNat 32 n)).trips = 0 := by decide +kernel
theorem isTrip_facts : ∀ r : Fin 8, ∀ k : Fin 128,
    (full (rw32 r) (Scf.iv (rw32 r) 1#32 k.val) = 1#1 ↔ 16 ≤ k.val)
    ∧ (Scalar.indexCast (Scf.iv (rw32 r) 1#32 k.val) : Index).toNat = 128 * r.val + k.val
    ∧ (md (Scalar.subi (Scf.iv (rw32 r) 1#32 k.val) (rw32 r))).toNat = k.val % 16
    ∧ (16 ≤ k.val → (Scalar.indexCast (Scalar.subi (Scf.iv (rw32 r) 1#32 k.val) 16#32) : Index).toNat = 128 * r.val + (k.val - 16)
      ∧ (md (Scalar.subi (Scalar.subi (Scf.iv (rw32 r) 1#32 k.val) 16#32) (rw32 r))).toNat = (k.val - 16) % 16) := by decide +kernel
theorem drFrom_eq : ∀ r : Fin 8, ∀ n : Fin 129, drFrom (rw32 r) (BitVec.ofNat 32 n) = BitVec.ofNat 32 (128 * r.val + (n.val - 16)) := by decide +kernel
theorem iv_add (a s k : ℕ) : Scf.iv (BitVec.ofNat 32 (a + s)) 1#32 k = Scf.iv (BitVec.ofNat 32 a) 1#32 (s + k) := by
  unfold Scf.iv
  rw [BitVec.mul_one, BitVec.mul_one, BitVec.ofNat_add, BitVec.ofNat_add, BitVec.add_assoc]

section Trips
variable {d : ℕ} {r n k : ℕ} {w : BitVec 32} (hr : r < 8) (hw : w.toNat = n) (hn : n ≤ 128)
include hr hw hn

theorem ofNat_w : w = BitVec.ofNat 32 n := by rw [← hw]; simp

theorem isLoop_ok : (isLoop (rw32 r) w).OK := by
  rw [ofNat_w hr hw hn]; exact (isLoop_facts ⟨r, hr⟩ ⟨n, by omega⟩).1
theorem isLoop_trips : (isLoop (rw32 r) w).trips = n := by
  rw [ofNat_w hr hw hn]; exact (isLoop_facts ⟨r, hr⟩ ⟨n, by omega⟩).2.1
theorem isRest_ok : (isRest (rw32 r) w).OK := by
  rw [ofNat_w hr hw hn]; exact (isLoop_facts ⟨r, hr⟩ ⟨n, by omega⟩).2.2.1
theorem isRest_trips : (isRest (rw32 r) w).trips = 0 := by
  rw [ofNat_w hr hw hn]; exact (isLoop_facts ⟨r, hr⟩ ⟨n, by omega⟩).2.2.2
theorem drLoop_ok : (drLoop (rw32 r) w).OK := by
  rw [ofNat_w hr hw hn]; exact (drLoop_facts ⟨r, hr⟩ ⟨n, by omega⟩).1
theorem drLoop_trips : (drLoop (rw32 r) w).trips = n - (n - 16) := by
  rw [ofNat_w hr hw hn]; exact (drLoop_facts ⟨r, hr⟩ ⟨n, by omega⟩).2.1
theorem drRest_ok : (drRest (rw32 r) w).OK := by
  rw [ofNat_w hr hw hn]; exact (drLoop_facts ⟨r, hr⟩ ⟨n, by omega⟩).2.2.1
theorem drRest_trips : (drRest (rw32 r) w).trips = 0 := by
  rw [ofNat_w hr hw hn]; exact (drLoop_facts ⟨r, hr⟩ ⟨n, by omega⟩).2.2.2
omit hw hn in
theorem full_iff (hk : k < 128) : full (rw32 r) (Scf.iv (rw32 r) 1#32 k) = 1#1 ↔ 16 ≤ k := (isTrip_facts ⟨r, hr⟩ ⟨k, hk⟩).1
omit hw hn in
theorem now_word (hk : k < 128) : (Scalar.indexCast (Scf.iv (rw32 r) 1#32 k) : Index).toNat = 128 * r + k := (isTrip_facts ⟨r, hr⟩ ⟨k, hk⟩).2.1
omit hw hn in
theorem now_slot (hk : k < 128) : (md (Scalar.subi (Scf.iv (rw32 r) 1#32 k) (rw32 r))).toNat = k % 16 := (isTrip_facts ⟨r, hr⟩ ⟨k, hk⟩).2.2.1
omit hw hn in
theorem old_word (hk : k < 128) (h : 16 ≤ k) : (Scalar.indexCast (Scalar.subi (Scf.iv (rw32 r) 1#32 k) 16#32) : Index).toNat = 128 * r + (k - 16) :=
  ((isTrip_facts ⟨r, hr⟩ ⟨k, hk⟩).2.2.2 h).1
omit hw hn in
theorem old_slot (hk : k < 128) (h : 16 ≤ k) : (md (Scalar.subi (Scalar.subi (Scf.iv (rw32 r) 1#32 k) 16#32) (rw32 r))).toNat = (k - 16) % 16 :=
  ((isTrip_facts ⟨r, hr⟩ ⟨k, hk⟩).2.2.2 h).2
theorem dr_iv : Scf.iv (drFrom (rw32 r) w) 1#32 k = Scf.iv (rw32 r) 1#32 (n - 16 + k) := by
  rw [ofNat_w hr hw hn, show drFrom (rw32 r) (BitVec.ofNat 32 n) = _ from drFrom_eq ⟨r, hr⟩ ⟨n, by omega⟩, iv_add]
theorem dr_word (hk : k < n - (n - 16)) : (Scalar.indexCast (Scf.iv (drFrom (rw32 r) w) 1#32 k) : Index).toNat = 128 * r + (n - 16 + k) := by
  rw [dr_iv hr hw hn, now_word hr (by omega)]
theorem dr_slot (hk : k < n - (n - 16)) : (md (Scalar.subi (Scf.iv (drFrom (rw32 r) w) 1#32 k) (rw32 r))).toNat = (n - 16 + k) % 16 := by
  rw [dr_iv hr hw hn, now_slot hr (by omega)]

end Trips

/-! ## The tables -/

abbrev posM : Memref sig .tc .smem S1024 .i32 := Memref.whole cc0_stg0_0
abbrev idxM : Memref sig .tc .smem S1024 .i32 := Memref.whole cc0_stg1_0
abbrev cntM : Memref sig .tc .smem S8 .i32 := Memref.whole cc0_stg2_0

section Tables
variable (c : Dev nD) (P I C : ℕ → BitVec 32)

def posT : posM.view.ty.Contents (Elt F) := fun i => P (i 0).val
def idxT : idxM.view.ty.Contents (Elt F) := fun i => I (i 0).val
def cntT : cntM.view.ty.Contents (Elt F) := fun i => C (i 0).val

/-- A table's words. -/
def word {s : Shape} {e : EltTy} (m : Memref sig .tc .smem s e) (f : m.view.ty.Contents (Elt F)) : sProp 𝕄 :=
  (m.view.loc (c : Thread nD τ)) ↦[Finset.univ]{fullShare} f
/-- The tables: the rows of the result, the rows of the table, and how many of each region. -/
def Tabs : sProp 𝕄 :=
  iprop(word c posM (posT P) ∗ word c idxM (idxT I) ∗ word c cntM (cntT C))

variable {P I C}
theorem smemLoad_bind {s : Shape} {e : EltTy} {β : Type} (m : Memref sig .tc .smem s e) (r : Rect s) (h1 : r.shape.numel = 1) (hp : e.packing = 1)
    (k : Elt F e → Prog (TpuEff nD τ sig (Elt F) Λ₀ .tc) β) :
    (smemLoad m r h1 hp >>= k) = smemLoadElt m r (View.loads_smem_one hp h1) (Shape.Idx.first (h1.symm ▸ Nat.one_pos)) k := rfl

theorem first_zero {x : S1.Idx} : (x 0).val = 0 := by have := (x 0).isLt; simpa using this

theorem wp_pos {off : Fin 1 → ℕ} {inb : ∀ a, off a + S1.size a ≤ S1024.size a} {hl} {x : S1.Idx} {i : ℕ} {α : Type}
    {k : Elt F .i32 → Prog (TpuEff nD τ sig (Elt F) Λ₀ .tc) α} {Q : α → sProp 𝕄} (h0 : off 0 = i) :
    (Tabs c P I C : sProp 𝕄) ⊢ iprop((Tabs c P I C -∗ wp frame (wpE (defs₀ (F := F)) 𝒱₀ c none) Set.univ (k (P i)) Q)
      -∗ wp frame (wpE (defs₀ (F := F)) 𝒱₀ c none) Set.univ (smemLoadElt posM (Rect.unit (s := S1024) off S1.size inb) hl x k) Q) := by
  unfold Tabs word
  iintro ⟨H1, H2, H3⟩ Hk
  iapply (wp_smemLoadElt 𝒱₀ (c : Thread nD τ) none Set.univ (m := posM) (r := Rect.unit (s := S1024) off S1.size inb)
    (S := Finset.univ) (q := fullShare) (f := posT P) (Finset.subset_univ _)) $$ H1
  iintro H1
  have hv : ((posM.access (Rect.unit (s := S1024) off S1.size inb)).read (Elt F) (posT P) x) = P i := by
    show P (off 0 + 1 * (x 0).val) = P i
    rw [h0, first_zero]; rfl
  rw [hv]
  iapply Hk
  isplitl [H1]; · iexact H1
  isplitl [H2] <;> iassumption

theorem wp_idx {off : Fin 1 → ℕ} {inb : ∀ a, off a + S1.size a ≤ S1024.size a} {hl} {x : S1.Idx} {i : ℕ} {α : Type}
    {k : Elt F .i32 → Prog (TpuEff nD τ sig (Elt F) Λ₀ .tc) α} {Q : α → sProp 𝕄} (h0 : off 0 = i) :
    (Tabs c P I C : sProp 𝕄) ⊢ iprop((Tabs c P I C -∗ wp frame (wpE (defs₀ (F := F)) 𝒱₀ c none) Set.univ (k (I i)) Q)
      -∗ wp frame (wpE (defs₀ (F := F)) 𝒱₀ c none) Set.univ (smemLoadElt idxM (Rect.unit (s := S1024) off S1.size inb) hl x k) Q) := by
  unfold Tabs word
  iintro ⟨H1, H2, H3⟩ Hk
  iapply (wp_smemLoadElt 𝒱₀ (c : Thread nD τ) none Set.univ (m := idxM) (r := Rect.unit (s := S1024) off S1.size inb)
    (S := Finset.univ) (q := fullShare) (f := idxT I) (Finset.subset_univ _)) $$ H2
  iintro H2
  have hv : ((idxM.access (Rect.unit (s := S1024) off S1.size inb)).read (Elt F) (idxT I) x) = I i := by
    show I (off 0 + 1 * (x 0).val) = I i
    rw [h0, first_zero]; rfl
  rw [hv]
  iapply Hk
  isplitl [H1]; · iexact H1
  isplitl [H2] <;> iassumption

theorem wp_cnt {off : Fin 1 → ℕ} {inb : ∀ a, off a + S1.size a ≤ S8.size a} {hl} {x : S1.Idx} {i : ℕ} {α : Type}
    {k : Elt F .i32 → Prog (TpuEff nD τ sig (Elt F) Λ₀ .tc) α} {Q : α → sProp 𝕄} (h0 : off 0 = i) :
    (Tabs c P I C : sProp 𝕄) ⊢ iprop((Tabs c P I C -∗ wp frame (wpE (defs₀ (F := F)) 𝒱₀ c none) Set.univ (k (C i)) Q)
      -∗ wp frame (wpE (defs₀ (F := F)) 𝒱₀ c none) Set.univ (smemLoadElt cntM (Rect.unit (s := S8) off S1.size inb) hl x k) Q) := by
  unfold Tabs word
  iintro ⟨H1, H2, H3⟩ Hk
  iapply (wp_smemLoadElt 𝒱₀ (c : Thread nD τ) none Set.univ (m := cntM) (r := Rect.unit (s := S8) off S1.size inb)
    (S := Finset.univ) (q := fullShare) (f := cntT C) (Finset.subset_univ _)) $$ H3
  iintro H3
  have hv : ((cntM.access (Rect.unit (s := S8) off S1.size inb)).read (Elt F) (cntT C) x) = C i := by
    show C (off 0 + 1 * (x 0).val) = C i
    rw [h0, first_zero]; rfl
  rw [hv]
  iapply Hk
  isplitl [H1]; · iexact H1
  isplitl [H2] <;> iassumption

end Tables

/-- A row within bounds. -/
theorem row_inb {D t : ℕ} {off : Fin 2 → ℕ} (h0 : off 0 = t) (h1 : off 1 = 0) (h : t < D) : ∀ a, off a + S1x1024.size a ≤ (Sh D).size a := fun a =>
  match a with
  | 0 => by rw [h0]; exact h
  | 1 => by rw [h1]; exact Nat.le_refl _
theorem one_inb {D t : ℕ} {off : Fin 1 → ℕ} (h0 : off 0 = t) (h : t < D) : ∀ a, off a + S1.size a ≤ (⟨1, ![D]⟩ : Shape).size a := fun a =>
  match a with
  | 0 => by rw [h0]; exact h
theorem slot_inb {r s : ℕ} {off : Fin 2 → ℕ} (h : off = ![r, s]) (hr : r < 8) (hs : s < 16) : ∀ a, off a + S1x1.size a ≤ S8x16.size a := fun a =>
  match a with
  | 0 => by rw [h]; exact hr
  | 1 => by rw [h]; exact hs

end Cert.GatherProof
end
-- ==== Proof.Steps.lean ====
/- Loads and stores of whole rows: rows cleared, and landed rows added. -/
module

public import proofs.«01_k».proof.Proof.Words

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Rows

variable (c : Dev nD) {D n lo : ℕ} {off : Fin 2 → ℕ} {inb : ∀ a, off a + (Sh n).size a ≤ (Sh D).size a} {q : PosShare TreeShare} {o : ℕ} {M : ℕ → ℕ → Elt F .f32}

/-- A load of whole rows. -/
theorem wp_readRows (bM : Memref sig .tc .vmem (Sh D) .f32) {hl} {α : Type} {k : ((Sh n).Idx → Elt F .f32) → Prog (TpuEff nD τ sig (Elt F) Λ₀ .tc) α} {Q : α → sProp 𝕄}
    (h0 : off 0 = lo) (h1 : off 1 = 0) :
    (Blk bM.view c lo n q o M : sProp 𝕄) ⊢ iprop((Blk bM.view c lo n q o M -∗ wp frame (wpE (defs₀ (F := F)) 𝒱₀ c none) Set.univ (k (mat n (o + lo) M)) Q)
      -∗ wp frame (wpE (defs₀ (F := F)) 𝒱₀ c none) Set.univ (.op (.load bM (Rect.unit (s := Sh D) off (Sh n).size inb).toLoadRect hl) k) Q) := by
  unfold Blk
  rw [← slice_part bM.view c (inb := inb) h0 h1]
  iintro H Hk
  iapply (wp_load_rect 𝒱₀ (c : Thread nD τ) none Set.univ (m := bM) (r := Rect.unit (s := Sh D) off (Sh n).size inb) (Finset.Subset.refl _)) $$ H
  iintro H
  rw [← slice_read bM.view (inb := inb) h0 h1 o M]
  iapply Hk
  iexact H

/-- A store of whole rows. -/
theorem wp_writeRows (bM : Memref sig .tc .vmem (Sh D) .f32) {w : (Sh n).Idx → Elt F .f32} {hx hm} {α : Type} {k : PUnit → Prog (TpuEff nD τ sig (Elt F) Λ₀ .tc) α} {Q : α → sProp 𝕄}
    {f : bM.view.ty.Contents (Elt F)} (h0 : off 0 = lo) (h1 : off 1 = 0) (hw : ∀ x, w x = M (o + lo + (x 0).val) (x 1).val) :
    (part bM.view c lo n fullShare f : sProp 𝕄) ⊢ iprop((Blk bM.view c lo n fullShare o M -∗ wp frame (wpE (defs₀ (F := F)) 𝒱₀ c none) Set.univ (k ⟨⟩) Q)
      -∗ wp frame (wpE (defs₀ (F := F)) 𝒱₀ c none) Set.univ (.op (.store bM (Rect.unit (s := Sh D) off (Sh n).size inb) w Finset.univ hx hm) k) Q) := by
  rw [← slice_write bM.view c (inb := inb) h0 h1 fullShare f o M w hw]
  rw [← slice_part bM.view c (inb := inb) h0 h1, ← slice_part bM.view c (inb := inb) h0 h1]
  iintro H Hk
  iapply (wp_store 𝒱₀ (c : Thread nD τ) none Set.univ (m := bM) (r := Rect.unit (s := Sh D) off (Sh n).size inb) (Mk := Finset.univ)
    (S := (bM.view.slice (Rect.unit (s := Sh D) off (Sh n).size inb)).set) (le_of_eq (View.setOn_univ _))) $$ H
  iexact Hk

/-- Rows cleared. -/
theorem wp_clear {off : Fin 2 → ℕ} {inb : ∀ a, off a + (Sh n).size a ≤ (Sh 1024).size a} {w : (Sh n).Idx → Elt F .f32} {hl hx hm} {α : Type} {k : PUnit → Prog (TpuEff nD τ sig (Elt F) Λ₀ .tc) α} {Q : α → sProp 𝕄}
    (h0 : off 0 = lo) (h1 : off 1 = 0) (hw : ∀ x, w x = zero) :
    (Any oV c lo n : sProp 𝕄) ⊢ iprop((Blk oV c lo n fullShare 0 (fun _ _ => zero) -∗ wp frame (wpE (defs₀ (F := F)) 𝒱₀ c none) Set.univ (k ⟨⟩) Q)
      -∗ wp frame (wpE (defs₀ (F := F)) 𝒱₀ c none) Set.univ (.op (.load oM (Rect.unit (s := Sh 1024) off (Sh n).size inb).toLoadRect hl)
        fun _ => .op (.store oM (Rect.unit (s := Sh 1024) off (Sh n).size inb) w Finset.univ hx hm) k) Q) := by
  unfold Any
  iintro ⟨%f, H⟩ Hk
  ihave H := (Entails.of_eq (slice_part oV c (inb := inb) h0 h1 fullShare f).symm) $$ H
  iapply (wp_load_rect 𝒱₀ (c : Thread nD τ) none Set.univ (m := oM) (r := Rect.unit (s := Sh 1024) off (Sh n).size inb) (Finset.Subset.refl _)) $$ H
  iintro H
  ihave H := (Entails.of_eq (slice_part oV c (inb := inb) h0 h1 fullShare f)) $$ H
  iapply (wp_writeRows c oM (o := 0) (M := fun _ _ => zero) h0 h1 hw) $$ H
  iexact Hk

/-- Landed rows added to rows of the result. -/
theorem wp_addRows (bM : Memref sig .tc .vmem (Sh D) .f32) {lo' : ℕ} {off' : Fin 2 → ℕ} {inb' : ∀ a, off' a + (Sh n).size a ≤ (Sh 1024).size a}
    {M' : ℕ → ℕ → Elt F .f32} {pay : ((Sh n).Idx → Elt F .f32) → ((Sh n).Idx → Elt F .f32) → (Sh n).Idx → Elt F .f32} {hl hl' hl'' hx hm}
    {α : Type} {k : PUnit → Prog (TpuEff nD τ sig (Elt F) Λ₀ .tc) α} {Q : α → sProp 𝕄}
    (h0' : off' 0 = lo') (h1' : off' 1 = 0) (h0 : off 0 = lo) (h1 : off 1 = 0) (ho : o + lo = lo') (hp : ∀ a b x, pay a b x = FloatOps.addf (a x) (b x)) :
    iprop(Blk oV c lo' n fullShare 0 M ∗ Blk bM.view c lo n fullShare o M')
      ⊢ iprop((Blk oV c lo' n fullShare 0 (plus M M') -∗ Blk bM.view c lo n fullShare o M' -∗ wp frame (wpE (defs₀ (F := F)) 𝒱₀ c none) Set.univ (k ⟨⟩) Q)
      -∗ wp frame (wpE (defs₀ (F := F)) 𝒱₀ c none) Set.univ
        (.op (.load oM (Rect.unit (s := Sh 1024) off' (Sh n).size inb').toLoadRect hl) fun a =>
          .op (.load bM (Rect.unit (s := Sh D) off (Sh n).size inb).toLoadRect hl') fun b =>
            .op (.load oM (Rect.unit (s := Sh 1024) off' (Sh n).size inb').toLoadRect hl'') fun _ =>
              .op (.store oM (Rect.unit (s := Sh 1024) off' (Sh n).size inb') (pay a b) Finset.univ hx hm) k) Q) := by
  iintro ⟨H, H'⟩ Hk
  iapply (wp_readRows c oM h0' h1') $$ H
  iintro H
  iapply (wp_readRows c bM h0 h1) $$ H'
  iintro H'
  iapply (wp_readRows c oM h0' h1') $$ H
  iintro H
  ihave H := (Entails.of_eq (show (Blk oV c lo' n fullShare 0 M : sProp 𝕄) = part oM.view c lo' n fullShare (fill oM.view (mat 1024 0 M)) from rfl)) $$ H
  iapply (wp_writeRows c oM (o := 0) (M := plus M M') h0' h1' (fun x => by rw [hp]; subst ho; unfold plus mat; rw [Nat.zero_add])) $$ H
  iintro H
  iapply Hk $$ [H]
  · iexact H
  iexact H'

end Rows

theorem addPay {s : Shape} (h) (a b : Vec F s .f32) (x : s.Idx) : addf (shapeCast s a h) b x = FloatOps.addf (a x) (b x) := by
  show FloatOps.addf (a (Shape.reshapeEquiv _ x)) (b x) = _
  rw [Shape.reshapeEquiv_self]

end Cert.GatherProof
end
-- ==== Proof.Loops.lean ====
/- The loops of the kernel, each as the loop of its region. -/
module

public import proofs.«01_k».proof.Proof.Words

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

/-! ## The regions a device fills, in the order it fills them -/

section Places
variable (c : Dev nD)
def xsf : ℕ := 2 * (1 - bk c) + (1 - bb c)
def ysf : ℕ := 4 + 2 * (1 - bb c) + ba c
def xso : ℕ := 2 * (1 - bk c) + bb c
def yso : ℕ := 4 + 2 * (1 - bb c) + (1 - ba c)
def xkf : ℕ := 2 * bk c + (1 - bb c)
def ykf : ℕ := 4 + 2 * bb c + (1 - ba c)
def xko : ℕ := 2 * bk c + bb c
def yko : ℕ := 4 + 2 * bb c + ba c
theorem xsf_lt : xsf c < 8 := by revert c; decide
theorem ysf_lt : ysf c < 8 := by revert c; decide
theorem xso_lt : xso c < 8 := by revert c; decide
theorem yso_lt : yso c < 8 := by revert c; decide
theorem xkf_lt : xkf c < 8 := by revert c; decide
theorem ykf_lt : ykf c < 8 := by revert c; decide
theorem xko_lt : xko c < 8 := by revert c; decide
theorem yko_lt : yko c < 8 := by revert c; decide
theorem xsf_nat : (BitVec.ofNat 32 (xsf c)).toNat = xsf c := by revert c; decide
theorem ysf_nat : (BitVec.ofNat 32 (ysf c)).toNat = ysf c := by revert c; decide
theorem xso_nat : (BitVec.ofNat 32 (xso c)).toNat = xso c := by revert c; decide
theorem yso_nat : (BitVec.ofNat 32 (yso c)).toNat = yso c := by revert c; decide
theorem xkf_nat : (BitVec.ofNat 32 (xkf c)).toNat = xkf c := by revert c; decide
theorem ykf_nat : (BitVec.ofNat 32 (ykf c)).toNat = ykf c := by revert c; decide
theorem xko_nat : (BitVec.ofNat 32 (xko c)).toNat = xko c := by revert c; decide
theorem yko_nat : (BitVec.ofNat 32 (yko c)).toNat = yko c := by revert c; decide
end Places

set_option maxRecDepth 100000

theorem t1_loop (d : Dev nD) (w : BitVec 32) : k0_t1_loop d w = isLoop (rw32 (xsf d)) w :=
  congrArg (fun a => isLoop a w) (by revert d; decide +kernel)
theorem t2_loop (d : Dev nD) (w : BitVec 32) : k0_t2_loop d w = isRest (rw32 (xsf d)) w :=
  congrArg (fun a => isRest a w) (by revert d; decide +kernel)
theorem t1_full (d : Dev nD) (w : BitVec 32) (t) : k0_cond1 d w t = full (rw32 (xsf d)) (Scf.iv (rw32 (xsf d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t1_old (d : Dev nD) (w : BitVec 32) (t) : k0_off3 d w t = ![(Scalar.indexCast (Scalar.subi (Scf.iv (rw32 (xsf d)) 1#32 t.val) 16#32) : Index).toNat] :=
  congrArg (fun v => ![(Scalar.indexCast (Scalar.subi v 16#32) : Index).toNat]) (congrArg (fun a => Scf.iv a 1#32 t.val) (by clear t; revert d; decide +kernel))
theorem t1_now (d : Dev nD) (w : BitVec 32) (t) : k0_off7 d w t = ![(Scalar.indexCast (Scf.iv (rw32 (xsf d)) 1#32 t.val) : Index).toNat] :=
  congrArg (fun v => ![(Scalar.indexCast v : Index).toNat]) (congrArg (fun a => Scf.iv a 1#32 t.val) (by clear t; revert d; decide +kernel))
theorem t1_oldSlot (d : Dev nD) (w : BitVec 32) (t) : k0_off4 d w t = ![xsf d, (md (Scalar.subi (Scalar.subi (Scf.iv (rw32 (xsf d)) 1#32 t.val) 16#32) (rw32 (xsf d)))).toNat] := by
  funext a
  match a with
  | 0 => exact (congrArg BitVec.toNat ((by clear t; revert d; decide +kernel) : _ = BitVec.ofNat 32 (xsf d))).trans (xsf_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t1_nowSlot (d : Dev nD) (w : BitVec 32) (t) : k0_off8 d w t = ![xsf d, (md (Scalar.subi (Scf.iv (rw32 (xsf d)) 1#32 t.val) (rw32 (xsf d)))).toNat] := by
  funext a
  match a with
  | 0 => exact (congrArg BitVec.toNat ((by clear t; revert d; decide +kernel) : _ = BitVec.ofNat 32 (xsf d))).trans (xsf_nat d)
  | 1 => exact congrArg BitVec.toNat (congrArg md (congrArg₂ Scalar.subi (congrArg (fun a => Scf.iv a 1#32 t.val) (by clear t; revert d; decide +kernel)) (by clear t; revert d; decide +kernel)))
theorem t3_loop (d : Dev nD) (w : BitVec 32) : k0_t3_loop d w = drLoop (rw32 (xsf d)) w :=
  congrArg (fun a => drLoop a w) (by revert d; decide +kernel)
theorem t4_loop (d : Dev nD) (w : BitVec 32) : k0_t4_loop d w = drRest (rw32 (xsf d)) w :=
  congrArg (fun a => drRest a w) (by revert d; decide +kernel)
theorem t3_now (d : Dev nD) (w : BitVec 32) (t) : k0_off21 d w t = ![(Scalar.indexCast (Scf.iv (drFrom (rw32 (xsf d)) w) 1#32 t.val) : Index).toNat] :=
  congrArg (fun v => ![(Scalar.indexCast v : Index).toNat]) (congrArg (fun a => Scf.iv (drFrom a w) 1#32 t.val) (by clear t; revert d; decide +kernel))
theorem t3_nowSlot (d : Dev nD) (w : BitVec 32) (t) : k0_off22 d w t = ![xsf d, (md (Scalar.subi (Scf.iv (drFrom (rw32 (xsf d)) w) 1#32 t.val) (rw32 (xsf d)))).toNat] := by
  funext a
  match a with
  | 0 => exact (congrArg BitVec.toNat ((by clear t; revert d; decide +kernel) : _ = BitVec.ofNat 32 (xsf d))).trans (xsf_nat d)
  | 1 => exact congrArg BitVec.toNat (congrArg md (congrArg₂ Scalar.subi (congrArg (fun a => Scf.iv (drFrom a w) 1#32 t.val) (by clear t; revert d; decide +kernel)) (by clear t; revert d; decide +kernel)))
theorem t5_loop (d : Dev nD) (w : BitVec 32) : k0_t5_loop d w = isLoop (rw32 (ysf d)) w :=
  congrArg (fun a => isLoop a w) (by revert d; decide +kernel)
theorem t6_loop (d : Dev nD) (w : BitVec 32) : k0_t6_loop d w = isRest (rw32 (ysf d)) w :=
  congrArg (fun a => isRest a w) (by revert d; decide +kernel)
theorem t5_full (d : Dev nD) (w : BitVec 32) (t) : k0_cond3 d w t = full (rw32 (ysf d)) (Scf.iv (rw32 (ysf d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t5_old (d : Dev nD) (w : BitVec 32) (t) : k0_off34 d w t = ![(Scalar.indexCast (Scalar.subi (Scf.iv (rw32 (ysf d)) 1#32 t.val) 16#32) : Index).toNat] :=
  congrArg (fun v => ![(Scalar.indexCast (Scalar.subi v 16#32) : Index).toNat]) (congrArg (fun a => Scf.iv a 1#32 t.val) (by clear t; revert d; decide +kernel))
theorem t5_now (d : Dev nD) (w : BitVec 32) (t) : k0_off38 d w t = ![(Scalar.indexCast (Scf.iv (rw32 (ysf d)) 1#32 t.val) : Index).toNat] :=
  congrArg (fun v => ![(Scalar.indexCast v : Index).toNat]) (congrArg (fun a => Scf.iv a 1#32 t.val) (by clear t; revert d; decide +kernel))
theorem t5_oldSlot (d : Dev nD) (w : BitVec 32) (t) : k0_off35 d w t = ![ysf d, (md (Scalar.subi (Scalar.subi (Scf.iv (rw32 (ysf d)) 1#32 t.val) 16#32) (rw32 (ysf d)))).toNat] := by
  funext a
  match a with
  | 0 => exact (congrArg BitVec.toNat ((by clear t; revert d; decide +kernel) : _ = BitVec.ofNat 32 (ysf d))).trans (ysf_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t5_nowSlot (d : Dev nD) (w : BitVec 32) (t) : k0_off39 d w t = ![ysf d, (md (Scalar.subi (Scf.iv (rw32 (ysf d)) 1#32 t.val) (rw32 (ysf d)))).toNat] := by
  funext a
  match a with
  | 0 => exact (congrArg BitVec.toNat ((by clear t; revert d; decide +kernel) : _ = BitVec.ofNat 32 (ysf d))).trans (ysf_nat d)
  | 1 => exact congrArg BitVec.toNat (congrArg md (congrArg₂ Scalar.subi (congrArg (fun a => Scf.iv a 1#32 t.val) (by clear t; revert d; decide +kernel)) (by clear t; revert d; decide +kernel)))
theorem t7_loop (d : Dev nD) (w : BitVec 32) : k0_t7_loop d w = drLoop (rw32 (ysf d)) w :=
  congrArg (fun a => drLoop a w) (by revert d; decide +kernel)
theorem t8_loop (d : Dev nD) (w : BitVec 32) : k0_t8_loop d w = drRest (rw32 (ysf d)) w :=
  congrArg (fun a => drRest a w) (by revert d; decide +kernel)
theorem t7_now (d : Dev nD) (w : BitVec 32) (t) : k0_off52 d w t = ![(Scalar.indexCast (Scf.iv (drFrom (rw32 (ysf d)) w) 1#32 t.val) : Index).toNat] :=
  congrArg (fun v => ![(Scalar.indexCast v : Index).toNat]) (congrArg (fun a => Scf.iv (drFrom a w) 1#32 t.val) (by clear t; revert d; decide +kernel))
theorem t7_nowSlot (d : Dev nD) (w : BitVec 32) (t) : k0_off53 d w t = ![ysf d, (md (Scalar.subi (Scf.iv (drFrom (rw32 (ysf d)) w) 1#32 t.val) (rw32 (ysf d)))).toNat] := by
  funext a
  match a with
  | 0 => exact (congrArg BitVec.toNat ((by clear t; revert d; decide +kernel) : _ = BitVec.ofNat 32 (ysf d))).trans (ysf_nat d)
  | 1 => exact congrArg BitVec.toNat (congrArg md (congrArg₂ Scalar.subi (congrArg (fun a => Scf.iv (drFrom a w) 1#32 t.val) (by clear t; revert d; decide +kernel)) (by clear t; revert d; decide +kernel)))
theorem t9_loop (d : Dev nD) (w : BitVec 32) : k0_t9_loop d w = isLoop (rw32 (xso d)) w :=
  congrArg (fun a => isLoop a w) (by revert d; decide +kernel)
theorem t10_loop (d : Dev nD) (w : BitVec 32) : k0_t10_loop d w = isRest (rw32 (xso d)) w :=
  congrArg (fun a => isRest a w) (by revert d; decide +kernel)
theorem t9_full (d : Dev nD) (w : BitVec 32) (t) : k0_cond5 d w t = full (rw32 (xso d)) (Scf.iv (rw32 (xso d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t9_old (d : Dev nD) (w : BitVec 32) (t) : k0_off65 d w t = ![(Scalar.indexCast (Scalar.subi (Scf.iv (rw32 (xso d)) 1#32 t.val) 16#32) : Index).toNat] :=
  congrArg (fun v => ![(Scalar.indexCast (Scalar.subi v 16#32) : Index).toNat]) (congrArg (fun a => Scf.iv a 1#32 t.val) (by clear t; revert d; decide +kernel))
theorem t9_now (d : Dev nD) (w : BitVec 32) (t) : k0_off69 d w t = ![(Scalar.indexCast (Scf.iv (rw32 (xso d)) 1#32 t.val) : Index).toNat] :=
  congrArg (fun v => ![(Scalar.indexCast v : Index).toNat]) (congrArg (fun a => Scf.iv a 1#32 t.val) (by clear t; revert d; decide +kernel))
theorem t9_oldSlot (d : Dev nD) (w : BitVec 32) (t) : k0_off66 d w t = ![xso d, (md (Scalar.subi (Scalar.subi (Scf.iv (rw32 (xso d)) 1#32 t.val) 16#32) (rw32 (xso d)))).toNat] := by
  funext a
  match a with
  | 0 => exact (congrArg BitVec.toNat ((by clear t; revert d; decide +kernel) : _ = BitVec.ofNat 32 (xso d))).trans (xso_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t9_nowSlot (d : Dev nD) (w : BitVec 32) (t) : k0_off70 d w t = ![xso d, (md (Scalar.subi (Scf.iv (rw32 (xso d)) 1#32 t.val) (rw32 (xso d)))).toNat] := by
  funext a
  match a with
  | 0 => exact (congrArg BitVec.toNat ((by clear t; revert d; decide +kernel) : _ = BitVec.ofNat 32 (xso d))).trans (xso_nat d)
  | 1 => exact congrArg BitVec.toNat (congrArg md (congrArg₂ Scalar.subi (congrArg (fun a => Scf.iv a 1#32 t.val) (by clear t; revert d; decide +kernel)) (by clear t; revert d; decide +kernel)))
theorem t11_loop (d : Dev nD) (w : BitVec 32) : k0_t11_loop d w = drLoop (rw32 (xso d)) w :=
  congrArg (fun a => drLoop a w) (by revert d; decide +kernel)
theorem t12_loop (d : Dev nD) (w : BitVec 32) : k0_t12_loop d w = drRest (rw32 (xso d)) w :=
  congrArg (fun a => drRest a w) (by revert d; decide +kernel)
theorem t11_now (d : Dev nD) (w : BitVec 32) (t) : k0_off83 d w t = ![(Scalar.indexCast (Scf.iv (drFrom (rw32 (xso d)) w) 1#32 t.val) : Index).toNat] :=
  congrArg (fun v => ![(Scalar.indexCast v : Index).toNat]) (congrArg (fun a => Scf.iv (drFrom a w) 1#32 t.val) (by clear t; revert d; decide +kernel))
theorem t11_nowSlot (d : Dev nD) (w : BitVec 32) (t) : k0_off84 d w t = ![xso d, (md (Scalar.subi (Scf.iv (drFrom (rw32 (xso d)) w) 1#32 t.val) (rw32 (xso d)))).toNat] := by
  funext a
  match a with
  | 0 => exact (congrArg BitVec.toNat ((by clear t; revert d; decide +kernel) : _ = BitVec.ofNat 32 (xso d))).trans (xso_nat d)
  | 1 => exact congrArg BitVec.toNat (congrArg md (congrArg₂ Scalar.subi (congrArg (fun a => Scf.iv (drFrom a w) 1#32 t.val) (by clear t; revert d; decide +kernel)) (by clear t; revert d; decide +kernel)))
theorem t13_loop (d : Dev nD) (w : BitVec 32) : k0_t13_loop d w = isLoop (rw32 (yso d)) w :=
  congrArg (fun a => isLoop a w) (by revert d; decide +kernel)
theorem t14_loop (d : Dev nD) (w : BitVec 32) : k0_t14_loop d w = isRest (rw32 (yso d)) w :=
  congrArg (fun a => isRest a w) (by revert d; decide +kernel)
theorem t13_full (d : Dev nD) (w : BitVec 32) (t) : k0_cond7 d w t = full (rw32 (yso d)) (Scf.iv (rw32 (yso d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t13_old (d : Dev nD) (w : BitVec 32) (t) : k0_off94 d w t = ![(Scalar.indexCast (Scalar.subi (Scf.iv (rw32 (yso d)) 1#32 t.val) 16#32) : Index).toNat] :=
  congrArg (fun v => ![(Scalar.indexCast (Scalar.subi v 16#32) : Index).toNat]) (congrArg (fun a => Scf.iv a 1#32 t.val) (by clear t; revert d; decide +kernel))
theorem t13_now (d : Dev nD) (w : BitVec 32) (t) : k0_off98 d w t = ![(Scalar.indexCast (Scf.iv (rw32 (yso d)) 1#32 t.val) : Index).toNat] :=
  congrArg (fun v => ![(Scalar.indexCast v : Index).toNat]) (congrArg (fun a => Scf.iv a 1#32 t.val) (by clear t; revert d; decide +kernel))
theorem t13_oldSlot (d : Dev nD) (w : BitVec 32) (t) : k0_off95 d w t = ![yso d, (md (Scalar.subi (Scalar.subi (Scf.iv (rw32 (yso d)) 1#32 t.val) 16#32) (rw32 (yso d)))).toNat] := by
  funext a
  match a with
  | 0 => exact (congrArg BitVec.toNat ((by clear t; revert d; decide +kernel) : _ = BitVec.ofNat 32 (yso d))).trans (yso_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t13_nowSlot (d : Dev nD) (w : BitVec 32) (t) : k0_off99 d w t = ![yso d, (md (Scalar.subi (Scf.iv (rw32 (yso d)) 1#32 t.val) (rw32 (yso d)))).toNat] := by
  funext a
  match a with
  | 0 => exact (congrArg BitVec.toNat ((by clear t; revert d; decide +kernel) : _ = BitVec.ofNat 32 (yso d))).trans (yso_nat d)
  | 1 => exact congrArg BitVec.toNat (congrArg md (congrArg₂ Scalar.subi (congrArg (fun a => Scf.iv a 1#32 t.val) (by clear t; revert d; decide +kernel)) (by clear t; revert d; decide +kernel)))
theorem t15_loop (d : Dev nD) (w : BitVec 32) : k0_t15_loop d w = drLoop (rw32 (yso d)) w :=
  congrArg (fun a => drLoop a w) (by revert d; decide +kernel)
theorem t16_loop (d : Dev nD) (w : BitVec 32) : k0_t16_loop d w = drRest (rw32 (yso d)) w :=
  congrArg (fun a => drRest a w) (by revert d; decide +kernel)
theorem t15_now (d : Dev nD) (w : BitVec 32) (t) : k0_off112 d w t = ![(Scalar.indexCast (Scf.iv (drFrom (rw32 (yso d)) w) 1#32 t.val) : Index).toNat] :=
  congrArg (fun v => ![(Scalar.indexCast v : Index).toNat]) (congrArg (fun a => Scf.iv (drFrom a w) 1#32 t.val) (by clear t; revert d; decide +kernel))
theorem t15_nowSlot (d : Dev nD) (w : BitVec 32) (t) : k0_off113 d w t = ![yso d, (md (Scalar.subi (Scf.iv (drFrom (rw32 (yso d)) w) 1#32 t.val) (rw32 (yso d)))).toNat] := by
  funext a
  match a with
  | 0 => exact (congrArg BitVec.toNat ((by clear t; revert d; decide +kernel) : _ = BitVec.ofNat 32 (yso d))).trans (yso_nat d)
  | 1 => exact congrArg BitVec.toNat (congrArg md (congrArg₂ Scalar.subi (congrArg (fun a => Scf.iv (drFrom a w) 1#32 t.val) (by clear t; revert d; decide +kernel)) (by clear t; revert d; decide +kernel)))
theorem t17_loop (d : Dev nD) (w : BitVec 32) : k0_t17_loop d w = isLoop (rw32 (xkf d)) w :=
  congrArg (fun a => isLoop a w) (by revert d; decide +kernel)
theorem t18_loop (d : Dev nD) (w : BitVec 32) : k0_t18_loop d w = isRest (rw32 (xkf d)) w :=
  congrArg (fun a => isRest a w) (by revert d; decide +kernel)
theorem t17_full (d : Dev nD) (w : BitVec 32) (t) : k0_cond9 d w t = full (rw32 (xkf d)) (Scf.iv (rw32 (xkf d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t17_old (d : Dev nD) (w : BitVec 32) (t) : k0_off123 d w t = ![(Scalar.indexCast (Scalar.subi (Scf.iv (rw32 (xkf d)) 1#32 t.val) 16#32) : Index).toNat] :=
  congrArg (fun v => ![(Scalar.indexCast (Scalar.subi v 16#32) : Index).toNat]) (congrArg (fun a => Scf.iv a 1#32 t.val) (by clear t; revert d; decide +kernel))
theorem t17_now (d : Dev nD) (w : BitVec 32) (t) : k0_off127 d w t = ![(Scalar.indexCast (Scf.iv (rw32 (xkf d)) 1#32 t.val) : Index).toNat] :=
  congrArg (fun v => ![(Scalar.indexCast v : Index).toNat]) (congrArg (fun a => Scf.iv a 1#32 t.val) (by clear t; revert d; decide +kernel))
theorem t17_oldSlot (d : Dev nD) (w : BitVec 32) (t) : k0_off124 d w t = ![xkf d, (md (Scalar.subi (Scalar.subi (Scf.iv (rw32 (xkf d)) 1#32 t.val) 16#32) (rw32 (xkf d)))).toNat] := by
  funext a
  match a with
  | 0 => exact (congrArg BitVec.toNat ((by clear t; revert d; decide +kernel) : _ = BitVec.ofNat 32 (xkf d))).trans (xkf_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t17_nowSlot (d : Dev nD) (w : BitVec 32) (t) : k0_off128 d w t = ![xkf d, (md (Scalar.subi (Scf.iv (rw32 (xkf d)) 1#32 t.val) (rw32 (xkf d)))).toNat] := by
  funext a
  match a with
  | 0 => exact (congrArg BitVec.toNat ((by clear t; revert d; decide +kernel) : _ = BitVec.ofNat 32 (xkf d))).trans (xkf_nat d)
  | 1 => exact congrArg BitVec.toNat (congrArg md (congrArg₂ Scalar.subi (congrArg (fun a => Scf.iv a 1#32 t.val) (by clear t; revert d; decide +kernel)) (by clear t; revert d; decide +kernel)))
theorem t25_loop (d : Dev nD) (w : BitVec 32) : k0_t25_loop d w = drLoop (rw32 (xkf d)) w :=
  congrArg (fun a => drLoop a w) (by revert d; decide +kernel)
theorem t26_loop (d : Dev nD) (w : BitVec 32) : k0_t26_loop d w = drRest (rw32 (xkf d)) w :=
  congrArg (fun a => drRest a w) (by revert d; decide +kernel)
theorem t25_now (d : Dev nD) (w : BitVec 32) (t) : k0_off194 d w t = ![(Scalar.indexCast (Scf.iv (drFrom (rw32 (xkf d)) w) 1#32 t.val) : Index).toNat] :=
  congrArg (fun v => ![(Scalar.indexCast v : Index).toNat]) (congrArg (fun a => Scf.iv (drFrom a w) 1#32 t.val) (by clear t; revert d; decide +kernel))
theorem t25_nowSlot (d : Dev nD) (w : BitVec 32) (t) : k0_off195 d w t = ![xkf d, (md (Scalar.subi (Scf.iv (drFrom (rw32 (xkf d)) w) 1#32 t.val) (rw32 (xkf d)))).toNat] := by
  funext a
  match a with
  | 0 => exact (congrArg BitVec.toNat ((by clear t; revert d; decide +kernel) : _ = BitVec.ofNat 32 (xkf d))).trans (xkf_nat d)
  | 1 => exact congrArg BitVec.toNat (congrArg md (congrArg₂ Scalar.subi (congrArg (fun a => Scf.iv (drFrom a w) 1#32 t.val) (by clear t; revert d; decide +kernel)) (by clear t; revert d; decide +kernel)))
theorem t19_loop (d : Dev nD) (w : BitVec 32) : k0_t19_loop d w = isLoop (rw32 (ykf d)) w :=
  congrArg (fun a => isLoop a w) (by revert d; decide +kernel)
theorem t20_loop (d : Dev nD) (w : BitVec 32) : k0_t20_loop d w = isRest (rw32 (ykf d)) w :=
  congrArg (fun a => isRest a w) (by revert d; decide +kernel)
theorem t19_full (d : Dev nD) (w : BitVec 32) (t) : k0_cond11 d w t = full (rw32 (ykf d)) (Scf.iv (rw32 (ykf d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t19_old (d : Dev nD) (w : BitVec 32) (t) : k0_off141 d w t = ![(Scalar.indexCast (Scalar.subi (Scf.iv (rw32 (ykf d)) 1#32 t.val) 16#32) : Index).toNat] :=
  congrArg (fun v => ![(Scalar.indexCast (Scalar.subi v 16#32) : Index).toNat]) (congrArg (fun a => Scf.iv a 1#32 t.val) (by clear t; revert d; decide +kernel))
theorem t19_now (d : Dev nD) (w : BitVec 32) (t) : k0_off145 d w t = ![(Scalar.indexCast (Scf.iv (rw32 (ykf d)) 1#32 t.val) : Index).toNat] :=
  congrArg (fun v => ![(Scalar.indexCast v : Index).toNat]) (congrArg (fun a => Scf.iv a 1#32 t.val) (by clear t; revert d; decide +kernel))
theorem t19_oldSlot (d : Dev nD) (w : BitVec 32) (t) : k0_off142 d w t = ![ykf d, (md (Scalar.subi (Scalar.subi (Scf.iv (rw32 (ykf d)) 1#32 t.val) 16#32) (rw32 (ykf d)))).toNat] := by
  funext a
  match a with
  | 0 => exact (congrArg BitVec.toNat ((by clear t; revert d; decide +kernel) : _ = BitVec.ofNat 32 (ykf d))).trans (ykf_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t19_nowSlot (d : Dev nD) (w : BitVec 32) (t) : k0_off146 d w t = ![ykf d, (md (Scalar.subi (Scf.iv (rw32 (ykf d)) 1#32 t.val) (rw32 (ykf d)))).toNat] := by
  funext a
  match a with
  | 0 => exact (congrArg BitVec.toNat ((by clear t; revert d; decide +kernel) : _ = BitVec.ofNat 32 (ykf d))).trans (ykf_nat d)
  | 1 => exact congrArg BitVec.toNat (congrArg md (congrArg₂ Scalar.subi (congrArg (fun a => Scf.iv a 1#32 t.val) (by clear t; revert d; decide +kernel)) (by clear t; revert d; decide +kernel)))
theorem t27_loop (d : Dev nD) (w : BitVec 32) : k0_t27_loop d w = drLoop (rw32 (ykf d)) w :=
  congrArg (fun a => drLoop a w) (by revert d; decide +kernel)
theorem t28_loop (d : Dev nD) (w : BitVec 32) : k0_t28_loop d w = drRest (rw32 (ykf d)) w :=
  congrArg (fun a => drRest a w) (by revert d; decide +kernel)
theorem t27_now (d : Dev nD) (w : BitVec 32) (t) : k0_off208 d w t = ![(Scalar.indexCast (Scf.iv (drFrom (rw32 (ykf d)) w) 1#32 t.val) : Index).toNat] :=
  congrArg (fun v => ![(Scalar.indexCast v : Index).toNat]) (congrArg (fun a => Scf.iv (drFrom a w) 1#32 t.val) (by clear t; revert d; decide +kernel))
theorem t27_nowSlot (d : Dev nD) (w : BitVec 32) (t) : k0_off209 d w t = ![ykf d, (md (Scalar.subi (Scf.iv (drFrom (rw32 (ykf d)) w) 1#32 t.val) (rw32 (ykf d)))).toNat] := by
  funext a
  match a with
  | 0 => exact (congrArg BitVec.toNat ((by clear t; revert d; decide +kernel) : _ = BitVec.ofNat 32 (ykf d))).trans (ykf_nat d)
  | 1 => exact congrArg BitVec.toNat (congrArg md (congrArg₂ Scalar.subi (congrArg (fun a => Scf.iv (drFrom a w) 1#32 t.val) (by clear t; revert d; decide +kernel)) (by clear t; revert d; decide +kernel)))
theorem t21_loop (d : Dev nD) (w : BitVec 32) : k0_t21_loop d w = isLoop (rw32 (xko d)) w :=
  congrArg (fun a => isLoop a w) (by revert d; decide +kernel)
theorem t22_loop (d : Dev nD) (w : BitVec 32) : k0_t22_loop d w = isRest (rw32 (xko d)) w :=
  congrArg (fun a => isRest a w) (by revert d; decide +kernel)
theorem t21_full (d : Dev nD) (w : BitVec 32) (t) : k0_cond13 d w t = full (rw32 (xko d)) (Scf.iv (rw32 (xko d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t21_old (d : Dev nD) (w : BitVec 32) (t) : k0_off159 d w t = ![(Scalar.indexCast (Scalar.subi (Scf.iv (rw32 (xko d)) 1#32 t.val) 16#32) : Index).toNat] :=
  congrArg (fun v => ![(Scalar.indexCast (Scalar.subi v 16#32) : Index).toNat]) (congrArg (fun a => Scf.iv a 1#32 t.val) (by clear t; revert d; decide +kernel))
theorem t21_now (d : Dev nD) (w : BitVec 32) (t) : k0_off163 d w t = ![(Scalar.indexCast (Scf.iv (rw32 (xko d)) 1#32 t.val) : Index).toNat] :=
  congrArg (fun v => ![(Scalar.indexCast v : Index).toNat]) (congrArg (fun a => Scf.iv a 1#32 t.val) (by clear t; revert d; decide +kernel))
theorem t21_oldSlot (d : Dev nD) (w : BitVec 32) (t) : k0_off160 d w t = ![xko d, (md (Scalar.subi (Scalar.subi (Scf.iv (rw32 (xko d)) 1#32 t.val) 16#32) (rw32 (xko d)))).toNat] := by
  funext a
  match a with
  | 0 => exact (congrArg BitVec.toNat ((by clear t; revert d; decide +kernel) : _ = BitVec.ofNat 32 (xko d))).trans (xko_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t21_nowSlot (d : Dev nD) (w : BitVec 32) (t) : k0_off164 d w t = ![xko d, (md (Scalar.subi (Scf.iv (rw32 (xko d)) 1#32 t.val) (rw32 (xko d)))).toNat] := by
  funext a
  match a with
  | 0 => exact (congrArg BitVec.toNat ((by clear t; revert d; decide +kernel) : _ = BitVec.ofNat 32 (xko d))).trans (xko_nat d)
  | 1 => exact congrArg BitVec.toNat (congrArg md (congrArg₂ Scalar.subi (congrArg (fun a => Scf.iv a 1#32 t.val) (by clear t; revert d; decide +kernel)) (by clear t; revert d; decide +kernel)))
theorem t29_loop (d : Dev nD) (w : BitVec 32) : k0_t29_loop d w = drLoop (rw32 (xko d)) w :=
  congrArg (fun a => drLoop a w) (by revert d; decide +kernel)
theorem t30_loop (d : Dev nD) (w : BitVec 32) : k0_t30_loop d w = drRest (rw32 (xko d)) w :=
  congrArg (fun a => drRest a w) (by revert d; decide +kernel)
theorem t29_now (d : Dev nD) (w : BitVec 32) (t) : k0_off232 d w t = ![(Scalar.indexCast (Scf.iv (drFrom (rw32 (xko d)) w) 1#32 t.val) : Index).toNat] :=
  congrArg (fun v => ![(Scalar.indexCast v : Index).toNat]) (congrArg (fun a => Scf.iv (drFrom a w) 1#32 t.val) (by clear t; revert d; decide +kernel))
theorem t29_nowSlot (d : Dev nD) (w : BitVec 32) (t) : k0_off233 d w t = ![xko d, (md (Scalar.subi (Scf.iv (drFrom (rw32 (xko d)) w) 1#32 t.val) (rw32 (xko d)))).toNat] := by
  funext a
  match a with
  | 0 => exact (congrArg BitVec.toNat ((by clear t; revert d; decide +kernel) : _ = BitVec.ofNat 32 (xko d))).trans (xko_nat d)
  | 1 => exact congrArg BitVec.toNat (congrArg md (congrArg₂ Scalar.subi (congrArg (fun a => Scf.iv (drFrom a w) 1#32 t.val) (by clear t; revert d; decide +kernel)) (by clear t; revert d; decide +kernel)))
theorem t23_loop (d : Dev nD) (w : BitVec 32) : k0_t23_loop d w = isLoop (rw32 (yko d)) w :=
  congrArg (fun a => isLoop a w) (by revert d; decide +kernel)
theorem t24_loop (d : Dev nD) (w : BitVec 32) : k0_t24_loop d w = isRest (rw32 (yko d)) w :=
  congrArg (fun a => isRest a w) (by revert d; decide +kernel)
theorem t23_full (d : Dev nD) (w : BitVec 32) (t) : k0_cond15 d w t = full (rw32 (yko d)) (Scf.iv (rw32 (yko d)) 1#32 t.val) :=
  congrArg (fun v => Scalar.cmpi .ne (Scalar.extui (Scalar.cmpi .sge v 16#32) : BitVec 32) 0#32)
    (congrArg₂ Scalar.subi (congrArg (fun a => Scf.iv a 1#32 t.val) (by clear t; revert d; decide +kernel)) (by clear t; revert d; decide +kernel))
theorem t23_old (d : Dev nD) (w : BitVec 32) (t) : k0_off177 d w t = ![(Scalar.indexCast (Scalar.subi (Scf.iv (rw32 (yko d)) 1#32 t.val) 16#32) : Index).toNat] :=
  congrArg (fun v => ![(Scalar.indexCast (Scalar.subi v 16#32) : Index).toNat]) (congrArg (fun a => Scf.iv a 1#32 t.val) (by clear t; revert d; decide +kernel))
theorem t23_now (d : Dev nD) (w : BitVec 32) (t) : k0_off181 d w t = ![(Scalar.indexCast (Scf.iv (rw32 (yko d)) 1#32 t.val) : Index).toNat] :=
  congrArg (fun v => ![(Scalar.indexCast v : Index).toNat]) (congrArg (fun a => Scf.iv a 1#32 t.val) (by clear t; revert d; decide +kernel))
theorem t23_oldSlot (d : Dev nD) (w : BitVec 32) (t) : k0_off178 d w t = ![yko d, (md (Scalar.subi (Scalar.subi (Scf.iv (rw32 (yko d)) 1#32 t.val) 16#32) (rw32 (yko d)))).toNat] := by
  funext a
  match a with
  | 0 => exact (congrArg BitVec.toNat ((by clear t; revert d; decide +kernel) : _ = BitVec.ofNat 32 (yko d))).trans (yko_nat d)
  | 1 => exact congrArg BitVec.toNat (congrArg md (congrArg₂ Scalar.subi (congrArg (fun v => Scalar.subi v 16#32) (congrArg (fun a => Scf.iv a 1#32 t.val) (by clear t; revert d; decide +kernel))) (by clear t; revert d; decide +kernel)))
theorem t23_nowSlot (d : Dev nD) (w : BitVec 32) (t) : k0_off182 d w t = ![yko d, (md (Scalar.subi (Scf.iv (rw32 (yko d)) 1#32 t.val) (rw32 (yko d)))).toNat] := by
  funext a
  match a with
  | 0 => exact (congrArg BitVec.toNat ((by clear t; revert d; decide +kernel) : _ = BitVec.ofNat 32 (yko d))).trans (yko_nat d)
  | 1 => exact congrArg BitVec.toNat (congrArg md (congrArg₂ Scalar.subi (congrArg (fun a => Scf.iv a 1#32 t.val) (by clear t; revert d; decide +kernel)) (by clear t; revert d; decide +kernel)))
theorem t31_loop (d : Dev nD) (w : BitVec 32) : k0_t31_loop d w = drLoop (rw32 (yko d)) w :=
  congrArg (fun a => drLoop a w) (by revert d; decide +kernel)
theorem t32_loop (d : Dev nD) (w : BitVec 32) : k0_t32_loop d w = drRest (rw32 (yko d)) w :=
  congrArg (fun a => drRest a w) (by revert d; decide +kernel)
theorem t31_now (d : Dev nD) (w : BitVec 32) (t) : k0_off245 d w t = ![(Scalar.indexCast (Scf.iv (drFrom (rw32 (yko d)) w) 1#32 t.val) : Index).toNat] :=
  congrArg (fun v => ![(Scalar.indexCast v : Index).toNat]) (congrArg (fun a => Scf.iv (drFrom a w) 1#32 t.val) (by clear t; revert d; decide +kernel))
theorem t31_nowSlot (d : Dev nD) (w : BitVec 32) (t) : k0_off246 d w t = ![yko d, (md (Scalar.subi (Scf.iv (drFrom (rw32 (yko d)) w) 1#32 t.val) (rw32 (yko d)))).toNat] := by
  funext a
  match a with
  | 0 => exact (congrArg BitVec.toNat ((by clear t; revert d; decide +kernel) : _ = BitVec.ofNat 32 (yko d))).trans (yko_nat d)
  | 1 => exact congrArg BitVec.toNat (congrArg md (congrArg₂ Scalar.subi (congrArg (fun a => Scf.iv (drFrom a w) 1#32 t.val) (by clear t; revert d; decide +kernel)) (by clear t; revert d; decide +kernel)))

end Cert.GatherProof
end
-- ==== Proof.Places.lean ====
/- Where each access and each message of the kernel lands, and who receives it. -/
module

public import proofs.«01_k».proof.Proof.Steps
public import proofs.«01_k».proof.Proof.Loops

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Places

variable (c : Dev nD)

theorem o1 : k0_off1 c = ![xs c + b0 c, 0] := by revert c; decide +kernel
theorem o19 : k0_off19 c = ![ys c + a1 c, 0] := by revert c; decide +kernel
theorem o29 : k0_off29 c = ![b0 c, 0] := by revert c; decide +kernel
theorem o30 : k0_off30 c = ![xs c + b0 c, 0] := by revert c; decide +kernel
theorem o31 : k0_off31 c = ![b0 c + 64, 0] := by revert c; decide +kernel
theorem o32 : k0_off32 c = ![xs c + b0 c + 64, 0] := by revert c; decide +kernel
theorem o50 : k0_off50 c = ![xs c + b1 c, 0] := by revert c; decide +kernel
theorem o60 : k0_off60 c = ![a1 c, 0] := by revert c; decide +kernel
theorem o61 : k0_off61 c = ![ys c + a1 c, 0] := by revert c; decide +kernel
theorem o62 : k0_off62 c = ![a1 c + 64, 0] := by revert c; decide +kernel
theorem o63 : k0_off63 c = ![ys c + a1 c + 64, 0] := by revert c; decide +kernel
theorem o81 : k0_off81 c = ![ys c + a0 c, 0] := by revert c; decide +kernel
theorem o91 : k0_off91 c = ![b1 c, 0] := by revert c; decide +kernel
theorem o92 : k0_off92 c = ![xs c + b1 c, 0] := by revert c; decide +kernel
theorem o110 : k0_off110 c = ![xk c + b0 c, 0] := by revert c; decide +kernel
theorem o120 : k0_off120 c = ![a0 c, 0] := by revert c; decide +kernel
theorem o121 : k0_off121 c = ![ys c + a0 c, 0] := by revert c; decide +kernel
theorem o139 : k0_off139 c = ![yk c + a0 c, 0] := by revert c; decide +kernel
theorem o157 : k0_off157 c = ![xk c + b1 c, 0] := by revert c; decide +kernel
theorem o175 : k0_off175 c = ![yk c + a1 c, 0] := by revert c; decide +kernel
theorem o204 : k0_off204 c = ![xk c + b0 c, 0] := by revert c; decide +kernel
theorem o205 : k0_off205 c = ![b0 c, 0] := by revert c; decide +kernel
theorem o206 : k0_off206 c = ![xk c + b0 c, 0] := by revert c; decide +kernel
theorem o218 : k0_off218 c = ![yk c + a0 c, 0] := by revert c; decide +kernel
theorem o219 : k0_off219 c = ![a0 c, 0] := by revert c; decide +kernel
theorem o220 : k0_off220 c = ![yk c + a0 c, 0] := by revert c; decide +kernel
theorem o223 : k0_off223 c = ![xk c + b0 c + 64, 0] := by revert c; decide +kernel
theorem o224 : k0_off224 c = ![b0 c + 64, 0] := by revert c; decide +kernel
theorem o225 : k0_off225 c = ![xk c + b0 c + 64, 0] := by revert c; decide +kernel
theorem o228 : k0_off228 c = ![yk c + a0 c + 64, 0] := by revert c; decide +kernel
theorem o229 : k0_off229 c = ![a0 c + 64, 0] := by revert c; decide +kernel
theorem o230 : k0_off230 c = ![yk c + a0 c + 64, 0] := by revert c; decide +kernel
theorem o242 : k0_off242 c = ![xk c + b1 c, 0] := by revert c; decide +kernel
theorem o243 : k0_off243 c = ![b1 c, 0] := by revert c; decide +kernel
theorem o255 : k0_off255 c = ![yk c + a1 c, 0] := by revert c; decide +kernel
theorem o256 : k0_off256 c = ![a1 c, 0] := by revert c; decide +kernel
theorem o257 : k0_off257 c = ![xk c + b0 c, 0] := by revert c; decide +kernel
theorem o258 : k0_off258 c = ![xk c + b1 c, 0] := by revert c; decide +kernel
theorem o259 : k0_off259 c = ![xk c + b1 c, 0] := by revert c; decide +kernel
theorem o260 : k0_off260 c = ![yk c + a0 c, 0] := by revert c; decide +kernel
theorem o261 : k0_off261 c = ![yk c + a1 c, 0] := by revert c; decide +kernel
theorem o262 : k0_off262 c = ![yk c + a1 c, 0] := by revert c; decide +kernel
theorem o263 : k0_off263 c = ![xk c + b0 c + 64, 0] := by revert c; decide +kernel
theorem o264 : k0_off264 c = ![xk c + b1 c + 64, 0] := by revert c; decide +kernel
theorem o265 : k0_off265 c = ![xk c + b1 c + 64, 0] := by revert c; decide +kernel
theorem o266 : k0_off266 c = ![yk c + a0 c + 64, 0] := by revert c; decide +kernel
theorem o267 : k0_off267 c = ![yk c + a1 c + 64, 0] := by revert c; decide +kernel
theorem o268 : k0_off268 c = ![yk c + a1 c + 64, 0] := by revert c; decide +kernel

theorem ix2 : k0_off2 c = ![xsf c] := by revert c; decide +kernel
theorem ix20 : k0_off20 c = ![xsf c] := by revert c; decide +kernel
theorem ix33 : k0_off33 c = ![ysf c] := by revert c; decide +kernel
theorem ix51 : k0_off51 c = ![ysf c] := by revert c; decide +kernel
theorem ix64 : k0_off64 c = ![xso c] := by revert c; decide +kernel
theorem ix82 : k0_off82 c = ![xso c] := by revert c; decide +kernel
theorem ix93 : k0_off93 c = ![yso c] := by revert c; decide +kernel
theorem ix111 : k0_off111 c = ![yso c] := by revert c; decide +kernel
theorem ix122 : k0_off122 c = ![xkf c] := by revert c; decide +kernel
theorem ix140 : k0_off140 c = ![ykf c] := by revert c; decide +kernel
theorem ix158 : k0_off158 c = ![xko c] := by revert c; decide +kernel
theorem ix176 : k0_off176 c = ![yko c] := by revert c; decide +kernel
theorem ix193 : k0_off193 c = ![xkf c] := by revert c; decide +kernel
theorem ix207 : k0_off207 c = ![ykf c] := by revert c; decide +kernel
theorem ix231 : k0_off231 c = ![xko c] := by revert c; decide +kernel
theorem ix244 : k0_off244 c = ![yko c] := by revert c; decide +kernel

theorem dev1 : (⟨k0_dev1 c, k0_dev1_lt c⟩ : Dev nD) = pa c := by revert c; decide +kernel
theorem dev2 : (⟨k0_dev2 c, k0_dev2_lt c⟩ : Dev nD) = pb c := by revert c; decide +kernel
theorem dev3 : (⟨k0_dev3 c, k0_dev3_lt c⟩ : Dev nD) = peer 0 c := by revert c; decide +kernel
theorem dev4 : (⟨k0_dev4 c, k0_dev4_lt c⟩ : Dev nD) = peer 1 c := by revert c; decide +kernel
theorem dev5 : (⟨k0_dev5 c, k0_dev5_lt c⟩ : Dev nD) = peer 2 c := by revert c; decide +kernel
theorem dev6 : (⟨k0_dev6 c, k0_dev6_lt c⟩ : Dev nD) = peer 3 c := by revert c; decide +kernel
theorem dev7 : (⟨k0_dev7 c, k0_dev7_lt c⟩ : Dev nD) = peer 4 c := by revert c; decide +kernel
theorem dev8 : (⟨k0_dev8 c, k0_dev8_lt c⟩ : Dev nD) = peer 5 c := by revert c; decide +kernel
theorem dev9 : (⟨k0_dev9 c, k0_dev9_lt c⟩ : Dev nD) = peer 6 c := by revert c; decide +kernel
theorem dev10 : (⟨k0_dev10 c, k0_dev10_lt c⟩ : Dev nD) = peer 7 c := by revert c; decide +kernel
theorem dev11 : (⟨k0_dev11 c, k0_dev11_lt c⟩ : Dev nD) = peer 8 c := by revert c; decide +kernel
theorem dev12 : (⟨k0_dev12 c, k0_dev12_lt c⟩ : Dev nD) = peer 9 c := by revert c; decide +kernel
theorem dev13 : (⟨k0_dev13 c, k0_dev13_lt c⟩ : Dev nD) = peer 10 c := by revert c; decide +kernel
theorem dev14 : (⟨k0_dev14 c, k0_dev14_lt c⟩ : Dev nD) = peer 11 c := by revert c; decide +kernel
theorem dev15 : (⟨k0_dev15 c, k0_dev15_lt c⟩ : Dev nD) = peer 12 c := by revert c; decide +kernel
theorem dev16 : (⟨k0_dev16 c, k0_dev16_lt c⟩ : Dev nD) = peer 13 c := by revert c; decide +kernel
theorem dev17 : (⟨k0_dev17 c, k0_dev17_lt c⟩ : Dev nD) = peer 14 c := by revert c; decide +kernel
theorem dev18 : (⟨k0_dev18 c, k0_dev18_lt c⟩ : Dev nD) = peer 15 c := by revert c; decide +kernel
theorem dev19 : (⟨k0_dev19 c, k0_dev19_lt c⟩ : Dev nD) = peer 16 c := by revert c; decide +kernel
theorem dev20 : (⟨k0_dev20 c, k0_dev20_lt c⟩ : Dev nD) = peer 17 c := by revert c; decide +kernel
theorem dev21 : (⟨k0_dev21 c, k0_dev21_lt c⟩ : Dev nD) = peer 18 c := by revert c; decide +kernel
theorem dev22 : (⟨k0_dev22 c, k0_dev22_lt c⟩ : Dev nD) = peer 19 c := by revert c; decide +kernel
theorem dev23 : (⟨k0_dev23 c, k0_dev23_lt c⟩ : Dev nD) = peer 20 c := by revert c; decide +kernel
theorem dev24 : (⟨k0_dev24 c, k0_dev24_lt c⟩ : Dev nD) = peer 21 c := by revert c; decide +kernel

theorem xsf_row : 128 * xsf c = xs c + b0 c := by revert c; decide +kernel
theorem ysf_row : 128 * ysf c = ys c + a1 c := by revert c; decide +kernel
theorem xso_row : 128 * xso c = xs c + b1 c := by revert c; decide +kernel
theorem yso_row : 128 * yso c = ys c + a0 c := by revert c; decide +kernel
theorem xkf_row : 128 * xkf c = xk c + b0 c := by revert c; decide +kernel
theorem ykf_row : 128 * ykf c = yk c + a0 c := by revert c; decide +kernel
theorem xko_row : 128 * xko c = xk c + b1 c := by revert c; decide +kernel
theorem yko_row : 128 * yko c = yk c + a1 c := by revert c; decide +kernel

/-! ## The neighbours of a device -/

theorem xs_pa : xs (pa c) = xk c := by revert c; decide +kernel
theorem xk_pa : xk (pa c) = xs c := by revert c; decide +kernel
theorem ys_pa : ys (pa c) = ys c := by revert c; decide +kernel
theorem yk_pa : yk (pa c) = yk c := by revert c; decide +kernel
theorem a0_pa : a0 (pa c) = a1 c := by revert c; decide +kernel
theorem a1_pa : a1 (pa c) = a0 c := by revert c; decide +kernel
theorem b0_pa : b0 (pa c) = b0 c := by revert c; decide +kernel
theorem b1_pa : b1 (pa c) = b1 c := by revert c; decide +kernel
theorem xs_pb : xs (pb c) = xs c := by revert c; decide +kernel
theorem xk_pb : xk (pb c) = xk c := by revert c; decide +kernel
theorem ys_pb : ys (pb c) = yk c := by revert c; decide +kernel
theorem yk_pb : yk (pb c) = ys c := by revert c; decide +kernel
theorem a0_pb : a0 (pb c) = a1 c := by revert c; decide +kernel
theorem a1_pb : a1 (pb c) = a0 c := by revert c; decide +kernel
theorem b0_pb : b0 (pb c) = b1 c := by revert c; decide +kernel
theorem b1_pb : b1 (pb c) = b0 c := by revert c; decide +kernel

variable (G : Dev nD → ℕ → ℕ → Elt F .f32)

/-! ## What each message hands over, from its sender's side -/

theorem rcv0 : rcvPay G (peer 0 c) 0 = Land (peer 0 c) x1V c (b0 c) 64 (xs c) (G c) (xs c + b0 c) := by
  rw [show peer 0 c = pa c from rfl]; simp only [rcvPay, pa_pa, xs_pa, xk_pa, ys_pa, yk_pa, a0_pa, a1_pa, b0_pa, b1_pa, xs_pb, xk_pb, ys_pb, yk_pb, a0_pb, a1_pb, b0_pb, b1_pb] <;> rfl
theorem rcv1 : rcvPay G (peer 1 c) 1 = Land (peer 1 c) x1V c (b0 c + 64) 64 (xs c) (G c) (xs c + b0 c + 64) := by
  rw [show peer 1 c = pa c from rfl]; simp only [rcvPay, pa_pa, xs_pa, xk_pa, ys_pa, yk_pa, a0_pa, a1_pa, b0_pa, b1_pa, xs_pb, xk_pb, ys_pb, yk_pb, a0_pb, a1_pb, b0_pb, b1_pb] <;> rfl
theorem rcv2 : rcvPay G (peer 2 c) 2 = Land (peer 2 c) y1V c (a1 c) 64 (ys c) (G c) (ys c + a1 c) := by
  rw [show peer 2 c = pb c from rfl]; simp only [rcvPay, pb_pb, xs_pa, xk_pa, ys_pa, yk_pa, a0_pa, a1_pa, b0_pa, b1_pa, xs_pb, xk_pb, ys_pb, yk_pb, a0_pb, a1_pb, b0_pb, b1_pb] <;> rfl
theorem rcv3 : rcvPay G (peer 3 c) 3 = Land (peer 3 c) y1V c (a1 c + 64) 64 (ys c) (G c) (ys c + a1 c + 64) := by
  rw [show peer 3 c = pb c from rfl]; simp only [rcvPay, pb_pb, xs_pa, xk_pa, ys_pa, yk_pa, a0_pa, a1_pa, b0_pa, b1_pa, xs_pb, xk_pb, ys_pb, yk_pb, a0_pb, a1_pb, b0_pb, b1_pb] <;> rfl
theorem rcv4 : rcvPay G (peer 4 c) 4 = Land (peer 4 c) x1V c (b1 c) 128 (xs c) (G c) (xs c + b1 c) := by
  rw [show peer 4 c = pa c from rfl]; simp only [rcvPay, pa_pa, xs_pa, xk_pa, ys_pa, yk_pa, a0_pa, a1_pa, b0_pa, b1_pa, xs_pb, xk_pb, ys_pb, yk_pb, a0_pb, a1_pb, b0_pb, b1_pb] <;> rfl
theorem rcv5 : rcvPay G (peer 5 c) 5 = Land (peer 5 c) y1V c (a0 c) 128 (ys c) (G c) (ys c + a0 c) := by
  rw [show peer 5 c = pb c from rfl]; simp only [rcvPay, pb_pb, xs_pa, xk_pa, ys_pa, yk_pa, a0_pa, a1_pa, b0_pa, b1_pa, xs_pb, xk_pb, ys_pb, yk_pb, a0_pb, a1_pb, b0_pb, b1_pb] <;> rfl
theorem rcv6 : rcvPay G (peer 6 c) 6 = Land (peer 6 c) x2V c (0) 64 (xk c + b0 c) (H1x G c) (xk c + b0 c) := by
  rw [show peer 6 c = pb c from rfl]; simp only [rcvPay, pb_pb, xs_pa, xk_pa, ys_pa, yk_pa, a0_pa, a1_pa, b0_pa, b1_pa, xs_pb, xk_pb, ys_pb, yk_pb, a0_pb, a1_pb, b0_pb, b1_pb] <;> rfl
theorem rcv7 : rcvPay G (peer 7 c) 7 = Land (peer 7 c) y2V c (0) 64 (yk c + a0 c) (H1y G c) (yk c + a0 c) := by
  rw [show peer 7 c = pa c from rfl]; simp only [rcvPay, pa_pa, xs_pa, xk_pa, ys_pa, yk_pa, a0_pa, a1_pa, b0_pa, b1_pa, xs_pb, xk_pb, ys_pb, yk_pb, a0_pb, a1_pb, b0_pb, b1_pb] <;> rfl
theorem rcv8 : rcvPay G (peer 8 c) 8 = Land (peer 8 c) x2V c (64) 64 (xk c + b0 c) (H1x G c) (xk c + b0 c + 64) := by
  rw [show peer 8 c = pb c from rfl]; simp only [rcvPay, pb_pb, xs_pa, xk_pa, ys_pa, yk_pa, a0_pa, a1_pa, b0_pa, b1_pa, xs_pb, xk_pb, ys_pb, yk_pb, a0_pb, a1_pb, b0_pb, b1_pb] <;> rfl
theorem rcv9 : rcvPay G (peer 9 c) 9 = Land (peer 9 c) y2V c (64) 64 (yk c + a0 c) (H1y G c) (yk c + a0 c + 64) := by
  rw [show peer 9 c = pa c from rfl]; simp only [rcvPay, pa_pa, xs_pa, xk_pa, ys_pa, yk_pa, a0_pa, a1_pa, b0_pa, b1_pa, xs_pb, xk_pb, ys_pb, yk_pb, a0_pb, a1_pb, b0_pb, b1_pb] <;> rfl
theorem rcv10 : rcvPay G (peer 10 c) 10 = Blk oV (peer 10 c) (xk c + b1 c) 64 fullShare 0 (Fin1 G) := by
  rw [show peer 10 c = pb c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv11 : rcvPay G (peer 11 c) 11 = Blk oV (peer 11 c) (xk c + b1 c) 64 fullShare 0 (Fin1 G) := by
  rw [show peer 11 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv12 : rcvPay G (peer 12 c) 12 = Blk oV (peer 12 c) (yk c + a1 c) 64 fullShare 0 (Fin1 G) := by
  rw [show peer 12 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv13 : rcvPay G (peer 13 c) 13 = Blk oV (peer 13 c) (yk c + a1 c) 64 fullShare 0 (Fin1 G) := by
  rw [show peer 13 c = pb c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv14 : rcvPay G (peer 14 c) 14 = Blk oV (peer 14 c) (xk c + b1 c + 64) 64 fullShare 0 (Fin1 G) := by
  rw [show peer 14 c = pb c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv15 : rcvPay G (peer 15 c) 15 = Blk oV (peer 15 c) (xk c + b1 c + 64) 64 fullShare 0 (Fin1 G) := by
  rw [show peer 15 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv16 : rcvPay G (peer 16 c) 16 = Blk oV (peer 16 c) (yk c + a1 c + 64) 64 fullShare 0 (Fin1 G) := by
  rw [show peer 16 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv17 : rcvPay G (peer 17 c) 17 = Blk oV (peer 17 c) (yk c + a1 c + 64) 64 fullShare 0 (Fin1 G) := by
  rw [show peer 17 c = pb c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv18 : rcvPay G (peer 18 c) 18 = Blk oV (peer 18 c) (xk c + b0 c) 64 fullShare 0 (Fin1 G) := by
  rw [show peer 18 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv19 : rcvPay G (peer 19 c) 19 = Blk oV (peer 19 c) (yk c + a0 c) 64 fullShare 0 (Fin1 G) := by
  rw [show peer 19 c = pb c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv20 : rcvPay G (peer 20 c) 20 = Blk oV (peer 20 c) (xk c + b0 c + 64) 64 fullShare 0 (Fin1 G) := by
  rw [show peer 20 c = pa c from rfl]; simp only [rcvPay, xs_pa, xk_pa, ys_pa, yk_pa, a0_pa, a1_pa, b0_pa, b1_pa, xs_pb, xk_pb, ys_pb, yk_pb, a0_pb, a1_pb, b0_pb, b1_pb] <;> rfl
theorem rcv21 : rcvPay G (peer 21 c) 21 = Blk oV (peer 21 c) (yk c + a0 c + 64) 64 fullShare 0 (Fin1 G) := by
  rw [show peer 21 c = pb c from rfl]; simp only [rcvPay, xs_pa, xk_pa, ys_pa, yk_pa, a0_pa, a1_pa, b0_pa, b1_pa, xs_pb, xk_pb, ys_pb, yk_pb, a0_pb, a1_pb, b0_pb, b1_pb] <;> rfl

end Places

end Cert.GatherProof
end
-- ==== Proof.Msgs.lean ====
/- The sends of the exchange, one by one, and its waits. -/
module

public import proofs.«01_k».proof.Proof.Places

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Messages

variable (G : Dev nD → ℕ → ℕ → Elt F .f32) (κ : GSem nD τ sig → ℕ) (c : Dev nD)

/-- A wait of the exchange, with what it brings named. -/
theorem wp_arrive {sp sp' : Space} {s s' : Shape} {e e' : EltTy} (t : Fin 44) {n t₀ t₁ : ℕ} {q : DmaSem sig} {src : Memref sig .tc sp' s' e'} {dst : Memref sig .tc sp s e}
    {hsrc hdst} {X : sProp 𝕄} {α : Type} {k : PUnit → Prog (TpuEff nD τ sig (Elt F) Λ₀ .tc) α} {Q : α → sProp 𝕄} (ht : t₀ = t.val) (ht' : t₁ = t.val + 1) (hX : msgPay G c (wmsg t) = X)
    (hq : SemLoc.dma q = msem (wmsg t)) (hN : dst.view.dmaCredit = amt (wmsg t).2) (hn : (wmsg t).2.val < n) :
    iprop(Ctx G κ c ∗ Proto n t₀ c)
      ⊢ iprop((Proto n t₁ c -∗ X -∗ wp frame (wpE (defs₀ (F := F)) 𝒱₀ c none) Set.univ (k ⟨⟩) Q) -∗ wp frame (wpE (defs₀ (F := F)) 𝒱₀ c none) Set.univ (.op (.waitDma2 q src dst hsrc hdst) k) Q) := by
  subst ht ht' hX
  exact wp_await G κ c t hq hN hn

theorem amt64 (i : Fin 22) (h : ¬(i = 4 ∨ i = 5)) : amt i = n64 := if_neg h
theorem amt128 (i : Fin 22) (h : i = 4 ∨ i = 5) : amt i = n128 := if_pos h

theorem send0 {j : ℕ} {inb : ∀ a, k0_off30 c a + S64x1024.size a ≤ S1024x1024.size a} {inb' : ∀ a, (k0_off29 c) a + S64x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 0) (hR : sR = rcvS 0) (hj : j ≤ 0) :
    iprop(Ctx G κ c ∗ Proto 0 j c ∗ Blk oV c (xs c + b0 c) 64 fullShare 0 (G c) ∗ Any x1V (pa c) (b0 c) 64)
      ⊢ iprop((Proto 1 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off30 c) S64x1024.size inb) hs)
              (.remote (Dev.tc (⟨k0_dev3 c, k0_dev3_lt c⟩ : Dev nD)) (x1M.slice (Rect.unit (s := S256x1024) (k0_off29 c) S64x1024.size inb') hs') (.dma sS) hsc) (.dma sR) hsrc hdst hsem) k) Q) :=
  wp_land G κ c 0 (dev3 c) hS hR (congrFun (o30 c) 0) (congrFun (o30 c) 1) (congrFun (o29 c) 0) (congrFun (o29 c) 1) (by omega) (amt64 0 (by decide)).symm (hj.trans_eq (show 0 = (tOf 0).val by decide)) rfl (rcv0 c G)
theorem send1 {j : ℕ} {inb : ∀ a, k0_off32 c a + S64x1024.size a ≤ S1024x1024.size a} {inb' : ∀ a, (k0_off31 c) a + S64x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 1) (hR : sR = rcvS 1) (hj : j ≤ 4) :
    iprop(Ctx G κ c ∗ Proto 1 j c ∗ Blk oV c (xs c + b0 c + 64) 64 fullShare 0 (G c) ∗ Any x1V (pa c) (b0 c + 64) 64)
      ⊢ iprop((Proto 2 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off32 c) S64x1024.size inb) hs)
              (.remote (Dev.tc (⟨k0_dev4 c, k0_dev4_lt c⟩ : Dev nD)) (x1M.slice (Rect.unit (s := S256x1024) (k0_off31 c) S64x1024.size inb') hs') (.dma sS) hsc) (.dma sR) hsrc hdst hsem) k) Q) :=
  wp_land G κ c 1 (dev4 c) hS hR (congrFun (o32 c) 0) (congrFun (o32 c) 1) (congrFun (o31 c) 0) (congrFun (o31 c) 1) (by omega) (amt64 1 (by decide)).symm (hj.trans_eq (show 4 = (tOf 1).val by decide)) rfl (rcv1 c G)
theorem send2 {j : ℕ} {inb : ∀ a, k0_off61 c a + S64x1024.size a ≤ S1024x1024.size a} {inb' : ∀ a, (k0_off60 c) a + S64x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 2) (hR : sR = rcvS 2) (hj : j ≤ 2) :
    iprop(Ctx G κ c ∗ Proto 2 j c ∗ Blk oV c (ys c + a1 c) 64 fullShare 0 (G c) ∗ Any y1V (pb c) (a1 c) 64)
      ⊢ iprop((Proto 3 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off61 c) S64x1024.size inb) hs)
              (.remote (Dev.tc (⟨k0_dev5 c, k0_dev5_lt c⟩ : Dev nD)) (y1M.slice (Rect.unit (s := S256x1024) (k0_off60 c) S64x1024.size inb') hs') (.dma sS) hsc) (.dma sR) hsrc hdst hsem) k) Q) :=
  wp_land G κ c 2 (dev5 c) hS hR (congrFun (o61 c) 0) (congrFun (o61 c) 1) (congrFun (o60 c) 0) (congrFun (o60 c) 1) (by omega) (amt64 2 (by decide)).symm (hj.trans_eq (show 2 = (tOf 2).val by decide)) rfl (rcv2 c G)
theorem send3 {j : ℕ} {inb : ∀ a, k0_off63 c a + S64x1024.size a ≤ S1024x1024.size a} {inb' : ∀ a, (k0_off62 c) a + S64x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 3) (hR : sR = rcvS 3) (hj : j ≤ 6) :
    iprop(Ctx G κ c ∗ Proto 3 j c ∗ Blk oV c (ys c + a1 c + 64) 64 fullShare 0 (G c) ∗ Any y1V (pb c) (a1 c + 64) 64)
      ⊢ iprop((Proto 4 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off63 c) S64x1024.size inb) hs)
              (.remote (Dev.tc (⟨k0_dev6 c, k0_dev6_lt c⟩ : Dev nD)) (y1M.slice (Rect.unit (s := S256x1024) (k0_off62 c) S64x1024.size inb') hs') (.dma sS) hsc) (.dma sR) hsrc hdst hsem) k) Q) :=
  wp_land G κ c 3 (dev6 c) hS hR (congrFun (o63 c) 0) (congrFun (o63 c) 1) (congrFun (o62 c) 0) (congrFun (o62 c) 1) (by omega) (amt64 3 (by decide)).symm (hj.trans_eq (show 6 = (tOf 3).val by decide)) rfl (rcv3 c G)
theorem send4 {j : ℕ} {inb : ∀ a, k0_off92 c a + S128x1024.size a ≤ S1024x1024.size a} {inb' : ∀ a, (k0_off91 c) a + S128x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 4) (hR : sR = rcvS 4) (hj : j ≤ 8) :
    iprop(Ctx G κ c ∗ Proto 4 j c ∗ Blk oV c (xs c + b1 c) 128 fullShare 0 (G c) ∗ Any x1V (pa c) (b1 c) 128)
      ⊢ iprop((Proto 5 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off92 c) S128x1024.size inb) hs)
              (.remote (Dev.tc (⟨k0_dev7 c, k0_dev7_lt c⟩ : Dev nD)) (x1M.slice (Rect.unit (s := S256x1024) (k0_off91 c) S128x1024.size inb') hs') (.dma sS) hsc) (.dma sR) hsrc hdst hsem) k) Q) :=
  wp_land G κ c 4 (dev7 c) hS hR (congrFun (o92 c) 0) (congrFun (o92 c) 1) (congrFun (o91 c) 0) (congrFun (o91 c) 1) (by omega) (amt128 4 (by decide)).symm (hj.trans_eq (show 8 = (tOf 4).val by decide)) rfl (rcv4 c G)
theorem send5 {j : ℕ} {inb : ∀ a, k0_off121 c a + S128x1024.size a ≤ S1024x1024.size a} {inb' : ∀ a, (k0_off120 c) a + S128x1024.size a ≤ S256x1024.size a} {hs hs'}
    {sS sR : DmaSem sig} {hsc} {hsrc hdst hsem} {α : Type} {k : PUnit → Prog (TpuEff nD τ sig (Elt F) Λ₀ .tc) α} {Q : α → sProp 𝕄} (hS : sS = sndS 5) (hR : sR = rcvS 5) (hj : j ≤ 10) :
    iprop(Ctx G κ c ∗ Proto 5 j c ∗ Blk oV c (ys c + a0 c) 128 fullShare 0 (G c) ∗ Any y1V (pb c) (a0 c) 128)
      ⊢ iprop((Proto 6 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off121 c) S128x1024.size inb) hs)
              (.remote (Dev.tc (⟨k0_dev8 c, k0_dev8_lt c⟩ : Dev nD)) (y1M.slice (Rect.unit (s := S256x1024) (k0_off120 c) S128x1024.size inb') hs') (.dma sS) hsc) (.dma sR) hsrc hdst hsem) k) Q) :=
  wp_land G κ c 5 (dev8 c) hS hR (congrFun (o121 c) 0) (congrFun (o121 c) 1) (congrFun (o120 c) 0) (congrFun (o120 c) 1) (by omega) (amt128 5 (by decide)).symm (hj.trans_eq (show 10 = (tOf 5).val by decide)) rfl (rcv5 c G)
theorem send6 {j : ℕ} {inb : ∀ a, k0_off206 c a + S64x1024.size a ≤ S1024x1024.size a} {inb' : ∀ a, (![0, 0]) a + S64x1024.size a ≤ S128x1024.size a} {hs hs'}
    {sS sR : DmaSem sig} {hsc} {hsrc hdst hsem} {α : Type} {k : PUnit → Prog (TpuEff nD τ sig (Elt F) Λ₀ .tc) α} {Q : α → sProp 𝕄} (hS : sS = sndS 6) (hR : sR = rcvS 6) (hj : j ≤ 12) :
    iprop(Ctx G κ c ∗ Proto 6 j c ∗ Blk oV c (xk c + b0 c) 64 fullShare 0 (H1x G c) ∗ Any x2V (pb c) (0) 64)
      ⊢ iprop((Proto 7 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off206 c) S64x1024.size inb) hs)
              (.remote (Dev.tc (⟨k0_dev9 c, k0_dev9_lt c⟩ : Dev nD)) (x2M.slice (Rect.unit (s := S128x1024) (![0, 0]) S64x1024.size inb') hs') (.dma sS) hsc) (.dma sR) hsrc hdst hsem) k) Q) :=
  wp_land G κ c 6 (dev9 c) hS hR (congrFun (o206 c) 0) (congrFun (o206 c) 1) rfl rfl (by omega) (amt64 6 (by decide)).symm (hj.trans_eq (show 12 = (tOf 6).val by decide)) rfl (rcv6 c G)
theorem send7 {j : ℕ} {inb : ∀ a, k0_off220 c a + S64x1024.size a ≤ S1024x1024.size a} {inb' : ∀ a, (![0, 0]) a + S64x1024.size a ≤ S128x1024.size a} {hs hs'}
    {sS sR : DmaSem sig} {hsc} {hsrc hdst hsem} {α : Type} {k : PUnit → Prog (TpuEff nD τ sig (Elt F) Λ₀ .tc) α} {Q : α → sProp 𝕄} (hS : sS = sndS 7) (hR : sR = rcvS 7) (hj : j ≤ 14) :
    iprop(Ctx G κ c ∗ Proto 7 j c ∗ Blk oV c (yk c + a0 c) 64 fullShare 0 (H1y G c) ∗ Any y2V (pa c) (0) 64)
      ⊢ iprop((Proto 8 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off220 c) S64x1024.size inb) hs)
              (.remote (Dev.tc (⟨k0_dev10 c, k0_dev10_lt c⟩ : Dev nD)) (y2M.slice (Rect.unit (s := S128x1024) (![0, 0]) S64x1024.size inb') hs') (.dma sS) hsc) (.dma sR) hsrc hdst hsem) k) Q) :=
  wp_land G κ c 7 (dev10 c) hS hR (congrFun (o220 c) 0) (congrFun (o220 c) 1) rfl rfl (by omega) (amt64 7 (by decide)).symm (hj.trans_eq (show 14 = (tOf 7).val by decide)) rfl (rcv7 c G)
theorem send8 {j : ℕ} {inb : ∀ a, k0_off225 c a + S64x1024.size a ≤ S1024x1024.size a} {inb' : ∀ a, (![64, 0]) a + S64x1024.size a ≤ S128x1024.size a} {hs hs'}
    {sS sR : DmaSem sig} {hsc} {hsrc hdst hsem} {α : Type} {k : PUnit → Prog (TpuEff nD τ sig (Elt F) Λ₀ .tc) α} {Q : α → sProp 𝕄} (hS : sS = sndS 8) (hR : sR = rcvS 8) (hj : j ≤ 16) :
    iprop(Ctx G κ c ∗ Proto 8 j c ∗ Blk oV c (xk c + b0 c + 64) 64 fullShare 0 (H1x G c) ∗ Any x2V (pb c) (64) 64)
      ⊢ iprop((Proto 9 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off225 c) S64x1024.size inb) hs)
              (.remote (Dev.tc (⟨k0_dev11 c, k0_dev11_lt c⟩ : Dev nD)) (x2M.slice (Rect.unit (s := S128x1024) (![64, 0]) S64x1024.size inb') hs') (.dma sS) hsc) (.dma sR) hsrc hdst hsem) k) Q) :=
  wp_land G κ c 8 (dev11 c) hS hR (congrFun (o225 c) 0) (congrFun (o225 c) 1) rfl rfl (by omega) (amt64 8 (by decide)).symm (hj.trans_eq (show 16 = (tOf 8).val by decide)) rfl (rcv8 c G)
theorem send9 {j : ℕ} {inb : ∀ a, k0_off230 c a + S64x1024.size a ≤ S1024x1024.size a} {inb' : ∀ a, (![64, 0]) a + S64x1024.size a ≤ S128x1024.size a} {hs hs'}
    {sS sR : DmaSem sig} {hsc} {hsrc hdst hsem} {α : Type} {k : PUnit → Prog (TpuEff nD τ sig (Elt F) Λ₀ .tc) α} {Q : α → sProp 𝕄} (hS : sS = sndS 9) (hR : sR = rcvS 9) (hj : j ≤ 18) :
    iprop(Ctx G κ c ∗ Proto 9 j c ∗ Blk oV c (yk c + a0 c + 64) 64 fullShare 0 (H1y G c) ∗ Any y2V (pa c) (64) 64)
      ⊢ iprop((Proto 10 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off230 c) S64x1024.size inb) hs)
              (.remote (Dev.tc (⟨k0_dev12 c, k0_dev12_lt c⟩ : Dev nD)) (y2M.slice (Rect.unit (s := S128x1024) (![64, 0]) S64x1024.size inb') hs') (.dma sS) hsc) (.dma sR) hsrc hdst hsem) k) Q) :=
  wp_land G κ c 9 (dev12 c) hS hR (congrFun (o230 c) 0) (congrFun (o230 c) 1) rfl rfl (by omega) (amt64 9 (by decide)).symm (hj.trans_eq (show 18 = (tOf 9).val by decide)) rfl (rcv9 c G)
theorem send10 {j : ℕ} {inb : ∀ a, k0_off259 c a + S64x1024.size a ≤ S1024x1024.size a} {inb' : ∀ a, (k0_off259 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 10) (hR : sR = rcvS 10) (hj : j ≤ 20) :
    iprop(Ctx G κ c ∗ Proto 10 j c ∗ Blk oV c (xk c + b1 c) 64 fullShare.left 0 (Fin1 G) ∗ Any oV (pb c) (xk c + b1 c) 64)
      ⊢ iprop((Proto 11 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off259 c) S64x1024.size inb) hs)
              (.remote (Dev.tc (⟨k0_dev13 c, k0_dev13_lt c⟩ : Dev nD)) (oM.slice (Rect.unit (s := S1024x1024) (k0_off259 c) S64x1024.size inb') hs') (.dma sS) hsc) (.dma sR) hsrc hdst hsem) k) Q) :=
  wp_give G κ c 10 (fullShare.left) (dev13 c) hS hR (congrFun (o259 c) 0) (congrFun (o259 c) 1) (congrFun (o259 c) 0) (congrFun (o259 c) 1) (amt64 10 (by decide)).symm (hj.trans_eq (show 20 = (tOf 10).val by decide)) rfl (rcv10 c G)
theorem send11 {j : ℕ} {inb : ∀ a, k0_off259 c a + S64x1024.size a ≤ S1024x1024.size a} {inb' : ∀ a, (k0_off259 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 11) (hR : sR = rcvS 11) (hj : j ≤ 28) :
    iprop(Ctx G κ c ∗ Proto 11 j c ∗ Blk oV c (xk c + b1 c) 64 fullShare.right 0 (Fin1 G) ∗ Any oV (pa c) (xk c + b1 c) 64)
      ⊢ iprop((Proto 12 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off259 c) S64x1024.size inb) hs)
              (.remote (Dev.tc (⟨k0_dev14 c, k0_dev14_lt c⟩ : Dev nD)) (oM.slice (Rect.unit (s := S1024x1024) (k0_off259 c) S64x1024.size inb') hs') (.dma sS) hsc) (.dma sR) hsrc hdst hsem) k) Q) :=
  wp_give G κ c 11 (fullShare.right) (dev14 c) hS hR (congrFun (o259 c) 0) (congrFun (o259 c) 1) (congrFun (o259 c) 0) (congrFun (o259 c) 1) (amt64 11 (by decide)).symm (hj.trans_eq (show 28 = (tOf 11).val by decide)) rfl (rcv11 c G)
theorem send12 {j : ℕ} {inb : ∀ a, k0_off262 c a + S64x1024.size a ≤ S1024x1024.size a} {inb' : ∀ a, (k0_off262 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 12) (hR : sR = rcvS 12) (hj : j ≤ 22) :
    iprop(Ctx G κ c ∗ Proto 12 j c ∗ Blk oV c (yk c + a1 c) 64 fullShare.left 0 (Fin1 G) ∗ Any oV (pa c) (yk c + a1 c) 64)
      ⊢ iprop((Proto 13 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off262 c) S64x1024.size inb) hs)
              (.remote (Dev.tc (⟨k0_dev15 c, k0_dev15_lt c⟩ : Dev nD)) (oM.slice (Rect.unit (s := S1024x1024) (k0_off262 c) S64x1024.size inb') hs') (.dma sS) hsc) (.dma sR) hsrc hdst hsem) k) Q) :=
  wp_give G κ c 12 (fullShare.left) (dev15 c) hS hR (congrFun (o262 c) 0) (congrFun (o262 c) 1) (congrFun (o262 c) 0) (congrFun (o262 c) 1) (amt64 12 (by decide)).symm (hj.trans_eq (show 22 = (tOf 12).val by decide)) rfl (rcv12 c G)
theorem send13 {j : ℕ} {inb : ∀ a, k0_off262 c a + S64x1024.size a ≤ S1024x1024.size a} {inb' : ∀ a, (k0_off262 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 13) (hR : sR = rcvS 13) (hj : j ≤ 36) :
    iprop(Ctx G κ c ∗ Proto 13 j c ∗ Blk oV c (yk c + a1 c) 64 fullShare.right 0 (Fin1 G) ∗ Any oV (pb c) (yk c + a1 c) 64)
      ⊢ iprop((Proto 14 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off262 c) S64x1024.size inb) hs)
              (.remote (Dev.tc (⟨k0_dev16 c, k0_dev16_lt c⟩ : Dev nD)) (oM.slice (Rect.unit (s := S1024x1024) (k0_off262 c) S64x1024.size inb') hs') (.dma sS) hsc) (.dma sR) hsrc hdst hsem) k) Q) :=
  wp_give G κ c 13 (fullShare.right) (dev16 c) hS hR (congrFun (o262 c) 0) (congrFun (o262 c) 1) (congrFun (o262 c) 0) (congrFun (o262 c) 1) (amt64 13 (by decide)).symm (hj.trans_eq (show 36 = (tOf 13).val by decide)) rfl (rcv13 c G)
theorem send14 {j : ℕ} {inb : ∀ a, k0_off265 c a + S64x1024.size a ≤ S1024x1024.size a} {inb' : ∀ a, (k0_off265 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 14) (hR : sR = rcvS 14) (hj : j ≤ 24) :
    iprop(Ctx G κ c ∗ Proto 14 j c ∗ Blk oV c (xk c + b1 c + 64) 64 fullShare.left 0 (Fin1 G) ∗ Any oV (pb c) (xk c + b1 c + 64) 64)
      ⊢ iprop((Proto 15 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off265 c) S64x1024.size inb) hs)
              (.remote (Dev.tc (⟨k0_dev17 c, k0_dev17_lt c⟩ : Dev nD)) (oM.slice (Rect.unit (s := S1024x1024) (k0_off265 c) S64x1024.size inb') hs') (.dma sS) hsc) (.dma sR) hsrc hdst hsem) k) Q) :=
  wp_give G κ c 14 (fullShare.left) (dev17 c) hS hR (congrFun (o265 c) 0) (congrFun (o265 c) 1) (congrFun (o265 c) 0) (congrFun (o265 c) 1) (amt64 14 (by decide)).symm (hj.trans_eq (show 24 = (tOf 14).val by decide)) rfl (rcv14 c G)
theorem send15 {j : ℕ} {inb : ∀ a, k0_off265 c a + S64x1024.size a ≤ S1024x1024.size a} {inb' : ∀ a, (k0_off265 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 15) (hR : sR = rcvS 15) (hj : j ≤ 30) :
    iprop(Ctx G κ c ∗ Proto 15 j c ∗ Blk oV c (xk c + b1 c + 64) 64 fullShare.right 0 (Fin1 G) ∗ Any oV (pa c) (xk c + b1 c + 64) 64)
      ⊢ iprop((Proto 16 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off265 c) S64x1024.size inb) hs)
              (.remote (Dev.tc (⟨k0_dev18 c, k0_dev18_lt c⟩ : Dev nD)) (oM.slice (Rect.unit (s := S1024x1024) (k0_off265 c) S64x1024.size inb') hs') (.dma sS) hsc) (.dma sR) hsrc hdst hsem) k) Q) :=
  wp_give G κ c 15 (fullShare.right) (dev18 c) hS hR (congrFun (o265 c) 0) (congrFun (o265 c) 1) (congrFun (o265 c) 0) (congrFun (o265 c) 1) (amt64 15 (by decide)).symm (hj.trans_eq (show 30 = (tOf 15).val by decide)) rfl (rcv15 c G)
theorem send16 {j : ℕ} {inb : ∀ a, k0_off268 c a + S64x1024.size a ≤ S1024x1024.size a} {inb' : ∀ a, (k0_off268 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 16) (hR : sR = rcvS 16) (hj : j ≤ 26) :
    iprop(Ctx G κ c ∗ Proto 16 j c ∗ Blk oV c (yk c + a1 c + 64) 64 fullShare.left 0 (Fin1 G) ∗ Any oV (pa c) (yk c + a1 c + 64) 64)
      ⊢ iprop((Proto 17 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off268 c) S64x1024.size inb) hs)
              (.remote (Dev.tc (⟨k0_dev19 c, k0_dev19_lt c⟩ : Dev nD)) (oM.slice (Rect.unit (s := S1024x1024) (k0_off268 c) S64x1024.size inb') hs') (.dma sS) hsc) (.dma sR) hsrc hdst hsem) k) Q) :=
  wp_give G κ c 16 (fullShare.left) (dev19 c) hS hR (congrFun (o268 c) 0) (congrFun (o268 c) 1) (congrFun (o268 c) 0) (congrFun (o268 c) 1) (amt64 16 (by decide)).symm (hj.trans_eq (show 26 = (tOf 16).val by decide)) rfl (rcv16 c G)
theorem send17 {j : ℕ} {inb : ∀ a, k0_off268 c a + S64x1024.size a ≤ S1024x1024.size a} {inb' : ∀ a, (k0_off268 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 17) (hR : sR = rcvS 17) (hj : j ≤ 38) :
    iprop(Ctx G κ c ∗ Proto 17 j c ∗ Blk oV c (yk c + a1 c + 64) 64 fullShare.right 0 (Fin1 G) ∗ Any oV (pb c) (yk c + a1 c + 64) 64)
      ⊢ iprop((Proto 18 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off268 c) S64x1024.size inb) hs)
              (.remote (Dev.tc (⟨k0_dev20 c, k0_dev20_lt c⟩ : Dev nD)) (oM.slice (Rect.unit (s := S1024x1024) (k0_off268 c) S64x1024.size inb') hs') (.dma sS) hsc) (.dma sR) hsrc hdst hsem) k) Q) :=
  wp_give G κ c 17 (fullShare.right) (dev20 c) hS hR (congrFun (o268 c) 0) (congrFun (o268 c) 1) (congrFun (o268 c) 0) (congrFun (o268 c) 1) (amt64 17 (by decide)).symm (hj.trans_eq (show 38 = (tOf 17).val by decide)) rfl (rcv17 c G)
theorem send18 {j : ℕ} {inb : ∀ a, k0_off257 c a + S64x1024.size a ≤ S1024x1024.size a} {inb' : ∀ a, (k0_off257 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 18) (hR : sR = rcvS 18) (hj : j ≤ 32) :
    iprop(Ctx G κ c ∗ Proto 18 j c ∗ Blk oV c (xk c + b0 c) 64 fullShare 0 (Fin1 G) ∗ Any oV (pa c) (xk c + b0 c) 64)
      ⊢ iprop((Proto 19 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off257 c) S64x1024.size inb) hs)
              (.remote (Dev.tc (⟨k0_dev21 c, k0_dev21_lt c⟩ : Dev nD)) (oM.slice (Rect.unit (s := S1024x1024) (k0_off257 c) S64x1024.size inb') hs') (.dma sS) hsc) (.dma sR) hsrc hdst hsem) k) Q) :=
  wp_give G κ c 18 (fullShare) (dev21 c) hS hR (congrFun (o257 c) 0) (congrFun (o257 c) 1) (congrFun (o257 c) 0) (congrFun (o257 c) 1) (amt64 18 (by decide)).symm (hj.trans_eq (show 32 = (tOf 18).val by decide)) rfl (rcv18 c G)
theorem send19 {j : ℕ} {inb : ∀ a, k0_off260 c a + S64x1024.size a ≤ S1024x1024.size a} {inb' : ∀ a, (k0_off260 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 19) (hR : sR = rcvS 19) (hj : j ≤ 40) :
    iprop(Ctx G κ c ∗ Proto 19 j c ∗ Blk oV c (yk c + a0 c) 64 fullShare 0 (Fin1 G) ∗ Any oV (pb c) (yk c + a0 c) 64)
      ⊢ iprop((Proto 20 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off260 c) S64x1024.size inb) hs)
              (.remote (Dev.tc (⟨k0_dev22 c, k0_dev22_lt c⟩ : Dev nD)) (oM.slice (Rect.unit (s := S1024x1024) (k0_off260 c) S64x1024.size inb') hs') (.dma sS) hsc) (.dma sR) hsrc hdst hsem) k) Q) :=
  wp_give G κ c 19 (fullShare) (dev22 c) hS hR (congrFun (o260 c) 0) (congrFun (o260 c) 1) (congrFun (o260 c) 0) (congrFun (o260 c) 1) (amt64 19 (by decide)).symm (hj.trans_eq (show 40 = (tOf 19).val by decide)) rfl (rcv19 c G)
theorem send20 {j : ℕ} {inb : ∀ a, k0_off263 c a + S64x1024.size a ≤ S1024x1024.size a} {inb' : ∀ a, (k0_off263 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 20) (hR : sR = rcvS 20) (hj : j ≤ 34) :
    iprop(Ctx G κ c ∗ Proto 20 j c ∗ Blk oV c (xk c + b0 c + 64) 64 fullShare 0 (Fin1 G) ∗ Any oV (pa c) (xk c + b0 c + 64) 64)
      ⊢ iprop((Proto 21 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off263 c) S64x1024.size inb) hs)
              (.remote (Dev.tc (⟨k0_dev23 c, k0_dev23_lt c⟩ : Dev nD)) (oM.slice (Rect.unit (s := S1024x1024) (k0_off263 c) S64x1024.size inb') hs') (.dma sS) hsc) (.dma sR) hsrc hdst hsem) k) Q) :=
  wp_give G κ c 20 (fullShare) (dev23 c) hS hR (congrFun (o263 c) 0) (congrFun (o263 c) 1) (congrFun (o263 c) 0) (congrFun (o263 c) 1) (amt64 20 (by decide)).symm (hj.trans_eq (show 34 = (tOf 20).val by decide)) rfl (rcv20 c G)
theorem send21 {j : ℕ} {inb : ∀ a, k0_off266 c a + S64x1024.size a ≤ S1024x1024.size a} {inb' : ∀ a, (k0_off266 c) a + S64x1024.size a ≤ S1024x1024.size a} {hs hs'}
    {sS sR : DmaSem sig} {hsc} {hsrc hdst hsem} {α : Type} {k : PUnit → Prog (TpuEff nD τ sig (Elt F) Λ₀ .tc) α} {Q : α → sProp 𝕄} (hS : sS = sndS 21) (hR : sR = rcvS 21) (hj : j ≤ 42) :
    iprop(Ctx G κ c ∗ Proto 21 j c ∗ Blk oV c (yk c + a0 c + 64) 64 fullShare 0 (Fin1 G) ∗ Any oV (pb c) (yk c + a0 c + 64) 64)
      ⊢ iprop((Proto 22 j c -∗ wp frame (wpE (defs₀ (F := F)) 𝒱₀ c none) Set.univ (k ⟨⟩) Q)
          -∗ wp frame (wpE (defs₀ (F := F)) 𝒱₀ c none) Set.univ
            (.op (.enqueueDma (oM.slice (Rect.unit (s := S1024x1024) (k0_off266 c) S64x1024.size inb) hs)
              (.remote (Dev.tc (⟨k0_dev24 c, k0_dev24_lt c⟩ : Dev nD)) (oM.slice (Rect.unit (s := S1024x1024) (k0_off266 c) S64x1024.size inb') hs') (.dma sS) hsc) (.dma sR) hsrc hdst hsem) k) Q) :=
  wp_give G κ c 21 (fullShare) (dev24 c) hS hR (congrFun (o266 c) 0) (congrFun (o266 c) 1) (congrFun (o266 c) 0) (congrFun (o266 c) 1) (amt64 21 (by decide)).symm (hj.trans_eq (show 42 = (tOf 21).val by decide)) rfl (rcv21 c G)

end Messages

end Cert.GatherProof
end
-- ==== Proof.Trips.lean ====
/- One trip of a loop that issues the copies of a region, and one of a loop that waits for them. -/
module

public import proofs.«01_k».proof.Proof.Loops

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

/-! ## One trip, whatever the region -/

/-- A loop of no trips is passed. -/
theorem wp_noTrips (c : Dev nD) {l : Scf.Loop 32} {hok : l.OK} {body : Fin l.trips → PUnit → Prog (TpuEff nD τ sig (Elt F) Λ₀ .tc) PUnit} (h : l.trips = 0) {β : Type}
    {kk : PUnit → Prog (TpuEff nD τ sig (Elt F) Λ₀ .tc) β} {Q : β → sProp 𝕄} :
    wp frame (wpE (defs₀ (F := F)) 𝒱₀ c none) Set.univ (kk ⟨⟩) Q
      ⊢ wp frame (wpE (defs₀ (F := F)) 𝒱₀ c none) Set.univ (Scf.Loop.for l hok ⟨⟩ body >>= kk) Q :=
  Scf.wp_for0_bind _ _ _ l.lb l.ub l.st hok body h kk Q _ (Entails.of_eq rfl)

section Trip

variable (G₀ : Dev nD → ℕ → ℕ → Elt F .f32) (κ : GSem nD τ sig → ℕ) (c : Dev nD) (P I C : ℕ → BitVec 32) (Em G : ℕ → ℕ → Elt F .f32)

/-- The result's rows and the table's rows of a region's copies. -/
def prow (r : ℕ) : ℕ → ℕ := fun j => (P (128 * r + j)).toNat
def trow (r : ℕ) : ℕ → ℕ := fun j => (I (128 * r + j)).toNat
/-- A row of the table, and one of the result. -/
abbrev eRow (off : Fin 2 → ℕ) (inb : ∀ a, off a + S1x1024.size a ≤ S8192x1024.size a) :=
  eM.slice (Rect.unit (s := S8192x1024) off S1x1024.size inb) (fun _ => rfl)
abbrev oRow (off : Fin 2 → ℕ) (inb : ∀ a, off a + S1x1024.size a ≤ S1024x1024.size a) :=
  oM.slice (Rect.unit (s := S1024x1024) off S1x1024.size inb) (fun _ => rfl)

theorem oRow_credit {off : Fin 2 → ℕ} {inb : ∀ a, off a + S1x1024.size a ≤ S1024x1024.size a} : (oRow off inb).view.dmaCredit = n1 := rfl

/-- A device at work on a region: its copies from the `a`-th to the `b`-th under way. -/
def Work (N j r a b : ℕ) : sProp 𝕄 :=
  iprop(Ctx G₀ κ c ∗ Proto N j c ∗ Tabs c P I C ∗ Under c (prow P r) (trow I r) r Em G a b)

variable {P I C Em G} {r n N j : ℕ} (h : Region (prow P r) (trow I r) r n Em G) (hr : r < 8)
include h

include hr
set_option maxHeartbeats 1000000 in
/-- The end of a trip that issues: the two words of the next copy, and the copy. -/
theorem wp_sendTrip {a b : ℕ} (hab : a ≤ b) (hb : b < n) (hb' : b < a + 16)
    {off off' : Fin 1 → ℕ} {inb : ∀ a, off a + S1.size a ≤ S1024.size a} {inb' : ∀ a, off' a + S1.size a ≤ S1024.size a} {hl hl'} {y y' : S1.Idx}
    {A B : BitVec 32 → Prop} {dA : ∀ v, Decidable (A v)} {dB : ∀ v, Decidable (B v)} {tf ro : BitVec 32 → Fin 2 → ℕ}
    {ti : ∀ v, PLift (A v) → ∀ a, tf v a + S1x1024.size a ≤ S8192x1024.size a} {ri : ∀ v, PLift (B v) → ∀ a, ro v a + S1x1024.size a ≤ S1024x1024.size a}
    {q : DmaSem sig} {w₁ : ∀ v (hv : PLift (A v)), (eRow (tf v) (ti v hv)).view.WordExact} {w₂ : ∀ u (hu : PLift (B u)), (oRow (ro u) (ri u hu)).view.WordExact} {hT : ∀ v (hv : PLift (A v)) u (hu : PLift (B u)), DmaTarget.Typed (nD := nD) (τ := τ) (sig := sig) (p := Proc.tc) .hbm (SemLoc.dma q) (DmaTarget.here (oRow (ro u) (ri u hu)))} {α : Type}
    {k : PUnit → Prog (TpuEff nD τ sig (Elt F) Λ₀ .tc) α} {Q : α → sProp 𝕄}
    (h0 : off 0 = 128 * r + b) (h0' : off' 0 = 128 * r + b)
    (hto : ∀ v, tf v 0 = v.toNat ∧ tf v 1 = 0) (hro : ∀ v, ro v 0 = v.toNat ∧ ro v 1 = 0) (hq : q = gsem r (b % 16))
    (hA : ∀ v, (∀ a, tf v a + S1x1024.size a ≤ S8192x1024.size a) → A v) (hB : ∀ v, (∀ a, ro v a + S1x1024.size a ≤ S1024x1024.size a) → B v) :
    (Work G₀ κ c P I C Em G N j r a b : sProp 𝕄)
      ⊢ iprop((Work G₀ κ c P I C Em G N j r a (b + 1) -∗ wp frame (wpE (defs₀ (F := F)) 𝒱₀ c none) Set.univ (k ⟨⟩) Q)
          -∗ wp frame (wpE (defs₀ (F := F)) 𝒱₀ c none) Set.univ
            (smemLoadElt idxM (Rect.unit (s := S1024) off S1.size inb) hl y fun v =>
              .op (.assume (A v) (dA v)) fun hv =>
                smemLoadElt posM (Rect.unit (s := S1024) off' S1.size inb') hl' y' fun u =>
                  .op (.assume (B u) (dB u)) fun hu =>
                    .op (.enqueueDma (eRow (tf v) (ti v hv))
                      (.here (oRow (ro u) (ri u hu))) (.dma q) (w₁ v hv) (w₂ u hu) (hT v hv u hu)) k) Q) := by
  have hrow := h.row b hb
  have htab := h.tab b hb
  unfold Work
  iintro ⟨#HC, HP, HT, HU⟩ Hk
  iapply (wp_idx c h0) $$ HT
  iintro HT
  iapply (wp_assume 𝒱₀ (c : Thread nD τ) none Set.univ (hA _ (row_inb (D := 8192) (hto _).1 (hto _).2 htab)))
  iapply (wp_pos c h0') $$ HT
  iintro HT
  iapply (wp_assume 𝒱₀ (c : Thread nD τ) none Set.univ (hB _ (row_inb (D := 1024) (hro _).1 (hro _).2 (lt_of_lt_of_le hrow.2 (by omega)))))
  iapply (wp_next c h hab hb hb' hq (hto _).1 (hto _).2 (hro _).1 (hro _).2 oRow_credit) $$ HU
  iintro HU
  iapply Hk
  isplitr; · iexact HC
  isplitl [HP]; · iexact HP
  isplitl [HT] <;> iassumption

set_option maxHeartbeats 1000000 in
/-- The two words of the oldest copy, and the wait for it. -/
theorem wp_takeTrip {a b : ℕ} (hab : a < b) (hb : b ≤ n) (hb' : b ≤ a + 16)
    {off off' : Fin 1 → ℕ} {inb : ∀ a, off a + S1.size a ≤ S1024.size a} {inb' : ∀ a, off' a + S1.size a ≤ S1024.size a} {hl hl'} {y y' : S1.Idx}
    {A B : BitVec 32 → Prop} {dA : ∀ v, Decidable (A v)} {dB : ∀ v, Decidable (B v)} {tf ro : BitVec 32 → Fin 2 → ℕ}
    {ti : ∀ v, PLift (A v) → ∀ a, tf v a + S1x1024.size a ≤ S8192x1024.size a} {ri : ∀ v, PLift (B v) → ∀ a, ro v a + S1x1024.size a ≤ S1024x1024.size a}
    {q : DmaSem sig} {w₁ : ∀ v (hv : PLift (A v)), (eRow (tf v) (ti v hv)).view.WordExact} {w₂ : ∀ u (hu : PLift (B u)), (oRow (ro u) (ri u hu)).view.WordExact} {α : Type}
    {k : PUnit → Prog (TpuEff nD τ sig (Elt F) Λ₀ .tc) α} {Q : α → sProp 𝕄}
    (h0 : off 0 = 128 * r + a) (h0' : off' 0 = 128 * r + a)
    (hto : ∀ v, tf v 0 = v.toNat ∧ tf v 1 = 0) (hro : ∀ v, ro v 0 = v.toNat ∧ ro v 1 = 0) (hq : q = gsem r (a % 16))
    (hA : ∀ v, (∀ a, tf v a + S1x1024.size a ≤ S8192x1024.size a) → A v) (hB : ∀ v, (∀ a, ro v a + S1x1024.size a ≤ S1024x1024.size a) → B v) :
    (Work G₀ κ c P I C Em G N j r a b : sProp 𝕄)
      ⊢ iprop((Work G₀ κ c P I C Em G N j r (a + 1) b -∗ wp frame (wpE (defs₀ (F := F)) 𝒱₀ c none) Set.univ (k ⟨⟩) Q)
          -∗ wp frame (wpE (defs₀ (F := F)) 𝒱₀ c none) Set.univ
            (smemLoadElt idxM (Rect.unit (s := S1024) off S1.size inb) hl y fun v =>
              .op (.assume (A v) (dA v)) fun hv =>
                smemLoadElt posM (Rect.unit (s := S1024) off' S1.size inb') hl' y' fun u =>
                  .op (.assume (B u) (dB u)) fun hu =>
                    .op (.waitDma2 q (eRow (tf v) (ti v hv))
                      (oRow (ro u) (ri u hu)) (w₁ v hv) (w₂ u hu)) k) Q) := by
  have hrow := h.row a (by omega)
  have htab := h.tab a (by omega)
  unfold Work
  iintro ⟨#HC, HP, HT, HU⟩ Hk
  iapply (wp_idx c h0) $$ HT
  iintro HT
  iapply (wp_assume 𝒱₀ (c : Thread nD τ) none Set.univ (hA _ (row_inb (D := 8192) (hto _).1 (hto _).2 htab)))
  iapply (wp_pos c h0') $$ HT
  iintro HT
  iapply (wp_assume 𝒱₀ (c : Thread nD τ) none Set.univ (hB _ (row_inb (D := 1024) (hro _).1 (hro _).2 (lt_of_lt_of_le hrow.2 (by omega)))))
  iapply (wp_take G₀ κ c h hr hab hb hb' hq oRow_credit) $$ [HP HU]
  · isplitr; · iexact HC
    isplitl [HP] <;> iassumption
  iintro HP HU
  iapply Hk
  isplitr; · iexact HC
  isplitl [HP]; · iexact HP
  isplitl [HT] <;> iassumption

end Trip

end Cert.GatherProof
end
-- ==== Proof.Glue.lean ====
/- The steps between the printed ones: a region opened and closed, a block cut, an exchange that has come to its end. -/
module

public import proofs.«01_k».proof.Proof.Msgs
public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Glue

variable {G : Dev nD → ℕ → ℕ → Elt F .f32} {κ : GSem nD τ sig → ℕ} {c : Dev nD} {P I C : ℕ → BitVec 32} {Em : ℕ → ℕ → Elt F .f32} {N j r lo n : ℕ}

theorem work_start (hl : 128 * r = lo) :
    iprop(Ctx G κ c ∗ Proto N j c ∗ Tabs c P I C ∗ Blk oV c lo 128 fullShare 0 (fun _ _ => zero) ∗ bigSep (Finset.range 16) (idle c r Em))
      ⊢ (Work G κ c P I C Em (G c) N j r 0 0 : sProp 𝕄) := by
  subst hl
  unfold Work
  iintro ⟨HC, HP, HT, HO, HI⟩
  isplitl [HC]; · iexact HC
  isplitl [HP]; · iexact HP
  isplitl [HT]; · iexact HT
  iapply Under_start
  isplitl [HO]; · iexact HO
  iexact HI

theorem work_end (hl : 128 * r = lo) (h : Region (prow P r) (trow I r) r n Em (G c)) :
    (Work G κ c P I C Em (G c) N j r n n : sProp 𝕄)
      ⊢ iprop(Proto N j c ∗ Tabs c P I C ∗ Blk oV c lo 128 fullShare 0 (G c) ∗ bigSep (Finset.range 16) (idle c r Em)) := by
  subst hl
  unfold Work
  iintro ⟨-, HP, HT, HU⟩
  isplitl [HP]; · iexact HP
  isplitl [HT]; · iexact HT
  iapply (Under_end h)
  iexact HU

theorem work_pause {a b : ℕ} : (Work G κ c P I C Em (G c) N j r a b : sProp 𝕄)
    ⊢ iprop(Proto N j c ∗ Tabs c P I C ∗ Under c (prow P r) (trow I r) r Em (G c) a b) := by
  unfold Work
  iintro ⟨-, HP, HT, HU⟩
  isplitl [HP]; · iexact HP
  isplitl [HT]; · iexact HT
  iexact HU

theorem work_resume {a b : ℕ} : iprop(Ctx G κ c ∗ Proto N j c ∗ Tabs c P I C ∗ Under c (prow P r) (trow I r) r Em (G c) a b)
    ⊢ (Work G κ c P I C Em (G c) N j r a b : sProp 𝕄) := by
  unfold Work
  iintro H
  iexact H

theorem blk_cut {D : ℕ} {sp : Space} {v : View sig .tc sp (Sh D) .f32} {o : ℕ} {q : PosShare TreeShare} {M : ℕ → ℕ → Elt F .f32} : (Blk v c lo 128 q o M : sProp 𝕄) ⊢ iprop(Blk v c lo 64 q o M ∗ Blk v c (lo + 64) 64 q o M) :=
  Entails.of_eq (Blk_add v c lo 64 64 q o M)

theorem any_cut {D : ℕ} {sp : Space} {v : View sig .tc sp (Sh D) .f32} {d : Dev nD} : (Any v d lo 128 : sProp 𝕄) ⊢ iprop(Any v d lo 64 ∗ Any v d (lo + 64) 64) := Any_cut v d lo 64 64

theorem fin_x (G : Dev nD → ℕ → ℕ → Elt F .f32) (c : Dev nD) (t j : ℕ) (h : xk c + b1 c ≤ t) (h' : t < xk c + b1 c + 128) : H2x G c t j = Fin1 G t j := by
  unfold Fin1
  have e : dx t = c ∧ t < 512 := by
    have hc : (xk c + b1 c = 0 ∧ c = 0) ∨ (xk c + b1 c = 256 ∧ c = 1) ∨ (xk c + b1 c = 384 ∧ c = 2) ∨ (xk c + b1 c = 128 ∧ c = 3) := by
      clear h h'; revert c; decide
    unfold dx
    rcases hc with ⟨e, hc⟩ | ⟨e, hc⟩ | ⟨e, hc⟩ | ⟨e, hc⟩ <;> rw [e] at h h' <;> refine ⟨?_, by omega⟩ <;> rw [hc] <;> split_ifs <;> first | rfl | (exfalso; omega)
  rw [if_pos e.2, e.1]

theorem fin_y (G : Dev nD → ℕ → ℕ → Elt F .f32) (c : Dev nD) (t j : ℕ) (h : yk c + a1 c ≤ t) (h' : t < yk c + a1 c + 128) : H2y G c t j = Fin1 G t j := by
  unfold Fin1
  have e : dy t = c ∧ ¬ t < 512 := by
    have hc : (yk c + a1 c = 512 ∧ c = 0) ∨ (yk c + a1 c = 640 ∧ c = 1) ∨ (yk c + a1 c = 768 ∧ c = 2) ∨ (yk c + a1 c = 896 ∧ c = 3) := by
      clear h h'; revert c; decide
    unfold dy
    rcases hc with ⟨e, hc⟩ | ⟨e, hc⟩ | ⟨e, hc⟩ | ⟨e, hc⟩ <;> rw [e] at h h' <;> refine ⟨?_, by omega⟩ <;> rw [hc] <;> split_ifs <;> first | rfl | (exfalso; omega)
  rw [if_neg e.2, e.1]

theorem done_x (hlo : xk c + b1 c ≤ lo) (hlo' : lo + 64 ≤ xk c + b1 c + 128) :
    (Blk oV c lo 64 fullShare 0 (H2x G c) : sProp 𝕄) ⊢ iprop(Blk oV c lo 64 fullShare.left 0 (Fin1 G) ∗ Blk oV c lo 64 fullShare.right 0 (Fin1 G)) := by
  rw [Blk_congr oV c (o' := 0) (M' := Fin1 G) (fun t j h h' _ => by rw [Nat.zero_add]; exact fin_x G c t j (by omega) (by omega)), Blk_halves]

theorem done_y (hlo : yk c + a1 c ≤ lo) (hlo' : lo + 64 ≤ yk c + a1 c + 128) :
    (Blk oV c lo 64 fullShare 0 (H2y G c) : sProp 𝕄) ⊢ iprop(Blk oV c lo 64 fullShare.left 0 (Fin1 G) ∗ Blk oV c lo 64 fullShare.right 0 (Fin1 G)) := by
  rw [Blk_congr oV c (o' := 0) (M' := Fin1 G) (fun t j h h' _ => by rw [Nat.zero_add]; exact fin_y G c t j (by omega) (by omega)), Blk_halves]

/-- The reading of a count. -/
theorem wp_count {off : Fin 1 → ℕ} {inb : ∀ a, off a + S1.size a ≤ S8.size a} {h1 hp} {i : ℕ} {α : Type}
    {k : Elt F .i32 → Prog (TpuEff nD τ sig (Elt F) Λ₀ .tc) α} {Q : α → sProp 𝕄} (h0 : off 0 = i) :
    (Tabs c P I C : sProp 𝕄) ⊢ iprop((Tabs c P I C -∗ wp frame (wpE (defs₀ (F := F)) 𝒱₀ c none) Set.univ (k (C i)) Q)
      -∗ wp frame (wpE (defs₀ (F := F)) 𝒱₀ c none) Set.univ (smemLoad cntM (Rect.unit (s := S8) off S1.size inb) h1 hp >>= k) Q) := by
  rw [smemLoad_bind]
  exact wp_cnt c h0

/-- Two blocks added, with the sum named. -/
theorem wp_sum {D n lo lo' o : ℕ} {off off' : Fin 2 → ℕ} {inb : ∀ a, off a + (Sh n).size a ≤ (Sh D).size a} {M'' : ℕ → ℕ → Elt F .f32} (bM : Memref sig .tc .vmem (Sh D) .f32) {inb' : ∀ a, off' a + (Sh n).size a ≤ (Sh 1024).size a}
    {M M' : ℕ → ℕ → Elt F .f32} {pay : ((Sh n).Idx → Elt F .f32) → ((Sh n).Idx → Elt F .f32) → (Sh n).Idx → Elt F .f32} {hl hl' hl'' hx hm}
    {α : Type} {k : PUnit → Prog (TpuEff nD τ sig (Elt F) Λ₀ .tc) α} {Q : α → sProp 𝕄}
    (h0' : off' 0 = lo') (h1' : off' 1 = 0) (h0 : off 0 = lo) (h1 : off 1 = 0) (ho : o + lo = lo') (hp : ∀ a b x, pay a b x = FloatOps.addf (a x) (b x)) (hM : plus M M' = M'') :
    iprop(Blk oV c lo' n fullShare 0 M ∗ Blk bM.view c lo n fullShare o M')
      ⊢ iprop((Blk oV c lo' n fullShare 0 M'' -∗ Blk bM.view c lo n fullShare o M' -∗ wp frame (wpE (defs₀ (F := F)) 𝒱₀ c none) Set.univ (k ⟨⟩) Q)
      -∗ wp frame (wpE (defs₀ (F := F)) 𝒱₀ c none) Set.univ
        (.op (.load oM (Rect.unit (s := Sh 1024) off' (Sh n).size inb').toLoadRect hl) fun a =>
          .op (.load bM (Rect.unit (s := Sh D) off (Sh n).size inb).toLoadRect hl') fun b =>
            .op (.load oM (Rect.unit (s := Sh 1024) off' (Sh n).size inb').toLoadRect hl'') fun _ =>
              .op (.store oM (Rect.unit (s := Sh 1024) off' (Sh n).size inb') (pay a b) Finset.univ hx hm) k) Q) := by
  subst hM
  exact wp_addRows c bM h0' h1' h0 h1 ho hp

end Glue

end Cert.GatherProof
end
-- ==== Proof.Barrier.lean ====
/- The handshake at the start: each device tells its two neighbours that its landing buffers are free. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Barrier

variable (G : Dev nD → ℕ → ℕ → Elt F .f32) (κ : GSem nD τ sig → ℕ) (c : Dev nD)

/-- What a device brings to the handshake. -/
def Before : sProp 𝕄 :=
  iprop(records G κ ∗ levAts L lv ∗ (bigSep Finset.univ fun i : Fin 22 => reached ER (scell c i) 0) ∗ ready c
    ∗ Toks 0 c ∗ Waits 0 0 c ∗ (∃ W, owes (c : Thread nD τ) (O₀ c) W)
    ∗ dutyTok ER (barCell (pa c)) 0 false ∗ dutyTok ER (barCell (pb c)) 0 true ∗ cred (tallyAt (barCell c) () 2) ∗ atPos ER (barCell c) 0 ∅ 0
    ∗ Any x1V c 0 256 ∗ Any y2V c 0 128 ∗ Any y1V c 0 256 ∗ Any x2V c 0 128)

/-- What it has after: the neighbours' buffers, and its own barrier drained. -/
def After : sProp 𝕄 :=
  iprop(Proto 0 0 c ∗ semVal (barCell c) 0 ∗ Any x1V (pa c) 0 256 ∗ Any y2V (pa c) 0 128 ∗ Any y1V (pb c) 0 256 ∗ Any x2V (pb c) 0 128)

theorem reached_peers : iprop(ready (pa c) ∗ ready (pb c)) ⊢ (bigSep Finset.univ fun i : Fin 22 => (reached ER (rcell (peer i c) i) 0 : sProp 𝕄)) := by
  have h (i : Fin 22) : iprop(ready (pa c) ∗ ready (pb c)) ⊢ (reached ER (rcell (peer i c) i) 0 : sProp 𝕄) := by
    have e (d : Dev nD) : (ready d : sProp 𝕄) ⊢ reached ER (rcell d i) 0 := by unfold ready; exact bigSep_elim (Finset.mem_univ i)
    iintro ⟨#HA, #HB⟩
    unfold peer
    split
    · iapply (e (pa c)); iexact HA
    · iapply (e (pb c)); iexact HB
  exact bigSep_intro_persistent fun i _ => h i

theorem mayWait_bar : (levAts L lv : sProp 𝕄) ⊢ MayWait (c : Thread nD τ) (SemLoc.reg barS) () (owed 0 c) :=
  mayWait_owed (F := F) c (.reg barS) 0 (by rw [show lv ((c : Thread nD τ), SemLoc.reg barS) () = _ from lv_bar c]; decide)

set_option maxHeartbeats 400000 in
theorem part2_run (v2 : BitVec 32) (v12 : BitVec 32) (v29 : BitVec 32) (v32 : BitVec 32) (v33 : BitVec 32) (v34 : BitVec 1) (v37 : BitVec 1) {β : Type} {kk : (Σ' (v40 : BitVec 32) (v43 : BitVec 32) (v44 : BitVec 32) (v51 : BitVec 32) (v54 : BitVec 32) (v55 : BitVec 32) (v57 : BitVec 32) (v60 : BitVec 32) (v63 : BitVec 32) (v65 : BitVec 32) (v67 : BitVec 32), BitVec 32) → Prog (TpuEff nD τ sig (Elt F) Λ₀ .tc) β} {Q : β → sProp 𝕄} :
    Before G κ c ⊢ iprop((∀ r, Ctx G κ c -∗ After c -∗ wp frame (wpE (defs₀ (F := F)) 𝒱₀ c none) Set.univ (kk r) Q)
      -∗ wp frame (wpE (defs₀ (F := F)) 𝒱₀ c none) Set.univ (k0_part2_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v2 v12 v29 v32 v33 v34 v37 >>= kk) Q) := by
  unfold k0_part2_skel Before
  simp only [semSignalWord, semWaitWord, Prog.lift, Prog.bind_op, Prog.bind_ret, Prog.pure_eq_ret, Prog.bind_assoc]
  rw [dev1, dev2]
  iintro ⟨#HR, #Hlev, #HS, #Hrd, HT, HW, ⟨%W, HO⟩, Ht1, Ht2, Hcr, Hat, HX1, HY2, HY1, HX2⟩ Hk
  ihave HI := (inv_at G κ (bar_mem c)) $$ HR
  icases HI with #HI
  ihave HIa := (inv_at G κ (bar_mem (pa c))) $$ HR
  icases HIa with #HIa
  ihave HIb := (inv_at G κ (bar_mem (pb c))) $$ HR
  icases HIb with #HIb
  ihave Hra := (bar_at G κ (pa c)) $$ HR
  icases Hra with #Hra
  ihave Hrb := (bar_at G κ (pb c)) $$ HR
  icases Hrb with #Hrb
  iapply (Rounds.wp_signal 𝒱₀ ER (Rd G) (c : Thread nD τ) none (dst := (pa c : Thread nD τ)) (sem := barS) (r := 0) (d := false) (κ := κ (barCell (pa c)))
      (by rw [duties_bar]; exact Finset.mem_univ _) (amount_bar G (pa c) false) () (owedB c) rfl) $$ [HO Ht1 HX1 HY2]
  · isplitr; · iexact HIa
    isplitl [HO]; · iexact HO
    isplitl [Ht1]; · iexact Ht1
    isplitl [HX1 HY2]
    · rw [payload_bar]; unfold barPay; rw [if_neg (by decide), pa_pa]
      isplitl [HX1]; · iexact HX1
      isplitl [HY2]; · iexact HY2
      iexact Hrd
    · iexact Hra
  iintro HO
  iapply (Rounds.wp_signal 𝒱₀ ER (Rd G) (c : Thread nD τ) none (dst := (pb c : Thread nD τ)) (sem := barS) (r := 0) (d := true) (κ := κ (barCell (pb c)))
      (by rw [duties_bar]; exact Finset.mem_univ _) (amount_bar G (pb c) true) () (owed 0 c) rfl) $$ [HO Ht2 HY1 HX2]
  · isplitr; · iexact HIb
    isplitl [HO]; · iexact HO
    isplitl [Ht2]; · iexact Ht2
    isplitl [HY1 HX2]
    · rw [payload_bar]; unfold barPay; rw [if_pos rfl, pb_pb]
      isplitl [HY1]; · iexact HY1
      isplitl [HX2]; · iexact HX2
      iexact Hrd
    · iexact Hrb
  iintro HO
  iapply (Rounds.wp_wait_rest_token 𝒱₀ ER (Rd G) (c : Thread nD τ) none (κ := κ (barCell c))
      (wpE_semWait_eq 𝒱₀ (c : Thread nD τ) none Set.univ) (Set.mem_univ _) () (O := owed 0 c) (W := W) (R := 0) (m := 0) (T := ∅)
      ((Nat.zero_add 2).trans (expect_bar G c).symm)) $$ [Hcr HO Hat]
  · isplitr; · iexact HI
    isplitl [Hcr]; · iexact Hcr
    isplitl [HO]; · iexact HO
    isplitr; · iapply (mayWait_bar (F := F) c); iexact Hlev
    iexact Hat
  iintro ⟨HO, Hat, -, Hpay⟩
  ihave Hp := (Entails.of_eq (rest_bar G c)) $$ Hpay
  imod (Rounds.cell_close ER (Rd G) (g := barCell c) (Set.mem_univ (κ (barCell c))) id (duties_later G _)) $$ [Hat] with Hv
  · isplitr; · iexact HI
    iexact Hat
  ihave Hp := (Entails.of_eq (show iprop(barPay c false ∗ barPay c true) = (iprop((Any x1V (pa c) 0 256 ∗ Any y2V (pa c) 0 128 ∗ ready (pa c)) ∗ (Any y1V (pb c) 0 256 ∗ Any x2V (pb c) 0 128 ∗ ready (pb c))) : sProp 𝕄) from rfl)) $$ Hp
  icases Hp with ⟨⟨HX1, HY2, #HRa⟩, ⟨HY1, HX2, #HRb⟩⟩
  iapply Hk $$ [] [HO HT HW Hv HX1 HY2 HY1 HX2]
  · unfold Ctx
    isplitr; · iexact HR
    isplitr; · iexact Hlev
    isplitr; · iexact HS
    iapply (reached_peers c)
    isplitr; · iexact HRa
    iexact HRb
  · unfold After Proto
    isplitl [HT HW HO]
    · isplitl [HT]; · iexact HT
      isplitl [HW]; · iexact HW
      iexists _; iexact HO
    isplitl [Hv]; · iexact Hv
    isplitl [HX1]; · iexact HX1
    isplitl [HY2]; · iexact HY2
    isplitl [HY1]; · iexact HY1
    iexact HX2

theorem part1_run {β : Type} {kk : (Σ' (d0 : Dev nD) (v2 : BitVec 32) (v12 : BitVec 32) (v29 : BitVec 32) (v32 : BitVec 32) (v33 : BitVec 32) (v34 : BitVec 1), BitVec 1) → Prog (TpuEff nD τ sig (Elt F) Λ₀ .tc) β} {Q : β → sProp 𝕄} :
    iprop(∀ r, ⌜r.1 = c⌝ -∗ wp frame (wpE (defs₀ (F := F)) 𝒱₀ c none) Set.univ (kk r) Q) ⊢ wp frame (wpE (defs₀ (F := F)) 𝒱₀ c none) Set.univ (k0_part1_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 >>= kk) Q := by
  unfold k0_part1_skel
  simp -proj only [Prog.lift, Prog.bind_op, Prog.bind_ret, Prog.pure_eq_ret, Prog.bind_assoc]
  iintro Hk
  rw [wp_deviceId]
  iapply Hk
  ipureintro; rfl

end Barrier

end Cert.GatherProof
end
-- ==== Proof.Ends.lean ====
/- How a device's buffers are cut at the start of the body and put together at its end. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Ends

variable (c : Dev nD)

/-- The eight regions, in the order in which they are gathered. -/
theorem regions (Φ : ℕ → sProp 𝕄) : (bigSep (Finset.range 8) Φ)
    = iprop(Φ (xsf c) ∗ Φ (ysf c) ∗ Φ (xso c) ∗ Φ (yso c) ∗ Φ (xkf c) ∗ Φ (ykf c) ∗ Φ (xko c) ∗ Φ (yko c)) := by
  rw [show Finset.range 8 = ({xsf c, ysf c, xso c, yso c, xkf c, ykf c, xko c, yko c} : Finset ℕ) from by revert c; decide +kernel,
    bigSep_insert (show xsf c ∉ ({ysf c, xso c, yso c, xkf c, ykf c, xko c, yko c} : Finset ℕ) from by revert c; decide +kernel),
    bigSep_insert (show ysf c ∉ ({xso c, yso c, xkf c, ykf c, xko c, yko c} : Finset ℕ) from by revert c; decide +kernel),
    bigSep_insert (show xso c ∉ ({yso c, xkf c, ykf c, xko c, yko c} : Finset ℕ) from by revert c; decide +kernel),
    bigSep_insert (show yso c ∉ ({xkf c, ykf c, xko c, yko c} : Finset ℕ) from by revert c; decide +kernel),
    bigSep_insert (show xkf c ∉ ({ykf c, xko c, yko c} : Finset ℕ) from by revert c; decide +kernel),
    bigSep_insert (show ykf c ∉ ({xko c, yko c} : Finset ℕ) from by revert c; decide +kernel),
    bigSep_insert (show xko c ∉ ({yko c} : Finset ℕ) from by revert c; decide +kernel), bigSep_singleton]
  rfl

variable {D : ℕ} {sp : Space} (v : View sig .tc sp (Sh D) .f32)

theorem any_strips (n : ℕ) : (Any v c 0 (128 * n) : sProp 𝕄) ⊢ bigSep (Finset.range n) fun r => Any v c (128 * r) 128 := by
  induction n with
  | zero => rw [Finset.range_zero, bigSep_empty]; iintro -; iempintro
  | succ n ih =>
    rw [bigSep_range_succ, Nat.mul_succ]
    refine (Any_cut v c 0 (128 * n) 128).trans ?_
    rw [Nat.zero_add]
    iintro ⟨H, H'⟩
    isplitl [H']; · iexact H'
    iapply ih; iexact H

theorem blk_strips (o : ℕ) (M : ℕ → ℕ → Elt F .f32) (n : ℕ) : (bigSep (Finset.range (n + 1)) fun r => (Blk v c (128 * r) 128 fullShare o M : sProp 𝕄)) ⊢ Blk v c 0 (128 * (n + 1)) fullShare o M := by
  induction n with
  | zero => rw [Finset.range_one, bigSep_singleton]
  | succ n ih =>
    rw [bigSep_range_succ, show 128 * (n + 1 + 1) = 128 * (n + 1) + 128 from by omega, Blk_add, Nat.zero_add]
    iintro ⟨H, H'⟩
    isplitl [H']; · iapply ih; iexact H'
    iexact H

/-- The result buffer is cut into the regions. -/
theorem cut_result : (Any oV c 0 1024 : sProp 𝕄) ⊢ iprop(Any oV c (xs c + b0 c) 128 ∗ Any oV c (ys c + a1 c) 128 ∗ Any oV c (xs c + b1 c) 128 ∗ Any oV c (ys c + a0 c) 128 ∗ Any oV c (xk c + b0 c) 128 ∗ Any oV c (yk c + a0 c) 128 ∗ Any oV c (xk c + b1 c) 128 ∗ Any oV c (yk c + a1 c) 128) := by
  refine (any_strips c oV 8).trans ?_
  rw [regions c, xsf_row, ysf_row, xso_row, yso_row, xkf_row, ykf_row, xko_row, yko_row]

/-- The finished regions are the result. -/
theorem join_result (M : ℕ → ℕ → Elt F .f32) : iprop(Blk oV c (xs c + b0 c) 128 fullShare 0 M ∗ Blk oV c (ys c + a1 c) 128 fullShare 0 M ∗ Blk oV c (xs c + b1 c) 128 fullShare 0 M ∗ Blk oV c (ys c + a0 c) 128 fullShare 0 M ∗ Blk oV c (xk c + b0 c) 128 fullShare 0 M ∗ Blk oV c (yk c + a0 c) 128 fullShare 0 M ∗ Blk oV c (xk c + b1 c) 128 fullShare 0 M ∗ Blk oV c (yk c + a1 c) 128 fullShare 0 M) ⊢ (Blk oV c 0 1024 fullShare 0 M : sProp 𝕄) := by
  refine BIBase.Entails.trans ?_ (blk_strips c oV 0 M 7)
  rw [regions c, xsf_row, ysf_row, xso_row, yso_row, xkf_row, ykf_row, xko_row, yko_row]

theorem blk_join {lo : ℕ} (M : ℕ → ℕ → Elt F .f32) : iprop(Blk v c lo 64 fullShare 0 M ∗ Blk v c (lo + 64) 64 fullShare 0 M) ⊢ (Blk v c lo 128 fullShare 0 M : sProp 𝕄) :=
  Entails.of_eq (Blk_add v c lo 64 64 fullShare 0 M).symm
theorem blk_whole {lo n : ℕ} (M : ℕ → ℕ → Elt F .f32) : iprop(Blk v c lo n fullShare.left 0 M ∗ Blk v c lo n fullShare.right 0 M) ⊢ (Blk v c lo n fullShare 0 M : sProp 𝕄) :=
  Entails.of_eq (Blk_halves v c lo n 0 M).symm

/-- A landing buffer cut where its two first copies and its last land. -/
theorem cut_landing (d : Dev nD) {p q : ℕ} (h : (p = 0 ∧ q = 128) ∨ (p = 128 ∧ q = 0)) :
    (Any v d 0 256 : sProp 𝕄) ⊢ iprop(Any v d p 64 ∗ Any v d (p + 64) 64 ∗ Any v d q 128) := by
  have h2 : (Any v d 0 256 : sProp 𝕄) ⊢ iprop(Any v d 0 128 ∗ Any v d 128 128) := Any_cut v d 0 128 128
  have h3 (lo : ℕ) : (Any v d lo 128 : sProp 𝕄) ⊢ iprop(Any v d lo 64 ∗ Any v d (lo + 64) 64) := Any_cut v d lo 64 64
  iintro H
  ihave H := h2 $$ H
  icases H with ⟨H0, H1⟩
  rcases h with ⟨rfl, rfl⟩ | ⟨rfl, rfl⟩
  · ihave H0 := (h3 0) $$ H0
    icases H0 with ⟨Ha, Hb⟩
    isplitl [Ha]; · iexact Ha
    isplitl [Hb]; · iexact Hb
    iexact H1
  · ihave H1 := (h3 128) $$ H1
    icases H1 with ⟨Ha, Hb⟩
    isplitl [Ha]; · iexact Ha
    isplitl [Hb]; · iexact Hb
    iexact H0

theorem join_landing {p q o : ℕ} {M : ℕ → ℕ → Elt F .f32} (h : (p = 0 ∧ q = 128) ∨ (p = 128 ∧ q = 0)) :
    iprop(Blk v c p 64 fullShare o M ∗ Blk v c (p + 64) 64 fullShare o M ∗ Blk v c q 128 fullShare o M) ⊢ (Any v c 0 256 : sProp 𝕄) := by
  have h2 : iprop(Blk v c 0 128 fullShare o M ∗ Blk v c 128 128 fullShare o M) ⊢ (Any v c 0 256 : sProp 𝕄) :=
    (Entails.of_eq (Blk_add v c 0 128 128 fullShare o M).symm).trans (Any_of_Blk v c 0 256 o M)
  have h3 (lo : ℕ) : iprop(Blk v c lo 64 fullShare o M ∗ Blk v c (lo + 64) 64 fullShare o M) ⊢ (Blk v c lo 128 fullShare o M : sProp 𝕄) := Entails.of_eq (Blk_add v c lo 64 64 fullShare o M).symm
  iintro ⟨Ha, Hb, Hc⟩
  iapply h2
  rcases h with ⟨rfl, rfl⟩ | ⟨rfl, rfl⟩
  · isplitl [Ha Hb]
    · iapply (h3 0); isplitl [Ha]; · iexact Ha
      iexact Hb
    iexact Hc
  · isplitl [Hc]; · iexact Hc
    iapply (h3 128); isplitl [Ha]; · iexact Ha
    iexact Hb

theorem cut_small (d : Dev nD) : (Any v d 0 128 : sProp 𝕄) ⊢ iprop(Any v d 0 64 ∗ Any v d 64 64) := Any_cut v d 0 64 64
theorem join_small {o : ℕ} {M : ℕ → ℕ → Elt F .f32} : iprop(Blk v c 0 64 fullShare o M ∗ Blk v c 64 64 fullShare o M) ⊢ (Any v c 0 128 : sProp 𝕄) :=
  (Entails.of_eq (Blk_add v c 0 64 64 fullShare o M).symm).trans (Any_of_Blk v c 0 128 o M)

theorem b_cases : (b0 c = 0 ∧ b1 c = 128) ∨ (b0 c = 128 ∧ b1 c = 0) := by revert c; decide
theorem a_cases' : (a1 c = 0 ∧ a0 c = 128) ∨ (a1 c = 128 ∧ a0 c = 0) := by revert c; decide
theorem a_cases : (a0 c = 0 ∧ a1 c = 128) ∨ (a0 c = 128 ∧ a1 c = 0) := by revert c; decide

end Ends

end Cert.GatherProof
end
-- ==== Proof.RunXsf.lean ====
/- The two loops of the region that xsf names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t1_lt (hn : w.toNat ≤ 128) (t : Fin (k0_t1_loop c w).trips) : t.val < w.toNat := by
  exact lt_of_lt_of_eq t.isLt (by rw [t1_loop c w, isLoop_trips (xsf_lt c) rfl hn])
theorem t1_none (hn : w.toNat ≤ 128) : (k0_t2_loop c w).trips = 0 := by rw [t2_loop c w, isRest_trips (xsf_lt c) rfl hn]
theorem t1_chk (hn : w.toNat ≤ 128) : k0_chk1 c w := by
  refine ⟨?_, fun t h => ?_, fun t h => ?_, fun t => ?_, fun t => ?_, ?_, fun t => ?_, fun t => ?_, fun t => ?_, fun t => ?_⟩
  · rw [t1_loop c w]; exact isLoop_ok (xsf_lt c) rfl hn
  · have hk := t1_lt c w hn t
    rw [t1_full c w t, full_iff (xsf_lt c) (by omega)] at h
    exact one_inb (D := 1024) ((congrFun (t1_old c w t) 0).trans (old_word (xsf_lt c) (by omega) h)) (by have := xsf_lt c; omega)
  · have hk := t1_lt c w hn t
    rw [t1_full c w t, full_iff (xsf_lt c) (by omega)] at h
    exact slot_inb (t1_oldSlot c w t) (xsf_lt c) (by rw [old_slot (xsf_lt c) (by omega) h]; omega)
  · have hk := t1_lt c w hn t
    exact one_inb (D := 1024) ((congrFun (t1_now c w t) 0).trans (now_word (xsf_lt c) (by omega))) (by have := xsf_lt c; omega)
  · have hk := t1_lt c w hn t
    exact slot_inb (t1_nowSlot c w t) (xsf_lt c) (by rw [now_slot (xsf_lt c) (by omega)]; omega)
  · rw [t2_loop c w]; exact isRest_ok (xsf_lt c) rfl hn
  all_goals exact absurd (lt_of_lt_of_eq t.isLt (t1_none c w hn)) (Nat.not_lt_zero _)

theorem t3_lt (hn : w.toNat ≤ 128) (t : Fin (k0_t3_loop c w).trips) : t.val < w.toNat - (w.toNat - 16) := by
  exact lt_of_lt_of_eq t.isLt (by rw [t3_loop c w, drLoop_trips (xsf_lt c) rfl hn])
theorem t3_none (hn : w.toNat ≤ 128) : (k0_t4_loop c w).trips = 0 := by rw [t4_loop c w, drRest_trips (xsf_lt c) rfl hn]
theorem t3_chk (hn : w.toNat ≤ 128) : k0_chk10 c w := by
  refine ⟨?_, fun t => ?_, fun t => ?_, ?_, fun t => ?_, fun t => ?_⟩
  · rw [t3_loop c w]; exact drLoop_ok (xsf_lt c) rfl hn
  · have hk := t3_lt c w hn t
    exact one_inb (D := 1024) ((congrFun (t3_now c w t) 0).trans (dr_word (xsf_lt c) rfl hn hk)) (by have := xsf_lt c; omega)
  · have hk := t3_lt c w hn t
    exact slot_inb (t3_nowSlot c w t) (xsf_lt c) (by rw [dr_slot (xsf_lt c) rfl hn hk]; omega)
  · rw [t4_loop c w]; exact drRest_ok (xsf_lt c) rfl hn
  all_goals exact absurd (lt_of_lt_of_eq t.isLt (t3_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t1_trip (v29 : BitVec 32) (v43 : BitVec 32) (v51 : BitVec 32) (v71 : BitVec 32) (v78 : BitVec 32) (v100 : BitVec 32) (v102 : Elt F .i32) (k0_hw1 : k0_chk1 c v102) (v103 : BitVec 32) (h : Region (prow P (xsf c)) (trow I (xsf c)) (xsf c) (BitVec.toNat v102) Em G) (hn : BitVec.toNat v102 ≤ 128) (t : Fin (k0_t1_loop c v102).trips) (u : Unit) :
    (Work G₀ κ c P I C Em G N j (xsf c) (t.val - 16) t.val : sProp 𝕄) ⊢ wp frame (wpE (defs₀ (F := F)) 𝒱₀ c none) Set.univ (k0_t1_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v71 v78 v100 v102 k0_hw1 v103 t u)
      fun _ => Work G₀ κ c P I C Em G N j (xsf c) (t.val + 1 - 16) (t.val + 1) := by
  have hk := t1_lt c v102 hn t
  unfold k0_t1_body
  by_cases hf : k0_cond1 c v102 t = 1#1
  · have h16 := (full_iff (xsf_lt c) (by omega)).1 ((t1_full c v102 t).symm.trans hf)
    rw [dif_pos hf]
    simp -proj only [smemLoad_bind, Prog.lift, Prog.bind_op, Prog.bind_ret, Prog.pure_eq_ret, Prog.bind_assoc]
    iintro HW
    iapply (wp_takeTrip G₀ κ c h (xsf_lt c) (off := k0_off3 c v102 t) (off' := k0_off3 c v102 t) (A := k0_chk3 c v102 t) (B := k0_chk2 c v102 t) (tf := k0_off6) (ro := k0_off5) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t1_old c v102 t) 0).trans (old_word (xsf_lt c) (by omega) h16)) ((congrFun (t1_old c v102 t) 0).trans (old_word (xsf_lt c) (by omega) h16))
      (fun v => ⟨rfl, rfl⟩) (fun v => ⟨rfl, rfl⟩)
      (gsem_eq (xsf_lt c) (by omega) ((t1_oldSlot c v102 t).trans (by rw [old_slot (xsf_lt c) (by omega) h16]))) (fun v hv _ => hv) (fun v hv _ => hv)) $$ HW
    rw [show t.val - 16 + 1 = t.val + 1 - 16 from by omega]
    iintro HW
    iapply (wp_sendTrip G₀ κ c h (xsf_lt c) (off := k0_off7 c v102 t) (off' := k0_off7 c v102 t) (A := k0_chk5) (B := k0_chk4) (tf := k0_off10) (ro := k0_off9) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t1_now c v102 t) 0).trans (now_word (xsf_lt c) (by omega))) ((congrFun (t1_now c v102 t) 0).trans (now_word (xsf_lt c) (by omega)))
      (fun v => ⟨rfl, rfl⟩) (fun v => ⟨rfl, rfl⟩)
      (gsem_eq (xsf_lt c) (by omega) ((t1_nowSlot c v102 t).trans (by rw [now_slot (xsf_lt c) (by omega)]))) (fun v hv => hv) (fun v hv => hv)) $$ HW
    iintro HW
    rw [wp_ret]
    imodintro
    iexact HW
  · have h16 : ¬ 16 ≤ t.val := fun h => hf ((t1_full c v102 t).trans ((full_iff (xsf_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (xsf_lt c) (off := k0_off7 c v102 t) (off' := k0_off7 c v102 t) (A := k0_chk5) (B := k0_chk4) (tf := k0_off10) (ro := k0_off9) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t1_now c v102 t) 0).trans (now_word (xsf_lt c) (by omega))) ((congrFun (t1_now c v102 t) 0).trans (now_word (xsf_lt c) (by omega)))
      (fun v => ⟨rfl, rfl⟩) (fun v => ⟨rfl, rfl⟩)
      (gsem_eq (xsf_lt c) (by omega) ((t1_nowSlot c v102 t).trans (by rw [now_slot (xsf_lt c) (by omega)]))) (fun v hv => hv) (fun v hv => hv)) $$ HW
    iintro HW
    rw [wp_ret]
    imodintro
    iexact HW

set_option maxHeartbeats 1000000 in
theorem t1_run (v29 : BitVec 32) (v43 : BitVec 32) (v51 : BitVec 32) (v71 : BitVec 32) (v78 : BitVec 32) (v100 : BitVec 32) (v102 : Elt F .i32) (k0_hw1 : k0_chk1 c v102) (v103 : BitVec 32) (h : Region (prow P (xsf c)) (trow I (xsf c)) (xsf c) (BitVec.toNat v102) Em G) (hn : BitVec.toNat v102 ≤ 128) {β : Type} {body' : Fin (k0_t2_loop c v102).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xsf c) 0 0 : sProp 𝕄) ⊢ iprop((Work G₀ κ c P I C Em G N j (xsf c) (BitVec.toNat v102 - 16) (BitVec.toNat v102) -∗ wp frame (wpE (defs₀ (F := F)) 𝒱₀ c none) Set.univ (kk ⟨⟩) Q)
      -∗ wp frame (wpE (defs₀ (F := F)) 𝒱₀ c none) Set.univ (Scf.Loop.for (k0_t1_loop c v102) (k0_t1_ok c v102 k0_hw1) ⟨⟩ (k0_t1_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v71 v78 v100 v102 k0_hw1 v103) >>= fun _ =>
          Scf.Loop.for (k0_t2_loop c v102) (k0_t2_ok c v102 k0_hw1) ⟨⟩ body' >>= kk) Q) := by
  have hend : (k0_t1_loop c v102).trips = BitVec.toNat v102 := by rw [t1_loop c v102, isLoop_trips (xsf_lt c) rfl hn]
  iintro HW Hk
  iapply (Scf.wp_for_bind _ _ _ _ _ _ _ _ _ (fun t _ => Work G₀ κ c P I C Em G N j (xsf c) (t - 16) t) (fun t u => t1_trip c G₀ κ v29 v43 v51 v71 v78 v100 v102 k0_hw1 v103 h hn t u)) $$ [HW]
  · iexact HW
  iintro %acc HW
  iapply (wp_noTrips c (t1_none c v102 hn))
  iapply Hk
  unfold Scf.Loop.trips at hend
  rw [hend]
  iexact HW

set_option maxHeartbeats 1000000 in
theorem t3_trip (v29 : BitVec 32) (v43 : BitVec 32) (v51 : BitVec 32) (v71 : BitVec 32) (v78 : BitVec 32) (v100 : BitVec 32) (v102 : Elt F .i32) (k0_hw1 : k0_chk1 c v102) (v103 : BitVec 32) (v115 : Elt F .i32) (k0_hw10 : k0_chk10 c v115) (h : Region (prow P (xsf c)) (trow I (xsf c)) (xsf c) (BitVec.toNat v115) Em G) (hn : BitVec.toNat v115 ≤ 128) (t : Fin (k0_t3_loop c v115).trips) (u : Unit) :
    (Work G₀ κ c P I C Em G N j (xsf c) (BitVec.toNat v115 - 16 + t.val) (BitVec.toNat v115) : sProp 𝕄) ⊢ wp frame (wpE (defs₀ (F := F)) 𝒱₀ c none) Set.univ (k0_t3_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v71 v78 v100 v102 k0_hw1 v103 v115 k0_hw10 t u)
      fun _ => Work G₀ κ c P I C Em G N j (xsf c) (BitVec.toNat v115 - 16 + (t.val + 1)) (BitVec.toNat v115) := by
  have hk := t3_lt c v115 hn t
  unfold k0_t3_body
  simp -proj only [smemLoad_bind, Prog.lift, Prog.bind_op, Prog.bind_ret, Prog.pure_eq_ret, Prog.bind_assoc]
  iintro HW
  iapply (wp_takeTrip G₀ κ c h (xsf_lt c) (off := k0_off21 c v115 t) (off' := k0_off21 c v115 t) (A := k0_chk12) (B := k0_chk11) (tf := k0_off24) (ro := k0_off23) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v115 - 16 + t.val) (b := BitVec.toNat v115) (by omega) (by omega) (by omega)
    ((congrFun (t3_now c v115 t) 0).trans (dr_word (xsf_lt c) rfl hn hk)) ((congrFun (t3_now c v115 t) 0).trans (dr_word (xsf_lt c) rfl hn hk))
    (fun v => ⟨rfl, rfl⟩) (fun v => ⟨rfl, rfl⟩)
    (gsem_eq (xsf_lt c) (by omega) ((t3_nowSlot c v115 t).trans (by rw [dr_slot (xsf_lt c) rfl hn hk]))) (fun v hv => hv) (fun v hv => hv)) $$ HW
  iintro HW
  rw [wp_ret]
  imodintro
  iexact HW

set_option maxHeartbeats 1000000 in
theorem t3_run (v29 : BitVec 32) (v43 : BitVec 32) (v51 : BitVec 32) (v71 : BitVec 32) (v78 : BitVec 32) (v100 : BitVec 32) (v102 : Elt F .i32) (k0_hw1 : k0_chk1 c v102) (v103 : BitVec 32) (v115 : Elt F .i32) (k0_hw10 : k0_chk10 c v115) (h : Region (prow P (xsf c)) (trow I (xsf c)) (xsf c) (BitVec.toNat v115) Em G) (hn : BitVec.toNat v115 ≤ 128) {β : Type} {body' : Fin (k0_t4_loop c v115).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xsf c) (BitVec.toNat v115 - 16) (BitVec.toNat v115) : sProp 𝕄) ⊢ iprop((Work G₀ κ c P I C Em G N j (xsf c) (BitVec.toNat v115) (BitVec.toNat v115) -∗ wp frame (wpE (defs₀ (F := F)) 𝒱₀ c none) Set.univ (kk ⟨⟩) Q)
      -∗ wp frame (wpE (defs₀ (F := F)) 𝒱₀ c none) Set.univ (Scf.Loop.for (k0_t3_loop c v115) (k0_t3_ok c v115 k0_hw10) ⟨⟩ (k0_t3_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v71 v78 v100 v102 k0_hw1 v103 v115 k0_hw10) >>= fun _ =>
          Scf.Loop.for (k0_t4_loop c v115) (k0_t4_ok c v115 k0_hw10) ⟨⟩ body' >>= kk) Q) := by
  have hend : BitVec.toNat v115 - 16 + (k0_t3_loop c v115).trips = BitVec.toNat v115 := by rw [t3_loop c v115, drLoop_trips (xsf_lt c) rfl hn]; omega
  iintro HW Hk
  iapply (Scf.wp_for_bind _ _ _ _ _ _ _ _ _ (fun t _ => Work G₀ κ c P I C Em G N j (xsf c) (BitVec.toNat v115 - 16 + t) (BitVec.toNat v115)) (fun t u => t3_trip c G₀ κ v29 v43 v51 v71 v78 v100 v102 k0_hw1 v103 v115 k0_hw10 h hn t u)) $$ [HW]
  · iexact HW
  iintro %acc HW
  iapply (wp_noTrips c (t3_none c v115 hn))
  iapply Hk
  unfold Scf.Loop.trips at hend
  rw [hend]
  iexact HW

end Runs

end Cert.GatherProof
end
-- ==== Proof.Part3.lean ====
/- Parts 3 and 4 of the kernel's body, run. -/
module

public import proofs.«01_k».proof.Proof.Glue
public import proofs.«01_k».proof.Proof.RunXsf

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part3_run (v12 : BitVec 32) (v29 : BitVec 32) (v40 : BitVec 32) (v68 : BitVec 32) {β : Type} {kk : (Σ' (v71 : BitVec 32) (v74 : BitVec 32) (v78 : BitVec 32) (v83 : BitVec 32) (v86 : BitVec 32) (v88 : BitVec 32) (v92 : BitVec 32) (v95 : BitVec 32) (v100 : BitVec 32) (v102 : Elt F .i32) (k0_hw1 : k0_chk1 c v102), BitVec 32) → Prog (TpuEff nD τ sig (Elt F) Λ₀ .tc) β} {Q : β → sProp 𝕄} :
    iprop(Ctx G κ c ∗ Proto 0 0 c ∗ Tabs c P I C ∗ Any oV c (xs c + b0 c) 128)
      ⊢ iprop((∀ r, ⌜r.2.2.2.2.2.2.2.2.2.1 = C (xsf c)⌝ -∗ Proto 0 0 c ∗ Tabs c P I C ∗ Blk oV c (xs c + b0 c) 128 fullShare 0 (fun _ _ => zero) -∗ wp frame (wpE (defs₀ (F := F)) 𝒱₀ c none) Set.univ (kk r) Q)
        -∗ wp frame (wpE (defs₀ (F := F)) 𝒱₀ c none) Set.univ (k0_part3_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v29 v40 v68 >>= kk) Q) := by
  unfold k0_part3_skel
  simp -proj only [smemLoad_bind, Prog.lift, Prog.bind_op, Prog.bind_ret, Prog.pure_eq_ret, Prog.bind_assoc]
  iintro ⟨#HC, HP, HT, HRxsf⟩ Hk
  iapply (wp_clear c (lo := xs c + b0 c) (n := 128) (congrFun (o1 c) 0) (congrFun (o1 c) 1) (fun _ => rfl)) $$ HRxsf
  iintro HRxsf
  iapply (wp_count (i := xsf c) (congrFun (ix2 c) 0)) $$ HT
  iintro HT
  iapply (wp_assume 𝒱₀ (c : Thread nD τ) none Set.univ (t1_chk c _ (hn (xsf c) (xsf_lt c))))
  iapply Hk $$ [] [HP HT HRxsf]
  · ipureintro; rfl
  · isplitl [HP]; · iexact HP
    isplitl [HT]; · iexact HT
    iexact HRxsf

set_option maxHeartbeats 400000 in
theorem part4_run (v29 : BitVec 32) (v43 : BitVec 32) (v51 : BitVec 32) (v71 : BitVec 32) (v78 : BitVec 32) (v100 : BitVec 32) (v102 : Elt F .i32) (k0_hw1 : k0_chk1 c v102) (v103 : BitVec 32) (hv : v102 = C (xsf c)) {β : Type} {kk : (BitVec 32) → Prog (TpuEff nD τ sig (Elt F) Λ₀ .tc) β} {Q : β → sProp 𝕄} :
    iprop(Ctx G κ c ∗ Proto 0 0 c ∗ Tabs c P I C ∗ Blk oV c (xs c + b0 c) 128 fullShare 0 (fun _ _ => zero) ∗ bigSep (Finset.range 16) (idle c (xsf c) Em) ∗ Any oV c (ys c + a1 c) 128)
      ⊢ iprop((∀ r, Proto 0 0 c ∗ Tabs c P I C ∗ Blk oV c (xs c + b0 c) 128 fullShare 0 (G c) ∗ bigSep (Finset.range 16) (idle c (xsf c) Em) ∗ Blk oV c (ys c + a1 c) 128 fullShare 0 (fun _ _ => zero) -∗ wp frame (wpE (defs₀ (F := F)) 𝒱₀ c none) Set.univ (kk r) Q)
        -∗ wp frame (wpE (defs₀ (F := F)) 𝒱₀ c none) Set.univ (k0_part4_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v71 v78 v100 v102 k0_hw1 v103 >>= kk) Q) := by
  subst hv
  unfold k0_part4_skel
  simp -proj only [smemLoad_bind, Prog.lift, Prog.bind_op, Prog.bind_ret, Prog.pure_eq_ret, Prog.bind_assoc]
  iintro ⟨#HC, HP, HT, HRxsf, HIxsf, HRysf⟩ Hk
  iapply (t1_run c G κ _ _ _ _ _ _ _ _ _ (hR (xsf c) (xsf_lt c)) (hn (xsf c) (xsf_lt c))) $$ [HP HT HRxsf HIxsf]
  · iapply (work_start (xsf_row c))
    isplitr; · iexact HC
    isplitl [HP]; · iexact HP
    isplitl [HT]; · iexact HT
    isplitl [HRxsf]; · iexact HRxsf
    iexact HIxsf
  iintro HW
  ihave HW := work_pause $$ HW
  icases HW with ⟨HP, HT, HUxsf⟩
  iapply (wp_clear c (lo := ys c + a1 c) (n := 128) (congrFun (o19 c) 0) (congrFun (o19 c) 1) (fun _ => rfl)) $$ HRysf
  iintro HRysf
  iapply (wp_count (i := xsf c) (congrFun (ix20 c) 0)) $$ HT
  iintro HT
  iapply (wp_assume 𝒱₀ (c : Thread nD τ) none Set.univ (t3_chk c _ (hn (xsf c) (xsf_lt c))))
  iapply (t3_run c G κ _ _ _ _ _ _ _ _ _ _ _ (hR (xsf c) (xsf_lt c)) (hn (xsf c) (xsf_lt c))) $$ [HP HT HUxsf]
  · iapply work_resume
    isplitr; · iexact HC
    isplitl [HP]; · iexact HP
    isplitl [HT]; · iexact HT
    iexact HUxsf
  iintro HW
  ihave HW := (work_end (xsf_row c) (hR (xsf c) (xsf_lt c))) $$ HW
  icases HW with ⟨HP, HT, HRxsf, HIxsf⟩
  iapply Hk $$ [HP HT HRxsf HIxsf HRysf]
  · isplitl [HP]; · iexact HP
    isplitl [HT]; · iexact HT
    isplitl [HRxsf]; · iexact HRxsf
    isplitl [HIxsf]; · iexact HIxsf
    iexact HRysf

end Parts

end Cert.GatherProof
end
-- ==== Proof.RunXso.lean ====
/- The two loops of the region that xso names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t9_lt (hn : w.toNat ≤ 128) (t : Fin (k0_t9_loop c w).trips) : t.val < w.toNat := by
  exact lt_of_lt_of_eq t.isLt (by rw [t9_loop c w, isLoop_trips (xso_lt c) rfl hn])
theorem t9_none (hn : w.toNat ≤ 128) : (k0_t10_loop c w).trips = 0 := by rw [t10_loop c w, isRest_trips (xso_lt c) rfl hn]
theorem t9_chk (hn : w.toNat ≤ 128) : k0_chk29 c w := by
  refine ⟨?_, fun t h => ?_, fun t h => ?_, fun t => ?_, fun t => ?_, ?_, fun t => ?_, fun t => ?_, fun t => ?_, fun t => ?_⟩
  · rw [t9_loop c w]; exact isLoop_ok (xso_lt c) rfl hn
  · have hk := t9_lt c w hn t
    rw [t9_full c w t, full_iff (xso_lt c) (by omega)] at h
    exact one_inb (D := 1024) ((congrFun (t9_old c w t) 0).trans (old_word (xso_lt c) (by omega) h)) (by have := xso_lt c; omega)
  · have hk := t9_lt c w hn t
    rw [t9_full c w t, full_iff (xso_lt c) (by omega)] at h
    exact slot_inb (t9_oldSlot c w t) (xso_lt c) (by rw [old_slot (xso_lt c) (by omega) h]; omega)
  · have hk := t9_lt c w hn t
    exact one_inb (D := 1024) ((congrFun (t9_now c w t) 0).trans (now_word (xso_lt c) (by omega))) (by have := xso_lt c; omega)
  · have hk := t9_lt c w hn t
    exact slot_inb (t9_nowSlot c w t) (xso_lt c) (by rw [now_slot (xso_lt c) (by omega)]; omega)
  · rw [t10_loop c w]; exact isRest_ok (xso_lt c) rfl hn
  all_goals exact absurd (lt_of_lt_of_eq t.isLt (t9_none c w hn)) (Nat.not_lt_zero _)

theorem t11_lt (hn : w.toNat ≤ 128) (t : Fin (k0_t11_loop c w).trips) : t.val < w.toNat - (w.toNat - 16) := by
  exact lt_of_lt_of_eq t.isLt (by rw [t11_loop c w, drLoop_trips (xso_lt c) rfl hn])
theorem t11_none (hn : w.toNat ≤ 128) : (k0_t12_loop c w).trips = 0 := by rw [t12_loop c w, drRest_trips (xso_lt c) rfl hn]
theorem t11_chk (hn : w.toNat ≤ 128) : k0_chk38 c w := by
  refine ⟨?_, fun t => ?_, fun t => ?_, ?_, fun t => ?_, fun t => ?_⟩
  · rw [t11_loop c w]; exact drLoop_ok (xso_lt c) rfl hn
  · have hk := t11_lt c w hn t
    exact one_inb (D := 1024) ((congrFun (t11_now c w t) 0).trans (dr_word (xso_lt c) rfl hn hk)) (by have := xso_lt c; omega)
  · have hk := t11_lt c w hn t
    exact slot_inb (t11_nowSlot c w t) (xso_lt c) (by rw [dr_slot (xso_lt c) rfl hn hk]; omega)
  · rw [t12_loop c w]; exact drRest_ok (xso_lt c) rfl hn
  all_goals exact absurd (lt_of_lt_of_eq t.isLt (t11_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t9_trip (v29 : BitVec 32) (v43 : BitVec 32) (v51 : BitVec 32) (v74 : BitVec 32) (v83 : BitVec 32) (v195 : BitVec 32) (v197 : Elt F .i32) (k0_hw29 : k0_chk29 c v197) (v199 : BitVec 32) (h : Region (prow P (xso c)) (trow I (xso c)) (xso c) (BitVec.toNat v197) Em G) (hn : BitVec.toNat v197 ≤ 128) (t : Fin (k0_t9_loop c v197).trips) (u : Unit) :
    (Work G₀ κ c P I C Em G N j (xso c) (t.val - 16) t.val : sProp 𝕄) ⊢ wp frame (wpE (defs₀ (F := F)) 𝒱₀ c none) Set.univ (k0_t9_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v74 v83 v195 v197 k0_hw29 v199 t u)
      fun _ => Work G₀ κ c P I C Em G N j (xso c) (t.val + 1 - 16) (t.val + 1) := by
  have hk := t9_lt c v197 hn t
  unfold k0_t9_body
  by_cases hf : k0_cond5 c v197 t = 1#1
  · have h16 := (full_iff (xso_lt c) (by omega)).1 ((t9_full c v197 t).symm.trans hf)
    rw [dif_pos hf]
    simp -proj only [smemLoad_bind, Prog.lift, Prog.bind_op, Prog.bind_ret, Prog.pure_eq_ret, Prog.bind_assoc]
    iintro HW
    iapply (wp_takeTrip G₀ κ c h (xso_lt c) (off := k0_off65 c v197 t) (off' := k0_off65 c v197 t) (A := k0_chk31 c v197 t) (B := k0_chk30 c v197 t) (tf := k0_off68) (ro := k0_off67) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t9_old c v197 t) 0).trans (old_word (xso_lt c) (by omega) h16)) ((congrFun (t9_old c v197 t) 0).trans (old_word (xso_lt c) (by omega) h16))
      (fun v => ⟨rfl, rfl⟩) (fun v => ⟨rfl, rfl⟩)
      (gsem_eq (xso_lt c) (by omega) ((t9_oldSlot c v197 t).trans (by rw [old_slot (xso_lt c) (by omega) h16]))) (fun v hv _ => hv) (fun v hv _ => hv)) $$ HW
    rw [show t.val - 16 + 1 = t.val + 1 - 16 from by omega]
    iintro HW
    iapply (wp_sendTrip G₀ κ c h (xso_lt c) (off := k0_off69 c v197 t) (off' := k0_off69 c v197 t) (A := k0_chk33) (B := k0_chk32) (tf := k0_off72) (ro := k0_off71) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t9_now c v197 t) 0).trans (now_word (xso_lt c) (by omega))) ((congrFun (t9_now c v197 t) 0).trans (now_word (xso_lt c) (by omega)))
      (fun v => ⟨rfl, rfl⟩) (fun v => ⟨rfl, rfl⟩)
      (gsem_eq (xso_lt c) (by omega) ((t9_nowSlot c v197 t).trans (by rw [now_slot (xso_lt c) (by omega)]))) (fun v hv => hv) (fun v hv => hv)) $$ HW
    iintro HW
    rw [wp_ret]
    imodintro
    iexact HW
  · have h16 : ¬ 16 ≤ t.val := fun h => hf ((t9_full c v197 t).trans ((full_iff (xso_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (xso_lt c) (off := k0_off69 c v197 t) (off' := k0_off69 c v197 t) (A := k0_chk33) (B := k0_chk32) (tf := k0_off72) (ro := k0_off71) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t9_now c v197 t) 0).trans (now_word (xso_lt c) (by omega))) ((congrFun (t9_now c v197 t) 0).trans (now_word (xso_lt c) (by omega)))
      (fun v => ⟨rfl, rfl⟩) (fun v => ⟨rfl, rfl⟩)
      (gsem_eq (xso_lt c) (by omega) ((t9_nowSlot c v197 t).trans (by rw [now_slot (xso_lt c) (by omega)]))) (fun v hv => hv) (fun v hv => hv)) $$ HW
    iintro HW
    rw [wp_ret]
    imodintro
    iexact HW

set_option maxHeartbeats 1000000 in
theorem t9_run (v29 : BitVec 32) (v43 : BitVec 32) (v51 : BitVec 32) (v74 : BitVec 32) (v83 : BitVec 32) (v195 : BitVec 32) (v197 : Elt F .i32) (k0_hw29 : k0_chk29 c v197) (v199 : BitVec 32) (h : Region (prow P (xso c)) (trow I (xso c)) (xso c) (BitVec.toNat v197) Em G) (hn : BitVec.toNat v197 ≤ 128) {β : Type} {body' : Fin (k0_t10_loop c v197).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xso c) 0 0 : sProp 𝕄) ⊢ iprop((Work G₀ κ c P I C Em G N j (xso c) (BitVec.toNat v197 - 16) (BitVec.toNat v197) -∗ wp frame (wpE (defs₀ (F := F)) 𝒱₀ c none) Set.univ (kk ⟨⟩) Q)
      -∗ wp frame (wpE (defs₀ (F := F)) 𝒱₀ c none) Set.univ (Scf.Loop.for (k0_t9_loop c v197) (k0_t9_ok c v197 k0_hw29) ⟨⟩ (k0_t9_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v74 v83 v195 v197 k0_hw29 v199) >>= fun _ =>
          Scf.Loop.for (k0_t10_loop c v197) (k0_t10_ok c v197 k0_hw29) ⟨⟩ body' >>= kk) Q) := by
  have hend : (k0_t9_loop c v197).trips = BitVec.toNat v197 := by rw [t9_loop c v197, isLoop_trips (xso_lt c) rfl hn]
  iintro HW Hk
  iapply (Scf.wp_for_bind _ _ _ _ _ _ _ _ _ (fun t _ => Work G₀ κ c P I C Em G N j (xso c) (t - 16) t) (fun t u => t9_trip c G₀ κ v29 v43 v51 v74 v83 v195 v197 k0_hw29 v199 h hn t u)) $$ [HW]
  · iexact HW
  iintro %acc HW
  iapply (wp_noTrips c (t9_none c v197 hn))
  iapply Hk
  unfold Scf.Loop.trips at hend
  rw [hend]
  iexact HW

set_option maxHeartbeats 1000000 in
theorem t11_trip (v29 : BitVec 32) (v43 : BitVec 32) (v51 : BitVec 32) (v74 : BitVec 32) (v83 : BitVec 32) (v195 : BitVec 32) (v197 : Elt F .i32) (k0_hw29 : k0_chk29 c v197) (v199 : BitVec 32) (v210 : Elt F .i32) (k0_hw38 : k0_chk38 c v210) (h : Region (prow P (xso c)) (trow I (xso c)) (xso c) (BitVec.toNat v210) Em G) (hn : BitVec.toNat v210 ≤ 128) (t : Fin (k0_t11_loop c v210).trips) (u : Unit) :
    (Work G₀ κ c P I C Em G N j (xso c) (BitVec.toNat v210 - 16 + t.val) (BitVec.toNat v210) : sProp 𝕄) ⊢ wp frame (wpE (defs₀ (F := F)) 𝒱₀ c none) Set.univ (k0_t11_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v74 v83 v195 v197 k0_hw29 v199 v210 k0_hw38 t u)
      fun _ => Work G₀ κ c P I C Em G N j (xso c) (BitVec.toNat v210 - 16 + (t.val + 1)) (BitVec.toNat v210) := by
  have hk := t11_lt c v210 hn t
  unfold k0_t11_body
  simp -proj only [smemLoad_bind, Prog.lift, Prog.bind_op, Prog.bind_ret, Prog.pure_eq_ret, Prog.bind_assoc]
  iintro HW
  iapply (wp_takeTrip G₀ κ c h (xso_lt c) (off := k0_off83 c v210 t) (off' := k0_off83 c v210 t) (A := k0_chk40) (B := k0_chk39) (tf := k0_off86) (ro := k0_off85) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v210 - 16 + t.val) (b := BitVec.toNat v210) (by omega) (by omega) (by omega)
    ((congrFun (t11_now c v210 t) 0).trans (dr_word (xso_lt c) rfl hn hk)) ((congrFun (t11_now c v210 t) 0).trans (dr_word (xso_lt c) rfl hn hk))
    (fun v => ⟨rfl, rfl⟩) (fun v => ⟨rfl, rfl⟩)
    (gsem_eq (xso_lt c) (by omega) ((t11_nowSlot c v210 t).trans (by rw [dr_slot (xso_lt c) rfl hn hk]))) (fun v hv => hv) (fun v hv => hv)) $$ HW
  iintro HW
  rw [wp_ret]
  imodintro
  iexact HW

set_option maxHeartbeats 1000000 in
theorem t11_run (v29 : BitVec 32) (v43 : BitVec 32) (v51 : BitVec 32) (v74 : BitVec 32) (v83 : BitVec 32) (v195 : BitVec 32) (v197 : Elt F .i32) (k0_hw29 : k0_chk29 c v197) (v199 : BitVec 32) (v210 : Elt F .i32) (k0_hw38 : k0_chk38 c v210) (h : Region (prow P (xso c)) (trow I (xso c)) (xso c) (BitVec.toNat v210) Em G) (hn : BitVec.toNat v210 ≤ 128) {β : Type} {body' : Fin (k0_t12_loop c v210).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xso c) (BitVec.toNat v210 - 16) (BitVec.toNat v210) : sProp 𝕄) ⊢ iprop((Work G₀ κ c P I C Em G N j (xso c) (BitVec.toNat v210) (BitVec.toNat v210) -∗ wp frame (wpE (defs₀ (F := F)) 𝒱₀ c none) Set.univ (kk ⟨⟩) Q)
      -∗ wp frame (wpE (defs₀ (F := F)) 𝒱₀ c none) Set.univ (Scf.Loop.for (k0_t11_loop c v210) (k0_t11_ok c v210 k0_hw38) ⟨⟩ (k0_t11_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v74 v83 v195 v197 k0_hw29 v199 v210 k0_hw38) >>= fun _ =>
          Scf.Loop.for (k0_t12_loop c v210) (k0_t12_ok c v210 k0_hw38) ⟨⟩ body' >>= kk) Q) := by
  have hend : BitVec.toNat v210 - 16 + (k0_t11_loop c v210).trips = BitVec.toNat v210 := by rw [t11_loop c v210, drLoop_trips (xso_lt c) rfl hn]; omega
  iintro HW Hk
  iapply (Scf.wp_for_bind _ _ _ _ _ _ _ _ _ (fun t _ => Work G₀ κ c P I C Em G N j (xso c) (BitVec.toNat v210 - 16 + t) (BitVec.toNat v210)) (fun t u => t11_trip c G₀ κ v29 v43 v51 v74 v83 v195 v197 k0_hw29 v199 v210 k0_hw38 h hn t u)) $$ [HW]
  · iexact HW
  iintro %acc HW
  iapply (wp_noTrips c (t11_none c v210 hn))
  iapply Hk
  unfold Scf.Loop.trips at hend
  rw [hend]
  iexact HW

end Runs

end Cert.GatherProof
end
-- ==== Proof.RunYsf.lean ====
/- The two loops of the region that ysf names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t5_lt (hn : w.toNat ≤ 128) (t : Fin (k0_t5_loop c w).trips) : t.val < w.toNat := by
  exact lt_of_lt_of_eq t.isLt (by rw [t5_loop c w, isLoop_trips (ysf_lt c) rfl hn])
theorem t5_none (hn : w.toNat ≤ 128) : (k0_t6_loop c w).trips = 0 := by rw [t6_loop c w, isRest_trips (ysf_lt c) rfl hn]
theorem t5_chk (hn : w.toNat ≤ 128) : k0_chk15 c w := by
  refine ⟨?_, fun t h => ?_, fun t h => ?_, fun t => ?_, fun t => ?_, ?_, fun t => ?_, fun t => ?_, fun t => ?_, fun t => ?_⟩
  · rw [t5_loop c w]; exact isLoop_ok (ysf_lt c) rfl hn
  · have hk := t5_lt c w hn t
    rw [t5_full c w t, full_iff (ysf_lt c) (by omega)] at h
    exact one_inb (D := 1024) ((congrFun (t5_old c w t) 0).trans (old_word (ysf_lt c) (by omega) h)) (by have := ysf_lt c; omega)
  · have hk := t5_lt c w hn t
    rw [t5_full c w t, full_iff (ysf_lt c) (by omega)] at h
    exact slot_inb (t5_oldSlot c w t) (ysf_lt c) (by rw [old_slot (ysf_lt c) (by omega) h]; omega)
  · have hk := t5_lt c w hn t
    exact one_inb (D := 1024) ((congrFun (t5_now c w t) 0).trans (now_word (ysf_lt c) (by omega))) (by have := ysf_lt c; omega)
  · have hk := t5_lt c w hn t
    exact slot_inb (t5_nowSlot c w t) (ysf_lt c) (by rw [now_slot (ysf_lt c) (by omega)]; omega)
  · rw [t6_loop c w]; exact isRest_ok (ysf_lt c) rfl hn
  all_goals exact absurd (lt_of_lt_of_eq t.isLt (t5_none c w hn)) (Nat.not_lt_zero _)

theorem t7_lt (hn : w.toNat ≤ 128) (t : Fin (k0_t7_loop c w).trips) : t.val < w.toNat - (w.toNat - 16) := by
  exact lt_of_lt_of_eq t.isLt (by rw [t7_loop c w, drLoop_trips (ysf_lt c) rfl hn])
theorem t7_none (hn : w.toNat ≤ 128) : (k0_t8_loop c w).trips = 0 := by rw [t8_loop c w, drRest_trips (ysf_lt c) rfl hn]
theorem t7_chk (hn : w.toNat ≤ 128) : k0_chk24 c w := by
  refine ⟨?_, fun t => ?_, fun t => ?_, ?_, fun t => ?_, fun t => ?_⟩
  · rw [t7_loop c w]; exact drLoop_ok (ysf_lt c) rfl hn
  · have hk := t7_lt c w hn t
    exact one_inb (D := 1024) ((congrFun (t7_now c w t) 0).trans (dr_word (ysf_lt c) rfl hn hk)) (by have := ysf_lt c; omega)
  · have hk := t7_lt c w hn t
    exact slot_inb (t7_nowSlot c w t) (ysf_lt c) (by rw [dr_slot (ysf_lt c) rfl hn hk]; omega)
  · rw [t8_loop c w]; exact drRest_ok (ysf_lt c) rfl hn
  all_goals exact absurd (lt_of_lt_of_eq t.isLt (t7_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t5_trip (v43 : BitVec 32) (v74 : BitVec 32) (v78 : BitVec 32) (v133 : BitVec 32) (v151 : Elt F .i32) (k0_hw15 : k0_chk15 c v151) (h : Region (prow P (ysf c)) (trow I (ysf c)) (ysf c) (BitVec.toNat v151) Em G) (hn : BitVec.toNat v151 ≤ 128) (t : Fin (k0_t5_loop c v151).trips) (u : Unit) :
    (Work G₀ κ c P I C Em G N j (ysf c) (t.val - 16) t.val : sProp 𝕄) ⊢ wp frame (wpE (defs₀ (F := F)) 𝒱₀ c none) Set.univ (k0_t5_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v74 v78 v133 v151 k0_hw15 t u)
      fun _ => Work G₀ κ c P I C Em G N j (ysf c) (t.val + 1 - 16) (t.val + 1) := by
  have hk := t5_lt c v151 hn t
  unfold k0_t5_body
  by_cases hf : k0_cond3 c v151 t = 1#1
  · have h16 := (full_iff (ysf_lt c) (by omega)).1 ((t5_full c v151 t).symm.trans hf)
    rw [dif_pos hf]
    simp -proj only [smemLoad_bind, Prog.lift, Prog.bind_op, Prog.bind_ret, Prog.pure_eq_ret, Prog.bind_assoc]
    iintro HW
    iapply (wp_takeTrip G₀ κ c h (ysf_lt c) (off := k0_off34 c v151 t) (off' := k0_off34 c v151 t) (A := k0_chk17 c v151 t) (B := k0_chk16 c v151 t) (tf := k0_off37) (ro := k0_off36) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t5_old c v151 t) 0).trans (old_word (ysf_lt c) (by omega) h16)) ((congrFun (t5_old c v151 t) 0).trans (old_word (ysf_lt c) (by omega) h16))
      (fun v => ⟨rfl, rfl⟩) (fun v => ⟨rfl, rfl⟩)
      (gsem_eq (ysf_lt c) (by omega) ((t5_oldSlot c v151 t).trans (by rw [old_slot (ysf_lt c) (by omega) h16]))) (fun v hv _ => hv) (fun v hv _ => hv)) $$ HW
    rw [show t.val - 16 + 1 = t.val + 1 - 16 from by omega]
    iintro HW
    iapply (wp_sendTrip G₀ κ c h (ysf_lt c) (off := k0_off38 c v151 t) (off' := k0_off38 c v151 t) (A := k0_chk19) (B := k0_chk18) (tf := k0_off41) (ro := k0_off40) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t5_now c v151 t) 0).trans (now_word (ysf_lt c) (by omega))) ((congrFun (t5_now c v151 t) 0).trans (now_word (ysf_lt c) (by omega)))
      (fun v => ⟨rfl, rfl⟩) (fun v => ⟨rfl, rfl⟩)
      (gsem_eq (ysf_lt c) (by omega) ((t5_nowSlot c v151 t).trans (by rw [now_slot (ysf_lt c) (by omega)]))) (fun v hv => hv) (fun v hv => hv)) $$ HW
    iintro HW
    rw [wp_ret]
    imodintro
    iexact HW
  · have h16 : ¬ 16 ≤ t.val := fun h => hf ((t5_full c v151 t).trans ((full_iff (ysf_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (ysf_lt c) (off := k0_off38 c v151 t) (off' := k0_off38 c v151 t) (A := k0_chk19) (B := k0_chk18) (tf := k0_off41) (ro := k0_off40) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t5_now c v151 t) 0).trans (now_word (ysf_lt c) (by omega))) ((congrFun (t5_now c v151 t) 0).trans (now_word (ysf_lt c) (by omega)))
      (fun v => ⟨rfl, rfl⟩) (fun v => ⟨rfl, rfl⟩)
      (gsem_eq (ysf_lt c) (by omega) ((t5_nowSlot c v151 t).trans (by rw [now_slot (ysf_lt c) (by omega)]))) (fun v hv => hv) (fun v hv => hv)) $$ HW
    iintro HW
    rw [wp_ret]
    imodintro
    iexact HW

set_option maxHeartbeats 1000000 in
theorem t5_run (v43 : BitVec 32) (v74 : BitVec 32) (v78 : BitVec 32) (v133 : BitVec 32) (v151 : Elt F .i32) (k0_hw15 : k0_chk15 c v151) (h : Region (prow P (ysf c)) (trow I (ysf c)) (ysf c) (BitVec.toNat v151) Em G) (hn : BitVec.toNat v151 ≤ 128) {β : Type} {body' : Fin (k0_t6_loop c v151).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (ysf c) 0 0 : sProp 𝕄) ⊢ iprop((Work G₀ κ c P I C Em G N j (ysf c) (BitVec.toNat v151 - 16) (BitVec.toNat v151) -∗ wp frame (wpE (defs₀ (F := F)) 𝒱₀ c none) Set.univ (kk ⟨⟩) Q)
      -∗ wp frame (wpE (defs₀ (F := F)) 𝒱₀ c none) Set.univ (Scf.Loop.for (k0_t5_loop c v151) (k0_t5_ok c v151 k0_hw15) ⟨⟩ (k0_t5_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v74 v78 v133 v151 k0_hw15) >>= fun _ =>
          Scf.Loop.for (k0_t6_loop c v151) (k0_t6_ok c v151 k0_hw15) ⟨⟩ body' >>= kk) Q) := by
  have hend : (k0_t5_loop c v151).trips = BitVec.toNat v151 := by rw [t5_loop c v151, isLoop_trips (ysf_lt c) rfl hn]
  iintro HW Hk
  iapply (Scf.wp_for_bind _ _ _ _ _ _ _ _ _ (fun t _ => Work G₀ κ c P I C Em G N j (ysf c) (t - 16) t) (fun t u => t5_trip c G₀ κ v43 v74 v78 v133 v151 k0_hw15 h hn t u)) $$ [HW]
  · iexact HW
  iintro %acc HW
  iapply (wp_noTrips c (t5_none c v151 hn))
  iapply Hk
  unfold Scf.Loop.trips at hend
  rw [hend]
  iexact HW

set_option maxHeartbeats 1000000 in
theorem t7_trip (v12 : BitVec 32) (v44 : BitVec 32) (v54 : BitVec 32) (v74 : BitVec 32) (v78 : BitVec 32) (v164 : Elt F .i32) (k0_hw24 : k0_chk24 c v164) (v165 : BitVec 32) (v167 : BitVec 32) (h : Region (prow P (ysf c)) (trow I (ysf c)) (ysf c) (BitVec.toNat v164) Em G) (hn : BitVec.toNat v164 ≤ 128) (t : Fin (k0_t7_loop c v164).trips) (u : Unit) :
    (Work G₀ κ c P I C Em G N j (ysf c) (BitVec.toNat v164 - 16 + t.val) (BitVec.toNat v164) : sProp 𝕄) ⊢ wp frame (wpE (defs₀ (F := F)) 𝒱₀ c none) Set.univ (k0_t7_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v74 v78 v164 k0_hw24 v165 v167 t u)
      fun _ => Work G₀ κ c P I C Em G N j (ysf c) (BitVec.toNat v164 - 16 + (t.val + 1)) (BitVec.toNat v164) := by
  have hk := t7_lt c v164 hn t
  unfold k0_t7_body
  simp -proj only [smemLoad_bind, Prog.lift, Prog.bind_op, Prog.bind_ret, Prog.pure_eq_ret, Prog.bind_assoc]
  iintro HW
  iapply (wp_takeTrip G₀ κ c h (ysf_lt c) (off := k0_off52 c v164 t) (off' := k0_off52 c v164 t) (A := k0_chk26) (B := k0_chk25) (tf := k0_off55) (ro := k0_off54) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v164 - 16 + t.val) (b := BitVec.toNat v164) (by omega) (by omega) (by omega)
    ((congrFun (t7_now c v164 t) 0).trans (dr_word (ysf_lt c) rfl hn hk)) ((congrFun (t7_now c v164 t) 0).trans (dr_word (ysf_lt c) rfl hn hk))
    (fun v => ⟨rfl, rfl⟩) (fun v => ⟨rfl, rfl⟩)
    (gsem_eq (ysf_lt c) (by omega) ((t7_nowSlot c v164 t).trans (by rw [dr_slot (ysf_lt c) rfl hn hk]))) (fun v hv => hv) (fun v hv => hv)) $$ HW
  iintro HW
  rw [wp_ret]
  imodintro
  iexact HW

set_option maxHeartbeats 1000000 in
theorem t7_run (v12 : BitVec 32) (v44 : BitVec 32) (v54 : BitVec 32) (v74 : BitVec 32) (v78 : BitVec 32) (v164 : Elt F .i32) (k0_hw24 : k0_chk24 c v164) (v165 : BitVec 32) (v167 : BitVec 32) (h : Region (prow P (ysf c)) (trow I (ysf c)) (ysf c) (BitVec.toNat v164) Em G) (hn : BitVec.toNat v164 ≤ 128) {β : Type} {body' : Fin (k0_t8_loop c v164).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (ysf c) (BitVec.toNat v164 - 16) (BitVec.toNat v164) : sProp 𝕄) ⊢ iprop((Work G₀ κ c P I C Em G N j (ysf c) (BitVec.toNat v164) (BitVec.toNat v164) -∗ wp frame (wpE (defs₀ (F := F)) 𝒱₀ c none) Set.univ (kk ⟨⟩) Q)
      -∗ wp frame (wpE (defs₀ (F := F)) 𝒱₀ c none) Set.univ (Scf.Loop.for (k0_t7_loop c v164) (k0_t7_ok c v164 k0_hw24) ⟨⟩ (k0_t7_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v74 v78 v164 k0_hw24 v165 v167) >>= fun _ =>
          Scf.Loop.for (k0_t8_loop c v164) (k0_t8_ok c v164 k0_hw24) ⟨⟩ body' >>= kk) Q) := by
  have hend : BitVec.toNat v164 - 16 + (k0_t7_loop c v164).trips = BitVec.toNat v164 := by rw [t7_loop c v164, drLoop_trips (ysf_lt c) rfl hn]; omega
  iintro HW Hk
  iapply (Scf.wp_for_bind _ _ _ _ _ _ _ _ _ (fun t _ => Work G₀ κ c P I C Em G N j (ysf c) (BitVec.toNat v164 - 16 + t) (BitVec.toNat v164)) (fun t u => t7_trip c G₀ κ v12 v44 v54 v74 v78 v164 k0_hw24 v165 v167 h hn t u)) $$ [HW]
  · iexact HW
  iintro %acc HW
  iapply (wp_noTrips c (t7_none c v164 hn))
  iapply Hk
  unfold Scf.Loop.trips at hend
  rw [hend]
  iexact HW

end Runs

end Cert.GatherProof
end
-- ==== Proof.Part5.lean ====
/- Parts 5 and 6 of the kernel's body, run. -/
module

public import proofs.«01_k».proof.Proof.Glue
public import proofs.«01_k».proof.Proof.RunXso
public import proofs.«01_k».proof.Proof.RunYsf

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part5_run (v43 : BitVec 32) (v74 : BitVec 32) (v78 : BitVec 32) (v133 : BitVec 32) {β : Type} {kk : (Σ' (v164 : Elt F .i32) (k0_hw24 : k0_chk24 c v164) (v165 : BitVec 32), BitVec 32) → Prog (TpuEff nD τ sig (Elt F) Λ₀ .tc) β} {Q : β → sProp 𝕄} :
    iprop(Ctx G κ c ∗ Proto 0 0 c ∗ Tabs c P I C ∗ Blk oV c (xs c + b0 c) 128 fullShare 0 (G c) ∗ Any x1V (pa c) (b0 c) 64 ∗ Any x1V (pa c) (b0 c + 64) 64 ∗ Blk oV c (ys c + a1 c) 128 fullShare 0 (fun _ _ => zero) ∗ bigSep (Finset.range 16) (idle c (ysf c) Em) ∗ Any oV c (xs c + b1 c) 128)
      ⊢ iprop((∀ r, ⌜r.1 = C (ysf c)⌝ -∗ Proto 2 0 c ∗ Tabs c P I C ∗ Blk oV c (xs c + b1 c) 128 fullShare 0 (fun _ _ => zero) ∗ Under c (prow P (ysf c)) (trow I (ysf c)) (ysf c) Em (G c) (BitVec.toNat (C (ysf c)) - 16) (BitVec.toNat (C (ysf c))) -∗ wp frame (wpE (defs₀ (F := F)) 𝒱₀ c none) Set.univ (kk r) Q)
        -∗ wp frame (wpE (defs₀ (F := F)) 𝒱₀ c none) Set.univ (k0_part5_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v74 v78 v133 >>= kk) Q) := by
  unfold k0_part5_skel
  simp -proj only [smemLoad_bind, Prog.lift, Prog.bind_op, Prog.bind_ret, Prog.pure_eq_ret, Prog.bind_assoc]
  iintro ⟨#HC, HP, HT, HRxsf, HX1a, HX1b, HRysf, HIysf, HRxso⟩ Hk
  ihave HRxsf := blk_cut $$ HRxsf
  icases HRxsf with ⟨HRxsf0, HRxsf1⟩
  iapply (send0 G κ c (j := 0) rfl rfl (by decide)) $$ [HP HRxsf0 HX1a]
  · isplitr; · iexact HC
    isplitl [HP]; · iexact HP
    isplitl [HRxsf0]; · iexact HRxsf0
    iexact HX1a
  iintro HP
  iapply (send1 G κ c (j := 0) rfl rfl (by decide)) $$ [HP HRxsf1 HX1b]
  · isplitr; · iexact HC
    isplitl [HP]; · iexact HP
    isplitl [HRxsf1]; · iexact HRxsf1
    iexact HX1b
  iintro HP
  iapply (wp_count (i := ysf c) (congrFun (ix33 c) 0)) $$ HT
  iintro HT
  iapply (wp_assume 𝒱₀ (c : Thread nD τ) none Set.univ (t5_chk c _ (hn (ysf c) (ysf_lt c))))
  iapply (t5_run c G κ _ _ _ _ _ _ (hR (ysf c) (ysf_lt c)) (hn (ysf c) (ysf_lt c))) $$ [HP HT HRysf HIysf]
  · iapply (work_start (ysf_row c))
    isplitr; · iexact HC
    isplitl [HP]; · iexact HP
    isplitl [HT]; · iexact HT
    isplitl [HRysf]; · iexact HRysf
    iexact HIysf
  iintro HW
  ihave HW := work_pause $$ HW
  icases HW with ⟨HP, HT, HUysf⟩
  iapply (wp_clear c (lo := xs c + b1 c) (n := 128) (congrFun (o50 c) 0) (congrFun (o50 c) 1) (fun _ => rfl)) $$ HRxso
  iintro HRxso
  iapply (wp_count (i := ysf c) (congrFun (ix51 c) 0)) $$ HT
  iintro HT
  iapply (wp_assume 𝒱₀ (c : Thread nD τ) none Set.univ (t7_chk c _ (hn (ysf c) (ysf_lt c))))
  iapply Hk $$ [] [HP HT HRxso HUysf]
  · ipureintro; rfl
  · isplitl [HP]; · iexact HP
    isplitl [HT]; · iexact HT
    isplitl [HRxso]; · iexact HRxso
    iexact HUysf

set_option maxHeartbeats 400000 in
theorem part6_run (v12 : BitVec 32) (v44 : BitVec 32) (v54 : BitVec 32) (v74 : BitVec 32) (v78 : BitVec 32) (v164 : Elt F .i32) (k0_hw24 : k0_chk24 c v164) (v165 : BitVec 32) (v167 : BitVec 32) (hv : v164 = C (ysf c)) {β : Type} {kk : (Σ' (v195 : BitVec 32) (v197 : Elt F .i32) (k0_hw29 : k0_chk29 c v197), BitVec 32) → Prog (TpuEff nD τ sig (Elt F) Λ₀ .tc) β} {Q : β → sProp 𝕄} :
    iprop(Ctx G κ c ∗ Proto 2 0 c ∗ Tabs c P I C ∗ Under c (prow P (ysf c)) (trow I (ysf c)) (ysf c) Em (G c) (BitVec.toNat (C (ysf c)) - 16) (BitVec.toNat (C (ysf c))) ∗ Any y1V (pb c) (a1 c) 64 ∗ Any y1V (pb c) (a1 c + 64) 64)
      ⊢ iprop((∀ r, ⌜r.2.1 = C (xso c)⌝ -∗ Proto 4 0 c ∗ Tabs c P I C ∗ bigSep (Finset.range 16) (idle c (ysf c) Em) -∗ wp frame (wpE (defs₀ (F := F)) 𝒱₀ c none) Set.univ (kk r) Q)
        -∗ wp frame (wpE (defs₀ (F := F)) 𝒱₀ c none) Set.univ (k0_part6_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v74 v78 v164 k0_hw24 v165 v167 >>= kk) Q) := by
  subst hv
  unfold k0_part6_skel
  simp -proj only [smemLoad_bind, Prog.lift, Prog.bind_op, Prog.bind_ret, Prog.pure_eq_ret, Prog.bind_assoc]
  iintro ⟨#HC, HP, HT, HUysf, HY1a, HY1b⟩ Hk
  iapply (t7_run c G κ _ _ _ _ _ _ _ _ _ (hR (ysf c) (ysf_lt c)) (hn (ysf c) (ysf_lt c))) $$ [HP HT HUysf]
  · iapply work_resume
    isplitr; · iexact HC
    isplitl [HP]; · iexact HP
    isplitl [HT]; · iexact HT
    iexact HUysf
  iintro HW
  ihave HW := (work_end (ysf_row c) (hR (ysf c) (ysf_lt c))) $$ HW
  icases HW with ⟨HP, HT, HRysf, HIysf⟩
  ihave HRysf := blk_cut $$ HRysf
  icases HRysf with ⟨HRysf0, HRysf1⟩
  iapply (send2 G κ c (j := 0) rfl rfl (by decide)) $$ [HP HRysf0 HY1a]
  · isplitr; · iexact HC
    isplitl [HP]; · iexact HP
    isplitl [HRysf0]; · iexact HRysf0
    iexact HY1a
  iintro HP
  iapply (send3 G κ c (j := 0) rfl rfl (by decide)) $$ [HP HRysf1 HY1b]
  · isplitr; · iexact HC
    isplitl [HP]; · iexact HP
    isplitl [HRysf1]; · iexact HRysf1
    iexact HY1b
  iintro HP
  iapply (wp_count (i := xso c) (congrFun (ix64 c) 0)) $$ HT
  iintro HT
  iapply (wp_assume 𝒱₀ (c : Thread nD τ) none Set.univ (t9_chk c _ (hn (xso c) (xso_lt c))))
  iapply Hk $$ [] [HP HT HIysf]
  · ipureintro; rfl
  · isplitl [HP]; · iexact HP
    isplitl [HT]; · iexact HT
    iexact HIysf

end Parts

end Cert.GatherProof
end
-- ==== Proof.RunYso.lean ====
/- The two loops of the region that yso names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t13_lt (hn : w.toNat ≤ 128) (t : Fin (k0_t13_loop c w).trips) : t.val < w.toNat := by
  exact lt_of_lt_of_eq t.isLt (by rw [t13_loop c w, isLoop_trips (yso_lt c) rfl hn])
theorem t13_none (hn : w.toNat ≤ 128) : (k0_t14_loop c w).trips = 0 := by rw [t14_loop c w, isRest_trips (yso_lt c) rfl hn]
theorem t13_chk (hn : w.toNat ≤ 128) : k0_chk43 c w := by
  refine ⟨?_, fun t h => ?_, fun t h => ?_, fun t => ?_, fun t => ?_, ?_, fun t => ?_, fun t => ?_, fun t => ?_, fun t => ?_⟩
  · rw [t13_loop c w]; exact isLoop_ok (yso_lt c) rfl hn
  · have hk := t13_lt c w hn t
    rw [t13_full c w t, full_iff (yso_lt c) (by omega)] at h
    exact one_inb (D := 1024) ((congrFun (t13_old c w t) 0).trans (old_word (yso_lt c) (by omega) h)) (by have := yso_lt c; omega)
  · have hk := t13_lt c w hn t
    rw [t13_full c w t, full_iff (yso_lt c) (by omega)] at h
    exact slot_inb (t13_oldSlot c w t) (yso_lt c) (by rw [old_slot (yso_lt c) (by omega) h]; omega)
  · have hk := t13_lt c w hn t
    exact one_inb (D := 1024) ((congrFun (t13_now c w t) 0).trans (now_word (yso_lt c) (by omega))) (by have := yso_lt c; omega)
  · have hk := t13_lt c w hn t
    exact slot_inb (t13_nowSlot c w t) (yso_lt c) (by rw [now_slot (yso_lt c) (by omega)]; omega)
  · rw [t14_loop c w]; exact isRest_ok (yso_lt c) rfl hn
  all_goals exact absurd (lt_of_lt_of_eq t.isLt (t13_none c w hn)) (Nat.not_lt_zero _)

theorem t15_lt (hn : w.toNat ≤ 128) (t : Fin (k0_t15_loop c w).trips) : t.val < w.toNat - (w.toNat - 16) := by
  exact lt_of_lt_of_eq t.isLt (by rw [t15_loop c w, drLoop_trips (yso_lt c) rfl hn])
theorem t15_none (hn : w.toNat ≤ 128) : (k0_t16_loop c w).trips = 0 := by rw [t16_loop c w, drRest_trips (yso_lt c) rfl hn]
theorem t15_chk (hn : w.toNat ≤ 128) : k0_chk52 c w := by
  refine ⟨?_, fun t => ?_, fun t => ?_, ?_, fun t => ?_, fun t => ?_⟩
  · rw [t15_loop c w]; exact drLoop_ok (yso_lt c) rfl hn
  · have hk := t15_lt c w hn t
    exact one_inb (D := 1024) ((congrFun (t15_now c w t) 0).trans (dr_word (yso_lt c) rfl hn hk)) (by have := yso_lt c; omega)
  · have hk := t15_lt c w hn t
    exact slot_inb (t15_nowSlot c w t) (yso_lt c) (by rw [dr_slot (yso_lt c) rfl hn hk]; omega)
  · rw [t16_loop c w]; exact drRest_ok (yso_lt c) rfl hn
  all_goals exact absurd (lt_of_lt_of_eq t.isLt (t15_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t13_trip (v12 : BitVec 32) (v44 : BitVec 32) (v54 : BitVec 32) (v83 : BitVec 32) (v86 : BitVec 32) (v230 : BitVec 32) (v232 : Elt F .i32) (k0_hw43 : k0_chk43 c v232) (h : Region (prow P (yso c)) (trow I (yso c)) (yso c) (BitVec.toNat v232) Em G) (hn : BitVec.toNat v232 ≤ 128) (t : Fin (k0_t13_loop c v232).trips) (u : Unit) :
    (Work G₀ κ c P I C Em G N j (yso c) (t.val - 16) t.val : sProp 𝕄) ⊢ wp frame (wpE (defs₀ (F := F)) 𝒱₀ c none) Set.univ (k0_t13_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v83 v86 v230 v232 k0_hw43 t u)
      fun _ => Work G₀ κ c P I C Em G N j (yso c) (t.val + 1 - 16) (t.val + 1) := by
  have hk := t13_lt c v232 hn t
  unfold k0_t13_body
  by_cases hf : k0_cond7 c v232 t = 1#1
  · have h16 := (full_iff (yso_lt c) (by omega)).1 ((t13_full c v232 t).symm.trans hf)
    rw [dif_pos hf]
    simp -proj only [smemLoad_bind, Prog.lift, Prog.bind_op, Prog.bind_ret, Prog.pure_eq_ret, Prog.bind_assoc]
    iintro HW
    iapply (wp_takeTrip G₀ κ c h (yso_lt c) (off := k0_off94 c v232 t) (off' := k0_off94 c v232 t) (A := k0_chk45 c v232 t) (B := k0_chk44 c v232 t) (tf := k0_off97) (ro := k0_off96) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t13_old c v232 t) 0).trans (old_word (yso_lt c) (by omega) h16)) ((congrFun (t13_old c v232 t) 0).trans (old_word (yso_lt c) (by omega) h16))
      (fun v => ⟨rfl, rfl⟩) (fun v => ⟨rfl, rfl⟩)
      (gsem_eq (yso_lt c) (by omega) ((t13_oldSlot c v232 t).trans (by rw [old_slot (yso_lt c) (by omega) h16]))) (fun v hv _ => hv) (fun v hv _ => hv)) $$ HW
    rw [show t.val - 16 + 1 = t.val + 1 - 16 from by omega]
    iintro HW
    iapply (wp_sendTrip G₀ κ c h (yso_lt c) (off := k0_off98 c v232 t) (off' := k0_off98 c v232 t) (A := k0_chk47) (B := k0_chk46) (tf := k0_off101) (ro := k0_off100) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t13_now c v232 t) 0).trans (now_word (yso_lt c) (by omega))) ((congrFun (t13_now c v232 t) 0).trans (now_word (yso_lt c) (by omega)))
      (fun v => ⟨rfl, rfl⟩) (fun v => ⟨rfl, rfl⟩)
      (gsem_eq (yso_lt c) (by omega) ((t13_nowSlot c v232 t).trans (by rw [now_slot (yso_lt c) (by omega)]))) (fun v hv => hv) (fun v hv => hv)) $$ HW
    iintro HW
    rw [wp_ret]
    imodintro
    iexact HW
  · have h16 : ¬ 16 ≤ t.val := fun h => hf ((t13_full c v232 t).trans ((full_iff (yso_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (yso_lt c) (off := k0_off98 c v232 t) (off' := k0_off98 c v232 t) (A := k0_chk47) (B := k0_chk46) (tf := k0_off101) (ro := k0_off100) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t13_now c v232 t) 0).trans (now_word (yso_lt c) (by omega))) ((congrFun (t13_now c v232 t) 0).trans (now_word (yso_lt c) (by omega)))
      (fun v => ⟨rfl, rfl⟩) (fun v => ⟨rfl, rfl⟩)
      (gsem_eq (yso_lt c) (by omega) ((t13_nowSlot c v232 t).trans (by rw [now_slot (yso_lt c) (by omega)]))) (fun v hv => hv) (fun v hv => hv)) $$ HW
    iintro HW
    rw [wp_ret]
    imodintro
    iexact HW

set_option maxHeartbeats 1000000 in
theorem t13_run (v12 : BitVec 32) (v44 : BitVec 32) (v54 : BitVec 32) (v83 : BitVec 32) (v86 : BitVec 32) (v230 : BitVec 32) (v232 : Elt F .i32) (k0_hw43 : k0_chk43 c v232) (h : Region (prow P (yso c)) (trow I (yso c)) (yso c) (BitVec.toNat v232) Em G) (hn : BitVec.toNat v232 ≤ 128) {β : Type} {body' : Fin (k0_t14_loop c v232).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (yso c) 0 0 : sProp 𝕄) ⊢ iprop((Work G₀ κ c P I C Em G N j (yso c) (BitVec.toNat v232 - 16) (BitVec.toNat v232) -∗ wp frame (wpE (defs₀ (F := F)) 𝒱₀ c none) Set.univ (kk ⟨⟩) Q)
      -∗ wp frame (wpE (defs₀ (F := F)) 𝒱₀ c none) Set.univ (Scf.Loop.for (k0_t13_loop c v232) (k0_t13_ok c v232 k0_hw43) ⟨⟩ (k0_t13_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v83 v86 v230 v232 k0_hw43) >>= fun _ =>
          Scf.Loop.for (k0_t14_loop c v232) (k0_t14_ok c v232 k0_hw43) ⟨⟩ body' >>= kk) Q) := by
  have hend : (k0_t13_loop c v232).trips = BitVec.toNat v232 := by rw [t13_loop c v232, isLoop_trips (yso_lt c) rfl hn]
  iintro HW Hk
  iapply (Scf.wp_for_bind _ _ _ _ _ _ _ _ _ (fun t _ => Work G₀ κ c P I C Em G N j (yso c) (t - 16) t) (fun t u => t13_trip c G₀ κ v12 v44 v54 v83 v86 v230 v232 k0_hw43 h hn t u)) $$ [HW]
  · iexact HW
  iintro %acc HW
  iapply (wp_noTrips c (t13_none c v232 hn))
  iapply Hk
  unfold Scf.Loop.trips at hend
  rw [hend]
  iexact HW

set_option maxHeartbeats 1000000 in
theorem t15_trip (v12 : BitVec 32) (v44 : BitVec 32) (v54 : BitVec 32) (v83 : BitVec 32) (v86 : BitVec 32) (v230 : BitVec 32) (v245 : Elt F .i32) (k0_hw52 : k0_chk52 c v245) (h : Region (prow P (yso c)) (trow I (yso c)) (yso c) (BitVec.toNat v245) Em G) (hn : BitVec.toNat v245 ≤ 128) (t : Fin (k0_t15_loop c v245).trips) (u : Unit) :
    (Work G₀ κ c P I C Em G N j (yso c) (BitVec.toNat v245 - 16 + t.val) (BitVec.toNat v245) : sProp 𝕄) ⊢ wp frame (wpE (defs₀ (F := F)) 𝒱₀ c none) Set.univ (k0_t15_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v83 v86 v230 v245 k0_hw52 t u)
      fun _ => Work G₀ κ c P I C Em G N j (yso c) (BitVec.toNat v245 - 16 + (t.val + 1)) (BitVec.toNat v245) := by
  have hk := t15_lt c v245 hn t
  unfold k0_t15_body
  simp -proj only [smemLoad_bind, Prog.lift, Prog.bind_op, Prog.bind_ret, Prog.pure_eq_ret, Prog.bind_assoc]
  iintro HW
  iapply (wp_takeTrip G₀ κ c h (yso_lt c) (off := k0_off112 c v245 t) (off' := k0_off112 c v245 t) (A := k0_chk54) (B := k0_chk53) (tf := k0_off115) (ro := k0_off114) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v245 - 16 + t.val) (b := BitVec.toNat v245) (by omega) (by omega) (by omega)
    ((congrFun (t15_now c v245 t) 0).trans (dr_word (yso_lt c) rfl hn hk)) ((congrFun (t15_now c v245 t) 0).trans (dr_word (yso_lt c) rfl hn hk))
    (fun v => ⟨rfl, rfl⟩) (fun v => ⟨rfl, rfl⟩)
    (gsem_eq (yso_lt c) (by omega) ((t15_nowSlot c v245 t).trans (by rw [dr_slot (yso_lt c) rfl hn hk]))) (fun v hv => hv) (fun v hv => hv)) $$ HW
  iintro HW
  rw [wp_ret]
  imodintro
  iexact HW

set_option maxHeartbeats 1000000 in
theorem t15_run (v12 : BitVec 32) (v44 : BitVec 32) (v54 : BitVec 32) (v83 : BitVec 32) (v86 : BitVec 32) (v230 : BitVec 32) (v245 : Elt F .i32) (k0_hw52 : k0_chk52 c v245) (h : Region (prow P (yso c)) (trow I (yso c)) (yso c) (BitVec.toNat v245) Em G) (hn : BitVec.toNat v245 ≤ 128) {β : Type} {body' : Fin (k0_t16_loop c v245).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (yso c) (BitVec.toNat v245 - 16) (BitVec.toNat v245) : sProp 𝕄) ⊢ iprop((Work G₀ κ c P I C Em G N j (yso c) (BitVec.toNat v245) (BitVec.toNat v245) -∗ wp frame (wpE (defs₀ (F := F)) 𝒱₀ c none) Set.univ (kk ⟨⟩) Q)
      -∗ wp frame (wpE (defs₀ (F := F)) 𝒱₀ c none) Set.univ (Scf.Loop.for (k0_t15_loop c v245) (k0_t15_ok c v245 k0_hw52) ⟨⟩ (k0_t15_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v83 v86 v230 v245 k0_hw52) >>= fun _ =>
          Scf.Loop.for (k0_t16_loop c v245) (k0_t16_ok c v245 k0_hw52) ⟨⟩ body' >>= kk) Q) := by
  have hend : BitVec.toNat v245 - 16 + (k0_t15_loop c v245).trips = BitVec.toNat v245 := by rw [t15_loop c v245, drLoop_trips (yso_lt c) rfl hn]; omega
  iintro HW Hk
  iapply (Scf.wp_for_bind _ _ _ _ _ _ _ _ _ (fun t _ => Work G₀ κ c P I C Em G N j (yso c) (BitVec.toNat v245 - 16 + t) (BitVec.toNat v245)) (fun t u => t15_trip c G₀ κ v12 v44 v54 v83 v86 v230 v245 k0_hw52 h hn t u)) $$ [HW]
  · iexact HW
  iintro %acc HW
  iapply (wp_noTrips c (t15_none c v245 hn))
  iapply Hk
  unfold Scf.Loop.trips at hend
  rw [hend]
  iexact HW

end Runs

end Cert.GatherProof
end
-- ==== Proof.Part7.lean ====
/- Parts 7 and 8 of the kernel's body, run. -/
module

public import proofs.«01_k».proof.Proof.Glue
public import proofs.«01_k».proof.Proof.RunXso
public import proofs.«01_k».proof.Proof.RunYso

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part7_run (v29 : BitVec 32) (v43 : BitVec 32) (v51 : BitVec 32) (v74 : BitVec 32) (v83 : BitVec 32) (v195 : BitVec 32) (v197 : Elt F .i32) (k0_hw29 : k0_chk29 c v197) (v199 : BitVec 32) (hv : v197 = C (xso c)) {β : Type} {kk : (BitVec 32) → Prog (TpuEff nD τ sig (Elt F) Λ₀ .tc) β} {Q : β → sProp 𝕄} :
    iprop(Ctx G κ c ∗ Proto 4 0 c ∗ Tabs c P I C ∗ Blk oV c (xs c + b1 c) 128 fullShare 0 (fun _ _ => zero) ∗ bigSep (Finset.range 16) (idle c (xso c) Em) ∗ Any oV c (ys c + a0 c) 128 ∗ Any x1V (pa c) (b1 c) 128)
      ⊢ iprop((∀ r, Proto 5 0 c ∗ Tabs c P I C ∗ bigSep (Finset.range 16) (idle c (xso c) Em) ∗ Blk oV c (ys c + a0 c) 128 fullShare 0 (fun _ _ => zero) -∗ wp frame (wpE (defs₀ (F := F)) 𝒱₀ c none) Set.univ (kk r) Q)
        -∗ wp frame (wpE (defs₀ (F := F)) 𝒱₀ c none) Set.univ (k0_part7_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v51 v74 v83 v195 v197 k0_hw29 v199 >>= kk) Q) := by
  subst hv
  unfold k0_part7_skel
  simp -proj only [smemLoad_bind, Prog.lift, Prog.bind_op, Prog.bind_ret, Prog.pure_eq_ret, Prog.bind_assoc]
  iintro ⟨#HC, HP, HT, HRxso, HIxso, HRyso, HX1c⟩ Hk
  iapply (t9_run c G κ _ _ _ _ _ _ _ _ _ (hR (xso c) (xso_lt c)) (hn (xso c) (xso_lt c))) $$ [HP HT HRxso HIxso]
  · iapply (work_start (xso_row c))
    isplitr; · iexact HC
    isplitl [HP]; · iexact HP
    isplitl [HT]; · iexact HT
    isplitl [HRxso]; · iexact HRxso
    iexact HIxso
  iintro HW
  ihave HW := work_pause $$ HW
  icases HW with ⟨HP, HT, HUxso⟩
  iapply (wp_clear c (lo := ys c + a0 c) (n := 128) (congrFun (o81 c) 0) (congrFun (o81 c) 1) (fun _ => rfl)) $$ HRyso
  iintro HRyso
  iapply (wp_count (i := xso c) (congrFun (ix82 c) 0)) $$ HT
  iintro HT
  iapply (wp_assume 𝒱₀ (c : Thread nD τ) none Set.univ (t11_chk c _ (hn (xso c) (xso_lt c))))
  iapply (t11_run c G κ _ _ _ _ _ _ _ _ _ _ _ (hR (xso c) (xso_lt c)) (hn (xso c) (xso_lt c))) $$ [HP HT HUxso]
  · iapply work_resume
    isplitr; · iexact HC
    isplitl [HP]; · iexact HP
    isplitl [HT]; · iexact HT
    iexact HUxso
  iintro HW
  ihave HW := (work_end (xso_row c) (hR (xso c) (xso_lt c))) $$ HW
  icases HW with ⟨HP, HT, HRxso, HIxso⟩
  iapply (send4 G κ c (j := 0) rfl rfl (by decide)) $$ [HP HRxso HX1c]
  · isplitr; · iexact HC
    isplitl [HP]; · iexact HP
    isplitl [HRxso]; · iexact HRxso
    iexact HX1c
  iintro HP
  iapply Hk $$ [HP HT HIxso HRyso]
  · isplitl [HP]; · iexact HP
    isplitl [HT]; · iexact HT
    isplitl [HIxso]; · iexact HIxso
    iexact HRyso

set_option maxHeartbeats 400000 in
theorem part8_run (v12 : BitVec 32) (v44 : BitVec 32) (v54 : BitVec 32) (v83 : BitVec 32) (v86 : BitVec 32) (v230 : BitVec 32) {β : Type} {kk : (PUnit) → Prog (TpuEff nD τ sig (Elt F) Λ₀ .tc) β} {Q : β → sProp 𝕄} :
    iprop(Ctx G κ c ∗ Proto 5 0 c ∗ Tabs c P I C ∗ Blk oV c (ys c + a0 c) 128 fullShare 0 (fun _ _ => zero) ∗ bigSep (Finset.range 16) (idle c (yso c) Em) ∗ Any oV c (xk c + b0 c) 128)
      ⊢ iprop((∀ r, Proto 5 0 c ∗ Tabs c P I C ∗ Blk oV c (ys c + a0 c) 128 fullShare 0 (G c) ∗ bigSep (Finset.range 16) (idle c (yso c) Em) ∗ Blk oV c (xk c + b0 c) 128 fullShare 0 (fun _ _ => zero) -∗ wp frame (wpE (defs₀ (F := F)) 𝒱₀ c none) Set.univ (kk r) Q)
        -∗ wp frame (wpE (defs₀ (F := F)) 𝒱₀ c none) Set.univ (k0_part8_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v54 v83 v86 v230 >>= kk) Q) := by
  unfold k0_part8_skel
  simp -proj only [smemLoad_bind, Prog.lift, Prog.bind_op, Prog.bind_ret, Prog.pure_eq_ret, Prog.bind_assoc]
  iintro ⟨#HC, HP, HT, HRyso, HIyso, HRxkf⟩ Hk
  iapply (wp_count (i := yso c) (congrFun (ix93 c) 0)) $$ HT
  iintro HT
  iapply (wp_assume 𝒱₀ (c : Thread nD τ) none Set.univ (t13_chk c _ (hn (yso c) (yso_lt c))))
  iapply (t13_run c G κ _ _ _ _ _ _ _ _ (hR (yso c) (yso_lt c)) (hn (yso c) (yso_lt c))) $$ [HP HT HRyso HIyso]
  · iapply (work_start (yso_row c))
    isplitr; · iexact HC
    isplitl [HP]; · iexact HP
    isplitl [HT]; · iexact HT
    isplitl [HRyso]; · iexact HRyso
    iexact HIyso
  iintro HW
  ihave HW := work_pause $$ HW
  icases HW with ⟨HP, HT, HUyso⟩
  iapply (wp_clear c (lo := xk c + b0 c) (n := 128) (congrFun (o110 c) 0) (congrFun (o110 c) 1) (fun _ => rfl)) $$ HRxkf
  iintro HRxkf
  iapply (wp_count (i := yso c) (congrFun (ix111 c) 0)) $$ HT
  iintro HT
  iapply (wp_assume 𝒱₀ (c : Thread nD τ) none Set.univ (t15_chk c _ (hn (yso c) (yso_lt c))))
  iapply (t15_run c G κ _ _ _ _ _ _ _ _ (hR (yso c) (yso_lt c)) (hn (yso c) (yso_lt c))) $$ [HP HT HUyso]
  · iapply work_resume
    isplitr; · iexact HC
    isplitl [HP]; · iexact HP
    isplitl [HT]; · iexact HT
    iexact HUyso
  iintro HW
  ihave HW := (work_end (yso_row c) (hR (yso c) (yso_lt c))) $$ HW
  icases HW with ⟨HP, HT, HRyso, HIyso⟩
  iapply Hk $$ [HP HT HRyso HIyso HRxkf]
  · isplitl [HP]; · iexact HP
    isplitl [HT]; · iexact HT
    isplitl [HRyso]; · iexact HRyso
    isplitl [HIyso]; · iexact HIyso
    iexact HRxkf

end Parts

end Cert.GatherProof
end
-- ==== Proof.RunXkf.lean ====
/- The two loops of the region that xkf names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t17_lt (hn : w.toNat ≤ 128) (t : Fin (k0_t17_loop c w).trips) : t.val < w.toNat := by
  exact lt_of_lt_of_eq t.isLt (by rw [t17_loop c w, isLoop_trips (xkf_lt c) rfl hn])
theorem t17_none (hn : w.toNat ≤ 128) : (k0_t18_loop c w).trips = 0 := by rw [t18_loop c w, isRest_trips (xkf_lt c) rfl hn]
theorem t17_chk (hn : w.toNat ≤ 128) : k0_chk57 c w := by
  refine ⟨?_, fun t h => ?_, fun t h => ?_, fun t => ?_, fun t => ?_, ?_, fun t => ?_, fun t => ?_, fun t => ?_, fun t => ?_⟩
  · rw [t17_loop c w]; exact isLoop_ok (xkf_lt c) rfl hn
  · have hk := t17_lt c w hn t
    rw [t17_full c w t, full_iff (xkf_lt c) (by omega)] at h
    exact one_inb (D := 1024) ((congrFun (t17_old c w t) 0).trans (old_word (xkf_lt c) (by omega) h)) (by have := xkf_lt c; omega)
  · have hk := t17_lt c w hn t
    rw [t17_full c w t, full_iff (xkf_lt c) (by omega)] at h
    exact slot_inb (t17_oldSlot c w t) (xkf_lt c) (by rw [old_slot (xkf_lt c) (by omega) h]; omega)
  · have hk := t17_lt c w hn t
    exact one_inb (D := 1024) ((congrFun (t17_now c w t) 0).trans (now_word (xkf_lt c) (by omega))) (by have := xkf_lt c; omega)
  · have hk := t17_lt c w hn t
    exact slot_inb (t17_nowSlot c w t) (xkf_lt c) (by rw [now_slot (xkf_lt c) (by omega)]; omega)
  · rw [t18_loop c w]; exact isRest_ok (xkf_lt c) rfl hn
  all_goals exact absurd (lt_of_lt_of_eq t.isLt (t17_none c w hn)) (Nat.not_lt_zero _)

theorem t25_lt (hn : w.toNat ≤ 128) (t : Fin (k0_t25_loop c w).trips) : t.val < w.toNat - (w.toNat - 16) := by
  exact lt_of_lt_of_eq t.isLt (by rw [t25_loop c w, drLoop_trips (xkf_lt c) rfl hn])
theorem t25_none (hn : w.toNat ≤ 128) : (k0_t26_loop c w).trips = 0 := by rw [t26_loop c w, drRest_trips (xkf_lt c) rfl hn]
theorem t25_chk (hn : w.toNat ≤ 128) : k0_chk93 c w := by
  refine ⟨?_, fun t => ?_, fun t => ?_, ?_, fun t => ?_, fun t => ?_⟩
  · rw [t25_loop c w]; exact drLoop_ok (xkf_lt c) rfl hn
  · have hk := t25_lt c w hn t
    exact one_inb (D := 1024) ((congrFun (t25_now c w t) 0).trans (dr_word (xkf_lt c) rfl hn hk)) (by have := xkf_lt c; omega)
  · have hk := t25_lt c w hn t
    exact slot_inb (t25_nowSlot c w t) (xkf_lt c) (by rw [dr_slot (xkf_lt c) rfl hn hk]; omega)
  · rw [t26_loop c w]; exact drRest_ok (xkf_lt c) rfl hn
  all_goals exact absurd (lt_of_lt_of_eq t.isLt (t25_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t17_trip (v86 : BitVec 32) (v88 : BitVec 32) (v92 : BitVec 32) (v269 : Elt F .i32) (k0_hw57 : k0_chk57 c v269) (h : Region (prow P (xkf c)) (trow I (xkf c)) (xkf c) (BitVec.toNat v269) Em G) (hn : BitVec.toNat v269 ≤ 128) (t : Fin (k0_t17_loop c v269).trips) (u : Unit) :
    (Work G₀ κ c P I C Em G N j (xkf c) (t.val - 16) t.val : sProp 𝕄) ⊢ wp frame (wpE (defs₀ (F := F)) 𝒱₀ c none) Set.univ (k0_t17_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v92 v269 k0_hw57 t u)
      fun _ => Work G₀ κ c P I C Em G N j (xkf c) (t.val + 1 - 16) (t.val + 1) := by
  have hk := t17_lt c v269 hn t
  unfold k0_t17_body
  by_cases hf : k0_cond9 c v269 t = 1#1
  · have h16 := (full_iff (xkf_lt c) (by omega)).1 ((t17_full c v269 t).symm.trans hf)
    rw [dif_pos hf]
    simp -proj only [smemLoad_bind, Prog.lift, Prog.bind_op, Prog.bind_ret, Prog.pure_eq_ret, Prog.bind_assoc]
    iintro HW
    iapply (wp_takeTrip G₀ κ c h (xkf_lt c) (off := k0_off123 c v269 t) (off' := k0_off123 c v269 t) (A := k0_chk59 c v269 t) (B := k0_chk58 c v269 t) (tf := k0_off126) (ro := k0_off125) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t17_old c v269 t) 0).trans (old_word (xkf_lt c) (by omega) h16)) ((congrFun (t17_old c v269 t) 0).trans (old_word (xkf_lt c) (by omega) h16))
      (fun v => ⟨rfl, rfl⟩) (fun v => ⟨rfl, rfl⟩)
      (gsem_eq (xkf_lt c) (by omega) ((t17_oldSlot c v269 t).trans (by rw [old_slot (xkf_lt c) (by omega) h16]))) (fun v hv _ => hv) (fun v hv _ => hv)) $$ HW
    rw [show t.val - 16 + 1 = t.val + 1 - 16 from by omega]
    iintro HW
    iapply (wp_sendTrip G₀ κ c h (xkf_lt c) (off := k0_off127 c v269 t) (off' := k0_off127 c v269 t) (A := k0_chk61) (B := k0_chk60) (tf := k0_off130) (ro := k0_off129) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t17_now c v269 t) 0).trans (now_word (xkf_lt c) (by omega))) ((congrFun (t17_now c v269 t) 0).trans (now_word (xkf_lt c) (by omega)))
      (fun v => ⟨rfl, rfl⟩) (fun v => ⟨rfl, rfl⟩)
      (gsem_eq (xkf_lt c) (by omega) ((t17_nowSlot c v269 t).trans (by rw [now_slot (xkf_lt c) (by omega)]))) (fun v hv => hv) (fun v hv => hv)) $$ HW
    iintro HW
    rw [wp_ret]
    imodintro
    iexact HW
  · have h16 : ¬ 16 ≤ t.val := fun h => hf ((t17_full c v269 t).trans ((full_iff (xkf_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (xkf_lt c) (off := k0_off127 c v269 t) (off' := k0_off127 c v269 t) (A := k0_chk61) (B := k0_chk60) (tf := k0_off130) (ro := k0_off129) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t17_now c v269 t) 0).trans (now_word (xkf_lt c) (by omega))) ((congrFun (t17_now c v269 t) 0).trans (now_word (xkf_lt c) (by omega)))
      (fun v => ⟨rfl, rfl⟩) (fun v => ⟨rfl, rfl⟩)
      (gsem_eq (xkf_lt c) (by omega) ((t17_nowSlot c v269 t).trans (by rw [now_slot (xkf_lt c) (by omega)]))) (fun v hv => hv) (fun v hv => hv)) $$ HW
    iintro HW
    rw [wp_ret]
    imodintro
    iexact HW

set_option maxHeartbeats 1000000 in
theorem t17_run (v86 : BitVec 32) (v88 : BitVec 32) (v92 : BitVec 32) (v269 : Elt F .i32) (k0_hw57 : k0_chk57 c v269) (h : Region (prow P (xkf c)) (trow I (xkf c)) (xkf c) (BitVec.toNat v269) Em G) (hn : BitVec.toNat v269 ≤ 128) {β : Type} {body' : Fin (k0_t18_loop c v269).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xkf c) 0 0 : sProp 𝕄) ⊢ iprop((Work G₀ κ c P I C Em G N j (xkf c) (BitVec.toNat v269 - 16) (BitVec.toNat v269) -∗ wp frame (wpE (defs₀ (F := F)) 𝒱₀ c none) Set.univ (kk ⟨⟩) Q)
      -∗ wp frame (wpE (defs₀ (F := F)) 𝒱₀ c none) Set.univ (Scf.Loop.for (k0_t17_loop c v269) (k0_t17_ok c v269 k0_hw57) ⟨⟩ (k0_t17_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v92 v269 k0_hw57) >>= fun _ =>
          Scf.Loop.for (k0_t18_loop c v269) (k0_t18_ok c v269 k0_hw57) ⟨⟩ body' >>= kk) Q) := by
  have hend : (k0_t17_loop c v269).trips = BitVec.toNat v269 := by rw [t17_loop c v269, isLoop_trips (xkf_lt c) rfl hn]
  iintro HW Hk
  iapply (Scf.wp_for_bind _ _ _ _ _ _ _ _ _ (fun t _ => Work G₀ κ c P I C Em G N j (xkf c) (t - 16) t) (fun t u => t17_trip c G₀ κ v86 v88 v92 v269 k0_hw57 h hn t u)) $$ [HW]
  · iexact HW
  iintro %acc HW
  iapply (wp_noTrips c (t17_none c v269 hn))
  iapply Hk
  unfold Scf.Loop.trips at hend
  rw [hend]
  iexact HW

set_option maxHeartbeats 1000000 in
theorem t25_trip (v86 : BitVec 32) (v88 : BitVec 32) (v95 : BitVec 32) (v293 : BitVec 32) (v295 : Elt F .i32) (v317 : Elt F .i32) (k0_hw93 : k0_chk93 c v317) (h : Region (prow P (xkf c)) (trow I (xkf c)) (xkf c) (BitVec.toNat v317) Em G) (hn : BitVec.toNat v317 ≤ 128) (t : Fin (k0_t25_loop c v317).trips) (u : Unit) :
    (Work G₀ κ c P I C Em G N j (xkf c) (BitVec.toNat v317 - 16 + t.val) (BitVec.toNat v317) : sProp 𝕄) ⊢ wp frame (wpE (defs₀ (F := F)) 𝒱₀ c none) Set.univ (k0_t25_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 v317 k0_hw93 t u)
      fun _ => Work G₀ κ c P I C Em G N j (xkf c) (BitVec.toNat v317 - 16 + (t.val + 1)) (BitVec.toNat v317) := by
  have hk := t25_lt c v317 hn t
  unfold k0_t25_body
  simp -proj only [smemLoad_bind, Prog.lift, Prog.bind_op, Prog.bind_ret, Prog.pure_eq_ret, Prog.bind_assoc]
  iintro HW
  iapply (wp_takeTrip G₀ κ c h (xkf_lt c) (off := k0_off194 c v317 t) (off' := k0_off194 c v317 t) (A := k0_chk95) (B := k0_chk94) (tf := k0_off197) (ro := k0_off196) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v317 - 16 + t.val) (b := BitVec.toNat v317) (by omega) (by omega) (by omega)
    ((congrFun (t25_now c v317 t) 0).trans (dr_word (xkf_lt c) rfl hn hk)) ((congrFun (t25_now c v317 t) 0).trans (dr_word (xkf_lt c) rfl hn hk))
    (fun v => ⟨rfl, rfl⟩) (fun v => ⟨rfl, rfl⟩)
    (gsem_eq (xkf_lt c) (by omega) ((t25_nowSlot c v317 t).trans (by rw [dr_slot (xkf_lt c) rfl hn hk]))) (fun v hv => hv) (fun v hv => hv)) $$ HW
  iintro HW
  rw [wp_ret]
  imodintro
  iexact HW

set_option maxHeartbeats 1000000 in
theorem t25_run (v86 : BitVec 32) (v88 : BitVec 32) (v95 : BitVec 32) (v293 : BitVec 32) (v295 : Elt F .i32) (v317 : Elt F .i32) (k0_hw93 : k0_chk93 c v317) (h : Region (prow P (xkf c)) (trow I (xkf c)) (xkf c) (BitVec.toNat v317) Em G) (hn : BitVec.toNat v317 ≤ 128) {β : Type} {body' : Fin (k0_t26_loop c v317).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xkf c) (BitVec.toNat v317 - 16) (BitVec.toNat v317) : sProp 𝕄) ⊢ iprop((Work G₀ κ c P I C Em G N j (xkf c) (BitVec.toNat v317) (BitVec.toNat v317) -∗ wp frame (wpE (defs₀ (F := F)) 𝒱₀ c none) Set.univ (kk ⟨⟩) Q)
      -∗ wp frame (wpE (defs₀ (F := F)) 𝒱₀ c none) Set.univ (Scf.Loop.for (k0_t25_loop c v317) (k0_t25_ok c v317 k0_hw93) ⟨⟩ (k0_t25_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 v317 k0_hw93) >>= fun _ =>
          Scf.Loop.for (k0_t26_loop c v317) (k0_t26_ok c v317 k0_hw93) ⟨⟩ body' >>= kk) Q) := by
  have hend : BitVec.toNat v317 - 16 + (k0_t25_loop c v317).trips = BitVec.toNat v317 := by rw [t25_loop c v317, drLoop_trips (xkf_lt c) rfl hn]; omega
  iintro HW Hk
  iapply (Scf.wp_for_bind _ _ _ _ _ _ _ _ _ (fun t _ => Work G₀ κ c P I C Em G N j (xkf c) (BitVec.toNat v317 - 16 + t) (BitVec.toNat v317)) (fun t u => t25_trip c G₀ κ v86 v88 v95 v293 v295 v317 k0_hw93 h hn t u)) $$ [HW]
  · iexact HW
  iintro %acc HW
  iapply (wp_noTrips c (t25_none c v317 hn))
  iapply Hk
  unfold Scf.Loop.trips at hend
  rw [hend]
  iexact HW

end Runs

end Cert.GatherProof
end
-- ==== Proof.RunXko.lean ====
/- The two loops of the region that xko names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t21_lt (hn : w.toNat ≤ 128) (t : Fin (k0_t21_loop c w).trips) : t.val < w.toNat := by
  exact lt_of_lt_of_eq t.isLt (by rw [t21_loop c w, isLoop_trips (xko_lt c) rfl hn])
theorem t21_none (hn : w.toNat ≤ 128) : (k0_t22_loop c w).trips = 0 := by rw [t22_loop c w, isRest_trips (xko_lt c) rfl hn]
theorem t21_chk (hn : w.toNat ≤ 128) : k0_chk75 c w := by
  refine ⟨?_, fun t h => ?_, fun t h => ?_, fun t => ?_, fun t => ?_, ?_, fun t => ?_, fun t => ?_, fun t => ?_, fun t => ?_⟩
  · rw [t21_loop c w]; exact isLoop_ok (xko_lt c) rfl hn
  · have hk := t21_lt c w hn t
    rw [t21_full c w t, full_iff (xko_lt c) (by omega)] at h
    exact one_inb (D := 1024) ((congrFun (t21_old c w t) 0).trans (old_word (xko_lt c) (by omega) h)) (by have := xko_lt c; omega)
  · have hk := t21_lt c w hn t
    rw [t21_full c w t, full_iff (xko_lt c) (by omega)] at h
    exact slot_inb (t21_oldSlot c w t) (xko_lt c) (by rw [old_slot (xko_lt c) (by omega) h]; omega)
  · have hk := t21_lt c w hn t
    exact one_inb (D := 1024) ((congrFun (t21_now c w t) 0).trans (now_word (xko_lt c) (by omega))) (by have := xko_lt c; omega)
  · have hk := t21_lt c w hn t
    exact slot_inb (t21_nowSlot c w t) (xko_lt c) (by rw [now_slot (xko_lt c) (by omega)]; omega)
  · rw [t22_loop c w]; exact isRest_ok (xko_lt c) rfl hn
  all_goals exact absurd (lt_of_lt_of_eq t.isLt (t21_none c w hn)) (Nat.not_lt_zero _)

theorem t29_lt (hn : w.toNat ≤ 128) (t : Fin (k0_t29_loop c w).trips) : t.val < w.toNat - (w.toNat - 16) := by
  exact lt_of_lt_of_eq t.isLt (by rw [t29_loop c w, drLoop_trips (xko_lt c) rfl hn])
theorem t29_none (hn : w.toNat ≤ 128) : (k0_t30_loop c w).trips = 0 := by rw [t30_loop c w, drRest_trips (xko_lt c) rfl hn]
theorem t29_chk (hn : w.toNat ≤ 128) : k0_chk103 c w := by
  refine ⟨?_, fun t => ?_, fun t => ?_, ?_, fun t => ?_, fun t => ?_⟩
  · rw [t29_loop c w]; exact drLoop_ok (xko_lt c) rfl hn
  · have hk := t29_lt c w hn t
    exact one_inb (D := 1024) ((congrFun (t29_now c w t) 0).trans (dr_word (xko_lt c) rfl hn hk)) (by have := xko_lt c; omega)
  · have hk := t29_lt c w hn t
    exact slot_inb (t29_nowSlot c w t) (xko_lt c) (by rw [dr_slot (xko_lt c) rfl hn hk]; omega)
  · rw [t30_loop c w]; exact drRest_ok (xko_lt c) rfl hn
  all_goals exact absurd (lt_of_lt_of_eq t.isLt (t29_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t21_trip (v86 : BitVec 32) (v88 : BitVec 32) (v95 : BitVec 32) (v293 : BitVec 32) (v295 : Elt F .i32) (k0_hw75 : k0_chk75 c v295) (h : Region (prow P (xko c)) (trow I (xko c)) (xko c) (BitVec.toNat v295) Em G) (hn : BitVec.toNat v295 ≤ 128) (t : Fin (k0_t21_loop c v295).trips) (u : Unit) :
    (Work G₀ κ c P I C Em G N j (xko c) (t.val - 16) t.val : sProp 𝕄) ⊢ wp frame (wpE (defs₀ (F := F)) 𝒱₀ c none) Set.univ (k0_t21_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 k0_hw75 t u)
      fun _ => Work G₀ κ c P I C Em G N j (xko c) (t.val + 1 - 16) (t.val + 1) := by
  have hk := t21_lt c v295 hn t
  unfold k0_t21_body
  by_cases hf : k0_cond13 c v295 t = 1#1
  · have h16 := (full_iff (xko_lt c) (by omega)).1 ((t21_full c v295 t).symm.trans hf)
    rw [dif_pos hf]
    simp -proj only [smemLoad_bind, Prog.lift, Prog.bind_op, Prog.bind_ret, Prog.pure_eq_ret, Prog.bind_assoc]
    iintro HW
    iapply (wp_takeTrip G₀ κ c h (xko_lt c) (off := k0_off159 c v295 t) (off' := k0_off159 c v295 t) (A := k0_chk77 c v295 t) (B := k0_chk76 c v295 t) (tf := k0_off162) (ro := k0_off161) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t21_old c v295 t) 0).trans (old_word (xko_lt c) (by omega) h16)) ((congrFun (t21_old c v295 t) 0).trans (old_word (xko_lt c) (by omega) h16))
      (fun v => ⟨rfl, rfl⟩) (fun v => ⟨rfl, rfl⟩)
      (gsem_eq (xko_lt c) (by omega) ((t21_oldSlot c v295 t).trans (by rw [old_slot (xko_lt c) (by omega) h16]))) (fun v hv _ => hv) (fun v hv _ => hv)) $$ HW
    rw [show t.val - 16 + 1 = t.val + 1 - 16 from by omega]
    iintro HW
    iapply (wp_sendTrip G₀ κ c h (xko_lt c) (off := k0_off163 c v295 t) (off' := k0_off163 c v295 t) (A := k0_chk79) (B := k0_chk78) (tf := k0_off166) (ro := k0_off165) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t21_now c v295 t) 0).trans (now_word (xko_lt c) (by omega))) ((congrFun (t21_now c v295 t) 0).trans (now_word (xko_lt c) (by omega)))
      (fun v => ⟨rfl, rfl⟩) (fun v => ⟨rfl, rfl⟩)
      (gsem_eq (xko_lt c) (by omega) ((t21_nowSlot c v295 t).trans (by rw [now_slot (xko_lt c) (by omega)]))) (fun v hv => hv) (fun v hv => hv)) $$ HW
    iintro HW
    rw [wp_ret]
    imodintro
    iexact HW
  · have h16 : ¬ 16 ≤ t.val := fun h => hf ((t21_full c v295 t).trans ((full_iff (xko_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (xko_lt c) (off := k0_off163 c v295 t) (off' := k0_off163 c v295 t) (A := k0_chk79) (B := k0_chk78) (tf := k0_off166) (ro := k0_off165) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t21_now c v295 t) 0).trans (now_word (xko_lt c) (by omega))) ((congrFun (t21_now c v295 t) 0).trans (now_word (xko_lt c) (by omega)))
      (fun v => ⟨rfl, rfl⟩) (fun v => ⟨rfl, rfl⟩)
      (gsem_eq (xko_lt c) (by omega) ((t21_nowSlot c v295 t).trans (by rw [now_slot (xko_lt c) (by omega)]))) (fun v hv => hv) (fun v hv => hv)) $$ HW
    iintro HW
    rw [wp_ret]
    imodintro
    iexact HW

set_option maxHeartbeats 1000000 in
theorem t21_run (v86 : BitVec 32) (v88 : BitVec 32) (v95 : BitVec 32) (v293 : BitVec 32) (v295 : Elt F .i32) (k0_hw75 : k0_chk75 c v295) (h : Region (prow P (xko c)) (trow I (xko c)) (xko c) (BitVec.toNat v295) Em G) (hn : BitVec.toNat v295 ≤ 128) {β : Type} {body' : Fin (k0_t22_loop c v295).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xko c) 0 0 : sProp 𝕄) ⊢ iprop((Work G₀ κ c P I C Em G N j (xko c) (BitVec.toNat v295 - 16) (BitVec.toNat v295) -∗ wp frame (wpE (defs₀ (F := F)) 𝒱₀ c none) Set.univ (kk ⟨⟩) Q)
      -∗ wp frame (wpE (defs₀ (F := F)) 𝒱₀ c none) Set.univ (Scf.Loop.for (k0_t21_loop c v295) (k0_t21_ok c v295 k0_hw75) ⟨⟩ (k0_t21_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 k0_hw75) >>= fun _ =>
          Scf.Loop.for (k0_t22_loop c v295) (k0_t22_ok c v295 k0_hw75) ⟨⟩ body' >>= kk) Q) := by
  have hend : (k0_t21_loop c v295).trips = BitVec.toNat v295 := by rw [t21_loop c v295, isLoop_trips (xko_lt c) rfl hn]
  iintro HW Hk
  iapply (Scf.wp_for_bind _ _ _ _ _ _ _ _ _ (fun t _ => Work G₀ κ c P I C Em G N j (xko c) (t - 16) t) (fun t u => t21_trip c G₀ κ v86 v88 v95 v293 v295 k0_hw75 h hn t u)) $$ [HW]
  · iexact HW
  iintro %acc HW
  iapply (wp_noTrips c (t21_none c v295 hn))
  iapply Hk
  unfold Scf.Loop.trips at hend
  rw [hend]
  iexact HW

set_option maxHeartbeats 1000000 in
theorem t29_trip (v29 : BitVec 32) (v43 : BitVec 32) (v55 : BitVec 32) (v88 : BitVec 32) (v457 : Elt F .i32) (k0_hw103 : k0_chk103 c v457) (h : Region (prow P (xko c)) (trow I (xko c)) (xko c) (BitVec.toNat v457) Em G) (hn : BitVec.toNat v457 ≤ 128) (t : Fin (k0_t29_loop c v457).trips) (u : Unit) :
    (Work G₀ κ c P I C Em G N j (xko c) (BitVec.toNat v457 - 16 + t.val) (BitVec.toNat v457) : sProp 𝕄) ⊢ wp frame (wpE (defs₀ (F := F)) 𝒱₀ c none) Set.univ (k0_t29_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v55 v88 v457 k0_hw103 t u)
      fun _ => Work G₀ κ c P I C Em G N j (xko c) (BitVec.toNat v457 - 16 + (t.val + 1)) (BitVec.toNat v457) := by
  have hk := t29_lt c v457 hn t
  unfold k0_t29_body
  simp -proj only [smemLoad_bind, Prog.lift, Prog.bind_op, Prog.bind_ret, Prog.pure_eq_ret, Prog.bind_assoc]
  iintro HW
  iapply (wp_takeTrip G₀ κ c h (xko_lt c) (off := k0_off232 c v457 t) (off' := k0_off232 c v457 t) (A := k0_chk105) (B := k0_chk104) (tf := k0_off235) (ro := k0_off234) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v457 - 16 + t.val) (b := BitVec.toNat v457) (by omega) (by omega) (by omega)
    ((congrFun (t29_now c v457 t) 0).trans (dr_word (xko_lt c) rfl hn hk)) ((congrFun (t29_now c v457 t) 0).trans (dr_word (xko_lt c) rfl hn hk))
    (fun v => ⟨rfl, rfl⟩) (fun v => ⟨rfl, rfl⟩)
    (gsem_eq (xko_lt c) (by omega) ((t29_nowSlot c v457 t).trans (by rw [dr_slot (xko_lt c) rfl hn hk]))) (fun v hv => hv) (fun v hv => hv)) $$ HW
  iintro HW
  rw [wp_ret]
  imodintro
  iexact HW

set_option maxHeartbeats 1000000 in
theorem t29_run (v29 : BitVec 32) (v43 : BitVec 32) (v55 : BitVec 32) (v88 : BitVec 32) (v457 : Elt F .i32) (k0_hw103 : k0_chk103 c v457) (h : Region (prow P (xko c)) (trow I (xko c)) (xko c) (BitVec.toNat v457) Em G) (hn : BitVec.toNat v457 ≤ 128) {β : Type} {body' : Fin (k0_t30_loop c v457).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (xko c) (BitVec.toNat v457 - 16) (BitVec.toNat v457) : sProp 𝕄) ⊢ iprop((Work G₀ κ c P I C Em G N j (xko c) (BitVec.toNat v457) (BitVec.toNat v457) -∗ wp frame (wpE (defs₀ (F := F)) 𝒱₀ c none) Set.univ (kk ⟨⟩) Q)
      -∗ wp frame (wpE (defs₀ (F := F)) 𝒱₀ c none) Set.univ (Scf.Loop.for (k0_t29_loop c v457) (k0_t29_ok c v457 k0_hw103) ⟨⟩ (k0_t29_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v55 v88 v457 k0_hw103) >>= fun _ =>
          Scf.Loop.for (k0_t30_loop c v457) (k0_t30_ok c v457 k0_hw103) ⟨⟩ body' >>= kk) Q) := by
  have hend : BitVec.toNat v457 - 16 + (k0_t29_loop c v457).trips = BitVec.toNat v457 := by rw [t29_loop c v457, drLoop_trips (xko_lt c) rfl hn]; omega
  iintro HW Hk
  iapply (Scf.wp_for_bind _ _ _ _ _ _ _ _ _ (fun t _ => Work G₀ κ c P I C Em G N j (xko c) (BitVec.toNat v457 - 16 + t) (BitVec.toNat v457)) (fun t u => t29_trip c G₀ κ v29 v43 v55 v88 v457 k0_hw103 h hn t u)) $$ [HW]
  · iexact HW
  iintro %acc HW
  iapply (wp_noTrips c (t29_none c v457 hn))
  iapply Hk
  unfold Scf.Loop.trips at hend
  rw [hend]
  iexact HW

end Runs

end Cert.GatherProof
end
-- ==== Proof.RunYkf.lean ====
/- The two loops of the region that ykf names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t19_lt (hn : w.toNat ≤ 128) (t : Fin (k0_t19_loop c w).trips) : t.val < w.toNat := by
  exact lt_of_lt_of_eq t.isLt (by rw [t19_loop c w, isLoop_trips (ykf_lt c) rfl hn])
theorem t19_none (hn : w.toNat ≤ 128) : (k0_t20_loop c w).trips = 0 := by rw [t20_loop c w, isRest_trips (ykf_lt c) rfl hn]
theorem t19_chk (hn : w.toNat ≤ 128) : k0_chk66 c w := by
  refine ⟨?_, fun t h => ?_, fun t h => ?_, fun t => ?_, fun t => ?_, ?_, fun t => ?_, fun t => ?_, fun t => ?_, fun t => ?_⟩
  · rw [t19_loop c w]; exact isLoop_ok (ykf_lt c) rfl hn
  · have hk := t19_lt c w hn t
    rw [t19_full c w t, full_iff (ykf_lt c) (by omega)] at h
    exact one_inb (D := 1024) ((congrFun (t19_old c w t) 0).trans (old_word (ykf_lt c) (by omega) h)) (by have := ykf_lt c; omega)
  · have hk := t19_lt c w hn t
    rw [t19_full c w t, full_iff (ykf_lt c) (by omega)] at h
    exact slot_inb (t19_oldSlot c w t) (ykf_lt c) (by rw [old_slot (ykf_lt c) (by omega) h]; omega)
  · have hk := t19_lt c w hn t
    exact one_inb (D := 1024) ((congrFun (t19_now c w t) 0).trans (now_word (ykf_lt c) (by omega))) (by have := ykf_lt c; omega)
  · have hk := t19_lt c w hn t
    exact slot_inb (t19_nowSlot c w t) (ykf_lt c) (by rw [now_slot (ykf_lt c) (by omega)]; omega)
  · rw [t20_loop c w]; exact isRest_ok (ykf_lt c) rfl hn
  all_goals exact absurd (lt_of_lt_of_eq t.isLt (t19_none c w hn)) (Nat.not_lt_zero _)

theorem t27_lt (hn : w.toNat ≤ 128) (t : Fin (k0_t27_loop c w).trips) : t.val < w.toNat - (w.toNat - 16) := by
  exact lt_of_lt_of_eq t.isLt (by rw [t27_loop c w, drLoop_trips (ykf_lt c) rfl hn])
theorem t27_none (hn : w.toNat ≤ 128) : (k0_t28_loop c w).trips = 0 := by rw [t28_loop c w, drRest_trips (ykf_lt c) rfl hn]
theorem t27_chk (hn : w.toNat ≤ 128) : k0_chk98 c w := by
  refine ⟨?_, fun t => ?_, fun t => ?_, ?_, fun t => ?_, fun t => ?_⟩
  · rw [t27_loop c w]; exact drLoop_ok (ykf_lt c) rfl hn
  · have hk := t27_lt c w hn t
    exact one_inb (D := 1024) ((congrFun (t27_now c w t) 0).trans (dr_word (ykf_lt c) rfl hn hk)) (by have := ykf_lt c; omega)
  · have hk := t27_lt c w hn t
    exact slot_inb (t27_nowSlot c w t) (ykf_lt c) (by rw [dr_slot (ykf_lt c) rfl hn hk]; omega)
  · rw [t28_loop c w]; exact drRest_ok (ykf_lt c) rfl hn
  all_goals exact absurd (lt_of_lt_of_eq t.isLt (t27_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t19_trip (v86 : BitVec 32) (v88 : BitVec 32) (v92 : BitVec 32) (v282 : Elt F .i32) (k0_hw66 : k0_chk66 c v282) (h : Region (prow P (ykf c)) (trow I (ykf c)) (ykf c) (BitVec.toNat v282) Em G) (hn : BitVec.toNat v282 ≤ 128) (t : Fin (k0_t19_loop c v282).trips) (u : Unit) :
    (Work G₀ κ c P I C Em G N j (ykf c) (t.val - 16) t.val : sProp 𝕄) ⊢ wp frame (wpE (defs₀ (F := F)) 𝒱₀ c none) Set.univ (k0_t19_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v92 v282 k0_hw66 t u)
      fun _ => Work G₀ κ c P I C Em G N j (ykf c) (t.val + 1 - 16) (t.val + 1) := by
  have hk := t19_lt c v282 hn t
  unfold k0_t19_body
  by_cases hf : k0_cond11 c v282 t = 1#1
  · have h16 := (full_iff (ykf_lt c) (by omega)).1 ((t19_full c v282 t).symm.trans hf)
    rw [dif_pos hf]
    simp -proj only [smemLoad_bind, Prog.lift, Prog.bind_op, Prog.bind_ret, Prog.pure_eq_ret, Prog.bind_assoc]
    iintro HW
    iapply (wp_takeTrip G₀ κ c h (ykf_lt c) (off := k0_off141 c v282 t) (off' := k0_off141 c v282 t) (A := k0_chk68 c v282 t) (B := k0_chk67 c v282 t) (tf := k0_off144) (ro := k0_off143) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t19_old c v282 t) 0).trans (old_word (ykf_lt c) (by omega) h16)) ((congrFun (t19_old c v282 t) 0).trans (old_word (ykf_lt c) (by omega) h16))
      (fun v => ⟨rfl, rfl⟩) (fun v => ⟨rfl, rfl⟩)
      (gsem_eq (ykf_lt c) (by omega) ((t19_oldSlot c v282 t).trans (by rw [old_slot (ykf_lt c) (by omega) h16]))) (fun v hv _ => hv) (fun v hv _ => hv)) $$ HW
    rw [show t.val - 16 + 1 = t.val + 1 - 16 from by omega]
    iintro HW
    iapply (wp_sendTrip G₀ κ c h (ykf_lt c) (off := k0_off145 c v282 t) (off' := k0_off145 c v282 t) (A := k0_chk70) (B := k0_chk69) (tf := k0_off148) (ro := k0_off147) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t19_now c v282 t) 0).trans (now_word (ykf_lt c) (by omega))) ((congrFun (t19_now c v282 t) 0).trans (now_word (ykf_lt c) (by omega)))
      (fun v => ⟨rfl, rfl⟩) (fun v => ⟨rfl, rfl⟩)
      (gsem_eq (ykf_lt c) (by omega) ((t19_nowSlot c v282 t).trans (by rw [now_slot (ykf_lt c) (by omega)]))) (fun v hv => hv) (fun v hv => hv)) $$ HW
    iintro HW
    rw [wp_ret]
    imodintro
    iexact HW
  · have h16 : ¬ 16 ≤ t.val := fun h => hf ((t19_full c v282 t).trans ((full_iff (ykf_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (ykf_lt c) (off := k0_off145 c v282 t) (off' := k0_off145 c v282 t) (A := k0_chk70) (B := k0_chk69) (tf := k0_off148) (ro := k0_off147) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t19_now c v282 t) 0).trans (now_word (ykf_lt c) (by omega))) ((congrFun (t19_now c v282 t) 0).trans (now_word (ykf_lt c) (by omega)))
      (fun v => ⟨rfl, rfl⟩) (fun v => ⟨rfl, rfl⟩)
      (gsem_eq (ykf_lt c) (by omega) ((t19_nowSlot c v282 t).trans (by rw [now_slot (ykf_lt c) (by omega)]))) (fun v hv => hv) (fun v hv => hv)) $$ HW
    iintro HW
    rw [wp_ret]
    imodintro
    iexact HW

set_option maxHeartbeats 1000000 in
theorem t19_run (v86 : BitVec 32) (v88 : BitVec 32) (v92 : BitVec 32) (v282 : Elt F .i32) (k0_hw66 : k0_chk66 c v282) (h : Region (prow P (ykf c)) (trow I (ykf c)) (ykf c) (BitVec.toNat v282) Em G) (hn : BitVec.toNat v282 ≤ 128) {β : Type} {body' : Fin (k0_t20_loop c v282).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (ykf c) 0 0 : sProp 𝕄) ⊢ iprop((Work G₀ κ c P I C Em G N j (ykf c) (BitVec.toNat v282 - 16) (BitVec.toNat v282) -∗ wp frame (wpE (defs₀ (F := F)) 𝒱₀ c none) Set.univ (kk ⟨⟩) Q)
      -∗ wp frame (wpE (defs₀ (F := F)) 𝒱₀ c none) Set.univ (Scf.Loop.for (k0_t19_loop c v282) (k0_t19_ok c v282 k0_hw66) ⟨⟩ (k0_t19_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v92 v282 k0_hw66) >>= fun _ =>
          Scf.Loop.for (k0_t20_loop c v282) (k0_t20_ok c v282 k0_hw66) ⟨⟩ body' >>= kk) Q) := by
  have hend : (k0_t19_loop c v282).trips = BitVec.toNat v282 := by rw [t19_loop c v282, isLoop_trips (ykf_lt c) rfl hn]
  iintro HW Hk
  iapply (Scf.wp_for_bind _ _ _ _ _ _ _ _ _ (fun t _ => Work G₀ κ c P I C Em G N j (ykf c) (t - 16) t) (fun t u => t19_trip c G₀ κ v86 v88 v92 v282 k0_hw66 h hn t u)) $$ [HW]
  · iexact HW
  iintro %acc HW
  iapply (wp_noTrips c (t19_none c v282 hn))
  iapply Hk
  unfold Scf.Loop.trips at hend
  rw [hend]
  iexact HW

set_option maxHeartbeats 1000000 in
theorem t27_trip (v12 : BitVec 32) (v43 : BitVec 32) (v44 : BitVec 32) (v63 : BitVec 32) (v92 : BitVec 32) (v354 : BitVec 32) (v356 : Elt F .i32) (k0_hw98 : k0_chk98 c v356) (v357 : BitVec 32) (c16_i32_226 : BitVec 32) (h : Region (prow P (ykf c)) (trow I (ykf c)) (ykf c) (BitVec.toNat v356) Em G) (hn : BitVec.toNat v356 ≤ 128) (t : Fin (k0_t27_loop c v356).trips) (u : Unit) :
    (Work G₀ κ c P I C Em G N j (ykf c) (BitVec.toNat v356 - 16 + t.val) (BitVec.toNat v356) : sProp 𝕄) ⊢ wp frame (wpE (defs₀ (F := F)) 𝒱₀ c none) Set.univ (k0_t27_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v43 v44 v63 v92 v354 v356 k0_hw98 v357 c16_i32_226 t u)
      fun _ => Work G₀ κ c P I C Em G N j (ykf c) (BitVec.toNat v356 - 16 + (t.val + 1)) (BitVec.toNat v356) := by
  have hk := t27_lt c v356 hn t
  unfold k0_t27_body
  simp -proj only [smemLoad_bind, Prog.lift, Prog.bind_op, Prog.bind_ret, Prog.pure_eq_ret, Prog.bind_assoc]
  iintro HW
  iapply (wp_takeTrip G₀ κ c h (ykf_lt c) (off := k0_off208 c v356 t) (off' := k0_off208 c v356 t) (A := k0_chk100) (B := k0_chk99) (tf := k0_off211) (ro := k0_off210) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v356 - 16 + t.val) (b := BitVec.toNat v356) (by omega) (by omega) (by omega)
    ((congrFun (t27_now c v356 t) 0).trans (dr_word (ykf_lt c) rfl hn hk)) ((congrFun (t27_now c v356 t) 0).trans (dr_word (ykf_lt c) rfl hn hk))
    (fun v => ⟨rfl, rfl⟩) (fun v => ⟨rfl, rfl⟩)
    (gsem_eq (ykf_lt c) (by omega) ((t27_nowSlot c v356 t).trans (by rw [dr_slot (ykf_lt c) rfl hn hk]))) (fun v hv => hv) (fun v hv => hv)) $$ HW
  iintro HW
  rw [wp_ret]
  imodintro
  iexact HW

set_option maxHeartbeats 1000000 in
theorem t27_run (v12 : BitVec 32) (v43 : BitVec 32) (v44 : BitVec 32) (v63 : BitVec 32) (v92 : BitVec 32) (v354 : BitVec 32) (v356 : Elt F .i32) (k0_hw98 : k0_chk98 c v356) (v357 : BitVec 32) (c16_i32_226 : BitVec 32) (h : Region (prow P (ykf c)) (trow I (ykf c)) (ykf c) (BitVec.toNat v356) Em G) (hn : BitVec.toNat v356 ≤ 128) {β : Type} {body' : Fin (k0_t28_loop c v356).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (ykf c) (BitVec.toNat v356 - 16) (BitVec.toNat v356) : sProp 𝕄) ⊢ iprop((Work G₀ κ c P I C Em G N j (ykf c) (BitVec.toNat v356) (BitVec.toNat v356) -∗ wp frame (wpE (defs₀ (F := F)) 𝒱₀ c none) Set.univ (kk ⟨⟩) Q)
      -∗ wp frame (wpE (defs₀ (F := F)) 𝒱₀ c none) Set.univ (Scf.Loop.for (k0_t27_loop c v356) (k0_t27_ok c v356 k0_hw98) ⟨⟩ (k0_t27_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v43 v44 v63 v92 v354 v356 k0_hw98 v357 c16_i32_226) >>= fun _ =>
          Scf.Loop.for (k0_t28_loop c v356) (k0_t28_ok c v356 k0_hw98) ⟨⟩ body' >>= kk) Q) := by
  have hend : BitVec.toNat v356 - 16 + (k0_t27_loop c v356).trips = BitVec.toNat v356 := by rw [t27_loop c v356, drLoop_trips (ykf_lt c) rfl hn]; omega
  iintro HW Hk
  iapply (Scf.wp_for_bind _ _ _ _ _ _ _ _ _ (fun t _ => Work G₀ κ c P I C Em G N j (ykf c) (BitVec.toNat v356 - 16 + t) (BitVec.toNat v356)) (fun t u => t27_trip c G₀ κ v12 v43 v44 v63 v92 v354 v356 k0_hw98 v357 c16_i32_226 h hn t u)) $$ [HW]
  · iexact HW
  iintro %acc HW
  iapply (wp_noTrips c (t27_none c v356 hn))
  iapply Hk
  unfold Scf.Loop.trips at hend
  rw [hend]
  iexact HW

end Runs

end Cert.GatherProof
end
-- ==== Proof.RunYko.lean ====
/- The two loops of the region that yko names: the checks, a trip, the run. -/
module

public import proofs.«01_k».proof.Proof.Trips

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Runs

variable (c : Dev nD) (w : BitVec 32)

theorem t23_lt (hn : w.toNat ≤ 128) (t : Fin (k0_t23_loop c w).trips) : t.val < w.toNat := by
  exact lt_of_lt_of_eq t.isLt (by rw [t23_loop c w, isLoop_trips (yko_lt c) rfl hn])
theorem t23_none (hn : w.toNat ≤ 128) : (k0_t24_loop c w).trips = 0 := by rw [t24_loop c w, isRest_trips (yko_lt c) rfl hn]
theorem t23_chk (hn : w.toNat ≤ 128) : k0_chk84 c w := by
  refine ⟨?_, fun t h => ?_, fun t h => ?_, fun t => ?_, fun t => ?_, ?_, fun t => ?_, fun t => ?_, fun t => ?_, fun t => ?_⟩
  · rw [t23_loop c w]; exact isLoop_ok (yko_lt c) rfl hn
  · have hk := t23_lt c w hn t
    rw [t23_full c w t, full_iff (yko_lt c) (by omega)] at h
    exact one_inb (D := 1024) ((congrFun (t23_old c w t) 0).trans (old_word (yko_lt c) (by omega) h)) (by have := yko_lt c; omega)
  · have hk := t23_lt c w hn t
    rw [t23_full c w t, full_iff (yko_lt c) (by omega)] at h
    exact slot_inb (t23_oldSlot c w t) (yko_lt c) (by rw [old_slot (yko_lt c) (by omega) h]; omega)
  · have hk := t23_lt c w hn t
    exact one_inb (D := 1024) ((congrFun (t23_now c w t) 0).trans (now_word (yko_lt c) (by omega))) (by have := yko_lt c; omega)
  · have hk := t23_lt c w hn t
    exact slot_inb (t23_nowSlot c w t) (yko_lt c) (by rw [now_slot (yko_lt c) (by omega)]; omega)
  · rw [t24_loop c w]; exact isRest_ok (yko_lt c) rfl hn
  all_goals exact absurd (lt_of_lt_of_eq t.isLt (t23_none c w hn)) (Nat.not_lt_zero _)

theorem t31_lt (hn : w.toNat ≤ 128) (t : Fin (k0_t31_loop c w).trips) : t.val < w.toNat - (w.toNat - 16) := by
  exact lt_of_lt_of_eq t.isLt (by rw [t31_loop c w, drLoop_trips (yko_lt c) rfl hn])
theorem t31_none (hn : w.toNat ≤ 128) : (k0_t32_loop c w).trips = 0 := by rw [t32_loop c w, drRest_trips (yko_lt c) rfl hn]
theorem t31_chk (hn : w.toNat ≤ 128) : k0_chk108 c w := by
  refine ⟨?_, fun t => ?_, fun t => ?_, ?_, fun t => ?_, fun t => ?_⟩
  · rw [t31_loop c w]; exact drLoop_ok (yko_lt c) rfl hn
  · have hk := t31_lt c w hn t
    exact one_inb (D := 1024) ((congrFun (t31_now c w t) 0).trans (dr_word (yko_lt c) rfl hn hk)) (by have := yko_lt c; omega)
  · have hk := t31_lt c w hn t
    exact slot_inb (t31_nowSlot c w t) (yko_lt c) (by rw [dr_slot (yko_lt c) rfl hn hk]; omega)
  · rw [t32_loop c w]; exact drRest_ok (yko_lt c) rfl hn
  all_goals exact absurd (lt_of_lt_of_eq t.isLt (t31_none c w hn)) (Nat.not_lt_zero _)

variable (G₀ : Dev nD → ℕ → ℕ → Elt F .f32) (κ : GSem nD τ sig → ℕ) {P I C : ℕ → BitVec 32} {Em G : ℕ → ℕ → Elt F .f32} {N j : ℕ}

set_option maxHeartbeats 1000000 in
theorem t23_trip (v86 : BitVec 32) (v88 : BitVec 32) (v95 : BitVec 32) (v293 : BitVec 32) (v295 : Elt F .i32) (v308 : Elt F .i32) (k0_hw84 : k0_chk84 c v308) (h : Region (prow P (yko c)) (trow I (yko c)) (yko c) (BitVec.toNat v308) Em G) (hn : BitVec.toNat v308 ≤ 128) (t : Fin (k0_t23_loop c v308).trips) (u : Unit) :
    (Work G₀ κ c P I C Em G N j (yko c) (t.val - 16) t.val : sProp 𝕄) ⊢ wp frame (wpE (defs₀ (F := F)) 𝒱₀ c none) Set.univ (k0_t23_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 v308 k0_hw84 t u)
      fun _ => Work G₀ κ c P I C Em G N j (yko c) (t.val + 1 - 16) (t.val + 1) := by
  have hk := t23_lt c v308 hn t
  unfold k0_t23_body
  by_cases hf : k0_cond15 c v308 t = 1#1
  · have h16 := (full_iff (yko_lt c) (by omega)).1 ((t23_full c v308 t).symm.trans hf)
    rw [dif_pos hf]
    simp -proj only [smemLoad_bind, Prog.lift, Prog.bind_op, Prog.bind_ret, Prog.pure_eq_ret, Prog.bind_assoc]
    iintro HW
    iapply (wp_takeTrip G₀ κ c h (yko_lt c) (off := k0_off177 c v308 t) (off' := k0_off177 c v308 t) (A := k0_chk86 c v308 t) (B := k0_chk85 c v308 t) (tf := k0_off180) (ro := k0_off179) (ti := fun _ hv => hv.down hf) (ri := fun _ hv => hv.down hf) (w₁ := fun _ _ => View.wordExact_bits rfl) (w₂ := fun _ _ => View.wordExact_bits rfl) (hl := View.loads_smem_one rfl numel1_S1) (hl' := View.loads_smem_one rfl numel1_S1) (a := t.val - 16) (b := t.val) (by omega) (by omega) (by omega)
      ((congrFun (t23_old c v308 t) 0).trans (old_word (yko_lt c) (by omega) h16)) ((congrFun (t23_old c v308 t) 0).trans (old_word (yko_lt c) (by omega) h16))
      (fun v => ⟨rfl, rfl⟩) (fun v => ⟨rfl, rfl⟩)
      (gsem_eq (yko_lt c) (by omega) ((t23_oldSlot c v308 t).trans (by rw [old_slot (yko_lt c) (by omega) h16]))) (fun v hv _ => hv) (fun v hv _ => hv)) $$ HW
    rw [show t.val - 16 + 1 = t.val + 1 - 16 from by omega]
    iintro HW
    iapply (wp_sendTrip G₀ κ c h (yko_lt c) (off := k0_off181 c v308 t) (off' := k0_off181 c v308 t) (A := k0_chk88) (B := k0_chk87) (tf := k0_off184) (ro := k0_off183) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t23_now c v308 t) 0).trans (now_word (yko_lt c) (by omega))) ((congrFun (t23_now c v308 t) 0).trans (now_word (yko_lt c) (by omega)))
      (fun v => ⟨rfl, rfl⟩) (fun v => ⟨rfl, rfl⟩)
      (gsem_eq (yko_lt c) (by omega) ((t23_nowSlot c v308 t).trans (by rw [now_slot (yko_lt c) (by omega)]))) (fun v hv => hv) (fun v hv => hv)) $$ HW
    iintro HW
    rw [wp_ret]
    imodintro
    iexact HW
  · have h16 : ¬ 16 ≤ t.val := fun h => hf ((t23_full c v308 t).trans ((full_iff (yko_lt c) (by omega)).2 h))
    rw [dif_neg hf]
    simp -proj only [smemLoad_bind, Prog.lift, Prog.bind_op, Prog.bind_ret, Prog.pure_eq_ret, Prog.bind_assoc]
    rw [show t.val - 16 = t.val + 1 - 16 from by omega]
    iintro HW
    iapply (wp_sendTrip G₀ κ c h (yko_lt c) (off := k0_off181 c v308 t) (off' := k0_off181 c v308 t) (A := k0_chk88) (B := k0_chk87) (tf := k0_off184) (ro := k0_off183) (ti := fun _ hv => hv.down) (ri := fun _ hv => hv.down) (hT := fun _ _ _ _ => ⟨Or.inl rfl, trivial⟩) (w₁ := fun _ _ => View.wordExact_bits rfl) (w₂ := fun _ _ => View.wordExact_bits rfl) (hl := View.loads_smem_one rfl numel1_S1) (hl' := View.loads_smem_one rfl numel1_S1) (by omega) (by omega) (by omega)
      ((congrFun (t23_now c v308 t) 0).trans (now_word (yko_lt c) (by omega))) ((congrFun (t23_now c v308 t) 0).trans (now_word (yko_lt c) (by omega)))
      (fun v => ⟨rfl, rfl⟩) (fun v => ⟨rfl, rfl⟩)
      (gsem_eq (yko_lt c) (by omega) ((t23_nowSlot c v308 t).trans (by rw [now_slot (yko_lt c) (by omega)]))) (fun v hv => hv) (fun v hv => hv)) $$ HW
    iintro HW
    rw [wp_ret]
    imodintro
    iexact HW

set_option maxHeartbeats 1000000 in
theorem t23_run (v86 : BitVec 32) (v88 : BitVec 32) (v95 : BitVec 32) (v293 : BitVec 32) (v295 : Elt F .i32) (v308 : Elt F .i32) (k0_hw84 : k0_chk84 c v308) (h : Region (prow P (yko c)) (trow I (yko c)) (yko c) (BitVec.toNat v308) Em G) (hn : BitVec.toNat v308 ≤ 128) {β : Type} {body' : Fin (k0_t24_loop c v308).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (yko c) 0 0 : sProp 𝕄) ⊢ iprop((Work G₀ κ c P I C Em G N j (yko c) (BitVec.toNat v308 - 16) (BitVec.toNat v308) -∗ wp frame (wpE (defs₀ (F := F)) 𝒱₀ c none) Set.univ (kk ⟨⟩) Q)
      -∗ wp frame (wpE (defs₀ (F := F)) 𝒱₀ c none) Set.univ (Scf.Loop.for (k0_t23_loop c v308) (k0_t23_ok c v308 k0_hw84) ⟨⟩ (k0_t23_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 v308 k0_hw84) >>= fun _ =>
          Scf.Loop.for (k0_t24_loop c v308) (k0_t24_ok c v308 k0_hw84) ⟨⟩ body' >>= kk) Q) := by
  have hend : (k0_t23_loop c v308).trips = BitVec.toNat v308 := by rw [t23_loop c v308, isLoop_trips (yko_lt c) rfl hn]
  iintro HW Hk
  iapply (Scf.wp_for_bind _ _ _ _ _ _ _ _ _ (fun t _ => Work G₀ κ c P I C Em G N j (yko c) (t - 16) t) (fun t u => t23_trip c G₀ κ v86 v88 v95 v293 v295 v308 k0_hw84 h hn t u)) $$ [HW]
  · iexact HW
  iintro %acc HW
  iapply (wp_noTrips c (t23_none c v308 hn))
  iapply Hk
  unfold Scf.Loop.trips at hend
  rw [hend]
  iexact HW

set_option maxHeartbeats 1000000 in
theorem t31_trip (v12 : BitVec 32) (v44 : BitVec 32) (v57 : BitVec 32) (v95 : BitVec 32) (v477 : BitVec 32) (v478 : BitVec 32) (v489 : Elt F .i32) (k0_hw108 : k0_chk108 c v489) (h : Region (prow P (yko c)) (trow I (yko c)) (yko c) (BitVec.toNat v489) Em G) (hn : BitVec.toNat v489 ≤ 128) (t : Fin (k0_t31_loop c v489).trips) (u : Unit) :
    (Work G₀ κ c P I C Em G N j (yko c) (BitVec.toNat v489 - 16 + t.val) (BitVec.toNat v489) : sProp 𝕄) ⊢ wp frame (wpE (defs₀ (F := F)) 𝒱₀ c none) Set.univ (k0_t31_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v57 v95 v477 v478 v489 k0_hw108 t u)
      fun _ => Work G₀ κ c P I C Em G N j (yko c) (BitVec.toNat v489 - 16 + (t.val + 1)) (BitVec.toNat v489) := by
  have hk := t31_lt c v489 hn t
  unfold k0_t31_body
  simp -proj only [smemLoad_bind, Prog.lift, Prog.bind_op, Prog.bind_ret, Prog.pure_eq_ret, Prog.bind_assoc]
  iintro HW
  iapply (wp_takeTrip G₀ κ c h (yko_lt c) (off := k0_off245 c v489 t) (off' := k0_off245 c v489 t) (A := k0_chk110) (B := k0_chk109) (tf := k0_off248) (ro := k0_off247) (ti := fun _ hv => hv.down) (ri := fun _ hv => hv.down) (w₁ := fun _ _ => View.wordExact_bits rfl) (w₂ := fun _ _ => View.wordExact_bits rfl) (hl := View.loads_smem_one rfl numel1_S1) (hl' := View.loads_smem_one rfl numel1_S1) (a := BitVec.toNat v489 - 16 + t.val) (b := BitVec.toNat v489) (by omega) (by omega) (by omega)
    ((congrFun (t31_now c v489 t) 0).trans (dr_word (yko_lt c) rfl hn hk)) ((congrFun (t31_now c v489 t) 0).trans (dr_word (yko_lt c) rfl hn hk))
    (fun v => ⟨rfl, rfl⟩) (fun v => ⟨rfl, rfl⟩)
    (gsem_eq (yko_lt c) (by omega) ((t31_nowSlot c v489 t).trans (by rw [dr_slot (yko_lt c) rfl hn hk]))) (fun v hv => hv) (fun v hv => hv)) $$ HW
  iintro HW
  rw [wp_ret]
  imodintro
  iexact HW

set_option maxHeartbeats 1000000 in
theorem t31_run (v12 : BitVec 32) (v44 : BitVec 32) (v57 : BitVec 32) (v95 : BitVec 32) (v477 : BitVec 32) (v478 : BitVec 32) (v489 : Elt F .i32) (k0_hw108 : k0_chk108 c v489) (h : Region (prow P (yko c)) (trow I (yko c)) (yko c) (BitVec.toNat v489) Em G) (hn : BitVec.toNat v489 ≤ 128) {β : Type} {body' : Fin (k0_t32_loop c v489).trips → PUnit → Prog (TpuEff nD τ sig (Elt F) Λ₀ .tc) PUnit}
    {kk : PUnit → Prog (TpuEff nD τ sig (Elt F) Λ₀ .tc) β} {Q : β → sProp 𝕄} :
    (Work G₀ κ c P I C Em G N j (yko c) (BitVec.toNat v489 - 16) (BitVec.toNat v489) : sProp 𝕄) ⊢ iprop((Work G₀ κ c P I C Em G N j (yko c) (BitVec.toNat v489) (BitVec.toNat v489) -∗ wp frame (wpE (defs₀ (F := F)) 𝒱₀ c none) Set.univ (kk ⟨⟩) Q)
      -∗ wp frame (wpE (defs₀ (F := F)) 𝒱₀ c none) Set.univ (Scf.Loop.for (k0_t31_loop c v489) (k0_t31_ok c v489 k0_hw108) ⟨⟩ (k0_t31_body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v57 v95 v477 v478 v489 k0_hw108) >>= fun _ =>
          Scf.Loop.for (k0_t32_loop c v489) (k0_t32_ok c v489 k0_hw108) ⟨⟩ body' >>= kk) Q) := by
  have hend : BitVec.toNat v489 - 16 + (k0_t31_loop c v489).trips = BitVec.toNat v489 := by rw [t31_loop c v489, drLoop_trips (yko_lt c) rfl hn]; omega
  iintro HW Hk
  iapply (Scf.wp_for_bind _ _ _ _ _ _ _ _ _ (fun t _ => Work G₀ κ c P I C Em G N j (yko c) (BitVec.toNat v489 - 16 + t) (BitVec.toNat v489)) (fun t u => t31_trip c G₀ κ v12 v44 v57 v95 v477 v478 v489 k0_hw108 h hn t u)) $$ [HW]
  · iexact HW
  iintro %acc HW
  iapply (wp_noTrips c (t31_none c v489 hn))
  iapply Hk
  unfold Scf.Loop.trips at hend
  rw [hend]
  iexact HW

end Runs

end Cert.GatherProof
end
-- ==== Proof.Part9.lean ====
/- Parts 9 and 10 of the kernel's body, run. -/
module

public import proofs.«01_k».proof.Proof.Glue
public import proofs.«01_k».proof.Proof.RunXkf
public import proofs.«01_k».proof.Proof.RunXko
public import proofs.«01_k».proof.Proof.RunYkf
public import proofs.«01_k».proof.Proof.RunYko

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part9_run (v86 : BitVec 32) (v88 : BitVec 32) (v92 : BitVec 32) {β : Type} {kk : (Σ' (v293 : BitVec 32), Elt F .i32) → Prog (TpuEff nD τ sig (Elt F) Λ₀ .tc) β} {Q : β → sProp 𝕄} :
    iprop(Ctx G κ c ∗ Proto 5 0 c ∗ Tabs c P I C ∗ Blk oV c (ys c + a0 c) 128 fullShare 0 (G c) ∗ Any y1V (pb c) (a0 c) 128 ∗ Blk oV c (xk c + b0 c) 128 fullShare 0 (fun _ _ => zero) ∗ bigSep (Finset.range 16) (idle c (xkf c) Em) ∗ Any oV c (yk c + a0 c) 128 ∗ bigSep (Finset.range 16) (idle c (ykf c) Em) ∗ Any oV c (xk c + b1 c) 128)
      ⊢ iprop((∀ r, ⌜r.2 = C (xko c)⌝ -∗ Proto 6 0 c ∗ Tabs c P I C ∗ Blk oV c (xk c + b1 c) 128 fullShare 0 (fun _ _ => zero) ∗ Under c (prow P (xkf c)) (trow I (xkf c)) (xkf c) Em (G c) (BitVec.toNat (C (xkf c)) - 16) (BitVec.toNat (C (xkf c))) ∗ Under c (prow P (ykf c)) (trow I (ykf c)) (ykf c) Em (G c) (BitVec.toNat (C (ykf c)) - 16) (BitVec.toNat (C (ykf c))) -∗ wp frame (wpE (defs₀ (F := F)) 𝒱₀ c none) Set.univ (kk r) Q)
        -∗ wp frame (wpE (defs₀ (F := F)) 𝒱₀ c none) Set.univ (k0_part9_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v92 >>= kk) Q) := by
  unfold k0_part9_skel
  simp -proj only [smemLoad_bind, Prog.lift, Prog.bind_op, Prog.bind_ret, Prog.pure_eq_ret, Prog.bind_assoc]
  iintro ⟨#HC, HP, HT, HRyso, HY1c, HRxkf, HIxkf, HRykf, HIykf, HRxko⟩ Hk
  iapply (send5 G κ c (j := 0) rfl rfl (by decide)) $$ [HP HRyso HY1c]
  · isplitr; · iexact HC
    isplitl [HP]; · iexact HP
    isplitl [HRyso]; · iexact HRyso
    iexact HY1c
  iintro HP
  iapply (wp_count (i := xkf c) (congrFun (ix122 c) 0)) $$ HT
  iintro HT
  iapply (wp_assume 𝒱₀ (c : Thread nD τ) none Set.univ (t17_chk c _ (hn (xkf c) (xkf_lt c))))
  iapply (t17_run c G κ _ _ _ _ _ (hR (xkf c) (xkf_lt c)) (hn (xkf c) (xkf_lt c))) $$ [HP HT HRxkf HIxkf]
  · iapply (work_start (xkf_row c))
    isplitr; · iexact HC
    isplitl [HP]; · iexact HP
    isplitl [HT]; · iexact HT
    isplitl [HRxkf]; · iexact HRxkf
    iexact HIxkf
  iintro HW
  ihave HW := work_pause $$ HW
  icases HW with ⟨HP, HT, HUxkf⟩
  iapply (wp_clear c (lo := yk c + a0 c) (n := 128) (congrFun (o139 c) 0) (congrFun (o139 c) 1) (fun _ => rfl)) $$ HRykf
  iintro HRykf
  iapply (wp_count (i := ykf c) (congrFun (ix140 c) 0)) $$ HT
  iintro HT
  iapply (wp_assume 𝒱₀ (c : Thread nD τ) none Set.univ (t19_chk c _ (hn (ykf c) (ykf_lt c))))
  iapply (t19_run c G κ _ _ _ _ _ (hR (ykf c) (ykf_lt c)) (hn (ykf c) (ykf_lt c))) $$ [HP HT HRykf HIykf]
  · iapply (work_start (ykf_row c))
    isplitr; · iexact HC
    isplitl [HP]; · iexact HP
    isplitl [HT]; · iexact HT
    isplitl [HRykf]; · iexact HRykf
    iexact HIykf
  iintro HW
  ihave HW := work_pause $$ HW
  icases HW with ⟨HP, HT, HUykf⟩
  iapply (wp_clear c (lo := xk c + b1 c) (n := 128) (congrFun (o157 c) 0) (congrFun (o157 c) 1) (fun _ => rfl)) $$ HRxko
  iintro HRxko
  iapply (wp_count (i := xko c) (congrFun (ix158 c) 0)) $$ HT
  iintro HT
  iapply Hk $$ [] [HP HT HRxko HUxkf HUykf]
  · ipureintro; rfl
  · isplitl [HP]; · iexact HP
    isplitl [HT]; · iexact HT
    isplitl [HRxko]; · iexact HRxko
    isplitl [HUxkf]; · iexact HUxkf
    iexact HUykf

set_option maxHeartbeats 400000 in
theorem part10_run (v86 : BitVec 32) (v88 : BitVec 32) (v95 : BitVec 32) (v293 : BitVec 32) (v295 : Elt F .i32) (hv : v295 = C (xko c)) {β : Type} {kk : (PUnit) → Prog (TpuEff nD τ sig (Elt F) Λ₀ .tc) β} {Q : β → sProp 𝕄} :
    iprop(Ctx G κ c ∗ Proto 6 0 c ∗ Tabs c P I C ∗ Blk oV c (xk c + b1 c) 128 fullShare 0 (fun _ _ => zero) ∗ bigSep (Finset.range 16) (idle c (xko c) Em) ∗ Any oV c (yk c + a1 c) 128 ∗ bigSep (Finset.range 16) (idle c (yko c) Em) ∗ Under c (prow P (xkf c)) (trow I (xkf c)) (xkf c) Em (G c) (BitVec.toNat (C (xkf c)) - 16) (BitVec.toNat (C (xkf c))))
      ⊢ iprop((∀ r, Proto 6 0 c ∗ Tabs c P I C ∗ Under c (prow P (xko c)) (trow I (xko c)) (xko c) Em (G c) (BitVec.toNat (C (xko c)) - 16) (BitVec.toNat (C (xko c))) ∗ Under c (prow P (yko c)) (trow I (yko c)) (yko c) Em (G c) (BitVec.toNat (C (yko c)) - 16) (BitVec.toNat (C (yko c))) ∗ Blk oV c (xk c + b0 c) 128 fullShare 0 (G c) ∗ bigSep (Finset.range 16) (idle c (xkf c) Em) -∗ wp frame (wpE (defs₀ (F := F)) 𝒱₀ c none) Set.univ (kk r) Q)
        -∗ wp frame (wpE (defs₀ (F := F)) 𝒱₀ c none) Set.univ (k0_part10_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v86 v88 v95 v293 v295 >>= kk) Q) := by
  subst hv
  unfold k0_part10_skel
  simp -proj only [smemLoad_bind, Prog.lift, Prog.bind_op, Prog.bind_ret, Prog.pure_eq_ret, Prog.bind_assoc]
  iintro ⟨#HC, HP, HT, HRxko, HIxko, HRyko, HIyko, HUxkf⟩ Hk
  iapply (wp_assume 𝒱₀ (c : Thread nD τ) none Set.univ (t21_chk c _ (hn (xko c) (xko_lt c))))
  iapply (t21_run c G κ _ _ _ _ _ _ (hR (xko c) (xko_lt c)) (hn (xko c) (xko_lt c))) $$ [HP HT HRxko HIxko]
  · iapply (work_start (xko_row c))
    isplitr; · iexact HC
    isplitl [HP]; · iexact HP
    isplitl [HT]; · iexact HT
    isplitl [HRxko]; · iexact HRxko
    iexact HIxko
  iintro HW
  ihave HW := work_pause $$ HW
  icases HW with ⟨HP, HT, HUxko⟩
  iapply (wp_clear c (lo := yk c + a1 c) (n := 128) (congrFun (o175 c) 0) (congrFun (o175 c) 1) (fun _ => rfl)) $$ HRyko
  iintro HRyko
  iapply (wp_count (i := yko c) (congrFun (ix176 c) 0)) $$ HT
  iintro HT
  iapply (wp_assume 𝒱₀ (c : Thread nD τ) none Set.univ (t23_chk c _ (hn (yko c) (yko_lt c))))
  iapply (t23_run c G κ _ _ _ _ _ _ _ (hR (yko c) (yko_lt c)) (hn (yko c) (yko_lt c))) $$ [HP HT HRyko HIyko]
  · iapply (work_start (yko_row c))
    isplitr; · iexact HC
    isplitl [HP]; · iexact HP
    isplitl [HT]; · iexact HT
    isplitl [HRyko]; · iexact HRyko
    iexact HIyko
  iintro HW
  ihave HW := work_pause $$ HW
  icases HW with ⟨HP, HT, HUyko⟩
  iapply (wp_count (i := xkf c) (congrFun (ix193 c) 0)) $$ HT
  iintro HT
  iapply (wp_assume 𝒱₀ (c : Thread nD τ) none Set.univ (t25_chk c _ (hn (xkf c) (xkf_lt c))))
  iapply (t25_run c G κ _ _ _ _ _ _ _ (hR (xkf c) (xkf_lt c)) (hn (xkf c) (xkf_lt c))) $$ [HP HT HUxkf]
  · iapply work_resume
    isplitr; · iexact HC
    isplitl [HP]; · iexact HP
    isplitl [HT]; · iexact HT
    iexact HUxkf
  iintro HW
  ihave HW := (work_end (xkf_row c) (hR (xkf c) (xkf_lt c))) $$ HW
  icases HW with ⟨HP, HT, HRxkf, HIxkf⟩
  iapply Hk $$ [HP HT HUxko HUyko HRxkf HIxkf]
  · isplitl [HP]; · iexact HP
    isplitl [HT]; · iexact HT
    isplitl [HUxko]; · iexact HUxko
    isplitl [HUyko]; · iexact HUyko
    isplitl [HRxkf]; · iexact HRxkf
    iexact HIxkf

end Parts

end Cert.GatherProof
end
-- ==== Proof.Part11.lean ====
/- Parts 11 and 12 of the kernel's body, run. -/
module

public import proofs.«01_k».proof.Proof.Glue
public import proofs.«01_k».proof.Proof.RunYkf

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part11_run (v29 : BitVec 32) (v43 : BitVec 32) (v44 : BitVec 32) (v60 : BitVec 32) (v92 : BitVec 32) {β : Type} {kk : (Σ' (v354 : BitVec 32) (v356 : Elt F .i32) (k0_hw98 : k0_chk98 c v356) (v357 : BitVec 32), BitVec 32) → Prog (TpuEff nD τ sig (Elt F) Λ₀ .tc) β} {Q : β → sProp 𝕄} :
    iprop(Ctx G κ c ∗ Proto 6 0 c ∗ Tabs c P I C ∗ Blk oV c (xk c + b0 c) 128 fullShare 0 (G c) ∗ Any x2V (pb c) (0) 64)
      ⊢ iprop((∀ r, ⌜r.2.1 = C (ykf c)⌝ -∗ Proto 7 2 c ∗ Tabs c P I C ∗ Blk oV c (xk c + b0 c + 64) 64 fullShare 0 (G c) ∗ Blk x1V c (b0 c) 64 fullShare (xk c) (G (pa c)) ∗ Any oV (pa c) (xk c + b0 c) 64 -∗ wp frame (wpE (defs₀ (F := F)) 𝒱₀ c none) Set.univ (kk r) Q)
        -∗ wp frame (wpE (defs₀ (F := F)) 𝒱₀ c none) Set.univ (k0_part11_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v44 v60 v92 >>= kk) Q) := by
  unfold k0_part11_skel
  simp -proj only [smemLoad_bind, Prog.lift, Prog.bind_op, Prog.bind_ret, Prog.pure_eq_ret, Prog.bind_assoc]
  iintro ⟨#HC, HP, HT, HRxkf, HX2a⟩ Hk
  ihave HRxkf := blk_cut $$ HRxkf
  icases HRxkf with ⟨HRxkf0, HRxkf1⟩
  iapply (wp_arrive G κ c 0 (n := 6) (t₁ := 1) (q := ((cc0_scratch5.slice (Rect.unit (s := S11) ![0] S1.size inb_S11_S1_0)).squeeze S_ squeezes_S1_S_).sem) (dst := oM.slice (Rect.unit (s := S1024x1024) (k0_off202 c) S64x1024.size (k0_off202_inb c)) (fun _ => rfl)) (X := iprop(emp)) rfl rfl rfl rfl (amt64 0 (by decide)).symm (by decide)) $$ [HP]
  · isplitr; · iexact HC
    iexact HP
  iintro HP -
  iapply (wp_arrive G κ c 1 (n := 6) (t₁ := 2) (q := ((cc0_scratch6.slice (Rect.unit (s := S11) ![0] S1.size inb_S11_S1_0)).squeeze S_ squeezes_S1_S_).sem) (dst := x1M.slice (Rect.unit (s := S256x1024) (k0_off203 c) S64x1024.size (k0_off203_inb c)) (fun _ => rfl)) (X := Land c x1V (pa c) (b0 c) 64 (xk c) (G (pa c)) (xk c + b0 c)) rfl rfl rfl rfl (amt64 0 (by decide)).symm (by decide)) $$ [HP]
  · isplitr; · iexact HC
    iexact HP
  iintro HP HL
  unfold Land
  icases HL with ⟨HB0, HD0⟩
  iapply (wp_sum (M'' := H1x G c) (lo := b0 c) (lo' := xk c + b0 c) (n := 64) (o := xk c) x1M (congrFun (o204 c) 0) (congrFun (o204 c) 1) (congrFun (o205 c) 0) (congrFun (o205 c) 1) (by omega) (addPay _) rfl) $$ [HRxkf0 HB0]
  · isplitl [HRxkf0]; · iexact HRxkf0
    iexact HB0
  iintro HRxkf0 HB0
  iapply (send6 G κ c (j := 2) rfl rfl (by decide)) $$ [HP HRxkf0 HX2a]
  · isplitr; · iexact HC
    isplitl [HP]; · iexact HP
    isplitl [HRxkf0]; · iexact HRxkf0
    iexact HX2a
  iintro HP
  iapply (wp_count (i := ykf c) (congrFun (ix207 c) 0)) $$ HT
  iintro HT
  iapply (wp_assume 𝒱₀ (c : Thread nD τ) none Set.univ (t27_chk c _ (hn (ykf c) (ykf_lt c))))
  iapply Hk $$ [] [HP HT HRxkf1 HB0 HD0]
  · ipureintro; rfl
  · isplitl [HP]; · iexact HP
    isplitl [HT]; · iexact HT
    isplitl [HRxkf1]; · iexact HRxkf1
    isplitl [HB0]; · iexact HB0
    iexact HD0

set_option maxHeartbeats 400000 in
theorem part12_run (v12 : BitVec 32) (v43 : BitVec 32) (v44 : BitVec 32) (v63 : BitVec 32) (v92 : BitVec 32) (v354 : BitVec 32) (v356 : Elt F .i32) (k0_hw98 : k0_chk98 c v356) (v357 : BitVec 32) (c16_i32_226 : BitVec 32) (hv : v356 = C (ykf c)) {β : Type} {kk : (PUnit) → Prog (TpuEff nD τ sig (Elt F) Λ₀ .tc) β} {Q : β → sProp 𝕄} :
    iprop(Ctx G κ c ∗ Proto 7 2 c ∗ Tabs c P I C ∗ Under c (prow P (ykf c)) (trow I (ykf c)) (ykf c) Em (G c) (BitVec.toNat (C (ykf c)) - 16) (BitVec.toNat (C (ykf c))))
      ⊢ iprop((∀ r, Proto 7 4 c ∗ Tabs c P I C ∗ bigSep (Finset.range 16) (idle c (ykf c) Em) ∗ Blk oV c (yk c + a0 c) 64 fullShare 0 (H1y G c) ∗ Blk oV c (yk c + a0 c + 64) 64 fullShare 0 (G c) ∗ Blk y1V c (a0 c) 64 fullShare (yk c) (G (pb c)) ∗ Any oV (pb c) (yk c + a0 c) 64 -∗ wp frame (wpE (defs₀ (F := F)) 𝒱₀ c none) Set.univ (kk r) Q)
        -∗ wp frame (wpE (defs₀ (F := F)) 𝒱₀ c none) Set.univ (k0_part12_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v43 v44 v63 v92 v354 v356 k0_hw98 v357 c16_i32_226 >>= kk) Q) := by
  subst hv
  unfold k0_part12_skel
  simp -proj only [smemLoad_bind, Prog.lift, Prog.bind_op, Prog.bind_ret, Prog.pure_eq_ret, Prog.bind_assoc]
  iintro ⟨#HC, HP, HT, HUykf⟩ Hk
  iapply (t27_run c G κ _ _ _ _ _ _ _ _ _ _ (hR (ykf c) (ykf_lt c)) (hn (ykf c) (ykf_lt c))) $$ [HP HT HUykf]
  · iapply work_resume
    isplitr; · iexact HC
    isplitl [HP]; · iexact HP
    isplitl [HT]; · iexact HT
    iexact HUykf
  iintro HW
  ihave HW := (work_end (ykf_row c) (hR (ykf c) (ykf_lt c))) $$ HW
  icases HW with ⟨HP, HT, HRykf, HIykf⟩
  ihave HRykf := blk_cut $$ HRykf
  icases HRykf with ⟨HRykf0, HRykf1⟩
  iapply (wp_arrive G κ c 2 (n := 7) (t₁ := 3) (q := ((cc0_scratch7.slice (Rect.unit (s := S11) ![0] S1.size inb_S11_S1_0)).squeeze S_ squeezes_S1_S_).sem) (dst := oM.slice (Rect.unit (s := S1024x1024) (k0_off216 c) S64x1024.size (k0_off216_inb c)) (fun _ => rfl)) (X := iprop(emp)) rfl rfl rfl rfl (amt64 2 (by decide)).symm (by decide)) $$ [HP]
  · isplitr; · iexact HC
    iexact HP
  iintro HP -
  iapply (wp_arrive G κ c 3 (n := 7) (t₁ := 4) (q := ((cc0_scratch8.slice (Rect.unit (s := S11) ![0] S1.size inb_S11_S1_0)).squeeze S_ squeezes_S1_S_).sem) (dst := y1M.slice (Rect.unit (s := S256x1024) (k0_off217 c) S64x1024.size (k0_off217_inb c)) (fun _ => rfl)) (X := Land c y1V (pb c) (a0 c) 64 (yk c) (G (pb c)) (yk c + a0 c)) rfl rfl rfl rfl (amt64 2 (by decide)).symm (by decide)) $$ [HP]
  · isplitr; · iexact HC
    iexact HP
  iintro HP HL
  unfold Land
  icases HL with ⟨HB2, HD2⟩
  iapply (wp_sum (M'' := H1y G c) (lo := a0 c) (lo' := yk c + a0 c) (n := 64) (o := yk c) y1M (congrFun (o218 c) 0) (congrFun (o218 c) 1) (congrFun (o219 c) 0) (congrFun (o219 c) 1) (by omega) (addPay _) rfl) $$ [HRykf0 HB2]
  · isplitl [HRykf0]; · iexact HRykf0
    iexact HB2
  iintro HRykf0 HB2
  iapply Hk $$ [HP HT HIykf HRykf0 HRykf1 HB2 HD2]
  · isplitl [HP]; · iexact HP
    isplitl [HT]; · iexact HT
    isplitl [HIykf]; · iexact HIykf
    isplitl [HRykf0]; · iexact HRykf0
    isplitl [HRykf1]; · iexact HRykf1
    isplitl [HB2]; · iexact HB2
    iexact HD2

end Parts

end Cert.GatherProof
end
-- ==== Proof.Part13.lean ====
/- Parts 13 and 14 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part13_run (v29 : BitVec 32) (v43 : BitVec 32) (v44 : BitVec 32) (v60 : BitVec 32) {β : Type} {kk : (PUnit) → Prog (TpuEff nD τ sig (Elt F) Λ₀ .tc) β} {Q : β → sProp 𝕄} :
    iprop(Ctx G κ c ∗ Proto 7 4 c ∗ Blk oV c (yk c + a0 c) 64 fullShare 0 (H1y G c) ∗ Any y2V (pa c) (0) 64 ∗ Blk oV c (xk c + b0 c + 64) 64 fullShare 0 (G c))
      ⊢ iprop((∀ r, Proto 8 6 c ∗ Blk oV c (xk c + b0 c + 64) 64 fullShare 0 (H1x G c) ∗ Blk x1V c (b0 c + 64) 64 fullShare (xk c) (G (pa c)) ∗ Any oV (pa c) (xk c + b0 c + 64) 64 -∗ wp frame (wpE (defs₀ (F := F)) 𝒱₀ c none) Set.univ (kk r) Q)
        -∗ wp frame (wpE (defs₀ (F := F)) 𝒱₀ c none) Set.univ (k0_part13_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v44 v60 >>= kk) Q) := by
  unfold k0_part13_skel
  simp -proj only [smemLoad_bind, Prog.lift, Prog.bind_op, Prog.bind_ret, Prog.pure_eq_ret, Prog.bind_assoc]
  iintro ⟨#HC, HP, HRykf0, HY2a, HRxkf1⟩ Hk
  iapply (send7 G κ c (j := 4) rfl rfl (by decide)) $$ [HP HRykf0 HY2a]
  · isplitr; · iexact HC
    isplitl [HP]; · iexact HP
    isplitl [HRykf0]; · iexact HRykf0
    iexact HY2a
  iintro HP
  iapply (wp_arrive G κ c 4 (n := 8) (t₁ := 5) (q := ((cc0_scratch5.slice (Rect.unit (s := S11) ![1] S1.size inb_S11_S1_1)).squeeze S_ squeezes_S1_S_).sem) (dst := oM.slice (Rect.unit (s := S1024x1024) (k0_off221 c) S64x1024.size (k0_off221_inb c)) (fun _ => rfl)) (X := iprop(emp)) rfl rfl rfl rfl (amt64 1 (by decide)).symm (by decide)) $$ [HP]
  · isplitr; · iexact HC
    iexact HP
  iintro HP -
  iapply (wp_arrive G κ c 5 (n := 8) (t₁ := 6) (q := ((cc0_scratch6.slice (Rect.unit (s := S11) ![1] S1.size inb_S11_S1_1)).squeeze S_ squeezes_S1_S_).sem) (dst := x1M.slice (Rect.unit (s := S256x1024) (k0_off222 c) S64x1024.size (k0_off222_inb c)) (fun _ => rfl)) (X := Land c x1V (pa c) (b0 c + 64) 64 (xk c) (G (pa c)) (xk c + b0 c + 64)) rfl rfl rfl rfl (amt64 1 (by decide)).symm (by decide)) $$ [HP]
  · isplitr; · iexact HC
    iexact HP
  iintro HP HL
  unfold Land
  icases HL with ⟨HB1, HD1⟩
  iapply (wp_sum (M'' := H1x G c) (lo := b0 c + 64) (lo' := xk c + b0 c + 64) (n := 64) (o := xk c) x1M (congrFun (o223 c) 0) (congrFun (o223 c) 1) (congrFun (o224 c) 0) (congrFun (o224 c) 1) (by omega) (addPay _) rfl) $$ [HRxkf1 HB1]
  · isplitl [HRxkf1]; · iexact HRxkf1
    iexact HB1
  iintro HRxkf1 HB1
  iapply Hk $$ [HP HRxkf1 HB1 HD1]
  · isplitl [HP]; · iexact HP
    isplitl [HRxkf1]; · iexact HRxkf1
    isplitl [HB1]; · iexact HB1
    iexact HD1

set_option maxHeartbeats 400000 in
theorem part14_run (v12 : BitVec 32) (v43 : BitVec 32) (v44 : BitVec 32) (v63 : BitVec 32) {β : Type} {kk : (PUnit) → Prog (TpuEff nD τ sig (Elt F) Λ₀ .tc) β} {Q : β → sProp 𝕄} :
    iprop(Ctx G κ c ∗ Proto 8 6 c ∗ Blk oV c (xk c + b0 c + 64) 64 fullShare 0 (H1x G c) ∗ Any x2V (pb c) (64) 64 ∗ Blk oV c (yk c + a0 c + 64) 64 fullShare 0 (G c))
      ⊢ iprop((∀ r, Proto 9 8 c ∗ Blk oV c (yk c + a0 c + 64) 64 fullShare 0 (H1y G c) ∗ Blk y1V c (a0 c + 64) 64 fullShare (yk c) (G (pb c)) ∗ Any oV (pb c) (yk c + a0 c + 64) 64 -∗ wp frame (wpE (defs₀ (F := F)) 𝒱₀ c none) Set.univ (kk r) Q)
        -∗ wp frame (wpE (defs₀ (F := F)) 𝒱₀ c none) Set.univ (k0_part14_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v43 v44 v63 >>= kk) Q) := by
  unfold k0_part14_skel
  simp -proj only [smemLoad_bind, Prog.lift, Prog.bind_op, Prog.bind_ret, Prog.pure_eq_ret, Prog.bind_assoc]
  iintro ⟨#HC, HP, HRxkf1, HX2b, HRykf1⟩ Hk
  iapply (send8 G κ c (j := 6) rfl rfl (by decide)) $$ [HP HRxkf1 HX2b]
  · isplitr; · iexact HC
    isplitl [HP]; · iexact HP
    isplitl [HRxkf1]; · iexact HRxkf1
    iexact HX2b
  iintro HP
  iapply (wp_arrive G κ c 6 (n := 9) (t₁ := 7) (q := ((cc0_scratch7.slice (Rect.unit (s := S11) ![1] S1.size inb_S11_S1_1)).squeeze S_ squeezes_S1_S_).sem) (dst := oM.slice (Rect.unit (s := S1024x1024) (k0_off226 c) S64x1024.size (k0_off226_inb c)) (fun _ => rfl)) (X := iprop(emp)) rfl rfl rfl rfl (amt64 3 (by decide)).symm (by decide)) $$ [HP]
  · isplitr; · iexact HC
    iexact HP
  iintro HP -
  iapply (wp_arrive G κ c 7 (n := 9) (t₁ := 8) (q := ((cc0_scratch8.slice (Rect.unit (s := S11) ![1] S1.size inb_S11_S1_1)).squeeze S_ squeezes_S1_S_).sem) (dst := y1M.slice (Rect.unit (s := S256x1024) (k0_off227 c) S64x1024.size (k0_off227_inb c)) (fun _ => rfl)) (X := Land c y1V (pb c) (a0 c + 64) 64 (yk c) (G (pb c)) (yk c + a0 c + 64)) rfl rfl rfl rfl (amt64 3 (by decide)).symm (by decide)) $$ [HP]
  · isplitr; · iexact HC
    iexact HP
  iintro HP HL
  unfold Land
  icases HL with ⟨HB3, HD3⟩
  iapply (wp_sum (M'' := H1y G c) (lo := a0 c + 64) (lo' := yk c + a0 c + 64) (n := 64) (o := yk c) y1M (congrFun (o228 c) 0) (congrFun (o228 c) 1) (congrFun (o229 c) 0) (congrFun (o229 c) 1) (by omega) (addPay _) rfl) $$ [HRykf1 HB3]
  · isplitl [HRykf1]; · iexact HRykf1
    iexact HB3
  iintro HRykf1 HB3
  iapply Hk $$ [HP HRykf1 HB3 HD3]
  · isplitl [HP]; · iexact HP
    isplitl [HRykf1]; · iexact HRykf1
    isplitl [HB3]; · iexact HB3
    iexact HD3

end Parts

end Cert.GatherProof
end
-- ==== Proof.Part15.lean ====
/- Parts 15 and 16 of the kernel's body, run. -/
module

public import proofs.«01_k».proof.Proof.Glue
public import proofs.«01_k».proof.Proof.RunXko
public import proofs.«01_k».proof.Proof.RunYko

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

include hR hn

set_option maxHeartbeats 400000 in
theorem part15_run (v29 : BitVec 32) (v43 : BitVec 32) (v55 : BitVec 32) (v88 : BitVec 32) {β : Type} {kk : (Σ' (v477 : BitVec 32), BitVec 32) → Prog (TpuEff nD τ sig (Elt F) Λ₀ .tc) β} {Q : β → sProp 𝕄} :
    iprop(Ctx G κ c ∗ Proto 9 8 c ∗ Tabs c P I C ∗ Blk oV c (yk c + a0 c + 64) 64 fullShare 0 (H1y G c) ∗ Any y2V (pa c) (64) 64 ∗ Under c (prow P (xko c)) (trow I (xko c)) (xko c) Em (G c) (BitVec.toNat (C (xko c)) - 16) (BitVec.toNat (C (xko c))))
      ⊢ iprop((∀ r, Proto 10 10 c ∗ Tabs c P I C ∗ Blk oV c (xk c + b1 c) 128 fullShare 0 (G c) ∗ bigSep (Finset.range 16) (idle c (xko c) Em) ∗ Blk x1V c (b1 c) 128 fullShare (xk c) (G (pa c)) ∗ Any oV (pa c) (xk c + b1 c) 128 -∗ wp frame (wpE (defs₀ (F := F)) 𝒱₀ c none) Set.univ (kk r) Q)
        -∗ wp frame (wpE (defs₀ (F := F)) 𝒱₀ c none) Set.univ (k0_part15_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v29 v43 v55 v88 >>= kk) Q) := by
  unfold k0_part15_skel
  simp -proj only [smemLoad_bind, Prog.lift, Prog.bind_op, Prog.bind_ret, Prog.pure_eq_ret, Prog.bind_assoc]
  iintro ⟨#HC, HP, HT, HRykf1, HY2b, HUxko⟩ Hk
  iapply (send9 G κ c (j := 8) rfl rfl (by decide)) $$ [HP HRykf1 HY2b]
  · isplitr; · iexact HC
    isplitl [HP]; · iexact HP
    isplitl [HRykf1]; · iexact HRykf1
    iexact HY2b
  iintro HP
  iapply (wp_count (i := xko c) (congrFun (ix231 c) 0)) $$ HT
  iintro HT
  iapply (wp_assume 𝒱₀ (c : Thread nD τ) none Set.univ (t29_chk c _ (hn (xko c) (xko_lt c))))
  iapply (t29_run c G κ _ _ _ _ _ _ (hR (xko c) (xko_lt c)) (hn (xko c) (xko_lt c))) $$ [HP HT HUxko]
  · iapply work_resume
    isplitr; · iexact HC
    isplitl [HP]; · iexact HP
    isplitl [HT]; · iexact HT
    iexact HUxko
  iintro HW
  ihave HW := (work_end (xko_row c) (hR (xko c) (xko_lt c))) $$ HW
  icases HW with ⟨HP, HT, HRxko, HIxko⟩
  iapply (wp_arrive G κ c 8 (n := 10) (t₁ := 9) (q := ((cc0_scratch5.slice (Rect.unit (s := S11) ![2] S1.size inb_S11_S1_2)).squeeze S_ squeezes_S1_S_).sem) (dst := oM.slice (Rect.unit (s := S1024x1024) (k0_off240 c) S128x1024.size (k0_off240_inb c)) (fun _ => rfl)) (X := iprop(emp)) rfl rfl rfl rfl (amt128 4 (by decide)).symm (by decide)) $$ [HP]
  · isplitr; · iexact HC
    iexact HP
  iintro HP -
  iapply (wp_arrive G κ c 9 (n := 10) (t₁ := 10) (q := ((cc0_scratch6.slice (Rect.unit (s := S11) ![2] S1.size inb_S11_S1_2)).squeeze S_ squeezes_S1_S_).sem) (dst := x1M.slice (Rect.unit (s := S256x1024) (k0_off241 c) S128x1024.size (k0_off241_inb c)) (fun _ => rfl)) (X := Land c x1V (pa c) (b1 c) 128 (xk c) (G (pa c)) (xk c + b1 c)) rfl rfl rfl rfl (amt128 4 (by decide)).symm (by decide)) $$ [HP]
  · isplitr; · iexact HC
    iexact HP
  iintro HP HL
  unfold Land
  icases HL with ⟨HB4, HD4⟩
  iapply Hk $$ [HP HT HRxko HIxko HB4 HD4]
  · isplitl [HP]; · iexact HP
    isplitl [HT]; · iexact HT
    isplitl [HRxko]; · iexact HRxko
    isplitl [HIxko]; · iexact HIxko
    isplitl [HB4]; · iexact HB4
    iexact HD4

set_option maxHeartbeats 400000 in
theorem part16_run (v12 : BitVec 32) (v44 : BitVec 32) (v57 : BitVec 32) (v95 : BitVec 32) (v477 : BitVec 32) (v478 : BitVec 32) {β : Type} {kk : (Σ' (v509 : BitVec 32), BitVec 32) → Prog (TpuEff nD τ sig (Elt F) Λ₀ .tc) β} {Q : β → sProp 𝕄} :
    iprop(Ctx G κ c ∗ Proto 10 10 c ∗ Tabs c P I C ∗ Blk oV c (xk c + b1 c) 128 fullShare 0 (G c) ∗ Blk x1V c (b1 c) 128 fullShare (xk c) (G (pa c)) ∗ Under c (prow P (yko c)) (trow I (yko c)) (yko c) Em (G c) (BitVec.toNat (C (yko c)) - 16) (BitVec.toNat (C (yko c))))
      ⊢ iprop((∀ r, Proto 10 12 c ∗ Tabs c P I C ∗ Blk oV c (xk c + b1 c) 128 fullShare 0 (H1x G c) ∗ Blk x1V c (b1 c) 128 fullShare (xk c) (G (pa c)) ∗ Blk oV c (yk c + a1 c) 128 fullShare 0 (G c) ∗ bigSep (Finset.range 16) (idle c (yko c) Em) ∗ Blk y1V c (a1 c) 128 fullShare (yk c) (G (pb c)) ∗ Any oV (pb c) (yk c + a1 c) 128 -∗ wp frame (wpE (defs₀ (F := F)) 𝒱₀ c none) Set.univ (kk r) Q)
        -∗ wp frame (wpE (defs₀ (F := F)) 𝒱₀ c none) Set.univ (k0_part16_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v12 v44 v57 v95 v477 v478 >>= kk) Q) := by
  unfold k0_part16_skel
  simp -proj only [smemLoad_bind, Prog.lift, Prog.bind_op, Prog.bind_ret, Prog.pure_eq_ret, Prog.bind_assoc]
  iintro ⟨#HC, HP, HT, HRxko, HB4, HUyko⟩ Hk
  iapply (wp_sum (M'' := H1x G c) (lo := b1 c) (lo' := xk c + b1 c) (n := 128) (o := xk c) x1M (congrFun (o242 c) 0) (congrFun (o242 c) 1) (congrFun (o243 c) 0) (congrFun (o243 c) 1) (by omega) (addPay _) rfl) $$ [HRxko HB4]
  · isplitl [HRxko]; · iexact HRxko
    iexact HB4
  iintro HRxko HB4
  iapply (wp_count (i := yko c) (congrFun (ix244 c) 0)) $$ HT
  iintro HT
  iapply (wp_assume 𝒱₀ (c : Thread nD τ) none Set.univ (t31_chk c _ (hn (yko c) (yko_lt c))))
  iapply (t31_run c G κ _ _ _ _ _ _ _ _ (hR (yko c) (yko_lt c)) (hn (yko c) (yko_lt c))) $$ [HP HT HUyko]
  · iapply work_resume
    isplitr; · iexact HC
    isplitl [HP]; · iexact HP
    isplitl [HT]; · iexact HT
    iexact HUyko
  iintro HW
  ihave HW := (work_end (yko_row c) (hR (yko c) (yko_lt c))) $$ HW
  icases HW with ⟨HP, HT, HRyko, HIyko⟩
  iapply (wp_arrive G κ c 10 (n := 10) (t₁ := 11) (q := ((cc0_scratch7.slice (Rect.unit (s := S11) ![2] S1.size inb_S11_S1_2)).squeeze S_ squeezes_S1_S_).sem) (dst := oM.slice (Rect.unit (s := S1024x1024) (k0_off253 c) S128x1024.size (k0_off253_inb c)) (fun _ => rfl)) (X := iprop(emp)) rfl rfl rfl rfl (amt128 5 (by decide)).symm (by decide)) $$ [HP]
  · isplitr; · iexact HC
    iexact HP
  iintro HP -
  iapply (wp_arrive G κ c 11 (n := 10) (t₁ := 12) (q := ((cc0_scratch8.slice (Rect.unit (s := S11) ![2] S1.size inb_S11_S1_2)).squeeze S_ squeezes_S1_S_).sem) (dst := y1M.slice (Rect.unit (s := S256x1024) (k0_off254 c) S128x1024.size (k0_off254_inb c)) (fun _ => rfl)) (X := Land c y1V (pb c) (a1 c) 128 (yk c) (G (pb c)) (yk c + a1 c)) rfl rfl rfl rfl (amt128 5 (by decide)).symm (by decide)) $$ [HP]
  · isplitr; · iexact HC
    iexact HP
  iintro HP HL
  unfold Land
  icases HL with ⟨HB5, HD5⟩
  iapply Hk $$ [HP HT HRxko HB4 HRyko HIyko HB5 HD5]
  · isplitl [HP]; · iexact HP
    isplitl [HT]; · iexact HT
    isplitl [HRxko]; · iexact HRxko
    isplitl [HB4]; · iexact HB4
    isplitl [HRyko]; · iexact HRyko
    isplitl [HIyko]; · iexact HIyko
    isplitl [HB5]; · iexact HB5
    iexact HD5

end Parts

end Cert.GatherProof
end
-- ==== Proof.Part17.lean ====
/- Parts 17 and 18 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part17_run (v44 : BitVec 32) (v65 : BitVec 32) (v509 : BitVec 32) (v510 : BitVec 32) {β : Type} {kk : (PUnit) → Prog (TpuEff nD τ sig (Elt F) Λ₀ .tc) β} {Q : β → sProp 𝕄} :
    iprop(Ctx G κ c ∗ Proto 10 12 c ∗ Blk oV c (yk c + a1 c) 128 fullShare 0 (G c) ∗ Blk y1V c (a1 c) 128 fullShare (yk c) (G (pb c)) ∗ Blk oV c (xk c + b1 c) 128 fullShare 0 (H1x G c) ∗ Any oV (pa c) (xk c + b1 c) 128)
      ⊢ iprop((∀ r, Proto 10 14 c ∗ Blk oV c (yk c + a1 c) 128 fullShare 0 (H1y G c) ∗ Blk y1V c (a1 c) 128 fullShare (yk c) (G (pb c)) ∗ Blk x2V c (0) 64 fullShare (xk c + b1 c) (H1x G (pb c)) ∗ Any oV (pb c) (xk c + b1 c) 64 ∗ Blk oV c (xk c + b1 c) 64 fullShare 0 (H2x G c) ∗ Blk oV c (xk c + b1 c + 64) 64 fullShare 0 (H1x G c) ∗ Any oV (pa c) (xk c + b1 c) 64 ∗ Any oV (pa c) (xk c + b1 c + 64) 64 -∗ wp frame (wpE (defs₀ (F := F)) 𝒱₀ c none) Set.univ (kk r) Q)
        -∗ wp frame (wpE (defs₀ (F := F)) 𝒱₀ c none) Set.univ (k0_part17_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v44 v65 v509 v510 >>= kk) Q) := by
  unfold k0_part17_skel
  simp -proj only [smemLoad_bind, Prog.lift, Prog.bind_op, Prog.bind_ret, Prog.pure_eq_ret, Prog.bind_assoc]
  iintro ⟨#HC, HP, HRyko, HB5, HRxko, HD4⟩ Hk
  iapply (wp_sum (M'' := H1y G c) (lo := a1 c) (lo' := yk c + a1 c) (n := 128) (o := yk c) y1M (congrFun (o255 c) 0) (congrFun (o255 c) 1) (congrFun (o256 c) 0) (congrFun (o256 c) 1) (by omega) (addPay _) rfl) $$ [HRyko HB5]
  · isplitl [HRyko]; · iexact HRyko
    iexact HB5
  iintro HRyko HB5
  iapply (wp_arrive G κ c 12 (n := 10) (t₁ := 13) (q := ((cc0_scratch5.slice (Rect.unit (s := S11) ![3] S1.size inb_S11_S1_3)).squeeze S_ squeezes_S1_S_).sem) (dst := oM.slice (Rect.unit (s := S1024x1024) (k0_off257 c) S64x1024.size (k0_off257_inb c)) (fun _ => rfl)) (X := iprop(emp)) rfl rfl rfl rfl (amt64 6 (by decide)).symm (by decide)) $$ [HP]
  · isplitr; · iexact HC
    iexact HP
  iintro HP -
  iapply (wp_arrive G κ c 13 (n := 10) (t₁ := 14) (q := ((cc0_scratch6.slice (Rect.unit (s := S11) ![3] S1.size inb_S11_S1_3)).squeeze S_ squeezes_S1_S_).sem) (dst := x2M.slice (Rect.unit (s := S128x1024) ![0, 0] S64x1024.size inb_S128x1024_S64x1024_0_0) (fun _ => rfl)) (X := Land c x2V (pb c) (0) 64 (xk c + b1 c) (H1x G (pb c)) (xk c + b1 c)) rfl rfl rfl rfl (amt64 6 (by decide)).symm (by decide)) $$ [HP]
  · isplitr; · iexact HC
    iexact HP
  iintro HP HL
  unfold Land
  icases HL with ⟨HB6, HD6⟩
  ihave HRxko := blk_cut $$ HRxko
  icases HRxko with ⟨HRxko0, HRxko1⟩
  ihave HD4 := any_cut $$ HD4
  icases HD4 with ⟨HD4a, HD4b⟩
  iapply (wp_sum (M'' := H2x G c) (lo := 0) (lo' := xk c + b1 c) (n := 64) (o := xk c + b1 c) x2M (congrFun (o258 c) 0) (congrFun (o258 c) 1) rfl rfl (by omega) (addPay _) rfl) $$ [HRxko0 HB6]
  · isplitl [HRxko0]; · iexact HRxko0
    iexact HB6
  iintro HRxko0 HB6
  iapply Hk $$ [HP HRyko HB5 HB6 HD6 HRxko0 HRxko1 HD4a HD4b]
  · isplitl [HP]; · iexact HP
    isplitl [HRyko]; · iexact HRyko
    isplitl [HB5]; · iexact HB5
    isplitl [HB6]; · iexact HB6
    isplitl [HD6]; · iexact HD6
    isplitl [HRxko0]; · iexact HRxko0
    isplitl [HRxko1]; · iexact HRxko1
    isplitl [HD4a]; · iexact HD4a
    iexact HD4b

set_option maxHeartbeats 400000 in
theorem part18_run (v43 : BitVec 32) (v67 : BitVec 32) {β : Type} {kk : (PUnit) → Prog (TpuEff nD τ sig (Elt F) Λ₀ .tc) β} {Q : β → sProp 𝕄} :
    iprop(Ctx G κ c ∗ Proto 10 14 c ∗ Blk oV c (xk c + b1 c) 64 fullShare 0 (H2x G c) ∗ Any oV (pb c) (xk c + b1 c) 64 ∗ Any oV (pa c) (xk c + b1 c) 64 ∗ Blk oV c (yk c + a1 c) 128 fullShare 0 (H1y G c) ∗ Any oV (pb c) (yk c + a1 c) 128)
      ⊢ iprop((∀ r, Proto 12 16 c ∗ Blk y2V c (0) 64 fullShare (yk c + a1 c) (H1y G (pa c)) ∗ Any oV (pa c) (yk c + a1 c) 64 ∗ Blk oV c (yk c + a1 c) 64 fullShare 0 (H2y G c) ∗ Blk oV c (yk c + a1 c + 64) 64 fullShare 0 (H1y G c) ∗ Any oV (pb c) (yk c + a1 c) 64 ∗ Any oV (pb c) (yk c + a1 c + 64) 64 -∗ wp frame (wpE (defs₀ (F := F)) 𝒱₀ c none) Set.univ (kk r) Q)
        -∗ wp frame (wpE (defs₀ (F := F)) 𝒱₀ c none) Set.univ (k0_part18_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v67 >>= kk) Q) := by
  unfold k0_part18_skel
  simp -proj only [smemLoad_bind, Prog.lift, Prog.bind_op, Prog.bind_ret, Prog.pure_eq_ret, Prog.bind_assoc]
  iintro ⟨#HC, HP, HRxko0, HD6, HD4a, HRyko, HD5⟩ Hk
  ihave HRxko0 := (done_x (c := c) (by omega) (by omega)) $$ HRxko0
  icases HRxko0 with ⟨HLxko0, HMxko0⟩
  iapply (send10 G κ c (j := 14) rfl rfl (by decide)) $$ [HP HLxko0 HD6]
  · isplitr; · iexact HC
    isplitl [HP]; · iexact HP
    isplitl [HLxko0]; · iexact HLxko0
    iexact HD6
  iintro HP
  iapply (send11 G κ c (j := 14) rfl rfl (by decide)) $$ [HP HMxko0 HD4a]
  · isplitr; · iexact HC
    isplitl [HP]; · iexact HP
    isplitl [HMxko0]; · iexact HMxko0
    iexact HD4a
  iintro HP
  iapply (wp_arrive G κ c 14 (n := 12) (t₁ := 15) (q := ((cc0_scratch7.slice (Rect.unit (s := S11) ![3] S1.size inb_S11_S1_3)).squeeze S_ squeezes_S1_S_).sem) (dst := oM.slice (Rect.unit (s := S1024x1024) (k0_off260 c) S64x1024.size (k0_off260_inb c)) (fun _ => rfl)) (X := iprop(emp)) rfl rfl rfl rfl (amt64 7 (by decide)).symm (by decide)) $$ [HP]
  · isplitr; · iexact HC
    iexact HP
  iintro HP -
  iapply (wp_arrive G κ c 15 (n := 12) (t₁ := 16) (q := ((cc0_scratch8.slice (Rect.unit (s := S11) ![3] S1.size inb_S11_S1_3)).squeeze S_ squeezes_S1_S_).sem) (dst := y2M.slice (Rect.unit (s := S128x1024) ![0, 0] S64x1024.size inb_S128x1024_S64x1024_0_0) (fun _ => rfl)) (X := Land c y2V (pa c) (0) 64 (yk c + a1 c) (H1y G (pa c)) (yk c + a1 c)) rfl rfl rfl rfl (amt64 7 (by decide)).symm (by decide)) $$ [HP]
  · isplitr; · iexact HC
    iexact HP
  iintro HP HL
  unfold Land
  icases HL with ⟨HB7, HD7⟩
  ihave HRyko := blk_cut $$ HRyko
  icases HRyko with ⟨HRyko0, HRyko1⟩
  ihave HD5 := any_cut $$ HD5
  icases HD5 with ⟨HD5a, HD5b⟩
  iapply (wp_sum (M'' := H2y G c) (lo := 0) (lo' := yk c + a1 c) (n := 64) (o := yk c + a1 c) y2M (congrFun (o261 c) 0) (congrFun (o261 c) 1) rfl rfl (by omega) (addPay _) rfl) $$ [HRyko0 HB7]
  · isplitl [HRyko0]; · iexact HRyko0
    iexact HB7
  iintro HRyko0 HB7
  iapply Hk $$ [HP HB7 HD7 HRyko0 HRyko1 HD5a HD5b]
  · isplitl [HP]; · iexact HP
    isplitl [HB7]; · iexact HB7
    isplitl [HD7]; · iexact HD7
    isplitl [HRyko0]; · iexact HRyko0
    isplitl [HRyko1]; · iexact HRyko1
    isplitl [HD5a]; · iexact HD5a
    iexact HD5b

end Parts

end Cert.GatherProof
end
-- ==== Proof.Part19.lean ====
/- Parts 19 and 20 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part19_run (v44 : BitVec 32) (v65 : BitVec 32) {β : Type} {kk : (FVec F S64x1024 .f32) → Prog (TpuEff nD τ sig (Elt F) Λ₀ .tc) β} {Q : β → sProp 𝕄} :
    iprop(Ctx G κ c ∗ Proto 12 16 c ∗ Blk oV c (yk c + a1 c) 64 fullShare 0 (H2y G c) ∗ Any oV (pa c) (yk c + a1 c) 64 ∗ Any oV (pb c) (yk c + a1 c) 64 ∗ Blk oV c (xk c + b1 c + 64) 64 fullShare 0 (H1x G c))
      ⊢ iprop((∀ r, ⌜∀ x, r x = H2x G c (0 + (xk c + b1 c + 64) + (x 0).val) (x 1)⌝ -∗ Proto 14 18 c ∗ Blk oV c (xk c + b1 c + 64) 64 fullShare 0 (H1x G c) ∗ Blk x2V c (64) 64 fullShare (xk c + b1 c) (H1x G (pb c)) ∗ Any oV (pb c) (xk c + b1 c + 64) 64 -∗ wp frame (wpE (defs₀ (F := F)) 𝒱₀ c none) Set.univ (kk r) Q)
        -∗ wp frame (wpE (defs₀ (F := F)) 𝒱₀ c none) Set.univ (k0_part19_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v44 v65 >>= kk) Q) := by
  unfold k0_part19_skel
  simp -proj only [smemLoad_bind, Prog.lift, Prog.bind_op, Prog.bind_ret, Prog.pure_eq_ret, Prog.bind_assoc]
  iintro ⟨#HC, HP, HRyko0, HD7, HD5a, HRxko1⟩ Hk
  ihave HRyko0 := (done_y (c := c) (by omega) (by omega)) $$ HRyko0
  icases HRyko0 with ⟨HLyko0, HMyko0⟩
  iapply (send12 G κ c (j := 16) rfl rfl (by decide)) $$ [HP HLyko0 HD7]
  · isplitr; · iexact HC
    isplitl [HP]; · iexact HP
    isplitl [HLyko0]; · iexact HLyko0
    iexact HD7
  iintro HP
  iapply (send13 G κ c (j := 16) rfl rfl (by decide)) $$ [HP HMyko0 HD5a]
  · isplitr; · iexact HC
    isplitl [HP]; · iexact HP
    isplitl [HMyko0]; · iexact HMyko0
    iexact HD5a
  iintro HP
  iapply (wp_arrive G κ c 16 (n := 14) (t₁ := 17) (q := ((cc0_scratch5.slice (Rect.unit (s := S11) ![4] S1.size inb_S11_S1_4)).squeeze S_ squeezes_S1_S_).sem) (dst := oM.slice (Rect.unit (s := S1024x1024) (k0_off263 c) S64x1024.size (k0_off263_inb c)) (fun _ => rfl)) (X := iprop(emp)) rfl rfl rfl rfl (amt64 8 (by decide)).symm (by decide)) $$ [HP]
  · isplitr; · iexact HC
    iexact HP
  iintro HP -
  iapply (wp_arrive G κ c 17 (n := 14) (t₁ := 18) (q := ((cc0_scratch6.slice (Rect.unit (s := S11) ![4] S1.size inb_S11_S1_4)).squeeze S_ squeezes_S1_S_).sem) (dst := x2M.slice (Rect.unit (s := S128x1024) ![64, 0] S64x1024.size inb_S128x1024_S64x1024_64_0) (fun _ => rfl)) (X := Land c x2V (pb c) (64) 64 (xk c + b1 c) (H1x G (pb c)) (xk c + b1 c + 64)) rfl rfl rfl rfl (amt64 8 (by decide)).symm (by decide)) $$ [HP]
  · isplitr; · iexact HC
    iexact HP
  iintro HP HL
  unfold Land
  icases HL with ⟨HB8, HD8⟩
  iapply (wp_readRows c oM (lo := xk c + b1 c + 64) (n := 64) (congrFun (o264 c) 0) (congrFun (o264 c) 1)) $$ HRxko1
  iintro HRxko1
  iapply (wp_readRows c x2M (lo := 64) (n := 64) rfl rfl) $$ HB8
  iintro HB8
  iapply Hk $$ [] [HP HRxko1 HB8 HD8]
  · ipureintro; intro x; rw [Nat.zero_add]; exact addPay _ _ _ x
  · isplitl [HP]; · iexact HP
    isplitl [HRxko1]; · iexact HRxko1
    isplitl [HB8]; · iexact HB8
    iexact HD8

set_option maxHeartbeats 400000 in
theorem part20_run (v43 : BitVec 32) (v44 : BitVec 32) (v65 : BitVec 32) (v600 : FVec F S64x1024 .f32) (hv : ∀ x, v600 x = H2x G c (0 + (xk c + b1 c + 64) + (x 0).val) (x 1)) {β : Type} {kk : (PUnit) → Prog (TpuEff nD τ sig (Elt F) Λ₀ .tc) β} {Q : β → sProp 𝕄} :
    iprop(Ctx G κ c ∗ Proto 14 18 c ∗ Blk oV c (xk c + b1 c + 64) 64 fullShare 0 (H1x G c) ∗ Any oV (pb c) (xk c + b1 c + 64) 64 ∗ Any oV (pa c) (xk c + b1 c + 64) 64)
      ⊢ iprop((∀ r, Proto 16 19 c -∗ wp frame (wpE (defs₀ (F := F)) 𝒱₀ c none) Set.univ (kk r) Q)
        -∗ wp frame (wpE (defs₀ (F := F)) 𝒱₀ c none) Set.univ (k0_part20_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 v65 v600 >>= kk) Q) := by
  unfold k0_part20_skel
  simp -proj only [smemLoad_bind, Prog.lift, Prog.bind_op, Prog.bind_ret, Prog.pure_eq_ret, Prog.bind_assoc]
  iintro ⟨#HC, HP, HRxko1, HD8, HD4b⟩ Hk
  iapply (wp_readRows c oM (lo := xk c + b1 c + 64) (n := 64) (congrFun (o264 c) 0) (congrFun (o264 c) 1)) $$ HRxko1
  iintro HRxko1
  ihave HRxko1 := (Entails.of_eq (show (Blk oV c (xk c + b1 c + 64) 64 fullShare 0 (H1x G c) : sProp 𝕄) = part oV c (xk c + b1 c + 64) 64 fullShare _ from rfl)) $$ HRxko1
  iapply (wp_writeRows c oM (lo := xk c + b1 c + 64) (n := 64) (o := 0) (M := H2x G c) (congrFun (o264 c) 0) (congrFun (o264 c) 1) hv) $$ HRxko1
  iintro HRxko1
  ihave HRxko1 := (done_x (c := c) (by omega) (by omega)) $$ HRxko1
  icases HRxko1 with ⟨HLxko1, HMxko1⟩
  iapply (send14 G κ c (j := 18) rfl rfl (by decide)) $$ [HP HLxko1 HD8]
  · isplitr; · iexact HC
    isplitl [HP]; · iexact HP
    isplitl [HLxko1]; · iexact HLxko1
    iexact HD8
  iintro HP
  iapply (send15 G κ c (j := 18) rfl rfl (by decide)) $$ [HP HMxko1 HD4b]
  · isplitr; · iexact HC
    isplitl [HP]; · iexact HP
    isplitl [HMxko1]; · iexact HMxko1
    iexact HD4b
  iintro HP
  iapply (wp_arrive G κ c 18 (n := 16) (t₁ := 19) (q := ((cc0_scratch7.slice (Rect.unit (s := S11) ![4] S1.size inb_S11_S1_4)).squeeze S_ squeezes_S1_S_).sem) (dst := oM.slice (Rect.unit (s := S1024x1024) (k0_off266 c) S64x1024.size (k0_off266_inb c)) (fun _ => rfl)) (X := iprop(emp)) rfl rfl rfl rfl (amt64 9 (by decide)).symm (by decide)) $$ [HP]
  · isplitr; · iexact HC
    iexact HP
  iintro HP -
  iapply Hk $$ [HP]
  · iexact HP

end Parts

end Cert.GatherProof
end
-- ==== Proof.Part21.lean ====
/- Parts 21 and 22 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part21_run (v43 : BitVec 32) (v44 : BitVec 32) (v67 : BitVec 32) {β : Type} {kk : (PUnit) → Prog (TpuEff nD τ sig (Elt F) Λ₀ .tc) β} {Q : β → sProp 𝕄} :
    iprop(Ctx G κ c ∗ Proto 16 19 c ∗ Blk oV c (yk c + a1 c + 64) 64 fullShare 0 (H1y G c) ∗ Any oV (pb c) (yk c + a1 c + 64) 64)
      ⊢ iprop((∀ r, Proto 18 20 c ∗ Blk y2V c (64) 64 fullShare (yk c + a1 c) (H1y G (pa c)) -∗ wp frame (wpE (defs₀ (F := F)) 𝒱₀ c none) Set.univ (kk r) Q)
        -∗ wp frame (wpE (defs₀ (F := F)) 𝒱₀ c none) Set.univ (k0_part21_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 v67 >>= kk) Q) := by
  unfold k0_part21_skel
  simp -proj only [smemLoad_bind, Prog.lift, Prog.bind_op, Prog.bind_ret, Prog.pure_eq_ret, Prog.bind_assoc]
  iintro ⟨#HC, HP, HRyko1, HD5b⟩ Hk
  iapply (wp_arrive G κ c 19 (n := 16) (t₁ := 20) (q := ((cc0_scratch8.slice (Rect.unit (s := S11) ![4] S1.size inb_S11_S1_4)).squeeze S_ squeezes_S1_S_).sem) (dst := y2M.slice (Rect.unit (s := S128x1024) ![64, 0] S64x1024.size inb_S128x1024_S64x1024_64_0) (fun _ => rfl)) (X := Land c y2V (pa c) (64) 64 (yk c + a1 c) (H1y G (pa c)) (yk c + a1 c + 64)) rfl rfl rfl rfl (amt64 9 (by decide)).symm (by decide)) $$ [HP]
  · isplitr; · iexact HC
    iexact HP
  iintro HP HL
  unfold Land
  icases HL with ⟨HB9, HD9⟩
  iapply (wp_sum (M'' := H2y G c) (lo := 64) (lo' := yk c + a1 c + 64) (n := 64) (o := yk c + a1 c) y2M (congrFun (o267 c) 0) (congrFun (o267 c) 1) rfl rfl (by omega) (addPay _) rfl) $$ [HRyko1 HB9]
  · isplitl [HRyko1]; · iexact HRyko1
    iexact HB9
  iintro HRyko1 HB9
  ihave HRyko1 := (done_y (c := c) (by omega) (by omega)) $$ HRyko1
  icases HRyko1 with ⟨HLyko1, HMyko1⟩
  iapply (send16 G κ c (j := 20) rfl rfl (by decide)) $$ [HP HLyko1 HD9]
  · isplitr; · iexact HC
    isplitl [HP]; · iexact HP
    isplitl [HLyko1]; · iexact HLyko1
    iexact HD9
  iintro HP
  iapply (send17 G κ c (j := 20) rfl rfl (by decide)) $$ [HP HMyko1 HD5b]
  · isplitr; · iexact HC
    isplitl [HP]; · iexact HP
    isplitl [HMyko1]; · iexact HMyko1
    iexact HD5b
  iintro HP
  iapply Hk $$ [HP HB9]
  · isplitl [HP]; · iexact HP
    iexact HB9

set_option maxHeartbeats 400000 in
theorem part22_run (v43 : BitVec 32) (v44 : BitVec 32) {β : Type} {kk : (PUnit) → Prog (TpuEff nD τ sig (Elt F) Λ₀ .tc) β} {Q : β → sProp 𝕄} :
    iprop(Ctx G κ c ∗ Proto 18 20 c ∗ Any oV (pa c) (xk c + b0 c) 64)
      ⊢ iprop((∀ r, Proto 19 24 c ∗ Blk oV c (xk c + b1 c) 64 fullShare.left 0 (Fin1 G) ∗ Blk oV c (yk c + a1 c) 64 fullShare.left 0 (Fin1 G) ∗ Blk oV c (yk c + a0 c) 64 fullShare 0 (Fin1 G) -∗ wp frame (wpE (defs₀ (F := F)) 𝒱₀ c none) Set.univ (kk r) Q)
        -∗ wp frame (wpE (defs₀ (F := F)) 𝒱₀ c none) Set.univ (k0_part22_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 >>= kk) Q) := by
  unfold k0_part22_skel
  simp -proj only [smemLoad_bind, Prog.lift, Prog.bind_op, Prog.bind_ret, Prog.pure_eq_ret, Prog.bind_assoc]
  iintro ⟨#HC, HP, HD0⟩ Hk
  iapply (wp_arrive G κ c 20 (n := 18) (t₁ := 21) (q := ((cc0_scratch5.slice (Rect.unit (s := S11) ![5] S1.size inb_S11_S1_5)).squeeze S_ squeezes_S1_S_).sem) (dst := oM.slice (Rect.unit (s := S1024x1024) (k0_off259 c) S64x1024.size (k0_off259_inb c)) (fun _ => rfl)) (X := Blk oV c (xk c + b1 c) 64 fullShare.left 0 (Fin1 G)) rfl rfl rfl rfl (amt64 10 (by decide)).symm (by decide)) $$ [HP]
  · isplitr; · iexact HC
    iexact HP
  iintro HP HF10
  iapply (wp_arrive G κ c 21 (n := 18) (t₁ := 22) (q := ((cc0_scratch6.slice (Rect.unit (s := S11) ![5] S1.size inb_S11_S1_5)).squeeze S_ squeezes_S1_S_).sem) (dst := oM.slice (Rect.unit (s := S1024x1024) (k0_off259 c) S64x1024.size (k0_off259_inb c)) (fun _ => rfl)) (X := Blk oV c (xk c + b0 c) 64 fullShare 0 (Fin1 G)) rfl rfl rfl rfl (amt64 10 (by decide)).symm (by decide)) $$ [HP]
  · isplitr; · iexact HC
    iexact HP
  iintro HP HE10
  iapply (send18 G κ c (j := 22) rfl rfl (by decide)) $$ [HP HE10 HD0]
  · isplitr; · iexact HC
    isplitl [HP]; · iexact HP
    isplitl [HE10]; · iexact HE10
    iexact HD0
  iintro HP
  iapply (wp_arrive G κ c 22 (n := 19) (t₁ := 23) (q := ((cc0_scratch7.slice (Rect.unit (s := S11) ![5] S1.size inb_S11_S1_5)).squeeze S_ squeezes_S1_S_).sem) (dst := oM.slice (Rect.unit (s := S1024x1024) (k0_off262 c) S64x1024.size (k0_off262_inb c)) (fun _ => rfl)) (X := Blk oV c (yk c + a1 c) 64 fullShare.left 0 (Fin1 G)) rfl rfl rfl rfl (amt64 12 (by decide)).symm (by decide)) $$ [HP]
  · isplitr; · iexact HC
    iexact HP
  iintro HP HF12
  iapply (wp_arrive G κ c 23 (n := 19) (t₁ := 24) (q := ((cc0_scratch8.slice (Rect.unit (s := S11) ![5] S1.size inb_S11_S1_5)).squeeze S_ squeezes_S1_S_).sem) (dst := oM.slice (Rect.unit (s := S1024x1024) (k0_off262 c) S64x1024.size (k0_off262_inb c)) (fun _ => rfl)) (X := Blk oV c (yk c + a0 c) 64 fullShare 0 (Fin1 G)) rfl rfl rfl rfl (amt64 12 (by decide)).symm (by decide)) $$ [HP]
  · isplitr; · iexact HC
    iexact HP
  iintro HP HE12
  iapply Hk $$ [HP HF10 HF12 HE12]
  · isplitl [HP]; · iexact HP
    isplitl [HF10]; · iexact HF10
    isplitl [HF12]; · iexact HF12
    iexact HE12

end Parts

end Cert.GatherProof
end
-- ==== Proof.Part23.lean ====
/- Parts 23 and 24 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part23_run (v43 : BitVec 32) (v44 : BitVec 32) (v60 : BitVec 32) {β : Type} {kk : (PUnit) → Prog (TpuEff nD τ sig (Elt F) Λ₀ .tc) β} {Q : β → sProp 𝕄} :
    iprop(Ctx G κ c ∗ Proto 19 24 c ∗ Blk oV c (yk c + a0 c) 64 fullShare 0 (Fin1 G) ∗ Any oV (pb c) (yk c + a0 c) 64 ∗ Any oV (pa c) (xk c + b0 c + 64) 64)
      ⊢ iprop((∀ r, Proto 21 26 c ∗ Blk oV c (xk c + b1 c + 64) 64 fullShare.left 0 (Fin1 G) -∗ wp frame (wpE (defs₀ (F := F)) 𝒱₀ c none) Set.univ (kk r) Q)
        -∗ wp frame (wpE (defs₀ (F := F)) 𝒱₀ c none) Set.univ (k0_part23_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 v60 >>= kk) Q) := by
  unfold k0_part23_skel
  simp -proj only [smemLoad_bind, Prog.lift, Prog.bind_op, Prog.bind_ret, Prog.pure_eq_ret, Prog.bind_assoc]
  iintro ⟨#HC, HP, HE12, HD2, HD1⟩ Hk
  iapply (send19 G κ c (j := 24) rfl rfl (by decide)) $$ [HP HE12 HD2]
  · isplitr; · iexact HC
    isplitl [HP]; · iexact HP
    isplitl [HE12]; · iexact HE12
    iexact HD2
  iintro HP
  iapply (wp_arrive G κ c 24 (n := 20) (t₁ := 25) (q := ((cc0_scratch5.slice (Rect.unit (s := S11) ![6] S1.size inb_S11_S1_6)).squeeze S_ squeezes_S1_S_).sem) (dst := oM.slice (Rect.unit (s := S1024x1024) (k0_off265 c) S64x1024.size (k0_off265_inb c)) (fun _ => rfl)) (X := Blk oV c (xk c + b1 c + 64) 64 fullShare.left 0 (Fin1 G)) rfl rfl rfl rfl (amt64 14 (by decide)).symm (by decide)) $$ [HP]
  · isplitr; · iexact HC
    iexact HP
  iintro HP HF14
  iapply (wp_arrive G κ c 25 (n := 20) (t₁ := 26) (q := ((cc0_scratch6.slice (Rect.unit (s := S11) ![6] S1.size inb_S11_S1_6)).squeeze S_ squeezes_S1_S_).sem) (dst := oM.slice (Rect.unit (s := S1024x1024) (k0_off265 c) S64x1024.size (k0_off265_inb c)) (fun _ => rfl)) (X := Blk oV c (xk c + b0 c + 64) 64 fullShare 0 (Fin1 G)) rfl rfl rfl rfl (amt64 14 (by decide)).symm (by decide)) $$ [HP]
  · isplitr; · iexact HC
    iexact HP
  iintro HP HE14
  iapply (send20 G κ c (j := 26) rfl rfl (by decide)) $$ [HP HE14 HD1]
  · isplitr; · iexact HC
    isplitl [HP]; · iexact HP
    isplitl [HE14]; · iexact HE14
    iexact HD1
  iintro HP
  iapply Hk $$ [HP HF14]
  · isplitl [HP]; · iexact HP
    iexact HF14

set_option maxHeartbeats 400000 in
theorem part24_run (v43 : BitVec 32) (v44 : BitVec 32) (v63 : BitVec 32) {β : Type} {kk : (PUnit) → Prog (TpuEff nD τ sig (Elt F) Λ₀ .tc) β} {Q : β → sProp 𝕄} :
    iprop(Ctx G κ c ∗ Proto 21 26 c ∗ Any oV (pb c) (yk c + a0 c + 64) 64)
      ⊢ iprop((∀ r, Proto 22 29 c ∗ Blk oV c (yk c + a1 c + 64) 64 fullShare.left 0 (Fin1 G) ∗ Blk oV c (xk c + b1 c) 64 fullShare.right 0 (Fin1 G) -∗ wp frame (wpE (defs₀ (F := F)) 𝒱₀ c none) Set.univ (kk r) Q)
        -∗ wp frame (wpE (defs₀ (F := F)) 𝒱₀ c none) Set.univ (k0_part24_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 v63 >>= kk) Q) := by
  unfold k0_part24_skel
  simp -proj only [smemLoad_bind, Prog.lift, Prog.bind_op, Prog.bind_ret, Prog.pure_eq_ret, Prog.bind_assoc]
  iintro ⟨#HC, HP, HD3⟩ Hk
  iapply (wp_arrive G κ c 26 (n := 21) (t₁ := 27) (q := ((cc0_scratch7.slice (Rect.unit (s := S11) ![6] S1.size inb_S11_S1_6)).squeeze S_ squeezes_S1_S_).sem) (dst := oM.slice (Rect.unit (s := S1024x1024) (k0_off268 c) S64x1024.size (k0_off268_inb c)) (fun _ => rfl)) (X := Blk oV c (yk c + a1 c + 64) 64 fullShare.left 0 (Fin1 G)) rfl rfl rfl rfl (amt64 16 (by decide)).symm (by decide)) $$ [HP]
  · isplitr; · iexact HC
    iexact HP
  iintro HP HF16
  iapply (wp_arrive G κ c 27 (n := 21) (t₁ := 28) (q := ((cc0_scratch8.slice (Rect.unit (s := S11) ![6] S1.size inb_S11_S1_6)).squeeze S_ squeezes_S1_S_).sem) (dst := oM.slice (Rect.unit (s := S1024x1024) (k0_off268 c) S64x1024.size (k0_off268_inb c)) (fun _ => rfl)) (X := Blk oV c (yk c + a0 c + 64) 64 fullShare 0 (Fin1 G)) rfl rfl rfl rfl (amt64 16 (by decide)).symm (by decide)) $$ [HP]
  · isplitr; · iexact HC
    iexact HP
  iintro HP HE16
  iapply (send21 G κ c (j := 28) rfl rfl (by decide)) $$ [HP HE16 HD3]
  · isplitr; · iexact HC
    isplitl [HP]; · iexact HP
    isplitl [HE16]; · iexact HE16
    iexact HD3
  iintro HP
  iapply (wp_arrive G κ c 28 (n := 22) (t₁ := 29) (q := ((cc0_scratch5.slice (Rect.unit (s := S11) ![7] S1.size inb_S11_S1_7)).squeeze S_ squeezes_S1_S_).sem) (dst := oM.slice (Rect.unit (s := S1024x1024) (k0_off259 c) S64x1024.size (k0_off259_inb c)) (fun _ => rfl)) (X := Blk oV c (xk c + b1 c) 64 fullShare.right 0 (Fin1 G)) rfl rfl rfl rfl (amt64 11 (by decide)).symm (by decide)) $$ [HP]
  · isplitr; · iexact HC
    iexact HP
  iintro HP HF11
  iapply Hk $$ [HP HF16 HF11]
  · isplitl [HP]; · iexact HP
    isplitl [HF16]; · iexact HF16
    iexact HF11

end Parts

end Cert.GatherProof
end
-- ==== Proof.Part25.lean ====
/- Parts 25 and 26 of the kernel's body, run. -/
module

public import proofs.«01_k».proof.Proof.Glue

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Parts

variable (G : Dev nD → ℕ → ℕ → Elt F .f32) (κ : GSem nD τ sig → ℕ) (c : Dev nD) {P I C : ℕ → BitVec 32} {Em : ℕ → ℕ → Elt F .f32}
set_option maxHeartbeats 400000 in
theorem part25_run (v43 : BitVec 32) {β : Type} {kk : (BitVec 32) → Prog (TpuEff nD τ sig (Elt F) Λ₀ .tc) β} {Q : β → sProp 𝕄} :
    iprop(Ctx G κ c ∗ Proto 22 29 c)
      ⊢ iprop((∀ r, Proto 22 35 c ∗ Blk oV c (xs c + b1 c) 64 fullShare 0 (Fin1 G) ∗ Blk oV c (xk c + b1 c + 64) 64 fullShare.right 0 (Fin1 G) ∗ Blk oV c (xs c + b1 c + 64) 64 fullShare 0 (Fin1 G) ∗ Blk oV c (xk c + b0 c) 64 fullShare 0 (Fin1 G) ∗ Blk oV c (xs c + b0 c) 64 fullShare 0 (Fin1 G) ∗ Blk oV c (xk c + b0 c + 64) 64 fullShare 0 (Fin1 G) -∗ wp frame (wpE (defs₀ (F := F)) 𝒱₀ c none) Set.univ (kk r) Q)
        -∗ wp frame (wpE (defs₀ (F := F)) 𝒱₀ c none) Set.univ (k0_part25_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 >>= kk) Q) := by
  unfold k0_part25_skel
  simp -proj only [smemLoad_bind, Prog.lift, Prog.bind_op, Prog.bind_ret, Prog.pure_eq_ret, Prog.bind_assoc]
  iintro ⟨#HC, HP⟩ Hk
  iapply (wp_arrive G κ c 29 (n := 22) (t₁ := 30) (q := ((cc0_scratch6.slice (Rect.unit (s := S11) ![7] S1.size inb_S11_S1_7)).squeeze S_ squeezes_S1_S_).sem) (dst := oM.slice (Rect.unit (s := S1024x1024) (k0_off259 c) S64x1024.size (k0_off259_inb c)) (fun _ => rfl)) (X := Blk oV c (xs c + b1 c) 64 fullShare 0 (Fin1 G)) rfl rfl rfl rfl (amt64 11 (by decide)).symm (by decide)) $$ [HP]
  · isplitr; · iexact HC
    iexact HP
  iintro HP HE11
  iapply (wp_arrive G κ c 30 (n := 22) (t₁ := 31) (q := ((cc0_scratch5.slice (Rect.unit (s := S11) ![8] S1.size inb_S11_S1_8)).squeeze S_ squeezes_S1_S_).sem) (dst := oM.slice (Rect.unit (s := S1024x1024) (k0_off265 c) S64x1024.size (k0_off265_inb c)) (fun _ => rfl)) (X := Blk oV c (xk c + b1 c + 64) 64 fullShare.right 0 (Fin1 G)) rfl rfl rfl rfl (amt64 15 (by decide)).symm (by decide)) $$ [HP]
  · isplitr; · iexact HC
    iexact HP
  iintro HP HF15
  iapply (wp_arrive G κ c 31 (n := 22) (t₁ := 32) (q := ((cc0_scratch6.slice (Rect.unit (s := S11) ![8] S1.size inb_S11_S1_8)).squeeze S_ squeezes_S1_S_).sem) (dst := oM.slice (Rect.unit (s := S1024x1024) (k0_off265 c) S64x1024.size (k0_off265_inb c)) (fun _ => rfl)) (X := Blk oV c (xs c + b1 c + 64) 64 fullShare 0 (Fin1 G)) rfl rfl rfl rfl (amt64 15 (by decide)).symm (by decide)) $$ [HP]
  · isplitr; · iexact HC
    iexact HP
  iintro HP HE15
  iapply (wp_arrive G κ c 32 (n := 22) (t₁ := 33) (q := ((cc0_scratch5.slice (Rect.unit (s := S11) ![9] S1.size inb_S11_S1_9)).squeeze S_ squeezes_S1_S_).sem) (dst := oM.slice (Rect.unit (s := S1024x1024) (k0_off257 c) S64x1024.size (k0_off257_inb c)) (fun _ => rfl)) (X := Blk oV c (xk c + b0 c) 64 fullShare 0 (Fin1 G)) rfl rfl rfl rfl (amt64 18 (by decide)).symm (by decide)) $$ [HP]
  · isplitr; · iexact HC
    iexact HP
  iintro HP HF18
  iapply (wp_arrive G κ c 33 (n := 22) (t₁ := 34) (q := ((cc0_scratch6.slice (Rect.unit (s := S11) ![9] S1.size inb_S11_S1_9)).squeeze S_ squeezes_S1_S_).sem) (dst := oM.slice (Rect.unit (s := S1024x1024) (k0_off257 c) S64x1024.size (k0_off257_inb c)) (fun _ => rfl)) (X := Blk oV c (xs c + b0 c) 64 fullShare 0 (Fin1 G)) rfl rfl rfl rfl (amt64 18 (by decide)).symm (by decide)) $$ [HP]
  · isplitr; · iexact HC
    iexact HP
  iintro HP HE18
  iapply (wp_arrive G κ c 34 (n := 22) (t₁ := 35) (q := ((cc0_scratch5.slice (Rect.unit (s := S11) ![10] S1.size inb_S11_S1_10)).squeeze S_ squeezes_S1_S_).sem) (dst := oM.slice (Rect.unit (s := S1024x1024) (k0_off263 c) S64x1024.size (k0_off263_inb c)) (fun _ => rfl)) (X := Blk oV c (xk c + b0 c + 64) 64 fullShare 0 (Fin1 G)) rfl rfl rfl rfl (amt64 20 (by decide)).symm (by decide)) $$ [HP]
  · isplitr; · iexact HC
    iexact HP
  iintro HP HF20
  iapply Hk $$ [HP HE11 HF15 HE15 HF18 HE18 HF20]
  · isplitl [HP]; · iexact HP
    isplitl [HE11]; · iexact HE11
    isplitl [HF15]; · iexact HF15
    isplitl [HE15]; · iexact HE15
    isplitl [HF18]; · iexact HF18
    isplitl [HE18]; · iexact HE18
    iexact HF20

set_option maxHeartbeats 400000 in
theorem part26_run (v43 : BitVec 32) (v44 : BitVec 32) (c1_i32_581 : BitVec 32) {β : Type} {kk : (PUnit) → Prog (TpuEff nD τ sig (Elt F) Λ₀ .tc) β} {Q : β → sProp 𝕄} :
    iprop(Ctx G κ c ∗ Proto 22 35 c)
      ⊢ iprop((∀ r, Proto 22 40 c ∗ Blk oV c (xs c + b0 c + 64) 64 fullShare 0 (Fin1 G) ∗ Blk oV c (yk c + a1 c) 64 fullShare.right 0 (Fin1 G) ∗ Blk oV c (ys c + a0 c) 64 fullShare 0 (Fin1 G) ∗ Blk oV c (yk c + a1 c + 64) 64 fullShare.right 0 (Fin1 G) ∗ Blk oV c (ys c + a0 c + 64) 64 fullShare 0 (Fin1 G) -∗ wp frame (wpE (defs₀ (F := F)) 𝒱₀ c none) Set.univ (kk r) Q)
        -∗ wp frame (wpE (defs₀ (F := F)) 𝒱₀ c none) Set.univ (k0_part26_skel (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8 c v43 v44 c1_i32_581 >>= kk) Q) := by
  unfold k0_part26_skel
  simp -proj only [smemLoad_bind, Prog.lift, Prog.bind_op, Prog.bind_ret, Prog.pure_eq_ret, Prog.bind_assoc]
  iintro ⟨#HC, HP⟩ Hk
  iapply (wp_arrive G κ c 35 (n := 22) (t₁ := 36) (q := ((cc0_scratch6.slice (Rect.unit (s := S11) ![10] S1.size inb_S11_S1_10)).squeeze S_ squeezes_S1_S_).sem) (dst := oM.slice (Rect.unit (s := S1024x1024) (k0_off263 c) S64x1024.size (k0_off263_inb c)) (fun _ => rfl)) (X := Blk oV c (xs c + b0 c + 64) 64 fullShare 0 (Fin1 G)) rfl rfl rfl rfl (amt64 20 (by decide)).symm (by decide)) $$ [HP]
  · isplitr; · iexact HC
    iexact HP
  iintro HP HE20
  iapply (wp_arrive G κ c 36 (n := 22) (t₁ := 37) (q := ((cc0_scratch7.slice (Rect.unit (s := S11) ![7] S1.size inb_S11_S1_7)).squeeze S_ squeezes_S1_S_).sem) (dst := oM.slice (Rect.unit (s := S1024x1024) (k0_off262 c) S64x1024.size (k0_off262_inb c)) (fun _ => rfl)) (X := Blk oV c (yk c + a1 c) 64 fullShare.right 0 (Fin1 G)) rfl rfl rfl rfl (amt64 13 (by decide)).symm (by decide)) $$ [HP]
  · isplitr; · iexact HC
    iexact HP
  iintro HP HF13
  iapply (wp_arrive G κ c 37 (n := 22) (t₁ := 38) (q := ((cc0_scratch8.slice (Rect.unit (s := S11) ![7] S1.size inb_S11_S1_7)).squeeze S_ squeezes_S1_S_).sem) (dst := oM.slice (Rect.unit (s := S1024x1024) (k0_off262 c) S64x1024.size (k0_off262_inb c)) (fun _ => rfl)) (X := Blk oV c (ys c + a0 c) 64 fullShare 0 (Fin1 G)) rfl rfl rfl rfl (amt64 13 (by decide)).symm (by decide)) $$ [HP]
  · isplitr; · iexact HC
    iexact HP
  iintro HP HE13
  iapply (wp_arrive G κ c 38 (n := 22) (t₁ := 39) (q := ((cc0_scratch7.slice (Rect.unit (s := S11) ![8] S1.size inb_S11_S1_8)).squeeze S_ squeezes_S1_S_).sem) (dst := oM.slice (Rect.unit (s := S1024x1024) (k0_off268 c) S64x1024.size (k0_off268_inb c)) (fun _ => rfl)) (X := Blk oV c (yk c + a1 c + 64) 64 fullShare.right 0 (Fin1 G)) rfl rfl rfl rfl (amt64 17 (by decide)).symm (by decide)) $$ [HP]
  · isplitr; · iexact HC
    iexact HP
  iintro HP HF17
  iapply (wp_arrive G κ c 39 (n := 22) (t₁ := 40) (q := ((cc0_scratch8.slice (Rect.unit (s := S11) ![8] S1.size inb_S11_S1_8)).squeeze S_ squeezes_S1_S_).sem) (dst := oM.slice (Rect.unit (s := S1024x1024) (k0_off268 c) S64x1024.size (k0_off268_inb c)) (fun _ => rfl)) (X := Blk oV c (ys c + a0 c + 64) 64 fullShare 0 (Fin1 G)) rfl rfl rfl rfl (amt64 17 (by decide)).symm (by decide)) $$ [HP]
  · isplitr; · iexact HC
    iexact HP
  iintro HP HE17
  iapply Hk $$ [HP HE20 HF13 HE13 HF17 HE17]
  · isplitl [HP]; · iexact HP
    isplitl [HE20]; · iexact HE20
    isplitl [HF13]; · iexact HF13
    isplitl [HE13]; · iexact HE13
    isplitl [HF17]; · iexact HF17
    iexact HE17

end Parts

end Cert.GatherProof
end
-- ==== Proof.Body.lean ====
/- The whole body of the kernel on one device: its parts put one after another. -/
module

public import proofs.«01_k».proof.Proof.Barrier
public import proofs.«01_k».proof.Proof.Ends
public import proofs.«01_k».proof.Proof.Part3
public import proofs.«01_k».proof.Proof.Part5
public import proofs.«01_k».proof.Proof.Part7
public import proofs.«01_k».proof.Proof.Part9
public import proofs.«01_k».proof.Proof.Part11
public import proofs.«01_k».proof.Proof.Part13
public import proofs.«01_k».proof.Proof.Part15
public import proofs.«01_k».proof.Proof.Part17
public import proofs.«01_k».proof.Proof.Part19
public import proofs.«01_k».proof.Proof.Part21
public import proofs.«01_k».proof.Proof.Part23
public import proofs.«01_k».proof.Proof.Part25

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Body

variable (G : Dev nD → ℕ → ℕ → Elt F .f32) (κ : GSem nD τ sig → ℕ) (c : Dev nD) {P I C : ℕ → BitVec 32} {Em : ℕ → ℕ → Elt F .f32}
variable (hR : ∀ r < 8, Region (prow P r) (trow I r) r (BitVec.toNat (C r)) Em (G c)) (hn : ∀ r < 8, BitVec.toNat (C r) ≤ 128)

/-- The free slots of the table, sixteen for each region. -/
def Slots (Em : ℕ → ℕ → Elt F .f32) : sProp 𝕄 := bigSep (Finset.range 8) fun r => bigSep (Finset.range 16) (idle c r Em)

/-- What the body leaves: every cell drained, nothing owed, the result whole. -/
def Done (P I C : ℕ → BitVec 32) (Em : ℕ → ℕ → Elt F .f32) : sProp 𝕄 :=
  iprop(Waits 22 44 c ∗ (∃ W, owes (c : Thread nD τ) 0 W) ∗ semVal (barCell c) 0 ∗ Tabs c P I C ∗ Slots c Em ∗ Blk oV c 0 1024 fullShare 0 (Fin1 G)
    ∗ Any x1V c 0 256 ∗ Any x2V c 0 128 ∗ Any y1V c 0 256 ∗ Any y2V c 0 128)

include hR hn

set_option maxRecDepth 65536 in
set_option maxHeartbeats 4000000 in
theorem wp_body : iprop(Before G κ c ∗ Tabs c P I C ∗ Slots c Em ∗ Any oV c 0 1024)
    ⊢ wp frame (wpE (defs₀ (F := F)) 𝒱₀ c none) Set.univ (cc0__body (F := F) posM (Memref.isWhole_whole _) idxM (Memref.isWhole_whole _) cntM (Memref.isWhole_whole _) eM (Memref.isWhole_whole _) oM (Memref.isWhole_whole _) x1M (Memref.isWhole_whole _) x2M (Memref.isWhole_whole _) y1M (Memref.isWhole_whole _) y2M (Memref.isWhole_whole _) cc0_scratch4 cc0_scratch5 cc0_scratch6 cc0_scratch7 cc0_scratch8) (fun _ => Done G c P I C Em) := by
  rw [cc0__body_eq_skeleton]
  unfold cc0__body_skel
  rw [k0_part27_eq_skeleton]
  unfold k0_part27_skel
  simp -proj only [Prog.lift, Prog.bind_op, Prog.bind_ret, Prog.pure_eq_ret, Prog.bind_assoc, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold Slots
  rw [regions c]
  iintro ⟨HB, HT, ⟨HIxsf, HIysf, HIxso, HIyso, HIxkf, HIykf, HIxko, HIyko⟩, HO⟩
  ihave HO := (cut_result c) $$ HO
  icases HO with ⟨HRxsf, HRysf, HRxso, HRyso, HRxkf, HRykf, HRxko, HRyko⟩
  iapply (part1_run c)
  iintro %r %h
  obtain ⟨d0, v2, v12, v29, v32, v33, v34, v37⟩ := r
  have h : c = d0 := (show d0 = c from h).symm
  subst h
  iapply (part2_run G κ c _ _ _ _ _ _ _ ) $$ HB
  iintro %r #HC HA
  obtain ⟨v40, v43, v44, v51, v54, v55, v57, v60, v63, v65, v67, v68⟩ := r
  unfold After
  icases HA with ⟨HP, Hbar, HX1, HY2, HY1, HX2⟩
  ihave HX1 := (cut_landing x1V (pa c) (b_cases c)) $$ HX1
  icases HX1 with ⟨HX1a, HX1b, HX1c⟩
  ihave HY1 := (cut_landing y1V (pb c) (a_cases' c)) $$ HY1
  icases HY1 with ⟨HY1a, HY1b, HY1c⟩
  ihave HX2 := (cut_small x2V (pb c)) $$ HX2
  icases HX2 with ⟨HX2a, HX2b⟩
  ihave HY2 := (cut_small y2V (pa c)) $$ HY2
  icases HY2 with ⟨HY2a, HY2b⟩
  iapply (part3_run G κ c hR hn _ _ _ _ ) $$ [HP HT HRxsf]
  · isplitr; · iexact HC
    isplitl [HP]; · iexact HP
    isplitl [HT]; · iexact HT
    iexact HRxsf
  iintro %r %h ⟨HP, HT, HRxsf⟩
  obtain ⟨v71, v74, v78, v83, v86, v88, v92, v95, v100, v102, k0_hw1, v103⟩ := r
  have hv : v102 = C (xsf c) := h
  clear h
  iapply (part4_run G κ c hR hn _ _ _ _ _ _ _ _ _  hv) $$ [HP HT HRxsf HIxsf HRysf]
  · isplitr; · iexact HC
    isplitl [HP]; · iexact HP
    isplitl [HT]; · iexact HT
    isplitl [HRxsf]; · iexact HRxsf
    isplitl [HIxsf]; · iexact HIxsf
    iexact HRysf
  iintro %r ⟨HP, HT, HRxsf, HIxsf, HRysf⟩
  clear hv
  iapply (part5_run G κ c hR hn _ _ _ _ ) $$ [HP HT HRxsf HX1a HX1b HRysf HIysf HRxso]
  · isplitr; · iexact HC
    isplitl [HP]; · iexact HP
    isplitl [HT]; · iexact HT
    isplitl [HRxsf]; · iexact HRxsf
    isplitl [HX1a]; · iexact HX1a
    isplitl [HX1b]; · iexact HX1b
    isplitl [HRysf]; · iexact HRysf
    isplitl [HIysf]; · iexact HIysf
    iexact HRxso
  iintro %r %h ⟨HP, HT, HRxso, HUysf⟩
  obtain ⟨v164, k0_hw24, v165, v167⟩ := r
  have hv : v164 = C (ysf c) := h
  clear h
  iapply (part6_run G κ c hR hn _ _ _ _ _ _ _ _ _  hv) $$ [HP HT HUysf HY1a HY1b]
  · isplitr; · iexact HC
    isplitl [HP]; · iexact HP
    isplitl [HT]; · iexact HT
    isplitl [HUysf]; · iexact HUysf
    isplitl [HY1a]; · iexact HY1a
    iexact HY1b
  iintro %r %h ⟨HP, HT, HIysf⟩
  obtain ⟨v195, v197, k0_hw29, v199⟩ := r
  have hv : v197 = C (xso c) := h
  clear h
  iapply (part7_run G κ c hR hn _ _ _ _ _ _ _ _ _  hv) $$ [HP HT HRxso HIxso HRyso HX1c]
  · isplitr; · iexact HC
    isplitl [HP]; · iexact HP
    isplitl [HT]; · iexact HT
    isplitl [HRxso]; · iexact HRxso
    isplitl [HIxso]; · iexact HIxso
    isplitl [HRyso]; · iexact HRyso
    iexact HX1c
  iintro %r ⟨HP, HT, HIxso, HRyso⟩
  clear hv
  iapply (part8_run G κ c hR hn _ _ _ _ _ _ ) $$ [HP HT HRyso HIyso HRxkf]
  · isplitr; · iexact HC
    isplitl [HP]; · iexact HP
    isplitl [HT]; · iexact HT
    isplitl [HRyso]; · iexact HRyso
    isplitl [HIyso]; · iexact HIyso
    iexact HRxkf
  iintro %r ⟨HP, HT, HRyso, HIyso, HRxkf⟩
  iapply (part9_run G κ c hR hn _ _ _ ) $$ [HP HT HRyso HY1c HRxkf HIxkf HRykf HIykf HRxko]
  · isplitr; · iexact HC
    isplitl [HP]; · iexact HP
    isplitl [HT]; · iexact HT
    isplitl [HRyso]; · iexact HRyso
    isplitl [HY1c]; · iexact HY1c
    isplitl [HRxkf]; · iexact HRxkf
    isplitl [HIxkf]; · iexact HIxkf
    isplitl [HRykf]; · iexact HRykf
    isplitl [HIykf]; · iexact HIykf
    iexact HRxko
  iintro %r %h ⟨HP, HT, HRxko, HUxkf, HUykf⟩
  obtain ⟨v293, v295⟩ := r
  have hv : v295 = C (xko c) := h
  clear h
  iapply (part10_run G κ c hR hn _ _ _ _ _  hv) $$ [HP HT HRxko HIxko HRyko HIyko HUxkf]
  · isplitr; · iexact HC
    isplitl [HP]; · iexact HP
    isplitl [HT]; · iexact HT
    isplitl [HRxko]; · iexact HRxko
    isplitl [HIxko]; · iexact HIxko
    isplitl [HRyko]; · iexact HRyko
    isplitl [HIyko]; · iexact HIyko
    iexact HUxkf
  iintro %r ⟨HP, HT, HUxko, HUyko, HRxkf, HIxkf⟩
  clear hv
  iapply (part11_run G κ c hR hn _ _ _ _ _ ) $$ [HP HT HRxkf HX2a]
  · isplitr; · iexact HC
    isplitl [HP]; · iexact HP
    isplitl [HT]; · iexact HT
    isplitl [HRxkf]; · iexact HRxkf
    iexact HX2a
  iintro %r %h ⟨HP, HT, HRxkf1, HB0, HD0⟩
  obtain ⟨v354, v356, k0_hw98, v357, c16_i32_226⟩ := r
  have hv : v356 = C (ykf c) := h
  clear h
  iapply (part12_run G κ c hR hn _ _ _ _ _ _ _ _ _ _  hv) $$ [HP HT HUykf]
  · isplitr; · iexact HC
    isplitl [HP]; · iexact HP
    isplitl [HT]; · iexact HT
    iexact HUykf
  iintro %r ⟨HP, HT, HIykf, HRykf0, HRykf1, HB2, HD2⟩
  clear hv
  iapply (part13_run G κ c _ _ _ _ ) $$ [HP HRykf0 HY2a HRxkf1]
  · isplitr; · iexact HC
    isplitl [HP]; · iexact HP
    isplitl [HRykf0]; · iexact HRykf0
    isplitl [HY2a]; · iexact HY2a
    iexact HRxkf1
  iintro %r ⟨HP, HRxkf1, HB1, HD1⟩
  iapply (part14_run G κ c _ _ _ _ ) $$ [HP HRxkf1 HX2b HRykf1]
  · isplitr; · iexact HC
    isplitl [HP]; · iexact HP
    isplitl [HRxkf1]; · iexact HRxkf1
    isplitl [HX2b]; · iexact HX2b
    iexact HRykf1
  iintro %r ⟨HP, HRykf1, HB3, HD3⟩
  iapply (part15_run G κ c hR hn _ _ _ _ ) $$ [HP HT HRykf1 HY2b HUxko]
  · isplitr; · iexact HC
    isplitl [HP]; · iexact HP
    isplitl [HT]; · iexact HT
    isplitl [HRykf1]; · iexact HRykf1
    isplitl [HY2b]; · iexact HY2b
    iexact HUxko
  iintro %r ⟨HP, HT, HRxko, HIxko, HB4, HD4⟩
  obtain ⟨v477, v478⟩ := r
  iapply (part16_run G κ c hR hn _ _ _ _ _ _ ) $$ [HP HT HRxko HB4 HUyko]
  · isplitr; · iexact HC
    isplitl [HP]; · iexact HP
    isplitl [HT]; · iexact HT
    isplitl [HRxko]; · iexact HRxko
    isplitl [HB4]; · iexact HB4
    iexact HUyko
  iintro %r ⟨HP, HT, HRxko, HB4, HRyko, HIyko, HB5, HD5⟩
  obtain ⟨v509, v510⟩ := r
  iapply (part17_run G κ c _ _ _ _ ) $$ [HP HRyko HB5 HRxko HD4]
  · isplitr; · iexact HC
    isplitl [HP]; · iexact HP
    isplitl [HRyko]; · iexact HRyko
    isplitl [HB5]; · iexact HB5
    isplitl [HRxko]; · iexact HRxko
    iexact HD4
  iintro %r ⟨HP, HRyko, HB5, HB6, HD6, HRxko0, HRxko1, HD4a, HD4b⟩
  iapply (part18_run G κ c _ _ ) $$ [HP HRxko0 HD6 HD4a HRyko HD5]
  · isplitr; · iexact HC
    isplitl [HP]; · iexact HP
    isplitl [HRxko0]; · iexact HRxko0
    isplitl [HD6]; · iexact HD6
    isplitl [HD4a]; · iexact HD4a
    isplitl [HRyko]; · iexact HRyko
    iexact HD5
  iintro %r ⟨HP, HB7, HD7, HRyko0, HRyko1, HD5a, HD5b⟩
  iapply (part19_run G κ c _ _ ) $$ [HP HRyko0 HD7 HD5a HRxko1]
  · isplitr; · iexact HC
    isplitl [HP]; · iexact HP
    isplitl [HRyko0]; · iexact HRyko0
    isplitl [HD7]; · iexact HD7
    isplitl [HD5a]; · iexact HD5a
    iexact HRxko1
  iintro %r %h ⟨HP, HRxko1, HB8, HD8⟩
  have hv := h
  clear h
  iapply (part20_run G κ c _ _ _ _  hv) $$ [HP HRxko1 HD8 HD4b]
  · isplitr; · iexact HC
    isplitl [HP]; · iexact HP
    isplitl [HRxko1]; · iexact HRxko1
    isplitl [HD8]; · iexact HD8
    iexact HD4b
  iintro %r ⟨HP⟩
  clear hv
  iapply (part21_run G κ c _ _ _ ) $$ [HP HRyko1 HD5b]
  · isplitr; · iexact HC
    isplitl [HP]; · iexact HP
    isplitl [HRyko1]; · iexact HRyko1
    iexact HD5b
  iintro %r ⟨HP, HB9⟩
  iapply (part22_run G κ c _ _ ) $$ [HP HD0]
  · isplitr; · iexact HC
    isplitl [HP]; · iexact HP
    iexact HD0
  iintro %r ⟨HP, HF10, HF12, HE12⟩
  iapply (part23_run G κ c _ _ _ ) $$ [HP HE12 HD2 HD1]
  · isplitr; · iexact HC
    isplitl [HP]; · iexact HP
    isplitl [HE12]; · iexact HE12
    isplitl [HD2]; · iexact HD2
    iexact HD1
  iintro %r ⟨HP, HF14⟩
  iapply (part24_run G κ c _ _ _ ) $$ [HP HD3]
  · isplitr; · iexact HC
    isplitl [HP]; · iexact HP
    iexact HD3
  iintro %r ⟨HP, HF16, HF11⟩
  iapply (part25_run G κ c _ ) $$ [HP]
  · isplitr; · iexact HC
    iexact HP
  iintro %r ⟨HP, HE11, HF15, HE15, HF18, HE18, HF20⟩
  iapply (part26_run G κ c _ _ _ ) $$ [HP]
  · isplitr; · iexact HC
    iexact HP
  iintro %r ⟨HP, HE20, HF13, HE13, HF17, HE17⟩
  iapply (wp_arrive G κ c 40 (n := 22) (t₁ := 41) (q := ((cc0_scratch7.slice (Rect.unit (s := S11) ![9] S1.size inb_S11_S1_9)).squeeze S_ squeezes_S1_S_).sem) (dst := oM.slice (Rect.unit (s := S1024x1024) (k0_off260 c) S64x1024.size (k0_off260_inb c)) (fun _ => rfl)) (X := Blk oV c (yk c + a0 c) 64 fullShare 0 (Fin1 G)) rfl rfl rfl rfl (amt64 19 (by decide)).symm (by decide)) $$ [HP]
  · isplitr; · iexact HC
    iexact HP
  iintro HP HF19
  iapply (wp_arrive G κ c 41 (n := 22) (t₁ := 42) (q := ((cc0_scratch8.slice (Rect.unit (s := S11) ![9] S1.size inb_S11_S1_9)).squeeze S_ squeezes_S1_S_).sem) (dst := oM.slice (Rect.unit (s := S1024x1024) (k0_off260 c) S64x1024.size (k0_off260_inb c)) (fun _ => rfl)) (X := Blk oV c (ys c + a1 c) 64 fullShare 0 (Fin1 G)) rfl rfl rfl rfl (amt64 19 (by decide)).symm (by decide)) $$ [HP]
  · isplitr; · iexact HC
    iexact HP
  iintro HP HE19
  iapply (wp_arrive G κ c 42 (n := 22) (t₁ := 43) (q := ((cc0_scratch7.slice (Rect.unit (s := S11) ![10] S1.size inb_S11_S1_10)).squeeze S_ squeezes_S1_S_).sem) (dst := oM.slice (Rect.unit (s := S1024x1024) (k0_off266 c) S64x1024.size (k0_off266_inb c)) (fun _ => rfl)) (X := Blk oV c (yk c + a0 c + 64) 64 fullShare 0 (Fin1 G)) rfl rfl rfl rfl (amt64 21 (by decide)).symm (by decide)) $$ [HP]
  · isplitr; · iexact HC
    iexact HP
  iintro HP HF21
  iapply (wp_arrive G κ c 43 (n := 22) (t₁ := 44) (q := ((cc0_scratch8.slice (Rect.unit (s := S11) ![10] S1.size inb_S11_S1_10)).squeeze S_ squeezes_S1_S_).sem) (dst := oM.slice (Rect.unit (s := S1024x1024) (k0_off266 c) S64x1024.size (k0_off266_inb c)) (fun _ => rfl)) (X := Blk oV c (ys c + a1 c + 64) 64 fullShare 0 (Fin1 G)) rfl rfl rfl rfl (amt64 21 (by decide)).symm (by decide)) $$ [HP]
  · isplitr; · iexact HC
    iexact HP
  iintro HP HE21
  rw [wp_ret]
  imodintro
  unfold Done Proto Slots
  rw [regions c]
  icases HP with ⟨-, HW, ⟨%W, HO⟩⟩
  isplitl [HW]; · iexact HW
  isplitl [HO]; · iexists W; rw [← owed_end c]; iexact HO
  isplitl [Hbar]; · iexact Hbar
  isplitl [HT]; · iexact HT
  isplitl [HIxsf HIysf HIxso HIyso HIxkf HIykf HIxko HIyko]
  · isplitl [HIxsf]; · iexact HIxsf
    isplitl [HIysf]; · iexact HIysf
    isplitl [HIxso]; · iexact HIxso
    isplitl [HIyso]; · iexact HIyso
    isplitl [HIxkf]; · iexact HIxkf
    isplitl [HIykf]; · iexact HIykf
    isplitl [HIxko]; · iexact HIxko
    iexact HIyko
  isplitl [HE18 HE20 HE19 HE21 HE11 HE15 HE13 HE17 HF18 HF20 HF19 HF21 HF10 HF11 HF14 HF15 HF12 HF13 HF16 HF17]
  · iapply (join_result c)
    isplitl [HE18 HE20]
    · iapply (blk_join c oV)
      isplitl [HE18]; · iexact HE18
      iexact HE20
    isplitl [HE19 HE21]
    · iapply (blk_join c oV)
      isplitl [HE19]; · iexact HE19
      iexact HE21
    isplitl [HE11 HE15]
    · iapply (blk_join c oV)
      isplitl [HE11]; · iexact HE11
      iexact HE15
    isplitl [HE13 HE17]
    · iapply (blk_join c oV)
      isplitl [HE13]; · iexact HE13
      iexact HE17
    isplitl [HF18 HF20]
    · iapply (blk_join c oV)
      isplitl [HF18]; · iexact HF18
      iexact HF20
    isplitl [HF19 HF21]
    · iapply (blk_join c oV)
      isplitl [HF19]; · iexact HF19
      iexact HF21
    isplitl [HF10 HF11 HF14 HF15]
    · iapply (blk_join c oV)
      isplitl [HF10 HF11]
      · iapply (blk_whole c oV)
        isplitl [HF10]; · iexact HF10
        iexact HF11
      iapply (blk_whole c oV)
      isplitl [HF14]; · iexact HF14
      iexact HF15
    · iapply (blk_join c oV)
      isplitl [HF12 HF13]
      · iapply (blk_whole c oV)
        isplitl [HF12]; · iexact HF12
        iexact HF13
      iapply (blk_whole c oV)
      isplitl [HF16]; · iexact HF16
      iexact HF17
  isplitl [HB0 HB1 HB4]
  · iapply (join_landing c x1V (b_cases c))
    isplitl [HB0]; · iexact HB0
    isplitl [HB1]; · iexact HB1
    iexact HB4
  isplitl [HB6 HB8]
  · iapply (join_small c x2V)
    isplitl [HB6]; · iexact HB6
    iexact HB8
  isplitl [HB2 HB3 HB5]
  · iapply (join_landing c y1V (a_cases c))
    isplitl [HB2]; · iexact HB2
    isplitl [HB3]; · iexact HB3
    iexact HB5
  iapply (join_small c y2V)
  isplitl [HB7]; · iexact HB7
  iexact HB9

end Body

end Cert.GatherProof
end
-- ==== Proof.Open.lean ====
/- Opening the cells of the messages, and the shares of the table the copies read with. -/
module

public import proofs.«01_k».proof.Proof.Body

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

section Open

/-! ## The cells -/

omit [FloatOps F] in
theorem bigSep_bool {M : Type} [URA M] (Φ : Bool → sProp M) : bigSep Finset.univ Φ = iprop(Φ false ∗ Φ true) := by
  rw [bigSep_univ_eq_bigSepL [false, true] (by decide) (by decide), bigSepL_cons_cons, bigSepL_singleton]
  rfl

omit [FloatOps F] in
/-- Over the two ends of every message. -/
theorem bigSep_ends {M : Type} [URA M] (Φ : Bool × Fin 22 → sProp M) :
    bigSep Finset.univ Φ = iprop((bigSep Finset.univ fun i => Φ (false, i)) ∗ bigSep Finset.univ fun i => Φ (true, i)) := by
  rw [bigSep_univ_prod, bigSep_bool]

/-- The waits, in their order, are of every message's two ends. -/
def wEquiv : Fin 44 ≃ Bool × Fin 22 := Equiv.ofBijective wmsg ((Fintype.bijective_iff_injective_and_card _).mpr ⟨wmsg_inj, by simp⟩)

variable (G : Dev nD → ℕ → ℕ → Elt F .f32) (κ : GSem nD τ sig → ℕ) (c : Dev nD)

theorem open_cells : iprop(records G κ ∗ (bigSep Finset.univ fun p : Bool × Fin 22 => iprop(openTok ER (mcell c p) ∗ semVal (mcell c p) 0)))
    ⊢ (|={Set.univ}=> bigSep Finset.univ fun p : Bool × Fin 22 => iprop(atPos ER (mcell c p) 0 ∅ 0 ∗ reached ER (mcell c p) 0) : sProp 𝕄) := by
  refine BIBase.Entails.trans (bigSep_with_persistent (Ψ := fun p : Bool × Fin 22 => (iprop(|={Set.univ}=> (atPos ER (mcell c p) 0 ∅ 0 ∗ reached ER (mcell c p) 0)) : sProp 𝕄)) fun p _ => ?_) (bigSep_fupd _ _)
  iintro ⟨#HR, Ho, Hv⟩
  iapply (Rounds.cell_open ER (Rd G) (g := mcell c p) (Set.mem_univ (κ (mcell c p))))
  isplitr; · iapply (inv_at G κ (msg_mem c p)); iexact HR
  isplitl [Ho] <;> iassumption

omit [FloatOps F] in
theorem waits_begin : iprop((bigSep Finset.univ fun p : Bool × Fin 22 => atPos ER (mcell c p) 0 ∅ 0)
      ∗ bigSep Finset.univ fun i : Fin 22 => cred (tallyAt (rcell c i) () (amt i)))
    ⊢ (Waits 0 0 c : sProp 𝕄) := by
  unfold Waits
  refine BIBase.Entails.trans ?_ (Entails.of_eq (bigSep_congr (s := Finset.univ) fun t _ => (if_neg (Nat.not_lt_zero _)).symm))
  rw [show (fun t : Fin 44 => (await 0 c (wmsg t) : sProp 𝕄)) = fun t => await 0 c (wEquiv t) from rfl, ← bigSep_univ_equiv wEquiv (fun p => (await 0 c p : sProp 𝕄))]
  unfold await
  rw [bigSep_sep', bigSep_ends (fun p : Bool × Fin 22 => (if p.1 = true ∨ p.2.val < 0 then cred (tallyAt (mcell c p) () (amt p.2)) else iprop(emp) : sProp 𝕄)),
    bigSep_congr (s := Finset.univ) (Φ := fun i : Fin 22 => (if (false, i).1 = true ∨ (false, i).2.val < 0 then cred (tallyAt (mcell c (false, i)) () (amt (false, i).2)) else iprop(emp) : sProp 𝕄))
      (Ψ := fun i : Fin 22 => (BI.emp : sProp 𝕄)) fun i _ => if_neg (by simp), BI.bigSep_emp_const,
    bigSep_congr (s := Finset.univ) (Φ := fun i : Fin 22 => (if (true, i).1 = true ∨ (true, i).2.val < 0 then cred (tallyAt (mcell c (true, i)) () (amt (true, i).2)) else iprop(emp) : sProp 𝕄))
      (Ψ := fun i : Fin 22 => (cred (tallyAt (rcell c i) () (amt i)) : sProp 𝕄)) fun i _ => if_pos (Or.inl rfl)]
  iintro ⟨H1, H2⟩
  isplitl [H1]; · iexact H1
  isplitr; · iempintro
  iexact H2

omit [FloatOps F] in
theorem waits_end : (Waits 22 44 c : sProp 𝕄) ⊢ bigSep Finset.univ fun p : Bool × Fin 22 => semVal (mcell c p) 0 := by
  unfold Waits
  refine BIBase.Entails.trans (Entails.of_eq (bigSep_congr (s := Finset.univ) fun t _ => if_pos t.isLt)) ?_
  rw [show (fun t : Fin 44 => (semVal (mcell c (wmsg t)) 0 : sProp 𝕄)) = fun t => semVal (mcell c (wEquiv t)) 0 from rfl, ← bigSep_univ_equiv wEquiv (fun p => (semVal (mcell c p) 0 : sProp 𝕄))]

/-! ## The shares of the table -/

omit [FloatOps F] in
theorem bigSep_range_add {M : Type} [URA M] (a b : ℕ) (Φ : ℕ → sProp M) :
    bigSep (Finset.range (a + b)) Φ = iprop(bigSep (Finset.range a) Φ ∗ bigSep (Finset.range b) fun s => Φ (a + s)) := by
  rw [Finset.range_add_eq_union, bigSep_union (by rw [Finset.disjoint_left]; intro x hx hy; obtain ⟨y, -, rfl⟩ := Finset.mem_map.mp hy; have := Finset.mem_range.mp hx; simp only [addLeftEmbedding_apply] at this; omega), bigSep_map]
  rfl

omit [FloatOps F] in
theorem bigSep_grid {M : Type} [URA M] (k n : ℕ) (Φ : ℕ → sProp M) :
    bigSep (Finset.range (k * n)) Φ = bigSep (Finset.range n) fun r => bigSep (Finset.range k) fun s => Φ (k * r + s) := by
  induction n with
  | zero => rw [Nat.mul_zero, Finset.range_zero, BI.bigSep_empty, BI.bigSep_empty]
  | succ n ih => rw [Nat.mul_succ, bigSep_range_add, ih, bigSep_range_add n 1, Finset.range_one, bigSep_singleton, Nat.add_zero]

omit [FloatOps F] in
theorem bigSep_fin {M : Type} [URA M] (n : ℕ) (Φ : ℕ → sProp M) : (bigSep Finset.univ fun i : Fin n => Φ i.val) = bigSep (Finset.range n) Φ := by
  rw [← Nat.Iio_eq_range, ← Fin.map_valEmbedding_univ, bigSep_map]
  rfl

omit [FloatOps F] in
theorem sep_swap (A B C : sProp 𝕄) : iprop(A ∗ B ∗ C) = iprop((A ∗ C) ∗ B) :=
  BI.Entails.antisymm
    (show iprop(A ∗ B ∗ C) ⊢ iprop((A ∗ C) ∗ B) from by iintro ⟨H1, H2, H3⟩; isplitr [H2] <;> [(isplitl [H1] <;> iassumption); iexact H2])
    (show iprop((A ∗ C) ∗ B) ⊢ iprop(A ∗ B ∗ C) from by iintro ⟨⟨H1, H3⟩, H2⟩; isplitl [H1] <;> [iexact H1; (isplitl [H2] <;> iassumption)])

variable (Em : ℕ → ℕ → Elt F .f32)

/-- The counters of the copies within the device. -/
def Quiet : sProp 𝕄 := bigSep Finset.univ fun rs : Fin 8 × Fin 16 => semVal ((c : Thread nD τ), SemLoc.dma (gsem rs.1.val rs.2.val)) 0

theorem slots_eq : (iprop(Quiet c ∗ Blk eV c 0 8192 fullShare 0 Em) : sProp 𝕄) = (iprop(Slots c Em ∗ Blk eV c 0 8192 (shareDrop fullShare 128) 0 Em) : sProp 𝕄) := by
  have h1 : (Quiet c : sProp 𝕄) = bigSep (Finset.range 8) fun r => bigSep (Finset.range 16) fun s => semVal ((c : Thread nD τ), SemLoc.dma (gsem r s)) 0 := by
    unfold Quiet
    rw [bigSep_univ_prod, ← bigSep_fin 8]
    exact bigSep_congr fun r _ => bigSep_fin 16 fun s => semVal ((c : Thread nD τ), SemLoc.dma (gsem r.val s)) 0
  have h2 : (Blk eV c 0 8192 fullShare 0 Em : sProp 𝕄) = iprop(Blk eV c 0 8192 (shareDrop fullShare 128) 0 Em
      ∗ bigSep (Finset.range 8) fun r => bigSep (Finset.range 16) fun s => Blk eV c 0 8192 (tk r s) 0 Em) := by
    refine (BI.Entails.antisymm (pointsTo_toks_range fullShare 128).1 (pointsTo_toks_range fullShare 128).2).trans ?_
    rw [show 128 = 16 * 8 from rfl, bigSep_grid]
    rfl
  have h3 : (Slots c Em : sProp 𝕄) = iprop((bigSep (Finset.range 8) fun r => bigSep (Finset.range 16) fun s => semVal ((c : Thread nD τ), SemLoc.dma (gsem r s)) 0)
      ∗ bigSep (Finset.range 8) fun r => bigSep (Finset.range 16) fun s => Blk eV c 0 8192 (tk r s) 0 Em) := by
    unfold Slots
    rw [← bigSep_sep']
    refine bigSep_congr fun r _ => ?_
    rw [← bigSep_sep']
    refine bigSep_congr fun s hs => ?_
    unfold idle
    rw [Nat.mod_eq_of_lt (Finset.mem_range.mp hs)]
  rw [h1, h2, h3]
  exact sep_swap _ _ _

end Open

end Cert.GatherProof
end
-- ==== Proof.Region.lean ====
/- The call of the kernel as one item of the program: what it is entered with and what it leaves. -/
module

public import proofs.«01_k».proof.Proof.Open
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.RegionTalk
public import Idealize.ShloMosaic.Lib.Pipeline.ValueKit

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

open Idealize.ShloMosaic.Pipeline (Dat BodyObligation)

section Region

/-! ## Arrays by their places -/

/-- The words of a row of `n`, by number. -/
def tab {α : Type} (z : α) (n : ℕ) (X : (⟨1, ![n]⟩ : Shape).Idx → α) (j : ℕ) : α :=
  if h : j < n then X (fun a => ⟨j, by rw [Subsingleton.elim a 0]; exact h⟩) else z

omit [FloatOps F] in
theorem tab_at {α : Type} (z : α) (n : ℕ) (X : (⟨1, ![n]⟩ : Shape).Idx → α) : (fun i => tab z n X (i 0).val) = X := by
  funext i
  unfold tab
  rw [dif_pos (show (i 0).val < n from (i 0).isLt)]
  refine congrArg X (funext fun a => ?_)
  rw [Subsingleton.elim a 0]

/-- The elements of a matrix, by row and column. -/
def tab2 {α : Type} (z : α) (D : ℕ) (X : (Sh D).Idx → α) (t j : ℕ) : α :=
  if h : t < D ∧ j < 1024 then X (fun a => match a with | 0 => ⟨t, h.1⟩ | 1 => ⟨j, h.2⟩) else z

omit [FloatOps F] in
theorem tab2_at {α : Type} (z : α) (D : ℕ) (X : (Sh D).Idx → α) : mat D 0 (tab2 z D X) = X := by
  funext i
  unfold mat tab2
  rw [dif_pos ⟨(Nat.zero_add _).trans_lt (show (i 0).val < D from (i 0).isLt), show (i 1).val < 1024 from (i 1).isLt⟩]
  refine congrArg X (funext fun a => ?_)
  match a with
  | 0 => exact Fin.ext (Nat.zero_add _)
  | 1 => rfl

variable (G : Dev nD → ℕ → ℕ → Elt F .f32) (V : Dev nD → Valuation τ sig (Elt F))

/-- The tables the host makes, and the device's rows. -/
def posW (c : Dev nD) : ℕ → BitVec 32 := tab 0#32 1024 (V c main_v33)
def idxW (c : Dev nD) : ℕ → BitVec 32 := tab 0#32 1024 (V c main_v38)
def cntW (c : Dev nD) : ℕ → BitVec 32 := tab 0#32 8 (V c main_v40)
def Em (c : Dev nD) : ℕ → ℕ → Elt F .f32 := tab2 zero 8192 (V c main_arg1)

/-- The tables say, of each device, which rows of its gathered matrix are rows of its table. -/
structure Good : Prop where
  region : ∀ c, ∀ r < 8, Region (prow (posW V c) r) (trow (idxW V c) r) r (BitVec.toNat (cntW V c r)) (Em V c) (G c)
  count : ∀ c, ∀ r < 8, BitVec.toNat (cntW V c r) ≤ 128

/-! ## Whole buffers -/

variable (c : Dev nD)

omit [FloatOps F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem part_all {sp : Space} {D : ℕ} (v : View sig .tc sp (Sh D) .f32) (hv : v.set = Finset.univ) (q : PosShare TreeShare) (f : v.ty.Contents (Elt F)) :
    (part v c 0 D q f : sProp 𝕄) = ((v.loc (c : Thread nD τ)) ↦{q} f) := by
  unfold part
  rw [rows_univ]
  exact congrArg (fun S => ((v.loc (c : Thread nD τ)) ↦[S]{q} f : sProp 𝕄)) hv

theorem any_all {sp : Space} {D : ℕ} (v : View sig .tc sp (Sh D) .f32) (hv : v.set = Finset.univ) :
    (Any v c 0 D : sProp 𝕄) = iprop(∃ f : v.ty.Contents (Elt F), (v.loc (c : Thread nD τ)) ↦{fullShare} f) := by
  unfold Any
  simp only [part_all c v hv]

theorem out_any : (iprop(∃ f : Buf (Elt F) ((c : Thread nD τ).loc cc0_stg3_0), ((c : Thread nD τ).loc cc0_stg3_0) ↦{fullShare} f) : sProp 𝕄) = Any oV c 0 1024 :=
  (any_all c oV (View.set_whole _)).symm
theorem x1_any : (iprop(∃ f : Buf (Elt F) ((c : Thread nD τ).loc cc0_scratch0), ((c : Thread nD τ).loc cc0_scratch0) ↦{fullShare} f) : sProp 𝕄) = Any x1V c 0 256 :=
  (any_all c x1V (View.set_whole _)).symm
theorem x2_any : (iprop(∃ f : Buf (Elt F) ((c : Thread nD τ).loc cc0_scratch1), ((c : Thread nD τ).loc cc0_scratch1) ↦{fullShare} f) : sProp 𝕄) = Any x2V c 0 128 :=
  (any_all c x2V (View.set_whole _)).symm
theorem y1_any : (iprop(∃ f : Buf (Elt F) ((c : Thread nD τ).loc cc0_scratch2), ((c : Thread nD τ).loc cc0_scratch2) ↦{fullShare} f) : sProp 𝕄) = Any y1V c 0 256 :=
  (any_all c y1V (View.set_whole _)).symm
theorem y2_any : (iprop(∃ f : Buf (Elt F) ((c : Thread nD τ).loc cc0_scratch3), ((c : Thread nD τ).loc cc0_scratch3) ↦{fullShare} f) : sProp 𝕄) = Any y2V c 0 128 :=
  (any_all c y2V (View.set_whole _)).symm

theorem out_blk (M : ℕ → ℕ → Elt F .f32) : (Blk oV c 0 1024 fullShare 0 M : sProp 𝕄) = (((c : Thread nD τ).loc cc0_stg3_0) ↦{fullShare} (mat 1024 0 M)) := by
  unfold Blk
  rw [part_all c oV (View.set_whole _)]
  exact congrArg (fun f => (((c : Thread nD τ).loc cc0_stg3_0) ↦{fullShare} f : sProp 𝕄)) (read_fill oV (mat 1024 0 M))

theorem table_blk : (Blk eV c 0 8192 fullShare 0 (Em V c) : sProp 𝕄) = (((c : Thread nD τ).loc main_arg1) ↦{fullShare} (V c main_arg1)) := by
  have h (X : (Sh 8192).Idx → Elt F .f32) : (fill eV (mat 8192 0 (tab2 zero 8192 X)) : eV.ty.Contents (Elt F)) = X := by
    rw [tab2_at]
    have h2 := read_fill eV X
    rwa [show eV = View.whole main_arg1 from rfl, View.read_whole] at h2
  unfold Blk Em
  rw [part_all c eV (View.set_whole _), h]

omit [FloatOps F] in
theorem posT_tab (X : S1024.Idx → BitVec 32) : (posT (tab 0#32 1024 X) : posM.view.ty.Contents (Elt F)) = X := tab_at _ _ _
omit [FloatOps F] in
theorem idxT_tab (X : S1024.Idx → BitVec 32) : (idxT (tab 0#32 1024 X) : idxM.view.ty.Contents (Elt F)) = X := tab_at _ _ _
omit [FloatOps F] in
theorem cntT_tab (X : S8.Idx → BitVec 32) : (cntT (tab 0#32 8 X) : cntM.view.ty.Contents (Elt F)) = X := tab_at _ _ _

theorem tabs_eq : (Tabs c (posW V c) (idxW V c) (cntW V c) : sProp 𝕄)
    = iprop((((c : Thread nD τ).loc cc0_stg0_0) ↦{fullShare} (V c main_v33 : (cc0_stg0_0 : Ref sig .tc).ty.Contents (Elt F)))
      ∗ (((c : Thread nD τ).loc cc0_stg1_0) ↦{fullShare} (V c main_v38 : (cc0_stg1_0 : Ref sig .tc).ty.Contents (Elt F)))
      ∗ (((c : Thread nD τ).loc cc0_stg2_0) ↦{fullShare} (V c main_v40 : (cc0_stg2_0 : Ref sig .tc).ty.Contents (Elt F)))) := by
  unfold Tabs posW idxW cntW
  rw [posT_tab, idxT_tab, cntT_tab]
  rfl

/-! ## What the call is entered with -/

def osem : (Fin 8 × Fin 16) ⊕ (Bool × Fin 22) → SemLoc sig := Sum.elim (fun rs => .dma (gsem rs.1.val rs.2.val)) msem

omit [FloatOps F] in
theorem ownSems_eq : (Pipeline.ownSems0 (Ix := Unit) (Name := ℕ) (U := UU) (Lvl := ℕ) (Val := Elt F) (τ := τ) osem c : sProp 𝕄)
    = iprop(Quiet c ∗ bigSep Finset.univ fun p : Bool × Fin 22 => semVal (mcell c p) 0) := by
  unfold Pipeline.ownSems0 Quiet
  rw [bigSep_univ_sum]
  rfl

/-- What a device brings to the call: its places on its own cells, its tokens and its credits. -/
def Tk : sProp 𝕄 :=
  iprop((∃ κ, records G κ ∗ bigSep Finset.univ fun p : Bool × Fin 22 => openTok ER (mcell c p)) ∗ Toks 0 c
    ∗ dutyTok ER (barCell (pa c)) 0 false ∗ dutyTok ER (barCell (pb c)) 0 true ∗ cred (tallyAt (barCell c) () 2) ∗ atPos ER (barCell c) 0 ∅ 0
    ∗ bigSep Finset.univ fun i : Fin 22 => cred (tallyAt (rcell c i) () (amt i)))

/-- The same once its cells are open. -/
def Xk : sProp 𝕄 :=
  iprop(Quiet c ∗ (∃ κ, records G κ) ∗ levAts L lv ∗ (bigSep Finset.univ fun i : Fin 22 => reached ER (scell c i) 0) ∗ ready c ∗ Toks 0 c ∗ Waits 0 0 c
    ∗ dutyTok ER (barCell (pa c)) 0 false ∗ dutyTok ER (barCell (pb c)) 0 true ∗ cred (tallyAt (barCell c) () 2) ∗ atPos ER (barCell c) 0 ∅ 0)

theorem hopen : iprop(Tk G c ∗ Pipeline.ownSems0 osem c ∗ levAts L lv) ⊢ (|={Set.univ}=> Xk G c : sProp 𝕄) := by
  rw [ownSems_eq]
  unfold Tk Xk ready
  iintro ⟨⟨⟨%κ, #HR, Ho⟩, Ht, Ha, Hb, Hc, Hp, Hcr⟩, ⟨Hq, Hv⟩, HL⟩
  ihave Hov := (Entails.of_eq (bigSep_sep' (s := Finset.univ) (Φ := fun p : Bool × Fin 22 => (openTok ER (mcell c p) : sProp 𝕄))
    (Ψ := fun p => semVal (mcell c p) 0)).symm) $$ [Ho Hv]
  · isplitl [Ho] <;> iassumption
  imod (open_cells G κ c) $$ [HR Hov] with H
  · isplitr; · iexact HR
    iexact Hov
  ihave H := (Entails.of_eq (bigSep_sep' (s := Finset.univ) (Φ := fun p : Bool × Fin 22 => (atPos ER (mcell c p) 0 ∅ 0 : sProp 𝕄))
    (Ψ := fun p => reached ER (mcell c p) 0))) $$ H
  icases H with ⟨Hat, Hre⟩
  ihave Hre := (Entails.of_eq (bigSep_ends (fun p : Bool × Fin 22 => (reached ER (mcell c p) 0 : sProp 𝕄)))) $$ Hre
  icases Hre with ⟨Hs, Hr⟩
  imodintro
  isplitl [Hq]; · iexact Hq
  isplitr; · iexists κ; iexact HR
  isplitl [HL]; · iexact HL
  isplitl [Hs]; · iexact Hs
  isplitl [Hr]; · iexact Hr
  isplitl [Ht]; · iexact Ht
  isplitl [Hat Hcr]
  · iapply (waits_begin c)
    isplitl [Hat] <;> iassumption
  isplitl [Ha]; · iexact Ha
  isplitl [Hb]; · iexact Hb
  isplitl [Hc] <;> iassumption

/-! ## The body between its windows -/

/-- The buffer the body addresses itself. -/
def Hs : Finset (DevRef τ sig) := {Proc.devRef .tc main_arg1}

def Rest : sProp 𝕄 :=
  iprop(Pipeline.scopedRest cfg0.spec c ∗ (∃ r, prngReg c r) ∗ StableHlo.held (c.tc : Thread nD τ) Hs (V c))

def Φ₀ : sProp 𝕄 := iprop(Rest V c ∗ Xk G c)
def Φ₁ : sProp 𝕄 := iprop(Rest V c ∗ Pipeline.ownSems0 osem c ∗ semVal (barCell c) 0)

theorem held_table : (StableHlo.held (c.tc : Thread nD τ) Hs (V c) : sProp 𝕄) = Blk eV c 0 8192 fullShare 0 (Em V c) := by
  rw [table_blk]
  unfold StableHlo.held Hs
  rw [bigSep_singleton]

def dat : Dat τ (Elt F) Unit ℕ UU ℕ cfg0 c where
  A w := V c (Proc.devRef .tc (Pipeline.arrRef cfg0.spec w))
  after w _ := match w with
    | ⟨0, _⟩ => V c main_v33
    | ⟨1, _⟩ => V c main_v38
    | ⟨2, _⟩ => V c main_v40
    | ⟨3, _⟩ => mat 1024 0 (Fin1 G)
  Φ t := match t with
    | ⟨0, _⟩ => Φ₀ G V c
    | ⟨_ + 1, _⟩ => Φ₁ V c
  q _ := fullShare
  owed t := match t with
    | ⟨0, _⟩ => O₀ c
    | ⟨_ + 1, _⟩ => 0

/-! ## The obligation of the body -/

theorem owesAt_intro' (t : Fin (cfg0.N + 1)) (O : CellTallies nD τ sig Unit) (h : (dat G V c).owed t = O) :
    iprop(∃ W, owes (c : Thread nD τ) O W) ⊢ ((dat G V c).owesAt () t : sProp 𝕄) := by
  subst h
  unfold Dat.owesAt Pipeline.owesWithin Dat.bound
  iintro ⟨%W, H⟩
  iexists W
  isplitr; · ipureintro; exact fun _ _ => Or.inl trivial
  iexact H

theorem owesAt_elim' (t : Fin (cfg0.N + 1)) (O : CellTallies nD τ sig Unit) (h : (dat G V c).owed t = O) :
    ((dat G V c).owesAt () t : sProp 𝕄) ⊢ iprop(∃ W, owes (c : Thread nD τ) O W) := by
  subst h
  unfold Dat.owesAt Pipeline.owesWithin
  iintro ⟨%W, -, H⟩
  iexists W; iexact H

theorem before_0 (d) : (dat G V c).before (0 : Fin 4) Gen.t0_0 d = (V c main_v33 : (cc0_stg0_0 : Ref sig .tc).ty.Contents (Elt F)) := by
  unfold Dat.before; rw [if_pos (Gen.fetch0_0 Gen.t0_0)]
  funext i
  refine congrArg (V c main_v33) (funext fun a => Fin.ext ?_)
  blk_simp
  show 0 * _ + (i a).val = (i a).val
  rw [Nat.zero_mul, Nat.zero_add]
theorem before_1 (d) : (dat G V c).before (1 : Fin 4) Gen.t0_0 d = (V c main_v38 : (cc0_stg1_0 : Ref sig .tc).ty.Contents (Elt F)) := by
  unfold Dat.before; rw [if_pos (Gen.fetch0_1 Gen.t0_0)]
  funext i
  refine congrArg (V c main_v38) (funext fun a => Fin.ext ?_)
  blk_simp
  show 0 * _ + (i a).val = (i a).val
  rw [Nat.zero_mul, Nat.zero_add]
theorem before_2 (d) : (dat G V c).before (2 : Fin 4) Gen.t0_0 d = (V c main_v40 : (cc0_stg2_0 : Ref sig .tc).ty.Contents (Elt F)) := by
  unfold Dat.before; rw [if_pos (Gen.fetch0_2 Gen.t0_0)]
  funext i
  refine congrArg (V c main_v40) (funext fun a => Fin.ext ?_)
  blk_simp
  show 0 * _ + (i a).val = (i a).val
  rw [Nat.zero_mul, Nat.zero_add]

def stg (b : Ref sig .tc) (X : b.ty.Contents (Elt F)) : sProp 𝕄 :=
  owns (Ix := Unit) (Name := ℕ) (U := UU) (Lvl := ℕ) (c : Thread nD τ) (Memref.whole b) fullShare X

theorem stg_eq (b : Ref sig .tc) (X : b.ty.Contents (Elt F)) : (stg c b X : sProp 𝕄) = (((c : Thread nD τ).loc b) ↦{fullShare} X) := by
  unfold stg
  rw [owns_whole]
  refine BI.Entails.antisymm (show iprop(∃ f : Buf (Elt F) ((c : Thread nD τ).loc b), ⌜f = X⌝ ∗ (((c : Thread nD τ).loc b) ↦{fullShare} f)) ⊢ (((c : Thread nD τ).loc b) ↦{fullShare} X : sProp 𝕄) from ?_)
    (show (((c : Thread nD τ).loc b) ↦{fullShare} X : sProp 𝕄) ⊢ iprop(∃ f : Buf (Elt F) ((c : Thread nD τ).loc b), ⌜f = X⌝ ∗ (((c : Thread nD τ).loc b) ↦{fullShare} f)) from ?_)
  · iintro ⟨%f, %h, H⟩
    subst h
    iexact H
  · iintro H
    iexists X
    isplitr; · ipureintro; rfl
    iexact H

def bodyPre : sProp 𝕄 :=
  iprop(Φ₀ G V c ∗ (dat G V c).owesAt () Gen.t0_0.castSucc
    ∗ (∃ d, stg c cc0_stg0_0 ((dat G V c).before (0 : Fin 4) Gen.t0_0 d))
    ∗ (∃ d, stg c cc0_stg1_0 ((dat G V c).before (1 : Fin 4) Gen.t0_0 d))
    ∗ (∃ d, stg c cc0_stg2_0 ((dat G V c).before (2 : Fin 4) Gen.t0_0 d))
    ∗ (∃ d, stg c cc0_stg3_0 ((dat G V c).before (3 : Fin 4) Gen.t0_0 d)))

def bodyPost : sProp 𝕄 :=
  iprop(Φ₁ V c ∗ (dat G V c).owesAt () Gen.t0_0.succ
    ∗ stg c cc0_stg0_0 (V c main_v33) ∗ stg c cc0_stg1_0 (V c main_v38) ∗ stg c cc0_stg2_0 (V c main_v40)
    ∗ stg c cc0_stg3_0 (mat 1024 0 (Fin1 G)))

/-- The table's share that no copy takes. -/
def Spare : sProp 𝕄 := Blk eV c 0 8192 (shareDrop fullShare 128) 0 (Em V c)

theorem body_before : bodyPre G V c ⊢ iprop((∃ κ, Before G κ c) ∗ Tabs c (posW V c) (idxW V c) (cntW V c) ∗ Slots c (Em V c) ∗ Any oV c 0 1024
    ∗ Spare V c ∗ ∃ r, prngReg c r) := by
  unfold bodyPre Φ₀ Rest Xk Before Spare
  simp only [before_0, before_1, before_2, stg_eq]
  rw [held_table, Gen.scopedRest0_eq, x1_any, x2_any, y1_any, y2_any, tabs_eq]
  iintro ⟨⟨⟨⟨H1, H2, H3, H4⟩, Hp, He⟩, ⟨Hq, ⟨%κ, #HR⟩, HL, Hs, Hr, Ht, Hw, Ha, Hb, Hc, Hat⟩⟩, HO, ⟨%d0, HT0⟩, ⟨%d1, HT1⟩, ⟨%d2, HT2⟩, ⟨%d3, HT3⟩⟩
  ihave HO := (owesAt_elim' G V c Gen.t0_0.castSucc (O₀ c) rfl) $$ HO
  ihave HS := (Entails.of_eq (slots_eq c (Em V c))) $$ [Hq He]
  · isplitl [Hq] <;> iassumption
  icases HS with ⟨HS, He⟩
  isplitl [HL Hs Hr Ht Hw Ha Hb Hc Hat HO H1 H2 H3 H4]
  · iexists κ
    isplitr; · iexact HR
    isplitl [HL]; · iexact HL
    isplitl [Hs]; · iexact Hs
    isplitl [Hr]; · iexact Hr
    isplitl [Ht]; · iexact Ht
    isplitl [Hw]; · iexact Hw
    isplitl [HO]; · iexact HO
    isplitl [Ha]; · iexact Ha
    isplitl [Hb]; · iexact Hb
    isplitl [Hc]; · iexact Hc
    isplitl [Hat]; · iexact Hat
    isplitl [H1]; · iexact H1
    isplitl [H4]; · iexact H4
    isplitl [H3] <;> iassumption
  isplitl [HT0 HT1 HT2]
  · isplitl [HT0]; · iexact HT0
    isplitl [HT1] <;> iassumption
  isplitl [HS]; · iexact HS
  isplitl [HT3]
  · iapply (Entails.of_eq (out_any c))
    iexists _; iexact HT3
  isplitl [He] <;> iassumption

theorem body_after : iprop(Done G c (posW V c) (idxW V c) (cntW V c) (Em V c) ∗ Spare V c ∗ ∃ r, prngReg c r) ⊢ bodyPost G V c := by
  unfold bodyPost Φ₁ Rest Done Spare
  simp only [stg_eq]
  rw [held_table, ownSems_eq, Gen.scopedRest0_eq, x1_any, x2_any, y1_any, y2_any, tabs_eq, out_blk]
  iintro ⟨⟨Hw, HO, Hb, ⟨HT0, HT1, HT2⟩, HS, HT3, H1, H2, H3, H4⟩, He, Hp⟩
  ihave HS := (Entails.of_eq (slots_eq c (Em V c)).symm) $$ [HS He]
  · isplitl [HS] <;> iassumption
  icases HS with ⟨Hq, He⟩
  isplitl [Hw Hb H1 H2 H3 H4 Hq He Hp]
  · isplitl [H1 H2 H3 H4 He Hp]
    · isplitl [H1 H2 H3 H4]
      · isplitl [H1]; · iexact H1
        isplitl [H2]; · iexact H2
        isplitl [H3] <;> iassumption
      isplitl [Hp] <;> iassumption
    isplitl [Hw Hq]
    · isplitl [Hq]; · iexact Hq
      iapply (waits_end c); iexact Hw
    iexact Hb
  isplitl [HO]
  · iapply (owesAt_intro' G V c Gen.t0_0.succ 0 rfl); iexact HO
  isplitl [HT0]; · iexact HT0
  isplitl [HT1]; · iexact HT1
  isplitl [HT2] <;> iassumption

set_option maxRecDepth 4000 in
theorem body_ok (hG : Good G V) : BodyObligation (dat G V c) (defs₀ (F := F)) 𝒱₀ () Set.univ := fun t => by
  rw [Gen.fin_N0 t]
  rw [Gen.bigSep_W0, Gen.bigSep_W0]
  show bodyPre G V c ⊢ wp frame (wpE (defs₀ (F := F)) 𝒱₀ c none) Set.univ (cc0__body (F := F) (Memref.whole cc0_stg0_0) (Memref.isWhole_whole _) (Memref.whole cc0_stg1_0) (Memref.isWhole_whole _) (Memref.whole cc0_stg2_0) (Memref.isWhole_whole _) (Memref.whole main_arg1) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7 cc0_scratch8) (fun _ => bodyPost G V c)
  refine (body_before G V c).trans ?_
  iintro ⟨⟨%κ, HB⟩, HT, HS, HA, He⟩
  iapply (wp_wand_r frame (wpE (defs₀ (F := F)) 𝒱₀ c none) Set.univ (Q := fun _ => Done G c (posW V c) (idxW V c) (cntW V c) (Em V c)))
  isplitl [HB HT HS HA]
  · iapply (wp_body G κ c (hG.region c) (hG.count c))
    isplitl [HB]; · iexact HB
    isplitl [HT]; · iexact HT
    isplitl [HS] <;> iassumption
  · iintro %_ HD
    iapply (body_after G V c)
    isplitl [HD]; · iexact HD
    icases He with ⟨He, Hp⟩
    isplitl [He] <;> iassumption

end Region

end Cert.GatherProof
end
-- ==== Proof.Call.lean ====
/- The call of the kernel as an item of the program. -/
module

public import proofs.«01_k».proof.Proof.Region

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

open Cert.KernelIdeal.Gen (adm)
open Idealize.ShloMosaic.Pipeline (Dat BodyObligation RegionSeg)

section Call

variable (G : Dev nD → ℕ → ℕ → Elt F .f32) (V : Dev nD → Valuation τ sig (Elt F))

def pdats (_ : Fin 1) (c : Dev nD) : Dat τ (Elt F) Unit ℕ UU ℕ (cfgs 0) c := dat G V c

theorem osem_facts : Pipeline.OwnSemFacts cfg0.spec osem where
  isScoped := by decide +kernel
  inj := by decide +kernel
  disj := by decide +kernel

theorem share_full (c : Dev nD) (w : Fin cfg0.W) : (dat G V c).share w = fullShare := by unfold Dat.share; split <;> rfl

theorem cut_lv (c : Dev nD) (w : Fin cfg0.W) (s : Fin (cfg0.win w).nbuf) : lv (((c : Thread nD τ), SemLoc.dma ((cfg0.win w).sem s)) : GSem nD τ sig) () = 0 := by
  have h := (by decide +kernel : ∀ (w : Fin cfg0.W) (s : Fin (cfg0.win w).nbuf), codeOf (SemLoc.dma ((cfg0.win w).sem s)) = none) w s
  unfold lv
  rw [if_neg (fun h => by cases h), h]

theorem cut_owed (c : Dev nD) (t : Fin (cfg0.N + 1)) (g : GSem nD τ sig) (i : Unit) (h : 0 < (dat G V c).owed t g i) : i ∈ L g ∧ 0 < lv g i := by
  have h0 : 0 < O₀ c g i := by
    match t with
    | ⟨0, _⟩ => exact h
    | ⟨_ + 1, _⟩ => exact absurd h (Nat.lt_irrefl 0)
  cases i
  rcases O₀_pos h0 with ⟨i, rfl⟩ | ⟨d, rfl⟩
  · refine ⟨by rw [L_tc]; exact Finset.mem_singleton_self _, ?_⟩
    rw [show rcell (peer i c) i = mcell (peer i c) (true, i) from rfl, lv_msg]
    simp
  · refine ⟨by rw [L_tc]; exact Finset.mem_singleton_self _, ?_⟩
    rw [lv_bar]; decide

theorem kit : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- The arrays after the call. -/
def VO (c : Dev nD) : Valuation τ sig (Elt F) := Function.update (V c) (Proc.devRef .tc main_v41) (mat 1024 0 (Fin1 G) : (main_v41 : Ref sig .tc).ty.Contents (Elt F))

/-- The buffers no window is of. -/
def Sr : Finset (DevRef τ sig) := Pipeline.ucRefs τ sig \ Pipeline.arrRefs cfg0.spec

theorem Hs_sub : Hs ⊆ Sr := by
  unfold Hs Sr
  rw [Finset.singleton_subset_iff, Finset.mem_sdiff]
  exact ⟨Finset.mem_filter.mpr ⟨StableHlo.devRef_mem_tcRefs main_arg1, by decide⟩, by decide⟩

theorem VO_of (c : Dev nD) (b : DevRef τ sig) (h : b ≠ Proc.devRef .tc main_v41) : VO G V c b = V c b := Function.update_of_ne h _ _

theorem Sr_ne (b : DevRef τ sig) (h : b ∈ Sr) : b ≠ Proc.devRef .tc main_v41 := by
  rintro rfl
  exact (Finset.mem_sdiff.mp h).2 (by decide)

theorem arr_out (c : Dev nD) : (dat G V c).arrAt (3 : Fin 4) cfg0.N = (mat 1024 0 (Fin1 G) : (main_v41 : Ref sig .tc).ty.Contents (Elt F)) := by
  refine (dat G V c).arrAt_eq_of_after_last (3 : Fin 4) Gen.t0_0 (by decide +kernel) _ fun j => ?_
  rfl

theorem arr_end (c : Dev nD) (w : Fin cfg0.W) : (dat G V c).arrAt w cfg0.N = VO G V c (Proc.devRef .tc (Pipeline.arrRef cfg0.spec w)) := by
  match w with
  | ⟨0, _⟩ => exact ((dat G V c).arrAt_in (0 : Fin 4) rfl _).trans (VO_of G V c _ (by decide)).symm
  | ⟨1, _⟩ => exact ((dat G V c).arrAt_in (1 : Fin 4) rfl _).trans (VO_of G V c _ (by decide)).symm
  | ⟨2, _⟩ => exact ((dat G V c).arrAt_in (2 : Fin 4) rfl _).trans (VO_of G V c _ (by decide)).symm
  | ⟨3, _⟩ => exact (arr_out G V c).trans (Function.update_self (Proc.devRef .tc main_v41) _ (V c)).symm

theorem hin (c : Dev nD) : iprop(Pipeline.scopedRest cfg0.spec c ∗ (∃ r, prngReg c r) ∗ StableHlo.held (c.tc : Thread nD τ) Hs (V c) ∗ Xk G c) ⊢ ((dat G V c).Φ 0 : sProp 𝕄) := by
  show _ ⊢ Φ₀ G V c
  unfold Φ₀ Rest
  iintro ⟨H1, H2, H3, H4⟩
  isplitr [H4]
  · isplitl [H1]; · iexact H1
    isplitl [H2] <;> iassumption
  iexact H4

theorem hout (c : Dev nD) : ((dat G V c).Φ (Fin.last cfg0.N) : sProp 𝕄)
    ⊢ iprop(Pipeline.scopedRest cfg0.spec c ∗ (∃ r, prngReg c r) ∗ StableHlo.held (c.tc : Thread nD τ) Hs (VO G V c) ∗ Pipeline.ownSems0 osem c ∗ semVal (barCell c) 0) := by
  show Φ₁ V c ⊢ _
  rw [StableHlo.held_congr (c.tc : Thread nD τ) (S := Hs) (V' := V c) fun b hb => VO_of G V c b (Sr_ne b (Hs_sub hb))]
  unfold Φ₁ Rest
  iintro ⟨⟨H1, H2, H3⟩, H4, H5⟩
  isplitl [H1]; · iexact H1
  isplitl [H2]; · iexact H2
  isplitl [H3]; · iexact H3
  isplitl [H4] <;> iassumption

set_option backward.isDefEq.respectTransparency.types false in
/-- The call. -/
def region (hG : Good G V) : RegionSeg (pcfgs (F := F)) adm (pdats G V) () defs₀ 𝒱₀ L lv 0 :=
  Pipeline.RegionSeg.ofTalk (pcfgs (F := F)) adm (pdats G V) () defs₀ 𝒱₀ L lv 0 osem osem_facts Hs Sr Hs_sub kit rfl
    (fun c => (body_ok G V c hG).loose) (fun _ => 0) O₀ (fun c => (zero_add (O₀ c)).symm) (fun _ => rfl) (fun _ => rfl)
    (share_full G V) V (VO G V) (fun c b hb => VO_of G V c b (Sr_ne b (Finset.mem_sdiff.mp hb).1)) (Tk G) (fun c => semVal (barCell c) 0) (Xk G) (fun c => semVal (barCell c) 0)
    (hopen G) (hin G V) (hout G V) (fun c => by iintro H; imodintro; iexact H) (fun _ => 0)
    ⟨fun c w s => by rw [L_tc]; exact Finset.mem_singleton_self _, fun c w s => Nat.le_of_eq (cut_lv c w s), cut_owed G V⟩
    (fun _ => iprop(emp)) (fun _ _ => rfl) (arr_end G V)

end Call

end Cert.GatherProof
end
-- ==== Proof.Launch.lean ====
/- The launch: every duty of the protocol dealt to the device that pays it, and every wait its credit. -/
module

public import proofs.«01_k».proof.Proof.Call

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

open Idealize.ShloMosaic.Pipeline (Dat RegionSeg)

section Launch

/-! ## The duties -/

/-- The cell and the duty of a token: a barrier's two units; the one payment at each end of a message. -/
def tokAt : Bool ⊕ (Bool × Fin 22) → SemLoc sig × Bool
  | .inl b => (.reg barS, b)
  | .inr p => (msem p, false)
theorem tokAt_inj : Function.Injective tokAt := by
  rintro (b | p) (b' | p') h
  · exact congrArg Sum.inl (congrArg Prod.snd h)
  · exact absurd (congrArg Prod.fst h).symm (msem_ne_bar p')
  · exact absurd (congrArg Prod.fst h) (msem_ne_bar p)
  · exact congrArg Sum.inr (msem_inj (congrArg Prod.fst h))

def tokEmb : Dev nD × (Bool ⊕ (Bool × Fin 22)) ↪ GSem nD τ sig × ℕ × Bool :=
  ⟨fun ck => (((ck.1 : Thread nD τ), (tokAt ck.2).1), 0, (tokAt ck.2).2), fun _ _ h =>
    Prod.ext (congrArg (fun t : GSem nD τ sig × ℕ × Bool => t.1.1.1) h)
      (tokAt_inj (Prod.ext (congrArg (fun t : GSem nD τ sig × ℕ × Bool => t.1.2) h) (congrArg (fun t : GSem nD τ sig × ℕ × Bool => t.2.2) h)))⟩
def allToks : Finset (GSem nD τ sig × ℕ × Bool) := Finset.univ.map tokEmb

/-- The duties on a device's own cells. -/
def toks (c : Dev nD) : sProp 𝕄 :=
  iprop((dutyTok ER (barCell c) 0 false ∗ dutyTok ER (barCell c) 0 true)
    ∗ (bigSep Finset.univ fun i : Fin 22 => dutyTok ER (scell c i) 0 false) ∗ bigSep Finset.univ fun i : Fin 22 => dutyTok ER (rcell c i) 0 false)
/-- The duties a device pays. -/
def pays (c : Dev nD) : sProp 𝕄 :=
  iprop((dutyTok ER (barCell (pa c)) 0 false ∗ dutyTok ER (barCell (pb c)) 0 true)
    ∗ (bigSep Finset.univ fun i : Fin 22 => dutyTok ER (scell c i) 0 false) ∗ bigSep Finset.univ fun i : Fin 22 => dutyTok ER (rcell (peer i c) i) 0 false)

omit [FloatOps F] in
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_sum, bigSep_bool, bigSep_ends]
  rfl

def aEquiv : Dev nD ≃ Dev nD := ⟨pa, pa, pa_pa, pa_pa⟩
def bEquiv : Dev nD ≃ Dev nD := ⟨pb, pb, pb_pb, pb_pb⟩
def pEquiv : Dev nD × Fin 22 ≃ Dev nD × Fin 22 :=
  ⟨fun x => (peer x.2 x.1, x.2), fun x => (peer x.2 x.1, x.2), fun x => Prod.ext (peer_peer x.2 x.1) rfl, fun x => Prod.ext (peer_peer x.2 x.1) rfl⟩

omit [FloatOps F] in
theorem recvs_around : (bigSep Finset.univ fun c : Dev nD => bigSep Finset.univ fun i : Fin 22 => (dutyTok ER (rcell c i) 0 false : sProp 𝕄))
    = bigSep Finset.univ fun c : Dev nD => bigSep Finset.univ fun i : Fin 22 => dutyTok ER (rcell (peer i c) i) 0 false := by
  rw [← bigSep_univ_prod (fun x : Dev nD × Fin 22 => (dutyTok ER (rcell x.1 x.2) 0 false : sProp 𝕄)),
    bigSep_univ_equiv pEquiv (fun x : Dev nD × Fin 22 => (dutyTok ER (rcell x.1 x.2) 0 false : sProp 𝕄)), bigSep_univ_prod]
  rfl

omit [FloatOps F] in
theorem toks_around : (bigSep Finset.univ fun c : Dev nD => (toks c : sProp 𝕄)) = bigSep Finset.univ fun c : Dev nD => pays c := by
  unfold toks pays
  rw [bigSep_sep', bigSep_sep', bigSep_sep', bigSep_sep', bigSep_sep', bigSep_sep', recvs_around,
    bigSep_univ_equiv aEquiv (fun c : Dev nD => (dutyTok ER (barCell c) 0 false : sProp 𝕄)),
    bigSep_univ_equiv bEquiv (fun c : Dev nD => (dutyTok ER (barCell c) 0 true : sProp 𝕄))]
  rfl

omit [FloatOps F] in
theorem pays_toks (c : Dev nD) : (pays c : sProp 𝕄) ⊢ iprop(Toks 0 c ∗ dutyTok ER (barCell (pa c)) 0 false ∗ dutyTok ER (barCell (pb c)) 0 true) := by
  have h : (Toks 0 c : sProp 𝕄) = iprop((bigSep Finset.univ fun i : Fin 22 => dutyTok ER (scell c i) 0 false) ∗ bigSep Finset.univ fun i : Fin 22 => dutyTok ER (rcell (peer i c) i) 0 false) := by
    rw [← bigSep_sep']
    exact bigSep_congr fun i _ => if_neg (Nat.not_lt_zero _)
  rw [h]
  unfold pays
  iintro ⟨⟨H1, H2⟩, H3⟩
  isplitl [H3]; · iexact H3
  isplitl [H1] <;> iassumption

/-! ## The credit -/

theorem owed_at (d : Dev nD) (g : GSem nD τ sig) : owed 0 d g () = ∑ i : Fin 22, if g = rcell (peer i d) i then amt i else 0 := by
  unfold owed
  rw [Finset.filter_true_of_mem fun i _ => Nat.zero_le _, Finset.sum_apply, Finsupp.finset_sum_apply]
  refine Finset.sum_congr rfl fun i _ => ?_
  rw [tallyAt_apply]
  by_cases h : g = rcell (peer i d) i
  · rw [if_pos h, if_pos ⟨h, rfl⟩]
  · rw [if_neg h, if_neg (fun hh => h hh.1)]

theorem O₀_at (d : Dev nD) (g : GSem nD τ sig) : O₀ d g () = ((∑ i : Fin 22, if g = rcell (peer i d) i then amt i else 0) + if g = barCell (pb d) then 1 else 0)
    + if g = barCell (pa d) then 1 else 0 := by
  unfold O₀ owedB
  rw [Pi.add_apply, Finsupp.add_apply, Pi.add_apply, Finsupp.add_apply, tallyAt_apply, tallyAt_apply, owed_at]
  simp

theorem cell_dev {d c : Dev nD} {s t : SemLoc sig} (h : (((d : Thread nD τ), s) : GSem nD τ sig) = ((c : Thread nD τ), t)) : d = c :=
  congrArg (fun g : GSem nD τ sig => g.1.1) h

theorem owed_bar (d c : Dev nD) : O₀ d (barCell c) () = (if d = pb c then 1 else 0) + if d = pa c then 1 else 0 := by
  rw [O₀_at, Finset.sum_eq_zero fun i _ => if_neg fun h => msem_ne_bar (true, i) (congrArg Prod.snd h).symm, Nat.zero_add]
  have hb : (barCell c = barCell (pb d)) ↔ d = pb c := ⟨fun h => by rw [cell_dev h, pb_pb], fun h => by rw [h, pb_pb]⟩
  have ha : (barCell c = barCell (pa d)) ↔ d = pa c := ⟨fun h => by rw [cell_dev h, pa_pa], fun h => by rw [h, pa_pa]⟩
  simp only [hb, ha]

theorem owed_recv (d c : Dev nD) (i : Fin 22) : O₀ d (rcell c i) () = if d = peer i c then amt i else 0 := by
  rw [O₀_at, if_neg (fun h => msem_ne_bar (true, i) (congrArg Prod.snd h)), if_neg (fun h => msem_ne_bar (true, i) (congrArg Prod.snd h)), Nat.add_zero,
    Finset.sum_eq_single i]
  · have h : (rcell c i = rcell (peer i d) i) ↔ d = peer i c := ⟨fun h => by rw [cell_dev h, peer_peer], fun h => by rw [h, peer_peer]⟩
    simp only [h]
  · exact fun j _ hj => if_neg fun h => hj (congrArg Prod.snd (msem_inj (congrArg Prod.snd h : msem (true, i) = msem (true, j)))).symm
  · exact fun h => absurd (Finset.mem_univ i) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]

theorem launch_recv (c : Dev nD) (i : Fin 22) :
    tallyOn (rcell c i) (launchCredit (Pipeline.owing O₀) 0 (rcell c i)) = (tallyAt (rcell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer i c) fun _ => amt i, if_pos (Finset.mem_univ _)]

def rEmb : Fin 22 ↪ SemLoc sig := ⟨fun i => msem (true, i), fun _ _ h => congrArg Prod.snd (msem_inj h)⟩

omit [FloatOps F] in
theorem creds (c : Dev nD) : (Pipeline.launchCred O₀ c : sProp 𝕄)
    ⊢ iprop(cred (tallyAt (barCell c) () 2) ∗ bigSep Finset.univ fun i : Fin 22 => cred (tallyAt (rcell c i) () (amt i))) := by
  unfold Pipeline.launchCred
  rw [bigSep_univ_at _ (SemLoc.reg barS), launch_bar]
  refine BIClass.sep_mono .rfl ?_
  refine BIBase.Entails.trans (bigSep_subset (t := Finset.univ.map rEmb) fun x hx => ?_) ?_
  · obtain ⟨i, -, rfl⟩ := Finset.mem_map.mp hx
    exact Finset.mem_erase.mpr ⟨msem_ne_bar (true, i), Finset.mem_univ _⟩
  · rw [bigSep_map]
    exact Entails.of_eq (bigSep_congr fun i _ => congrArg cred (launch_recv c i))

/-! ## The launch's step -/

def u₀ : UU := (initOf (Pipeline.cells (cfgs) Gen.cellOf_inj) (Pipeline.launchToks (cfgs) Gen.cellOf_inj), (launchOf barCells scCells allToks, 1))

/-- All of a resource on one device. -/
def onDev (X : sProp 𝕄) (c : Dev nD) : sProp 𝕄 := if c = 0 then X else iprop(emp)
omit [FloatOps F] in
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.Entails.antisymm (show iprop(X ∗ emp) ⊢ X from by iintro ⟨H, -⟩; iexact H) (show X ⊢ iprop(X ∗ emp) from by iintro H; isplitl [H] <;> [iexact H; iempintro])

/-- The protocol's element of the launch. -/
def Seed : Dev nD → sProp 𝕄 := onDev (BI.own (ER (launchOf barCells scCells allToks)))

theorem seed : (ownU (u₀) : sProp 𝕄) ⊢ |={Set.univ}=> iprop(BI.own (EP (initOf (Pipeline.cells (cfgs) Gen.cellOf_inj) (Pipeline.launchToks (cfgs) Gen.cellOf_inj))) ∗ bigSep Finset.univ Seed) := by
  unfold u₀ Seed
  iintro Hu
  ihave H := (ownU_pair _ _) $$ Hu
  icases H with ⟨HP, HX⟩
  imodintro
  isplitl [HP]; · iexact HP
  rw [bigSep_onDev]; iexact HX

omit [FloatOps F] in
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (G : Dev nD → ℕ → ℕ → Elt F .f32)

/-- What rides beside the buffers: up to the call, and after it. -/
def E (k : Fin 2) (c : Dev nD) : sProp 𝕄 := match k with
  | 0 => iprop((∃ r, prngReg c r) ∗ Tk G c ∗ ∃ W, owes (c : Thread nD τ) (O₀ c) W)
  | 1 => iprop((∃ r, prngReg c r) ∗ semVal (barCell c) 0 ∗ ∃ W, owes (c : Thread nD τ) (0 : CellTallies nD τ sig Unit) W)

/-- A device's own part of the protocol's resources, and what it keeps of the launch's. -/
def own (c : Dev nD) : sProp 𝕄 :=
  iprop((bigSep Finset.univ fun p : Bool × Fin 22 => openTok ER (mcell c p)) ∗ pays c ∗ atPos ER (barCell c) 0 ∅ 0)
def keep (c : Dev nD) : sProp 𝕄 :=
  iprop((∃ r, prngReg c r) ∗ owes (c : Thread nD τ) (O₀ c) ∅ ∗ cred (tallyAt (barCell c) () 2) ∗ bigSep Finset.univ fun i : Fin 22 => cred (tallyAt (rcell c i) () (amt i)))

theorem E_intro (κ : GSem nD τ sig → ℕ) (c : Dev nD) : iprop(records G κ ∗ (own c ∗ keep c)) ⊢ E G 0 c := by
  show _ ⊢ iprop((∃ r, prngReg c r) ∗ Tk G c ∗ ∃ W, owes (c : Thread nD τ) (O₀ c) W)
  unfold own keep Tk
  iintro ⟨#HR, ⟨Ho, Hp, Hat⟩, Hr, HO, Hc, Hcr⟩
  ihave Hp := (pays_toks c) $$ Hp
  icases Hp with ⟨Ht, Ha, Hb⟩
  isplitl [Hr]; · iexact Hr
  isplitr [HO]
  · isplitl [Ho]
    · iexists κ
      isplitr; · iexact HR
      iexact Ho
    isplitl [Ht]; · iexact Ht
    isplitl [Ha]; · iexact Ha
    isplitl [Hb]; · iexact Hb
    isplitl [Hc]; · iexact Hc
    isplitl [Hat] <;> iassumption
  · iexists ∅; iexact HO

omit [FloatOps F] in
theorem zip {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
omit [FloatOps F] in
theorem unzip {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ Seed c)) ∗ levAts L lv)
      ⊢ (|={Set.univ}=> bigSep Finset.univ (E G 0) : sProp 𝕄) := by
  have hcore (c : Dev nD) : iprop(unscopedSems0 c ∗ owes (c : Thread nD τ) (O₀ c) ∅ ∗ Pipeline.launchCred O₀ c ∗ prngReg c (ρ c) ∗ Seed c)
      ⊢ (iprop(keep c ∗ (semVal (barCell c) 0 ∗ Seed c)) : sProp 𝕄) := by
    rw [unscopedSems_eq]
    unfold keep
    iintro ⟨Hus, HO, Hcr, Hp, HG⟩
    ihave Hc := (creds (F := F) c) $$ Hcr
    icases Hc with ⟨H1, HN⟩
    isplitl [H1 HN HO Hp]
    · isplitl [Hp]; · iexists (ρ c); iexact Hp
      isplitl [HO]; · iexact HO
      isplitl [H1] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun p : Bool × Fin 22 => openTok ER (mcell c p)) :=
    Entails.of_eq (by rw [bigSep_map, bigSep_univ_prod]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ Seed c))
      ⊢ (bigSep Finset.univ fun c : Dev nD => iprop(keep c ∗ (semVal (barCell c) 0 ∗ Seed c)) : sProp 𝕄) from bigSep_mono fun c _ => hcore c) $$ H
  ihave H2 := unzip $$ H'; icases H2 with ⟨HB, H3⟩
  ihave H4 := unzip $$ H3; icases H4 with ⟨Hv, HG⟩
  ihave Hu := (show bigSep Finset.univ (Seed (F := F)) ⊢ BI.own (ER (launchOf barCells scCells allToks)) from
    Entails.of_eq (bigSep_onDev (F := F) (BI.own (ER (launchOf barCells scCells allToks))))) $$ HG
  imod (Rounds.fund_launch ER (Rd G) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records G κ) (Φ := fun c => iprop(own c ∗ keep c)) fun c _ => E_intro G κ c)
  isplitr
  · unfold records
    isplitr; · iexact Hinv
    iexact Hr
  iapply zip
  isplitr [HB]
  · unfold own
    iapply zip; isplitl [Hopen]; · iapply hop $$ Hopen
    iapply zip; isplitr [Hat]
    · iapply (Entails.of_eq (toks_around (F := F)))
      iapply (Entails.of_eq (toks_eq (F := F))) $$ Htok
    iapply hat $$ Hat
  · iexact HB

end Launch

end Cert.GatherProof
end
-- ==== Proof.Run.lean ====
/- The run of the program: what every execution leaves on every device. -/
module

public import proofs.«01_k».proof.Proof.Launch

@[expose] public section

noncomputable section

namespace Cert.GatherProof

open Cert.KernelIdeal Cert.KernelIdeal.Gen Cert.Rows

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

local instance : Cert.KernelIdeal.Facts := Cert.KernelIdeal.Gen.facts

open Idealize.ShloMosaic.Pipeline (Dat RegionSeg Seg)
open Cert.KernelIdeal.Gen (adm V0 V9 V10 segs main_chain hostOps0 hostOps0_1 hostOps0_2 hostOps0_3 hostOps0_4 hostOps0_5 hostOps0_6 hostOps0_7 hostOps0_8)

section Run

variable (G : Dev nD → ℕ → ℕ → Elt F .f32) (m : (ℓ : Loc nD τ sig) → Buf (Elt F) ℓ)

/-- The result, and no other array, as the call leaves it. -/
def outs : Gen.Outs (F := F) := fun _ r c =>
  if h : r = main_v41 then h ▸ (mat 1024 0 (Fin1 G) : (main_v41 : Ref sig .tc).ty.Contents (Elt F)) else m ((c : Thread nD τ).loc r)

theorem out_val (c : Dev nD) : V10 m (outs G m) c = VO G (V9 m) c := by
  unfold VO
  show Function.update (V9 m c) _ (outs G m 10 main_v41 c) = _
  unfold outs
  rw [dif_pos rfl]

theorem held_split (c : Dev nD) (W : Valuation τ sig (Elt F)) :
    (StableHlo.held (c : Thread nD τ) (Pipeline.ucRefs τ sig) W : sProp 𝕄)
      = iprop(StableHlo.held (c : Thread nD τ) (Pipeline.arrRefs cfg0.spec) W ∗ StableHlo.held (c : Thread nD τ) Sr W) :=
  StableHlo.held_sub_split (c.tc : Thread nD τ) (by decide +kernel) W

variable (hG : Good G (V9 m))

set_option backward.isDefEq.respectTransparency.types false in
theorem region_pre (c : Dev nD) : iprop(StableHlo.held (c : Thread nD τ) (Pipeline.ucRefs τ sig) (V9 m c) ∗ E G 0 c) ⊢ (region G (V9 m) hG).pre c := by
  show _ ⊢ iprop(StableHlo.held (c.tc : Thread nD τ) (Pipeline.arrRefs cfg0.spec) (V9 m c) ∗ (∃ r, prngReg c r)
    ∗ (StableHlo.held (c.tc : Thread nD τ) Sr (V9 m c) ∗ emp) ∗ Tk G c ∗ ∃ Wd, owes (c : Thread nD τ) (0 + O₀ c) Wd)
  rw [held_split, zero_add]
  show iprop(_ ∗ (∃ r, prngReg c r) ∗ Tk G c ∗ ∃ W, owes (c : Thread nD τ) (O₀ c) W) ⊢ _
  iintro ⟨⟨H1, H2⟩, H3, H4, H5⟩
  isplitl [H1]; · iexact H1
  isplitl [H3]; · iexact H3
  isplitl [H2]
  · isplitl [H2]; · iexact H2
    iempintro
  isplitl [H4] <;> iassumption

set_option backward.isDefEq.respectTransparency.types false in
theorem region_post (c : Dev nD) : (region G (V9 m) hG).post c ⊢ iprop(StableHlo.held (c : Thread nD τ) (Pipeline.ucRefs τ sig) (V10 m (outs G m) c) ∗ E G 1 c) := by
  rw [out_val]
  generalize V9 m = V at *
  show iprop(StableHlo.held (c.tc : Thread nD τ) (Pipeline.arrRefs cfg0.spec) (VO G V c) ∗ (∃ r, prngReg c r)
    ∗ (StableHlo.held (c.tc : Thread nD τ) Sr (VO G V c) ∗ emp) ∗ semVal (barCell c) 0 ∗ ∃ Wd, owes (c : Thread nD τ) 0 Wd) ⊢ _
  rw [held_split]
  show _ ⊢ iprop(_ ∗ (∃ r, prngReg c r) ∗ semVal (barCell c) 0 ∗ ∃ W, owes (c : Thread nD τ) (0 : CellTallies nD τ sig Unit) W)
  iintro ⟨H1, H3, ⟨H2, -⟩, H4, H5⟩
  isplitl [H1 H2]
  · isplitl [H1] <;> iassumption
  isplitl [H3]; · iexact H3
  isplitl [H4] <;> iassumption

theorem unscoped_eq : ∀ sm : SemLoc sig, sm.isScoped .tc = false → sm = .reg barS := by decide +kernel

variable (ρ : Dev nD → PrngReg)

set_option backward.isDefEq.respectTransparency.types false in
include hG in
/-- Every execution ends, with the arguments as they were, the sum of the gathered rows on every device, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v41) = (mat 1024 0 (Fin1 G) : (main_v41 : Ref sig .tc).ty.Contents (Elt F))) ∧ r.2.sem = fun _ => 0) := by
  refine Pipeline.θ_run_regions_kit_dev_sems (pcfgs (F := F)) adm (pdats G (V9 m)) () Gen.cellOf_inj EP defs₀ 𝒱₀ L lv m ρ main
    (segs m 𝒱₀ L lv (E G) () (pdats G (V9 m)) (region G (V9 m) hG))
    (fun c Q => by
      rewrite [main_chain c, Seg.run_eq_chain,
        show (segs m 𝒱₀ L lv (E G) () (pdats G (V9 m)) (region G (V9 m) hG) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()) ] from rfl]
      dsimp (config := { failIfUnchanged := false }) only
      first | with_reducible exact .rfl | exact BI.Entails.of_eq rfl | (set_option maxRecDepth 8000 in exact .rfl))
    (fun c => by simp only [segs, Seg.pipes_host, Seg.pipes_region, Seg.pipes_nil]; decide) O₀ L_of_ne Seed u₀ seed
    (T₀ := fun c => iprop(StableHlo.held (c : Thread nD τ) (Pipeline.ucRefs τ sig) (V0 m c) ∗ E G 0 c))
    (Tₙ := fun c => iprop(StableHlo.held (c : Thread nD τ) (Pipeline.ucRefs τ sig) (V10 m (outs G m) c) ∗ semVal (barCell c) 0))
    (hch := fun c => ⟨.rfl, .rfl, .rfl, .rfl, .rfl, .rfl, .rfl, .rfl, .rfl, region_pre G m hG c, (region_post G m hG c).trans ?_⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_v41) = (mat 1024 0 (Fin1 G) : (main_v41 : Ref sig .tc).ty.Contents (Elt F))) ∧ s.sem (barCell c) = 0)
    (hfin := fun c s' => ?_)
    (hQ := fun s h hs => ⟨fun c => (h c).1, sem_eq_zero hs fun c sm hsm => by
      obtain rfl := unscoped_eq sm hsm
      exact (h c).2⟩)
  · show iprop(_ ∗ (∃ r, prngReg c r) ∗ semVal (barCell c) 0 ∗ ∃ W, owes (c : Thread nD τ) (0 : CellTallies nD τ sig Unit) W) ⊢ _
    iintro ⟨H1, -, H2, H3⟩
    isplitr [H3]
    · isplitl [H1] <;> iassumption
    · iexact H3
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ Seed c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ Seed c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init G ρ) $$ [Hr Hla] with HE
    · isplitl [Hr]; · iexact Hr
      iexact Hla
    imodintro
    rw [bigSep_sep']
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V10 m (outs G m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (Gen.V10_main_arg0 m _ c),
        (h (Proc.devRef .tc main_arg1) (Finset.mem_filter.mpr ⟨StableHlo.devRef_mem_tcRefs main_arg1, by decide⟩)).trans (Gen.V10_main_arg1 m _ c),
        (h (Proc.devRef .tc main_v41) (Finset.mem_filter.mpr ⟨StableHlo.devRef_mem_tcRefs main_v41, by decide⟩)).trans
          ((congrFun (out_val G m c) _).trans (Function.update_self (Proc.devRef .tc main_v41) _ (V9 m c)))⟩, by simpa using hb⟩
    · iexact HSI

end Run

end Cert.GatherProof
end
-- ==== Proof.Counts.lean ====
/- Sums of words as sums of numbers, and the list that a running count makes of the numbers with a property. -/
module

public import Idealize.ShloMosaic.Lib.Routing.Ops
public import Idealize.ShloMosaic.Lib.Routing.OneHot

@[expose] public section

noncomputable section

namespace Cert.Counts

open Idealize.ShloMosaic Idealize.ShloMosaic.Routing Idealize.ShloMosaic.ValueIdx

/-! ## Words -/

/-- A sum of words that hold numbers holds the sum of the numbers. -/
theorem fold_words {n : ℕ} (g : Fin n → BitVec 32) (f : ℕ → ℕ) (h : ∀ k : Fin n, g k = BitVec.ofNat 32 (f k.val)) :
    Finset.univ.fold IntOp.addi 0#32 g = BitVec.ofNat 32 (((List.range n).map f).sum) := by
  have hl : ∀ n : ℕ, ((List.range n).map f).sum = ∑ k ∈ Finset.range n, f k := fun n => by
    induction n with
    | zero => rfl
    | succ n ih => rw [List.sum_range_succ, Finset.sum_range_succ, ih]
  rw [hl]
  have h1 : Finset.univ.fold IntOp.addi 0#32 g = ∑ k : Fin n, g k := (Finset.sum_eq_fold _ _).symm
  rw [h1, Finset.sum_range, Finset.sum_congr rfl fun k _ => h k]
  generalize (Finset.univ : Finset (Fin n)) = s
  induction s using Finset.induction_on with
  | empty => rfl
  | insert a s ha ih =>
    rw [Finset.sum_insert ha, Finset.sum_insert ha, ih]
    exact (BitVec.ofNat_add _ _).symm

/-- A running sum along the rows of a table, padded with zeros in front: at column `j` it holds the sum of the row up to `j`. -/
theorem running {A N K : ℕ} (hN : K + 1 = N) (x : IVec (shape2 A N) 32) (f : ℕ → ℕ) (a : Fin A) (hx : ∀ i : Fin N, x (ix2 a i) = BitVec.ofNat 32 (f i.val))
    (z : IVec shape0 32) (hz : z ix0 = 0#32)
    (h : (shape2 A N).ReduceWindows (![1, N] : Fin 2 → ℕ) ![1, 1] ![0, K] ![0, 0] (shape2 A N)) (hu : 0 < shape0.numel) (j : Fin N) :
    Host.reduceWindow IntOp.addi ![1, N] ![1, 1] ![0, K] ![0, 0] x z h hu (ix2 a j) = BitVec.ofNat 32 (((List.range (j.val + 1)).map f).sum) := by
  subst hN
  have hzero : z (Shape.Idx.first hu) = BitVec.ofNat 32 0 := by rw [eq_ix0 (Shape.Idx.first hu), hz]
  have hj := j.isLt
  have key : ∀ n : Fin (shape2 1 (K + 1)).numel, ((shape2 1 (K + 1)).rowMajor.symm n 0).val = 0 ∧ ((shape2 1 (K + 1)).rowMajor.symm n 1).val = n.val :=
    fun n => by rw [symm2]; exact ⟨rfl, rfl⟩
  have hmap := map_finRange_val (shape2 1 (K + 1)).numel fun w => if K ≤ j.val + w then f (j.val + w - K) else 0
  unfold Host.reduceWindow
  refine (foldl_addi_ofNat _ _ (fun n => if K ≤ j.val + n.val then f (j.val + n.val - K) else 0) ?_ _ 0 hzero).trans ?_
  · intro n _
    obtain ⟨k0, k1⟩ := key n
    have hn : n.val < K + 1 := (n.cast (numel2 _)).isLt
    dsimp only
    by_cases hc : K ≤ j.val + n.val
    · rw [dif_pos, if_pos hc]
      · rw [← hx ⟨j.val + n.val - K, by omega⟩]
        refine congrArg x (funext fun b => Fin.ext ?_)
        match b with
        | ⟨0, _⟩ => show a.val * 1 + ((shape2 1 (K + 1)).rowMajor.symm n 0).val - 0 = a.val; omega
        | ⟨1, _⟩ => show j.val * 1 + ((shape2 1 (K + 1)).rowMajor.symm n 1).val - K = j.val + n.val - K; omega
      · intro b
        match b with
        | ⟨0, _⟩ =>
          show 0 ≤ a.val * 1 + ((shape2 1 (K + 1)).rowMajor.symm n 0).val ∧ a.val * 1 + ((shape2 1 (K + 1)).rowMajor.symm n 0).val - 0 < A
          have := a.isLt; omega
        | ⟨1, _⟩ =>
          show K ≤ j.val * 1 + ((shape2 1 (K + 1)).rowMajor.symm n 1).val ∧ j.val * 1 + ((shape2 1 (K + 1)).rowMajor.symm n 1).val - K < K + 1
          omega
    · rw [dif_neg, if_neg hc]
      · exact hzero
      · intro hall
        have h1 := (hall 1).1
        change K ≤ j.val * 1 + ((shape2 1 (K + 1)).rowMajor.symm n 1).val at h1
        omega
  · rw [Nat.zero_add, hmap, numel2, sum_window f K j.val (by omega)]

/-- Whether a word is, as a signed number, from 0 to 8191. -/
theorem in_table (w : BitVec 32) : IntOp.andi (IntOp.cmpi .sge w 0#32) (IntOp.cmpi .slt w 8192#32) = if w.toNat < 8192 then 1#1 else 0#1 := by
  have h : BitVec.sle 0#32 w = decide (w.toNat < 2147483648) := by
    rw [Bool.eq_iff_iff, BitVec.sle_iff_toInt_le, decide_eq_true_iff, BitVec.toInt_eq_toNat_cond, BitVec.toInt_eq_toNat_cond]
    have := w.isLt
    simp only [BitVec.toNat_ofNat]
    split <;> split <;> omega
  have h' : BitVec.slt w 8192#32 = decide (w.toNat < 8192 ∨ 2147483648 ≤ w.toNat) := by
    rw [Bool.eq_iff_iff, BitVec.slt_iff_toInt_lt, decide_eq_true_iff, BitVec.toInt_eq_toNat_cond, BitVec.toInt_eq_toNat_cond]
    have := w.isLt
    simp only [BitVec.toNat_ofNat]
    split <;> split <;> omega
  show BitVec.ofBool (BitVec.sle 0#32 w) &&& BitVec.ofBool (BitVec.slt w 8192#32) = _
  rw [h, h']
  by_cases h1 : w.toNat < 8192
  · rw [if_pos h1, decide_eq_true (by omega), decide_eq_true (by omega)]; rfl
  · rw [if_neg h1]
    by_cases h2 : w.toNat < 2147483648
    · rw [decide_eq_true h2, decide_eq_false (by omega)]; rfl
    · rw [decide_eq_false h2]; exact BitVec.zero_and

/-- A clamp to the rows of the table leaves a row of the table. -/
theorem clamp (n : ℕ) (h : n < 8192) : IntOp.minsi 8191#32 (IntOp.maxsi 0#32 (BitVec.ofNat 32 n)) = BitVec.ofNat 32 n := by
  have h1 : (BitVec.ofNat 32 n).toInt = n := by
    rw [BitVec.toInt_eq_toNat_cond, BitVec.toNat_ofNat]
    split <;> omega
  have h2 : IntOp.maxsi 0#32 (BitVec.ofNat 32 n) = BitVec.ofNat 32 n := by
    unfold IntOp.maxsi
    simp only [BitVec.slt, BitVec.sle, h1]
    split <;> simp_all <;> omega
  rw [h2]
  unfold IntOp.minsi
  simp only [BitVec.slt, BitVec.sle, h1]
  split <;> simp_all <;> omega

/-! ## The numbers with a property -/

section

variable (P : ℕ → Prop) [DecidablePred P] (C : ℕ)

/-- The `j`-th number below `C` with the property, or 0. -/
def nth (j : ℕ) : ℕ := ((List.range C).filter fun i => decide (P i)).getD j 0

theorem len : ((List.range C).filter fun i => decide (P i)).length = Nat.count P C := length_filter_range P C

theorem nth_at (j : ℕ) (h : j < Nat.count P C) : ∃ h' : j < ((List.range C).filter fun i => decide (P i)).length, nth P C j = ((List.range C).filter fun i => decide (P i))[j] :=
  ⟨(len P C).symm ▸ h, List.getD_eq_getElem _ _ _⟩

theorem nth_spec (j : ℕ) (h : j < Nat.count P C) : nth P C j < C ∧ P (nth P C j) := by
  obtain ⟨h', e⟩ := nth_at P C j h
  have := List.mem_filter.1 (List.getElem_mem h')
  rw [← e] at this
  exact ⟨List.mem_range.1 this.1, of_decide_eq_true this.2⟩

theorem nth_inj (i j : ℕ) (hi : i < Nat.count P C) (hj : j < Nat.count P C) (e : nth P C i = nth P C j) : i = j := by
  obtain ⟨hi', ei⟩ := nth_at P C i hi
  obtain ⟨hj', ej⟩ := nth_at P C j hj
  exact (List.Nodup.getElem_inj_iff (List.Nodup.filter _ List.nodup_range)).1 (ei.symm.trans (e.trans ej))

theorem nth_surj (i : ℕ) (hi : i < C) (h : P i) : ∃ j < Nat.count P C, nth P C j = i := by
  obtain ⟨j, hj, e⟩ := List.mem_iff_getElem.1 (List.mem_filter.2 ⟨List.mem_range.2 hi, decide_eq_true h⟩ : i ∈ (List.range C).filter fun i => decide (P i))
  have hj' : j < Nat.count P C := len P C ▸ hj
  exact ⟨j, hj', (nth_at P C j hj').2.trans e⟩

/-- The sum that picks, of the numbers with the property, the value at the `j`-th. -/
theorem pick (f : ℕ → ℕ) (j : ℕ) : ((List.range C).map fun i => if P i ∧ Nat.count P i = j then f i else 0).sum = if j < Nat.count P C then f (nth P C j) else 0 :=
  sum_oneHot P f C j

end

end Cert.Counts

end
-- ==== Proof.Host.lean ====
/- What the host computes of the row numbers: of each group of 128 of them, those of this device in order, and their count. -/
module

public import proofs.«01_k».proof.Proof.Run
public import proofs.«01_k».proof.Proof.Counts
public import Idealize.ShloMosaic.Lib.StableHlo.ReadAt

@[expose] public section

noncomputable section

namespace Cert.HostWords

open Cert.KernelIdeal Cert.KernelIdeal.Gen Cert.Rows Cert.GatherProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local instance : Cert.KernelIdeal.Facts := Cert.KernelIdeal.Gen.facts

open Cert.Counts

variable (m : (ℓ : Loc nD τ sig) → Buf (Elt F) ℓ) (c : Dev nD)

/-- The row numbers that the device is given. -/
def ids : ℕ → BitVec 32 := tab 0#32 1024 (m ((c.tc : Thread nD τ).loc main_arg0))
/-- The same, counted from the first row of the device's table. -/
def lw (k : ℕ) : BitVec 32 := IntOp.subi (ids m c k) (BitVec.ofNat 32 (8192 * c.val))
/-- The row is one of the device's table. -/
def hit (k : ℕ) : Prop := (lw m c k).toNat < 8192
instance : DecidablePred (hit m c) := fun k => inferInstanceAs (Decidable (_ < _))
/-- The same of the rows of group `a`. -/
def hits (a i : ℕ) : Prop := hit m c (a * 128 + i)
instance (a : ℕ) : DecidablePred (hits m c a) := fun i => inferInstanceAs (Decidable (hit m c _))

theorem first : IntOp.muli (id (Host.remui (Host.divui (constantI S_ 32 c.word) (constantI S_ 32 1#32)) (constantI S_ 32 4#32)) ix0) 8192#32
    = BitVec.ofNat 32 (8192 * c.val) := by
  show IntOp.muli (IntOp.remui .host (IntOp.divui .host c.word 1#32) 4#32) 8192#32 = _
  unfold IntOp.remui IntOp.divui
  rw [if_neg (by decide), if_neg (by decide)]
  revert c
  decide

theorem ids_at (k : ℕ) (h : k < 1024) : (V0 m c main_arg0 : S1024.Idx → BitVec 32) (ix1 ⟨k, h⟩) = ids m c k := by
  unfold ids tab
  rw [dif_pos h]
  exact congrArg (V0 m c main_arg0 : S1024.Idx → BitVec 32) (funext fun a => match a with | ⟨0, _⟩ => rfl)

theorem v14 (a : Fin 8) (i : Fin 128) : (V1 m c main_v14 : S8x128.Idx → BitVec 32) (ix2 a i) = lw m c (a.val * 128 + i.val) := by
  unfold V1
  after_reads_at
  exact congrArg₂ IntOp.subi (ids_at m c _ _) (first c)

theorem v13 (a : Fin 8) (i : Fin 128) : (V1 m c main_v13 : S8x128.Idx → BitVec 1) (ix2 a i) = if hits m c a.val i.val then 1#1 else 0#1 := by
  unfold V1
  after_reads_at
  exact (congrArg (fun w => IntOp.andi (IntOp.cmpi .sge w 0#32) (IntOp.cmpi .slt w 8192#32)) (congrArg₂ IntOp.subi (ids_at m c _ _) (first c))).trans (in_table _)

theorem v16 (a : Fin 8) (i : Fin 128) : (V1 m c main_v16 : S8x128.Idx → BitVec 32) (ix2 a i) = BitVec.ofNat 32 (a.val * 128 + i.val) := by
  unfold V1
  after_reads_at

theorem v17 (a : Fin 8) (i : Fin 128) : (V1 m c main_v17 : S8x128.Idx → BitVec 32) (ix2 a i) = BitVec.ofNat 32 (if hits m c a.val i.val then 1 else 0) := by
  unfold V1
  after_reads_at
  refine (congrArg (BitVec.setWidth 32) ((congrArg (fun w => IntOp.andi (IntOp.cmpi .sge w 0#32) (IntOp.cmpi .slt w 8192#32))
    (congrArg₂ IntOp.subi (ids_at m c _ _) (first c))).trans (in_table _))).trans ?_
  show BitVec.setWidth 32 (if hits m c a.val i.val then 1#1 else 0#1) = _
  split <;> rfl

/-- The count of the device's rows of the group, up to and with the `j`-th. -/
theorem v18 (a : Fin 8) (j : Fin 128) : (V2 m c main_v18 : S8x128.Idx → BitVec 32) (ix2 a j) = BitVec.ofNat 32 (Nat.count (hits m c a.val) (j.val + 1)) := by
  unfold V2
  have h := v17 m c a
  generalize V1 m c = W at h
  after_reads_simp
  simp -implicitDefEqProofs only [StableHlo.TRef.toBuf, StableHlo.TRef.ofBuf, cast_cast, cast_eq]
  refine (running (K := 127) rfl _ (fun i => if hits m c a.val i then 1 else 0) a (fun i => h i) _ rfl _ _ j).trans ?_
  rw [Idealize.ShloMosaic.Routing.sum_map_ite]

theorem v29 (a : Fin 8) (i j : Fin 128) : (V3 m c main_v29 : S8x128x128.Idx → BitVec 1) (ix3 a i j)
    = if hits m c a.val i.val ∧ Nat.count (hits m c a.val) i.val = j.val then 1#1 else 0#1 := by
  unfold V3
  have h1 := v18 m c a i
  have h2 : (V2 m c main_v13 : S8x128.Idx → BitVec 1) (ix2 a i) = _ := (congrFun (V2_of m c main_v13 (by decide)) _).trans (v13 m c a i)
  generalize V2 m c = W at h1 h2
  after_reads_at
  refine (congrArg₂ (fun x y => IntOp.andi (IntOp.cmpi .eq (IntOp.subi x 1#32) (BitVec.ofNat 32 j.val)) y) h1 h2).trans ?_
  have hle : Nat.count (hits m c a.val) i.val ≤ i.val := Nat.count_le _
  have hi := i.isLt
  have hj := j.isLt
  rw [Nat.count_succ]
  by_cases hh : hits m c a.val i.val
  · rw [if_pos hh, if_pos hh, show IntOp.subi (BitVec.ofNat 32 (Nat.count (hits m c a.val) i.val + 1)) 1#32 = BitVec.ofNat 32 (Nat.count (hits m c a.val) i.val) by
      show BitVec.ofNat 32 _ - 1#32 = _
      rw [BitVec.ofNat_add]
      exact BitVec.add_sub_cancel _ _]
    generalize Nat.count (hits m c a.val) i.val = n at *
    show BitVec.ofBool (BitVec.ofNat 32 n == BitVec.ofNat 32 j.val) &&& 1#1 = _
    by_cases hn : n = j.val
    · rw [if_pos ⟨hh, hn⟩, hn, beq_self_eq_true]; rfl
    · rw [if_neg fun h => hn h.2, beq_eq_false_iff_ne.2 fun h => hn (by
        have := congrArg BitVec.toNat h
        simp only [BitVec.toNat_ofNat] at this
        omega)]; rfl
  · rw [if_neg hh, if_neg hh, if_neg (fun h : _ ∧ _ => hh h.1)]
    exact BitVec.and_zero

/-- The value, where the `i`-th row of the group is the device's `j`-th. -/
theorem chosen (a : Fin 8) (i j : Fin 128) (x y : BitVec 32) (f : ℕ → ℕ) (hx : x = BitVec.ofNat 32 (f i.val)) (hy : y = 0#32) (b : BitVec 1)
    (hb : b = if hits m c a.val i.val ∧ Nat.count (hits m c a.val) i.val = j.val then 1#1 else 0#1) :
    Scalar.select b x y = BitVec.ofNat 32 (if hits m c a.val i.val ∧ Nat.count (hits m c a.val) i.val = j.val then f i.val else 0) := by
  subst hx hy hb
  split <;> rfl

theorem v31 (a : Fin 8) (i j : Fin 128) : (V4 m c main_v31 : S8x128x128.Idx → BitVec 32) (ix3 a i j)
    = BitVec.ofNat 32 (if hits m c a.val i.val ∧ Nat.count (hits m c a.val) i.val = j.val then a.val * 128 + i.val else 0) := by
  unfold V4
  have h1 := v29 m c a i j
  have h2 : (V3 m c main_v30 : S8x128x1.Idx → BitVec 32) (ix3 a i 0) = BitVec.ofNat 32 (a.val * 128 + i.val) := by
    have h := (congrFun (V2_of m c main_v16 (by decide)) _).trans (v16 m c a i)
    unfold V3
    generalize V2 m c = W at h
    after_reads_at
    exact h
  have h3 : (V3 m c main_c_5 : S_.Idx → BitVec 32) ix0 = 0#32 := by
    unfold V3
    generalize V2 m c = W
    after_reads_at
  generalize V3 m c = W at h1 h2 h3
  after_reads_at
  exact chosen m c a i j _ _ (fun i => a.val * 128 + i) h2 h3 _ h1

theorem v33 (k : Fin 1024) : (V5 m c main_v33 : S1024.Idx → BitVec 32) (ix1 k)
    = BitVec.ofNat 32 (if k.val % 128 < Nat.count (hits m c (k.val / 128)) 128 then k.val / 128 * 128 + nth (hits m c (k.val / 128)) 128 (k.val % 128) else 0) := by
  unfold V5
  have h := fun (a : Fin 8) (j : Fin 128) i => v31 m c a i j
  generalize V4 m c = W at h
  after_reads_at
  have hk := k.isLt
  exact (fold_words _ _ fun i => h ⟨k.val / 128, by omega⟩ ⟨k.val % 128, by omega⟩ i).trans (congrArg _ (pick _ 128 (fun i => k.val / 128 * 128 + i) _))

theorem v35 (a : Fin 8) (i j : Fin 128) : (V6 m c main_v35 : S8x128x128.Idx → BitVec 32) (ix3 a i j)
    = BitVec.ofNat 32 (if hits m c a.val i.val ∧ Nat.count (hits m c a.val) i.val = j.val then (lw m c (a.val * 128 + i.val)).toNat else 0) := by
  unfold V6
  have h1 : (V5 m c main_v29 : S8x128x128.Idx → BitVec 1) (ix3 a i j) = _ :=
    (congrFun ((V5_of m c main_v29 (by decide)).trans (V4_of m c main_v29 (by decide))) _).trans (v29 m c a i j)
  have h2 : (V5 m c main_v34 : S8x128x1.Idx → BitVec 32) (ix3 a i 0) = lw m c (a.val * 128 + i.val) := by
    have h := (congrFun ((V4_of m c main_v14 (by decide)).trans ((V3_of m c main_v14 (by decide)).trans (V2_of m c main_v14 (by decide)))) _).trans (v14 m c a i)
    unfold V5
    generalize V4 m c = W at h
    after_reads_at
    exact h
  have h3 : (V5 m c main_c_7 : S_.Idx → BitVec 32) ix0 = 0#32 := by
    unfold V5
    generalize V4 m c = W
    after_reads_at
  generalize V5 m c = W at h1 h2 h3
  after_reads_at
  exact chosen m c a i j _ _ (fun i => (lw m c (a.val * 128 + i)).toNat) (h2.trans (by show _ = BitVec.ofNat 32 (BitVec.toNat _); rw [BitVec.ofNat_toNat, BitVec.setWidth_eq])) h3 _ h1

theorem v36 (a : Fin 8) (j : Fin 128) : (V7 m c main_v36 : S8x128.Idx → BitVec 32) (ix2 a j)
    = BitVec.ofNat 32 (if j.val < Nat.count (hits m c a.val) 128 then (lw m c (a.val * 128 + nth (hits m c a.val) 128 j.val)).toNat else 0) := by
  unfold V7
  have h := fun i => v35 m c a i j
  generalize V6 m c = W at h
  after_reads_at
  exact (fold_words _ _ h).trans (congrArg _ (pick _ 128 (fun i => (lw m c (a.val * 128 + i)).toNat) _))

theorem v37 (a : Fin 8) (j : Fin 128) : (V8 m c main_v37 : S8x128.Idx → BitVec 32) (ix2 a j)
    = BitVec.ofNat 32 (if j.val < Nat.count (hits m c a.val) 128 then (lw m c (a.val * 128 + nth (hits m c a.val) 128 j.val)).toNat else 0) := by
  unfold V8
  have h1 := v36 m c a j
  have h2 : (V7 m c main_c_9 : S_.Idx → BitVec 32) ix0 = 0#32 := by
    unfold V7
    generalize V6 m c = W
    after_reads_at
  have h3 : (V7 m c main_c_10 : S_.Idx → BitVec 32) ix0 = 8191#32 := by
    unfold V7
    generalize V6 m c = W
    after_reads_at
  generalize V7 m c = W at h1 h2 h3
  after_reads_at
  refine (congr (congrArg₂ (fun x y z => IntOp.minsi x (IntOp.maxsi y z)) h3 h2) h1).trans (clamp _ ?_)
  split
  · next h => exact (nth_spec (hits m c a.val) 128 j.val h).2
  · decide

theorem v38 (k : Fin 1024) : (V9 m c main_v38 : S1024.Idx → BitVec 32) (ix1 k)
    = BitVec.ofNat 32 (if k.val % 128 < Nat.count (hits m c (k.val / 128)) 128 then (lw m c (k.val / 128 * 128 + nth (hits m c (k.val / 128)) 128 (k.val % 128))).toNat else 0) := by
  unfold V9
  have hk := k.isLt
  have h := v37 m c ⟨k.val / 128, by omega⟩ ⟨k.val % 128, by omega⟩
  generalize V8 m c = W at h
  after_reads_at
  exact h

theorem v40 (a : Fin 8) : (V9 m c main_v40 : S8.Idx → BitVec 32) (ix1 a) = BitVec.ofNat 32 (Nat.count (hits m c a.val) 128) := by
  unfold V9
  have h : (V8 m c main_v18 : S8x128.Idx → BitVec 32) (ix2 a 127) = _ := (congrFun ((V8_of m c main_v18 (by decide)).trans ((V7_of m c main_v18 (by decide)).trans
    ((V6_of m c main_v18 (by decide)).trans ((V5_of m c main_v18 (by decide)).trans ((V4_of m c main_v18 (by decide)).trans (V3_of m c main_v18 (by decide))))))) _).trans (v18 m c a 127)
  generalize V8 m c = W at h
  after_reads_at
  exact h

end Cert.HostWords
end
-- ==== Proof.Tables.lean ====
/- The tables that the host hands to the kernel say which rows of the gathered matrix are rows of the device's table. -/
module

public import proofs.«01_k».proof.Proof.Host

@[expose] public section

noncomputable section

namespace Cert.GatherProof

open Cert.KernelIdeal Cert.KernelIdeal.Gen Cert.Rows Cert.HostWords Cert.Counts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local instance : Cert.KernelIdeal.Facts := Cert.KernelIdeal.Gen.facts

variable (m : (ℓ : Loc nD τ sig) → Buf (Elt F) ℓ)

/-- What a device gathers: the rows of its own table, and zeros where the row is another device's. -/
def Own (c : Dev nD) (t j : ℕ) : Elt F .f32 := if hit m c t then tab2 zero 8192 (m ((c.tc : Thread nD τ).loc main_arg1)) (lw m c t).toNat j else zero

theorem Em_eq (c : Dev nD) : Em (V9 m) c = tab2 zero 8192 (m ((c.tc : Thread nD τ).loc main_arg1)) := by
  unfold Em
  rw [show V9 m c main_arg1 = m ((c.tc : Thread nD τ).loc main_arg1) from
    (V9_of m c main_arg1 (by decide)).trans ((V8_of m c main_arg1 (by decide)).trans ((V7_of m c main_arg1 (by decide)).trans
    ((V6_of m c main_arg1 (by decide)).trans ((V5_of m c main_arg1 (by decide)).trans ((V4_of m c main_arg1 (by decide)).trans
    ((V3_of m c main_arg1 (by decide)).trans ((V2_of m c main_arg1 (by decide)).trans (V1_of m c main_arg1 (by decide)))))))))]

theorem tab_ix {α : Type} (z : α) (n : ℕ) (X : (⟨1, ![n]⟩ : Shape).Idx → α) (k : ℕ) (h : k < n) : tab z n X k = X (ix1 ⟨k, h⟩) := by
  unfold tab
  rw [dif_pos h]
  exact congrArg X (funext fun a => match a with | ⟨0, _⟩ => rfl)

section

variable (c : Dev nD) (r : ℕ) (hr : r < 8)

include hr

theorem cnt_at : (cntW (V9 m) c r).toNat = Nat.count (hits m c r) 128 := by
  have h : cntW (V9 m) c r = BitVec.ofNat 32 (Nat.count (hits m c r) 128) := (tab_ix _ _ _ r hr).trans (v40 m c ⟨r, hr⟩)
  rw [h, BitVec.toNat_ofNat, Nat.mod_eq_of_lt]
  exact lt_of_le_of_lt (Nat.count_le _) (by decide)

theorem pos_at (j : ℕ) (hj : j < Nat.count (hits m c r) 128) : prow (posW (V9 m) c) r j = 128 * r + nth (hits m c r) 128 j := by
  have h128 : j < 128 := lt_of_lt_of_le hj (Nat.count_le _)
  have hn := (nth_spec (hits m c r) 128 j hj).1
  have h := (tab_ix 0#32 1024 (V9 m c main_v33) (128 * r + j) (by omega)).trans
    ((congrFun ((V9_of m c main_v33 (by decide)).trans ((V8_of m c main_v33 (by decide)).trans ((V7_of m c main_v33 (by decide)).trans (V6_of m c main_v33 (by decide))))) _).trans
      (v33 m c ⟨128 * r + j, by omega⟩))
  dsimp only at h
  rw [show (128 * r + j) % 128 = j by omega, show (128 * r + j) / 128 = r by omega, if_pos hj] at h
  unfold prow
  rw [show posW (V9 m) c (128 * r + j) = _ from h, BitVec.toNat_ofNat]
  omega

theorem idx_at (j : ℕ) (hj : j < Nat.count (hits m c r) 128) : trow (idxW (V9 m) c) r j = (lw m c (128 * r + nth (hits m c r) 128 j)).toNat := by
  have h128 : j < 128 := lt_of_lt_of_le hj (Nat.count_le _)
  have h := (tab_ix 0#32 1024 (V9 m c main_v38) (128 * r + j) (by omega)).trans (v38 m c ⟨128 * r + j, by omega⟩)
  dsimp only at h
  rw [show (128 * r + j) % 128 = j by omega, show (128 * r + j) / 128 = r by omega, if_pos hj, BitVec.ofNat_toNat, BitVec.setWidth_eq, Nat.mul_comm r] at h
  unfold trow
  rw [show idxW (V9 m) c (128 * r + j) = _ from h]

end

theorem good : Good (Own m) (V9 m) where
  count c r hr := by
    rw [cnt_at m c r hr]
    exact Nat.count_le _
  region c r hr := by
    rw [cnt_at m c r hr, Em_eq]
    have hit_of : ∀ j, j < Nat.count (hits m c r) 128 → hit m c (128 * r + nth (hits m c r) 128 j) := fun j hj => by
      have h : hit m c (r * 128 + nth (hits m c r) 128 j) := (nth_spec (hits m c r) 128 j hj).2
      rwa [Nat.mul_comm r 128] at h
    refine ⟨fun j hj => ?_, fun i j hi hj h => ?_, fun j hj => ?_, fun j hj t ht => ?_, fun i h0 h1 hne t ht => ?_⟩
    · rw [pos_at m c r hr j hj]
      have := (nth_spec (hits m c r) 128 j hj).1
      omega
    · rw [pos_at m c r hr i hi, pos_at m c r hr j hj] at h
      exact nth_inj (hits m c r) 128 i j hi hj (by omega)
    · rw [idx_at m c r hr j hj]
      exact hit_of j hj
    · rw [idx_at m c r hr j hj, pos_at m c r hr j hj]
      unfold Own
      rw [if_pos (hit_of j hj)]
    · unfold Own
      rw [if_neg fun h => ?_]
      obtain ⟨j, hj, e⟩ := nth_surj (hits m c r) 128 (i - 128 * r) (by omega) (by
        unfold hits
        rw [show r * 128 + (i - 128 * r) = i by omega]
        exact h)
      refine hne j hj ?_
      rw [pos_at m c r hr j hj]
      omega

end Cert.GatherProof
end
-- ==== Proof.Reference.lean ====
/- What the reference computes: of each row number, that row of the whole table. -/
module

public import proofs.«01_k».proof.Proof.Tables
public import proofs.«01_k».proof.Defs
public import Idealize.ShloMosaic.Lib.Claim
public import proofs.«01_k».proof.Proof.Gen.ReferenceIdeal

@[expose] public section

noncomputable section

namespace Cert.Reference

open Cert.ReferenceIdeal Cert.Rows
open Cert.GatherProof (tab tab2 tab_ix)
open Idealize.ShloMosaic Idealize.ShloMosaic.TcCoe Idealize.SL.Sem
open Idealize.ShloMosaic.Routing (gather_row)

local instance : Cert.ReferenceIdeal.Facts := Cert.ReferenceIdeal.Gen.facts
open Facts₀

variable (ids : IVec S1024 32) (T : FVec Ideal S32768x1024 .f32)

/-- The rows of the table that the numbers name. -/
def picked (t j : ℕ) : Elt Ideal .f32 := tab2 (zero (F := Ideal)) 32768 T (tab 0#32 1024 ids t).toNat j

theorem not_neg (w : BitVec 32) (h : w.toNat < 32768) : IntOp.cmpi .slt w 0#32 = 0#1 := by
  show BitVec.ofBool (BitVec.slt w 0#32) = 0#1
  rw [show BitVec.slt w 0#32 = false by
    rw [Bool.eq_false_iff, ne_eq, BitVec.slt_iff_toInt_lt, BitVec.toInt_eq_toNat_cond]
    simp only [BitVec.toInt_zero]
    split <;> omega]
  rfl

theorem taken (h : ∀ k : Fin 1024, (ids (ix1 k)).toNat < 32768) :
    Host.gather gather_S32768x1024_S1024x1_S1024x1024_1_0_n_n_0_1_11024 T (broadcastInDim S1024x1 ![0] bcast_S1024_S1024x1_0
      (select (cmpi .slt ids (broadcastInDim S1024 ![] bcast_S_S1024 (constantI S_ 32 0#32)))
        (addi ids (broadcastInDim S1024 ![] bcast_S_S1024 (constantI S_ 32 32768#32))) ids)) = mat 1024 0 (picked ids T) := by
  funext i
  have hi : i = ValueIdx.ix2 (i 0) (i 1) := ValueIdx.eq_ix2 i
  generalize i 0 = a at hi
  generalize i 1 = b at hi
  subst hi
  have ha : a.val < 1024 := a.isLt
  have hb : b.val < 1024 := b.isLt
  refine (gather_row _ rfl rfl rfl rfl rfl T _ a b ⟨(ids (ix1 a)).toNat, h a⟩ ?_ (by decide)).trans ?_
  · refine (Idealize.ShloMosaic.Routing.bcCol _ _ a).trans ?_
    show Scalar.select (IntOp.cmpi .slt (ids (ValueIdx.ix1 a)) 0#32) _ (ids (ValueIdx.ix1 a)) = _
    rw [show (ids (ValueIdx.ix1 a)) = ids (ix1 a) from rfl, not_neg _ (h a), BitVec.ofNat_toNat, BitVec.setWidth_eq]
    rfl
  · unfold picked mat
    show T (ValueIdx.ix2 ⟨(ids (ix1 a)).toNat, h a⟩ b) = tab2 (zero (F := Ideal)) 32768 T (tab 0#32 1024 ids (0 + a.val)).toNat b.val
    rw [Nat.zero_add, tab_ix 0#32 1024 ids a.val ha]
    unfold tab2
    rw [dif_pos ⟨h a, hb⟩]
    exact congrArg T (funext fun d => match d with | ⟨0, _⟩ => rfl | ⟨1, _⟩ => rfl)

variable (m : (ℓ : Loc nD τ sig) → Buf (Elt Ideal) ℓ) (g : Dev nD → PrngReg)

abbrev idsOf : IVec S1024 32 := m (((0 : Dev nD).tc : Thread nD τ).loc main_arg0)
abbrev tableOf : FVec Ideal S32768x1024 .f32 := m (((0 : Dev nD).tc : Thread nD τ).loc main_arg1)

/-- The reference ends, with its arguments as they were and the rows that the numbers name. -/
theorem run (h : ∀ k : Fin 1024, (idsOf m (ix1 k)).toNat < 32768) :
    θ_run (defs (F := Ideal)) (onTc (τ := τ) (main (F := Ideal))) ⟨m, fun _ => 0, g⟩ (fun r =>
      r.2.mem (((0 : Dev nD).tc : Thread nD τ).loc main_v6) = (mat 1024 0 (picked (idsOf m) (tableOf m)) : FVec Ideal S1024x1024 .f32)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) := by
  hlo_run
  exact taken (idsOf m) (tableOf m) h

theorem args : θ_run (defs (F := Ideal)) (onTc (τ := τ) (main (F := Ideal))) ⟨m, fun _ => 0, g⟩ (fun r =>
      r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) := by
  hlo_run

theorem frame : Cert.quiescent_ReferenceIdeal := by
  intro m g _
  refine (θ_run defs _ _).mono (fun r h => ⟨fun c => ?_, sem_eq_zero_of_no_sems (by decide) r.2⟩) (args m g)
  obtain rfl : c = 0 := Fin.ext (Nat.lt_one_iff.1 c.isLt)
  exact h

end Cert.Reference

end
-- ==== Proof.Equation.lean ====
/- The equation: the sum over the devices of what each gathers is what the reference picks. -/
module

public import proofs.«01_k».proof.Proof.Reference

@[expose] public section

noncomputable section

namespace Cert.Equation

open Cert.KernelIdeal Cert.Rows Cert.GatherProof
open Cert.HostWords (ids lw hit)
open Cert.Reference (picked idsOf tableOf)
open Idealize.ShloMosaic Idealize.ShloMosaic.TcCoe Idealize.SL.Sem

theorem zero_val : (zero (F := Ideal) : EReal) = 0 := Ideal.ofBits_zero_f32

theorem add_val (x y : Ideal .f32) : (FloatOps.addf x y : Ideal .f32) = (show EReal from x) + (show EReal from y) := rfl

/-- Where one device has the row and the others zeros, the sum is the row, whichever device starts it. -/
theorem one_of (M : Dev nD → ℕ → ℕ → Elt Ideal .f32) (e : Ideal .f32) (o : Dev nD) (t j : ℕ) (h : ∀ c, M c t j = if c = o then e else zero (F := Ideal)) (c : Dev nD) :
    H2x M c t j = e ∧ H2y M c t j = e := by
  simp only [H2x, H2y, H1x, H1y, plus, h, add_val, zero_val]
  clear h
  fin_cases o <;> fin_cases c <;> simp [pa, pb]

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The devices hold the row numbers, and each its rows of the table. -/
def Agree : Prop := ∀ c : Dev nD, m ((c.tc : Thread nD τ).loc main_arg0) = idsOf m'
  ∧ m ((c.tc : Thread nD τ).loc main_arg1) = Layout.block ⟨2, ![8192, 1024]⟩ ⟨2, ![32768, 1024]⟩ 0 4 c (tableOf m')

variable {m m'} (ha : Agree m m') (hr : ∀ k : Fin 1024, (idsOf m' (ix1 k)).toNat < 32768)

include ha

theorem table_at (c : Dev nD) (k j : ℕ) (hk : k < 8192) (hj : j < 1024) :
    tab2 (zero (F := Ideal)) 8192 (m ((c.tc : Thread nD τ).loc main_arg1)) k j = tab2 (zero (F := Ideal)) 32768 (tableOf m') (8192 * c.val + k) j := by
  have hc : c.val < 4 := c.isLt
  rw [(ha c).2]
  unfold tab2
  rw [dif_pos ⟨hk, hj⟩, dif_pos ⟨by omega, hj⟩]
  refine congrArg (tableOf m') (funext fun d => Fin.ext ?_)
  match d with
  | ⟨0, _⟩ => show c.val * 8192 + k = 8192 * c.val + k; omega
  | ⟨1, _⟩ => rfl

include hr

theorem own_at (t j : ℕ) (ht : t < 1024) (hj : j < 1024) : ∃ o : Dev nD, ∀ c, Own m c t j = if c = o then picked (idsOf m') (tableOf m') t j else zero (F := Ideal) := by
  have hw : (tab 0#32 1024 (idsOf m') t).toNat < 32768 := by rw [tab_ix _ _ _ t ht]; exact hr _
  have hlw : ∀ c : Dev nD, (lw m c t).toNat = (tab 0#32 1024 (idsOf m') t - BitVec.ofNat 32 (8192 * c.val)).toNat := fun c => by
    unfold lw ids
    rw [(ha c).1]
    rfl
  unfold picked
  generalize tab 0#32 1024 (idsOf m') t = w at hw hlw
  refine ⟨⟨w.toNat / 8192, by show _ < 4; omega⟩, fun c => ?_⟩
  have hc : c.val < 4 := c.isLt
  have hl := hlw c
  rw [BitVec.toNat_sub, BitVec.toNat_ofNat] at hl
  unfold Own
  by_cases he : c = ⟨w.toNat / 8192, by show _ < 4; omega⟩
  · have hv : c.val = w.toNat / 8192 := congrArg Fin.val he
    rw [if_pos he, if_pos (show hit m c t by unfold hit; omega), table_at ha c _ j (by omega) hj]
    congr 1
    omega
  · have hv : c.val ≠ w.toNat / 8192 := fun h => he (Fin.ext h)
    rw [if_neg he, if_neg (show ¬ hit m c t by unfold hit; omega)]

/-- The result is what the reference picks. -/
theorem result : mat 1024 0 (Fin1 (Own m)) = mat 1024 0 (picked (idsOf m') (tableOf m')) := by
  funext i
  have h0 : (i 0).val < 1024 := (i 0).isLt
  have h1 : (i 1).val < 1024 := (i 1).isLt
  unfold mat
  rw [Nat.zero_add]
  obtain ⟨o, h⟩ := own_at ha hr _ _ h0 h1
  unfold Fin1
  split
  · exact (one_of (Own m) _ o _ _ h _).1
  · exact (one_of (Own m) _ o _ _ h _).2

end Cert.Equation

end
-- ==== Proof.SameParts.lean ====
/- The two printed programs are one program: the parts of the body. -/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch

@[expose] public section

noncomputable section

namespace Cert.Same

open Idealize.ShloMosaic Idealize.SL.Sem

variable {F : FTy → Type} [FloatOps F]

local instance : Cert.Kernel.Facts := Cert.Kernel.Gen.facts
local instance : Cert.KernelIdeal.Facts := Cert.KernelIdeal.Gen.facts

theorem part1 : Cert.Kernel.k0_part1 (F := F) = Cert.KernelIdeal.k0_part1 (F := F) := rfl
theorem part2 : Cert.Kernel.k0_part2 (F := F) = Cert.KernelIdeal.k0_part2 (F := F) := rfl
theorem part3 : Cert.Kernel.k0_part3 (F := F) = Cert.KernelIdeal.k0_part3 (F := F) := rfl
theorem part4 : Cert.Kernel.k0_part4 (F := F) = Cert.KernelIdeal.k0_part4 (F := F) := rfl
theorem part5 : Cert.Kernel.k0_part5 (F := F) = Cert.KernelIdeal.k0_part5 (F := F) := rfl
theorem part6 : Cert.Kernel.k0_part6 (F := F) = Cert.KernelIdeal.k0_part6 (F := F) := rfl
theorem part7 : Cert.Kernel.k0_part7 (F := F) = Cert.KernelIdeal.k0_part7 (F := F) := rfl
theorem part8 : Cert.Kernel.k0_part8 (F := F) = Cert.KernelIdeal.k0_part8 (F := F) := rfl
theorem part9 : Cert.Kernel.k0_part9 (F := F) = Cert.KernelIdeal.k0_part9 (F := F) := rfl
set_option maxHeartbeats 4000000 in
theorem part10 : Cert.Kernel.k0_part10 (F := F) = Cert.KernelIdeal.k0_part10 (F := F) := rfl
theorem part11 : Cert.Kernel.k0_part11 (F := F) = Cert.KernelIdeal.k0_part11 (F := F) := rfl
theorem part12 : Cert.Kernel.k0_part12 (F := F) = Cert.KernelIdeal.k0_part12 (F := F) := rfl
theorem part13 : Cert.Kernel.k0_part13 (F := F) = Cert.KernelIdeal.k0_part13 (F := F) := rfl
theorem part14 : Cert.Kernel.k0_part14 (F := F) = Cert.KernelIdeal.k0_part14 (F := F) := rfl
theorem part15 : Cert.Kernel.k0_part15 (F := F) = Cert.KernelIdeal.k0_part15 (F := F) := rfl
theorem part16 : Cert.Kernel.k0_part16 (F := F) = Cert.KernelIdeal.k0_part16 (F := F) := rfl
theorem part17 : Cert.Kernel.k0_part17 (F := F) = Cert.KernelIdeal.k0_part17 (F := F) := rfl
theorem part18 : Cert.Kernel.k0_part18 (F := F) = Cert.KernelIdeal.k0_part18 (F := F) := rfl
theorem part19 : Cert.Kernel.k0_part19 (F := F) = Cert.KernelIdeal.k0_part19 (F := F) := rfl
theorem part20 : Cert.Kernel.k0_part20 (F := F) = Cert.KernelIdeal.k0_part20 (F := F) := rfl
theorem part21 : Cert.Kernel.k0_part21 (F := F) = Cert.KernelIdeal.k0_part21 (F := F) := rfl
theorem part22 : Cert.Kernel.k0_part22 (F := F) = Cert.KernelIdeal.k0_part22 (F := F) := rfl
theorem part23 : Cert.Kernel.k0_part23 (F := F) = Cert.KernelIdeal.k0_part23 (F := F) := rfl
theorem part24 : Cert.Kernel.k0_part24 (F := F) = Cert.KernelIdeal.k0_part24 (F := F) := rfl
theorem part25 : Cert.Kernel.k0_part25 (F := F) = Cert.KernelIdeal.k0_part25 (F := F) := rfl
theorem part26 : Cert.Kernel.k0_part26 (F := F) = Cert.KernelIdeal.k0_part26 (F := F) := rfl

end Cert.Same
end
-- ==== Proof.Same.lean ====
/- The two printed programs are one program: the body, the table of bodies, the host's operations. -/
module

public import proofs.«01_k».proof.Proof.SameParts

@[expose] public section

set_option maxHeartbeats 4000000

noncomputable section

namespace Cert.Same

open Idealize.ShloMosaic Idealize.SL.Sem

variable {F : FTy → Type} [FloatOps F]

local instance : Cert.Kernel.Facts := Cert.Kernel.Gen.facts
local instance : Cert.KernelIdeal.Facts := Cert.KernelIdeal.Gen.facts

theorem part27 : Cert.Kernel.k0_part27 (F := F) = Cert.KernelIdeal.k0_part27 (F := F) := by
  unfold Cert.Kernel.k0_part27 Cert.KernelIdeal.k0_part27
  simp only [part1, part2, part3, part4, part5, part6, part7, part8, part9, part10, part11, part12, part13, part14, part15, part16, part17, part18, part19, part20, part21, part22, part23, part24, part25, part26]
  rfl

theorem body : Cert.Kernel.cc0__body (F := F) = Cert.KernelIdeal.cc0__body (F := F) := by
  unfold Cert.Kernel.cc0__body Cert.KernelIdeal.cc0__body
  rw [part27]
  rfl

theorem defs₀ : Cert.Kernel.defs₀ (F := F) = Cert.KernelIdeal.defs₀ (F := F) := by
  unfold Cert.Kernel.defs₀ Cert.KernelIdeal.defs₀
  rw [body]
  refine congrArg _ (funext fun l => ?_)
  match l with
  | 0 => rfl

theorem defs : Cert.Kernel.defs (F := F) = Cert.KernelIdeal.defs (F := F) := by
  unfold Cert.Kernel.defs Cert.KernelIdeal.defs
  rw [defs₀]
  rfl

theorem host0 (c : Dev Cert.Kernel.nD) : Cert.Kernel.Gen.hostOps0 (F := F) c = Cert.KernelIdeal.Gen.hostOps0 (F := F) c := rfl
theorem host1 : Cert.Kernel.Gen.hostOps0_1 (F := F) = Cert.KernelIdeal.Gen.hostOps0_1 (F := F) := rfl
theorem host2 : Cert.Kernel.Gen.hostOps0_2 (F := F) = Cert.KernelIdeal.Gen.hostOps0_2 (F := F) := rfl
theorem host3 : Cert.Kernel.Gen.hostOps0_3 (F := F) = Cert.KernelIdeal.Gen.hostOps0_3 (F := F) := rfl
theorem host4 : Cert.Kernel.Gen.hostOps0_4 (F := F) = Cert.KernelIdeal.Gen.hostOps0_4 (F := F) := rfl
theorem host5 : Cert.Kernel.Gen.hostOps0_5 (F := F) = Cert.KernelIdeal.Gen.hostOps0_5 (F := F) := rfl
theorem host6 : Cert.Kernel.Gen.hostOps0_6 (F := F) = Cert.KernelIdeal.Gen.hostOps0_6 (F := F) := rfl
theorem host7 : Cert.Kernel.Gen.hostOps0_7 (F := F) = Cert.KernelIdeal.Gen.hostOps0_7 (F := F) := rfl
theorem host8 : Cert.Kernel.Gen.hostOps0_8 (F := F) = Cert.KernelIdeal.Gen.hostOps0_8 (F := F) := rfl

theorem main : Cert.Kernel.main (F := F) = Cert.KernelIdeal.main (F := F) := by
  funext c
  refine (Cert.Kernel.Gen.main_chain c).trans (Eq.trans ?_ (Cert.KernelIdeal.Gen.main_chain c).symm)
  rw [host0, host1, host2, host3, host4, host5, host6, host7, host8]

end Cert.Same
end
-- ==== Proof.lean ====
/- The claims: each program runs and ends quiet, and the kernel computes what the reference computes. -/
module

public import proofs.«01_k».proof.Defs
public import proofs.«01_k».proof.Proof.Equation
public import proofs.«01_k».proof.Proof.Same

@[expose] public section

noncomputable section

namespace Cert.Proof

open Idealize.ShloMosaic Idealize.ShloMosaic.TcCoe Idealize.SL.Sem
open Cert.GatherProof Cert.Reference Cert.Rows

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_ids_in_range_KernelIdeal.Facts := ⟨by decide⟩
local instance : Cert.Pre_ids_in_range_ReferenceIdeal.Facts := ⟨by decide⟩

/-- The kernel over bit patterns runs and ends quiet: its text is the text that the run is proved of. -/
theorem frame_kernel : Cert.quiescent_Kernel := by
  intro m g _
  rw [Cert.Same.defs, Cert.Same.main]
  exact (θ_run Cert.KernelIdeal.defs _ _).mono (fun _ h => ⟨fun c => ⟨(h.1 c).1, (h.1 c).2.1⟩, h.2⟩)
    (run_main (F := Bits) (Own m) m (good m) g)

/-- The kernel over ideal numbers runs and ends quiet. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (run_main (F := Ideal) (Own m) m (good m) g)

/-- A word that is, as a signed number, from 0 to 32767 is below 32768. -/
theorem in_range (w : BitVec 32) (h : IntOp.andi (IntOp.cmpi .sge w 0#32) (IntOp.cmpi .slt w 32768#32) = 1#1) : w.toNat < 32768 := by
  have e1 : BitVec.sle 0#32 w = decide (w.toNat < 2147483648) := by
    rw [Bool.eq_iff_iff, BitVec.sle_iff_toInt_le, decide_eq_true_iff, BitVec.toInt_eq_toNat_cond, BitVec.toInt_eq_toNat_cond]
    have := w.isLt
    simp only [BitVec.toNat_ofNat]
    split <;> split <;> omega
  have e2 : BitVec.slt w 32768#32 = decide (w.toNat < 32768 ∨ 2147483648 ≤ w.toNat) := by
    rw [Bool.eq_iff_iff, BitVec.slt_iff_toInt_lt, decide_eq_true_iff, BitVec.toInt_eq_toNat_cond, BitVec.toInt_eq_toNat_cond]
    have := w.isLt
    simp only [BitVec.toNat_ofNat]
    split <;> split <;> omega
  have h' : BitVec.ofBool (BitVec.sle 0#32 w) &&& BitVec.ofBool (BitVec.slt w 32768#32) = 1#1 := h
  rw [e1, e2] at h'
  by_contra hn
  by_cases h2 : w.toNat < 2147483648
  · rw [decide_eq_true h2, decide_eq_false (by omega)] at h'
    exact absurd h' (by decide)
  · rw [decide_eq_false h2] at h'
    exact absurd (BitVec.zero_and.symm.trans h') (by decide)

/-- Where every row number names a row of the table, every device ends with the rows the reference picks. -/
theorem value : Cert.algebraic_KernelIdeal_ReferenceIdeal_pre_ids_in_range_KernelIdeal := by
  intro m g m' g' hp ha
  have ha' : Cert.Equation.Agree m m' := ha
  have hr : ∀ k : Fin 1024, (idsOf m' (ix1 k)).toNat < 32768 := fun k => by
    have h0 := congrFun (hp 0) (ix1 k)
    rw [(ha' 0).1] at h0
    exact in_range _ h0
  refine ⟨mat 1024 0 (picked (idsOf m') (tableOf m')), ?_, ?_⟩
  · refine (θ_run Cert.KernelIdeal.defs _ _).mono (fun _ h c => ⟨(h.1 c).2.2.trans (Cert.Equation.result ha' hr), (h.1 c).1, (h.1 c).2.1⟩)
      (run_main (F := Ideal) (Own m) m (good m) g)
  · exact Cert.Reference.run m' g' hr

theorem claim : Cert.Claim :=
  ⟨Cert.Kernel.Gen.facts, Cert.KernelIdeal.Gen.facts, Cert.ReferenceIdeal.Gen.facts, ⟨by decide⟩, ⟨by decide⟩,
    frame_kernel, fun m g _ => frame_ideal m g, fun m g _ => frame_ideal m g, Cert.Reference.frame,
    fun m g _ => Cert.Reference.frame m g trivial, trivial, value⟩

end Cert.Proof

end
